-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_name_rows_KernelIdeal [hPre_ids_name_rows_KernelIdeal : Cert.Pre_ids_name_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_name_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_name_rows_ReferenceIdeal [hPre_ids_name_rows_ReferenceIdeal : Cert.Pre_ids_name_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_name_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_name_rows_KernelIdeal [hKernelIdeal : Cert.KernelIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_name_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_name_rows_ReferenceIdeal [hReferenceIdeal : Cert.ReferenceIdeal.Facts] [hPre_ids_name_rows_ReferenceIdeal : Cert.Pre_ids_name_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_name_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_name_rows_KernelIdeal [hKernelIdeal : Cert.KernelIdeal.Facts] [hReferenceIdeal : Cert.ReferenceIdeal.Facts] [hPre_ids_name_rows_KernelIdeal : Cert.Pre_ids_name_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_name_rows_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 1024]⟩ ⟨2, ![32768, 1024]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_name_rows_KernelIdeal : Cert.Pre_ids_name_rows_KernelIdeal.Facts) (hPre_ids_name_rows_ReferenceIdeal : Cert.Pre_ids_name_rows_ReferenceIdeal.Facts),
    quiescent_Kernel (hKernel := hKernel)
    ∧ quiescent_KernelIdeal (hKernelIdeal := hKernelIdeal)
    ∧ quiescent_KernelIdeal_pre_ids_name_rows_KernelIdeal (hKernelIdeal := hKernelIdeal) (hPre_ids_name_rows_KernelIdeal := hPre_ids_name_rows_KernelIdeal)
    ∧ quiescent_ReferenceIdeal (hReferenceIdeal := hReferenceIdeal)
    ∧ quiescent_ReferenceIdeal_pre_ids_name_rows_ReferenceIdeal (hReferenceIdeal := hReferenceIdeal) (hPre_ids_name_rows_ReferenceIdeal := hPre_ids_name_rows_ReferenceIdeal)
    ∧ preserves_Kernel_KernelIdeal
    ∧ algebraic_KernelIdeal_ReferenceIdeal_pre_ids_name_rows_KernelIdeal (hKernelIdeal := hKernelIdeal) (hReferenceIdeal := hReferenceIdeal) (hPre_ids_name_rows_KernelIdeal := hPre_ids_name_rows_KernelIdeal)
-- ==== Pre_ids_name_rows_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_ids_name_rows_ReferenceIdeal.lean ====
abbrev S1024 : Shape := ⟨1, ![1024]⟩
abbrev S32768x1024 : Shape := ⟨2, ![32768, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S32768x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S_ : Shape := ⟨0, ![]⟩
abbrev S512 : Shape := ⟨1, ![512]⟩
abbrev S512x1 : Shape := ⟨2, ![512, 1]⟩
abbrev S1024x1024 : Shape := ⟨2, ![1024, 1024]⟩
abbrev S512x1024 : Shape := ⟨2, ![512, 1024]⟩
abbrev S3x128x1024 : Shape := ⟨3, ![3, 128, 1024]⟩
abbrev S32 : Shape := ⟨1, ![32]⟩
abbrev S3 : Shape := ⟨1, ![3]⟩
abbrev S4 : Shape := ⟨1, ![4]⟩
abbrev S1 : Shape := ⟨1, ![1]⟩
abbrev S1x1024 : Shape := ⟨2, ![1, 1024]⟩
abbrev S128x1024 : Shape := ⟨2, ![128, 1024]⟩
abbrev S128x1 : Shape := ⟨2, ![128, 1]⟩
abbrev S1x128x1024 : Shape := ⟨3, ![1, 128, 1024]⟩

abbrev nBuf : Space → Nat
  | .hbm => 44
  | .vmem => 7
  | .smem => 1
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .f32⟩
  | .hbm, ⟨42, _⟩ => ⟨S512x1, .f32⟩
  | .hbm, ⟨43, _⟩ => ⟨S1024x1024, .f32⟩
  | .local _ .vmem, ⟨0, _⟩ => ⟨S512x1, .f32⟩
  | .local _ .vmem, ⟨1, _⟩ => ⟨S1024x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x128x1024, .bf16⟩
  | .local _ .smem, ⟨0, _⟩ => ⟨S512, .i32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_9 : Ref sig .tc := ⟨.hbm, 33, rfl⟩
abbrev main_c_10 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_19 : BitVec 32 := 4#32
  let v35 : BitVec 32 := Scalar.muli v30 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_24 : BitVec 32 := 4#32
  let v41 : BitVec 32 := Scalar.muli v19 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_dev3 (d0 : Dev nD) : Nat :=
  let c0_i32_28 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_15 v2
  let c16_i32_27 : BitVec 32 := 16#32
  let v45 : BitVec 32 := Scalar.muli v32 c16_i32_27
  let v46 : BitVec 32 := Scalar.addi c0_i32_28 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 32 := Scalar.muli v8 c1_i32_30
  let v50 : BitVec 32 := Scalar.addi v48 v49
  v50.toNat
@[reducible] def k0_t1_loop : Scf.Loop 32 :=
  let c0_i32_38 : BitVec 32 := 0#32
  let c128_i32_39 : BitVec 32 := 128#32
  let v63 : BitVec 32 := Scalar.addi c0_i32_38 c128_i32_39
  let c1_i32_40 : BitVec 32 := 1#32
  ⟨c0_i32_38, v63, c1_i32_40⟩
def k0_off1 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3071 : BitVec 32 := Scalar.addi v62 arg16
  let v3072 : Index := Scalar.indexCast v3071
  ![v3072.toNat]
def k0_off2 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3071 : BitVec 32 := Scalar.addi v62 arg16
  let c32_i32_1844 : BitVec 32 := 32#32
  let c0_i32_1845 : BitVec 32 := 0#32
  let v3074 : BitVec 1 := Scalar.cmpi .eq c32_i32_1844 c0_i32_1845
  let c1_i32_1846 : BitVec 32 := 1#32
  let v3075 : BitVec 32 := Scalar.select v3074 c1_i32_1846 c32_i32_1844
  let v3076 : BitVec 32 := Scalar.remsi v3071 v3075
  let c0_i32_1848 : BitVec 32 := 0#32
  let v3078 : BitVec 1 := Scalar.cmpi .slt v3076 c0_i32_1848
  let c0_i32_1849 : BitVec 32 := 0#32
  let v3079 : BitVec 1 := Scalar.cmpi .slt v3075 c0_i32_1849
  let v3080 : BitVec 1 := Scalar.xori v3078 v3079
  let c0_i32_1847 : BitVec 32 := 0#32
  let v3077 : BitVec 1 := Scalar.cmpi .ne v3076 c0_i32_1847
  let v3081 : BitVec 1 := Scalar.andi v3080 v3077
  let v3082 : BitVec 32 := Scalar.addi v3076 v3075
  let v3083 : BitVec 32 := Scalar.select v3081 v3082 v3076
  ![v3083.toNat]
def k0_off3 (d0 : Dev nD) (k0_t1 : Fin k0_t1_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3071 : BitVec 32 := Scalar.addi v62 arg16
  let c0_i32_1850 : BitVec 32 := 0#32
  ![v3071.toNat, 0]
def k0_off4 (v3073 : BitVec 32) : Fin 2 → Nat :=
  let c0_i32_1851 : BitVec 32 := 0#32
  ![v3073.toNat, 0]

def k0_chk1 (v3073 : BitVec 32) : Prop :=
  (∀ a, (k0_off4 v3073) a + S1x1024.size a ≤ S8192x1024.size a)
theorem k0_off4_inb : ∀ (v3073 : BitVec 32) (k0_hw1 : k0_chk1 v3073), ∀ a, (k0_off4 v3073) a + S1x1024.size a ≤ S8192x1024.size a := fun v3073 k0_hw1 => k0_hw1

def k0_cond1 (k0_t1 : Fin k0_t1_loop.trips) : BitVec 1 :=
  let c0_i32_38 : BitVec 32 := 0#32
  let c1_i32_40 : BitVec 32 := 1#32
  let arg16 : BitVec 32 := Scf.iv c0_i32_38 c1_i32_40 k0_t1
  let c32_i32_1852 : BitVec 32 := 32#32
  let v3088 : BitVec 1 := Scalar.cmpi .sge arg16 c32_i32_1852
  let v3089 : BitVec 32 := Scalar.extui v3088
  let c0_i32_1853 : BitVec 32 := 0#32
  let v3090 : BitVec 1 := Scalar.cmpi .ne v3089 c0_i32_1853
  v3090

def k0_off5 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3091 : BitVec 32 := Scalar.addi v62 arg16
  let c32_i32_1854 : BitVec 32 := 32#32
  let v3092 : BitVec 32 := Scalar.subi v3091 c32_i32_1854
  let v3093 : Index := Scalar.indexCast v3092
  ![v3093.toNat]
def k0_off6 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3091 : BitVec 32 := Scalar.addi v62 arg16
  let c32_i32_1854 : BitVec 32 := 32#32
  let v3092 : BitVec 32 := Scalar.subi v3091 c32_i32_1854
  let c32_i32_1855 : BitVec 32 := 32#32
  let c0_i32_1856 : BitVec 32 := 0#32
  let v3095 : BitVec 1 := Scalar.cmpi .eq c32_i32_1855 c0_i32_1856
  let c1_i32_1857 : BitVec 32 := 1#32
  let v3096 : BitVec 32 := Scalar.select v3095 c1_i32_1857 c32_i32_1855
  let v3097 : BitVec 32 := Scalar.remsi v3092 v3096
  let c0_i32_1859 : BitVec 32 := 0#32
  let v3099 : BitVec 1 := Scalar.cmpi .slt v3097 c0_i32_1859
  let c0_i32_1860 : BitVec 32 := 0#32
  let v3100 : BitVec 1 := Scalar.cmpi .slt v3096 c0_i32_1860
  let v3101 : BitVec 1 := Scalar.xori v3099 v3100
  let c0_i32_1858 : BitVec 32 := 0#32
  let v3098 : BitVec 1 := Scalar.cmpi .ne v3097 c0_i32_1858
  let v3102 : BitVec 1 := Scalar.andi v3101 v3098
  let v3103 : BitVec 32 := Scalar.addi v3097 v3096
  let v3104 : BitVec 32 := Scalar.select v3102 v3103 v3097
  ![v3104.toNat]
def k0_off7 (d0 : Dev nD) (k0_t1 : Fin k0_t1_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c0_i32_38 : BitVec 32 := 0#32
  let c1_i32_40 : BitVec 32 := 1#32
  let arg16 : BitVec 32 := Scf.iv c0_i32_38 c1_i32_40 k0_t1
  let v3091 : BitVec 32 := Scalar.addi v62 arg16
  let c32_i32_1854 : BitVec 32 := 32#32
  let v3092 : BitVec 32 := Scalar.subi v3091 c32_i32_1854
  let c0_i32_1861 : BitVec 32 := 0#32
  ![v3092.toNat, 0]
def k0_off8 (v3094 : BitVec 32) : Fin 2 → Nat :=
  let c0_i32_1862 : BitVec 32 := 0#32
  ![v3094.toNat, 0]

def k0_chk2 (k0_t1 : Fin k0_t1_loop.trips) (v3094 : BitVec 32) : Prop :=
  (∀ (k0_h1 : k0_cond1 k0_t1 = 1#1), ∀ a, (k0_off8 v3094) a + S1x1024.size a ≤ S8192x1024.size a)
theorem k0_off8_inb : ∀ (k0_t1 : Fin k0_t1_loop.trips) (v3094 : BitVec 32) (k0_hw2 : k0_chk2 k0_t1 v3094), ∀ (k0_h1 : k0_cond1 k0_t1 = 1#1), ∀ a, (k0_off8 v3094) a + S1x1024.size a ≤ S8192x1024.size a := fun k0_t1 v3094 k0_hw2 k0_h1 => k0_hw2 k0_h1

def k0_off9 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_42 : BitVec 32 := 128#32
  let v64 : BitVec 32 := Scalar.addi v62 c128_i32_42
  let c32_i32 : BitVec 32 := 32#32
  let v65 : BitVec 32 := Scalar.subi v64 c32_i32
  let c0_i32_43 : BitVec 32 := 0#32
  let v66 : BitVec 32 := Scalar.addi v65 c0_i32_43
  let v67 : Index := Scalar.indexCast v66
  ![v67.toNat]
def k0_off10 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_42 : BitVec 32 := 128#32
  let v64 : BitVec 32 := Scalar.addi v62 c128_i32_42
  let c32_i32 : BitVec 32 := 32#32
  let v65 : BitVec 32 := Scalar.subi v64 c32_i32
  let c0_i32_43 : BitVec 32 := 0#32
  let v66 : BitVec 32 := Scalar.addi v65 c0_i32_43
  let c32_i32_44 : BitVec 32 := 32#32
  let c0_i32_45 : BitVec 32 := 0#32
  let v69 : BitVec 1 := Scalar.cmpi .eq c32_i32_44 c0_i32_45
  let c1_i32_46 : BitVec 32 := 1#32
  let v70 : BitVec 32 := Scalar.select v69 c1_i32_46 c32_i32_44
  let v71 : BitVec 32 := Scalar.remsi v66 v70
  let c0_i32_48 : BitVec 32 := 0#32
  let v73 : BitVec 1 := Scalar.cmpi .slt v71 c0_i32_48
  let c0_i32_49 : BitVec 32 := 0#32
  let v74 : BitVec 1 := Scalar.cmpi .slt v70 c0_i32_49
  let v75 : BitVec 1 := Scalar.xori v73 v74
  let c0_i32_47 : BitVec 32 := 0#32
  let v72 : BitVec 1 := Scalar.cmpi .ne v71 c0_i32_47
  let v76 : BitVec 1 := Scalar.andi v75 v72
  let v77 : BitVec 32 := Scalar.addi v71 v70
  let v78 : BitVec 32 := Scalar.select v76 v77 v71
  ![v78.toNat]
def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_42 : BitVec 32 := 128#32
  let v64 : BitVec 32 := Scalar.addi v62 c128_i32_42
  let c32_i32 : BitVec 32 := 32#32
  let v65 : BitVec 32 := Scalar.subi v64 c32_i32
  let c0_i32_43 : BitVec 32 := 0#32
  let v66 : BitVec 32 := Scalar.addi v65 c0_i32_43
  let c0_i32_50 : BitVec 32 := 0#32
  ![v66.toNat, 0]
def k0_off12 (v68 : BitVec 32) : Fin 2 → Nat :=
  let c0_i32_51 : BitVec 32 := 0#32
  ![v68.toNat, 0]

def k0_chk3 (v68 : BitVec 32) : Prop :=
  (∀ a, (k0_off12 v68) a + S1x1024.size a ≤ S8192x1024.size a)
theorem k0_off12_inb : ∀ (v68 : BitVec 32) (k0_hw3 : k0_chk3 v68), ∀ a, (k0_off12 v68) a + S1x1024.size a ≤ S8192x1024.size a := fun v68 k0_hw3 => k0_hw3

def k0_off13 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_52 : BitVec 32 := 128#32
  let v83 : BitVec 32 := Scalar.addi v62 c128_i32_52
  let c32_i32_53 : BitVec 32 := 32#32
  let v84 : BitVec 32 := Scalar.subi v83 c32_i32_53
  let c1_i32_54 : BitVec 32 := 1#32
  let v85 : BitVec 32 := Scalar.addi v84 c1_i32_54
  let v86 : Index := Scalar.indexCast v85
  ![v86.toNat]
def k0_off14 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_52 : BitVec 32 := 128#32
  let v83 : BitVec 32 := Scalar.addi v62 c128_i32_52
  let c32_i32_53 : BitVec 32 := 32#32
  let v84 : BitVec 32 := Scalar.subi v83 c32_i32_53
  let c1_i32_54 : BitVec 32 := 1#32
  let v85 : BitVec 32 := Scalar.addi v84 c1_i32_54
  let c32_i32_55 : BitVec 32 := 32#32
  let c0_i32_56 : BitVec 32 := 0#32
  let v88 : BitVec 1 := Scalar.cmpi .eq c32_i32_55 c0_i32_56
  let c1_i32_57 : BitVec 32 := 1#32
  let v89 : BitVec 32 := Scalar.select v88 c1_i32_57 c32_i32_55
  let v90 : BitVec 32 := Scalar.remsi v85 v89
  let c0_i32_59 : BitVec 32 := 0#32
  let v92 : BitVec 1 := Scalar.cmpi .slt v90 c0_i32_59
  let c0_i32_60 : BitVec 32 := 0#32
  let v93 : BitVec 1 := Scalar.cmpi .slt v89 c0_i32_60
  let v94 : BitVec 1 := Scalar.xori v92 v93
  let c0_i32_58 : BitVec 32 := 0#32
  let v91 : BitVec 1 := Scalar.cmpi .ne v90 c0_i32_58
  let v95 : BitVec 1 := Scalar.andi v94 v91
  let v96 : BitVec 32 := Scalar.addi v90 v89
  let v97 : BitVec 32 := Scalar.select v95 v96 v90
  ![v97.toNat]
def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_52 : BitVec 32 := 128#32
  let v83 : BitVec 32 := Scalar.addi v62 c128_i32_52
  let c32_i32_53 : BitVec 32 := 32#32
  let v84 : BitVec 32 := Scalar.subi v83 c32_i32_53
  let c1_i32_54 : BitVec 32 := 1#32
  let v85 : BitVec 32 := Scalar.addi v84 c1_i32_54
  let c0_i32_61 : BitVec 32 := 0#32
  ![v85.toNat, 0]
def k0_off16 (v87 : BitVec 32) : Fin 2 → Nat :=
  let c0_i32_62 : BitVec 32 := 0#32
  ![v87.toNat, 0]

def k0_chk4 (v87 : BitVec 32) : Prop :=
  (∀ a, (k0_off16 v87) a + S1x1024.size a ≤ S8192x1024.size a)
theorem k0_off16_inb : ∀ (v87 : BitVec 32) (k0_hw4 : k0_chk4 v87), ∀ a, (k0_off16 v87) a + S1x1024.size a ≤ S8192x1024.size a := fun v87 k0_hw4 => k0_hw4

def k0_off17 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_63 : BitVec 32 := 128#32
  let v102 : BitVec 32 := Scalar.addi v62 c128_i32_63
  let c32_i32_64 : BitVec 32 := 32#32
  let v103 : BitVec 32 := Scalar.subi v102 c32_i32_64
  let c2_i32_65 : BitVec 32 := 2#32
  let v104 : BitVec 32 := Scalar.addi v103 c2_i32_65
  let v105 : Index := Scalar.indexCast v104
  ![v105.toNat]
def k0_off18 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_63 : BitVec 32 := 128#32
  let v102 : BitVec 32 := Scalar.addi v62 c128_i32_63
  let c32_i32_64 : BitVec 32 := 32#32
  let v103 : BitVec 32 := Scalar.subi v102 c32_i32_64
  let c2_i32_65 : BitVec 32 := 2#32
  let v104 : BitVec 32 := Scalar.addi v103 c2_i32_65
  let c32_i32_66 : BitVec 32 := 32#32
  let c0_i32_67 : BitVec 32 := 0#32
  let v107 : BitVec 1 := Scalar.cmpi .eq c32_i32_66 c0_i32_67
  let c1_i32_68 : BitVec 32 := 1#32
  let v108 : BitVec 32 := Scalar.select v107 c1_i32_68 c32_i32_66
  let v109 : BitVec 32 := Scalar.remsi v104 v108
  let c0_i32_70 : BitVec 32 := 0#32
  let v111 : BitVec 1 := Scalar.cmpi .slt v109 c0_i32_70
  let c0_i32_71 : BitVec 32 := 0#32
  let v112 : BitVec 1 := Scalar.cmpi .slt v108 c0_i32_71
  let v113 : BitVec 1 := Scalar.xori v111 v112
  let c0_i32_69 : BitVec 32 := 0#32
  let v110 : BitVec 1 := Scalar.cmpi .ne v109 c0_i32_69
  let v114 : BitVec 1 := Scalar.andi v113 v110
  let v115 : BitVec 32 := Scalar.addi v109 v108
  let v116 : BitVec 32 := Scalar.select v114 v115 v109
  ![v116.toNat]
def k0_off19 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_63 : BitVec 32 := 128#32
  let v102 : BitVec 32 := Scalar.addi v62 c128_i32_63
  let c32_i32_64 : BitVec 32 := 32#32
  let v103 : BitVec 32 := Scalar.subi v102 c32_i32_64
  let c2_i32_65 : BitVec 32 := 2#32
  let v104 : BitVec 32 := Scalar.addi v103 c2_i32_65
  let c0_i32_72 : BitVec 32 := 0#32
  ![v104.toNat, 0]
def k0_off20 (v106 : BitVec 32) : Fin 2 → Nat :=
  let c0_i32_73 : BitVec 32 := 0#32
  ![v106.toNat, 0]

def k0_chk5 (v106 : BitVec 32) : Prop :=
  (∀ a, (k0_off20 v106) a + S1x1024.size a ≤ S8192x1024.size a)
theorem k0_off20_inb : ∀ (v106 : BitVec 32) (k0_hw5 : k0_chk5 v106), ∀ a, (k0_off20 v106) a + S1x1024.size a ≤ S8192x1024.size a := fun v106 k0_hw5 => k0_hw5

def k0_off21 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_74 : BitVec 32 := 128#32
  let v121 : BitVec 32 := Scalar.addi v62 c128_i32_74
  let c32_i32_75 : BitVec 32 := 32#32
  let v122 : BitVec 32 := Scalar.subi v121 c32_i32_75
  let c3_i32_76 : BitVec 32 := 3#32
  let v123 : BitVec 32 := Scalar.addi v122 c3_i32_76
  let v124 : Index := Scalar.indexCast v123
  ![v124.toNat]
def k0_off22 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_74 : BitVec 32 := 128#32
  let v121 : BitVec 32 := Scalar.addi v62 c128_i32_74
  let c32_i32_75 : BitVec 32 := 32#32
  let v122 : BitVec 32 := Scalar.subi v121 c32_i32_75
  let c3_i32_76 : BitVec 32 := 3#32
  let v123 : BitVec 32 := Scalar.addi v122 c3_i32_76
  let c32_i32_77 : BitVec 32 := 32#32
  let c0_i32_78 : BitVec 32 := 0#32
  let v126 : BitVec 1 := Scalar.cmpi .eq c32_i32_77 c0_i32_78
  let c1_i32_79 : BitVec 32 := 1#32
  let v127 : BitVec 32 := Scalar.select v126 c1_i32_79 c32_i32_77
  let v128 : BitVec 32 := Scalar.remsi v123 v127
  let c0_i32_81 : BitVec 32 := 0#32
  let v130 : BitVec 1 := Scalar.cmpi .slt v128 c0_i32_81
  let c0_i32_82 : BitVec 32 := 0#32
  let v131 : BitVec 1 := Scalar.cmpi .slt v127 c0_i32_82
  let v132 : BitVec 1 := Scalar.xori v130 v131
  let c0_i32_80 : BitVec 32 := 0#32
  let v129 : BitVec 1 := Scalar.cmpi .ne v128 c0_i32_80
  let v133 : BitVec 1 := Scalar.andi v132 v129
  let v134 : BitVec 32 := Scalar.addi v128 v127
  let v135 : BitVec 32 := Scalar.select v133 v134 v128
  ![v135.toNat]
def k0_off23 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_74 : BitVec 32 := 128#32
  let v121 : BitVec 32 := Scalar.addi v62 c128_i32_74
  let c32_i32_75 : BitVec 32 := 32#32
  let v122 : BitVec 32 := Scalar.subi v121 c32_i32_75
  let c3_i32_76 : BitVec 32 := 3#32
  let v123 : BitVec 32 := Scalar.addi v122 c3_i32_76
  let c0_i32_83 : BitVec 32 := 0#32
  ![v123.toNat, 0]
def k0_off24 (v125 : BitVec 32) : Fin 2 → Nat :=
  let c0_i32_84 : BitVec 32 := 0#32
  ![v125.toNat, 0]

def k0_chk6 (v125 : BitVec 32) : Prop :=
  (∀ a, (k0_off24 v125) a + S1x1024.size a ≤ S8192x1024.size a)
theorem k0_off24_inb : ∀ (v125 : BitVec 32) (k0_hw6 : k0_chk6 v125), ∀ a, (k0_off24 v125) a + S1x1024.size a ≤ S8192x1024.size a := fun v125 k0_hw6 => k0_hw6

def k0_off25 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_85 : BitVec 32 := 128#32
  let v140 : BitVec 32 := Scalar.addi v62 c128_i32_85
  let c32_i32_86 : BitVec 32 := 32#32
  let v141 : BitVec 32 := Scalar.subi v140 c32_i32_86
  let c4_i32_87 : BitVec 32 := 4#32
  let v142 : BitVec 32 := Scalar.addi v141 c4_i32_87
  let v143 : Index := Scalar.indexCast v142
  ![v143.toNat]
def k0_off26 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_85 : BitVec 32 := 128#32
  let v140 : BitVec 32 := Scalar.addi v62 c128_i32_85
  let c32_i32_86 : BitVec 32 := 32#32
  let v141 : BitVec 32 := Scalar.subi v140 c32_i32_86
  let c4_i32_87 : BitVec 32 := 4#32
  let v142 : BitVec 32 := Scalar.addi v141 c4_i32_87
  let c32_i32_88 : BitVec 32 := 32#32
  let c0_i32_89 : BitVec 32 := 0#32
  let v145 : BitVec 1 := Scalar.cmpi .eq c32_i32_88 c0_i32_89
  let c1_i32_90 : BitVec 32 := 1#32
  let v146 : BitVec 32 := Scalar.select v145 c1_i32_90 c32_i32_88
  let v147 : BitVec 32 := Scalar.remsi v142 v146
  let c0_i32_92 : BitVec 32 := 0#32
  let v149 : BitVec 1 := Scalar.cmpi .slt v147 c0_i32_92
  let c0_i32_93 : BitVec 32 := 0#32
  let v150 : BitVec 1 := Scalar.cmpi .slt v146 c0_i32_93
  let v151 : BitVec 1 := Scalar.xori v149 v150
  let c0_i32_91 : BitVec 32 := 0#32
  let v148 : BitVec 1 := Scalar.cmpi .ne v147 c0_i32_91
  let v152 : BitVec 1 := Scalar.andi v151 v148
  let v153 : BitVec 32 := Scalar.addi v147 v146
  let v154 : BitVec 32 := Scalar.select v152 v153 v147
  ![v154.toNat]
def k0_off27 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_85 : BitVec 32 := 128#32
  let v140 : BitVec 32 := Scalar.addi v62 c128_i32_85
  let c32_i32_86 : BitVec 32 := 32#32
  let v141 : BitVec 32 := Scalar.subi v140 c32_i32_86
  let c4_i32_87 : BitVec 32 := 4#32
  let v142 : BitVec 32 := Scalar.addi v141 c4_i32_87
  let c0_i32_94 : BitVec 32 := 0#32
  ![v142.toNat, 0]
def k0_off28 (v144 : BitVec 32) : Fin 2 → Nat :=
  let c0_i32_95 : BitVec 32 := 0#32
  ![v144.toNat, 0]

def k0_chk7 (v144 : BitVec 32) : Prop :=
  (∀ a, (k0_off28 v144) a + S1x1024.size a ≤ S8192x1024.size a)
theorem k0_off28_inb : ∀ (v144 : BitVec 32) (k0_hw7 : k0_chk7 v144), ∀ a, (k0_off28 v144) a + S1x1024.size a ≤ S8192x1024.size a := fun v144 k0_hw7 => k0_hw7

def k0_off29 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_96 : BitVec 32 := 128#32
  let v159 : BitVec 32 := Scalar.addi v62 c128_i32_96
  let c32_i32_97 : BitVec 32 := 32#32
  let v160 : BitVec 32 := Scalar.subi v159 c32_i32_97
  let c5_i32 : BitVec 32 := 5#32
  let v161 : BitVec 32 := Scalar.addi v160 c5_i32
  let v162 : Index := Scalar.indexCast v161
  ![v162.toNat]
def k0_off30 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_96 : BitVec 32 := 128#32
  let v159 : BitVec 32 := Scalar.addi v62 c128_i32_96
  let c32_i32_97 : BitVec 32 := 32#32
  let v160 : BitVec 32 := Scalar.subi v159 c32_i32_97
  let c5_i32 : BitVec 32 := 5#32
  let v161 : BitVec 32 := Scalar.addi v160 c5_i32
  let c32_i32_98 : BitVec 32 := 32#32
  let c0_i32_99 : BitVec 32 := 0#32
  let v164 : BitVec 1 := Scalar.cmpi .eq c32_i32_98 c0_i32_99
  let c1_i32_100 : BitVec 32 := 1#32
  let v165 : BitVec 32 := Scalar.select v164 c1_i32_100 c32_i32_98
  let v166 : BitVec 32 := Scalar.remsi v161 v165
  let c0_i32_102 : BitVec 32 := 0#32
  let v168 : BitVec 1 := Scalar.cmpi .slt v166 c0_i32_102
  let c0_i32_103 : BitVec 32 := 0#32
  let v169 : BitVec 1 := Scalar.cmpi .slt v165 c0_i32_103
  let v170 : BitVec 1 := Scalar.xori v168 v169
  let c0_i32_101 : BitVec 32 := 0#32
  let v167 : BitVec 1 := Scalar.cmpi .ne v166 c0_i32_101
  let v171 : BitVec 1 := Scalar.andi v170 v167
  let v172 : BitVec 32 := Scalar.addi v166 v165
  let v173 : BitVec 32 := Scalar.select v171 v172 v166
  ![v173.toNat]
def k0_off31 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_96 : BitVec 32 := 128#32
  let v159 : BitVec 32 := Scalar.addi v62 c128_i32_96
  let c32_i32_97 : BitVec 32 := 32#32
  let v160 : BitVec 32 := Scalar.subi v159 c32_i32_97
  let c5_i32 : BitVec 32 := 5#32
  let v161 : BitVec 32 := Scalar.addi v160 c5_i32
  let c0_i32_104 : BitVec 32 := 0#32
  ![v161.toNat, 0]
def k0_off32 (v163 : BitVec 32) : Fin 2 → Nat :=
  let c0_i32_105 : BitVec 32 := 0#32
  ![v163.toNat, 0]

def k0_chk8 (v163 : BitVec 32) : Prop :=
  (∀ a, (k0_off32 v163) a + S1x1024.size a ≤ S8192x1024.size a)
theorem k0_off32_inb : ∀ (v163 : BitVec 32) (k0_hw8 : k0_chk8 v163), ∀ a, (k0_off32 v163) a + S1x1024.size a ≤ S8192x1024.size a := fun v163 k0_hw8 => k0_hw8

def k0_off33 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_106 : BitVec 32 := 128#32
  let v178 : BitVec 32 := Scalar.addi v62 c128_i32_106
  let c32_i32_107 : BitVec 32 := 32#32
  let v179 : BitVec 32 := Scalar.subi v178 c32_i32_107
  let c6_i32 : BitVec 32 := 6#32
  let v180 : BitVec 32 := Scalar.addi v179 c6_i32
  let v181 : Index := Scalar.indexCast v180
  ![v181.toNat]
def k0_off34 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_106 : BitVec 32 := 128#32
  let v178 : BitVec 32 := Scalar.addi v62 c128_i32_106
  let c32_i32_107 : BitVec 32 := 32#32
  let v179 : BitVec 32 := Scalar.subi v178 c32_i32_107
  let c6_i32 : BitVec 32 := 6#32
  let v180 : BitVec 32 := Scalar.addi v179 c6_i32
  let c32_i32_108 : BitVec 32 := 32#32
  let c0_i32_109 : BitVec 32 := 0#32
  let v183 : BitVec 1 := Scalar.cmpi .eq c32_i32_108 c0_i32_109
  let c1_i32_110 : BitVec 32 := 1#32
  let v184 : BitVec 32 := Scalar.select v183 c1_i32_110 c32_i32_108
  let v185 : BitVec 32 := Scalar.remsi v180 v184
  let c0_i32_112 : BitVec 32 := 0#32
  let v187 : BitVec 1 := Scalar.cmpi .slt v185 c0_i32_112
  let c0_i32_113 : BitVec 32 := 0#32
  let v188 : BitVec 1 := Scalar.cmpi .slt v184 c0_i32_113
  let v189 : BitVec 1 := Scalar.xori v187 v188
  let c0_i32_111 : BitVec 32 := 0#32
  let v186 : BitVec 1 := Scalar.cmpi .ne v185 c0_i32_111
  let v190 : BitVec 1 := Scalar.andi v189 v186
  let v191 : BitVec 32 := Scalar.addi v185 v184
  let v192 : BitVec 32 := Scalar.select v190 v191 v185
  ![v192.toNat]
def k0_off35 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_106 : BitVec 32 := 128#32
  let v178 : BitVec 32 := Scalar.addi v62 c128_i32_106
  let c32_i32_107 : BitVec 32 := 32#32
  let v179 : BitVec 32 := Scalar.subi v178 c32_i32_107
  let c6_i32 : BitVec 32 := 6#32
  let v180 : BitVec 32 := Scalar.addi v179 c6_i32
  let c0_i32_114 : BitVec 32 := 0#32
  ![v180.toNat, 0]
def k0_off36 (v182 : BitVec 32) : Fin 2 → Nat :=
  let c0_i32_115 : BitVec 32 := 0#32
  ![v182.toNat, 0]

def k0_chk9 (v182 : BitVec 32) : Prop :=
  (∀ a, (k0_off36 v182) a + S1x1024.size a ≤ S8192x1024.size a)
theorem k0_off36_inb : ∀ (v182 : BitVec 32) (k0_hw9 : k0_chk9 v182), ∀ a, (k0_off36 v182) a + S1x1024.size a ≤ S8192x1024.size a := fun v182 k0_hw9 => k0_hw9

def k0_off37 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_116 : BitVec 32 := 128#32
  let v197 : BitVec 32 := Scalar.addi v62 c128_i32_116
  let c32_i32_117 : BitVec 32 := 32#32
  let v198 : BitVec 32 := Scalar.subi v197 c32_i32_117
  let c7_i32 : BitVec 32 := 7#32
  let v199 : BitVec 32 := Scalar.addi v198 c7_i32
  let v200 : Index := Scalar.indexCast v199
  ![v200.toNat]
def k0_off38 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_116 : BitVec 32 := 128#32
  let v197 : BitVec 32 := Scalar.addi v62 c128_i32_116
  let c32_i32_117 : BitVec 32 := 32#32
  let v198 : BitVec 32 := Scalar.subi v197 c32_i32_117
  let c7_i32 : BitVec 32 := 7#32
  let v199 : BitVec 32 := Scalar.addi v198 c7_i32
  let c32_i32_118 : BitVec 32 := 32#32
  let c0_i32_119 : BitVec 32 := 0#32
  let v202 : BitVec 1 := Scalar.cmpi .eq c32_i32_118 c0_i32_119
  let c1_i32_120 : BitVec 32 := 1#32
  let v203 : BitVec 32 := Scalar.select v202 c1_i32_120 c32_i32_118
  let v204 : BitVec 32 := Scalar.remsi v199 v203
  let c0_i32_122 : BitVec 32 := 0#32
  let v206 : BitVec 1 := Scalar.cmpi .slt v204 c0_i32_122
  let c0_i32_123 : BitVec 32 := 0#32
  let v207 : BitVec 1 := Scalar.cmpi .slt v203 c0_i32_123
  let v208 : BitVec 1 := Scalar.xori v206 v207
  let c0_i32_121 : BitVec 32 := 0#32
  let v205 : BitVec 1 := Scalar.cmpi .ne v204 c0_i32_121
  let v209 : BitVec 1 := Scalar.andi v208 v205
  let v210 : BitVec 32 := Scalar.addi v204 v203
  let v211 : BitVec 32 := Scalar.select v209 v210 v204
  ![v211.toNat]
def k0_off39 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_116 : BitVec 32 := 128#32
  let v197 : BitVec 32 := Scalar.addi v62 c128_i32_116
  let c32_i32_117 : BitVec 32 := 32#32
  let v198 : BitVec 32 := Scalar.subi v197 c32_i32_117
  let c7_i32 : BitVec 32 := 7#32
  let v199 : BitVec 32 := Scalar.addi v198 c7_i32
  let c0_i32_124 : BitVec 32 := 0#32
  ![v199.toNat, 0]
def k0_off40 (v201 : BitVec 32) : Fin 2 → Nat :=
  let c0_i32_125 : BitVec 32 := 0#32
  ![v201.toNat, 0]

def k0_chk10 (v201 : BitVec 32) : Prop :=
  (∀ a, (k0_off40 v201) a + S1x1024.size a ≤ S8192x1024.size a)
theorem k0_off40_inb : ∀ (v201 : BitVec 32) (k0_hw10 : k0_chk10 v201), ∀ a, (k0_off40 v201) a + S1x1024.size a ≤ S8192x1024.size a := fun v201 k0_hw10 => k0_hw10

def k0_off41 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_126 : BitVec 32 := 128#32
  let v216 : BitVec 32 := Scalar.addi v62 c128_i32_126
  let c32_i32_127 : BitVec 32 := 32#32
  let v217 : BitVec 32 := Scalar.subi v216 c32_i32_127
  let c8_i32 : BitVec 32 := 8#32
  let v218 : BitVec 32 := Scalar.addi v217 c8_i32
  let v219 : Index := Scalar.indexCast v218
  ![v219.toNat]
def k0_off42 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_126 : BitVec 32 := 128#32
  let v216 : BitVec 32 := Scalar.addi v62 c128_i32_126
  let c32_i32_127 : BitVec 32 := 32#32
  let v217 : BitVec 32 := Scalar.subi v216 c32_i32_127
  let c8_i32 : BitVec 32 := 8#32
  let v218 : BitVec 32 := Scalar.addi v217 c8_i32
  let c32_i32_128 : BitVec 32 := 32#32
  let c0_i32_129 : BitVec 32 := 0#32
  let v221 : BitVec 1 := Scalar.cmpi .eq c32_i32_128 c0_i32_129
  let c1_i32_130 : BitVec 32 := 1#32
  let v222 : BitVec 32 := Scalar.select v221 c1_i32_130 c32_i32_128
  let v223 : BitVec 32 := Scalar.remsi v218 v222
  let c0_i32_132 : BitVec 32 := 0#32
  let v225 : BitVec 1 := Scalar.cmpi .slt v223 c0_i32_132
  let c0_i32_133 : BitVec 32 := 0#32
  let v226 : BitVec 1 := Scalar.cmpi .slt v222 c0_i32_133
  let v227 : BitVec 1 := Scalar.xori v225 v226
  let c0_i32_131 : BitVec 32 := 0#32
  let v224 : BitVec 1 := Scalar.cmpi .ne v223 c0_i32_131
  let v228 : BitVec 1 := Scalar.andi v227 v224
  let v229 : BitVec 32 := Scalar.addi v223 v222
  let v230 : BitVec 32 := Scalar.select v228 v229 v223
  ![v230.toNat]
def k0_off43 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_126 : BitVec 32 := 128#32
  let v216 : BitVec 32 := Scalar.addi v62 c128_i32_126
  let c32_i32_127 : BitVec 32 := 32#32
  let v217 : BitVec 32 := Scalar.subi v216 c32_i32_127
  let c8_i32 : BitVec 32 := 8#32
  let v218 : BitVec 32 := Scalar.addi v217 c8_i32
  let c0_i32_134 : BitVec 32 := 0#32
  ![v218.toNat, 0]
def k0_off44 (v220 : BitVec 32) : Fin 2 → Nat :=
  let c0_i32_135 : BitVec 32 := 0#32
  ![v220.toNat, 0]

def k0_chk11 (v220 : BitVec 32) : Prop :=
  (∀ a, (k0_off44 v220) a + S1x1024.size a ≤ S8192x1024.size a)
theorem k0_off44_inb : ∀ (v220 : BitVec 32) (k0_hw11 : k0_chk11 v220), ∀ a, (k0_off44 v220) a + S1x1024.size a ≤ S8192x1024.size a := fun v220 k0_hw11 => k0_hw11

def k0_off45 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_136 : BitVec 32 := 128#32
  let v235 : BitVec 32 := Scalar.addi v62 c128_i32_136
  let c32_i32_137 : BitVec 32 := 32#32
  let v236 : BitVec 32 := Scalar.subi v235 c32_i32_137
  let c9_i32 : BitVec 32 := 9#32
  let v237 : BitVec 32 := Scalar.addi v236 c9_i32
  let v238 : Index := Scalar.indexCast v237
  ![v238.toNat]
def k0_off46 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_136 : BitVec 32 := 128#32
  let v235 : BitVec 32 := Scalar.addi v62 c128_i32_136
  let c32_i32_137 : BitVec 32 := 32#32
  let v236 : BitVec 32 := Scalar.subi v235 c32_i32_137
  let c9_i32 : BitVec 32 := 9#32
  let v237 : BitVec 32 := Scalar.addi v236 c9_i32
  let c32_i32_138 : BitVec 32 := 32#32
  let c0_i32_139 : BitVec 32 := 0#32
  let v240 : BitVec 1 := Scalar.cmpi .eq c32_i32_138 c0_i32_139
  let c1_i32_140 : BitVec 32 := 1#32
  let v241 : BitVec 32 := Scalar.select v240 c1_i32_140 c32_i32_138
  let v242 : BitVec 32 := Scalar.remsi v237 v241
  let c0_i32_142 : BitVec 32 := 0#32
  let v244 : BitVec 1 := Scalar.cmpi .slt v242 c0_i32_142
  let c0_i32_143 : BitVec 32 := 0#32
  let v245 : BitVec 1 := Scalar.cmpi .slt v241 c0_i32_143
  let v246 : BitVec 1 := Scalar.xori v244 v245
  let c0_i32_141 : BitVec 32 := 0#32
  let v243 : BitVec 1 := Scalar.cmpi .ne v242 c0_i32_141
  let v247 : BitVec 1 := Scalar.andi v246 v243
  let v248 : BitVec 32 := Scalar.addi v242 v241
  let v249 : BitVec 32 := Scalar.select v247 v248 v242
  ![v249.toNat]
def k0_off47 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_136 : BitVec 32 := 128#32
  let v235 : BitVec 32 := Scalar.addi v62 c128_i32_136
  let c32_i32_137 : BitVec 32 := 32#32
  let v236 : BitVec 32 := Scalar.subi v235 c32_i32_137
  let c9_i32 : BitVec 32 := 9#32
  let v237 : BitVec 32 := Scalar.addi v236 c9_i32
  let c0_i32_144 : BitVec 32 := 0#32
  ![v237.toNat, 0]
def k0_off48 (v239 : BitVec 32) : Fin 2 → Nat :=
  let c0_i32_145 : BitVec 32 := 0#32
  ![v239.toNat, 0]

def k0_chk12 (v239 : BitVec 32) : Prop :=
  (∀ a, (k0_off48 v239) a + S1x1024.size a ≤ S8192x1024.size a)
theorem k0_off48_inb : ∀ (v239 : BitVec 32) (k0_hw12 : k0_chk12 v239), ∀ a, (k0_off48 v239) a + S1x1024.size a ≤ S8192x1024.size a := fun v239 k0_hw12 => k0_hw12

def k0_off49 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_146 : BitVec 32 := 128#32
  let v254 : BitVec 32 := Scalar.addi v62 c128_i32_146
  let c32_i32_147 : BitVec 32 := 32#32
  let v255 : BitVec 32 := Scalar.subi v254 c32_i32_147
  let c10_i32 : BitVec 32 := 10#32
  let v256 : BitVec 32 := Scalar.addi v255 c10_i32
  let v257 : Index := Scalar.indexCast v256
  ![v257.toNat]
def k0_off50 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_146 : BitVec 32 := 128#32
  let v254 : BitVec 32 := Scalar.addi v62 c128_i32_146
  let c32_i32_147 : BitVec 32 := 32#32
  let v255 : BitVec 32 := Scalar.subi v254 c32_i32_147
  let c10_i32 : BitVec 32 := 10#32
  let v256 : BitVec 32 := Scalar.addi v255 c10_i32
  let c32_i32_148 : BitVec 32 := 32#32
  let c0_i32_149 : BitVec 32 := 0#32
  let v259 : BitVec 1 := Scalar.cmpi .eq c32_i32_148 c0_i32_149
  let c1_i32_150 : BitVec 32 := 1#32
  let v260 : BitVec 32 := Scalar.select v259 c1_i32_150 c32_i32_148
  let v261 : BitVec 32 := Scalar.remsi v256 v260
  let c0_i32_152 : BitVec 32 := 0#32
  let v263 : BitVec 1 := Scalar.cmpi .slt v261 c0_i32_152
  let c0_i32_153 : BitVec 32 := 0#32
  let v264 : BitVec 1 := Scalar.cmpi .slt v260 c0_i32_153
  let v265 : BitVec 1 := Scalar.xori v263 v264
  let c0_i32_151 : BitVec 32 := 0#32
  let v262 : BitVec 1 := Scalar.cmpi .ne v261 c0_i32_151
  let v266 : BitVec 1 := Scalar.andi v265 v262
  let v267 : BitVec 32 := Scalar.addi v261 v260
  let v268 : BitVec 32 := Scalar.select v266 v267 v261
  ![v268.toNat]
def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_146 : BitVec 32 := 128#32
  let v254 : BitVec 32 := Scalar.addi v62 c128_i32_146
  let c32_i32_147 : BitVec 32 := 32#32
  let v255 : BitVec 32 := Scalar.subi v254 c32_i32_147
  let c10_i32 : BitVec 32 := 10#32
  let v256 : BitVec 32 := Scalar.addi v255 c10_i32
  let c0_i32_154 : BitVec 32 := 0#32
  ![v256.toNat, 0]
def k0_off52 (v258 : BitVec 32) : Fin 2 → Nat :=
  let c0_i32_155 : BitVec 32 := 0#32
  ![v258.toNat, 0]

def k0_chk13 (v258 : BitVec 32) : Prop :=
  (∀ a, (k0_off52 v258) a + S1x1024.size a ≤ S8192x1024.size a)
theorem k0_off52_inb : ∀ (v258 : BitVec 32) (k0_hw13 : k0_chk13 v258), ∀ a, (k0_off52 v258) a + S1x1024.size a ≤ S8192x1024.size a := fun v258 k0_hw13 => k0_hw13

def k0_off53 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_156 : BitVec 32 := 128#32
  let v273 : BitVec 32 := Scalar.addi v62 c128_i32_156
  let c32_i32_157 : BitVec 32 := 32#32
  let v274 : BitVec 32 := Scalar.subi v273 c32_i32_157
  let c11_i32 : BitVec 32 := 11#32
  let v275 : BitVec 32 := Scalar.addi v274 c11_i32
  let v276 : Index := Scalar.indexCast v275
  ![v276.toNat]
def k0_off54 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_156 : BitVec 32 := 128#32
  let v273 : BitVec 32 := Scalar.addi v62 c128_i32_156
  let c32_i32_157 : BitVec 32 := 32#32
  let v274 : BitVec 32 := Scalar.subi v273 c32_i32_157
  let c11_i32 : BitVec 32 := 11#32
  let v275 : BitVec 32 := Scalar.addi v274 c11_i32
  let c32_i32_158 : BitVec 32 := 32#32
  let c0_i32_159 : BitVec 32 := 0#32
  let v278 : BitVec 1 := Scalar.cmpi .eq c32_i32_158 c0_i32_159
  let c1_i32_160 : BitVec 32 := 1#32
  let v279 : BitVec 32 := Scalar.select v278 c1_i32_160 c32_i32_158
  let v280 : BitVec 32 := Scalar.remsi v275 v279
  let c0_i32_162 : BitVec 32 := 0#32
  let v282 : BitVec 1 := Scalar.cmpi .slt v280 c0_i32_162
  let c0_i32_163 : BitVec 32 := 0#32
  let v283 : BitVec 1 := Scalar.cmpi .slt v279 c0_i32_163
  let v284 : BitVec 1 := Scalar.xori v282 v283
  let c0_i32_161 : BitVec 32 := 0#32
  let v281 : BitVec 1 := Scalar.cmpi .ne v280 c0_i32_161
  let v285 : BitVec 1 := Scalar.andi v284 v281
  let v286 : BitVec 32 := Scalar.addi v280 v279
  let v287 : BitVec 32 := Scalar.select v285 v286 v280
  ![v287.toNat]
def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_156 : BitVec 32 := 128#32
  let v273 : BitVec 32 := Scalar.addi v62 c128_i32_156
  let c32_i32_157 : BitVec 32 := 32#32
  let v274 : BitVec 32 := Scalar.subi v273 c32_i32_157
  let c11_i32 : BitVec 32 := 11#32
  let v275 : BitVec 32 := Scalar.addi v274 c11_i32
  let c0_i32_164 : BitVec 32 := 0#32
  ![v275.toNat, 0]
def k0_off56 (v277 : BitVec 32) : Fin 2 → Nat :=
  let c0_i32_165 : BitVec 32 := 0#32
  ![v277.toNat, 0]

def k0_chk14 (v277 : BitVec 32) : Prop :=
  (∀ a, (k0_off56 v277) a + S1x1024.size a ≤ S8192x1024.size a)
theorem k0_off56_inb : ∀ (v277 : BitVec 32) (k0_hw14 : k0_chk14 v277), ∀ a, (k0_off56 v277) a + S1x1024.size a ≤ S8192x1024.size a := fun v277 k0_hw14 => k0_hw14

def k0_off57 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_166 : BitVec 32 := 128#32
  let v292 : BitVec 32 := Scalar.addi v62 c128_i32_166
  let c32_i32_167 : BitVec 32 := 32#32
  let v293 : BitVec 32 := Scalar.subi v292 c32_i32_167
  let c12_i32 : BitVec 32 := 12#32
  let v294 : BitVec 32 := Scalar.addi v293 c12_i32
  let v295 : Index := Scalar.indexCast v294
  ![v295.toNat]
def k0_off58 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_166 : BitVec 32 := 128#32
  let v292 : BitVec 32 := Scalar.addi v62 c128_i32_166
  let c32_i32_167 : BitVec 32 := 32#32
  let v293 : BitVec 32 := Scalar.subi v292 c32_i32_167
  let c12_i32 : BitVec 32 := 12#32
  let v294 : BitVec 32 := Scalar.addi v293 c12_i32
  let c32_i32_168 : BitVec 32 := 32#32
  let c0_i32_169 : BitVec 32 := 0#32
  let v297 : BitVec 1 := Scalar.cmpi .eq c32_i32_168 c0_i32_169
  let c1_i32_170 : BitVec 32 := 1#32
  let v298 : BitVec 32 := Scalar.select v297 c1_i32_170 c32_i32_168
  let v299 : BitVec 32 := Scalar.remsi v294 v298
  let c0_i32_172 : BitVec 32 := 0#32
  let v301 : BitVec 1 := Scalar.cmpi .slt v299 c0_i32_172
  let c0_i32_173 : BitVec 32 := 0#32
  let v302 : BitVec 1 := Scalar.cmpi .slt v298 c0_i32_173
  let v303 : BitVec 1 := Scalar.xori v301 v302
  let c0_i32_171 : BitVec 32 := 0#32
  let v300 : BitVec 1 := Scalar.cmpi .ne v299 c0_i32_171
  let v304 : BitVec 1 := Scalar.andi v303 v300
  let v305 : BitVec 32 := Scalar.addi v299 v298
  let v306 : BitVec 32 := Scalar.select v304 v305 v299
  ![v306.toNat]
def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_166 : BitVec 32 := 128#32
  let v292 : BitVec 32 := Scalar.addi v62 c128_i32_166
  let c32_i32_167 : BitVec 32 := 32#32
  let v293 : BitVec 32 := Scalar.subi v292 c32_i32_167
  let c12_i32 : BitVec 32 := 12#32
  let v294 : BitVec 32 := Scalar.addi v293 c12_i32
  let c0_i32_174 : BitVec 32 := 0#32
  ![v294.toNat, 0]
def k0_off60 (v296 : BitVec 32) : Fin 2 → Nat :=
  let c0_i32_175 : BitVec 32 := 0#32
  ![v296.toNat, 0]

def k0_chk15 (v296 : BitVec 32) : Prop :=
  (∀ a, (k0_off60 v296) a + S1x1024.size a ≤ S8192x1024.size a)
theorem k0_off60_inb : ∀ (v296 : BitVec 32) (k0_hw15 : k0_chk15 v296), ∀ a, (k0_off60 v296) a + S1x1024.size a ≤ S8192x1024.size a := fun v296 k0_hw15 => k0_hw15

def k0_off61 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_176 : BitVec 32 := 128#32
  let v311 : BitVec 32 := Scalar.addi v62 c128_i32_176
  let c32_i32_177 : BitVec 32 := 32#32
  let v312 : BitVec 32 := Scalar.subi v311 c32_i32_177
  let c13_i32 : BitVec 32 := 13#32
  let v313 : BitVec 32 := Scalar.addi v312 c13_i32
  let v314 : Index := Scalar.indexCast v313
  ![v314.toNat]
def k0_off62 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_176 : BitVec 32 := 128#32
  let v311 : BitVec 32 := Scalar.addi v62 c128_i32_176
  let c32_i32_177 : BitVec 32 := 32#32
  let v312 : BitVec 32 := Scalar.subi v311 c32_i32_177
  let c13_i32 : BitVec 32 := 13#32
  let v313 : BitVec 32 := Scalar.addi v312 c13_i32
  let c32_i32_178 : BitVec 32 := 32#32
  let c0_i32_179 : BitVec 32 := 0#32
  let v316 : BitVec 1 := Scalar.cmpi .eq c32_i32_178 c0_i32_179
  let c1_i32_180 : BitVec 32 := 1#32
  let v317 : BitVec 32 := Scalar.select v316 c1_i32_180 c32_i32_178
  let v318 : BitVec 32 := Scalar.remsi v313 v317
  let c0_i32_182 : BitVec 32 := 0#32
  let v320 : BitVec 1 := Scalar.cmpi .slt v318 c0_i32_182
  let c0_i32_183 : BitVec 32 := 0#32
  let v321 : BitVec 1 := Scalar.cmpi .slt v317 c0_i32_183
  let v322 : BitVec 1 := Scalar.xori v320 v321
  let c0_i32_181 : BitVec 32 := 0#32
  let v319 : BitVec 1 := Scalar.cmpi .ne v318 c0_i32_181
  let v323 : BitVec 1 := Scalar.andi v322 v319
  let v324 : BitVec 32 := Scalar.addi v318 v317
  let v325 : BitVec 32 := Scalar.select v323 v324 v318
  ![v325.toNat]
def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_176 : BitVec 32 := 128#32
  let v311 : BitVec 32 := Scalar.addi v62 c128_i32_176
  let c32_i32_177 : BitVec 32 := 32#32
  let v312 : BitVec 32 := Scalar.subi v311 c32_i32_177
  let c13_i32 : BitVec 32 := 13#32
  let v313 : BitVec 32 := Scalar.addi v312 c13_i32
  let c0_i32_184 : BitVec 32 := 0#32
  ![v313.toNat, 0]
def k0_off64 (v315 : BitVec 32) : Fin 2 → Nat :=
  let c0_i32_185 : BitVec 32 := 0#32
  ![v315.toNat, 0]

def k0_chk16 (v315 : BitVec 32) : Prop :=
  (∀ a, (k0_off64 v315) a + S1x1024.size a ≤ S8192x1024.size a)
theorem k0_off64_inb : ∀ (v315 : BitVec 32) (k0_hw16 : k0_chk16 v315), ∀ a, (k0_off64 v315) a + S1x1024.size a ≤ S8192x1024.size a := fun v315 k0_hw16 => k0_hw16

def k0_off65 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_186 : BitVec 32 := 128#32
  let v330 : BitVec 32 := Scalar.addi v62 c128_i32_186
  let c32_i32_187 : BitVec 32 := 32#32
  let v331 : BitVec 32 := Scalar.subi v330 c32_i32_187
  let c14_i32 : BitVec 32 := 14#32
  let v332 : BitVec 32 := Scalar.addi v331 c14_i32
  let v333 : Index := Scalar.indexCast v332
  ![v333.toNat]
def k0_off66 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_186 : BitVec 32 := 128#32
  let v330 : BitVec 32 := Scalar.addi v62 c128_i32_186
  let c32_i32_187 : BitVec 32 := 32#32
  let v331 : BitVec 32 := Scalar.subi v330 c32_i32_187
  let c14_i32 : BitVec 32 := 14#32
  let v332 : BitVec 32 := Scalar.addi v331 c14_i32
  let c32_i32_188 : BitVec 32 := 32#32
  let c0_i32_189 : BitVec 32 := 0#32
  let v335 : BitVec 1 := Scalar.cmpi .eq c32_i32_188 c0_i32_189
  let c1_i32_190 : BitVec 32 := 1#32
  let v336 : BitVec 32 := Scalar.select v335 c1_i32_190 c32_i32_188
  let v337 : BitVec 32 := Scalar.remsi v332 v336
  let c0_i32_192 : BitVec 32 := 0#32
  let v339 : BitVec 1 := Scalar.cmpi .slt v337 c0_i32_192
  let c0_i32_193 : BitVec 32 := 0#32
  let v340 : BitVec 1 := Scalar.cmpi .slt v336 c0_i32_193
  let v341 : BitVec 1 := Scalar.xori v339 v340
  let c0_i32_191 : BitVec 32 := 0#32
  let v338 : BitVec 1 := Scalar.cmpi .ne v337 c0_i32_191
  let v342 : BitVec 1 := Scalar.andi v341 v338
  let v343 : BitVec 32 := Scalar.addi v337 v336
  let v344 : BitVec 32 := Scalar.select v342 v343 v337
  ![v344.toNat]
def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_186 : BitVec 32 := 128#32
  let v330 : BitVec 32 := Scalar.addi v62 c128_i32_186
  let c32_i32_187 : BitVec 32 := 32#32
  let v331 : BitVec 32 := Scalar.subi v330 c32_i32_187
  let c14_i32 : BitVec 32 := 14#32
  let v332 : BitVec 32 := Scalar.addi v331 c14_i32
  let c0_i32_194 : BitVec 32 := 0#32
  ![v332.toNat, 0]
def k0_off68 (v334 : BitVec 32) : Fin 2 → Nat :=
  let c0_i32_195 : BitVec 32 := 0#32
  ![v334.toNat, 0]

def k0_chk17 (v334 : BitVec 32) : Prop :=
  (∀ a, (k0_off68 v334) a + S1x1024.size a ≤ S8192x1024.size a)
theorem k0_off68_inb : ∀ (v334 : BitVec 32) (k0_hw17 : k0_chk17 v334), ∀ a, (k0_off68 v334) a + S1x1024.size a ≤ S8192x1024.size a := fun v334 k0_hw17 => k0_hw17

def k0_off69 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_196 : BitVec 32 := 128#32
  let v349 : BitVec 32 := Scalar.addi v62 c128_i32_196
  let c32_i32_197 : BitVec 32 := 32#32
  let v350 : BitVec 32 := Scalar.subi v349 c32_i32_197
  let c15_i32 : BitVec 32 := 15#32
  let v351 : BitVec 32 := Scalar.addi v350 c15_i32
  let v352 : Index := Scalar.indexCast v351
  ![v352.toNat]
def k0_off70 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_196 : BitVec 32 := 128#32
  let v349 : BitVec 32 := Scalar.addi v62 c128_i32_196
  let c32_i32_197 : BitVec 32 := 32#32
  let v350 : BitVec 32 := Scalar.subi v349 c32_i32_197
  let c15_i32 : BitVec 32 := 15#32
  let v351 : BitVec 32 := Scalar.addi v350 c15_i32
  let c32_i32_198 : BitVec 32 := 32#32
  let c0_i32_199 : BitVec 32 := 0#32
  let v354 : BitVec 1 := Scalar.cmpi .eq c32_i32_198 c0_i32_199
  let c1_i32_200 : BitVec 32 := 1#32
  let v355 : BitVec 32 := Scalar.select v354 c1_i32_200 c32_i32_198
  let v356 : BitVec 32 := Scalar.remsi v351 v355
  let c0_i32_202 : BitVec 32 := 0#32
  let v358 : BitVec 1 := Scalar.cmpi .slt v356 c0_i32_202
  let c0_i32_203 : BitVec 32 := 0#32
  let v359 : BitVec 1 := Scalar.cmpi .slt v355 c0_i32_203
  let v360 : BitVec 1 := Scalar.xori v358 v359
  let c0_i32_201 : BitVec 32 := 0#32
  let v357 : BitVec 1 := Scalar.cmpi .ne v356 c0_i32_201
  let v361 : BitVec 1 := Scalar.andi v360 v357
  let v362 : BitVec 32 := Scalar.addi v356 v355
  let v363 : BitVec 32 := Scalar.select v361 v362 v356
  ![v363.toNat]
def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_196 : BitVec 32 := 128#32
  let v349 : BitVec 32 := Scalar.addi v62 c128_i32_196
  let c32_i32_197 : BitVec 32 := 32#32
  let v350 : BitVec 32 := Scalar.subi v349 c32_i32_197
  let c15_i32 : BitVec 32 := 15#32
  let v351 : BitVec 32 := Scalar.addi v350 c15_i32
  let c0_i32_204 : BitVec 32 := 0#32
  ![v351.toNat, 0]
def k0_off72 (v353 : BitVec 32) : Fin 2 → Nat :=
  let c0_i32_205 : BitVec 32 := 0#32
  ![v353.toNat, 0]

def k0_chk18 (v353 : BitVec 32) : Prop :=
  (∀ a, (k0_off72 v353) a + S1x1024.size a ≤ S8192x1024.size a)
theorem k0_off72_inb : ∀ (v353 : BitVec 32) (k0_hw18 : k0_chk18 v353), ∀ a, (k0_off72 v353) a + S1x1024.size a ≤ S8192x1024.size a := fun v353 k0_hw18 => k0_hw18

def k0_off73 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_206 : BitVec 32 := 128#32
  let v368 : BitVec 32 := Scalar.addi v62 c128_i32_206
  let c32_i32_207 : BitVec 32 := 32#32
  let v369 : BitVec 32 := Scalar.subi v368 c32_i32_207
  let c16_i32_208 : BitVec 32 := 16#32
  let v370 : BitVec 32 := Scalar.addi v369 c16_i32_208
  let v371 : Index := Scalar.indexCast v370
  ![v371.toNat]
def k0_off74 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_206 : BitVec 32 := 128#32
  let v368 : BitVec 32 := Scalar.addi v62 c128_i32_206
  let c32_i32_207 : BitVec 32 := 32#32
  let v369 : BitVec 32 := Scalar.subi v368 c32_i32_207
  let c16_i32_208 : BitVec 32 := 16#32
  let v370 : BitVec 32 := Scalar.addi v369 c16_i32_208
  let c32_i32_209 : BitVec 32 := 32#32
  let c0_i32_210 : BitVec 32 := 0#32
  let v373 : BitVec 1 := Scalar.cmpi .eq c32_i32_209 c0_i32_210
  let c1_i32_211 : BitVec 32 := 1#32
  let v374 : BitVec 32 := Scalar.select v373 c1_i32_211 c32_i32_209
  let v375 : BitVec 32 := Scalar.remsi v370 v374
  let c0_i32_213 : BitVec 32 := 0#32
  let v377 : BitVec 1 := Scalar.cmpi .slt v375 c0_i32_213
  let c0_i32_214 : BitVec 32 := 0#32
  let v378 : BitVec 1 := Scalar.cmpi .slt v374 c0_i32_214
  let v379 : BitVec 1 := Scalar.xori v377 v378
  let c0_i32_212 : BitVec 32 := 0#32
  let v376 : BitVec 1 := Scalar.cmpi .ne v375 c0_i32_212
  let v380 : BitVec 1 := Scalar.andi v379 v376
  let v381 : BitVec 32 := Scalar.addi v375 v374
  let v382 : BitVec 32 := Scalar.select v380 v381 v375
  ![v382.toNat]
def k0_off75 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_206 : BitVec 32 := 128#32
  let v368 : BitVec 32 := Scalar.addi v62 c128_i32_206
  let c32_i32_207 : BitVec 32 := 32#32
  let v369 : BitVec 32 := Scalar.subi v368 c32_i32_207
  let c16_i32_208 : BitVec 32 := 16#32
  let v370 : BitVec 32 := Scalar.addi v369 c16_i32_208
  let c0_i32_215 : BitVec 32 := 0#32
  ![v370.toNat, 0]
def k0_off76 (v372 : BitVec 32) : Fin 2 → Nat :=
  let c0_i32_216 : BitVec 32 := 0#32
  ![v372.toNat, 0]

def k0_chk19 (v372 : BitVec 32) : Prop :=
  (∀ a, (k0_off76 v372) a + S1x1024.size a ≤ S8192x1024.size a)
theorem k0_off76_inb : ∀ (v372 : BitVec 32) (k0_hw19 : k0_chk19 v372), ∀ a, (k0_off76 v372) a + S1x1024.size a ≤ S8192x1024.size a := fun v372 k0_hw19 => k0_hw19

def k0_off77 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_217 : BitVec 32 := 128#32
  let v387 : BitVec 32 := Scalar.addi v62 c128_i32_217
  let c32_i32_218 : BitVec 32 := 32#32
  let v388 : BitVec 32 := Scalar.subi v387 c32_i32_218
  let c17_i32 : BitVec 32 := 17#32
  let v389 : BitVec 32 := Scalar.addi v388 c17_i32
  let v390 : Index := Scalar.indexCast v389
  ![v390.toNat]
def k0_off78 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_217 : BitVec 32 := 128#32
  let v387 : BitVec 32 := Scalar.addi v62 c128_i32_217
  let c32_i32_218 : BitVec 32 := 32#32
  let v388 : BitVec 32 := Scalar.subi v387 c32_i32_218
  let c17_i32 : BitVec 32 := 17#32
  let v389 : BitVec 32 := Scalar.addi v388 c17_i32
  let c32_i32_219 : BitVec 32 := 32#32
  let c0_i32_220 : BitVec 32 := 0#32
  let v392 : BitVec 1 := Scalar.cmpi .eq c32_i32_219 c0_i32_220
  let c1_i32_221 : BitVec 32 := 1#32
  let v393 : BitVec 32 := Scalar.select v392 c1_i32_221 c32_i32_219
  let v394 : BitVec 32 := Scalar.remsi v389 v393
  let c0_i32_223 : BitVec 32 := 0#32
  let v396 : BitVec 1 := Scalar.cmpi .slt v394 c0_i32_223
  let c0_i32_224 : BitVec 32 := 0#32
  let v397 : BitVec 1 := Scalar.cmpi .slt v393 c0_i32_224
  let v398 : BitVec 1 := Scalar.xori v396 v397
  let c0_i32_222 : BitVec 32 := 0#32
  let v395 : BitVec 1 := Scalar.cmpi .ne v394 c0_i32_222
  let v399 : BitVec 1 := Scalar.andi v398 v395
  let v400 : BitVec 32 := Scalar.addi v394 v393
  let v401 : BitVec 32 := Scalar.select v399 v400 v394
  ![v401.toNat]
def k0_off79 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_217 : BitVec 32 := 128#32
  let v387 : BitVec 32 := Scalar.addi v62 c128_i32_217
  let c32_i32_218 : BitVec 32 := 32#32
  let v388 : BitVec 32 := Scalar.subi v387 c32_i32_218
  let c17_i32 : BitVec 32 := 17#32
  let v389 : BitVec 32 := Scalar.addi v388 c17_i32
  let c0_i32_225 : BitVec 32 := 0#32
  ![v389.toNat, 0]
def k0_off80 (v391 : BitVec 32) : Fin 2 → Nat :=
  let c0_i32_226 : BitVec 32 := 0#32
  ![v391.toNat, 0]

def k0_chk20 (v391 : BitVec 32) : Prop :=
  (∀ a, (k0_off80 v391) a + S1x1024.size a ≤ S8192x1024.size a)
theorem k0_off80_inb : ∀ (v391 : BitVec 32) (k0_hw20 : k0_chk20 v391), ∀ a, (k0_off80 v391) a + S1x1024.size a ≤ S8192x1024.size a := fun v391 k0_hw20 => k0_hw20

def k0_off81 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_227 : BitVec 32 := 128#32
  let v406 : BitVec 32 := Scalar.addi v62 c128_i32_227
  let c32_i32_228 : BitVec 32 := 32#32
  let v407 : BitVec 32 := Scalar.subi v406 c32_i32_228
  let c18_i32 : BitVec 32 := 18#32
  let v408 : BitVec 32 := Scalar.addi v407 c18_i32
  let v409 : Index := Scalar.indexCast v408
  ![v409.toNat]
def k0_off82 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_227 : BitVec 32 := 128#32
  let v406 : BitVec 32 := Scalar.addi v62 c128_i32_227
  let c32_i32_228 : BitVec 32 := 32#32
  let v407 : BitVec 32 := Scalar.subi v406 c32_i32_228
  let c18_i32 : BitVec 32 := 18#32
  let v408 : BitVec 32 := Scalar.addi v407 c18_i32
  let c32_i32_229 : BitVec 32 := 32#32
  let c0_i32_230 : BitVec 32 := 0#32
  let v411 : BitVec 1 := Scalar.cmpi .eq c32_i32_229 c0_i32_230
  let c1_i32_231 : BitVec 32 := 1#32
  let v412 : BitVec 32 := Scalar.select v411 c1_i32_231 c32_i32_229
  let v413 : BitVec 32 := Scalar.remsi v408 v412
  let c0_i32_233 : BitVec 32 := 0#32
  let v415 : BitVec 1 := Scalar.cmpi .slt v413 c0_i32_233
  let c0_i32_234 : BitVec 32 := 0#32
  let v416 : BitVec 1 := Scalar.cmpi .slt v412 c0_i32_234
  let v417 : BitVec 1 := Scalar.xori v415 v416
  let c0_i32_232 : BitVec 32 := 0#32
  let v414 : BitVec 1 := Scalar.cmpi .ne v413 c0_i32_232
  let v418 : BitVec 1 := Scalar.andi v417 v414
  let v419 : BitVec 32 := Scalar.addi v413 v412
  let v420 : BitVec 32 := Scalar.select v418 v419 v413
  ![v420.toNat]
def k0_off83 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_227 : BitVec 32 := 128#32
  let v406 : BitVec 32 := Scalar.addi v62 c128_i32_227
  let c32_i32_228 : BitVec 32 := 32#32
  let v407 : BitVec 32 := Scalar.subi v406 c32_i32_228
  let c18_i32 : BitVec 32 := 18#32
  let v408 : BitVec 32 := Scalar.addi v407 c18_i32
  let c0_i32_235 : BitVec 32 := 0#32
  ![v408.toNat, 0]
def k0_off84 (v410 : BitVec 32) : Fin 2 → Nat :=
  let c0_i32_236 : BitVec 32 := 0#32
  ![v410.toNat, 0]

def k0_chk21 (v410 : BitVec 32) : Prop :=
  (∀ a, (k0_off84 v410) a + S1x1024.size a ≤ S8192x1024.size a)
theorem k0_off84_inb : ∀ (v410 : BitVec 32) (k0_hw21 : k0_chk21 v410), ∀ a, (k0_off84 v410) a + S1x1024.size a ≤ S8192x1024.size a := fun v410 k0_hw21 => k0_hw21

def k0_off85 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_237 : BitVec 32 := 128#32
  let v425 : BitVec 32 := Scalar.addi v62 c128_i32_237
  let c32_i32_238 : BitVec 32 := 32#32
  let v426 : BitVec 32 := Scalar.subi v425 c32_i32_238
  let c19_i32 : BitVec 32 := 19#32
  let v427 : BitVec 32 := Scalar.addi v426 c19_i32
  let v428 : Index := Scalar.indexCast v427
  ![v428.toNat]
def k0_off86 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_237 : BitVec 32 := 128#32
  let v425 : BitVec 32 := Scalar.addi v62 c128_i32_237
  let c32_i32_238 : BitVec 32 := 32#32
  let v426 : BitVec 32 := Scalar.subi v425 c32_i32_238
  let c19_i32 : BitVec 32 := 19#32
  let v427 : BitVec 32 := Scalar.addi v426 c19_i32
  let c32_i32_239 : BitVec 32 := 32#32
  let c0_i32_240 : BitVec 32 := 0#32
  let v430 : BitVec 1 := Scalar.cmpi .eq c32_i32_239 c0_i32_240
  let c1_i32_241 : BitVec 32 := 1#32
  let v431 : BitVec 32 := Scalar.select v430 c1_i32_241 c32_i32_239
  let v432 : BitVec 32 := Scalar.remsi v427 v431
  let c0_i32_243 : BitVec 32 := 0#32
  let v434 : BitVec 1 := Scalar.cmpi .slt v432 c0_i32_243
  let c0_i32_244 : BitVec 32 := 0#32
  let v435 : BitVec 1 := Scalar.cmpi .slt v431 c0_i32_244
  let v436 : BitVec 1 := Scalar.xori v434 v435
  let c0_i32_242 : BitVec 32 := 0#32
  let v433 : BitVec 1 := Scalar.cmpi .ne v432 c0_i32_242
  let v437 : BitVec 1 := Scalar.andi v436 v433
  let v438 : BitVec 32 := Scalar.addi v432 v431
  let v439 : BitVec 32 := Scalar.select v437 v438 v432
  ![v439.toNat]
def k0_off87 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_237 : BitVec 32 := 128#32
  let v425 : BitVec 32 := Scalar.addi v62 c128_i32_237
  let c32_i32_238 : BitVec 32 := 32#32
  let v426 : BitVec 32 := Scalar.subi v425 c32_i32_238
  let c19_i32 : BitVec 32 := 19#32
  let v427 : BitVec 32 := Scalar.addi v426 c19_i32
  let c0_i32_245 : BitVec 32 := 0#32
  ![v427.toNat, 0]
def k0_off88 (v429 : BitVec 32) : Fin 2 → Nat :=
  let c0_i32_246 : BitVec 32 := 0#32
  ![v429.toNat, 0]

def k0_chk22 (v429 : BitVec 32) : Prop :=
  (∀ a, (k0_off88 v429) a + S1x1024.size a ≤ S8192x1024.size a)
theorem k0_off88_inb : ∀ (v429 : BitVec 32) (k0_hw22 : k0_chk22 v429), ∀ a, (k0_off88 v429) a + S1x1024.size a ≤ S8192x1024.size a := fun v429 k0_hw22 => k0_hw22

def k0_off89 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_247 : BitVec 32 := 128#32
  let v444 : BitVec 32 := Scalar.addi v62 c128_i32_247
  let c32_i32_248 : BitVec 32 := 32#32
  let v445 : BitVec 32 := Scalar.subi v444 c32_i32_248
  let c20_i32 : BitVec 32 := 20#32
  let v446 : BitVec 32 := Scalar.addi v445 c20_i32
  let v447 : Index := Scalar.indexCast v446
  ![v447.toNat]
def k0_off90 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_247 : BitVec 32 := 128#32
  let v444 : BitVec 32 := Scalar.addi v62 c128_i32_247
  let c32_i32_248 : BitVec 32 := 32#32
  let v445 : BitVec 32 := Scalar.subi v444 c32_i32_248
  let c20_i32 : BitVec 32 := 20#32
  let v446 : BitVec 32 := Scalar.addi v445 c20_i32
  let c32_i32_249 : BitVec 32 := 32#32
  let c0_i32_250 : BitVec 32 := 0#32
  let v449 : BitVec 1 := Scalar.cmpi .eq c32_i32_249 c0_i32_250
  let c1_i32_251 : BitVec 32 := 1#32
  let v450 : BitVec 32 := Scalar.select v449 c1_i32_251 c32_i32_249
  let v451 : BitVec 32 := Scalar.remsi v446 v450
  let c0_i32_253 : BitVec 32 := 0#32
  let v453 : BitVec 1 := Scalar.cmpi .slt v451 c0_i32_253
  let c0_i32_254 : BitVec 32 := 0#32
  let v454 : BitVec 1 := Scalar.cmpi .slt v450 c0_i32_254
  let v455 : BitVec 1 := Scalar.xori v453 v454
  let c0_i32_252 : BitVec 32 := 0#32
  let v452 : BitVec 1 := Scalar.cmpi .ne v451 c0_i32_252
  let v456 : BitVec 1 := Scalar.andi v455 v452
  let v457 : BitVec 32 := Scalar.addi v451 v450
  let v458 : BitVec 32 := Scalar.select v456 v457 v451
  ![v458.toNat]
def k0_off91 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_247 : BitVec 32 := 128#32
  let v444 : BitVec 32 := Scalar.addi v62 c128_i32_247
  let c32_i32_248 : BitVec 32 := 32#32
  let v445 : BitVec 32 := Scalar.subi v444 c32_i32_248
  let c20_i32 : BitVec 32 := 20#32
  let v446 : BitVec 32 := Scalar.addi v445 c20_i32
  let c0_i32_255 : BitVec 32 := 0#32
  ![v446.toNat, 0]
def k0_off92 (v448 : BitVec 32) : Fin 2 → Nat :=
  let c0_i32_256 : BitVec 32 := 0#32
  ![v448.toNat, 0]

def k0_chk23 (v448 : BitVec 32) : Prop :=
  (∀ a, (k0_off92 v448) a + S1x1024.size a ≤ S8192x1024.size a)
theorem k0_off92_inb : ∀ (v448 : BitVec 32) (k0_hw23 : k0_chk23 v448), ∀ a, (k0_off92 v448) a + S1x1024.size a ≤ S8192x1024.size a := fun v448 k0_hw23 => k0_hw23

def k0_off93 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_257 : BitVec 32 := 128#32
  let v463 : BitVec 32 := Scalar.addi v62 c128_i32_257
  let c32_i32_258 : BitVec 32 := 32#32
  let v464 : BitVec 32 := Scalar.subi v463 c32_i32_258
  let c21_i32 : BitVec 32 := 21#32
  let v465 : BitVec 32 := Scalar.addi v464 c21_i32
  let v466 : Index := Scalar.indexCast v465
  ![v466.toNat]
def k0_off94 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_257 : BitVec 32 := 128#32
  let v463 : BitVec 32 := Scalar.addi v62 c128_i32_257
  let c32_i32_258 : BitVec 32 := 32#32
  let v464 : BitVec 32 := Scalar.subi v463 c32_i32_258
  let c21_i32 : BitVec 32 := 21#32
  let v465 : BitVec 32 := Scalar.addi v464 c21_i32
  let c32_i32_259 : BitVec 32 := 32#32
  let c0_i32_260 : BitVec 32 := 0#32
  let v468 : BitVec 1 := Scalar.cmpi .eq c32_i32_259 c0_i32_260
  let c1_i32_261 : BitVec 32 := 1#32
  let v469 : BitVec 32 := Scalar.select v468 c1_i32_261 c32_i32_259
  let v470 : BitVec 32 := Scalar.remsi v465 v469
  let c0_i32_263 : BitVec 32 := 0#32
  let v472 : BitVec 1 := Scalar.cmpi .slt v470 c0_i32_263
  let c0_i32_264 : BitVec 32 := 0#32
  let v473 : BitVec 1 := Scalar.cmpi .slt v469 c0_i32_264
  let v474 : BitVec 1 := Scalar.xori v472 v473
  let c0_i32_262 : BitVec 32 := 0#32
  let v471 : BitVec 1 := Scalar.cmpi .ne v470 c0_i32_262
  let v475 : BitVec 1 := Scalar.andi v474 v471
  let v476 : BitVec 32 := Scalar.addi v470 v469
  let v477 : BitVec 32 := Scalar.select v475 v476 v470
  ![v477.toNat]
def k0_off95 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_257 : BitVec 32 := 128#32
  let v463 : BitVec 32 := Scalar.addi v62 c128_i32_257
  let c32_i32_258 : BitVec 32 := 32#32
  let v464 : BitVec 32 := Scalar.subi v463 c32_i32_258
  let c21_i32 : BitVec 32 := 21#32
  let v465 : BitVec 32 := Scalar.addi v464 c21_i32
  let c0_i32_265 : BitVec 32 := 0#32
  ![v465.toNat, 0]
def k0_off96 (v467 : BitVec 32) : Fin 2 → Nat :=
  let c0_i32_266 : BitVec 32 := 0#32
  ![v467.toNat, 0]

def k0_chk24 (v467 : BitVec 32) : Prop :=
  (∀ a, (k0_off96 v467) a + S1x1024.size a ≤ S8192x1024.size a)
theorem k0_off96_inb : ∀ (v467 : BitVec 32) (k0_hw24 : k0_chk24 v467), ∀ a, (k0_off96 v467) a + S1x1024.size a ≤ S8192x1024.size a := fun v467 k0_hw24 => k0_hw24

def k0_off97 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_267 : BitVec 32 := 128#32
  let v482 : BitVec 32 := Scalar.addi v62 c128_i32_267
  let c32_i32_268 : BitVec 32 := 32#32
  let v483 : BitVec 32 := Scalar.subi v482 c32_i32_268
  let c22_i32 : BitVec 32 := 22#32
  let v484 : BitVec 32 := Scalar.addi v483 c22_i32
  let v485 : Index := Scalar.indexCast v484
  ![v485.toNat]
def k0_off98 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_267 : BitVec 32 := 128#32
  let v482 : BitVec 32 := Scalar.addi v62 c128_i32_267
  let c32_i32_268 : BitVec 32 := 32#32
  let v483 : BitVec 32 := Scalar.subi v482 c32_i32_268
  let c22_i32 : BitVec 32 := 22#32
  let v484 : BitVec 32 := Scalar.addi v483 c22_i32
  let c32_i32_269 : BitVec 32 := 32#32
  let c0_i32_270 : BitVec 32 := 0#32
  let v487 : BitVec 1 := Scalar.cmpi .eq c32_i32_269 c0_i32_270
  let c1_i32_271 : BitVec 32 := 1#32
  let v488 : BitVec 32 := Scalar.select v487 c1_i32_271 c32_i32_269
  let v489 : BitVec 32 := Scalar.remsi v484 v488
  let c0_i32_273 : BitVec 32 := 0#32
  let v491 : BitVec 1 := Scalar.cmpi .slt v489 c0_i32_273
  let c0_i32_274 : BitVec 32 := 0#32
  let v492 : BitVec 1 := Scalar.cmpi .slt v488 c0_i32_274
  let v493 : BitVec 1 := Scalar.xori v491 v492
  let c0_i32_272 : BitVec 32 := 0#32
  let v490 : BitVec 1 := Scalar.cmpi .ne v489 c0_i32_272
  let v494 : BitVec 1 := Scalar.andi v493 v490
  let v495 : BitVec 32 := Scalar.addi v489 v488
  let v496 : BitVec 32 := Scalar.select v494 v495 v489
  ![v496.toNat]
def k0_off99 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_267 : BitVec 32 := 128#32
  let v482 : BitVec 32 := Scalar.addi v62 c128_i32_267
  let c32_i32_268 : BitVec 32 := 32#32
  let v483 : BitVec 32 := Scalar.subi v482 c32_i32_268
  let c22_i32 : BitVec 32 := 22#32
  let v484 : BitVec 32 := Scalar.addi v483 c22_i32
  let c0_i32_275 : BitVec 32 := 0#32
  ![v484.toNat, 0]
def k0_off100 (v486 : BitVec 32) : Fin 2 → Nat :=
  let c0_i32_276 : BitVec 32 := 0#32
  ![v486.toNat, 0]

def k0_chk25 (v486 : BitVec 32) : Prop :=
  (∀ a, (k0_off100 v486) a + S1x1024.size a ≤ S8192x1024.size a)
theorem k0_off100_inb : ∀ (v486 : BitVec 32) (k0_hw25 : k0_chk25 v486), ∀ a, (k0_off100 v486) a + S1x1024.size a ≤ S8192x1024.size a := fun v486 k0_hw25 => k0_hw25

def k0_off101 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_277 : BitVec 32 := 128#32
  let v501 : BitVec 32 := Scalar.addi v62 c128_i32_277
  let c32_i32_278 : BitVec 32 := 32#32
  let v502 : BitVec 32 := Scalar.subi v501 c32_i32_278
  let c23_i32 : BitVec 32 := 23#32
  let v503 : BitVec 32 := Scalar.addi v502 c23_i32
  let v504 : Index := Scalar.indexCast v503
  ![v504.toNat]
def k0_off102 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_277 : BitVec 32 := 128#32
  let v501 : BitVec 32 := Scalar.addi v62 c128_i32_277
  let c32_i32_278 : BitVec 32 := 32#32
  let v502 : BitVec 32 := Scalar.subi v501 c32_i32_278
  let c23_i32 : BitVec 32 := 23#32
  let v503 : BitVec 32 := Scalar.addi v502 c23_i32
  let c32_i32_279 : BitVec 32 := 32#32
  let c0_i32_280 : BitVec 32 := 0#32
  let v506 : BitVec 1 := Scalar.cmpi .eq c32_i32_279 c0_i32_280
  let c1_i32_281 : BitVec 32 := 1#32
  let v507 : BitVec 32 := Scalar.select v506 c1_i32_281 c32_i32_279
  let v508 : BitVec 32 := Scalar.remsi v503 v507
  let c0_i32_283 : BitVec 32 := 0#32
  let v510 : BitVec 1 := Scalar.cmpi .slt v508 c0_i32_283
  let c0_i32_284 : BitVec 32 := 0#32
  let v511 : BitVec 1 := Scalar.cmpi .slt v507 c0_i32_284
  let v512 : BitVec 1 := Scalar.xori v510 v511
  let c0_i32_282 : BitVec 32 := 0#32
  let v509 : BitVec 1 := Scalar.cmpi .ne v508 c0_i32_282
  let v513 : BitVec 1 := Scalar.andi v512 v509
  let v514 : BitVec 32 := Scalar.addi v508 v507
  let v515 : BitVec 32 := Scalar.select v513 v514 v508
  ![v515.toNat]
def k0_off103 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_277 : BitVec 32 := 128#32
  let v501 : BitVec 32 := Scalar.addi v62 c128_i32_277
  let c32_i32_278 : BitVec 32 := 32#32
  let v502 : BitVec 32 := Scalar.subi v501 c32_i32_278
  let c23_i32 : BitVec 32 := 23#32
  let v503 : BitVec 32 := Scalar.addi v502 c23_i32
  let c0_i32_285 : BitVec 32 := 0#32
  ![v503.toNat, 0]
def k0_off104 (v505 : BitVec 32) : Fin 2 → Nat :=
  let c0_i32_286 : BitVec 32 := 0#32
  ![v505.toNat, 0]

def k0_chk26 (v505 : BitVec 32) : Prop :=
  (∀ a, (k0_off104 v505) a + S1x1024.size a ≤ S8192x1024.size a)
theorem k0_off104_inb : ∀ (v505 : BitVec 32) (k0_hw26 : k0_chk26 v505), ∀ a, (k0_off104 v505) a + S1x1024.size a ≤ S8192x1024.size a := fun v505 k0_hw26 => k0_hw26

def k0_off105 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_287 : BitVec 32 := 128#32
  let v520 : BitVec 32 := Scalar.addi v62 c128_i32_287
  let c32_i32_288 : BitVec 32 := 32#32
  let v521 : BitVec 32 := Scalar.subi v520 c32_i32_288
  let c24_i32 : BitVec 32 := 24#32
  let v522 : BitVec 32 := Scalar.addi v521 c24_i32
  let v523 : Index := Scalar.indexCast v522
  ![v523.toNat]
def k0_off106 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_287 : BitVec 32 := 128#32
  let v520 : BitVec 32 := Scalar.addi v62 c128_i32_287
  let c32_i32_288 : BitVec 32 := 32#32
  let v521 : BitVec 32 := Scalar.subi v520 c32_i32_288
  let c24_i32 : BitVec 32 := 24#32
  let v522 : BitVec 32 := Scalar.addi v521 c24_i32
  let c32_i32_289 : BitVec 32 := 32#32
  let c0_i32_290 : BitVec 32 := 0#32
  let v525 : BitVec 1 := Scalar.cmpi .eq c32_i32_289 c0_i32_290
  let c1_i32_291 : BitVec 32 := 1#32
  let v526 : BitVec 32 := Scalar.select v525 c1_i32_291 c32_i32_289
  let v527 : BitVec 32 := Scalar.remsi v522 v526
  let c0_i32_293 : BitVec 32 := 0#32
  let v529 : BitVec 1 := Scalar.cmpi .slt v527 c0_i32_293
  let c0_i32_294 : BitVec 32 := 0#32
  let v530 : BitVec 1 := Scalar.cmpi .slt v526 c0_i32_294
  let v531 : BitVec 1 := Scalar.xori v529 v530
  let c0_i32_292 : BitVec 32 := 0#32
  let v528 : BitVec 1 := Scalar.cmpi .ne v527 c0_i32_292
  let v532 : BitVec 1 := Scalar.andi v531 v528
  let v533 : BitVec 32 := Scalar.addi v527 v526
  let v534 : BitVec 32 := Scalar.select v532 v533 v527
  ![v534.toNat]
def k0_off107 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_287 : BitVec 32 := 128#32
  let v520 : BitVec 32 := Scalar.addi v62 c128_i32_287
  let c32_i32_288 : BitVec 32 := 32#32
  let v521 : BitVec 32 := Scalar.subi v520 c32_i32_288
  let c24_i32 : BitVec 32 := 24#32
  let v522 : BitVec 32 := Scalar.addi v521 c24_i32
  let c0_i32_295 : BitVec 32 := 0#32
  ![v522.toNat, 0]
def k0_off108 (v524 : BitVec 32) : Fin 2 → Nat :=
  let c0_i32_296 : BitVec 32 := 0#32
  ![v524.toNat, 0]

def k0_chk27 (v524 : BitVec 32) : Prop :=
  (∀ a, (k0_off108 v524) a + S1x1024.size a ≤ S8192x1024.size a)
theorem k0_off108_inb : ∀ (v524 : BitVec 32) (k0_hw27 : k0_chk27 v524), ∀ a, (k0_off108 v524) a + S1x1024.size a ≤ S8192x1024.size a := fun v524 k0_hw27 => k0_hw27

def k0_off109 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_297 : BitVec 32 := 128#32
  let v539 : BitVec 32 := Scalar.addi v62 c128_i32_297
  let c32_i32_298 : BitVec 32 := 32#32
  let v540 : BitVec 32 := Scalar.subi v539 c32_i32_298
  let c25_i32 : BitVec 32 := 25#32
  let v541 : BitVec 32 := Scalar.addi v540 c25_i32
  let v542 : Index := Scalar.indexCast v541
  ![v542.toNat]
def k0_off110 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_297 : BitVec 32 := 128#32
  let v539 : BitVec 32 := Scalar.addi v62 c128_i32_297
  let c32_i32_298 : BitVec 32 := 32#32
  let v540 : BitVec 32 := Scalar.subi v539 c32_i32_298
  let c25_i32 : BitVec 32 := 25#32
  let v541 : BitVec 32 := Scalar.addi v540 c25_i32
  let c32_i32_299 : BitVec 32 := 32#32
  let c0_i32_300 : BitVec 32 := 0#32
  let v544 : BitVec 1 := Scalar.cmpi .eq c32_i32_299 c0_i32_300
  let c1_i32_301 : BitVec 32 := 1#32
  let v545 : BitVec 32 := Scalar.select v544 c1_i32_301 c32_i32_299
  let v546 : BitVec 32 := Scalar.remsi v541 v545
  let c0_i32_303 : BitVec 32 := 0#32
  let v548 : BitVec 1 := Scalar.cmpi .slt v546 c0_i32_303
  let c0_i32_304 : BitVec 32 := 0#32
  let v549 : BitVec 1 := Scalar.cmpi .slt v545 c0_i32_304
  let v550 : BitVec 1 := Scalar.xori v548 v549
  let c0_i32_302 : BitVec 32 := 0#32
  let v547 : BitVec 1 := Scalar.cmpi .ne v546 c0_i32_302
  let v551 : BitVec 1 := Scalar.andi v550 v547
  let v552 : BitVec 32 := Scalar.addi v546 v545
  let v553 : BitVec 32 := Scalar.select v551 v552 v546
  ![v553.toNat]
def k0_off111 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_297 : BitVec 32 := 128#32
  let v539 : BitVec 32 := Scalar.addi v62 c128_i32_297
  let c32_i32_298 : BitVec 32 := 32#32
  let v540 : BitVec 32 := Scalar.subi v539 c32_i32_298
  let c25_i32 : BitVec 32 := 25#32
  let v541 : BitVec 32 := Scalar.addi v540 c25_i32
  let c0_i32_305 : BitVec 32 := 0#32
  ![v541.toNat, 0]
def k0_off112 (v543 : BitVec 32) : Fin 2 → Nat :=
  let c0_i32_306 : BitVec 32 := 0#32
  ![v543.toNat, 0]

def k0_chk28 (v543 : BitVec 32) : Prop :=
  (∀ a, (k0_off112 v543) a + S1x1024.size a ≤ S8192x1024.size a)
theorem k0_off112_inb : ∀ (v543 : BitVec 32) (k0_hw28 : k0_chk28 v543), ∀ a, (k0_off112 v543) a + S1x1024.size a ≤ S8192x1024.size a := fun v543 k0_hw28 => k0_hw28

def k0_off113 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_307 : BitVec 32 := 128#32
  let v558 : BitVec 32 := Scalar.addi v62 c128_i32_307
  let c32_i32_308 : BitVec 32 := 32#32
  let v559 : BitVec 32 := Scalar.subi v558 c32_i32_308
  let c26_i32 : BitVec 32 := 26#32
  let v560 : BitVec 32 := Scalar.addi v559 c26_i32
  let v561 : Index := Scalar.indexCast v560
  ![v561.toNat]
def k0_off114 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_307 : BitVec 32 := 128#32
  let v558 : BitVec 32 := Scalar.addi v62 c128_i32_307
  let c32_i32_308 : BitVec 32 := 32#32
  let v559 : BitVec 32 := Scalar.subi v558 c32_i32_308
  let c26_i32 : BitVec 32 := 26#32
  let v560 : BitVec 32 := Scalar.addi v559 c26_i32
  let c32_i32_309 : BitVec 32 := 32#32
  let c0_i32_310 : BitVec 32 := 0#32
  let v563 : BitVec 1 := Scalar.cmpi .eq c32_i32_309 c0_i32_310
  let c1_i32_311 : BitVec 32 := 1#32
  let v564 : BitVec 32 := Scalar.select v563 c1_i32_311 c32_i32_309
  let v565 : BitVec 32 := Scalar.remsi v560 v564
  let c0_i32_313 : BitVec 32 := 0#32
  let v567 : BitVec 1 := Scalar.cmpi .slt v565 c0_i32_313
  let c0_i32_314 : BitVec 32 := 0#32
  let v568 : BitVec 1 := Scalar.cmpi .slt v564 c0_i32_314
  let v569 : BitVec 1 := Scalar.xori v567 v568
  let c0_i32_312 : BitVec 32 := 0#32
  let v566 : BitVec 1 := Scalar.cmpi .ne v565 c0_i32_312
  let v570 : BitVec 1 := Scalar.andi v569 v566
  let v571 : BitVec 32 := Scalar.addi v565 v564
  let v572 : BitVec 32 := Scalar.select v570 v571 v565
  ![v572.toNat]
def k0_off115 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_307 : BitVec 32 := 128#32
  let v558 : BitVec 32 := Scalar.addi v62 c128_i32_307
  let c32_i32_308 : BitVec 32 := 32#32
  let v559 : BitVec 32 := Scalar.subi v558 c32_i32_308
  let c26_i32 : BitVec 32 := 26#32
  let v560 : BitVec 32 := Scalar.addi v559 c26_i32
  let c0_i32_315 : BitVec 32 := 0#32
  ![v560.toNat, 0]
def k0_off116 (v562 : BitVec 32) : Fin 2 → Nat :=
  let c0_i32_316 : BitVec 32 := 0#32
  ![v562.toNat, 0]

def k0_chk29 (v562 : BitVec 32) : Prop :=
  (∀ a, (k0_off116 v562) a + S1x1024.size a ≤ S8192x1024.size a)
theorem k0_off116_inb : ∀ (v562 : BitVec 32) (k0_hw29 : k0_chk29 v562), ∀ a, (k0_off116 v562) a + S1x1024.size a ≤ S8192x1024.size a := fun v562 k0_hw29 => k0_hw29

def k0_off117 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_317 : BitVec 32 := 128#32
  let v577 : BitVec 32 := Scalar.addi v62 c128_i32_317
  let c32_i32_318 : BitVec 32 := 32#32
  let v578 : BitVec 32 := Scalar.subi v577 c32_i32_318
  let c27_i32 : BitVec 32 := 27#32
  let v579 : BitVec 32 := Scalar.addi v578 c27_i32
  let v580 : Index := Scalar.indexCast v579
  ![v580.toNat]
def k0_off118 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_317 : BitVec 32 := 128#32
  let v577 : BitVec 32 := Scalar.addi v62 c128_i32_317
  let c32_i32_318 : BitVec 32 := 32#32
  let v578 : BitVec 32 := Scalar.subi v577 c32_i32_318
  let c27_i32 : BitVec 32 := 27#32
  let v579 : BitVec 32 := Scalar.addi v578 c27_i32
  let c32_i32_319 : BitVec 32 := 32#32
  let c0_i32_320 : BitVec 32 := 0#32
  let v582 : BitVec 1 := Scalar.cmpi .eq c32_i32_319 c0_i32_320
  let c1_i32_321 : BitVec 32 := 1#32
  let v583 : BitVec 32 := Scalar.select v582 c1_i32_321 c32_i32_319
  let v584 : BitVec 32 := Scalar.remsi v579 v583
  let c0_i32_323 : BitVec 32 := 0#32
  let v586 : BitVec 1 := Scalar.cmpi .slt v584 c0_i32_323
  let c0_i32_324 : BitVec 32 := 0#32
  let v587 : BitVec 1 := Scalar.cmpi .slt v583 c0_i32_324
  let v588 : BitVec 1 := Scalar.xori v586 v587
  let c0_i32_322 : BitVec 32 := 0#32
  let v585 : BitVec 1 := Scalar.cmpi .ne v584 c0_i32_322
  let v589 : BitVec 1 := Scalar.andi v588 v585
  let v590 : BitVec 32 := Scalar.addi v584 v583
  let v591 : BitVec 32 := Scalar.select v589 v590 v584
  ![v591.toNat]
def k0_off119 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_317 : BitVec 32 := 128#32
  let v577 : BitVec 32 := Scalar.addi v62 c128_i32_317
  let c32_i32_318 : BitVec 32 := 32#32
  let v578 : BitVec 32 := Scalar.subi v577 c32_i32_318
  let c27_i32 : BitVec 32 := 27#32
  let v579 : BitVec 32 := Scalar.addi v578 c27_i32
  let c0_i32_325 : BitVec 32 := 0#32
  ![v579.toNat, 0]
def k0_off120 (v581 : BitVec 32) : Fin 2 → Nat :=
  let c0_i32_326 : BitVec 32 := 0#32
  ![v581.toNat, 0]

def k0_chk30 (v581 : BitVec 32) : Prop :=
  (∀ a, (k0_off120 v581) a + S1x1024.size a ≤ S8192x1024.size a)
theorem k0_off120_inb : ∀ (v581 : BitVec 32) (k0_hw30 : k0_chk30 v581), ∀ a, (k0_off120 v581) a + S1x1024.size a ≤ S8192x1024.size a := fun v581 k0_hw30 => k0_hw30

def k0_off121 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_327 : BitVec 32 := 128#32
  let v596 : BitVec 32 := Scalar.addi v62 c128_i32_327
  let c32_i32_328 : BitVec 32 := 32#32
  let v597 : BitVec 32 := Scalar.subi v596 c32_i32_328
  let c28_i32 : BitVec 32 := 28#32
  let v598 : BitVec 32 := Scalar.addi v597 c28_i32
  let v599 : Index := Scalar.indexCast v598
  ![v599.toNat]
def k0_off122 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_327 : BitVec 32 := 128#32
  let v596 : BitVec 32 := Scalar.addi v62 c128_i32_327
  let c32_i32_328 : BitVec 32 := 32#32
  let v597 : BitVec 32 := Scalar.subi v596 c32_i32_328
  let c28_i32 : BitVec 32 := 28#32
  let v598 : BitVec 32 := Scalar.addi v597 c28_i32
  let c32_i32_329 : BitVec 32 := 32#32
  let c0_i32_330 : BitVec 32 := 0#32
  let v601 : BitVec 1 := Scalar.cmpi .eq c32_i32_329 c0_i32_330
  let c1_i32_331 : BitVec 32 := 1#32
  let v602 : BitVec 32 := Scalar.select v601 c1_i32_331 c32_i32_329
  let v603 : BitVec 32 := Scalar.remsi v598 v602
  let c0_i32_333 : BitVec 32 := 0#32
  let v605 : BitVec 1 := Scalar.cmpi .slt v603 c0_i32_333
  let c0_i32_334 : BitVec 32 := 0#32
  let v606 : BitVec 1 := Scalar.cmpi .slt v602 c0_i32_334
  let v607 : BitVec 1 := Scalar.xori v605 v606
  let c0_i32_332 : BitVec 32 := 0#32
  let v604 : BitVec 1 := Scalar.cmpi .ne v603 c0_i32_332
  let v608 : BitVec 1 := Scalar.andi v607 v604
  let v609 : BitVec 32 := Scalar.addi v603 v602
  let v610 : BitVec 32 := Scalar.select v608 v609 v603
  ![v610.toNat]
def k0_off123 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_327 : BitVec 32 := 128#32
  let v596 : BitVec 32 := Scalar.addi v62 c128_i32_327
  let c32_i32_328 : BitVec 32 := 32#32
  let v597 : BitVec 32 := Scalar.subi v596 c32_i32_328
  let c28_i32 : BitVec 32 := 28#32
  let v598 : BitVec 32 := Scalar.addi v597 c28_i32
  let c0_i32_335 : BitVec 32 := 0#32
  ![v598.toNat, 0]
def k0_off124 (v600 : BitVec 32) : Fin 2 → Nat :=
  let c0_i32_336 : BitVec 32 := 0#32
  ![v600.toNat, 0]

def k0_chk31 (v600 : BitVec 32) : Prop :=
  (∀ a, (k0_off124 v600) a + S1x1024.size a ≤ S8192x1024.size a)
theorem k0_off124_inb : ∀ (v600 : BitVec 32) (k0_hw31 : k0_chk31 v600), ∀ a, (k0_off124 v600) a + S1x1024.size a ≤ S8192x1024.size a := fun v600 k0_hw31 => k0_hw31

def k0_off125 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_337 : BitVec 32 := 128#32
  let v615 : BitVec 32 := Scalar.addi v62 c128_i32_337
  let c32_i32_338 : BitVec 32 := 32#32
  let v616 : BitVec 32 := Scalar.subi v615 c32_i32_338
  let c29_i32 : BitVec 32 := 29#32
  let v617 : BitVec 32 := Scalar.addi v616 c29_i32
  let v618 : Index := Scalar.indexCast v617
  ![v618.toNat]
def k0_off126 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_337 : BitVec 32 := 128#32
  let v615 : BitVec 32 := Scalar.addi v62 c128_i32_337
  let c32_i32_338 : BitVec 32 := 32#32
  let v616 : BitVec 32 := Scalar.subi v615 c32_i32_338
  let c29_i32 : BitVec 32 := 29#32
  let v617 : BitVec 32 := Scalar.addi v616 c29_i32
  let c32_i32_339 : BitVec 32 := 32#32
  let c0_i32_340 : BitVec 32 := 0#32
  let v620 : BitVec 1 := Scalar.cmpi .eq c32_i32_339 c0_i32_340
  let c1_i32_341 : BitVec 32 := 1#32
  let v621 : BitVec 32 := Scalar.select v620 c1_i32_341 c32_i32_339
  let v622 : BitVec 32 := Scalar.remsi v617 v621
  let c0_i32_343 : BitVec 32 := 0#32
  let v624 : BitVec 1 := Scalar.cmpi .slt v622 c0_i32_343
  let c0_i32_344 : BitVec 32 := 0#32
  let v625 : BitVec 1 := Scalar.cmpi .slt v621 c0_i32_344
  let v626 : BitVec 1 := Scalar.xori v624 v625
  let c0_i32_342 : BitVec 32 := 0#32
  let v623 : BitVec 1 := Scalar.cmpi .ne v622 c0_i32_342
  let v627 : BitVec 1 := Scalar.andi v626 v623
  let v628 : BitVec 32 := Scalar.addi v622 v621
  let v629 : BitVec 32 := Scalar.select v627 v628 v622
  ![v629.toNat]
def k0_off127 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_337 : BitVec 32 := 128#32
  let v615 : BitVec 32 := Scalar.addi v62 c128_i32_337
  let c32_i32_338 : BitVec 32 := 32#32
  let v616 : BitVec 32 := Scalar.subi v615 c32_i32_338
  let c29_i32 : BitVec 32 := 29#32
  let v617 : BitVec 32 := Scalar.addi v616 c29_i32
  let c0_i32_345 : BitVec 32 := 0#32
  ![v617.toNat, 0]
def k0_off128 (v619 : BitVec 32) : Fin 2 → Nat :=
  let c0_i32_346 : BitVec 32 := 0#32
  ![v619.toNat, 0]

def k0_chk32 (v619 : BitVec 32) : Prop :=
  (∀ a, (k0_off128 v619) a + S1x1024.size a ≤ S8192x1024.size a)
theorem k0_off128_inb : ∀ (v619 : BitVec 32) (k0_hw32 : k0_chk32 v619), ∀ a, (k0_off128 v619) a + S1x1024.size a ≤ S8192x1024.size a := fun v619 k0_hw32 => k0_hw32

def k0_off129 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_347 : BitVec 32 := 128#32
  let v634 : BitVec 32 := Scalar.addi v62 c128_i32_347
  let c32_i32_348 : BitVec 32 := 32#32
  let v635 : BitVec 32 := Scalar.subi v634 c32_i32_348
  let c30_i32 : BitVec 32 := 30#32
  let v636 : BitVec 32 := Scalar.addi v635 c30_i32
  let v637 : Index := Scalar.indexCast v636
  ![v637.toNat]
def k0_off130 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_347 : BitVec 32 := 128#32
  let v634 : BitVec 32 := Scalar.addi v62 c128_i32_347
  let c32_i32_348 : BitVec 32 := 32#32
  let v635 : BitVec 32 := Scalar.subi v634 c32_i32_348
  let c30_i32 : BitVec 32 := 30#32
  let v636 : BitVec 32 := Scalar.addi v635 c30_i32
  let c32_i32_349 : BitVec 32 := 32#32
  let c0_i32_350 : BitVec 32 := 0#32
  let v639 : BitVec 1 := Scalar.cmpi .eq c32_i32_349 c0_i32_350
  let c1_i32_351 : BitVec 32 := 1#32
  let v640 : BitVec 32 := Scalar.select v639 c1_i32_351 c32_i32_349
  let v641 : BitVec 32 := Scalar.remsi v636 v640
  let c0_i32_353 : BitVec 32 := 0#32
  let v643 : BitVec 1 := Scalar.cmpi .slt v641 c0_i32_353
  let c0_i32_354 : BitVec 32 := 0#32
  let v644 : BitVec 1 := Scalar.cmpi .slt v640 c0_i32_354
  let v645 : BitVec 1 := Scalar.xori v643 v644
  let c0_i32_352 : BitVec 32 := 0#32
  let v642 : BitVec 1 := Scalar.cmpi .ne v641 c0_i32_352
  let v646 : BitVec 1 := Scalar.andi v645 v642
  let v647 : BitVec 32 := Scalar.addi v641 v640
  let v648 : BitVec 32 := Scalar.select v646 v647 v641
  ![v648.toNat]
def k0_off131 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_347 : BitVec 32 := 128#32
  let v634 : BitVec 32 := Scalar.addi v62 c128_i32_347
  let c32_i32_348 : BitVec 32 := 32#32
  let v635 : BitVec 32 := Scalar.subi v634 c32_i32_348
  let c30_i32 : BitVec 32 := 30#32
  let v636 : BitVec 32 := Scalar.addi v635 c30_i32
  let c0_i32_355 : BitVec 32 := 0#32
  ![v636.toNat, 0]
def k0_off132 (v638 : BitVec 32) : Fin 2 → Nat :=
  let c0_i32_356 : BitVec 32 := 0#32
  ![v638.toNat, 0]

def k0_chk33 (v638 : BitVec 32) : Prop :=
  (∀ a, (k0_off132 v638) a + S1x1024.size a ≤ S8192x1024.size a)
theorem k0_off132_inb : ∀ (v638 : BitVec 32) (k0_hw33 : k0_chk33 v638), ∀ a, (k0_off132 v638) a + S1x1024.size a ≤ S8192x1024.size a := fun v638 k0_hw33 => k0_hw33

def k0_off133 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_357 : BitVec 32 := 128#32
  let v653 : BitVec 32 := Scalar.addi v62 c128_i32_357
  let c32_i32_358 : BitVec 32 := 32#32
  let v654 : BitVec 32 := Scalar.subi v653 c32_i32_358
  let c31_i32 : BitVec 32 := 31#32
  let v655 : BitVec 32 := Scalar.addi v654 c31_i32
  let v656 : Index := Scalar.indexCast v655
  ![v656.toNat]
def k0_off134 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_357 : BitVec 32 := 128#32
  let v653 : BitVec 32 := Scalar.addi v62 c128_i32_357
  let c32_i32_358 : BitVec 32 := 32#32
  let v654 : BitVec 32 := Scalar.subi v653 c32_i32_358
  let c31_i32 : BitVec 32 := 31#32
  let v655 : BitVec 32 := Scalar.addi v654 c31_i32
  let c32_i32_359 : BitVec 32 := 32#32
  let c0_i32_360 : BitVec 32 := 0#32
  let v658 : BitVec 1 := Scalar.cmpi .eq c32_i32_359 c0_i32_360
  let c1_i32_361 : BitVec 32 := 1#32
  let v659 : BitVec 32 := Scalar.select v658 c1_i32_361 c32_i32_359
  let v660 : BitVec 32 := Scalar.remsi v655 v659
  let c0_i32_363 : BitVec 32 := 0#32
  let v662 : BitVec 1 := Scalar.cmpi .slt v660 c0_i32_363
  let c0_i32_364 : BitVec 32 := 0#32
  let v663 : BitVec 1 := Scalar.cmpi .slt v659 c0_i32_364
  let v664 : BitVec 1 := Scalar.xori v662 v663
  let c0_i32_362 : BitVec 32 := 0#32
  let v661 : BitVec 1 := Scalar.cmpi .ne v660 c0_i32_362
  let v665 : BitVec 1 := Scalar.andi v664 v661
  let v666 : BitVec 32 := Scalar.addi v660 v659
  let v667 : BitVec 32 := Scalar.select v665 v666 v660
  ![v667.toNat]
def k0_off135 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let c128_i32_357 : BitVec 32 := 128#32
  let v653 : BitVec 32 := Scalar.addi v62 c128_i32_357
  let c32_i32_358 : BitVec 32 := 32#32
  let v654 : BitVec 32 := Scalar.subi v653 c32_i32_358
  let c31_i32 : BitVec 32 := 31#32
  let v655 : BitVec 32 := Scalar.addi v654 c31_i32
  let c0_i32_365 : BitVec 32 := 0#32
  ![v655.toNat, 0]
def k0_off136 (v657 : BitVec 32) : Fin 2 → Nat :=
  let c0_i32_366 : BitVec 32 := 0#32
  ![v657.toNat, 0]

def k0_chk34 (v657 : BitVec 32) : Prop :=
  (∀ a, (k0_off136 v657) a + S1x1024.size a ≤ S8192x1024.size a)
theorem k0_off136_inb : ∀ (v657 : BitVec 32) (k0_hw34 : k0_chk34 v657), ∀ a, (k0_off136 v657) a + S1x1024.size a ≤ S8192x1024.size a := fun v657 k0_hw34 => k0_hw34

def k0_off137 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let v672 : Index := Scalar.indexCast v62
  let c0 : Index := 0#32
  ![v672.toNat, 0]
def k0_off138 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_31 : BitVec 32 := 0#32
  let v51 : BitVec 32 := Scalar.subi v5 c0_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let v674 : Index := Scalar.indexCast v62
  let c0_367 : Index := 0#32
  ![v674.toNat, 0]
def k0_off139 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_369 : BitVec 32 := 0#32
  let v684 : BitVec 32 := Scalar.subi v5 c0_i32_369
  let c4_i32_370 : BitVec 32 := 4#32
  let c0_i32_371 : BitVec 32 := 0#32
  let v685 : BitVec 1 := Scalar.cmpi .eq c4_i32_370 c0_i32_371
  let c1_i32_372 : BitVec 32 := 1#32
  let v686 : BitVec 32 := Scalar.select v685 c1_i32_372 c4_i32_370
  let v687 : BitVec 32 := Scalar.remsi v684 v686
  let c0_i32_374 : BitVec 32 := 0#32
  let v689 : BitVec 1 := Scalar.cmpi .slt v687 c0_i32_374
  let c0_i32_375 : BitVec 32 := 0#32
  let v690 : BitVec 1 := Scalar.cmpi .slt v686 c0_i32_375
  let v691 : BitVec 1 := Scalar.xori v689 v690
  let c0_i32_373 : BitVec 32 := 0#32
  let v688 : BitVec 1 := Scalar.cmpi .ne v687 c0_i32_373
  let v692 : BitVec 1 := Scalar.andi v691 v688
  let v693 : BitVec 32 := Scalar.addi v687 v686
  let v694 : BitVec 32 := Scalar.select v692 v693 v687
  let c128_i32_384 : BitVec 32 := 128#32
  let v707 : BitVec 32 := Scalar.muli v694 c128_i32_384
  let c0_i32_394 : BitVec 32 := 0#32
  ![v707.toNat, 0]
def k0_dev4 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_388 : BitVec 32 := 16#32
  let v708 : BitVec 32 := Scalar.muli v2 c16_i32_388
  let v709 : BitVec 32 := Scalar.addi c0_i32_389 v708
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_390 : BitVec 32 := 4#32
  let v710 : BitVec 32 := Scalar.muli v19 c4_i32_390
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v712 : BitVec 32 := Scalar.muli v8 c1_i32_391
  let v713 : BitVec 32 := Scalar.addi v711 v712
  v713.toNat
@[reducible] def k0_t2_loop : Scf.Loop 32 :=
  let c0_i32_403 : BitVec 32 := 0#32
  let c128_i32_404 : BitVec 32 := 128#32
  let v733 : BitVec 32 := Scalar.addi c0_i32_403 c128_i32_404
  let c1_i32_405 : BitVec 32 := 1#32
  ⟨c0_i32_403, v733, c1_i32_405⟩
def k0_off140 (d0 : Dev nD) (k0_t2 : Fin k0_t2_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3071 : BitVec 32 := Scalar.addi v732 arg16
  let v3072 : Index := Scalar.indexCast v3071
  ![v3072.toNat]
def k0_off141 (d0 : Dev nD) (k0_t2 : Fin k0_t2_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3071 : BitVec 32 := Scalar.addi v732 arg16
  let c32_i32_1844 : BitVec 32 := 32#32
  let c0_i32_1845 : BitVec 32 := 0#32
  let v3074 : BitVec 1 := Scalar.cmpi .eq c32_i32_1844 c0_i32_1845
  let c1_i32_1846 : BitVec 32 := 1#32
  let v3075 : BitVec 32 := Scalar.select v3074 c1_i32_1846 c32_i32_1844
  let v3076 : BitVec 32 := Scalar.remsi v3071 v3075
  let c0_i32_1848 : BitVec 32 := 0#32
  let v3078 : BitVec 1 := Scalar.cmpi .slt v3076 c0_i32_1848
  let c0_i32_1849 : BitVec 32 := 0#32
  let v3079 : BitVec 1 := Scalar.cmpi .slt v3075 c0_i32_1849
  let v3080 : BitVec 1 := Scalar.xori v3078 v3079
  let c0_i32_1847 : BitVec 32 := 0#32
  let v3077 : BitVec 1 := Scalar.cmpi .ne v3076 c0_i32_1847
  let v3081 : BitVec 1 := Scalar.andi v3080 v3077
  let v3082 : BitVec 32 := Scalar.addi v3076 v3075
  let v3083 : BitVec 32 := Scalar.select v3081 v3082 v3076
  ![v3083.toNat]
def k0_off142 (d0 : Dev nD) (k0_t2 : Fin k0_t2_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3071 : BitVec 32 := Scalar.addi v732 arg16
  let c0_i32_1850 : BitVec 32 := 0#32
  ![v3071.toNat, 0]
def k0_off143 (v3073 : BitVec 32) : Fin 2 → Nat :=
  let c0_i32_1851 : BitVec 32 := 0#32
  ![v3073.toNat, 0]

def k0_chk35 (v3073 : BitVec 32) : Prop :=
  (∀ a, (k0_off143 v3073) a + S1x1024.size a ≤ S8192x1024.size a)
theorem k0_off143_inb : ∀ (v3073 : BitVec 32) (k0_hw35 : k0_chk35 v3073), ∀ a, (k0_off143 v3073) a + S1x1024.size a ≤ S8192x1024.size a := fun v3073 k0_hw35 => k0_hw35

def k0_cond2 (k0_t2 : Fin k0_t2_loop.trips) : BitVec 1 :=
  let c0_i32_403 : BitVec 32 := 0#32
  let c1_i32_405 : BitVec 32 := 1#32
  let arg16 : BitVec 32 := Scf.iv c0_i32_403 c1_i32_405 k0_t2
  let c32_i32_1852 : BitVec 32 := 32#32
  let v3088 : BitVec 1 := Scalar.cmpi .sge arg16 c32_i32_1852
  let v3089 : BitVec 32 := Scalar.extui v3088
  let c0_i32_1853 : BitVec 32 := 0#32
  let v3090 : BitVec 1 := Scalar.cmpi .ne v3089 c0_i32_1853
  v3090

def k0_off144 (d0 : Dev nD) (k0_t2 : Fin k0_t2_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3091 : BitVec 32 := Scalar.addi v732 arg16
  let c32_i32_1854 : BitVec 32 := 32#32
  let v3092 : BitVec 32 := Scalar.subi v3091 c32_i32_1854
  let v3093 : Index := Scalar.indexCast v3092
  ![v3093.toNat]
def k0_off145 (d0 : Dev nD) (k0_t2 : Fin k0_t2_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3091 : BitVec 32 := Scalar.addi v732 arg16
  let c32_i32_1854 : BitVec 32 := 32#32
  let v3092 : BitVec 32 := Scalar.subi v3091 c32_i32_1854
  let c32_i32_1855 : BitVec 32 := 32#32
  let c0_i32_1856 : BitVec 32 := 0#32
  let v3095 : BitVec 1 := Scalar.cmpi .eq c32_i32_1855 c0_i32_1856
  let c1_i32_1857 : BitVec 32 := 1#32
  let v3096 : BitVec 32 := Scalar.select v3095 c1_i32_1857 c32_i32_1855
  let v3097 : BitVec 32 := Scalar.remsi v3092 v3096
  let c0_i32_1859 : BitVec 32 := 0#32
  let v3099 : BitVec 1 := Scalar.cmpi .slt v3097 c0_i32_1859
  let c0_i32_1860 : BitVec 32 := 0#32
  let v3100 : BitVec 1 := Scalar.cmpi .slt v3096 c0_i32_1860
  let v3101 : BitVec 1 := Scalar.xori v3099 v3100
  let c0_i32_1858 : BitVec 32 := 0#32
  let v3098 : BitVec 1 := Scalar.cmpi .ne v3097 c0_i32_1858
  let v3102 : BitVec 1 := Scalar.andi v3101 v3098
  let v3103 : BitVec 32 := Scalar.addi v3097 v3096
  let v3104 : BitVec 32 := Scalar.select v3102 v3103 v3097
  ![v3104.toNat]
def k0_off146 (d0 : Dev nD) (k0_t2 : Fin k0_t2_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c0_i32_403 : BitVec 32 := 0#32
  let c1_i32_405 : BitVec 32 := 1#32
  let arg16 : BitVec 32 := Scf.iv c0_i32_403 c1_i32_405 k0_t2
  let v3091 : BitVec 32 := Scalar.addi v732 arg16
  let c32_i32_1854 : BitVec 32 := 32#32
  let v3092 : BitVec 32 := Scalar.subi v3091 c32_i32_1854
  let c0_i32_1861 : BitVec 32 := 0#32
  ![v3092.toNat, 0]
def k0_off147 (v3094 : BitVec 32) : Fin 2 → Nat :=
  let c0_i32_1862 : BitVec 32 := 0#32
  ![v3094.toNat, 0]

def k0_chk36 (k0_t2 : Fin k0_t2_loop.trips) (v3094 : BitVec 32) : Prop :=
  (∀ (k0_h2 : k0_cond2 k0_t2 = 1#1), ∀ a, (k0_off147 v3094) a + S1x1024.size a ≤ S8192x1024.size a)
theorem k0_off147_inb : ∀ (k0_t2 : Fin k0_t2_loop.trips) (v3094 : BitVec 32) (k0_hw36 : k0_chk36 k0_t2 v3094), ∀ (k0_h2 : k0_cond2 k0_t2 = 1#1), ∀ a, (k0_off147 v3094) a + S1x1024.size a ≤ S8192x1024.size a := fun k0_t2 v3094 k0_hw36 k0_h2 => k0_hw36 k0_h2

def k0_off148 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_407 : BitVec 32 := 128#32
  let v734 : BitVec 32 := Scalar.addi v732 c128_i32_407
  let c32_i32_408 : BitVec 32 := 32#32
  let v735 : BitVec 32 := Scalar.subi v734 c32_i32_408
  let c0_i32_409 : BitVec 32 := 0#32
  let v736 : BitVec 32 := Scalar.addi v735 c0_i32_409
  let v737 : Index := Scalar.indexCast v736
  ![v737.toNat]
def k0_off149 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_407 : BitVec 32 := 128#32
  let v734 : BitVec 32 := Scalar.addi v732 c128_i32_407
  let c32_i32_408 : BitVec 32 := 32#32
  let v735 : BitVec 32 := Scalar.subi v734 c32_i32_408
  let c0_i32_409 : BitVec 32 := 0#32
  let v736 : BitVec 32 := Scalar.addi v735 c0_i32_409
  let c32_i32_410 : BitVec 32 := 32#32
  let c0_i32_411 : BitVec 32 := 0#32
  let v739 : BitVec 1 := Scalar.cmpi .eq c32_i32_410 c0_i32_411
  let c1_i32_412 : BitVec 32 := 1#32
  let v740 : BitVec 32 := Scalar.select v739 c1_i32_412 c32_i32_410
  let v741 : BitVec 32 := Scalar.remsi v736 v740
  let c0_i32_414 : BitVec 32 := 0#32
  let v743 : BitVec 1 := Scalar.cmpi .slt v741 c0_i32_414
  let c0_i32_415 : BitVec 32 := 0#32
  let v744 : BitVec 1 := Scalar.cmpi .slt v740 c0_i32_415
  let v745 : BitVec 1 := Scalar.xori v743 v744
  let c0_i32_413 : BitVec 32 := 0#32
  let v742 : BitVec 1 := Scalar.cmpi .ne v741 c0_i32_413
  let v746 : BitVec 1 := Scalar.andi v745 v742
  let v747 : BitVec 32 := Scalar.addi v741 v740
  let v748 : BitVec 32 := Scalar.select v746 v747 v741
  ![v748.toNat]
def k0_off150 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_407 : BitVec 32 := 128#32
  let v734 : BitVec 32 := Scalar.addi v732 c128_i32_407
  let c32_i32_408 : BitVec 32 := 32#32
  let v735 : BitVec 32 := Scalar.subi v734 c32_i32_408
  let c0_i32_409 : BitVec 32 := 0#32
  let v736 : BitVec 32 := Scalar.addi v735 c0_i32_409
  let c0_i32_416 : BitVec 32 := 0#32
  ![v736.toNat, 0]
def k0_off151 (v738 : BitVec 32) : Fin 2 → Nat :=
  let c0_i32_417 : BitVec 32 := 0#32
  ![v738.toNat, 0]

def k0_chk37 (v738 : BitVec 32) : Prop :=
  (∀ a, (k0_off151 v738) a + S1x1024.size a ≤ S8192x1024.size a)
theorem k0_off151_inb : ∀ (v738 : BitVec 32) (k0_hw37 : k0_chk37 v738), ∀ a, (k0_off151 v738) a + S1x1024.size a ≤ S8192x1024.size a := fun v738 k0_hw37 => k0_hw37

def k0_off152 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_418 : BitVec 32 := 128#32
  let v753 : BitVec 32 := Scalar.addi v732 c128_i32_418
  let c32_i32_419 : BitVec 32 := 32#32
  let v754 : BitVec 32 := Scalar.subi v753 c32_i32_419
  let c1_i32_420 : BitVec 32 := 1#32
  let v755 : BitVec 32 := Scalar.addi v754 c1_i32_420
  let v756 : Index := Scalar.indexCast v755
  ![v756.toNat]
def k0_off153 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_418 : BitVec 32 := 128#32
  let v753 : BitVec 32 := Scalar.addi v732 c128_i32_418
  let c32_i32_419 : BitVec 32 := 32#32
  let v754 : BitVec 32 := Scalar.subi v753 c32_i32_419
  let c1_i32_420 : BitVec 32 := 1#32
  let v755 : BitVec 32 := Scalar.addi v754 c1_i32_420
  let c32_i32_421 : BitVec 32 := 32#32
  let c0_i32_422 : BitVec 32 := 0#32
  let v758 : BitVec 1 := Scalar.cmpi .eq c32_i32_421 c0_i32_422
  let c1_i32_423 : BitVec 32 := 1#32
  let v759 : BitVec 32 := Scalar.select v758 c1_i32_423 c32_i32_421
  let v760 : BitVec 32 := Scalar.remsi v755 v759
  let c0_i32_425 : BitVec 32 := 0#32
  let v762 : BitVec 1 := Scalar.cmpi .slt v760 c0_i32_425
  let c0_i32_426 : BitVec 32 := 0#32
  let v763 : BitVec 1 := Scalar.cmpi .slt v759 c0_i32_426
  let v764 : BitVec 1 := Scalar.xori v762 v763
  let c0_i32_424 : BitVec 32 := 0#32
  let v761 : BitVec 1 := Scalar.cmpi .ne v760 c0_i32_424
  let v765 : BitVec 1 := Scalar.andi v764 v761
  let v766 : BitVec 32 := Scalar.addi v760 v759
  let v767 : BitVec 32 := Scalar.select v765 v766 v760
  ![v767.toNat]
def k0_off154 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_418 : BitVec 32 := 128#32
  let v753 : BitVec 32 := Scalar.addi v732 c128_i32_418
  let c32_i32_419 : BitVec 32 := 32#32
  let v754 : BitVec 32 := Scalar.subi v753 c32_i32_419
  let c1_i32_420 : BitVec 32 := 1#32
  let v755 : BitVec 32 := Scalar.addi v754 c1_i32_420
  let c0_i32_427 : BitVec 32 := 0#32
  ![v755.toNat, 0]
def k0_off155 (v757 : BitVec 32) : Fin 2 → Nat :=
  let c0_i32_428 : BitVec 32 := 0#32
  ![v757.toNat, 0]

def k0_chk38 (v757 : BitVec 32) : Prop :=
  (∀ a, (k0_off155 v757) a + S1x1024.size a ≤ S8192x1024.size a)
theorem k0_off155_inb : ∀ (v757 : BitVec 32) (k0_hw38 : k0_chk38 v757), ∀ a, (k0_off155 v757) a + S1x1024.size a ≤ S8192x1024.size a := fun v757 k0_hw38 => k0_hw38

def k0_off156 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_429 : BitVec 32 := 128#32
  let v772 : BitVec 32 := Scalar.addi v732 c128_i32_429
  let c32_i32_430 : BitVec 32 := 32#32
  let v773 : BitVec 32 := Scalar.subi v772 c32_i32_430
  let c2_i32_431 : BitVec 32 := 2#32
  let v774 : BitVec 32 := Scalar.addi v773 c2_i32_431
  let v775 : Index := Scalar.indexCast v774
  ![v775.toNat]
def k0_off157 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_429 : BitVec 32 := 128#32
  let v772 : BitVec 32 := Scalar.addi v732 c128_i32_429
  let c32_i32_430 : BitVec 32 := 32#32
  let v773 : BitVec 32 := Scalar.subi v772 c32_i32_430
  let c2_i32_431 : BitVec 32 := 2#32
  let v774 : BitVec 32 := Scalar.addi v773 c2_i32_431
  let c32_i32_432 : BitVec 32 := 32#32
  let c0_i32_433 : BitVec 32 := 0#32
  let v777 : BitVec 1 := Scalar.cmpi .eq c32_i32_432 c0_i32_433
  let c1_i32_434 : BitVec 32 := 1#32
  let v778 : BitVec 32 := Scalar.select v777 c1_i32_434 c32_i32_432
  let v779 : BitVec 32 := Scalar.remsi v774 v778
  let c0_i32_436 : BitVec 32 := 0#32
  let v781 : BitVec 1 := Scalar.cmpi .slt v779 c0_i32_436
  let c0_i32_437 : BitVec 32 := 0#32
  let v782 : BitVec 1 := Scalar.cmpi .slt v778 c0_i32_437
  let v783 : BitVec 1 := Scalar.xori v781 v782
  let c0_i32_435 : BitVec 32 := 0#32
  let v780 : BitVec 1 := Scalar.cmpi .ne v779 c0_i32_435
  let v784 : BitVec 1 := Scalar.andi v783 v780
  let v785 : BitVec 32 := Scalar.addi v779 v778
  let v786 : BitVec 32 := Scalar.select v784 v785 v779
  ![v786.toNat]
def k0_off158 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_429 : BitVec 32 := 128#32
  let v772 : BitVec 32 := Scalar.addi v732 c128_i32_429
  let c32_i32_430 : BitVec 32 := 32#32
  let v773 : BitVec 32 := Scalar.subi v772 c32_i32_430
  let c2_i32_431 : BitVec 32 := 2#32
  let v774 : BitVec 32 := Scalar.addi v773 c2_i32_431
  let c0_i32_438 : BitVec 32 := 0#32
  ![v774.toNat, 0]
def k0_off159 (v776 : BitVec 32) : Fin 2 → Nat :=
  let c0_i32_439 : BitVec 32 := 0#32
  ![v776.toNat, 0]

def k0_chk39 (v776 : BitVec 32) : Prop :=
  (∀ a, (k0_off159 v776) a + S1x1024.size a ≤ S8192x1024.size a)
theorem k0_off159_inb : ∀ (v776 : BitVec 32) (k0_hw39 : k0_chk39 v776), ∀ a, (k0_off159 v776) a + S1x1024.size a ≤ S8192x1024.size a := fun v776 k0_hw39 => k0_hw39

def k0_off160 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_440 : BitVec 32 := 128#32
  let v791 : BitVec 32 := Scalar.addi v732 c128_i32_440
  let c32_i32_441 : BitVec 32 := 32#32
  let v792 : BitVec 32 := Scalar.subi v791 c32_i32_441
  let c3_i32_442 : BitVec 32 := 3#32
  let v793 : BitVec 32 := Scalar.addi v792 c3_i32_442
  let v794 : Index := Scalar.indexCast v793
  ![v794.toNat]
def k0_off161 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_440 : BitVec 32 := 128#32
  let v791 : BitVec 32 := Scalar.addi v732 c128_i32_440
  let c32_i32_441 : BitVec 32 := 32#32
  let v792 : BitVec 32 := Scalar.subi v791 c32_i32_441
  let c3_i32_442 : BitVec 32 := 3#32
  let v793 : BitVec 32 := Scalar.addi v792 c3_i32_442
  let c32_i32_443 : BitVec 32 := 32#32
  let c0_i32_444 : BitVec 32 := 0#32
  let v796 : BitVec 1 := Scalar.cmpi .eq c32_i32_443 c0_i32_444
  let c1_i32_445 : BitVec 32 := 1#32
  let v797 : BitVec 32 := Scalar.select v796 c1_i32_445 c32_i32_443
  let v798 : BitVec 32 := Scalar.remsi v793 v797
  let c0_i32_447 : BitVec 32 := 0#32
  let v800 : BitVec 1 := Scalar.cmpi .slt v798 c0_i32_447
  let c0_i32_448 : BitVec 32 := 0#32
  let v801 : BitVec 1 := Scalar.cmpi .slt v797 c0_i32_448
  let v802 : BitVec 1 := Scalar.xori v800 v801
  let c0_i32_446 : BitVec 32 := 0#32
  let v799 : BitVec 1 := Scalar.cmpi .ne v798 c0_i32_446
  let v803 : BitVec 1 := Scalar.andi v802 v799
  let v804 : BitVec 32 := Scalar.addi v798 v797
  let v805 : BitVec 32 := Scalar.select v803 v804 v798
  ![v805.toNat]
def k0_off162 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_440 : BitVec 32 := 128#32
  let v791 : BitVec 32 := Scalar.addi v732 c128_i32_440
  let c32_i32_441 : BitVec 32 := 32#32
  let v792 : BitVec 32 := Scalar.subi v791 c32_i32_441
  let c3_i32_442 : BitVec 32 := 3#32
  let v793 : BitVec 32 := Scalar.addi v792 c3_i32_442
  let c0_i32_449 : BitVec 32 := 0#32
  ![v793.toNat, 0]
def k0_off163 (v795 : BitVec 32) : Fin 2 → Nat :=
  let c0_i32_450 : BitVec 32 := 0#32
  ![v795.toNat, 0]

def k0_chk40 (v795 : BitVec 32) : Prop :=
  (∀ a, (k0_off163 v795) a + S1x1024.size a ≤ S8192x1024.size a)
theorem k0_off163_inb : ∀ (v795 : BitVec 32) (k0_hw40 : k0_chk40 v795), ∀ a, (k0_off163 v795) a + S1x1024.size a ≤ S8192x1024.size a := fun v795 k0_hw40 => k0_hw40

def k0_off164 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_451 : BitVec 32 := 128#32
  let v810 : BitVec 32 := Scalar.addi v732 c128_i32_451
  let c32_i32_452 : BitVec 32 := 32#32
  let v811 : BitVec 32 := Scalar.subi v810 c32_i32_452
  let c4_i32_453 : BitVec 32 := 4#32
  let v812 : BitVec 32 := Scalar.addi v811 c4_i32_453
  let v813 : Index := Scalar.indexCast v812
  ![v813.toNat]
def k0_off165 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_451 : BitVec 32 := 128#32
  let v810 : BitVec 32 := Scalar.addi v732 c128_i32_451
  let c32_i32_452 : BitVec 32 := 32#32
  let v811 : BitVec 32 := Scalar.subi v810 c32_i32_452
  let c4_i32_453 : BitVec 32 := 4#32
  let v812 : BitVec 32 := Scalar.addi v811 c4_i32_453
  let c32_i32_454 : BitVec 32 := 32#32
  let c0_i32_455 : BitVec 32 := 0#32
  let v815 : BitVec 1 := Scalar.cmpi .eq c32_i32_454 c0_i32_455
  let c1_i32_456 : BitVec 32 := 1#32
  let v816 : BitVec 32 := Scalar.select v815 c1_i32_456 c32_i32_454
  let v817 : BitVec 32 := Scalar.remsi v812 v816
  let c0_i32_458 : BitVec 32 := 0#32
  let v819 : BitVec 1 := Scalar.cmpi .slt v817 c0_i32_458
  let c0_i32_459 : BitVec 32 := 0#32
  let v820 : BitVec 1 := Scalar.cmpi .slt v816 c0_i32_459
  let v821 : BitVec 1 := Scalar.xori v819 v820
  let c0_i32_457 : BitVec 32 := 0#32
  let v818 : BitVec 1 := Scalar.cmpi .ne v817 c0_i32_457
  let v822 : BitVec 1 := Scalar.andi v821 v818
  let v823 : BitVec 32 := Scalar.addi v817 v816
  let v824 : BitVec 32 := Scalar.select v822 v823 v817
  ![v824.toNat]
def k0_off166 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_451 : BitVec 32 := 128#32
  let v810 : BitVec 32 := Scalar.addi v732 c128_i32_451
  let c32_i32_452 : BitVec 32 := 32#32
  let v811 : BitVec 32 := Scalar.subi v810 c32_i32_452
  let c4_i32_453 : BitVec 32 := 4#32
  let v812 : BitVec 32 := Scalar.addi v811 c4_i32_453
  let c0_i32_460 : BitVec 32 := 0#32
  ![v812.toNat, 0]
def k0_off167 (v814 : BitVec 32) : Fin 2 → Nat :=
  let c0_i32_461 : BitVec 32 := 0#32
  ![v814.toNat, 0]

def k0_chk41 (v814 : BitVec 32) : Prop :=
  (∀ a, (k0_off167 v814) a + S1x1024.size a ≤ S8192x1024.size a)
theorem k0_off167_inb : ∀ (v814 : BitVec 32) (k0_hw41 : k0_chk41 v814), ∀ a, (k0_off167 v814) a + S1x1024.size a ≤ S8192x1024.size a := fun v814 k0_hw41 => k0_hw41

def k0_off168 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_462 : BitVec 32 := 128#32
  let v829 : BitVec 32 := Scalar.addi v732 c128_i32_462
  let c32_i32_463 : BitVec 32 := 32#32
  let v830 : BitVec 32 := Scalar.subi v829 c32_i32_463
  let c5_i32_464 : BitVec 32 := 5#32
  let v831 : BitVec 32 := Scalar.addi v830 c5_i32_464
  let v832 : Index := Scalar.indexCast v831
  ![v832.toNat]
def k0_off169 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_462 : BitVec 32 := 128#32
  let v829 : BitVec 32 := Scalar.addi v732 c128_i32_462
  let c32_i32_463 : BitVec 32 := 32#32
  let v830 : BitVec 32 := Scalar.subi v829 c32_i32_463
  let c5_i32_464 : BitVec 32 := 5#32
  let v831 : BitVec 32 := Scalar.addi v830 c5_i32_464
  let c32_i32_465 : BitVec 32 := 32#32
  let c0_i32_466 : BitVec 32 := 0#32
  let v834 : BitVec 1 := Scalar.cmpi .eq c32_i32_465 c0_i32_466
  let c1_i32_467 : BitVec 32 := 1#32
  let v835 : BitVec 32 := Scalar.select v834 c1_i32_467 c32_i32_465
  let v836 : BitVec 32 := Scalar.remsi v831 v835
  let c0_i32_469 : BitVec 32 := 0#32
  let v838 : BitVec 1 := Scalar.cmpi .slt v836 c0_i32_469
  let c0_i32_470 : BitVec 32 := 0#32
  let v839 : BitVec 1 := Scalar.cmpi .slt v835 c0_i32_470
  let v840 : BitVec 1 := Scalar.xori v838 v839
  let c0_i32_468 : BitVec 32 := 0#32
  let v837 : BitVec 1 := Scalar.cmpi .ne v836 c0_i32_468
  let v841 : BitVec 1 := Scalar.andi v840 v837
  let v842 : BitVec 32 := Scalar.addi v836 v835
  let v843 : BitVec 32 := Scalar.select v841 v842 v836
  ![v843.toNat]
def k0_off170 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_462 : BitVec 32 := 128#32
  let v829 : BitVec 32 := Scalar.addi v732 c128_i32_462
  let c32_i32_463 : BitVec 32 := 32#32
  let v830 : BitVec 32 := Scalar.subi v829 c32_i32_463
  let c5_i32_464 : BitVec 32 := 5#32
  let v831 : BitVec 32 := Scalar.addi v830 c5_i32_464
  let c0_i32_471 : BitVec 32 := 0#32
  ![v831.toNat, 0]
def k0_off171 (v833 : BitVec 32) : Fin 2 → Nat :=
  let c0_i32_472 : BitVec 32 := 0#32
  ![v833.toNat, 0]

def k0_chk42 (v833 : BitVec 32) : Prop :=
  (∀ a, (k0_off171 v833) a + S1x1024.size a ≤ S8192x1024.size a)
theorem k0_off171_inb : ∀ (v833 : BitVec 32) (k0_hw42 : k0_chk42 v833), ∀ a, (k0_off171 v833) a + S1x1024.size a ≤ S8192x1024.size a := fun v833 k0_hw42 => k0_hw42

def k0_off172 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_473 : BitVec 32 := 128#32
  let v848 : BitVec 32 := Scalar.addi v732 c128_i32_473
  let c32_i32_474 : BitVec 32 := 32#32
  let v849 : BitVec 32 := Scalar.subi v848 c32_i32_474
  let c6_i32_475 : BitVec 32 := 6#32
  let v850 : BitVec 32 := Scalar.addi v849 c6_i32_475
  let v851 : Index := Scalar.indexCast v850
  ![v851.toNat]
def k0_off173 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_473 : BitVec 32 := 128#32
  let v848 : BitVec 32 := Scalar.addi v732 c128_i32_473
  let c32_i32_474 : BitVec 32 := 32#32
  let v849 : BitVec 32 := Scalar.subi v848 c32_i32_474
  let c6_i32_475 : BitVec 32 := 6#32
  let v850 : BitVec 32 := Scalar.addi v849 c6_i32_475
  let c32_i32_476 : BitVec 32 := 32#32
  let c0_i32_477 : BitVec 32 := 0#32
  let v853 : BitVec 1 := Scalar.cmpi .eq c32_i32_476 c0_i32_477
  let c1_i32_478 : BitVec 32 := 1#32
  let v854 : BitVec 32 := Scalar.select v853 c1_i32_478 c32_i32_476
  let v855 : BitVec 32 := Scalar.remsi v850 v854
  let c0_i32_480 : BitVec 32 := 0#32
  let v857 : BitVec 1 := Scalar.cmpi .slt v855 c0_i32_480
  let c0_i32_481 : BitVec 32 := 0#32
  let v858 : BitVec 1 := Scalar.cmpi .slt v854 c0_i32_481
  let v859 : BitVec 1 := Scalar.xori v857 v858
  let c0_i32_479 : BitVec 32 := 0#32
  let v856 : BitVec 1 := Scalar.cmpi .ne v855 c0_i32_479
  let v860 : BitVec 1 := Scalar.andi v859 v856
  let v861 : BitVec 32 := Scalar.addi v855 v854
  let v862 : BitVec 32 := Scalar.select v860 v861 v855
  ![v862.toNat]
def k0_off174 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_473 : BitVec 32 := 128#32
  let v848 : BitVec 32 := Scalar.addi v732 c128_i32_473
  let c32_i32_474 : BitVec 32 := 32#32
  let v849 : BitVec 32 := Scalar.subi v848 c32_i32_474
  let c6_i32_475 : BitVec 32 := 6#32
  let v850 : BitVec 32 := Scalar.addi v849 c6_i32_475
  let c0_i32_482 : BitVec 32 := 0#32
  ![v850.toNat, 0]
def k0_off175 (v852 : BitVec 32) : Fin 2 → Nat :=
  let c0_i32_483 : BitVec 32 := 0#32
  ![v852.toNat, 0]

def k0_chk43 (v852 : BitVec 32) : Prop :=
  (∀ a, (k0_off175 v852) a + S1x1024.size a ≤ S8192x1024.size a)
theorem k0_off175_inb : ∀ (v852 : BitVec 32) (k0_hw43 : k0_chk43 v852), ∀ a, (k0_off175 v852) a + S1x1024.size a ≤ S8192x1024.size a := fun v852 k0_hw43 => k0_hw43

def k0_off176 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_484 : BitVec 32 := 128#32
  let v867 : BitVec 32 := Scalar.addi v732 c128_i32_484
  let c32_i32_485 : BitVec 32 := 32#32
  let v868 : BitVec 32 := Scalar.subi v867 c32_i32_485
  let c7_i32_486 : BitVec 32 := 7#32
  let v869 : BitVec 32 := Scalar.addi v868 c7_i32_486
  let v870 : Index := Scalar.indexCast v869
  ![v870.toNat]
def k0_off177 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_484 : BitVec 32 := 128#32
  let v867 : BitVec 32 := Scalar.addi v732 c128_i32_484
  let c32_i32_485 : BitVec 32 := 32#32
  let v868 : BitVec 32 := Scalar.subi v867 c32_i32_485
  let c7_i32_486 : BitVec 32 := 7#32
  let v869 : BitVec 32 := Scalar.addi v868 c7_i32_486
  let c32_i32_487 : BitVec 32 := 32#32
  let c0_i32_488 : BitVec 32 := 0#32
  let v872 : BitVec 1 := Scalar.cmpi .eq c32_i32_487 c0_i32_488
  let c1_i32_489 : BitVec 32 := 1#32
  let v873 : BitVec 32 := Scalar.select v872 c1_i32_489 c32_i32_487
  let v874 : BitVec 32 := Scalar.remsi v869 v873
  let c0_i32_491 : BitVec 32 := 0#32
  let v876 : BitVec 1 := Scalar.cmpi .slt v874 c0_i32_491
  let c0_i32_492 : BitVec 32 := 0#32
  let v877 : BitVec 1 := Scalar.cmpi .slt v873 c0_i32_492
  let v878 : BitVec 1 := Scalar.xori v876 v877
  let c0_i32_490 : BitVec 32 := 0#32
  let v875 : BitVec 1 := Scalar.cmpi .ne v874 c0_i32_490
  let v879 : BitVec 1 := Scalar.andi v878 v875
  let v880 : BitVec 32 := Scalar.addi v874 v873
  let v881 : BitVec 32 := Scalar.select v879 v880 v874
  ![v881.toNat]
def k0_off178 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_484 : BitVec 32 := 128#32
  let v867 : BitVec 32 := Scalar.addi v732 c128_i32_484
  let c32_i32_485 : BitVec 32 := 32#32
  let v868 : BitVec 32 := Scalar.subi v867 c32_i32_485
  let c7_i32_486 : BitVec 32 := 7#32
  let v869 : BitVec 32 := Scalar.addi v868 c7_i32_486
  let c0_i32_493 : BitVec 32 := 0#32
  ![v869.toNat, 0]
def k0_off179 (v871 : BitVec 32) : Fin 2 → Nat :=
  let c0_i32_494 : BitVec 32 := 0#32
  ![v871.toNat, 0]

def k0_chk44 (v871 : BitVec 32) : Prop :=
  (∀ a, (k0_off179 v871) a + S1x1024.size a ≤ S8192x1024.size a)
theorem k0_off179_inb : ∀ (v871 : BitVec 32) (k0_hw44 : k0_chk44 v871), ∀ a, (k0_off179 v871) a + S1x1024.size a ≤ S8192x1024.size a := fun v871 k0_hw44 => k0_hw44

def k0_off180 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_495 : BitVec 32 := 128#32
  let v886 : BitVec 32 := Scalar.addi v732 c128_i32_495
  let c32_i32_496 : BitVec 32 := 32#32
  let v887 : BitVec 32 := Scalar.subi v886 c32_i32_496
  let c8_i32_497 : BitVec 32 := 8#32
  let v888 : BitVec 32 := Scalar.addi v887 c8_i32_497
  let v889 : Index := Scalar.indexCast v888
  ![v889.toNat]
def k0_off181 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_495 : BitVec 32 := 128#32
  let v886 : BitVec 32 := Scalar.addi v732 c128_i32_495
  let c32_i32_496 : BitVec 32 := 32#32
  let v887 : BitVec 32 := Scalar.subi v886 c32_i32_496
  let c8_i32_497 : BitVec 32 := 8#32
  let v888 : BitVec 32 := Scalar.addi v887 c8_i32_497
  let c32_i32_498 : BitVec 32 := 32#32
  let c0_i32_499 : BitVec 32 := 0#32
  let v891 : BitVec 1 := Scalar.cmpi .eq c32_i32_498 c0_i32_499
  let c1_i32_500 : BitVec 32 := 1#32
  let v892 : BitVec 32 := Scalar.select v891 c1_i32_500 c32_i32_498
  let v893 : BitVec 32 := Scalar.remsi v888 v892
  let c0_i32_502 : BitVec 32 := 0#32
  let v895 : BitVec 1 := Scalar.cmpi .slt v893 c0_i32_502
  let c0_i32_503 : BitVec 32 := 0#32
  let v896 : BitVec 1 := Scalar.cmpi .slt v892 c0_i32_503
  let v897 : BitVec 1 := Scalar.xori v895 v896
  let c0_i32_501 : BitVec 32 := 0#32
  let v894 : BitVec 1 := Scalar.cmpi .ne v893 c0_i32_501
  let v898 : BitVec 1 := Scalar.andi v897 v894
  let v899 : BitVec 32 := Scalar.addi v893 v892
  let v900 : BitVec 32 := Scalar.select v898 v899 v893
  ![v900.toNat]
def k0_off182 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_495 : BitVec 32 := 128#32
  let v886 : BitVec 32 := Scalar.addi v732 c128_i32_495
  let c32_i32_496 : BitVec 32 := 32#32
  let v887 : BitVec 32 := Scalar.subi v886 c32_i32_496
  let c8_i32_497 : BitVec 32 := 8#32
  let v888 : BitVec 32 := Scalar.addi v887 c8_i32_497
  let c0_i32_504 : BitVec 32 := 0#32
  ![v888.toNat, 0]
def k0_off183 (v890 : BitVec 32) : Fin 2 → Nat :=
  let c0_i32_505 : BitVec 32 := 0#32
  ![v890.toNat, 0]

def k0_chk45 (v890 : BitVec 32) : Prop :=
  (∀ a, (k0_off183 v890) a + S1x1024.size a ≤ S8192x1024.size a)
theorem k0_off183_inb : ∀ (v890 : BitVec 32) (k0_hw45 : k0_chk45 v890), ∀ a, (k0_off183 v890) a + S1x1024.size a ≤ S8192x1024.size a := fun v890 k0_hw45 => k0_hw45

def k0_off184 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_506 : BitVec 32 := 128#32
  let v905 : BitVec 32 := Scalar.addi v732 c128_i32_506
  let c32_i32_507 : BitVec 32 := 32#32
  let v906 : BitVec 32 := Scalar.subi v905 c32_i32_507
  let c9_i32_508 : BitVec 32 := 9#32
  let v907 : BitVec 32 := Scalar.addi v906 c9_i32_508
  let v908 : Index := Scalar.indexCast v907
  ![v908.toNat]
def k0_off185 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_506 : BitVec 32 := 128#32
  let v905 : BitVec 32 := Scalar.addi v732 c128_i32_506
  let c32_i32_507 : BitVec 32 := 32#32
  let v906 : BitVec 32 := Scalar.subi v905 c32_i32_507
  let c9_i32_508 : BitVec 32 := 9#32
  let v907 : BitVec 32 := Scalar.addi v906 c9_i32_508
  let c32_i32_509 : BitVec 32 := 32#32
  let c0_i32_510 : BitVec 32 := 0#32
  let v910 : BitVec 1 := Scalar.cmpi .eq c32_i32_509 c0_i32_510
  let c1_i32_511 : BitVec 32 := 1#32
  let v911 : BitVec 32 := Scalar.select v910 c1_i32_511 c32_i32_509
  let v912 : BitVec 32 := Scalar.remsi v907 v911
  let c0_i32_513 : BitVec 32 := 0#32
  let v914 : BitVec 1 := Scalar.cmpi .slt v912 c0_i32_513
  let c0_i32_514 : BitVec 32 := 0#32
  let v915 : BitVec 1 := Scalar.cmpi .slt v911 c0_i32_514
  let v916 : BitVec 1 := Scalar.xori v914 v915
  let c0_i32_512 : BitVec 32 := 0#32
  let v913 : BitVec 1 := Scalar.cmpi .ne v912 c0_i32_512
  let v917 : BitVec 1 := Scalar.andi v916 v913
  let v918 : BitVec 32 := Scalar.addi v912 v911
  let v919 : BitVec 32 := Scalar.select v917 v918 v912
  ![v919.toNat]
def k0_off186 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_506 : BitVec 32 := 128#32
  let v905 : BitVec 32 := Scalar.addi v732 c128_i32_506
  let c32_i32_507 : BitVec 32 := 32#32
  let v906 : BitVec 32 := Scalar.subi v905 c32_i32_507
  let c9_i32_508 : BitVec 32 := 9#32
  let v907 : BitVec 32 := Scalar.addi v906 c9_i32_508
  let c0_i32_515 : BitVec 32 := 0#32
  ![v907.toNat, 0]
def k0_off187 (v909 : BitVec 32) : Fin 2 → Nat :=
  let c0_i32_516 : BitVec 32 := 0#32
  ![v909.toNat, 0]

def k0_chk46 (v909 : BitVec 32) : Prop :=
  (∀ a, (k0_off187 v909) a + S1x1024.size a ≤ S8192x1024.size a)
theorem k0_off187_inb : ∀ (v909 : BitVec 32) (k0_hw46 : k0_chk46 v909), ∀ a, (k0_off187 v909) a + S1x1024.size a ≤ S8192x1024.size a := fun v909 k0_hw46 => k0_hw46

def k0_off188 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_517 : BitVec 32 := 128#32
  let v924 : BitVec 32 := Scalar.addi v732 c128_i32_517
  let c32_i32_518 : BitVec 32 := 32#32
  let v925 : BitVec 32 := Scalar.subi v924 c32_i32_518
  let c10_i32_519 : BitVec 32 := 10#32
  let v926 : BitVec 32 := Scalar.addi v925 c10_i32_519
  let v927 : Index := Scalar.indexCast v926
  ![v927.toNat]
def k0_off189 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_517 : BitVec 32 := 128#32
  let v924 : BitVec 32 := Scalar.addi v732 c128_i32_517
  let c32_i32_518 : BitVec 32 := 32#32
  let v925 : BitVec 32 := Scalar.subi v924 c32_i32_518
  let c10_i32_519 : BitVec 32 := 10#32
  let v926 : BitVec 32 := Scalar.addi v925 c10_i32_519
  let c32_i32_520 : BitVec 32 := 32#32
  let c0_i32_521 : BitVec 32 := 0#32
  let v929 : BitVec 1 := Scalar.cmpi .eq c32_i32_520 c0_i32_521
  let c1_i32_522 : BitVec 32 := 1#32
  let v930 : BitVec 32 := Scalar.select v929 c1_i32_522 c32_i32_520
  let v931 : BitVec 32 := Scalar.remsi v926 v930
  let c0_i32_524 : BitVec 32 := 0#32
  let v933 : BitVec 1 := Scalar.cmpi .slt v931 c0_i32_524
  let c0_i32_525 : BitVec 32 := 0#32
  let v934 : BitVec 1 := Scalar.cmpi .slt v930 c0_i32_525
  let v935 : BitVec 1 := Scalar.xori v933 v934
  let c0_i32_523 : BitVec 32 := 0#32
  let v932 : BitVec 1 := Scalar.cmpi .ne v931 c0_i32_523
  let v936 : BitVec 1 := Scalar.andi v935 v932
  let v937 : BitVec 32 := Scalar.addi v931 v930
  let v938 : BitVec 32 := Scalar.select v936 v937 v931
  ![v938.toNat]
def k0_off190 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_517 : BitVec 32 := 128#32
  let v924 : BitVec 32 := Scalar.addi v732 c128_i32_517
  let c32_i32_518 : BitVec 32 := 32#32
  let v925 : BitVec 32 := Scalar.subi v924 c32_i32_518
  let c10_i32_519 : BitVec 32 := 10#32
  let v926 : BitVec 32 := Scalar.addi v925 c10_i32_519
  let c0_i32_526 : BitVec 32 := 0#32
  ![v926.toNat, 0]
def k0_off191 (v928 : BitVec 32) : Fin 2 → Nat :=
  let c0_i32_527 : BitVec 32 := 0#32
  ![v928.toNat, 0]

def k0_chk47 (v928 : BitVec 32) : Prop :=
  (∀ a, (k0_off191 v928) a + S1x1024.size a ≤ S8192x1024.size a)
theorem k0_off191_inb : ∀ (v928 : BitVec 32) (k0_hw47 : k0_chk47 v928), ∀ a, (k0_off191 v928) a + S1x1024.size a ≤ S8192x1024.size a := fun v928 k0_hw47 => k0_hw47

def k0_off192 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_528 : BitVec 32 := 128#32
  let v943 : BitVec 32 := Scalar.addi v732 c128_i32_528
  let c32_i32_529 : BitVec 32 := 32#32
  let v944 : BitVec 32 := Scalar.subi v943 c32_i32_529
  let c11_i32_530 : BitVec 32 := 11#32
  let v945 : BitVec 32 := Scalar.addi v944 c11_i32_530
  let v946 : Index := Scalar.indexCast v945
  ![v946.toNat]
def k0_off193 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_528 : BitVec 32 := 128#32
  let v943 : BitVec 32 := Scalar.addi v732 c128_i32_528
  let c32_i32_529 : BitVec 32 := 32#32
  let v944 : BitVec 32 := Scalar.subi v943 c32_i32_529
  let c11_i32_530 : BitVec 32 := 11#32
  let v945 : BitVec 32 := Scalar.addi v944 c11_i32_530
  let c32_i32_531 : BitVec 32 := 32#32
  let c0_i32_532 : BitVec 32 := 0#32
  let v948 : BitVec 1 := Scalar.cmpi .eq c32_i32_531 c0_i32_532
  let c1_i32_533 : BitVec 32 := 1#32
  let v949 : BitVec 32 := Scalar.select v948 c1_i32_533 c32_i32_531
  let v950 : BitVec 32 := Scalar.remsi v945 v949
  let c0_i32_535 : BitVec 32 := 0#32
  let v952 : BitVec 1 := Scalar.cmpi .slt v950 c0_i32_535
  let c0_i32_536 : BitVec 32 := 0#32
  let v953 : BitVec 1 := Scalar.cmpi .slt v949 c0_i32_536
  let v954 : BitVec 1 := Scalar.xori v952 v953
  let c0_i32_534 : BitVec 32 := 0#32
  let v951 : BitVec 1 := Scalar.cmpi .ne v950 c0_i32_534
  let v955 : BitVec 1 := Scalar.andi v954 v951
  let v956 : BitVec 32 := Scalar.addi v950 v949
  let v957 : BitVec 32 := Scalar.select v955 v956 v950
  ![v957.toNat]
def k0_off194 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_528 : BitVec 32 := 128#32
  let v943 : BitVec 32 := Scalar.addi v732 c128_i32_528
  let c32_i32_529 : BitVec 32 := 32#32
  let v944 : BitVec 32 := Scalar.subi v943 c32_i32_529
  let c11_i32_530 : BitVec 32 := 11#32
  let v945 : BitVec 32 := Scalar.addi v944 c11_i32_530
  let c0_i32_537 : BitVec 32 := 0#32
  ![v945.toNat, 0]
def k0_off195 (v947 : BitVec 32) : Fin 2 → Nat :=
  let c0_i32_538 : BitVec 32 := 0#32
  ![v947.toNat, 0]

def k0_chk48 (v947 : BitVec 32) : Prop :=
  (∀ a, (k0_off195 v947) a + S1x1024.size a ≤ S8192x1024.size a)
theorem k0_off195_inb : ∀ (v947 : BitVec 32) (k0_hw48 : k0_chk48 v947), ∀ a, (k0_off195 v947) a + S1x1024.size a ≤ S8192x1024.size a := fun v947 k0_hw48 => k0_hw48

def k0_off196 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_539 : BitVec 32 := 128#32
  let v962 : BitVec 32 := Scalar.addi v732 c128_i32_539
  let c32_i32_540 : BitVec 32 := 32#32
  let v963 : BitVec 32 := Scalar.subi v962 c32_i32_540
  let c12_i32_541 : BitVec 32 := 12#32
  let v964 : BitVec 32 := Scalar.addi v963 c12_i32_541
  let v965 : Index := Scalar.indexCast v964
  ![v965.toNat]
def k0_off197 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_539 : BitVec 32 := 128#32
  let v962 : BitVec 32 := Scalar.addi v732 c128_i32_539
  let c32_i32_540 : BitVec 32 := 32#32
  let v963 : BitVec 32 := Scalar.subi v962 c32_i32_540
  let c12_i32_541 : BitVec 32 := 12#32
  let v964 : BitVec 32 := Scalar.addi v963 c12_i32_541
  let c32_i32_542 : BitVec 32 := 32#32
  let c0_i32_543 : BitVec 32 := 0#32
  let v967 : BitVec 1 := Scalar.cmpi .eq c32_i32_542 c0_i32_543
  let c1_i32_544 : BitVec 32 := 1#32
  let v968 : BitVec 32 := Scalar.select v967 c1_i32_544 c32_i32_542
  let v969 : BitVec 32 := Scalar.remsi v964 v968
  let c0_i32_546 : BitVec 32 := 0#32
  let v971 : BitVec 1 := Scalar.cmpi .slt v969 c0_i32_546
  let c0_i32_547 : BitVec 32 := 0#32
  let v972 : BitVec 1 := Scalar.cmpi .slt v968 c0_i32_547
  let v973 : BitVec 1 := Scalar.xori v971 v972
  let c0_i32_545 : BitVec 32 := 0#32
  let v970 : BitVec 1 := Scalar.cmpi .ne v969 c0_i32_545
  let v974 : BitVec 1 := Scalar.andi v973 v970
  let v975 : BitVec 32 := Scalar.addi v969 v968
  let v976 : BitVec 32 := Scalar.select v974 v975 v969
  ![v976.toNat]
def k0_off198 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_539 : BitVec 32 := 128#32
  let v962 : BitVec 32 := Scalar.addi v732 c128_i32_539
  let c32_i32_540 : BitVec 32 := 32#32
  let v963 : BitVec 32 := Scalar.subi v962 c32_i32_540
  let c12_i32_541 : BitVec 32 := 12#32
  let v964 : BitVec 32 := Scalar.addi v963 c12_i32_541
  let c0_i32_548 : BitVec 32 := 0#32
  ![v964.toNat, 0]
def k0_off199 (v966 : BitVec 32) : Fin 2 → Nat :=
  let c0_i32_549 : BitVec 32 := 0#32
  ![v966.toNat, 0]

def k0_chk49 (v966 : BitVec 32) : Prop :=
  (∀ a, (k0_off199 v966) a + S1x1024.size a ≤ S8192x1024.size a)
theorem k0_off199_inb : ∀ (v966 : BitVec 32) (k0_hw49 : k0_chk49 v966), ∀ a, (k0_off199 v966) a + S1x1024.size a ≤ S8192x1024.size a := fun v966 k0_hw49 => k0_hw49

def k0_off200 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_550 : BitVec 32 := 128#32
  let v981 : BitVec 32 := Scalar.addi v732 c128_i32_550
  let c32_i32_551 : BitVec 32 := 32#32
  let v982 : BitVec 32 := Scalar.subi v981 c32_i32_551
  let c13_i32_552 : BitVec 32 := 13#32
  let v983 : BitVec 32 := Scalar.addi v982 c13_i32_552
  let v984 : Index := Scalar.indexCast v983
  ![v984.toNat]
def k0_off201 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_550 : BitVec 32 := 128#32
  let v981 : BitVec 32 := Scalar.addi v732 c128_i32_550
  let c32_i32_551 : BitVec 32 := 32#32
  let v982 : BitVec 32 := Scalar.subi v981 c32_i32_551
  let c13_i32_552 : BitVec 32 := 13#32
  let v983 : BitVec 32 := Scalar.addi v982 c13_i32_552
  let c32_i32_553 : BitVec 32 := 32#32
  let c0_i32_554 : BitVec 32 := 0#32
  let v986 : BitVec 1 := Scalar.cmpi .eq c32_i32_553 c0_i32_554
  let c1_i32_555 : BitVec 32 := 1#32
  let v987 : BitVec 32 := Scalar.select v986 c1_i32_555 c32_i32_553
  let v988 : BitVec 32 := Scalar.remsi v983 v987
  let c0_i32_557 : BitVec 32 := 0#32
  let v990 : BitVec 1 := Scalar.cmpi .slt v988 c0_i32_557
  let c0_i32_558 : BitVec 32 := 0#32
  let v991 : BitVec 1 := Scalar.cmpi .slt v987 c0_i32_558
  let v992 : BitVec 1 := Scalar.xori v990 v991
  let c0_i32_556 : BitVec 32 := 0#32
  let v989 : BitVec 1 := Scalar.cmpi .ne v988 c0_i32_556
  let v993 : BitVec 1 := Scalar.andi v992 v989
  let v994 : BitVec 32 := Scalar.addi v988 v987
  let v995 : BitVec 32 := Scalar.select v993 v994 v988
  ![v995.toNat]
def k0_off202 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_550 : BitVec 32 := 128#32
  let v981 : BitVec 32 := Scalar.addi v732 c128_i32_550
  let c32_i32_551 : BitVec 32 := 32#32
  let v982 : BitVec 32 := Scalar.subi v981 c32_i32_551
  let c13_i32_552 : BitVec 32 := 13#32
  let v983 : BitVec 32 := Scalar.addi v982 c13_i32_552
  let c0_i32_559 : BitVec 32 := 0#32
  ![v983.toNat, 0]
def k0_off203 (v985 : BitVec 32) : Fin 2 → Nat :=
  let c0_i32_560 : BitVec 32 := 0#32
  ![v985.toNat, 0]

def k0_chk50 (v985 : BitVec 32) : Prop :=
  (∀ a, (k0_off203 v985) a + S1x1024.size a ≤ S8192x1024.size a)
theorem k0_off203_inb : ∀ (v985 : BitVec 32) (k0_hw50 : k0_chk50 v985), ∀ a, (k0_off203 v985) a + S1x1024.size a ≤ S8192x1024.size a := fun v985 k0_hw50 => k0_hw50

def k0_off204 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_561 : BitVec 32 := 128#32
  let v1000 : BitVec 32 := Scalar.addi v732 c128_i32_561
  let c32_i32_562 : BitVec 32 := 32#32
  let v1001 : BitVec 32 := Scalar.subi v1000 c32_i32_562
  let c14_i32_563 : BitVec 32 := 14#32
  let v1002 : BitVec 32 := Scalar.addi v1001 c14_i32_563
  let v1003 : Index := Scalar.indexCast v1002
  ![v1003.toNat]
def k0_off205 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_561 : BitVec 32 := 128#32
  let v1000 : BitVec 32 := Scalar.addi v732 c128_i32_561
  let c32_i32_562 : BitVec 32 := 32#32
  let v1001 : BitVec 32 := Scalar.subi v1000 c32_i32_562
  let c14_i32_563 : BitVec 32 := 14#32
  let v1002 : BitVec 32 := Scalar.addi v1001 c14_i32_563
  let c32_i32_564 : BitVec 32 := 32#32
  let c0_i32_565 : BitVec 32 := 0#32
  let v1005 : BitVec 1 := Scalar.cmpi .eq c32_i32_564 c0_i32_565
  let c1_i32_566 : BitVec 32 := 1#32
  let v1006 : BitVec 32 := Scalar.select v1005 c1_i32_566 c32_i32_564
  let v1007 : BitVec 32 := Scalar.remsi v1002 v1006
  let c0_i32_568 : BitVec 32 := 0#32
  let v1009 : BitVec 1 := Scalar.cmpi .slt v1007 c0_i32_568
  let c0_i32_569 : BitVec 32 := 0#32
  let v1010 : BitVec 1 := Scalar.cmpi .slt v1006 c0_i32_569
  let v1011 : BitVec 1 := Scalar.xori v1009 v1010
  let c0_i32_567 : BitVec 32 := 0#32
  let v1008 : BitVec 1 := Scalar.cmpi .ne v1007 c0_i32_567
  let v1012 : BitVec 1 := Scalar.andi v1011 v1008
  let v1013 : BitVec 32 := Scalar.addi v1007 v1006
  let v1014 : BitVec 32 := Scalar.select v1012 v1013 v1007
  ![v1014.toNat]
def k0_off206 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_561 : BitVec 32 := 128#32
  let v1000 : BitVec 32 := Scalar.addi v732 c128_i32_561
  let c32_i32_562 : BitVec 32 := 32#32
  let v1001 : BitVec 32 := Scalar.subi v1000 c32_i32_562
  let c14_i32_563 : BitVec 32 := 14#32
  let v1002 : BitVec 32 := Scalar.addi v1001 c14_i32_563
  let c0_i32_570 : BitVec 32 := 0#32
  ![v1002.toNat, 0]
def k0_off207 (v1004 : BitVec 32) : Fin 2 → Nat :=
  let c0_i32_571 : BitVec 32 := 0#32
  ![v1004.toNat, 0]

def k0_chk51 (v1004 : BitVec 32) : Prop :=
  (∀ a, (k0_off207 v1004) a + S1x1024.size a ≤ S8192x1024.size a)
theorem k0_off207_inb : ∀ (v1004 : BitVec 32) (k0_hw51 : k0_chk51 v1004), ∀ a, (k0_off207 v1004) a + S1x1024.size a ≤ S8192x1024.size a := fun v1004 k0_hw51 => k0_hw51

def k0_off208 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_572 : BitVec 32 := 128#32
  let v1019 : BitVec 32 := Scalar.addi v732 c128_i32_572
  let c32_i32_573 : BitVec 32 := 32#32
  let v1020 : BitVec 32 := Scalar.subi v1019 c32_i32_573
  let c15_i32_574 : BitVec 32 := 15#32
  let v1021 : BitVec 32 := Scalar.addi v1020 c15_i32_574
  let v1022 : Index := Scalar.indexCast v1021
  ![v1022.toNat]
def k0_off209 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_572 : BitVec 32 := 128#32
  let v1019 : BitVec 32 := Scalar.addi v732 c128_i32_572
  let c32_i32_573 : BitVec 32 := 32#32
  let v1020 : BitVec 32 := Scalar.subi v1019 c32_i32_573
  let c15_i32_574 : BitVec 32 := 15#32
  let v1021 : BitVec 32 := Scalar.addi v1020 c15_i32_574
  let c32_i32_575 : BitVec 32 := 32#32
  let c0_i32_576 : BitVec 32 := 0#32
  let v1024 : BitVec 1 := Scalar.cmpi .eq c32_i32_575 c0_i32_576
  let c1_i32_577 : BitVec 32 := 1#32
  let v1025 : BitVec 32 := Scalar.select v1024 c1_i32_577 c32_i32_575
  let v1026 : BitVec 32 := Scalar.remsi v1021 v1025
  let c0_i32_579 : BitVec 32 := 0#32
  let v1028 : BitVec 1 := Scalar.cmpi .slt v1026 c0_i32_579
  let c0_i32_580 : BitVec 32 := 0#32
  let v1029 : BitVec 1 := Scalar.cmpi .slt v1025 c0_i32_580
  let v1030 : BitVec 1 := Scalar.xori v1028 v1029
  let c0_i32_578 : BitVec 32 := 0#32
  let v1027 : BitVec 1 := Scalar.cmpi .ne v1026 c0_i32_578
  let v1031 : BitVec 1 := Scalar.andi v1030 v1027
  let v1032 : BitVec 32 := Scalar.addi v1026 v1025
  let v1033 : BitVec 32 := Scalar.select v1031 v1032 v1026
  ![v1033.toNat]
def k0_off210 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_572 : BitVec 32 := 128#32
  let v1019 : BitVec 32 := Scalar.addi v732 c128_i32_572
  let c32_i32_573 : BitVec 32 := 32#32
  let v1020 : BitVec 32 := Scalar.subi v1019 c32_i32_573
  let c15_i32_574 : BitVec 32 := 15#32
  let v1021 : BitVec 32 := Scalar.addi v1020 c15_i32_574
  let c0_i32_581 : BitVec 32 := 0#32
  ![v1021.toNat, 0]
def k0_off211 (v1023 : BitVec 32) : Fin 2 → Nat :=
  let c0_i32_582 : BitVec 32 := 0#32
  ![v1023.toNat, 0]

def k0_chk52 (v1023 : BitVec 32) : Prop :=
  (∀ a, (k0_off211 v1023) a + S1x1024.size a ≤ S8192x1024.size a)
theorem k0_off211_inb : ∀ (v1023 : BitVec 32) (k0_hw52 : k0_chk52 v1023), ∀ a, (k0_off211 v1023) a + S1x1024.size a ≤ S8192x1024.size a := fun v1023 k0_hw52 => k0_hw52

def k0_off212 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_583 : BitVec 32 := 128#32
  let v1038 : BitVec 32 := Scalar.addi v732 c128_i32_583
  let c32_i32_584 : BitVec 32 := 32#32
  let v1039 : BitVec 32 := Scalar.subi v1038 c32_i32_584
  let c16_i32_585 : BitVec 32 := 16#32
  let v1040 : BitVec 32 := Scalar.addi v1039 c16_i32_585
  let v1041 : Index := Scalar.indexCast v1040
  ![v1041.toNat]
def k0_off213 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_583 : BitVec 32 := 128#32
  let v1038 : BitVec 32 := Scalar.addi v732 c128_i32_583
  let c32_i32_584 : BitVec 32 := 32#32
  let v1039 : BitVec 32 := Scalar.subi v1038 c32_i32_584
  let c16_i32_585 : BitVec 32 := 16#32
  let v1040 : BitVec 32 := Scalar.addi v1039 c16_i32_585
  let c32_i32_586 : BitVec 32 := 32#32
  let c0_i32_587 : BitVec 32 := 0#32
  let v1043 : BitVec 1 := Scalar.cmpi .eq c32_i32_586 c0_i32_587
  let c1_i32_588 : BitVec 32 := 1#32
  let v1044 : BitVec 32 := Scalar.select v1043 c1_i32_588 c32_i32_586
  let v1045 : BitVec 32 := Scalar.remsi v1040 v1044
  let c0_i32_590 : BitVec 32 := 0#32
  let v1047 : BitVec 1 := Scalar.cmpi .slt v1045 c0_i32_590
  let c0_i32_591 : BitVec 32 := 0#32
  let v1048 : BitVec 1 := Scalar.cmpi .slt v1044 c0_i32_591
  let v1049 : BitVec 1 := Scalar.xori v1047 v1048
  let c0_i32_589 : BitVec 32 := 0#32
  let v1046 : BitVec 1 := Scalar.cmpi .ne v1045 c0_i32_589
  let v1050 : BitVec 1 := Scalar.andi v1049 v1046
  let v1051 : BitVec 32 := Scalar.addi v1045 v1044
  let v1052 : BitVec 32 := Scalar.select v1050 v1051 v1045
  ![v1052.toNat]
def k0_off214 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_583 : BitVec 32 := 128#32
  let v1038 : BitVec 32 := Scalar.addi v732 c128_i32_583
  let c32_i32_584 : BitVec 32 := 32#32
  let v1039 : BitVec 32 := Scalar.subi v1038 c32_i32_584
  let c16_i32_585 : BitVec 32 := 16#32
  let v1040 : BitVec 32 := Scalar.addi v1039 c16_i32_585
  let c0_i32_592 : BitVec 32 := 0#32
  ![v1040.toNat, 0]
def k0_off215 (v1042 : BitVec 32) : Fin 2 → Nat :=
  let c0_i32_593 : BitVec 32 := 0#32
  ![v1042.toNat, 0]

def k0_chk53 (v1042 : BitVec 32) : Prop :=
  (∀ a, (k0_off215 v1042) a + S1x1024.size a ≤ S8192x1024.size a)
theorem k0_off215_inb : ∀ (v1042 : BitVec 32) (k0_hw53 : k0_chk53 v1042), ∀ a, (k0_off215 v1042) a + S1x1024.size a ≤ S8192x1024.size a := fun v1042 k0_hw53 => k0_hw53

def k0_off216 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_594 : BitVec 32 := 128#32
  let v1057 : BitVec 32 := Scalar.addi v732 c128_i32_594
  let c32_i32_595 : BitVec 32 := 32#32
  let v1058 : BitVec 32 := Scalar.subi v1057 c32_i32_595
  let c17_i32_596 : BitVec 32 := 17#32
  let v1059 : BitVec 32 := Scalar.addi v1058 c17_i32_596
  let v1060 : Index := Scalar.indexCast v1059
  ![v1060.toNat]
def k0_off217 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_594 : BitVec 32 := 128#32
  let v1057 : BitVec 32 := Scalar.addi v732 c128_i32_594
  let c32_i32_595 : BitVec 32 := 32#32
  let v1058 : BitVec 32 := Scalar.subi v1057 c32_i32_595
  let c17_i32_596 : BitVec 32 := 17#32
  let v1059 : BitVec 32 := Scalar.addi v1058 c17_i32_596
  let c32_i32_597 : BitVec 32 := 32#32
  let c0_i32_598 : BitVec 32 := 0#32
  let v1062 : BitVec 1 := Scalar.cmpi .eq c32_i32_597 c0_i32_598
  let c1_i32_599 : BitVec 32 := 1#32
  let v1063 : BitVec 32 := Scalar.select v1062 c1_i32_599 c32_i32_597
  let v1064 : BitVec 32 := Scalar.remsi v1059 v1063
  let c0_i32_601 : BitVec 32 := 0#32
  let v1066 : BitVec 1 := Scalar.cmpi .slt v1064 c0_i32_601
  let c0_i32_602 : BitVec 32 := 0#32
  let v1067 : BitVec 1 := Scalar.cmpi .slt v1063 c0_i32_602
  let v1068 : BitVec 1 := Scalar.xori v1066 v1067
  let c0_i32_600 : BitVec 32 := 0#32
  let v1065 : BitVec 1 := Scalar.cmpi .ne v1064 c0_i32_600
  let v1069 : BitVec 1 := Scalar.andi v1068 v1065
  let v1070 : BitVec 32 := Scalar.addi v1064 v1063
  let v1071 : BitVec 32 := Scalar.select v1069 v1070 v1064
  ![v1071.toNat]
def k0_off218 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_594 : BitVec 32 := 128#32
  let v1057 : BitVec 32 := Scalar.addi v732 c128_i32_594
  let c32_i32_595 : BitVec 32 := 32#32
  let v1058 : BitVec 32 := Scalar.subi v1057 c32_i32_595
  let c17_i32_596 : BitVec 32 := 17#32
  let v1059 : BitVec 32 := Scalar.addi v1058 c17_i32_596
  let c0_i32_603 : BitVec 32 := 0#32
  ![v1059.toNat, 0]
def k0_off219 (v1061 : BitVec 32) : Fin 2 → Nat :=
  let c0_i32_604 : BitVec 32 := 0#32
  ![v1061.toNat, 0]

def k0_chk54 (v1061 : BitVec 32) : Prop :=
  (∀ a, (k0_off219 v1061) a + S1x1024.size a ≤ S8192x1024.size a)
theorem k0_off219_inb : ∀ (v1061 : BitVec 32) (k0_hw54 : k0_chk54 v1061), ∀ a, (k0_off219 v1061) a + S1x1024.size a ≤ S8192x1024.size a := fun v1061 k0_hw54 => k0_hw54

def k0_off220 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_605 : BitVec 32 := 128#32
  let v1076 : BitVec 32 := Scalar.addi v732 c128_i32_605
  let c32_i32_606 : BitVec 32 := 32#32
  let v1077 : BitVec 32 := Scalar.subi v1076 c32_i32_606
  let c18_i32_607 : BitVec 32 := 18#32
  let v1078 : BitVec 32 := Scalar.addi v1077 c18_i32_607
  let v1079 : Index := Scalar.indexCast v1078
  ![v1079.toNat]
def k0_off221 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_605 : BitVec 32 := 128#32
  let v1076 : BitVec 32 := Scalar.addi v732 c128_i32_605
  let c32_i32_606 : BitVec 32 := 32#32
  let v1077 : BitVec 32 := Scalar.subi v1076 c32_i32_606
  let c18_i32_607 : BitVec 32 := 18#32
  let v1078 : BitVec 32 := Scalar.addi v1077 c18_i32_607
  let c32_i32_608 : BitVec 32 := 32#32
  let c0_i32_609 : BitVec 32 := 0#32
  let v1081 : BitVec 1 := Scalar.cmpi .eq c32_i32_608 c0_i32_609
  let c1_i32_610 : BitVec 32 := 1#32
  let v1082 : BitVec 32 := Scalar.select v1081 c1_i32_610 c32_i32_608
  let v1083 : BitVec 32 := Scalar.remsi v1078 v1082
  let c0_i32_612 : BitVec 32 := 0#32
  let v1085 : BitVec 1 := Scalar.cmpi .slt v1083 c0_i32_612
  let c0_i32_613 : BitVec 32 := 0#32
  let v1086 : BitVec 1 := Scalar.cmpi .slt v1082 c0_i32_613
  let v1087 : BitVec 1 := Scalar.xori v1085 v1086
  let c0_i32_611 : BitVec 32 := 0#32
  let v1084 : BitVec 1 := Scalar.cmpi .ne v1083 c0_i32_611
  let v1088 : BitVec 1 := Scalar.andi v1087 v1084
  let v1089 : BitVec 32 := Scalar.addi v1083 v1082
  let v1090 : BitVec 32 := Scalar.select v1088 v1089 v1083
  ![v1090.toNat]
def k0_off222 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_605 : BitVec 32 := 128#32
  let v1076 : BitVec 32 := Scalar.addi v732 c128_i32_605
  let c32_i32_606 : BitVec 32 := 32#32
  let v1077 : BitVec 32 := Scalar.subi v1076 c32_i32_606
  let c18_i32_607 : BitVec 32 := 18#32
  let v1078 : BitVec 32 := Scalar.addi v1077 c18_i32_607
  let c0_i32_614 : BitVec 32 := 0#32
  ![v1078.toNat, 0]
def k0_off223 (v1080 : BitVec 32) : Fin 2 → Nat :=
  let c0_i32_615 : BitVec 32 := 0#32
  ![v1080.toNat, 0]

def k0_chk55 (v1080 : BitVec 32) : Prop :=
  (∀ a, (k0_off223 v1080) a + S1x1024.size a ≤ S8192x1024.size a)
theorem k0_off223_inb : ∀ (v1080 : BitVec 32) (k0_hw55 : k0_chk55 v1080), ∀ a, (k0_off223 v1080) a + S1x1024.size a ≤ S8192x1024.size a := fun v1080 k0_hw55 => k0_hw55

def k0_off224 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_616 : BitVec 32 := 128#32
  let v1095 : BitVec 32 := Scalar.addi v732 c128_i32_616
  let c32_i32_617 : BitVec 32 := 32#32
  let v1096 : BitVec 32 := Scalar.subi v1095 c32_i32_617
  let c19_i32_618 : BitVec 32 := 19#32
  let v1097 : BitVec 32 := Scalar.addi v1096 c19_i32_618
  let v1098 : Index := Scalar.indexCast v1097
  ![v1098.toNat]
def k0_off225 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_616 : BitVec 32 := 128#32
  let v1095 : BitVec 32 := Scalar.addi v732 c128_i32_616
  let c32_i32_617 : BitVec 32 := 32#32
  let v1096 : BitVec 32 := Scalar.subi v1095 c32_i32_617
  let c19_i32_618 : BitVec 32 := 19#32
  let v1097 : BitVec 32 := Scalar.addi v1096 c19_i32_618
  let c32_i32_619 : BitVec 32 := 32#32
  let c0_i32_620 : BitVec 32 := 0#32
  let v1100 : BitVec 1 := Scalar.cmpi .eq c32_i32_619 c0_i32_620
  let c1_i32_621 : BitVec 32 := 1#32
  let v1101 : BitVec 32 := Scalar.select v1100 c1_i32_621 c32_i32_619
  let v1102 : BitVec 32 := Scalar.remsi v1097 v1101
  let c0_i32_623 : BitVec 32 := 0#32
  let v1104 : BitVec 1 := Scalar.cmpi .slt v1102 c0_i32_623
  let c0_i32_624 : BitVec 32 := 0#32
  let v1105 : BitVec 1 := Scalar.cmpi .slt v1101 c0_i32_624
  let v1106 : BitVec 1 := Scalar.xori v1104 v1105
  let c0_i32_622 : BitVec 32 := 0#32
  let v1103 : BitVec 1 := Scalar.cmpi .ne v1102 c0_i32_622
  let v1107 : BitVec 1 := Scalar.andi v1106 v1103
  let v1108 : BitVec 32 := Scalar.addi v1102 v1101
  let v1109 : BitVec 32 := Scalar.select v1107 v1108 v1102
  ![v1109.toNat]
def k0_off226 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_616 : BitVec 32 := 128#32
  let v1095 : BitVec 32 := Scalar.addi v732 c128_i32_616
  let c32_i32_617 : BitVec 32 := 32#32
  let v1096 : BitVec 32 := Scalar.subi v1095 c32_i32_617
  let c19_i32_618 : BitVec 32 := 19#32
  let v1097 : BitVec 32 := Scalar.addi v1096 c19_i32_618
  let c0_i32_625 : BitVec 32 := 0#32
  ![v1097.toNat, 0]
def k0_off227 (v1099 : BitVec 32) : Fin 2 → Nat :=
  let c0_i32_626 : BitVec 32 := 0#32
  ![v1099.toNat, 0]

def k0_chk56 (v1099 : BitVec 32) : Prop :=
  (∀ a, (k0_off227 v1099) a + S1x1024.size a ≤ S8192x1024.size a)
theorem k0_off227_inb : ∀ (v1099 : BitVec 32) (k0_hw56 : k0_chk56 v1099), ∀ a, (k0_off227 v1099) a + S1x1024.size a ≤ S8192x1024.size a := fun v1099 k0_hw56 => k0_hw56

def k0_off228 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_627 : BitVec 32 := 128#32
  let v1114 : BitVec 32 := Scalar.addi v732 c128_i32_627
  let c32_i32_628 : BitVec 32 := 32#32
  let v1115 : BitVec 32 := Scalar.subi v1114 c32_i32_628
  let c20_i32_629 : BitVec 32 := 20#32
  let v1116 : BitVec 32 := Scalar.addi v1115 c20_i32_629
  let v1117 : Index := Scalar.indexCast v1116
  ![v1117.toNat]
def k0_off229 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_627 : BitVec 32 := 128#32
  let v1114 : BitVec 32 := Scalar.addi v732 c128_i32_627
  let c32_i32_628 : BitVec 32 := 32#32
  let v1115 : BitVec 32 := Scalar.subi v1114 c32_i32_628
  let c20_i32_629 : BitVec 32 := 20#32
  let v1116 : BitVec 32 := Scalar.addi v1115 c20_i32_629
  let c32_i32_630 : BitVec 32 := 32#32
  let c0_i32_631 : BitVec 32 := 0#32
  let v1119 : BitVec 1 := Scalar.cmpi .eq c32_i32_630 c0_i32_631
  let c1_i32_632 : BitVec 32 := 1#32
  let v1120 : BitVec 32 := Scalar.select v1119 c1_i32_632 c32_i32_630
  let v1121 : BitVec 32 := Scalar.remsi v1116 v1120
  let c0_i32_634 : BitVec 32 := 0#32
  let v1123 : BitVec 1 := Scalar.cmpi .slt v1121 c0_i32_634
  let c0_i32_635 : BitVec 32 := 0#32
  let v1124 : BitVec 1 := Scalar.cmpi .slt v1120 c0_i32_635
  let v1125 : BitVec 1 := Scalar.xori v1123 v1124
  let c0_i32_633 : BitVec 32 := 0#32
  let v1122 : BitVec 1 := Scalar.cmpi .ne v1121 c0_i32_633
  let v1126 : BitVec 1 := Scalar.andi v1125 v1122
  let v1127 : BitVec 32 := Scalar.addi v1121 v1120
  let v1128 : BitVec 32 := Scalar.select v1126 v1127 v1121
  ![v1128.toNat]
def k0_off230 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_627 : BitVec 32 := 128#32
  let v1114 : BitVec 32 := Scalar.addi v732 c128_i32_627
  let c32_i32_628 : BitVec 32 := 32#32
  let v1115 : BitVec 32 := Scalar.subi v1114 c32_i32_628
  let c20_i32_629 : BitVec 32 := 20#32
  let v1116 : BitVec 32 := Scalar.addi v1115 c20_i32_629
  let c0_i32_636 : BitVec 32 := 0#32
  ![v1116.toNat, 0]
def k0_off231 (v1118 : BitVec 32) : Fin 2 → Nat :=
  let c0_i32_637 : BitVec 32 := 0#32
  ![v1118.toNat, 0]

def k0_chk57 (v1118 : BitVec 32) : Prop :=
  (∀ a, (k0_off231 v1118) a + S1x1024.size a ≤ S8192x1024.size a)
theorem k0_off231_inb : ∀ (v1118 : BitVec 32) (k0_hw57 : k0_chk57 v1118), ∀ a, (k0_off231 v1118) a + S1x1024.size a ≤ S8192x1024.size a := fun v1118 k0_hw57 => k0_hw57

def k0_off232 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_638 : BitVec 32 := 128#32
  let v1133 : BitVec 32 := Scalar.addi v732 c128_i32_638
  let c32_i32_639 : BitVec 32 := 32#32
  let v1134 : BitVec 32 := Scalar.subi v1133 c32_i32_639
  let c21_i32_640 : BitVec 32 := 21#32
  let v1135 : BitVec 32 := Scalar.addi v1134 c21_i32_640
  let v1136 : Index := Scalar.indexCast v1135
  ![v1136.toNat]
def k0_off233 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_638 : BitVec 32 := 128#32
  let v1133 : BitVec 32 := Scalar.addi v732 c128_i32_638
  let c32_i32_639 : BitVec 32 := 32#32
  let v1134 : BitVec 32 := Scalar.subi v1133 c32_i32_639
  let c21_i32_640 : BitVec 32 := 21#32
  let v1135 : BitVec 32 := Scalar.addi v1134 c21_i32_640
  let c32_i32_641 : BitVec 32 := 32#32
  let c0_i32_642 : BitVec 32 := 0#32
  let v1138 : BitVec 1 := Scalar.cmpi .eq c32_i32_641 c0_i32_642
  let c1_i32_643 : BitVec 32 := 1#32
  let v1139 : BitVec 32 := Scalar.select v1138 c1_i32_643 c32_i32_641
  let v1140 : BitVec 32 := Scalar.remsi v1135 v1139
  let c0_i32_645 : BitVec 32 := 0#32
  let v1142 : BitVec 1 := Scalar.cmpi .slt v1140 c0_i32_645
  let c0_i32_646 : BitVec 32 := 0#32
  let v1143 : BitVec 1 := Scalar.cmpi .slt v1139 c0_i32_646
  let v1144 : BitVec 1 := Scalar.xori v1142 v1143
  let c0_i32_644 : BitVec 32 := 0#32
  let v1141 : BitVec 1 := Scalar.cmpi .ne v1140 c0_i32_644
  let v1145 : BitVec 1 := Scalar.andi v1144 v1141
  let v1146 : BitVec 32 := Scalar.addi v1140 v1139
  let v1147 : BitVec 32 := Scalar.select v1145 v1146 v1140
  ![v1147.toNat]
def k0_off234 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_638 : BitVec 32 := 128#32
  let v1133 : BitVec 32 := Scalar.addi v732 c128_i32_638
  let c32_i32_639 : BitVec 32 := 32#32
  let v1134 : BitVec 32 := Scalar.subi v1133 c32_i32_639
  let c21_i32_640 : BitVec 32 := 21#32
  let v1135 : BitVec 32 := Scalar.addi v1134 c21_i32_640
  let c0_i32_647 : BitVec 32 := 0#32
  ![v1135.toNat, 0]
def k0_off235 (v1137 : BitVec 32) : Fin 2 → Nat :=
  let c0_i32_648 : BitVec 32 := 0#32
  ![v1137.toNat, 0]

def k0_chk58 (v1137 : BitVec 32) : Prop :=
  (∀ a, (k0_off235 v1137) a + S1x1024.size a ≤ S8192x1024.size a)
theorem k0_off235_inb : ∀ (v1137 : BitVec 32) (k0_hw58 : k0_chk58 v1137), ∀ a, (k0_off235 v1137) a + S1x1024.size a ≤ S8192x1024.size a := fun v1137 k0_hw58 => k0_hw58

def k0_off236 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_649 : BitVec 32 := 128#32
  let v1152 : BitVec 32 := Scalar.addi v732 c128_i32_649
  let c32_i32_650 : BitVec 32 := 32#32
  let v1153 : BitVec 32 := Scalar.subi v1152 c32_i32_650
  let c22_i32_651 : BitVec 32 := 22#32
  let v1154 : BitVec 32 := Scalar.addi v1153 c22_i32_651
  let v1155 : Index := Scalar.indexCast v1154
  ![v1155.toNat]
def k0_off237 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_649 : BitVec 32 := 128#32
  let v1152 : BitVec 32 := Scalar.addi v732 c128_i32_649
  let c32_i32_650 : BitVec 32 := 32#32
  let v1153 : BitVec 32 := Scalar.subi v1152 c32_i32_650
  let c22_i32_651 : BitVec 32 := 22#32
  let v1154 : BitVec 32 := Scalar.addi v1153 c22_i32_651
  let c32_i32_652 : BitVec 32 := 32#32
  let c0_i32_653 : BitVec 32 := 0#32
  let v1157 : BitVec 1 := Scalar.cmpi .eq c32_i32_652 c0_i32_653
  let c1_i32_654 : BitVec 32 := 1#32
  let v1158 : BitVec 32 := Scalar.select v1157 c1_i32_654 c32_i32_652
  let v1159 : BitVec 32 := Scalar.remsi v1154 v1158
  let c0_i32_656 : BitVec 32 := 0#32
  let v1161 : BitVec 1 := Scalar.cmpi .slt v1159 c0_i32_656
  let c0_i32_657 : BitVec 32 := 0#32
  let v1162 : BitVec 1 := Scalar.cmpi .slt v1158 c0_i32_657
  let v1163 : BitVec 1 := Scalar.xori v1161 v1162
  let c0_i32_655 : BitVec 32 := 0#32
  let v1160 : BitVec 1 := Scalar.cmpi .ne v1159 c0_i32_655
  let v1164 : BitVec 1 := Scalar.andi v1163 v1160
  let v1165 : BitVec 32 := Scalar.addi v1159 v1158
  let v1166 : BitVec 32 := Scalar.select v1164 v1165 v1159
  ![v1166.toNat]
def k0_off238 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_649 : BitVec 32 := 128#32
  let v1152 : BitVec 32 := Scalar.addi v732 c128_i32_649
  let c32_i32_650 : BitVec 32 := 32#32
  let v1153 : BitVec 32 := Scalar.subi v1152 c32_i32_650
  let c22_i32_651 : BitVec 32 := 22#32
  let v1154 : BitVec 32 := Scalar.addi v1153 c22_i32_651
  let c0_i32_658 : BitVec 32 := 0#32
  ![v1154.toNat, 0]
def k0_off239 (v1156 : BitVec 32) : Fin 2 → Nat :=
  let c0_i32_659 : BitVec 32 := 0#32
  ![v1156.toNat, 0]

def k0_chk59 (v1156 : BitVec 32) : Prop :=
  (∀ a, (k0_off239 v1156) a + S1x1024.size a ≤ S8192x1024.size a)
theorem k0_off239_inb : ∀ (v1156 : BitVec 32) (k0_hw59 : k0_chk59 v1156), ∀ a, (k0_off239 v1156) a + S1x1024.size a ≤ S8192x1024.size a := fun v1156 k0_hw59 => k0_hw59

def k0_off240 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_660 : BitVec 32 := 128#32
  let v1171 : BitVec 32 := Scalar.addi v732 c128_i32_660
  let c32_i32_661 : BitVec 32 := 32#32
  let v1172 : BitVec 32 := Scalar.subi v1171 c32_i32_661
  let c23_i32_662 : BitVec 32 := 23#32
  let v1173 : BitVec 32 := Scalar.addi v1172 c23_i32_662
  let v1174 : Index := Scalar.indexCast v1173
  ![v1174.toNat]
def k0_off241 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_660 : BitVec 32 := 128#32
  let v1171 : BitVec 32 := Scalar.addi v732 c128_i32_660
  let c32_i32_661 : BitVec 32 := 32#32
  let v1172 : BitVec 32 := Scalar.subi v1171 c32_i32_661
  let c23_i32_662 : BitVec 32 := 23#32
  let v1173 : BitVec 32 := Scalar.addi v1172 c23_i32_662
  let c32_i32_663 : BitVec 32 := 32#32
  let c0_i32_664 : BitVec 32 := 0#32
  let v1176 : BitVec 1 := Scalar.cmpi .eq c32_i32_663 c0_i32_664
  let c1_i32_665 : BitVec 32 := 1#32
  let v1177 : BitVec 32 := Scalar.select v1176 c1_i32_665 c32_i32_663
  let v1178 : BitVec 32 := Scalar.remsi v1173 v1177
  let c0_i32_667 : BitVec 32 := 0#32
  let v1180 : BitVec 1 := Scalar.cmpi .slt v1178 c0_i32_667
  let c0_i32_668 : BitVec 32 := 0#32
  let v1181 : BitVec 1 := Scalar.cmpi .slt v1177 c0_i32_668
  let v1182 : BitVec 1 := Scalar.xori v1180 v1181
  let c0_i32_666 : BitVec 32 := 0#32
  let v1179 : BitVec 1 := Scalar.cmpi .ne v1178 c0_i32_666
  let v1183 : BitVec 1 := Scalar.andi v1182 v1179
  let v1184 : BitVec 32 := Scalar.addi v1178 v1177
  let v1185 : BitVec 32 := Scalar.select v1183 v1184 v1178
  ![v1185.toNat]
def k0_off242 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_660 : BitVec 32 := 128#32
  let v1171 : BitVec 32 := Scalar.addi v732 c128_i32_660
  let c32_i32_661 : BitVec 32 := 32#32
  let v1172 : BitVec 32 := Scalar.subi v1171 c32_i32_661
  let c23_i32_662 : BitVec 32 := 23#32
  let v1173 : BitVec 32 := Scalar.addi v1172 c23_i32_662
  let c0_i32_669 : BitVec 32 := 0#32
  ![v1173.toNat, 0]
def k0_off243 (v1175 : BitVec 32) : Fin 2 → Nat :=
  let c0_i32_670 : BitVec 32 := 0#32
  ![v1175.toNat, 0]

def k0_chk60 (v1175 : BitVec 32) : Prop :=
  (∀ a, (k0_off243 v1175) a + S1x1024.size a ≤ S8192x1024.size a)
theorem k0_off243_inb : ∀ (v1175 : BitVec 32) (k0_hw60 : k0_chk60 v1175), ∀ a, (k0_off243 v1175) a + S1x1024.size a ≤ S8192x1024.size a := fun v1175 k0_hw60 => k0_hw60

def k0_off244 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_671 : BitVec 32 := 128#32
  let v1190 : BitVec 32 := Scalar.addi v732 c128_i32_671
  let c32_i32_672 : BitVec 32 := 32#32
  let v1191 : BitVec 32 := Scalar.subi v1190 c32_i32_672
  let c24_i32_673 : BitVec 32 := 24#32
  let v1192 : BitVec 32 := Scalar.addi v1191 c24_i32_673
  let v1193 : Index := Scalar.indexCast v1192
  ![v1193.toNat]
def k0_off245 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_671 : BitVec 32 := 128#32
  let v1190 : BitVec 32 := Scalar.addi v732 c128_i32_671
  let c32_i32_672 : BitVec 32 := 32#32
  let v1191 : BitVec 32 := Scalar.subi v1190 c32_i32_672
  let c24_i32_673 : BitVec 32 := 24#32
  let v1192 : BitVec 32 := Scalar.addi v1191 c24_i32_673
  let c32_i32_674 : BitVec 32 := 32#32
  let c0_i32_675 : BitVec 32 := 0#32
  let v1195 : BitVec 1 := Scalar.cmpi .eq c32_i32_674 c0_i32_675
  let c1_i32_676 : BitVec 32 := 1#32
  let v1196 : BitVec 32 := Scalar.select v1195 c1_i32_676 c32_i32_674
  let v1197 : BitVec 32 := Scalar.remsi v1192 v1196
  let c0_i32_678 : BitVec 32 := 0#32
  let v1199 : BitVec 1 := Scalar.cmpi .slt v1197 c0_i32_678
  let c0_i32_679 : BitVec 32 := 0#32
  let v1200 : BitVec 1 := Scalar.cmpi .slt v1196 c0_i32_679
  let v1201 : BitVec 1 := Scalar.xori v1199 v1200
  let c0_i32_677 : BitVec 32 := 0#32
  let v1198 : BitVec 1 := Scalar.cmpi .ne v1197 c0_i32_677
  let v1202 : BitVec 1 := Scalar.andi v1201 v1198
  let v1203 : BitVec 32 := Scalar.addi v1197 v1196
  let v1204 : BitVec 32 := Scalar.select v1202 v1203 v1197
  ![v1204.toNat]
def k0_off246 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_671 : BitVec 32 := 128#32
  let v1190 : BitVec 32 := Scalar.addi v732 c128_i32_671
  let c32_i32_672 : BitVec 32 := 32#32
  let v1191 : BitVec 32 := Scalar.subi v1190 c32_i32_672
  let c24_i32_673 : BitVec 32 := 24#32
  let v1192 : BitVec 32 := Scalar.addi v1191 c24_i32_673
  let c0_i32_680 : BitVec 32 := 0#32
  ![v1192.toNat, 0]
def k0_off247 (v1194 : BitVec 32) : Fin 2 → Nat :=
  let c0_i32_681 : BitVec 32 := 0#32
  ![v1194.toNat, 0]

def k0_chk61 (v1194 : BitVec 32) : Prop :=
  (∀ a, (k0_off247 v1194) a + S1x1024.size a ≤ S8192x1024.size a)
theorem k0_off247_inb : ∀ (v1194 : BitVec 32) (k0_hw61 : k0_chk61 v1194), ∀ a, (k0_off247 v1194) a + S1x1024.size a ≤ S8192x1024.size a := fun v1194 k0_hw61 => k0_hw61

def k0_off248 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_682 : BitVec 32 := 128#32
  let v1209 : BitVec 32 := Scalar.addi v732 c128_i32_682
  let c32_i32_683 : BitVec 32 := 32#32
  let v1210 : BitVec 32 := Scalar.subi v1209 c32_i32_683
  let c25_i32_684 : BitVec 32 := 25#32
  let v1211 : BitVec 32 := Scalar.addi v1210 c25_i32_684
  let v1212 : Index := Scalar.indexCast v1211
  ![v1212.toNat]
def k0_off249 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_682 : BitVec 32 := 128#32
  let v1209 : BitVec 32 := Scalar.addi v732 c128_i32_682
  let c32_i32_683 : BitVec 32 := 32#32
  let v1210 : BitVec 32 := Scalar.subi v1209 c32_i32_683
  let c25_i32_684 : BitVec 32 := 25#32
  let v1211 : BitVec 32 := Scalar.addi v1210 c25_i32_684
  let c32_i32_685 : BitVec 32 := 32#32
  let c0_i32_686 : BitVec 32 := 0#32
  let v1214 : BitVec 1 := Scalar.cmpi .eq c32_i32_685 c0_i32_686
  let c1_i32_687 : BitVec 32 := 1#32
  let v1215 : BitVec 32 := Scalar.select v1214 c1_i32_687 c32_i32_685
  let v1216 : BitVec 32 := Scalar.remsi v1211 v1215
  let c0_i32_689 : BitVec 32 := 0#32
  let v1218 : BitVec 1 := Scalar.cmpi .slt v1216 c0_i32_689
  let c0_i32_690 : BitVec 32 := 0#32
  let v1219 : BitVec 1 := Scalar.cmpi .slt v1215 c0_i32_690
  let v1220 : BitVec 1 := Scalar.xori v1218 v1219
  let c0_i32_688 : BitVec 32 := 0#32
  let v1217 : BitVec 1 := Scalar.cmpi .ne v1216 c0_i32_688
  let v1221 : BitVec 1 := Scalar.andi v1220 v1217
  let v1222 : BitVec 32 := Scalar.addi v1216 v1215
  let v1223 : BitVec 32 := Scalar.select v1221 v1222 v1216
  ![v1223.toNat]
def k0_off250 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_682 : BitVec 32 := 128#32
  let v1209 : BitVec 32 := Scalar.addi v732 c128_i32_682
  let c32_i32_683 : BitVec 32 := 32#32
  let v1210 : BitVec 32 := Scalar.subi v1209 c32_i32_683
  let c25_i32_684 : BitVec 32 := 25#32
  let v1211 : BitVec 32 := Scalar.addi v1210 c25_i32_684
  let c0_i32_691 : BitVec 32 := 0#32
  ![v1211.toNat, 0]
def k0_off251 (v1213 : BitVec 32) : Fin 2 → Nat :=
  let c0_i32_692 : BitVec 32 := 0#32
  ![v1213.toNat, 0]

def k0_chk62 (v1213 : BitVec 32) : Prop :=
  (∀ a, (k0_off251 v1213) a + S1x1024.size a ≤ S8192x1024.size a)
theorem k0_off251_inb : ∀ (v1213 : BitVec 32) (k0_hw62 : k0_chk62 v1213), ∀ a, (k0_off251 v1213) a + S1x1024.size a ≤ S8192x1024.size a := fun v1213 k0_hw62 => k0_hw62

def k0_off252 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_693 : BitVec 32 := 128#32
  let v1228 : BitVec 32 := Scalar.addi v732 c128_i32_693
  let c32_i32_694 : BitVec 32 := 32#32
  let v1229 : BitVec 32 := Scalar.subi v1228 c32_i32_694
  let c26_i32_695 : BitVec 32 := 26#32
  let v1230 : BitVec 32 := Scalar.addi v1229 c26_i32_695
  let v1231 : Index := Scalar.indexCast v1230
  ![v1231.toNat]
def k0_off253 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_693 : BitVec 32 := 128#32
  let v1228 : BitVec 32 := Scalar.addi v732 c128_i32_693
  let c32_i32_694 : BitVec 32 := 32#32
  let v1229 : BitVec 32 := Scalar.subi v1228 c32_i32_694
  let c26_i32_695 : BitVec 32 := 26#32
  let v1230 : BitVec 32 := Scalar.addi v1229 c26_i32_695
  let c32_i32_696 : BitVec 32 := 32#32
  let c0_i32_697 : BitVec 32 := 0#32
  let v1233 : BitVec 1 := Scalar.cmpi .eq c32_i32_696 c0_i32_697
  let c1_i32_698 : BitVec 32 := 1#32
  let v1234 : BitVec 32 := Scalar.select v1233 c1_i32_698 c32_i32_696
  let v1235 : BitVec 32 := Scalar.remsi v1230 v1234
  let c0_i32_700 : BitVec 32 := 0#32
  let v1237 : BitVec 1 := Scalar.cmpi .slt v1235 c0_i32_700
  let c0_i32_701 : BitVec 32 := 0#32
  let v1238 : BitVec 1 := Scalar.cmpi .slt v1234 c0_i32_701
  let v1239 : BitVec 1 := Scalar.xori v1237 v1238
  let c0_i32_699 : BitVec 32 := 0#32
  let v1236 : BitVec 1 := Scalar.cmpi .ne v1235 c0_i32_699
  let v1240 : BitVec 1 := Scalar.andi v1239 v1236
  let v1241 : BitVec 32 := Scalar.addi v1235 v1234
  let v1242 : BitVec 32 := Scalar.select v1240 v1241 v1235
  ![v1242.toNat]
def k0_off254 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_693 : BitVec 32 := 128#32
  let v1228 : BitVec 32 := Scalar.addi v732 c128_i32_693
  let c32_i32_694 : BitVec 32 := 32#32
  let v1229 : BitVec 32 := Scalar.subi v1228 c32_i32_694
  let c26_i32_695 : BitVec 32 := 26#32
  let v1230 : BitVec 32 := Scalar.addi v1229 c26_i32_695
  let c0_i32_702 : BitVec 32 := 0#32
  ![v1230.toNat, 0]
def k0_off255 (v1232 : BitVec 32) : Fin 2 → Nat :=
  let c0_i32_703 : BitVec 32 := 0#32
  ![v1232.toNat, 0]

def k0_chk63 (v1232 : BitVec 32) : Prop :=
  (∀ a, (k0_off255 v1232) a + S1x1024.size a ≤ S8192x1024.size a)
theorem k0_off255_inb : ∀ (v1232 : BitVec 32) (k0_hw63 : k0_chk63 v1232), ∀ a, (k0_off255 v1232) a + S1x1024.size a ≤ S8192x1024.size a := fun v1232 k0_hw63 => k0_hw63

def k0_off256 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_704 : BitVec 32 := 128#32
  let v1247 : BitVec 32 := Scalar.addi v732 c128_i32_704
  let c32_i32_705 : BitVec 32 := 32#32
  let v1248 : BitVec 32 := Scalar.subi v1247 c32_i32_705
  let c27_i32_706 : BitVec 32 := 27#32
  let v1249 : BitVec 32 := Scalar.addi v1248 c27_i32_706
  let v1250 : Index := Scalar.indexCast v1249
  ![v1250.toNat]
def k0_off257 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_704 : BitVec 32 := 128#32
  let v1247 : BitVec 32 := Scalar.addi v732 c128_i32_704
  let c32_i32_705 : BitVec 32 := 32#32
  let v1248 : BitVec 32 := Scalar.subi v1247 c32_i32_705
  let c27_i32_706 : BitVec 32 := 27#32
  let v1249 : BitVec 32 := Scalar.addi v1248 c27_i32_706
  let c32_i32_707 : BitVec 32 := 32#32
  let c0_i32_708 : BitVec 32 := 0#32
  let v1252 : BitVec 1 := Scalar.cmpi .eq c32_i32_707 c0_i32_708
  let c1_i32_709 : BitVec 32 := 1#32
  let v1253 : BitVec 32 := Scalar.select v1252 c1_i32_709 c32_i32_707
  let v1254 : BitVec 32 := Scalar.remsi v1249 v1253
  let c0_i32_711 : BitVec 32 := 0#32
  let v1256 : BitVec 1 := Scalar.cmpi .slt v1254 c0_i32_711
  let c0_i32_712 : BitVec 32 := 0#32
  let v1257 : BitVec 1 := Scalar.cmpi .slt v1253 c0_i32_712
  let v1258 : BitVec 1 := Scalar.xori v1256 v1257
  let c0_i32_710 : BitVec 32 := 0#32
  let v1255 : BitVec 1 := Scalar.cmpi .ne v1254 c0_i32_710
  let v1259 : BitVec 1 := Scalar.andi v1258 v1255
  let v1260 : BitVec 32 := Scalar.addi v1254 v1253
  let v1261 : BitVec 32 := Scalar.select v1259 v1260 v1254
  ![v1261.toNat]
def k0_off258 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_704 : BitVec 32 := 128#32
  let v1247 : BitVec 32 := Scalar.addi v732 c128_i32_704
  let c32_i32_705 : BitVec 32 := 32#32
  let v1248 : BitVec 32 := Scalar.subi v1247 c32_i32_705
  let c27_i32_706 : BitVec 32 := 27#32
  let v1249 : BitVec 32 := Scalar.addi v1248 c27_i32_706
  let c0_i32_713 : BitVec 32 := 0#32
  ![v1249.toNat, 0]
def k0_off259 (v1251 : BitVec 32) : Fin 2 → Nat :=
  let c0_i32_714 : BitVec 32 := 0#32
  ![v1251.toNat, 0]

def k0_chk64 (v1251 : BitVec 32) : Prop :=
  (∀ a, (k0_off259 v1251) a + S1x1024.size a ≤ S8192x1024.size a)
theorem k0_off259_inb : ∀ (v1251 : BitVec 32) (k0_hw64 : k0_chk64 v1251), ∀ a, (k0_off259 v1251) a + S1x1024.size a ≤ S8192x1024.size a := fun v1251 k0_hw64 => k0_hw64

def k0_off260 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_715 : BitVec 32 := 128#32
  let v1266 : BitVec 32 := Scalar.addi v732 c128_i32_715
  let c32_i32_716 : BitVec 32 := 32#32
  let v1267 : BitVec 32 := Scalar.subi v1266 c32_i32_716
  let c28_i32_717 : BitVec 32 := 28#32
  let v1268 : BitVec 32 := Scalar.addi v1267 c28_i32_717
  let v1269 : Index := Scalar.indexCast v1268
  ![v1269.toNat]
def k0_off261 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_715 : BitVec 32 := 128#32
  let v1266 : BitVec 32 := Scalar.addi v732 c128_i32_715
  let c32_i32_716 : BitVec 32 := 32#32
  let v1267 : BitVec 32 := Scalar.subi v1266 c32_i32_716
  let c28_i32_717 : BitVec 32 := 28#32
  let v1268 : BitVec 32 := Scalar.addi v1267 c28_i32_717
  let c32_i32_718 : BitVec 32 := 32#32
  let c0_i32_719 : BitVec 32 := 0#32
  let v1271 : BitVec 1 := Scalar.cmpi .eq c32_i32_718 c0_i32_719
  let c1_i32_720 : BitVec 32 := 1#32
  let v1272 : BitVec 32 := Scalar.select v1271 c1_i32_720 c32_i32_718
  let v1273 : BitVec 32 := Scalar.remsi v1268 v1272
  let c0_i32_722 : BitVec 32 := 0#32
  let v1275 : BitVec 1 := Scalar.cmpi .slt v1273 c0_i32_722
  let c0_i32_723 : BitVec 32 := 0#32
  let v1276 : BitVec 1 := Scalar.cmpi .slt v1272 c0_i32_723
  let v1277 : BitVec 1 := Scalar.xori v1275 v1276
  let c0_i32_721 : BitVec 32 := 0#32
  let v1274 : BitVec 1 := Scalar.cmpi .ne v1273 c0_i32_721
  let v1278 : BitVec 1 := Scalar.andi v1277 v1274
  let v1279 : BitVec 32 := Scalar.addi v1273 v1272
  let v1280 : BitVec 32 := Scalar.select v1278 v1279 v1273
  ![v1280.toNat]
def k0_off262 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_715 : BitVec 32 := 128#32
  let v1266 : BitVec 32 := Scalar.addi v732 c128_i32_715
  let c32_i32_716 : BitVec 32 := 32#32
  let v1267 : BitVec 32 := Scalar.subi v1266 c32_i32_716
  let c28_i32_717 : BitVec 32 := 28#32
  let v1268 : BitVec 32 := Scalar.addi v1267 c28_i32_717
  let c0_i32_724 : BitVec 32 := 0#32
  ![v1268.toNat, 0]
def k0_off263 (v1270 : BitVec 32) : Fin 2 → Nat :=
  let c0_i32_725 : BitVec 32 := 0#32
  ![v1270.toNat, 0]

def k0_chk65 (v1270 : BitVec 32) : Prop :=
  (∀ a, (k0_off263 v1270) a + S1x1024.size a ≤ S8192x1024.size a)
theorem k0_off263_inb : ∀ (v1270 : BitVec 32) (k0_hw65 : k0_chk65 v1270), ∀ a, (k0_off263 v1270) a + S1x1024.size a ≤ S8192x1024.size a := fun v1270 k0_hw65 => k0_hw65

def k0_off264 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_726 : BitVec 32 := 128#32
  let v1285 : BitVec 32 := Scalar.addi v732 c128_i32_726
  let c32_i32_727 : BitVec 32 := 32#32
  let v1286 : BitVec 32 := Scalar.subi v1285 c32_i32_727
  let c29_i32_728 : BitVec 32 := 29#32
  let v1287 : BitVec 32 := Scalar.addi v1286 c29_i32_728
  let v1288 : Index := Scalar.indexCast v1287
  ![v1288.toNat]
def k0_off265 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_726 : BitVec 32 := 128#32
  let v1285 : BitVec 32 := Scalar.addi v732 c128_i32_726
  let c32_i32_727 : BitVec 32 := 32#32
  let v1286 : BitVec 32 := Scalar.subi v1285 c32_i32_727
  let c29_i32_728 : BitVec 32 := 29#32
  let v1287 : BitVec 32 := Scalar.addi v1286 c29_i32_728
  let c32_i32_729 : BitVec 32 := 32#32
  let c0_i32_730 : BitVec 32 := 0#32
  let v1290 : BitVec 1 := Scalar.cmpi .eq c32_i32_729 c0_i32_730
  let c1_i32_731 : BitVec 32 := 1#32
  let v1291 : BitVec 32 := Scalar.select v1290 c1_i32_731 c32_i32_729
  let v1292 : BitVec 32 := Scalar.remsi v1287 v1291
  let c0_i32_733 : BitVec 32 := 0#32
  let v1294 : BitVec 1 := Scalar.cmpi .slt v1292 c0_i32_733
  let c0_i32_734 : BitVec 32 := 0#32
  let v1295 : BitVec 1 := Scalar.cmpi .slt v1291 c0_i32_734
  let v1296 : BitVec 1 := Scalar.xori v1294 v1295
  let c0_i32_732 : BitVec 32 := 0#32
  let v1293 : BitVec 1 := Scalar.cmpi .ne v1292 c0_i32_732
  let v1297 : BitVec 1 := Scalar.andi v1296 v1293
  let v1298 : BitVec 32 := Scalar.addi v1292 v1291
  let v1299 : BitVec 32 := Scalar.select v1297 v1298 v1292
  ![v1299.toNat]
def k0_off266 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_726 : BitVec 32 := 128#32
  let v1285 : BitVec 32 := Scalar.addi v732 c128_i32_726
  let c32_i32_727 : BitVec 32 := 32#32
  let v1286 : BitVec 32 := Scalar.subi v1285 c32_i32_727
  let c29_i32_728 : BitVec 32 := 29#32
  let v1287 : BitVec 32 := Scalar.addi v1286 c29_i32_728
  let c0_i32_735 : BitVec 32 := 0#32
  ![v1287.toNat, 0]
def k0_off267 (v1289 : BitVec 32) : Fin 2 → Nat :=
  let c0_i32_736 : BitVec 32 := 0#32
  ![v1289.toNat, 0]

def k0_chk66 (v1289 : BitVec 32) : Prop :=
  (∀ a, (k0_off267 v1289) a + S1x1024.size a ≤ S8192x1024.size a)
theorem k0_off267_inb : ∀ (v1289 : BitVec 32) (k0_hw66 : k0_chk66 v1289), ∀ a, (k0_off267 v1289) a + S1x1024.size a ≤ S8192x1024.size a := fun v1289 k0_hw66 => k0_hw66

def k0_off268 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_737 : BitVec 32 := 128#32
  let v1304 : BitVec 32 := Scalar.addi v732 c128_i32_737
  let c32_i32_738 : BitVec 32 := 32#32
  let v1305 : BitVec 32 := Scalar.subi v1304 c32_i32_738
  let c30_i32_739 : BitVec 32 := 30#32
  let v1306 : BitVec 32 := Scalar.addi v1305 c30_i32_739
  let v1307 : Index := Scalar.indexCast v1306
  ![v1307.toNat]
def k0_off269 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_737 : BitVec 32 := 128#32
  let v1304 : BitVec 32 := Scalar.addi v732 c128_i32_737
  let c32_i32_738 : BitVec 32 := 32#32
  let v1305 : BitVec 32 := Scalar.subi v1304 c32_i32_738
  let c30_i32_739 : BitVec 32 := 30#32
  let v1306 : BitVec 32 := Scalar.addi v1305 c30_i32_739
  let c32_i32_740 : BitVec 32 := 32#32
  let c0_i32_741 : BitVec 32 := 0#32
  let v1309 : BitVec 1 := Scalar.cmpi .eq c32_i32_740 c0_i32_741
  let c1_i32_742 : BitVec 32 := 1#32
  let v1310 : BitVec 32 := Scalar.select v1309 c1_i32_742 c32_i32_740
  let v1311 : BitVec 32 := Scalar.remsi v1306 v1310
  let c0_i32_744 : BitVec 32 := 0#32
  let v1313 : BitVec 1 := Scalar.cmpi .slt v1311 c0_i32_744
  let c0_i32_745 : BitVec 32 := 0#32
  let v1314 : BitVec 1 := Scalar.cmpi .slt v1310 c0_i32_745
  let v1315 : BitVec 1 := Scalar.xori v1313 v1314
  let c0_i32_743 : BitVec 32 := 0#32
  let v1312 : BitVec 1 := Scalar.cmpi .ne v1311 c0_i32_743
  let v1316 : BitVec 1 := Scalar.andi v1315 v1312
  let v1317 : BitVec 32 := Scalar.addi v1311 v1310
  let v1318 : BitVec 32 := Scalar.select v1316 v1317 v1311
  ![v1318.toNat]
def k0_off270 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_737 : BitVec 32 := 128#32
  let v1304 : BitVec 32 := Scalar.addi v732 c128_i32_737
  let c32_i32_738 : BitVec 32 := 32#32
  let v1305 : BitVec 32 := Scalar.subi v1304 c32_i32_738
  let c30_i32_739 : BitVec 32 := 30#32
  let v1306 : BitVec 32 := Scalar.addi v1305 c30_i32_739
  let c0_i32_746 : BitVec 32 := 0#32
  ![v1306.toNat, 0]
def k0_off271 (v1308 : BitVec 32) : Fin 2 → Nat :=
  let c0_i32_747 : BitVec 32 := 0#32
  ![v1308.toNat, 0]

def k0_chk67 (v1308 : BitVec 32) : Prop :=
  (∀ a, (k0_off271 v1308) a + S1x1024.size a ≤ S8192x1024.size a)
theorem k0_off271_inb : ∀ (v1308 : BitVec 32) (k0_hw67 : k0_chk67 v1308), ∀ a, (k0_off271 v1308) a + S1x1024.size a ≤ S8192x1024.size a := fun v1308 k0_hw67 => k0_hw67

def k0_off272 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_748 : BitVec 32 := 128#32
  let v1323 : BitVec 32 := Scalar.addi v732 c128_i32_748
  let c32_i32_749 : BitVec 32 := 32#32
  let v1324 : BitVec 32 := Scalar.subi v1323 c32_i32_749
  let c31_i32_750 : BitVec 32 := 31#32
  let v1325 : BitVec 32 := Scalar.addi v1324 c31_i32_750
  let v1326 : Index := Scalar.indexCast v1325
  ![v1326.toNat]
def k0_off273 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_748 : BitVec 32 := 128#32
  let v1323 : BitVec 32 := Scalar.addi v732 c128_i32_748
  let c32_i32_749 : BitVec 32 := 32#32
  let v1324 : BitVec 32 := Scalar.subi v1323 c32_i32_749
  let c31_i32_750 : BitVec 32 := 31#32
  let v1325 : BitVec 32 := Scalar.addi v1324 c31_i32_750
  let c32_i32_751 : BitVec 32 := 32#32
  let c0_i32_752 : BitVec 32 := 0#32
  let v1328 : BitVec 1 := Scalar.cmpi .eq c32_i32_751 c0_i32_752
  let c1_i32_753 : BitVec 32 := 1#32
  let v1329 : BitVec 32 := Scalar.select v1328 c1_i32_753 c32_i32_751
  let v1330 : BitVec 32 := Scalar.remsi v1325 v1329
  let c0_i32_755 : BitVec 32 := 0#32
  let v1332 : BitVec 1 := Scalar.cmpi .slt v1330 c0_i32_755
  let c0_i32_756 : BitVec 32 := 0#32
  let v1333 : BitVec 1 := Scalar.cmpi .slt v1329 c0_i32_756
  let v1334 : BitVec 1 := Scalar.xori v1332 v1333
  let c0_i32_754 : BitVec 32 := 0#32
  let v1331 : BitVec 1 := Scalar.cmpi .ne v1330 c0_i32_754
  let v1335 : BitVec 1 := Scalar.andi v1334 v1331
  let v1336 : BitVec 32 := Scalar.addi v1330 v1329
  let v1337 : BitVec 32 := Scalar.select v1335 v1336 v1330
  ![v1337.toNat]
def k0_off274 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let c128_i32_748 : BitVec 32 := 128#32
  let v1323 : BitVec 32 := Scalar.addi v732 c128_i32_748
  let c32_i32_749 : BitVec 32 := 32#32
  let v1324 : BitVec 32 := Scalar.subi v1323 c32_i32_749
  let c31_i32_750 : BitVec 32 := 31#32
  let v1325 : BitVec 32 := Scalar.addi v1324 c31_i32_750
  let c0_i32_757 : BitVec 32 := 0#32
  ![v1325.toNat, 0]
def k0_off275 (v1327 : BitVec 32) : Fin 2 → Nat :=
  let c0_i32_758 : BitVec 32 := 0#32
  ![v1327.toNat, 0]

def k0_chk68 (v1327 : BitVec 32) : Prop :=
  (∀ a, (k0_off275 v1327) a + S1x1024.size a ≤ S8192x1024.size a)
theorem k0_off275_inb : ∀ (v1327 : BitVec 32) (k0_hw68 : k0_chk68 v1327), ∀ a, (k0_off275 v1327) a + S1x1024.size a ≤ S8192x1024.size a := fun v1327 k0_hw68 => k0_hw68

def k0_off276 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let v1342 : Index := Scalar.indexCast v732
  let c0_759 : Index := 0#32
  ![v1342.toNat, 0]
def k0_off277 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_395 : BitVec 32 := 1#32
  let v721 : BitVec 32 := Scalar.subi v5 c1_i32_395
  let c4_i32_396 : BitVec 32 := 4#32
  let c0_i32_397 : BitVec 32 := 0#32
  let v722 : BitVec 1 := Scalar.cmpi .eq c4_i32_396 c0_i32_397
  let c1_i32_398 : BitVec 32 := 1#32
  let v723 : BitVec 32 := Scalar.select v722 c1_i32_398 c4_i32_396
  let v724 : BitVec 32 := Scalar.remsi v721 v723
  let c0_i32_400 : BitVec 32 := 0#32
  let v726 : BitVec 1 := Scalar.cmpi .slt v724 c0_i32_400
  let c0_i32_401 : BitVec 32 := 0#32
  let v727 : BitVec 1 := Scalar.cmpi .slt v723 c0_i32_401
  let v728 : BitVec 1 := Scalar.xori v726 v727
  let c0_i32_399 : BitVec 32 := 0#32
  let v725 : BitVec 1 := Scalar.cmpi .ne v724 c0_i32_399
  let v729 : BitVec 1 := Scalar.andi v728 v725
  let v730 : BitVec 32 := Scalar.addi v724 v723
  let v731 : BitVec 32 := Scalar.select v729 v730 v724
  let c128_i32_402 : BitVec 32 := 128#32
  let v732 : BitVec 32 := Scalar.muli v731 c128_i32_402
  let v1344 : Index := Scalar.indexCast v732
  let c0_760 : Index := 0#32
  ![v1344.toNat, 0]
def k0_off278 (d0 : Dev nD) (c0_i32_369 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v684 : BitVec 32 := Scalar.subi v5 c0_i32_369
  let c4_i32_370 : BitVec 32 := 4#32
  let c0_i32_371 : BitVec 32 := 0#32
  let v685 : BitVec 1 := Scalar.cmpi .eq c4_i32_370 c0_i32_371
  let c1_i32_372 : BitVec 32 := 1#32
  let v686 : BitVec 32 := Scalar.select v685 c1_i32_372 c4_i32_370
  let v687 : BitVec 32 := Scalar.remsi v684 v686
  let c0_i32_374 : BitVec 32 := 0#32
  let v689 : BitVec 1 := Scalar.cmpi .slt v687 c0_i32_374
  let c0_i32_375 : BitVec 32 := 0#32
  let v690 : BitVec 1 := Scalar.cmpi .slt v686 c0_i32_375
  let v691 : BitVec 1 := Scalar.xori v689 v690
  let c0_i32_373 : BitVec 32 := 0#32
  let v688 : BitVec 1 := Scalar.cmpi .ne v687 c0_i32_373
  let v692 : BitVec 1 := Scalar.andi v691 v688
  let v693 : BitVec 32 := Scalar.addi v687 v686
  let v694 : BitVec 32 := Scalar.select v692 v693 v687
  let c128_i32_384 : BitVec 32 := 128#32
  let v707 : BitVec 32 := Scalar.muli v694 c128_i32_384
  let c0_i32_766 : BitVec 32 := 0#32
  ![v707.toNat, 0]
def k0_off279 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_376 : BitVec 32 := 0#32
  let v695 : BitVec 32 := Scalar.subi v5 c0_i32_376
  let c1_i32_377 : BitVec 32 := 1#32
  let v696 : BitVec 32 := Scalar.subi v695 c1_i32_377
  let c4_i32_378 : BitVec 32 := 4#32
  let c0_i32_379 : BitVec 32 := 0#32
  let v697 : BitVec 1 := Scalar.cmpi .eq c4_i32_378 c0_i32_379
  let c1_i32_380 : BitVec 32 := 1#32
  let v698 : BitVec 32 := Scalar.select v697 c1_i32_380 c4_i32_378
  let v699 : BitVec 32 := Scalar.remsi v696 v698
  let c0_i32_382 : BitVec 32 := 0#32
  let v701 : BitVec 1 := Scalar.cmpi .slt v699 c0_i32_382
  let c0_i32_383 : BitVec 32 := 0#32
  let v702 : BitVec 1 := Scalar.cmpi .slt v698 c0_i32_383
  let v703 : BitVec 1 := Scalar.xori v701 v702
  let c0_i32_381 : BitVec 32 := 0#32
  let v700 : BitVec 1 := Scalar.cmpi .ne v699 c0_i32_381
  let v704 : BitVec 1 := Scalar.andi v703 v700
  let v705 : BitVec 32 := Scalar.addi v699 v698
  let v706 : BitVec 32 := Scalar.select v704 v705 v699
  let c128_i32_779 : BitVec 32 := 128#32
  let v1370 : BitVec 32 := Scalar.muli v706 c128_i32_779
  let v1371 : Index := Scalar.indexCast v1370
  let c0_780 : Index := 0#32
  ![v1371.toNat, 0]
def k0_dev5 (d0 : Dev nD) : Nat :=
  let c0_i32_806 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_805 : BitVec 32 := 16#32
  let v1405 : BitVec 32 := Scalar.muli v2 c16_i32_805
  let v1406 : BitVec 32 := Scalar.addi c0_i32_806 v1405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_807 : BitVec 32 := 4#32
  let v1407 : BitVec 32 := Scalar.muli v19 c4_i32_807
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_808 : BitVec 32 := 1#32
  let v1409 : BitVec 32 := Scalar.muli v8 c1_i32_808
  let v1410 : BitVec 32 := Scalar.addi v1408 v1409
  v1410.toNat
@[reducible] def k0_t3_loop : Scf.Loop 32 :=
  let c0_i32_820 : BitVec 32 := 0#32
  let c128_i32_821 : BitVec 32 := 128#32
  let v1430 : BitVec 32 := Scalar.addi c0_i32_820 c128_i32_821
  let c1_i32_822 : BitVec 32 := 1#32
  ⟨c0_i32_820, v1430, c1_i32_822⟩
def k0_off280 (d0 : Dev nD) (k0_t3 : Fin k0_t3_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3071 : BitVec 32 := Scalar.addi v1429 arg16
  let v3072 : Index := Scalar.indexCast v3071
  ![v3072.toNat]
def k0_off281 (d0 : Dev nD) (k0_t3 : Fin k0_t3_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3071 : BitVec 32 := Scalar.addi v1429 arg16
  let c32_i32_1844 : BitVec 32 := 32#32
  let c0_i32_1845 : BitVec 32 := 0#32
  let v3074 : BitVec 1 := Scalar.cmpi .eq c32_i32_1844 c0_i32_1845
  let c1_i32_1846 : BitVec 32 := 1#32
  let v3075 : BitVec 32 := Scalar.select v3074 c1_i32_1846 c32_i32_1844
  let v3076 : BitVec 32 := Scalar.remsi v3071 v3075
  let c0_i32_1848 : BitVec 32 := 0#32
  let v3078 : BitVec 1 := Scalar.cmpi .slt v3076 c0_i32_1848
  let c0_i32_1849 : BitVec 32 := 0#32
  let v3079 : BitVec 1 := Scalar.cmpi .slt v3075 c0_i32_1849
  let v3080 : BitVec 1 := Scalar.xori v3078 v3079
  let c0_i32_1847 : BitVec 32 := 0#32
  let v3077 : BitVec 1 := Scalar.cmpi .ne v3076 c0_i32_1847
  let v3081 : BitVec 1 := Scalar.andi v3080 v3077
  let v3082 : BitVec 32 := Scalar.addi v3076 v3075
  let v3083 : BitVec 32 := Scalar.select v3081 v3082 v3076
  ![v3083.toNat]
def k0_off282 (d0 : Dev nD) (k0_t3 : Fin k0_t3_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3071 : BitVec 32 := Scalar.addi v1429 arg16
  let c0_i32_1850 : BitVec 32 := 0#32
  ![v3071.toNat, 0]
def k0_off283 (v3073 : BitVec 32) : Fin 2 → Nat :=
  let c0_i32_1851 : BitVec 32 := 0#32
  ![v3073.toNat, 0]

def k0_chk69 (v3073 : BitVec 32) : Prop :=
  (∀ a, (k0_off283 v3073) a + S1x1024.size a ≤ S8192x1024.size a)
theorem k0_off283_inb : ∀ (v3073 : BitVec 32) (k0_hw69 : k0_chk69 v3073), ∀ a, (k0_off283 v3073) a + S1x1024.size a ≤ S8192x1024.size a := fun v3073 k0_hw69 => k0_hw69

def k0_cond3 (k0_t3 : Fin k0_t3_loop.trips) : BitVec 1 :=
  let c0_i32_820 : BitVec 32 := 0#32
  let c1_i32_822 : BitVec 32 := 1#32
  let arg16 : BitVec 32 := Scf.iv c0_i32_820 c1_i32_822 k0_t3
  let c32_i32_1852 : BitVec 32 := 32#32
  let v3088 : BitVec 1 := Scalar.cmpi .sge arg16 c32_i32_1852
  let v3089 : BitVec 32 := Scalar.extui v3088
  let c0_i32_1853 : BitVec 32 := 0#32
  let v3090 : BitVec 1 := Scalar.cmpi .ne v3089 c0_i32_1853
  v3090

def k0_off284 (d0 : Dev nD) (k0_t3 : Fin k0_t3_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3091 : BitVec 32 := Scalar.addi v1429 arg16
  let c32_i32_1854 : BitVec 32 := 32#32
  let v3092 : BitVec 32 := Scalar.subi v3091 c32_i32_1854
  let v3093 : Index := Scalar.indexCast v3092
  ![v3093.toNat]
def k0_off285 (d0 : Dev nD) (k0_t3 : Fin k0_t3_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3091 : BitVec 32 := Scalar.addi v1429 arg16
  let c32_i32_1854 : BitVec 32 := 32#32
  let v3092 : BitVec 32 := Scalar.subi v3091 c32_i32_1854
  let c32_i32_1855 : BitVec 32 := 32#32
  let c0_i32_1856 : BitVec 32 := 0#32
  let v3095 : BitVec 1 := Scalar.cmpi .eq c32_i32_1855 c0_i32_1856
  let c1_i32_1857 : BitVec 32 := 1#32
  let v3096 : BitVec 32 := Scalar.select v3095 c1_i32_1857 c32_i32_1855
  let v3097 : BitVec 32 := Scalar.remsi v3092 v3096
  let c0_i32_1859 : BitVec 32 := 0#32
  let v3099 : BitVec 1 := Scalar.cmpi .slt v3097 c0_i32_1859
  let c0_i32_1860 : BitVec 32 := 0#32
  let v3100 : BitVec 1 := Scalar.cmpi .slt v3096 c0_i32_1860
  let v3101 : BitVec 1 := Scalar.xori v3099 v3100
  let c0_i32_1858 : BitVec 32 := 0#32
  let v3098 : BitVec 1 := Scalar.cmpi .ne v3097 c0_i32_1858
  let v3102 : BitVec 1 := Scalar.andi v3101 v3098
  let v3103 : BitVec 32 := Scalar.addi v3097 v3096
  let v3104 : BitVec 32 := Scalar.select v3102 v3103 v3097
  ![v3104.toNat]
def k0_off286 (d0 : Dev nD) (k0_t3 : Fin k0_t3_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c0_i32_820 : BitVec 32 := 0#32
  let c1_i32_822 : BitVec 32 := 1#32
  let arg16 : BitVec 32 := Scf.iv c0_i32_820 c1_i32_822 k0_t3
  let v3091 : BitVec 32 := Scalar.addi v1429 arg16
  let c32_i32_1854 : BitVec 32 := 32#32
  let v3092 : BitVec 32 := Scalar.subi v3091 c32_i32_1854
  let c0_i32_1861 : BitVec 32 := 0#32
  ![v3092.toNat, 0]
def k0_off287 (v3094 : BitVec 32) : Fin 2 → Nat :=
  let c0_i32_1862 : BitVec 32 := 0#32
  ![v3094.toNat, 0]

def k0_chk70 (k0_t3 : Fin k0_t3_loop.trips) (v3094 : BitVec 32) : Prop :=
  (∀ (k0_h3 : k0_cond3 k0_t3 = 1#1), ∀ a, (k0_off287 v3094) a + S1x1024.size a ≤ S8192x1024.size a)
theorem k0_off287_inb : ∀ (k0_t3 : Fin k0_t3_loop.trips) (v3094 : BitVec 32) (k0_hw70 : k0_chk70 k0_t3 v3094), ∀ (k0_h3 : k0_cond3 k0_t3 = 1#1), ∀ a, (k0_off287 v3094) a + S1x1024.size a ≤ S8192x1024.size a := fun k0_t3 v3094 k0_hw70 k0_h3 => k0_hw70 k0_h3

def k0_off288 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_824 : BitVec 32 := 128#32
  let v1431 : BitVec 32 := Scalar.addi v1429 c128_i32_824
  let c32_i32_825 : BitVec 32 := 32#32
  let v1432 : BitVec 32 := Scalar.subi v1431 c32_i32_825
  let c0_i32_826 : BitVec 32 := 0#32
  let v1433 : BitVec 32 := Scalar.addi v1432 c0_i32_826
  let v1434 : Index := Scalar.indexCast v1433
  ![v1434.toNat]
def k0_off289 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_824 : BitVec 32 := 128#32
  let v1431 : BitVec 32 := Scalar.addi v1429 c128_i32_824
  let c32_i32_825 : BitVec 32 := 32#32
  let v1432 : BitVec 32 := Scalar.subi v1431 c32_i32_825
  let c0_i32_826 : BitVec 32 := 0#32
  let v1433 : BitVec 32 := Scalar.addi v1432 c0_i32_826
  let c32_i32_827 : BitVec 32 := 32#32
  let c0_i32_828 : BitVec 32 := 0#32
  let v1436 : BitVec 1 := Scalar.cmpi .eq c32_i32_827 c0_i32_828
  let c1_i32_829 : BitVec 32 := 1#32
  let v1437 : BitVec 32 := Scalar.select v1436 c1_i32_829 c32_i32_827
  let v1438 : BitVec 32 := Scalar.remsi v1433 v1437
  let c0_i32_831 : BitVec 32 := 0#32
  let v1440 : BitVec 1 := Scalar.cmpi .slt v1438 c0_i32_831
  let c0_i32_832 : BitVec 32 := 0#32
  let v1441 : BitVec 1 := Scalar.cmpi .slt v1437 c0_i32_832
  let v1442 : BitVec 1 := Scalar.xori v1440 v1441
  let c0_i32_830 : BitVec 32 := 0#32
  let v1439 : BitVec 1 := Scalar.cmpi .ne v1438 c0_i32_830
  let v1443 : BitVec 1 := Scalar.andi v1442 v1439
  let v1444 : BitVec 32 := Scalar.addi v1438 v1437
  let v1445 : BitVec 32 := Scalar.select v1443 v1444 v1438
  ![v1445.toNat]
def k0_off290 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_824 : BitVec 32 := 128#32
  let v1431 : BitVec 32 := Scalar.addi v1429 c128_i32_824
  let c32_i32_825 : BitVec 32 := 32#32
  let v1432 : BitVec 32 := Scalar.subi v1431 c32_i32_825
  let c0_i32_826 : BitVec 32 := 0#32
  let v1433 : BitVec 32 := Scalar.addi v1432 c0_i32_826
  let c0_i32_833 : BitVec 32 := 0#32
  ![v1433.toNat, 0]
def k0_off291 (v1435 : BitVec 32) : Fin 2 → Nat :=
  let c0_i32_834 : BitVec 32 := 0#32
  ![v1435.toNat, 0]

def k0_chk71 (v1435 : BitVec 32) : Prop :=
  (∀ a, (k0_off291 v1435) a + S1x1024.size a ≤ S8192x1024.size a)
theorem k0_off291_inb : ∀ (v1435 : BitVec 32) (k0_hw71 : k0_chk71 v1435), ∀ a, (k0_off291 v1435) a + S1x1024.size a ≤ S8192x1024.size a := fun v1435 k0_hw71 => k0_hw71

def k0_off292 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_835 : BitVec 32 := 128#32
  let v1450 : BitVec 32 := Scalar.addi v1429 c128_i32_835
  let c32_i32_836 : BitVec 32 := 32#32
  let v1451 : BitVec 32 := Scalar.subi v1450 c32_i32_836
  let c1_i32_837 : BitVec 32 := 1#32
  let v1452 : BitVec 32 := Scalar.addi v1451 c1_i32_837
  let v1453 : Index := Scalar.indexCast v1452
  ![v1453.toNat]
def k0_off293 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_835 : BitVec 32 := 128#32
  let v1450 : BitVec 32 := Scalar.addi v1429 c128_i32_835
  let c32_i32_836 : BitVec 32 := 32#32
  let v1451 : BitVec 32 := Scalar.subi v1450 c32_i32_836
  let c1_i32_837 : BitVec 32 := 1#32
  let v1452 : BitVec 32 := Scalar.addi v1451 c1_i32_837
  let c32_i32_838 : BitVec 32 := 32#32
  let c0_i32_839 : BitVec 32 := 0#32
  let v1455 : BitVec 1 := Scalar.cmpi .eq c32_i32_838 c0_i32_839
  let c1_i32_840 : BitVec 32 := 1#32
  let v1456 : BitVec 32 := Scalar.select v1455 c1_i32_840 c32_i32_838
  let v1457 : BitVec 32 := Scalar.remsi v1452 v1456
  let c0_i32_842 : BitVec 32 := 0#32
  let v1459 : BitVec 1 := Scalar.cmpi .slt v1457 c0_i32_842
  let c0_i32_843 : BitVec 32 := 0#32
  let v1460 : BitVec 1 := Scalar.cmpi .slt v1456 c0_i32_843
  let v1461 : BitVec 1 := Scalar.xori v1459 v1460
  let c0_i32_841 : BitVec 32 := 0#32
  let v1458 : BitVec 1 := Scalar.cmpi .ne v1457 c0_i32_841
  let v1462 : BitVec 1 := Scalar.andi v1461 v1458
  let v1463 : BitVec 32 := Scalar.addi v1457 v1456
  let v1464 : BitVec 32 := Scalar.select v1462 v1463 v1457
  ![v1464.toNat]
def k0_off294 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_835 : BitVec 32 := 128#32
  let v1450 : BitVec 32 := Scalar.addi v1429 c128_i32_835
  let c32_i32_836 : BitVec 32 := 32#32
  let v1451 : BitVec 32 := Scalar.subi v1450 c32_i32_836
  let c1_i32_837 : BitVec 32 := 1#32
  let v1452 : BitVec 32 := Scalar.addi v1451 c1_i32_837
  let c0_i32_844 : BitVec 32 := 0#32
  ![v1452.toNat, 0]
def k0_off295 (v1454 : BitVec 32) : Fin 2 → Nat :=
  let c0_i32_845 : BitVec 32 := 0#32
  ![v1454.toNat, 0]

def k0_chk72 (v1454 : BitVec 32) : Prop :=
  (∀ a, (k0_off295 v1454) a + S1x1024.size a ≤ S8192x1024.size a)
theorem k0_off295_inb : ∀ (v1454 : BitVec 32) (k0_hw72 : k0_chk72 v1454), ∀ a, (k0_off295 v1454) a + S1x1024.size a ≤ S8192x1024.size a := fun v1454 k0_hw72 => k0_hw72

def k0_off296 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_846 : BitVec 32 := 128#32
  let v1469 : BitVec 32 := Scalar.addi v1429 c128_i32_846
  let c32_i32_847 : BitVec 32 := 32#32
  let v1470 : BitVec 32 := Scalar.subi v1469 c32_i32_847
  let c2_i32_848 : BitVec 32 := 2#32
  let v1471 : BitVec 32 := Scalar.addi v1470 c2_i32_848
  let v1472 : Index := Scalar.indexCast v1471
  ![v1472.toNat]
def k0_off297 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_846 : BitVec 32 := 128#32
  let v1469 : BitVec 32 := Scalar.addi v1429 c128_i32_846
  let c32_i32_847 : BitVec 32 := 32#32
  let v1470 : BitVec 32 := Scalar.subi v1469 c32_i32_847
  let c2_i32_848 : BitVec 32 := 2#32
  let v1471 : BitVec 32 := Scalar.addi v1470 c2_i32_848
  let c32_i32_849 : BitVec 32 := 32#32
  let c0_i32_850 : BitVec 32 := 0#32
  let v1474 : BitVec 1 := Scalar.cmpi .eq c32_i32_849 c0_i32_850
  let c1_i32_851 : BitVec 32 := 1#32
  let v1475 : BitVec 32 := Scalar.select v1474 c1_i32_851 c32_i32_849
  let v1476 : BitVec 32 := Scalar.remsi v1471 v1475
  let c0_i32_853 : BitVec 32 := 0#32
  let v1478 : BitVec 1 := Scalar.cmpi .slt v1476 c0_i32_853
  let c0_i32_854 : BitVec 32 := 0#32
  let v1479 : BitVec 1 := Scalar.cmpi .slt v1475 c0_i32_854
  let v1480 : BitVec 1 := Scalar.xori v1478 v1479
  let c0_i32_852 : BitVec 32 := 0#32
  let v1477 : BitVec 1 := Scalar.cmpi .ne v1476 c0_i32_852
  let v1481 : BitVec 1 := Scalar.andi v1480 v1477
  let v1482 : BitVec 32 := Scalar.addi v1476 v1475
  let v1483 : BitVec 32 := Scalar.select v1481 v1482 v1476
  ![v1483.toNat]
def k0_off298 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_846 : BitVec 32 := 128#32
  let v1469 : BitVec 32 := Scalar.addi v1429 c128_i32_846
  let c32_i32_847 : BitVec 32 := 32#32
  let v1470 : BitVec 32 := Scalar.subi v1469 c32_i32_847
  let c2_i32_848 : BitVec 32 := 2#32
  let v1471 : BitVec 32 := Scalar.addi v1470 c2_i32_848
  let c0_i32_855 : BitVec 32 := 0#32
  ![v1471.toNat, 0]
def k0_off299 (v1473 : BitVec 32) : Fin 2 → Nat :=
  let c0_i32_856 : BitVec 32 := 0#32
  ![v1473.toNat, 0]

def k0_chk73 (v1473 : BitVec 32) : Prop :=
  (∀ a, (k0_off299 v1473) a + S1x1024.size a ≤ S8192x1024.size a)
theorem k0_off299_inb : ∀ (v1473 : BitVec 32) (k0_hw73 : k0_chk73 v1473), ∀ a, (k0_off299 v1473) a + S1x1024.size a ≤ S8192x1024.size a := fun v1473 k0_hw73 => k0_hw73

def k0_off300 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_857 : BitVec 32 := 128#32
  let v1488 : BitVec 32 := Scalar.addi v1429 c128_i32_857
  let c32_i32_858 : BitVec 32 := 32#32
  let v1489 : BitVec 32 := Scalar.subi v1488 c32_i32_858
  let c3_i32_859 : BitVec 32 := 3#32
  let v1490 : BitVec 32 := Scalar.addi v1489 c3_i32_859
  let v1491 : Index := Scalar.indexCast v1490
  ![v1491.toNat]
def k0_off301 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_857 : BitVec 32 := 128#32
  let v1488 : BitVec 32 := Scalar.addi v1429 c128_i32_857
  let c32_i32_858 : BitVec 32 := 32#32
  let v1489 : BitVec 32 := Scalar.subi v1488 c32_i32_858
  let c3_i32_859 : BitVec 32 := 3#32
  let v1490 : BitVec 32 := Scalar.addi v1489 c3_i32_859
  let c32_i32_860 : BitVec 32 := 32#32
  let c0_i32_861 : BitVec 32 := 0#32
  let v1493 : BitVec 1 := Scalar.cmpi .eq c32_i32_860 c0_i32_861
  let c1_i32_862 : BitVec 32 := 1#32
  let v1494 : BitVec 32 := Scalar.select v1493 c1_i32_862 c32_i32_860
  let v1495 : BitVec 32 := Scalar.remsi v1490 v1494
  let c0_i32_864 : BitVec 32 := 0#32
  let v1497 : BitVec 1 := Scalar.cmpi .slt v1495 c0_i32_864
  let c0_i32_865 : BitVec 32 := 0#32
  let v1498 : BitVec 1 := Scalar.cmpi .slt v1494 c0_i32_865
  let v1499 : BitVec 1 := Scalar.xori v1497 v1498
  let c0_i32_863 : BitVec 32 := 0#32
  let v1496 : BitVec 1 := Scalar.cmpi .ne v1495 c0_i32_863
  let v1500 : BitVec 1 := Scalar.andi v1499 v1496
  let v1501 : BitVec 32 := Scalar.addi v1495 v1494
  let v1502 : BitVec 32 := Scalar.select v1500 v1501 v1495
  ![v1502.toNat]
def k0_off302 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_857 : BitVec 32 := 128#32
  let v1488 : BitVec 32 := Scalar.addi v1429 c128_i32_857
  let c32_i32_858 : BitVec 32 := 32#32
  let v1489 : BitVec 32 := Scalar.subi v1488 c32_i32_858
  let c3_i32_859 : BitVec 32 := 3#32
  let v1490 : BitVec 32 := Scalar.addi v1489 c3_i32_859
  let c0_i32_866 : BitVec 32 := 0#32
  ![v1490.toNat, 0]
def k0_off303 (v1492 : BitVec 32) : Fin 2 → Nat :=
  let c0_i32_867 : BitVec 32 := 0#32
  ![v1492.toNat, 0]

def k0_chk74 (v1492 : BitVec 32) : Prop :=
  (∀ a, (k0_off303 v1492) a + S1x1024.size a ≤ S8192x1024.size a)
theorem k0_off303_inb : ∀ (v1492 : BitVec 32) (k0_hw74 : k0_chk74 v1492), ∀ a, (k0_off303 v1492) a + S1x1024.size a ≤ S8192x1024.size a := fun v1492 k0_hw74 => k0_hw74

def k0_off304 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_868 : BitVec 32 := 128#32
  let v1507 : BitVec 32 := Scalar.addi v1429 c128_i32_868
  let c32_i32_869 : BitVec 32 := 32#32
  let v1508 : BitVec 32 := Scalar.subi v1507 c32_i32_869
  let c4_i32_870 : BitVec 32 := 4#32
  let v1509 : BitVec 32 := Scalar.addi v1508 c4_i32_870
  let v1510 : Index := Scalar.indexCast v1509
  ![v1510.toNat]
def k0_off305 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_868 : BitVec 32 := 128#32
  let v1507 : BitVec 32 := Scalar.addi v1429 c128_i32_868
  let c32_i32_869 : BitVec 32 := 32#32
  let v1508 : BitVec 32 := Scalar.subi v1507 c32_i32_869
  let c4_i32_870 : BitVec 32 := 4#32
  let v1509 : BitVec 32 := Scalar.addi v1508 c4_i32_870
  let c32_i32_871 : BitVec 32 := 32#32
  let c0_i32_872 : BitVec 32 := 0#32
  let v1512 : BitVec 1 := Scalar.cmpi .eq c32_i32_871 c0_i32_872
  let c1_i32_873 : BitVec 32 := 1#32
  let v1513 : BitVec 32 := Scalar.select v1512 c1_i32_873 c32_i32_871
  let v1514 : BitVec 32 := Scalar.remsi v1509 v1513
  let c0_i32_875 : BitVec 32 := 0#32
  let v1516 : BitVec 1 := Scalar.cmpi .slt v1514 c0_i32_875
  let c0_i32_876 : BitVec 32 := 0#32
  let v1517 : BitVec 1 := Scalar.cmpi .slt v1513 c0_i32_876
  let v1518 : BitVec 1 := Scalar.xori v1516 v1517
  let c0_i32_874 : BitVec 32 := 0#32
  let v1515 : BitVec 1 := Scalar.cmpi .ne v1514 c0_i32_874
  let v1519 : BitVec 1 := Scalar.andi v1518 v1515
  let v1520 : BitVec 32 := Scalar.addi v1514 v1513
  let v1521 : BitVec 32 := Scalar.select v1519 v1520 v1514
  ![v1521.toNat]
def k0_off306 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_868 : BitVec 32 := 128#32
  let v1507 : BitVec 32 := Scalar.addi v1429 c128_i32_868
  let c32_i32_869 : BitVec 32 := 32#32
  let v1508 : BitVec 32 := Scalar.subi v1507 c32_i32_869
  let c4_i32_870 : BitVec 32 := 4#32
  let v1509 : BitVec 32 := Scalar.addi v1508 c4_i32_870
  let c0_i32_877 : BitVec 32 := 0#32
  ![v1509.toNat, 0]
def k0_off307 (v1511 : BitVec 32) : Fin 2 → Nat :=
  let c0_i32_878 : BitVec 32 := 0#32
  ![v1511.toNat, 0]

def k0_chk75 (v1511 : BitVec 32) : Prop :=
  (∀ a, (k0_off307 v1511) a + S1x1024.size a ≤ S8192x1024.size a)
theorem k0_off307_inb : ∀ (v1511 : BitVec 32) (k0_hw75 : k0_chk75 v1511), ∀ a, (k0_off307 v1511) a + S1x1024.size a ≤ S8192x1024.size a := fun v1511 k0_hw75 => k0_hw75

def k0_off308 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_879 : BitVec 32 := 128#32
  let v1526 : BitVec 32 := Scalar.addi v1429 c128_i32_879
  let c32_i32_880 : BitVec 32 := 32#32
  let v1527 : BitVec 32 := Scalar.subi v1526 c32_i32_880
  let c5_i32_881 : BitVec 32 := 5#32
  let v1528 : BitVec 32 := Scalar.addi v1527 c5_i32_881
  let v1529 : Index := Scalar.indexCast v1528
  ![v1529.toNat]
def k0_off309 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_879 : BitVec 32 := 128#32
  let v1526 : BitVec 32 := Scalar.addi v1429 c128_i32_879
  let c32_i32_880 : BitVec 32 := 32#32
  let v1527 : BitVec 32 := Scalar.subi v1526 c32_i32_880
  let c5_i32_881 : BitVec 32 := 5#32
  let v1528 : BitVec 32 := Scalar.addi v1527 c5_i32_881
  let c32_i32_882 : BitVec 32 := 32#32
  let c0_i32_883 : BitVec 32 := 0#32
  let v1531 : BitVec 1 := Scalar.cmpi .eq c32_i32_882 c0_i32_883
  let c1_i32_884 : BitVec 32 := 1#32
  let v1532 : BitVec 32 := Scalar.select v1531 c1_i32_884 c32_i32_882
  let v1533 : BitVec 32 := Scalar.remsi v1528 v1532
  let c0_i32_886 : BitVec 32 := 0#32
  let v1535 : BitVec 1 := Scalar.cmpi .slt v1533 c0_i32_886
  let c0_i32_887 : BitVec 32 := 0#32
  let v1536 : BitVec 1 := Scalar.cmpi .slt v1532 c0_i32_887
  let v1537 : BitVec 1 := Scalar.xori v1535 v1536
  let c0_i32_885 : BitVec 32 := 0#32
  let v1534 : BitVec 1 := Scalar.cmpi .ne v1533 c0_i32_885
  let v1538 : BitVec 1 := Scalar.andi v1537 v1534
  let v1539 : BitVec 32 := Scalar.addi v1533 v1532
  let v1540 : BitVec 32 := Scalar.select v1538 v1539 v1533
  ![v1540.toNat]
def k0_off310 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_879 : BitVec 32 := 128#32
  let v1526 : BitVec 32 := Scalar.addi v1429 c128_i32_879
  let c32_i32_880 : BitVec 32 := 32#32
  let v1527 : BitVec 32 := Scalar.subi v1526 c32_i32_880
  let c5_i32_881 : BitVec 32 := 5#32
  let v1528 : BitVec 32 := Scalar.addi v1527 c5_i32_881
  let c0_i32_888 : BitVec 32 := 0#32
  ![v1528.toNat, 0]
def k0_off311 (v1530 : BitVec 32) : Fin 2 → Nat :=
  let c0_i32_889 : BitVec 32 := 0#32
  ![v1530.toNat, 0]

def k0_chk76 (v1530 : BitVec 32) : Prop :=
  (∀ a, (k0_off311 v1530) a + S1x1024.size a ≤ S8192x1024.size a)
theorem k0_off311_inb : ∀ (v1530 : BitVec 32) (k0_hw76 : k0_chk76 v1530), ∀ a, (k0_off311 v1530) a + S1x1024.size a ≤ S8192x1024.size a := fun v1530 k0_hw76 => k0_hw76

def k0_off312 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_890 : BitVec 32 := 128#32
  let v1545 : BitVec 32 := Scalar.addi v1429 c128_i32_890
  let c32_i32_891 : BitVec 32 := 32#32
  let v1546 : BitVec 32 := Scalar.subi v1545 c32_i32_891
  let c6_i32_892 : BitVec 32 := 6#32
  let v1547 : BitVec 32 := Scalar.addi v1546 c6_i32_892
  let v1548 : Index := Scalar.indexCast v1547
  ![v1548.toNat]
def k0_off313 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_890 : BitVec 32 := 128#32
  let v1545 : BitVec 32 := Scalar.addi v1429 c128_i32_890
  let c32_i32_891 : BitVec 32 := 32#32
  let v1546 : BitVec 32 := Scalar.subi v1545 c32_i32_891
  let c6_i32_892 : BitVec 32 := 6#32
  let v1547 : BitVec 32 := Scalar.addi v1546 c6_i32_892
  let c32_i32_893 : BitVec 32 := 32#32
  let c0_i32_894 : BitVec 32 := 0#32
  let v1550 : BitVec 1 := Scalar.cmpi .eq c32_i32_893 c0_i32_894
  let c1_i32_895 : BitVec 32 := 1#32
  let v1551 : BitVec 32 := Scalar.select v1550 c1_i32_895 c32_i32_893
  let v1552 : BitVec 32 := Scalar.remsi v1547 v1551
  let c0_i32_897 : BitVec 32 := 0#32
  let v1554 : BitVec 1 := Scalar.cmpi .slt v1552 c0_i32_897
  let c0_i32_898 : BitVec 32 := 0#32
  let v1555 : BitVec 1 := Scalar.cmpi .slt v1551 c0_i32_898
  let v1556 : BitVec 1 := Scalar.xori v1554 v1555
  let c0_i32_896 : BitVec 32 := 0#32
  let v1553 : BitVec 1 := Scalar.cmpi .ne v1552 c0_i32_896
  let v1557 : BitVec 1 := Scalar.andi v1556 v1553
  let v1558 : BitVec 32 := Scalar.addi v1552 v1551
  let v1559 : BitVec 32 := Scalar.select v1557 v1558 v1552
  ![v1559.toNat]
def k0_off314 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_890 : BitVec 32 := 128#32
  let v1545 : BitVec 32 := Scalar.addi v1429 c128_i32_890
  let c32_i32_891 : BitVec 32 := 32#32
  let v1546 : BitVec 32 := Scalar.subi v1545 c32_i32_891
  let c6_i32_892 : BitVec 32 := 6#32
  let v1547 : BitVec 32 := Scalar.addi v1546 c6_i32_892
  let c0_i32_899 : BitVec 32 := 0#32
  ![v1547.toNat, 0]
def k0_off315 (v1549 : BitVec 32) : Fin 2 → Nat :=
  let c0_i32_900 : BitVec 32 := 0#32
  ![v1549.toNat, 0]

def k0_chk77 (v1549 : BitVec 32) : Prop :=
  (∀ a, (k0_off315 v1549) a + S1x1024.size a ≤ S8192x1024.size a)
theorem k0_off315_inb : ∀ (v1549 : BitVec 32) (k0_hw77 : k0_chk77 v1549), ∀ a, (k0_off315 v1549) a + S1x1024.size a ≤ S8192x1024.size a := fun v1549 k0_hw77 => k0_hw77

def k0_off316 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_901 : BitVec 32 := 128#32
  let v1564 : BitVec 32 := Scalar.addi v1429 c128_i32_901
  let c32_i32_902 : BitVec 32 := 32#32
  let v1565 : BitVec 32 := Scalar.subi v1564 c32_i32_902
  let c7_i32_903 : BitVec 32 := 7#32
  let v1566 : BitVec 32 := Scalar.addi v1565 c7_i32_903
  let v1567 : Index := Scalar.indexCast v1566
  ![v1567.toNat]
def k0_off317 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_901 : BitVec 32 := 128#32
  let v1564 : BitVec 32 := Scalar.addi v1429 c128_i32_901
  let c32_i32_902 : BitVec 32 := 32#32
  let v1565 : BitVec 32 := Scalar.subi v1564 c32_i32_902
  let c7_i32_903 : BitVec 32 := 7#32
  let v1566 : BitVec 32 := Scalar.addi v1565 c7_i32_903
  let c32_i32_904 : BitVec 32 := 32#32
  let c0_i32_905 : BitVec 32 := 0#32
  let v1569 : BitVec 1 := Scalar.cmpi .eq c32_i32_904 c0_i32_905
  let c1_i32_906 : BitVec 32 := 1#32
  let v1570 : BitVec 32 := Scalar.select v1569 c1_i32_906 c32_i32_904
  let v1571 : BitVec 32 := Scalar.remsi v1566 v1570
  let c0_i32_908 : BitVec 32 := 0#32
  let v1573 : BitVec 1 := Scalar.cmpi .slt v1571 c0_i32_908
  let c0_i32_909 : BitVec 32 := 0#32
  let v1574 : BitVec 1 := Scalar.cmpi .slt v1570 c0_i32_909
  let v1575 : BitVec 1 := Scalar.xori v1573 v1574
  let c0_i32_907 : BitVec 32 := 0#32
  let v1572 : BitVec 1 := Scalar.cmpi .ne v1571 c0_i32_907
  let v1576 : BitVec 1 := Scalar.andi v1575 v1572
  let v1577 : BitVec 32 := Scalar.addi v1571 v1570
  let v1578 : BitVec 32 := Scalar.select v1576 v1577 v1571
  ![v1578.toNat]
def k0_off318 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_901 : BitVec 32 := 128#32
  let v1564 : BitVec 32 := Scalar.addi v1429 c128_i32_901
  let c32_i32_902 : BitVec 32 := 32#32
  let v1565 : BitVec 32 := Scalar.subi v1564 c32_i32_902
  let c7_i32_903 : BitVec 32 := 7#32
  let v1566 : BitVec 32 := Scalar.addi v1565 c7_i32_903
  let c0_i32_910 : BitVec 32 := 0#32
  ![v1566.toNat, 0]
def k0_off319 (v1568 : BitVec 32) : Fin 2 → Nat :=
  let c0_i32_911 : BitVec 32 := 0#32
  ![v1568.toNat, 0]

def k0_chk78 (v1568 : BitVec 32) : Prop :=
  (∀ a, (k0_off319 v1568) a + S1x1024.size a ≤ S8192x1024.size a)
theorem k0_off319_inb : ∀ (v1568 : BitVec 32) (k0_hw78 : k0_chk78 v1568), ∀ a, (k0_off319 v1568) a + S1x1024.size a ≤ S8192x1024.size a := fun v1568 k0_hw78 => k0_hw78

def k0_off320 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_912 : BitVec 32 := 128#32
  let v1583 : BitVec 32 := Scalar.addi v1429 c128_i32_912
  let c32_i32_913 : BitVec 32 := 32#32
  let v1584 : BitVec 32 := Scalar.subi v1583 c32_i32_913
  let c8_i32_914 : BitVec 32 := 8#32
  let v1585 : BitVec 32 := Scalar.addi v1584 c8_i32_914
  let v1586 : Index := Scalar.indexCast v1585
  ![v1586.toNat]
def k0_off321 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_912 : BitVec 32 := 128#32
  let v1583 : BitVec 32 := Scalar.addi v1429 c128_i32_912
  let c32_i32_913 : BitVec 32 := 32#32
  let v1584 : BitVec 32 := Scalar.subi v1583 c32_i32_913
  let c8_i32_914 : BitVec 32 := 8#32
  let v1585 : BitVec 32 := Scalar.addi v1584 c8_i32_914
  let c32_i32_915 : BitVec 32 := 32#32
  let c0_i32_916 : BitVec 32 := 0#32
  let v1588 : BitVec 1 := Scalar.cmpi .eq c32_i32_915 c0_i32_916
  let c1_i32_917 : BitVec 32 := 1#32
  let v1589 : BitVec 32 := Scalar.select v1588 c1_i32_917 c32_i32_915
  let v1590 : BitVec 32 := Scalar.remsi v1585 v1589
  let c0_i32_919 : BitVec 32 := 0#32
  let v1592 : BitVec 1 := Scalar.cmpi .slt v1590 c0_i32_919
  let c0_i32_920 : BitVec 32 := 0#32
  let v1593 : BitVec 1 := Scalar.cmpi .slt v1589 c0_i32_920
  let v1594 : BitVec 1 := Scalar.xori v1592 v1593
  let c0_i32_918 : BitVec 32 := 0#32
  let v1591 : BitVec 1 := Scalar.cmpi .ne v1590 c0_i32_918
  let v1595 : BitVec 1 := Scalar.andi v1594 v1591
  let v1596 : BitVec 32 := Scalar.addi v1590 v1589
  let v1597 : BitVec 32 := Scalar.select v1595 v1596 v1590
  ![v1597.toNat]
def k0_off322 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_912 : BitVec 32 := 128#32
  let v1583 : BitVec 32 := Scalar.addi v1429 c128_i32_912
  let c32_i32_913 : BitVec 32 := 32#32
  let v1584 : BitVec 32 := Scalar.subi v1583 c32_i32_913
  let c8_i32_914 : BitVec 32 := 8#32
  let v1585 : BitVec 32 := Scalar.addi v1584 c8_i32_914
  let c0_i32_921 : BitVec 32 := 0#32
  ![v1585.toNat, 0]
def k0_off323 (v1587 : BitVec 32) : Fin 2 → Nat :=
  let c0_i32_922 : BitVec 32 := 0#32
  ![v1587.toNat, 0]

def k0_chk79 (v1587 : BitVec 32) : Prop :=
  (∀ a, (k0_off323 v1587) a + S1x1024.size a ≤ S8192x1024.size a)
theorem k0_off323_inb : ∀ (v1587 : BitVec 32) (k0_hw79 : k0_chk79 v1587), ∀ a, (k0_off323 v1587) a + S1x1024.size a ≤ S8192x1024.size a := fun v1587 k0_hw79 => k0_hw79

def k0_off324 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_923 : BitVec 32 := 128#32
  let v1602 : BitVec 32 := Scalar.addi v1429 c128_i32_923
  let c32_i32_924 : BitVec 32 := 32#32
  let v1603 : BitVec 32 := Scalar.subi v1602 c32_i32_924
  let c9_i32_925 : BitVec 32 := 9#32
  let v1604 : BitVec 32 := Scalar.addi v1603 c9_i32_925
  let v1605 : Index := Scalar.indexCast v1604
  ![v1605.toNat]
def k0_off325 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_923 : BitVec 32 := 128#32
  let v1602 : BitVec 32 := Scalar.addi v1429 c128_i32_923
  let c32_i32_924 : BitVec 32 := 32#32
  let v1603 : BitVec 32 := Scalar.subi v1602 c32_i32_924
  let c9_i32_925 : BitVec 32 := 9#32
  let v1604 : BitVec 32 := Scalar.addi v1603 c9_i32_925
  let c32_i32_926 : BitVec 32 := 32#32
  let c0_i32_927 : BitVec 32 := 0#32
  let v1607 : BitVec 1 := Scalar.cmpi .eq c32_i32_926 c0_i32_927
  let c1_i32_928 : BitVec 32 := 1#32
  let v1608 : BitVec 32 := Scalar.select v1607 c1_i32_928 c32_i32_926
  let v1609 : BitVec 32 := Scalar.remsi v1604 v1608
  let c0_i32_930 : BitVec 32 := 0#32
  let v1611 : BitVec 1 := Scalar.cmpi .slt v1609 c0_i32_930
  let c0_i32_931 : BitVec 32 := 0#32
  let v1612 : BitVec 1 := Scalar.cmpi .slt v1608 c0_i32_931
  let v1613 : BitVec 1 := Scalar.xori v1611 v1612
  let c0_i32_929 : BitVec 32 := 0#32
  let v1610 : BitVec 1 := Scalar.cmpi .ne v1609 c0_i32_929
  let v1614 : BitVec 1 := Scalar.andi v1613 v1610
  let v1615 : BitVec 32 := Scalar.addi v1609 v1608
  let v1616 : BitVec 32 := Scalar.select v1614 v1615 v1609
  ![v1616.toNat]
def k0_off326 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_923 : BitVec 32 := 128#32
  let v1602 : BitVec 32 := Scalar.addi v1429 c128_i32_923
  let c32_i32_924 : BitVec 32 := 32#32
  let v1603 : BitVec 32 := Scalar.subi v1602 c32_i32_924
  let c9_i32_925 : BitVec 32 := 9#32
  let v1604 : BitVec 32 := Scalar.addi v1603 c9_i32_925
  let c0_i32_932 : BitVec 32 := 0#32
  ![v1604.toNat, 0]
def k0_off327 (v1606 : BitVec 32) : Fin 2 → Nat :=
  let c0_i32_933 : BitVec 32 := 0#32
  ![v1606.toNat, 0]

def k0_chk80 (v1606 : BitVec 32) : Prop :=
  (∀ a, (k0_off327 v1606) a + S1x1024.size a ≤ S8192x1024.size a)
theorem k0_off327_inb : ∀ (v1606 : BitVec 32) (k0_hw80 : k0_chk80 v1606), ∀ a, (k0_off327 v1606) a + S1x1024.size a ≤ S8192x1024.size a := fun v1606 k0_hw80 => k0_hw80

def k0_off328 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_934 : BitVec 32 := 128#32
  let v1621 : BitVec 32 := Scalar.addi v1429 c128_i32_934
  let c32_i32_935 : BitVec 32 := 32#32
  let v1622 : BitVec 32 := Scalar.subi v1621 c32_i32_935
  let c10_i32_936 : BitVec 32 := 10#32
  let v1623 : BitVec 32 := Scalar.addi v1622 c10_i32_936
  let v1624 : Index := Scalar.indexCast v1623
  ![v1624.toNat]
def k0_off329 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_934 : BitVec 32 := 128#32
  let v1621 : BitVec 32 := Scalar.addi v1429 c128_i32_934
  let c32_i32_935 : BitVec 32 := 32#32
  let v1622 : BitVec 32 := Scalar.subi v1621 c32_i32_935
  let c10_i32_936 : BitVec 32 := 10#32
  let v1623 : BitVec 32 := Scalar.addi v1622 c10_i32_936
  let c32_i32_937 : BitVec 32 := 32#32
  let c0_i32_938 : BitVec 32 := 0#32
  let v1626 : BitVec 1 := Scalar.cmpi .eq c32_i32_937 c0_i32_938
  let c1_i32_939 : BitVec 32 := 1#32
  let v1627 : BitVec 32 := Scalar.select v1626 c1_i32_939 c32_i32_937
  let v1628 : BitVec 32 := Scalar.remsi v1623 v1627
  let c0_i32_941 : BitVec 32 := 0#32
  let v1630 : BitVec 1 := Scalar.cmpi .slt v1628 c0_i32_941
  let c0_i32_942 : BitVec 32 := 0#32
  let v1631 : BitVec 1 := Scalar.cmpi .slt v1627 c0_i32_942
  let v1632 : BitVec 1 := Scalar.xori v1630 v1631
  let c0_i32_940 : BitVec 32 := 0#32
  let v1629 : BitVec 1 := Scalar.cmpi .ne v1628 c0_i32_940
  let v1633 : BitVec 1 := Scalar.andi v1632 v1629
  let v1634 : BitVec 32 := Scalar.addi v1628 v1627
  let v1635 : BitVec 32 := Scalar.select v1633 v1634 v1628
  ![v1635.toNat]
def k0_off330 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_934 : BitVec 32 := 128#32
  let v1621 : BitVec 32 := Scalar.addi v1429 c128_i32_934
  let c32_i32_935 : BitVec 32 := 32#32
  let v1622 : BitVec 32 := Scalar.subi v1621 c32_i32_935
  let c10_i32_936 : BitVec 32 := 10#32
  let v1623 : BitVec 32 := Scalar.addi v1622 c10_i32_936
  let c0_i32_943 : BitVec 32 := 0#32
  ![v1623.toNat, 0]
def k0_off331 (v1625 : BitVec 32) : Fin 2 → Nat :=
  let c0_i32_944 : BitVec 32 := 0#32
  ![v1625.toNat, 0]

def k0_chk81 (v1625 : BitVec 32) : Prop :=
  (∀ a, (k0_off331 v1625) a + S1x1024.size a ≤ S8192x1024.size a)
theorem k0_off331_inb : ∀ (v1625 : BitVec 32) (k0_hw81 : k0_chk81 v1625), ∀ a, (k0_off331 v1625) a + S1x1024.size a ≤ S8192x1024.size a := fun v1625 k0_hw81 => k0_hw81

def k0_off332 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_945 : BitVec 32 := 128#32
  let v1640 : BitVec 32 := Scalar.addi v1429 c128_i32_945
  let c32_i32_946 : BitVec 32 := 32#32
  let v1641 : BitVec 32 := Scalar.subi v1640 c32_i32_946
  let c11_i32_947 : BitVec 32 := 11#32
  let v1642 : BitVec 32 := Scalar.addi v1641 c11_i32_947
  let v1643 : Index := Scalar.indexCast v1642
  ![v1643.toNat]
def k0_off333 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_945 : BitVec 32 := 128#32
  let v1640 : BitVec 32 := Scalar.addi v1429 c128_i32_945
  let c32_i32_946 : BitVec 32 := 32#32
  let v1641 : BitVec 32 := Scalar.subi v1640 c32_i32_946
  let c11_i32_947 : BitVec 32 := 11#32
  let v1642 : BitVec 32 := Scalar.addi v1641 c11_i32_947
  let c32_i32_948 : BitVec 32 := 32#32
  let c0_i32_949 : BitVec 32 := 0#32
  let v1645 : BitVec 1 := Scalar.cmpi .eq c32_i32_948 c0_i32_949
  let c1_i32_950 : BitVec 32 := 1#32
  let v1646 : BitVec 32 := Scalar.select v1645 c1_i32_950 c32_i32_948
  let v1647 : BitVec 32 := Scalar.remsi v1642 v1646
  let c0_i32_952 : BitVec 32 := 0#32
  let v1649 : BitVec 1 := Scalar.cmpi .slt v1647 c0_i32_952
  let c0_i32_953 : BitVec 32 := 0#32
  let v1650 : BitVec 1 := Scalar.cmpi .slt v1646 c0_i32_953
  let v1651 : BitVec 1 := Scalar.xori v1649 v1650
  let c0_i32_951 : BitVec 32 := 0#32
  let v1648 : BitVec 1 := Scalar.cmpi .ne v1647 c0_i32_951
  let v1652 : BitVec 1 := Scalar.andi v1651 v1648
  let v1653 : BitVec 32 := Scalar.addi v1647 v1646
  let v1654 : BitVec 32 := Scalar.select v1652 v1653 v1647
  ![v1654.toNat]
def k0_off334 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_945 : BitVec 32 := 128#32
  let v1640 : BitVec 32 := Scalar.addi v1429 c128_i32_945
  let c32_i32_946 : BitVec 32 := 32#32
  let v1641 : BitVec 32 := Scalar.subi v1640 c32_i32_946
  let c11_i32_947 : BitVec 32 := 11#32
  let v1642 : BitVec 32 := Scalar.addi v1641 c11_i32_947
  let c0_i32_954 : BitVec 32 := 0#32
  ![v1642.toNat, 0]
def k0_off335 (v1644 : BitVec 32) : Fin 2 → Nat :=
  let c0_i32_955 : BitVec 32 := 0#32
  ![v1644.toNat, 0]

def k0_chk82 (v1644 : BitVec 32) : Prop :=
  (∀ a, (k0_off335 v1644) a + S1x1024.size a ≤ S8192x1024.size a)
theorem k0_off335_inb : ∀ (v1644 : BitVec 32) (k0_hw82 : k0_chk82 v1644), ∀ a, (k0_off335 v1644) a + S1x1024.size a ≤ S8192x1024.size a := fun v1644 k0_hw82 => k0_hw82

def k0_off336 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_956 : BitVec 32 := 128#32
  let v1659 : BitVec 32 := Scalar.addi v1429 c128_i32_956
  let c32_i32_957 : BitVec 32 := 32#32
  let v1660 : BitVec 32 := Scalar.subi v1659 c32_i32_957
  let c12_i32_958 : BitVec 32 := 12#32
  let v1661 : BitVec 32 := Scalar.addi v1660 c12_i32_958
  let v1662 : Index := Scalar.indexCast v1661
  ![v1662.toNat]
def k0_off337 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_956 : BitVec 32 := 128#32
  let v1659 : BitVec 32 := Scalar.addi v1429 c128_i32_956
  let c32_i32_957 : BitVec 32 := 32#32
  let v1660 : BitVec 32 := Scalar.subi v1659 c32_i32_957
  let c12_i32_958 : BitVec 32 := 12#32
  let v1661 : BitVec 32 := Scalar.addi v1660 c12_i32_958
  let c32_i32_959 : BitVec 32 := 32#32
  let c0_i32_960 : BitVec 32 := 0#32
  let v1664 : BitVec 1 := Scalar.cmpi .eq c32_i32_959 c0_i32_960
  let c1_i32_961 : BitVec 32 := 1#32
  let v1665 : BitVec 32 := Scalar.select v1664 c1_i32_961 c32_i32_959
  let v1666 : BitVec 32 := Scalar.remsi v1661 v1665
  let c0_i32_963 : BitVec 32 := 0#32
  let v1668 : BitVec 1 := Scalar.cmpi .slt v1666 c0_i32_963
  let c0_i32_964 : BitVec 32 := 0#32
  let v1669 : BitVec 1 := Scalar.cmpi .slt v1665 c0_i32_964
  let v1670 : BitVec 1 := Scalar.xori v1668 v1669
  let c0_i32_962 : BitVec 32 := 0#32
  let v1667 : BitVec 1 := Scalar.cmpi .ne v1666 c0_i32_962
  let v1671 : BitVec 1 := Scalar.andi v1670 v1667
  let v1672 : BitVec 32 := Scalar.addi v1666 v1665
  let v1673 : BitVec 32 := Scalar.select v1671 v1672 v1666
  ![v1673.toNat]
def k0_off338 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_956 : BitVec 32 := 128#32
  let v1659 : BitVec 32 := Scalar.addi v1429 c128_i32_956
  let c32_i32_957 : BitVec 32 := 32#32
  let v1660 : BitVec 32 := Scalar.subi v1659 c32_i32_957
  let c12_i32_958 : BitVec 32 := 12#32
  let v1661 : BitVec 32 := Scalar.addi v1660 c12_i32_958
  let c0_i32_965 : BitVec 32 := 0#32
  ![v1661.toNat, 0]
def k0_off339 (v1663 : BitVec 32) : Fin 2 → Nat :=
  let c0_i32_966 : BitVec 32 := 0#32
  ![v1663.toNat, 0]

def k0_chk83 (v1663 : BitVec 32) : Prop :=
  (∀ a, (k0_off339 v1663) a + S1x1024.size a ≤ S8192x1024.size a)
theorem k0_off339_inb : ∀ (v1663 : BitVec 32) (k0_hw83 : k0_chk83 v1663), ∀ a, (k0_off339 v1663) a + S1x1024.size a ≤ S8192x1024.size a := fun v1663 k0_hw83 => k0_hw83

def k0_off340 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_967 : BitVec 32 := 128#32
  let v1678 : BitVec 32 := Scalar.addi v1429 c128_i32_967
  let c32_i32_968 : BitVec 32 := 32#32
  let v1679 : BitVec 32 := Scalar.subi v1678 c32_i32_968
  let c13_i32_969 : BitVec 32 := 13#32
  let v1680 : BitVec 32 := Scalar.addi v1679 c13_i32_969
  let v1681 : Index := Scalar.indexCast v1680
  ![v1681.toNat]
def k0_off341 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_967 : BitVec 32 := 128#32
  let v1678 : BitVec 32 := Scalar.addi v1429 c128_i32_967
  let c32_i32_968 : BitVec 32 := 32#32
  let v1679 : BitVec 32 := Scalar.subi v1678 c32_i32_968
  let c13_i32_969 : BitVec 32 := 13#32
  let v1680 : BitVec 32 := Scalar.addi v1679 c13_i32_969
  let c32_i32_970 : BitVec 32 := 32#32
  let c0_i32_971 : BitVec 32 := 0#32
  let v1683 : BitVec 1 := Scalar.cmpi .eq c32_i32_970 c0_i32_971
  let c1_i32_972 : BitVec 32 := 1#32
  let v1684 : BitVec 32 := Scalar.select v1683 c1_i32_972 c32_i32_970
  let v1685 : BitVec 32 := Scalar.remsi v1680 v1684
  let c0_i32_974 : BitVec 32 := 0#32
  let v1687 : BitVec 1 := Scalar.cmpi .slt v1685 c0_i32_974
  let c0_i32_975 : BitVec 32 := 0#32
  let v1688 : BitVec 1 := Scalar.cmpi .slt v1684 c0_i32_975
  let v1689 : BitVec 1 := Scalar.xori v1687 v1688
  let c0_i32_973 : BitVec 32 := 0#32
  let v1686 : BitVec 1 := Scalar.cmpi .ne v1685 c0_i32_973
  let v1690 : BitVec 1 := Scalar.andi v1689 v1686
  let v1691 : BitVec 32 := Scalar.addi v1685 v1684
  let v1692 : BitVec 32 := Scalar.select v1690 v1691 v1685
  ![v1692.toNat]
def k0_off342 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_967 : BitVec 32 := 128#32
  let v1678 : BitVec 32 := Scalar.addi v1429 c128_i32_967
  let c32_i32_968 : BitVec 32 := 32#32
  let v1679 : BitVec 32 := Scalar.subi v1678 c32_i32_968
  let c13_i32_969 : BitVec 32 := 13#32
  let v1680 : BitVec 32 := Scalar.addi v1679 c13_i32_969
  let c0_i32_976 : BitVec 32 := 0#32
  ![v1680.toNat, 0]
def k0_off343 (v1682 : BitVec 32) : Fin 2 → Nat :=
  let c0_i32_977 : BitVec 32 := 0#32
  ![v1682.toNat, 0]

def k0_chk84 (v1682 : BitVec 32) : Prop :=
  (∀ a, (k0_off343 v1682) a + S1x1024.size a ≤ S8192x1024.size a)
theorem k0_off343_inb : ∀ (v1682 : BitVec 32) (k0_hw84 : k0_chk84 v1682), ∀ a, (k0_off343 v1682) a + S1x1024.size a ≤ S8192x1024.size a := fun v1682 k0_hw84 => k0_hw84

def k0_off344 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_978 : BitVec 32 := 128#32
  let v1697 : BitVec 32 := Scalar.addi v1429 c128_i32_978
  let c32_i32_979 : BitVec 32 := 32#32
  let v1698 : BitVec 32 := Scalar.subi v1697 c32_i32_979
  let c14_i32_980 : BitVec 32 := 14#32
  let v1699 : BitVec 32 := Scalar.addi v1698 c14_i32_980
  let v1700 : Index := Scalar.indexCast v1699
  ![v1700.toNat]
def k0_off345 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_978 : BitVec 32 := 128#32
  let v1697 : BitVec 32 := Scalar.addi v1429 c128_i32_978
  let c32_i32_979 : BitVec 32 := 32#32
  let v1698 : BitVec 32 := Scalar.subi v1697 c32_i32_979
  let c14_i32_980 : BitVec 32 := 14#32
  let v1699 : BitVec 32 := Scalar.addi v1698 c14_i32_980
  let c32_i32_981 : BitVec 32 := 32#32
  let c0_i32_982 : BitVec 32 := 0#32
  let v1702 : BitVec 1 := Scalar.cmpi .eq c32_i32_981 c0_i32_982
  let c1_i32_983 : BitVec 32 := 1#32
  let v1703 : BitVec 32 := Scalar.select v1702 c1_i32_983 c32_i32_981
  let v1704 : BitVec 32 := Scalar.remsi v1699 v1703
  let c0_i32_985 : BitVec 32 := 0#32
  let v1706 : BitVec 1 := Scalar.cmpi .slt v1704 c0_i32_985
  let c0_i32_986 : BitVec 32 := 0#32
  let v1707 : BitVec 1 := Scalar.cmpi .slt v1703 c0_i32_986
  let v1708 : BitVec 1 := Scalar.xori v1706 v1707
  let c0_i32_984 : BitVec 32 := 0#32
  let v1705 : BitVec 1 := Scalar.cmpi .ne v1704 c0_i32_984
  let v1709 : BitVec 1 := Scalar.andi v1708 v1705
  let v1710 : BitVec 32 := Scalar.addi v1704 v1703
  let v1711 : BitVec 32 := Scalar.select v1709 v1710 v1704
  ![v1711.toNat]
def k0_off346 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_978 : BitVec 32 := 128#32
  let v1697 : BitVec 32 := Scalar.addi v1429 c128_i32_978
  let c32_i32_979 : BitVec 32 := 32#32
  let v1698 : BitVec 32 := Scalar.subi v1697 c32_i32_979
  let c14_i32_980 : BitVec 32 := 14#32
  let v1699 : BitVec 32 := Scalar.addi v1698 c14_i32_980
  let c0_i32_987 : BitVec 32 := 0#32
  ![v1699.toNat, 0]
def k0_off347 (v1701 : BitVec 32) : Fin 2 → Nat :=
  let c0_i32_988 : BitVec 32 := 0#32
  ![v1701.toNat, 0]

def k0_chk85 (v1701 : BitVec 32) : Prop :=
  (∀ a, (k0_off347 v1701) a + S1x1024.size a ≤ S8192x1024.size a)
theorem k0_off347_inb : ∀ (v1701 : BitVec 32) (k0_hw85 : k0_chk85 v1701), ∀ a, (k0_off347 v1701) a + S1x1024.size a ≤ S8192x1024.size a := fun v1701 k0_hw85 => k0_hw85

def k0_off348 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_989 : BitVec 32 := 128#32
  let v1716 : BitVec 32 := Scalar.addi v1429 c128_i32_989
  let c32_i32_990 : BitVec 32 := 32#32
  let v1717 : BitVec 32 := Scalar.subi v1716 c32_i32_990
  let c15_i32_991 : BitVec 32 := 15#32
  let v1718 : BitVec 32 := Scalar.addi v1717 c15_i32_991
  let v1719 : Index := Scalar.indexCast v1718
  ![v1719.toNat]
def k0_off349 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_989 : BitVec 32 := 128#32
  let v1716 : BitVec 32 := Scalar.addi v1429 c128_i32_989
  let c32_i32_990 : BitVec 32 := 32#32
  let v1717 : BitVec 32 := Scalar.subi v1716 c32_i32_990
  let c15_i32_991 : BitVec 32 := 15#32
  let v1718 : BitVec 32 := Scalar.addi v1717 c15_i32_991
  let c32_i32_992 : BitVec 32 := 32#32
  let c0_i32_993 : BitVec 32 := 0#32
  let v1721 : BitVec 1 := Scalar.cmpi .eq c32_i32_992 c0_i32_993
  let c1_i32_994 : BitVec 32 := 1#32
  let v1722 : BitVec 32 := Scalar.select v1721 c1_i32_994 c32_i32_992
  let v1723 : BitVec 32 := Scalar.remsi v1718 v1722
  let c0_i32_996 : BitVec 32 := 0#32
  let v1725 : BitVec 1 := Scalar.cmpi .slt v1723 c0_i32_996
  let c0_i32_997 : BitVec 32 := 0#32
  let v1726 : BitVec 1 := Scalar.cmpi .slt v1722 c0_i32_997
  let v1727 : BitVec 1 := Scalar.xori v1725 v1726
  let c0_i32_995 : BitVec 32 := 0#32
  let v1724 : BitVec 1 := Scalar.cmpi .ne v1723 c0_i32_995
  let v1728 : BitVec 1 := Scalar.andi v1727 v1724
  let v1729 : BitVec 32 := Scalar.addi v1723 v1722
  let v1730 : BitVec 32 := Scalar.select v1728 v1729 v1723
  ![v1730.toNat]
def k0_off350 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_989 : BitVec 32 := 128#32
  let v1716 : BitVec 32 := Scalar.addi v1429 c128_i32_989
  let c32_i32_990 : BitVec 32 := 32#32
  let v1717 : BitVec 32 := Scalar.subi v1716 c32_i32_990
  let c15_i32_991 : BitVec 32 := 15#32
  let v1718 : BitVec 32 := Scalar.addi v1717 c15_i32_991
  let c0_i32_998 : BitVec 32 := 0#32
  ![v1718.toNat, 0]
def k0_off351 (v1720 : BitVec 32) : Fin 2 → Nat :=
  let c0_i32_999 : BitVec 32 := 0#32
  ![v1720.toNat, 0]

def k0_chk86 (v1720 : BitVec 32) : Prop :=
  (∀ a, (k0_off351 v1720) a + S1x1024.size a ≤ S8192x1024.size a)
theorem k0_off351_inb : ∀ (v1720 : BitVec 32) (k0_hw86 : k0_chk86 v1720), ∀ a, (k0_off351 v1720) a + S1x1024.size a ≤ S8192x1024.size a := fun v1720 k0_hw86 => k0_hw86

def k0_off352 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1000 : BitVec 32 := 128#32
  let v1735 : BitVec 32 := Scalar.addi v1429 c128_i32_1000
  let c32_i32_1001 : BitVec 32 := 32#32
  let v1736 : BitVec 32 := Scalar.subi v1735 c32_i32_1001
  let c16_i32_1002 : BitVec 32 := 16#32
  let v1737 : BitVec 32 := Scalar.addi v1736 c16_i32_1002
  let v1738 : Index := Scalar.indexCast v1737
  ![v1738.toNat]
def k0_off353 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1000 : BitVec 32 := 128#32
  let v1735 : BitVec 32 := Scalar.addi v1429 c128_i32_1000
  let c32_i32_1001 : BitVec 32 := 32#32
  let v1736 : BitVec 32 := Scalar.subi v1735 c32_i32_1001
  let c16_i32_1002 : BitVec 32 := 16#32
  let v1737 : BitVec 32 := Scalar.addi v1736 c16_i32_1002
  let c32_i32_1003 : BitVec 32 := 32#32
  let c0_i32_1004 : BitVec 32 := 0#32
  let v1740 : BitVec 1 := Scalar.cmpi .eq c32_i32_1003 c0_i32_1004
  let c1_i32_1005 : BitVec 32 := 1#32
  let v1741 : BitVec 32 := Scalar.select v1740 c1_i32_1005 c32_i32_1003
  let v1742 : BitVec 32 := Scalar.remsi v1737 v1741
  let c0_i32_1007 : BitVec 32 := 0#32
  let v1744 : BitVec 1 := Scalar.cmpi .slt v1742 c0_i32_1007
  let c0_i32_1008 : BitVec 32 := 0#32
  let v1745 : BitVec 1 := Scalar.cmpi .slt v1741 c0_i32_1008
  let v1746 : BitVec 1 := Scalar.xori v1744 v1745
  let c0_i32_1006 : BitVec 32 := 0#32
  let v1743 : BitVec 1 := Scalar.cmpi .ne v1742 c0_i32_1006
  let v1747 : BitVec 1 := Scalar.andi v1746 v1743
  let v1748 : BitVec 32 := Scalar.addi v1742 v1741
  let v1749 : BitVec 32 := Scalar.select v1747 v1748 v1742
  ![v1749.toNat]
def k0_off354 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1000 : BitVec 32 := 128#32
  let v1735 : BitVec 32 := Scalar.addi v1429 c128_i32_1000
  let c32_i32_1001 : BitVec 32 := 32#32
  let v1736 : BitVec 32 := Scalar.subi v1735 c32_i32_1001
  let c16_i32_1002 : BitVec 32 := 16#32
  let v1737 : BitVec 32 := Scalar.addi v1736 c16_i32_1002
  let c0_i32_1009 : BitVec 32 := 0#32
  ![v1737.toNat, 0]
def k0_off355 (v1739 : BitVec 32) : Fin 2 → Nat :=
  let c0_i32_1010 : BitVec 32 := 0#32
  ![v1739.toNat, 0]

def k0_chk87 (v1739 : BitVec 32) : Prop :=
  (∀ a, (k0_off355 v1739) a + S1x1024.size a ≤ S8192x1024.size a)
theorem k0_off355_inb : ∀ (v1739 : BitVec 32) (k0_hw87 : k0_chk87 v1739), ∀ a, (k0_off355 v1739) a + S1x1024.size a ≤ S8192x1024.size a := fun v1739 k0_hw87 => k0_hw87

def k0_off356 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1011 : BitVec 32 := 128#32
  let v1754 : BitVec 32 := Scalar.addi v1429 c128_i32_1011
  let c32_i32_1012 : BitVec 32 := 32#32
  let v1755 : BitVec 32 := Scalar.subi v1754 c32_i32_1012
  let c17_i32_1013 : BitVec 32 := 17#32
  let v1756 : BitVec 32 := Scalar.addi v1755 c17_i32_1013
  let v1757 : Index := Scalar.indexCast v1756
  ![v1757.toNat]
def k0_off357 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1011 : BitVec 32 := 128#32
  let v1754 : BitVec 32 := Scalar.addi v1429 c128_i32_1011
  let c32_i32_1012 : BitVec 32 := 32#32
  let v1755 : BitVec 32 := Scalar.subi v1754 c32_i32_1012
  let c17_i32_1013 : BitVec 32 := 17#32
  let v1756 : BitVec 32 := Scalar.addi v1755 c17_i32_1013
  let c32_i32_1014 : BitVec 32 := 32#32
  let c0_i32_1015 : BitVec 32 := 0#32
  let v1759 : BitVec 1 := Scalar.cmpi .eq c32_i32_1014 c0_i32_1015
  let c1_i32_1016 : BitVec 32 := 1#32
  let v1760 : BitVec 32 := Scalar.select v1759 c1_i32_1016 c32_i32_1014
  let v1761 : BitVec 32 := Scalar.remsi v1756 v1760
  let c0_i32_1018 : BitVec 32 := 0#32
  let v1763 : BitVec 1 := Scalar.cmpi .slt v1761 c0_i32_1018
  let c0_i32_1019 : BitVec 32 := 0#32
  let v1764 : BitVec 1 := Scalar.cmpi .slt v1760 c0_i32_1019
  let v1765 : BitVec 1 := Scalar.xori v1763 v1764
  let c0_i32_1017 : BitVec 32 := 0#32
  let v1762 : BitVec 1 := Scalar.cmpi .ne v1761 c0_i32_1017
  let v1766 : BitVec 1 := Scalar.andi v1765 v1762
  let v1767 : BitVec 32 := Scalar.addi v1761 v1760
  let v1768 : BitVec 32 := Scalar.select v1766 v1767 v1761
  ![v1768.toNat]
def k0_off358 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1011 : BitVec 32 := 128#32
  let v1754 : BitVec 32 := Scalar.addi v1429 c128_i32_1011
  let c32_i32_1012 : BitVec 32 := 32#32
  let v1755 : BitVec 32 := Scalar.subi v1754 c32_i32_1012
  let c17_i32_1013 : BitVec 32 := 17#32
  let v1756 : BitVec 32 := Scalar.addi v1755 c17_i32_1013
  let c0_i32_1020 : BitVec 32 := 0#32
  ![v1756.toNat, 0]
def k0_off359 (v1758 : BitVec 32) : Fin 2 → Nat :=
  let c0_i32_1021 : BitVec 32 := 0#32
  ![v1758.toNat, 0]

def k0_chk88 (v1758 : BitVec 32) : Prop :=
  (∀ a, (k0_off359 v1758) a + S1x1024.size a ≤ S8192x1024.size a)
theorem k0_off359_inb : ∀ (v1758 : BitVec 32) (k0_hw88 : k0_chk88 v1758), ∀ a, (k0_off359 v1758) a + S1x1024.size a ≤ S8192x1024.size a := fun v1758 k0_hw88 => k0_hw88

def k0_off360 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1022 : BitVec 32 := 128#32
  let v1773 : BitVec 32 := Scalar.addi v1429 c128_i32_1022
  let c32_i32_1023 : BitVec 32 := 32#32
  let v1774 : BitVec 32 := Scalar.subi v1773 c32_i32_1023
  let c18_i32_1024 : BitVec 32 := 18#32
  let v1775 : BitVec 32 := Scalar.addi v1774 c18_i32_1024
  let v1776 : Index := Scalar.indexCast v1775
  ![v1776.toNat]
def k0_off361 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1022 : BitVec 32 := 128#32
  let v1773 : BitVec 32 := Scalar.addi v1429 c128_i32_1022
  let c32_i32_1023 : BitVec 32 := 32#32
  let v1774 : BitVec 32 := Scalar.subi v1773 c32_i32_1023
  let c18_i32_1024 : BitVec 32 := 18#32
  let v1775 : BitVec 32 := Scalar.addi v1774 c18_i32_1024
  let c32_i32_1025 : BitVec 32 := 32#32
  let c0_i32_1026 : BitVec 32 := 0#32
  let v1778 : BitVec 1 := Scalar.cmpi .eq c32_i32_1025 c0_i32_1026
  let c1_i32_1027 : BitVec 32 := 1#32
  let v1779 : BitVec 32 := Scalar.select v1778 c1_i32_1027 c32_i32_1025
  let v1780 : BitVec 32 := Scalar.remsi v1775 v1779
  let c0_i32_1029 : BitVec 32 := 0#32
  let v1782 : BitVec 1 := Scalar.cmpi .slt v1780 c0_i32_1029
  let c0_i32_1030 : BitVec 32 := 0#32
  let v1783 : BitVec 1 := Scalar.cmpi .slt v1779 c0_i32_1030
  let v1784 : BitVec 1 := Scalar.xori v1782 v1783
  let c0_i32_1028 : BitVec 32 := 0#32
  let v1781 : BitVec 1 := Scalar.cmpi .ne v1780 c0_i32_1028
  let v1785 : BitVec 1 := Scalar.andi v1784 v1781
  let v1786 : BitVec 32 := Scalar.addi v1780 v1779
  let v1787 : BitVec 32 := Scalar.select v1785 v1786 v1780
  ![v1787.toNat]
def k0_off362 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1022 : BitVec 32 := 128#32
  let v1773 : BitVec 32 := Scalar.addi v1429 c128_i32_1022
  let c32_i32_1023 : BitVec 32 := 32#32
  let v1774 : BitVec 32 := Scalar.subi v1773 c32_i32_1023
  let c18_i32_1024 : BitVec 32 := 18#32
  let v1775 : BitVec 32 := Scalar.addi v1774 c18_i32_1024
  let c0_i32_1031 : BitVec 32 := 0#32
  ![v1775.toNat, 0]
def k0_off363 (v1777 : BitVec 32) : Fin 2 → Nat :=
  let c0_i32_1032 : BitVec 32 := 0#32
  ![v1777.toNat, 0]

def k0_chk89 (v1777 : BitVec 32) : Prop :=
  (∀ a, (k0_off363 v1777) a + S1x1024.size a ≤ S8192x1024.size a)
theorem k0_off363_inb : ∀ (v1777 : BitVec 32) (k0_hw89 : k0_chk89 v1777), ∀ a, (k0_off363 v1777) a + S1x1024.size a ≤ S8192x1024.size a := fun v1777 k0_hw89 => k0_hw89

def k0_off364 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1033 : BitVec 32 := 128#32
  let v1792 : BitVec 32 := Scalar.addi v1429 c128_i32_1033
  let c32_i32_1034 : BitVec 32 := 32#32
  let v1793 : BitVec 32 := Scalar.subi v1792 c32_i32_1034
  let c19_i32_1035 : BitVec 32 := 19#32
  let v1794 : BitVec 32 := Scalar.addi v1793 c19_i32_1035
  let v1795 : Index := Scalar.indexCast v1794
  ![v1795.toNat]
def k0_off365 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1033 : BitVec 32 := 128#32
  let v1792 : BitVec 32 := Scalar.addi v1429 c128_i32_1033
  let c32_i32_1034 : BitVec 32 := 32#32
  let v1793 : BitVec 32 := Scalar.subi v1792 c32_i32_1034
  let c19_i32_1035 : BitVec 32 := 19#32
  let v1794 : BitVec 32 := Scalar.addi v1793 c19_i32_1035
  let c32_i32_1036 : BitVec 32 := 32#32
  let c0_i32_1037 : BitVec 32 := 0#32
  let v1797 : BitVec 1 := Scalar.cmpi .eq c32_i32_1036 c0_i32_1037
  let c1_i32_1038 : BitVec 32 := 1#32
  let v1798 : BitVec 32 := Scalar.select v1797 c1_i32_1038 c32_i32_1036
  let v1799 : BitVec 32 := Scalar.remsi v1794 v1798
  let c0_i32_1040 : BitVec 32 := 0#32
  let v1801 : BitVec 1 := Scalar.cmpi .slt v1799 c0_i32_1040
  let c0_i32_1041 : BitVec 32 := 0#32
  let v1802 : BitVec 1 := Scalar.cmpi .slt v1798 c0_i32_1041
  let v1803 : BitVec 1 := Scalar.xori v1801 v1802
  let c0_i32_1039 : BitVec 32 := 0#32
  let v1800 : BitVec 1 := Scalar.cmpi .ne v1799 c0_i32_1039
  let v1804 : BitVec 1 := Scalar.andi v1803 v1800
  let v1805 : BitVec 32 := Scalar.addi v1799 v1798
  let v1806 : BitVec 32 := Scalar.select v1804 v1805 v1799
  ![v1806.toNat]
def k0_off366 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1033 : BitVec 32 := 128#32
  let v1792 : BitVec 32 := Scalar.addi v1429 c128_i32_1033
  let c32_i32_1034 : BitVec 32 := 32#32
  let v1793 : BitVec 32 := Scalar.subi v1792 c32_i32_1034
  let c19_i32_1035 : BitVec 32 := 19#32
  let v1794 : BitVec 32 := Scalar.addi v1793 c19_i32_1035
  let c0_i32_1042 : BitVec 32 := 0#32
  ![v1794.toNat, 0]
def k0_off367 (v1796 : BitVec 32) : Fin 2 → Nat :=
  let c0_i32_1043 : BitVec 32 := 0#32
  ![v1796.toNat, 0]

def k0_chk90 (v1796 : BitVec 32) : Prop :=
  (∀ a, (k0_off367 v1796) a + S1x1024.size a ≤ S8192x1024.size a)
theorem k0_off367_inb : ∀ (v1796 : BitVec 32) (k0_hw90 : k0_chk90 v1796), ∀ a, (k0_off367 v1796) a + S1x1024.size a ≤ S8192x1024.size a := fun v1796 k0_hw90 => k0_hw90

def k0_off368 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1044 : BitVec 32 := 128#32
  let v1811 : BitVec 32 := Scalar.addi v1429 c128_i32_1044
  let c32_i32_1045 : BitVec 32 := 32#32
  let v1812 : BitVec 32 := Scalar.subi v1811 c32_i32_1045
  let c20_i32_1046 : BitVec 32 := 20#32
  let v1813 : BitVec 32 := Scalar.addi v1812 c20_i32_1046
  let v1814 : Index := Scalar.indexCast v1813
  ![v1814.toNat]
def k0_off369 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1044 : BitVec 32 := 128#32
  let v1811 : BitVec 32 := Scalar.addi v1429 c128_i32_1044
  let c32_i32_1045 : BitVec 32 := 32#32
  let v1812 : BitVec 32 := Scalar.subi v1811 c32_i32_1045
  let c20_i32_1046 : BitVec 32 := 20#32
  let v1813 : BitVec 32 := Scalar.addi v1812 c20_i32_1046
  let c32_i32_1047 : BitVec 32 := 32#32
  let c0_i32_1048 : BitVec 32 := 0#32
  let v1816 : BitVec 1 := Scalar.cmpi .eq c32_i32_1047 c0_i32_1048
  let c1_i32_1049 : BitVec 32 := 1#32
  let v1817 : BitVec 32 := Scalar.select v1816 c1_i32_1049 c32_i32_1047
  let v1818 : BitVec 32 := Scalar.remsi v1813 v1817
  let c0_i32_1051 : BitVec 32 := 0#32
  let v1820 : BitVec 1 := Scalar.cmpi .slt v1818 c0_i32_1051
  let c0_i32_1052 : BitVec 32 := 0#32
  let v1821 : BitVec 1 := Scalar.cmpi .slt v1817 c0_i32_1052
  let v1822 : BitVec 1 := Scalar.xori v1820 v1821
  let c0_i32_1050 : BitVec 32 := 0#32
  let v1819 : BitVec 1 := Scalar.cmpi .ne v1818 c0_i32_1050
  let v1823 : BitVec 1 := Scalar.andi v1822 v1819
  let v1824 : BitVec 32 := Scalar.addi v1818 v1817
  let v1825 : BitVec 32 := Scalar.select v1823 v1824 v1818
  ![v1825.toNat]
def k0_off370 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1044 : BitVec 32 := 128#32
  let v1811 : BitVec 32 := Scalar.addi v1429 c128_i32_1044
  let c32_i32_1045 : BitVec 32 := 32#32
  let v1812 : BitVec 32 := Scalar.subi v1811 c32_i32_1045
  let c20_i32_1046 : BitVec 32 := 20#32
  let v1813 : BitVec 32 := Scalar.addi v1812 c20_i32_1046
  let c0_i32_1053 : BitVec 32 := 0#32
  ![v1813.toNat, 0]
def k0_off371 (v1815 : BitVec 32) : Fin 2 → Nat :=
  let c0_i32_1054 : BitVec 32 := 0#32
  ![v1815.toNat, 0]

def k0_chk91 (v1815 : BitVec 32) : Prop :=
  (∀ a, (k0_off371 v1815) a + S1x1024.size a ≤ S8192x1024.size a)
theorem k0_off371_inb : ∀ (v1815 : BitVec 32) (k0_hw91 : k0_chk91 v1815), ∀ a, (k0_off371 v1815) a + S1x1024.size a ≤ S8192x1024.size a := fun v1815 k0_hw91 => k0_hw91

def k0_off372 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1055 : BitVec 32 := 128#32
  let v1830 : BitVec 32 := Scalar.addi v1429 c128_i32_1055
  let c32_i32_1056 : BitVec 32 := 32#32
  let v1831 : BitVec 32 := Scalar.subi v1830 c32_i32_1056
  let c21_i32_1057 : BitVec 32 := 21#32
  let v1832 : BitVec 32 := Scalar.addi v1831 c21_i32_1057
  let v1833 : Index := Scalar.indexCast v1832
  ![v1833.toNat]
def k0_off373 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1055 : BitVec 32 := 128#32
  let v1830 : BitVec 32 := Scalar.addi v1429 c128_i32_1055
  let c32_i32_1056 : BitVec 32 := 32#32
  let v1831 : BitVec 32 := Scalar.subi v1830 c32_i32_1056
  let c21_i32_1057 : BitVec 32 := 21#32
  let v1832 : BitVec 32 := Scalar.addi v1831 c21_i32_1057
  let c32_i32_1058 : BitVec 32 := 32#32
  let c0_i32_1059 : BitVec 32 := 0#32
  let v1835 : BitVec 1 := Scalar.cmpi .eq c32_i32_1058 c0_i32_1059
  let c1_i32_1060 : BitVec 32 := 1#32
  let v1836 : BitVec 32 := Scalar.select v1835 c1_i32_1060 c32_i32_1058
  let v1837 : BitVec 32 := Scalar.remsi v1832 v1836
  let c0_i32_1062 : BitVec 32 := 0#32
  let v1839 : BitVec 1 := Scalar.cmpi .slt v1837 c0_i32_1062
  let c0_i32_1063 : BitVec 32 := 0#32
  let v1840 : BitVec 1 := Scalar.cmpi .slt v1836 c0_i32_1063
  let v1841 : BitVec 1 := Scalar.xori v1839 v1840
  let c0_i32_1061 : BitVec 32 := 0#32
  let v1838 : BitVec 1 := Scalar.cmpi .ne v1837 c0_i32_1061
  let v1842 : BitVec 1 := Scalar.andi v1841 v1838
  let v1843 : BitVec 32 := Scalar.addi v1837 v1836
  let v1844 : BitVec 32 := Scalar.select v1842 v1843 v1837
  ![v1844.toNat]
def k0_off374 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1055 : BitVec 32 := 128#32
  let v1830 : BitVec 32 := Scalar.addi v1429 c128_i32_1055
  let c32_i32_1056 : BitVec 32 := 32#32
  let v1831 : BitVec 32 := Scalar.subi v1830 c32_i32_1056
  let c21_i32_1057 : BitVec 32 := 21#32
  let v1832 : BitVec 32 := Scalar.addi v1831 c21_i32_1057
  let c0_i32_1064 : BitVec 32 := 0#32
  ![v1832.toNat, 0]
def k0_off375 (v1834 : BitVec 32) : Fin 2 → Nat :=
  let c0_i32_1065 : BitVec 32 := 0#32
  ![v1834.toNat, 0]

def k0_chk92 (v1834 : BitVec 32) : Prop :=
  (∀ a, (k0_off375 v1834) a + S1x1024.size a ≤ S8192x1024.size a)
theorem k0_off375_inb : ∀ (v1834 : BitVec 32) (k0_hw92 : k0_chk92 v1834), ∀ a, (k0_off375 v1834) a + S1x1024.size a ≤ S8192x1024.size a := fun v1834 k0_hw92 => k0_hw92

def k0_off376 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1066 : BitVec 32 := 128#32
  let v1849 : BitVec 32 := Scalar.addi v1429 c128_i32_1066
  let c32_i32_1067 : BitVec 32 := 32#32
  let v1850 : BitVec 32 := Scalar.subi v1849 c32_i32_1067
  let c22_i32_1068 : BitVec 32 := 22#32
  let v1851 : BitVec 32 := Scalar.addi v1850 c22_i32_1068
  let v1852 : Index := Scalar.indexCast v1851
  ![v1852.toNat]
def k0_off377 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1066 : BitVec 32 := 128#32
  let v1849 : BitVec 32 := Scalar.addi v1429 c128_i32_1066
  let c32_i32_1067 : BitVec 32 := 32#32
  let v1850 : BitVec 32 := Scalar.subi v1849 c32_i32_1067
  let c22_i32_1068 : BitVec 32 := 22#32
  let v1851 : BitVec 32 := Scalar.addi v1850 c22_i32_1068
  let c32_i32_1069 : BitVec 32 := 32#32
  let c0_i32_1070 : BitVec 32 := 0#32
  let v1854 : BitVec 1 := Scalar.cmpi .eq c32_i32_1069 c0_i32_1070
  let c1_i32_1071 : BitVec 32 := 1#32
  let v1855 : BitVec 32 := Scalar.select v1854 c1_i32_1071 c32_i32_1069
  let v1856 : BitVec 32 := Scalar.remsi v1851 v1855
  let c0_i32_1073 : BitVec 32 := 0#32
  let v1858 : BitVec 1 := Scalar.cmpi .slt v1856 c0_i32_1073
  let c0_i32_1074 : BitVec 32 := 0#32
  let v1859 : BitVec 1 := Scalar.cmpi .slt v1855 c0_i32_1074
  let v1860 : BitVec 1 := Scalar.xori v1858 v1859
  let c0_i32_1072 : BitVec 32 := 0#32
  let v1857 : BitVec 1 := Scalar.cmpi .ne v1856 c0_i32_1072
  let v1861 : BitVec 1 := Scalar.andi v1860 v1857
  let v1862 : BitVec 32 := Scalar.addi v1856 v1855
  let v1863 : BitVec 32 := Scalar.select v1861 v1862 v1856
  ![v1863.toNat]
def k0_off378 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1066 : BitVec 32 := 128#32
  let v1849 : BitVec 32 := Scalar.addi v1429 c128_i32_1066
  let c32_i32_1067 : BitVec 32 := 32#32
  let v1850 : BitVec 32 := Scalar.subi v1849 c32_i32_1067
  let c22_i32_1068 : BitVec 32 := 22#32
  let v1851 : BitVec 32 := Scalar.addi v1850 c22_i32_1068
  let c0_i32_1075 : BitVec 32 := 0#32
  ![v1851.toNat, 0]
def k0_off379 (v1853 : BitVec 32) : Fin 2 → Nat :=
  let c0_i32_1076 : BitVec 32 := 0#32
  ![v1853.toNat, 0]

def k0_chk93 (v1853 : BitVec 32) : Prop :=
  (∀ a, (k0_off379 v1853) a + S1x1024.size a ≤ S8192x1024.size a)
theorem k0_off379_inb : ∀ (v1853 : BitVec 32) (k0_hw93 : k0_chk93 v1853), ∀ a, (k0_off379 v1853) a + S1x1024.size a ≤ S8192x1024.size a := fun v1853 k0_hw93 => k0_hw93

def k0_off380 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1077 : BitVec 32 := 128#32
  let v1868 : BitVec 32 := Scalar.addi v1429 c128_i32_1077
  let c32_i32_1078 : BitVec 32 := 32#32
  let v1869 : BitVec 32 := Scalar.subi v1868 c32_i32_1078
  let c23_i32_1079 : BitVec 32 := 23#32
  let v1870 : BitVec 32 := Scalar.addi v1869 c23_i32_1079
  let v1871 : Index := Scalar.indexCast v1870
  ![v1871.toNat]
def k0_off381 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1077 : BitVec 32 := 128#32
  let v1868 : BitVec 32 := Scalar.addi v1429 c128_i32_1077
  let c32_i32_1078 : BitVec 32 := 32#32
  let v1869 : BitVec 32 := Scalar.subi v1868 c32_i32_1078
  let c23_i32_1079 : BitVec 32 := 23#32
  let v1870 : BitVec 32 := Scalar.addi v1869 c23_i32_1079
  let c32_i32_1080 : BitVec 32 := 32#32
  let c0_i32_1081 : BitVec 32 := 0#32
  let v1873 : BitVec 1 := Scalar.cmpi .eq c32_i32_1080 c0_i32_1081
  let c1_i32_1082 : BitVec 32 := 1#32
  let v1874 : BitVec 32 := Scalar.select v1873 c1_i32_1082 c32_i32_1080
  let v1875 : BitVec 32 := Scalar.remsi v1870 v1874
  let c0_i32_1084 : BitVec 32 := 0#32
  let v1877 : BitVec 1 := Scalar.cmpi .slt v1875 c0_i32_1084
  let c0_i32_1085 : BitVec 32 := 0#32
  let v1878 : BitVec 1 := Scalar.cmpi .slt v1874 c0_i32_1085
  let v1879 : BitVec 1 := Scalar.xori v1877 v1878
  let c0_i32_1083 : BitVec 32 := 0#32
  let v1876 : BitVec 1 := Scalar.cmpi .ne v1875 c0_i32_1083
  let v1880 : BitVec 1 := Scalar.andi v1879 v1876
  let v1881 : BitVec 32 := Scalar.addi v1875 v1874
  let v1882 : BitVec 32 := Scalar.select v1880 v1881 v1875
  ![v1882.toNat]
def k0_off382 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1077 : BitVec 32 := 128#32
  let v1868 : BitVec 32 := Scalar.addi v1429 c128_i32_1077
  let c32_i32_1078 : BitVec 32 := 32#32
  let v1869 : BitVec 32 := Scalar.subi v1868 c32_i32_1078
  let c23_i32_1079 : BitVec 32 := 23#32
  let v1870 : BitVec 32 := Scalar.addi v1869 c23_i32_1079
  let c0_i32_1086 : BitVec 32 := 0#32
  ![v1870.toNat, 0]
def k0_off383 (v1872 : BitVec 32) : Fin 2 → Nat :=
  let c0_i32_1087 : BitVec 32 := 0#32
  ![v1872.toNat, 0]

def k0_chk94 (v1872 : BitVec 32) : Prop :=
  (∀ a, (k0_off383 v1872) a + S1x1024.size a ≤ S8192x1024.size a)
theorem k0_off383_inb : ∀ (v1872 : BitVec 32) (k0_hw94 : k0_chk94 v1872), ∀ a, (k0_off383 v1872) a + S1x1024.size a ≤ S8192x1024.size a := fun v1872 k0_hw94 => k0_hw94

def k0_off384 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1088 : BitVec 32 := 128#32
  let v1887 : BitVec 32 := Scalar.addi v1429 c128_i32_1088
  let c32_i32_1089 : BitVec 32 := 32#32
  let v1888 : BitVec 32 := Scalar.subi v1887 c32_i32_1089
  let c24_i32_1090 : BitVec 32 := 24#32
  let v1889 : BitVec 32 := Scalar.addi v1888 c24_i32_1090
  let v1890 : Index := Scalar.indexCast v1889
  ![v1890.toNat]
def k0_off385 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1088 : BitVec 32 := 128#32
  let v1887 : BitVec 32 := Scalar.addi v1429 c128_i32_1088
  let c32_i32_1089 : BitVec 32 := 32#32
  let v1888 : BitVec 32 := Scalar.subi v1887 c32_i32_1089
  let c24_i32_1090 : BitVec 32 := 24#32
  let v1889 : BitVec 32 := Scalar.addi v1888 c24_i32_1090
  let c32_i32_1091 : BitVec 32 := 32#32
  let c0_i32_1092 : BitVec 32 := 0#32
  let v1892 : BitVec 1 := Scalar.cmpi .eq c32_i32_1091 c0_i32_1092
  let c1_i32_1093 : BitVec 32 := 1#32
  let v1893 : BitVec 32 := Scalar.select v1892 c1_i32_1093 c32_i32_1091
  let v1894 : BitVec 32 := Scalar.remsi v1889 v1893
  let c0_i32_1095 : BitVec 32 := 0#32
  let v1896 : BitVec 1 := Scalar.cmpi .slt v1894 c0_i32_1095
  let c0_i32_1096 : BitVec 32 := 0#32
  let v1897 : BitVec 1 := Scalar.cmpi .slt v1893 c0_i32_1096
  let v1898 : BitVec 1 := Scalar.xori v1896 v1897
  let c0_i32_1094 : BitVec 32 := 0#32
  let v1895 : BitVec 1 := Scalar.cmpi .ne v1894 c0_i32_1094
  let v1899 : BitVec 1 := Scalar.andi v1898 v1895
  let v1900 : BitVec 32 := Scalar.addi v1894 v1893
  let v1901 : BitVec 32 := Scalar.select v1899 v1900 v1894
  ![v1901.toNat]
def k0_off386 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1088 : BitVec 32 := 128#32
  let v1887 : BitVec 32 := Scalar.addi v1429 c128_i32_1088
  let c32_i32_1089 : BitVec 32 := 32#32
  let v1888 : BitVec 32 := Scalar.subi v1887 c32_i32_1089
  let c24_i32_1090 : BitVec 32 := 24#32
  let v1889 : BitVec 32 := Scalar.addi v1888 c24_i32_1090
  let c0_i32_1097 : BitVec 32 := 0#32
  ![v1889.toNat, 0]
def k0_off387 (v1891 : BitVec 32) : Fin 2 → Nat :=
  let c0_i32_1098 : BitVec 32 := 0#32
  ![v1891.toNat, 0]

def k0_chk95 (v1891 : BitVec 32) : Prop :=
  (∀ a, (k0_off387 v1891) a + S1x1024.size a ≤ S8192x1024.size a)
theorem k0_off387_inb : ∀ (v1891 : BitVec 32) (k0_hw95 : k0_chk95 v1891), ∀ a, (k0_off387 v1891) a + S1x1024.size a ≤ S8192x1024.size a := fun v1891 k0_hw95 => k0_hw95

def k0_off388 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1099 : BitVec 32 := 128#32
  let v1906 : BitVec 32 := Scalar.addi v1429 c128_i32_1099
  let c32_i32_1100 : BitVec 32 := 32#32
  let v1907 : BitVec 32 := Scalar.subi v1906 c32_i32_1100
  let c25_i32_1101 : BitVec 32 := 25#32
  let v1908 : BitVec 32 := Scalar.addi v1907 c25_i32_1101
  let v1909 : Index := Scalar.indexCast v1908
  ![v1909.toNat]
def k0_off389 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1099 : BitVec 32 := 128#32
  let v1906 : BitVec 32 := Scalar.addi v1429 c128_i32_1099
  let c32_i32_1100 : BitVec 32 := 32#32
  let v1907 : BitVec 32 := Scalar.subi v1906 c32_i32_1100
  let c25_i32_1101 : BitVec 32 := 25#32
  let v1908 : BitVec 32 := Scalar.addi v1907 c25_i32_1101
  let c32_i32_1102 : BitVec 32 := 32#32
  let c0_i32_1103 : BitVec 32 := 0#32
  let v1911 : BitVec 1 := Scalar.cmpi .eq c32_i32_1102 c0_i32_1103
  let c1_i32_1104 : BitVec 32 := 1#32
  let v1912 : BitVec 32 := Scalar.select v1911 c1_i32_1104 c32_i32_1102
  let v1913 : BitVec 32 := Scalar.remsi v1908 v1912
  let c0_i32_1106 : BitVec 32 := 0#32
  let v1915 : BitVec 1 := Scalar.cmpi .slt v1913 c0_i32_1106
  let c0_i32_1107 : BitVec 32 := 0#32
  let v1916 : BitVec 1 := Scalar.cmpi .slt v1912 c0_i32_1107
  let v1917 : BitVec 1 := Scalar.xori v1915 v1916
  let c0_i32_1105 : BitVec 32 := 0#32
  let v1914 : BitVec 1 := Scalar.cmpi .ne v1913 c0_i32_1105
  let v1918 : BitVec 1 := Scalar.andi v1917 v1914
  let v1919 : BitVec 32 := Scalar.addi v1913 v1912
  let v1920 : BitVec 32 := Scalar.select v1918 v1919 v1913
  ![v1920.toNat]
def k0_off390 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1099 : BitVec 32 := 128#32
  let v1906 : BitVec 32 := Scalar.addi v1429 c128_i32_1099
  let c32_i32_1100 : BitVec 32 := 32#32
  let v1907 : BitVec 32 := Scalar.subi v1906 c32_i32_1100
  let c25_i32_1101 : BitVec 32 := 25#32
  let v1908 : BitVec 32 := Scalar.addi v1907 c25_i32_1101
  let c0_i32_1108 : BitVec 32 := 0#32
  ![v1908.toNat, 0]
def k0_off391 (v1910 : BitVec 32) : Fin 2 → Nat :=
  let c0_i32_1109 : BitVec 32 := 0#32
  ![v1910.toNat, 0]

def k0_chk96 (v1910 : BitVec 32) : Prop :=
  (∀ a, (k0_off391 v1910) a + S1x1024.size a ≤ S8192x1024.size a)
theorem k0_off391_inb : ∀ (v1910 : BitVec 32) (k0_hw96 : k0_chk96 v1910), ∀ a, (k0_off391 v1910) a + S1x1024.size a ≤ S8192x1024.size a := fun v1910 k0_hw96 => k0_hw96

def k0_off392 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1110 : BitVec 32 := 128#32
  let v1925 : BitVec 32 := Scalar.addi v1429 c128_i32_1110
  let c32_i32_1111 : BitVec 32 := 32#32
  let v1926 : BitVec 32 := Scalar.subi v1925 c32_i32_1111
  let c26_i32_1112 : BitVec 32 := 26#32
  let v1927 : BitVec 32 := Scalar.addi v1926 c26_i32_1112
  let v1928 : Index := Scalar.indexCast v1927
  ![v1928.toNat]
def k0_off393 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1110 : BitVec 32 := 128#32
  let v1925 : BitVec 32 := Scalar.addi v1429 c128_i32_1110
  let c32_i32_1111 : BitVec 32 := 32#32
  let v1926 : BitVec 32 := Scalar.subi v1925 c32_i32_1111
  let c26_i32_1112 : BitVec 32 := 26#32
  let v1927 : BitVec 32 := Scalar.addi v1926 c26_i32_1112
  let c32_i32_1113 : BitVec 32 := 32#32
  let c0_i32_1114 : BitVec 32 := 0#32
  let v1930 : BitVec 1 := Scalar.cmpi .eq c32_i32_1113 c0_i32_1114
  let c1_i32_1115 : BitVec 32 := 1#32
  let v1931 : BitVec 32 := Scalar.select v1930 c1_i32_1115 c32_i32_1113
  let v1932 : BitVec 32 := Scalar.remsi v1927 v1931
  let c0_i32_1117 : BitVec 32 := 0#32
  let v1934 : BitVec 1 := Scalar.cmpi .slt v1932 c0_i32_1117
  let c0_i32_1118 : BitVec 32 := 0#32
  let v1935 : BitVec 1 := Scalar.cmpi .slt v1931 c0_i32_1118
  let v1936 : BitVec 1 := Scalar.xori v1934 v1935
  let c0_i32_1116 : BitVec 32 := 0#32
  let v1933 : BitVec 1 := Scalar.cmpi .ne v1932 c0_i32_1116
  let v1937 : BitVec 1 := Scalar.andi v1936 v1933
  let v1938 : BitVec 32 := Scalar.addi v1932 v1931
  let v1939 : BitVec 32 := Scalar.select v1937 v1938 v1932
  ![v1939.toNat]
def k0_off394 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1110 : BitVec 32 := 128#32
  let v1925 : BitVec 32 := Scalar.addi v1429 c128_i32_1110
  let c32_i32_1111 : BitVec 32 := 32#32
  let v1926 : BitVec 32 := Scalar.subi v1925 c32_i32_1111
  let c26_i32_1112 : BitVec 32 := 26#32
  let v1927 : BitVec 32 := Scalar.addi v1926 c26_i32_1112
  let c0_i32_1119 : BitVec 32 := 0#32
  ![v1927.toNat, 0]
def k0_off395 (v1929 : BitVec 32) : Fin 2 → Nat :=
  let c0_i32_1120 : BitVec 32 := 0#32
  ![v1929.toNat, 0]

def k0_chk97 (v1929 : BitVec 32) : Prop :=
  (∀ a, (k0_off395 v1929) a + S1x1024.size a ≤ S8192x1024.size a)
theorem k0_off395_inb : ∀ (v1929 : BitVec 32) (k0_hw97 : k0_chk97 v1929), ∀ a, (k0_off395 v1929) a + S1x1024.size a ≤ S8192x1024.size a := fun v1929 k0_hw97 => k0_hw97

def k0_off396 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1121 : BitVec 32 := 128#32
  let v1944 : BitVec 32 := Scalar.addi v1429 c128_i32_1121
  let c32_i32_1122 : BitVec 32 := 32#32
  let v1945 : BitVec 32 := Scalar.subi v1944 c32_i32_1122
  let c27_i32_1123 : BitVec 32 := 27#32
  let v1946 : BitVec 32 := Scalar.addi v1945 c27_i32_1123
  let v1947 : Index := Scalar.indexCast v1946
  ![v1947.toNat]
def k0_off397 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1121 : BitVec 32 := 128#32
  let v1944 : BitVec 32 := Scalar.addi v1429 c128_i32_1121
  let c32_i32_1122 : BitVec 32 := 32#32
  let v1945 : BitVec 32 := Scalar.subi v1944 c32_i32_1122
  let c27_i32_1123 : BitVec 32 := 27#32
  let v1946 : BitVec 32 := Scalar.addi v1945 c27_i32_1123
  let c32_i32_1124 : BitVec 32 := 32#32
  let c0_i32_1125 : BitVec 32 := 0#32
  let v1949 : BitVec 1 := Scalar.cmpi .eq c32_i32_1124 c0_i32_1125
  let c1_i32_1126 : BitVec 32 := 1#32
  let v1950 : BitVec 32 := Scalar.select v1949 c1_i32_1126 c32_i32_1124
  let v1951 : BitVec 32 := Scalar.remsi v1946 v1950
  let c0_i32_1128 : BitVec 32 := 0#32
  let v1953 : BitVec 1 := Scalar.cmpi .slt v1951 c0_i32_1128
  let c0_i32_1129 : BitVec 32 := 0#32
  let v1954 : BitVec 1 := Scalar.cmpi .slt v1950 c0_i32_1129
  let v1955 : BitVec 1 := Scalar.xori v1953 v1954
  let c0_i32_1127 : BitVec 32 := 0#32
  let v1952 : BitVec 1 := Scalar.cmpi .ne v1951 c0_i32_1127
  let v1956 : BitVec 1 := Scalar.andi v1955 v1952
  let v1957 : BitVec 32 := Scalar.addi v1951 v1950
  let v1958 : BitVec 32 := Scalar.select v1956 v1957 v1951
  ![v1958.toNat]
def k0_off398 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1121 : BitVec 32 := 128#32
  let v1944 : BitVec 32 := Scalar.addi v1429 c128_i32_1121
  let c32_i32_1122 : BitVec 32 := 32#32
  let v1945 : BitVec 32 := Scalar.subi v1944 c32_i32_1122
  let c27_i32_1123 : BitVec 32 := 27#32
  let v1946 : BitVec 32 := Scalar.addi v1945 c27_i32_1123
  let c0_i32_1130 : BitVec 32 := 0#32
  ![v1946.toNat, 0]
def k0_off399 (v1948 : BitVec 32) : Fin 2 → Nat :=
  let c0_i32_1131 : BitVec 32 := 0#32
  ![v1948.toNat, 0]

def k0_chk98 (v1948 : BitVec 32) : Prop :=
  (∀ a, (k0_off399 v1948) a + S1x1024.size a ≤ S8192x1024.size a)
theorem k0_off399_inb : ∀ (v1948 : BitVec 32) (k0_hw98 : k0_chk98 v1948), ∀ a, (k0_off399 v1948) a + S1x1024.size a ≤ S8192x1024.size a := fun v1948 k0_hw98 => k0_hw98

def k0_off400 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1132 : BitVec 32 := 128#32
  let v1963 : BitVec 32 := Scalar.addi v1429 c128_i32_1132
  let c32_i32_1133 : BitVec 32 := 32#32
  let v1964 : BitVec 32 := Scalar.subi v1963 c32_i32_1133
  let c28_i32_1134 : BitVec 32 := 28#32
  let v1965 : BitVec 32 := Scalar.addi v1964 c28_i32_1134
  let v1966 : Index := Scalar.indexCast v1965
  ![v1966.toNat]
def k0_off401 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1132 : BitVec 32 := 128#32
  let v1963 : BitVec 32 := Scalar.addi v1429 c128_i32_1132
  let c32_i32_1133 : BitVec 32 := 32#32
  let v1964 : BitVec 32 := Scalar.subi v1963 c32_i32_1133
  let c28_i32_1134 : BitVec 32 := 28#32
  let v1965 : BitVec 32 := Scalar.addi v1964 c28_i32_1134
  let c32_i32_1135 : BitVec 32 := 32#32
  let c0_i32_1136 : BitVec 32 := 0#32
  let v1968 : BitVec 1 := Scalar.cmpi .eq c32_i32_1135 c0_i32_1136
  let c1_i32_1137 : BitVec 32 := 1#32
  let v1969 : BitVec 32 := Scalar.select v1968 c1_i32_1137 c32_i32_1135
  let v1970 : BitVec 32 := Scalar.remsi v1965 v1969
  let c0_i32_1139 : BitVec 32 := 0#32
  let v1972 : BitVec 1 := Scalar.cmpi .slt v1970 c0_i32_1139
  let c0_i32_1140 : BitVec 32 := 0#32
  let v1973 : BitVec 1 := Scalar.cmpi .slt v1969 c0_i32_1140
  let v1974 : BitVec 1 := Scalar.xori v1972 v1973
  let c0_i32_1138 : BitVec 32 := 0#32
  let v1971 : BitVec 1 := Scalar.cmpi .ne v1970 c0_i32_1138
  let v1975 : BitVec 1 := Scalar.andi v1974 v1971
  let v1976 : BitVec 32 := Scalar.addi v1970 v1969
  let v1977 : BitVec 32 := Scalar.select v1975 v1976 v1970
  ![v1977.toNat]
def k0_off402 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1132 : BitVec 32 := 128#32
  let v1963 : BitVec 32 := Scalar.addi v1429 c128_i32_1132
  let c32_i32_1133 : BitVec 32 := 32#32
  let v1964 : BitVec 32 := Scalar.subi v1963 c32_i32_1133
  let c28_i32_1134 : BitVec 32 := 28#32
  let v1965 : BitVec 32 := Scalar.addi v1964 c28_i32_1134
  let c0_i32_1141 : BitVec 32 := 0#32
  ![v1965.toNat, 0]
def k0_off403 (v1967 : BitVec 32) : Fin 2 → Nat :=
  let c0_i32_1142 : BitVec 32 := 0#32
  ![v1967.toNat, 0]

def k0_chk99 (v1967 : BitVec 32) : Prop :=
  (∀ a, (k0_off403 v1967) a + S1x1024.size a ≤ S8192x1024.size a)
theorem k0_off403_inb : ∀ (v1967 : BitVec 32) (k0_hw99 : k0_chk99 v1967), ∀ a, (k0_off403 v1967) a + S1x1024.size a ≤ S8192x1024.size a := fun v1967 k0_hw99 => k0_hw99

def k0_off404 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1143 : BitVec 32 := 128#32
  let v1982 : BitVec 32 := Scalar.addi v1429 c128_i32_1143
  let c32_i32_1144 : BitVec 32 := 32#32
  let v1983 : BitVec 32 := Scalar.subi v1982 c32_i32_1144
  let c29_i32_1145 : BitVec 32 := 29#32
  let v1984 : BitVec 32 := Scalar.addi v1983 c29_i32_1145
  let v1985 : Index := Scalar.indexCast v1984
  ![v1985.toNat]
def k0_off405 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1143 : BitVec 32 := 128#32
  let v1982 : BitVec 32 := Scalar.addi v1429 c128_i32_1143
  let c32_i32_1144 : BitVec 32 := 32#32
  let v1983 : BitVec 32 := Scalar.subi v1982 c32_i32_1144
  let c29_i32_1145 : BitVec 32 := 29#32
  let v1984 : BitVec 32 := Scalar.addi v1983 c29_i32_1145
  let c32_i32_1146 : BitVec 32 := 32#32
  let c0_i32_1147 : BitVec 32 := 0#32
  let v1987 : BitVec 1 := Scalar.cmpi .eq c32_i32_1146 c0_i32_1147
  let c1_i32_1148 : BitVec 32 := 1#32
  let v1988 : BitVec 32 := Scalar.select v1987 c1_i32_1148 c32_i32_1146
  let v1989 : BitVec 32 := Scalar.remsi v1984 v1988
  let c0_i32_1150 : BitVec 32 := 0#32
  let v1991 : BitVec 1 := Scalar.cmpi .slt v1989 c0_i32_1150
  let c0_i32_1151 : BitVec 32 := 0#32
  let v1992 : BitVec 1 := Scalar.cmpi .slt v1988 c0_i32_1151
  let v1993 : BitVec 1 := Scalar.xori v1991 v1992
  let c0_i32_1149 : BitVec 32 := 0#32
  let v1990 : BitVec 1 := Scalar.cmpi .ne v1989 c0_i32_1149
  let v1994 : BitVec 1 := Scalar.andi v1993 v1990
  let v1995 : BitVec 32 := Scalar.addi v1989 v1988
  let v1996 : BitVec 32 := Scalar.select v1994 v1995 v1989
  ![v1996.toNat]
def k0_off406 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1143 : BitVec 32 := 128#32
  let v1982 : BitVec 32 := Scalar.addi v1429 c128_i32_1143
  let c32_i32_1144 : BitVec 32 := 32#32
  let v1983 : BitVec 32 := Scalar.subi v1982 c32_i32_1144
  let c29_i32_1145 : BitVec 32 := 29#32
  let v1984 : BitVec 32 := Scalar.addi v1983 c29_i32_1145
  let c0_i32_1152 : BitVec 32 := 0#32
  ![v1984.toNat, 0]
def k0_off407 (v1986 : BitVec 32) : Fin 2 → Nat :=
  let c0_i32_1153 : BitVec 32 := 0#32
  ![v1986.toNat, 0]

def k0_chk100 (v1986 : BitVec 32) : Prop :=
  (∀ a, (k0_off407 v1986) a + S1x1024.size a ≤ S8192x1024.size a)
theorem k0_off407_inb : ∀ (v1986 : BitVec 32) (k0_hw100 : k0_chk100 v1986), ∀ a, (k0_off407 v1986) a + S1x1024.size a ≤ S8192x1024.size a := fun v1986 k0_hw100 => k0_hw100

def k0_off408 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1154 : BitVec 32 := 128#32
  let v2001 : BitVec 32 := Scalar.addi v1429 c128_i32_1154
  let c32_i32_1155 : BitVec 32 := 32#32
  let v2002 : BitVec 32 := Scalar.subi v2001 c32_i32_1155
  let c30_i32_1156 : BitVec 32 := 30#32
  let v2003 : BitVec 32 := Scalar.addi v2002 c30_i32_1156
  let v2004 : Index := Scalar.indexCast v2003
  ![v2004.toNat]
def k0_off409 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1154 : BitVec 32 := 128#32
  let v2001 : BitVec 32 := Scalar.addi v1429 c128_i32_1154
  let c32_i32_1155 : BitVec 32 := 32#32
  let v2002 : BitVec 32 := Scalar.subi v2001 c32_i32_1155
  let c30_i32_1156 : BitVec 32 := 30#32
  let v2003 : BitVec 32 := Scalar.addi v2002 c30_i32_1156
  let c32_i32_1157 : BitVec 32 := 32#32
  let c0_i32_1158 : BitVec 32 := 0#32
  let v2006 : BitVec 1 := Scalar.cmpi .eq c32_i32_1157 c0_i32_1158
  let c1_i32_1159 : BitVec 32 := 1#32
  let v2007 : BitVec 32 := Scalar.select v2006 c1_i32_1159 c32_i32_1157
  let v2008 : BitVec 32 := Scalar.remsi v2003 v2007
  let c0_i32_1161 : BitVec 32 := 0#32
  let v2010 : BitVec 1 := Scalar.cmpi .slt v2008 c0_i32_1161
  let c0_i32_1162 : BitVec 32 := 0#32
  let v2011 : BitVec 1 := Scalar.cmpi .slt v2007 c0_i32_1162
  let v2012 : BitVec 1 := Scalar.xori v2010 v2011
  let c0_i32_1160 : BitVec 32 := 0#32
  let v2009 : BitVec 1 := Scalar.cmpi .ne v2008 c0_i32_1160
  let v2013 : BitVec 1 := Scalar.andi v2012 v2009
  let v2014 : BitVec 32 := Scalar.addi v2008 v2007
  let v2015 : BitVec 32 := Scalar.select v2013 v2014 v2008
  ![v2015.toNat]
def k0_off410 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1154 : BitVec 32 := 128#32
  let v2001 : BitVec 32 := Scalar.addi v1429 c128_i32_1154
  let c32_i32_1155 : BitVec 32 := 32#32
  let v2002 : BitVec 32 := Scalar.subi v2001 c32_i32_1155
  let c30_i32_1156 : BitVec 32 := 30#32
  let v2003 : BitVec 32 := Scalar.addi v2002 c30_i32_1156
  let c0_i32_1163 : BitVec 32 := 0#32
  ![v2003.toNat, 0]
def k0_off411 (v2005 : BitVec 32) : Fin 2 → Nat :=
  let c0_i32_1164 : BitVec 32 := 0#32
  ![v2005.toNat, 0]

def k0_chk101 (v2005 : BitVec 32) : Prop :=
  (∀ a, (k0_off411 v2005) a + S1x1024.size a ≤ S8192x1024.size a)
theorem k0_off411_inb : ∀ (v2005 : BitVec 32) (k0_hw101 : k0_chk101 v2005), ∀ a, (k0_off411 v2005) a + S1x1024.size a ≤ S8192x1024.size a := fun v2005 k0_hw101 => k0_hw101

def k0_off412 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1165 : BitVec 32 := 128#32
  let v2020 : BitVec 32 := Scalar.addi v1429 c128_i32_1165
  let c32_i32_1166 : BitVec 32 := 32#32
  let v2021 : BitVec 32 := Scalar.subi v2020 c32_i32_1166
  let c31_i32_1167 : BitVec 32 := 31#32
  let v2022 : BitVec 32 := Scalar.addi v2021 c31_i32_1167
  let v2023 : Index := Scalar.indexCast v2022
  ![v2023.toNat]
def k0_off413 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1165 : BitVec 32 := 128#32
  let v2020 : BitVec 32 := Scalar.addi v1429 c128_i32_1165
  let c32_i32_1166 : BitVec 32 := 32#32
  let v2021 : BitVec 32 := Scalar.subi v2020 c32_i32_1166
  let c31_i32_1167 : BitVec 32 := 31#32
  let v2022 : BitVec 32 := Scalar.addi v2021 c31_i32_1167
  let c32_i32_1168 : BitVec 32 := 32#32
  let c0_i32_1169 : BitVec 32 := 0#32
  let v2025 : BitVec 1 := Scalar.cmpi .eq c32_i32_1168 c0_i32_1169
  let c1_i32_1170 : BitVec 32 := 1#32
  let v2026 : BitVec 32 := Scalar.select v2025 c1_i32_1170 c32_i32_1168
  let v2027 : BitVec 32 := Scalar.remsi v2022 v2026
  let c0_i32_1172 : BitVec 32 := 0#32
  let v2029 : BitVec 1 := Scalar.cmpi .slt v2027 c0_i32_1172
  let c0_i32_1173 : BitVec 32 := 0#32
  let v2030 : BitVec 1 := Scalar.cmpi .slt v2026 c0_i32_1173
  let v2031 : BitVec 1 := Scalar.xori v2029 v2030
  let c0_i32_1171 : BitVec 32 := 0#32
  let v2028 : BitVec 1 := Scalar.cmpi .ne v2027 c0_i32_1171
  let v2032 : BitVec 1 := Scalar.andi v2031 v2028
  let v2033 : BitVec 32 := Scalar.addi v2027 v2026
  let v2034 : BitVec 32 := Scalar.select v2032 v2033 v2027
  ![v2034.toNat]
def k0_off414 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let c128_i32_1165 : BitVec 32 := 128#32
  let v2020 : BitVec 32 := Scalar.addi v1429 c128_i32_1165
  let c32_i32_1166 : BitVec 32 := 32#32
  let v2021 : BitVec 32 := Scalar.subi v2020 c32_i32_1166
  let c31_i32_1167 : BitVec 32 := 31#32
  let v2022 : BitVec 32 := Scalar.addi v2021 c31_i32_1167
  let c0_i32_1174 : BitVec 32 := 0#32
  ![v2022.toNat, 0]
def k0_off415 (v2024 : BitVec 32) : Fin 2 → Nat :=
  let c0_i32_1175 : BitVec 32 := 0#32
  ![v2024.toNat, 0]

def k0_chk102 (v2024 : BitVec 32) : Prop :=
  (∀ a, (k0_off415 v2024) a + S1x1024.size a ≤ S8192x1024.size a)
theorem k0_off415_inb : ∀ (v2024 : BitVec 32) (k0_hw102 : k0_chk102 v2024), ∀ a, (k0_off415 v2024) a + S1x1024.size a ≤ S8192x1024.size a := fun v2024 k0_hw102 => k0_hw102

def k0_off416 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let v2039 : Index := Scalar.indexCast v1429
  let c0_1176 : Index := 0#32
  ![v2039.toNat, 0]
def k0_off417 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_812 : BitVec 32 := 2#32
  let v1418 : BitVec 32 := Scalar.subi v5 c2_i32_812
  let c4_i32_813 : BitVec 32 := 4#32
  let c0_i32_814 : BitVec 32 := 0#32
  let v1419 : BitVec 1 := Scalar.cmpi .eq c4_i32_813 c0_i32_814
  let c1_i32_815 : BitVec 32 := 1#32
  let v1420 : BitVec 32 := Scalar.select v1419 c1_i32_815 c4_i32_813
  let v1421 : BitVec 32 := Scalar.remsi v1418 v1420
  let c0_i32_817 : BitVec 32 := 0#32
  let v1423 : BitVec 1 := Scalar.cmpi .slt v1421 c0_i32_817
  let c0_i32_818 : BitVec 32 := 0#32
  let v1424 : BitVec 1 := Scalar.cmpi .slt v1420 c0_i32_818
  let v1425 : BitVec 1 := Scalar.xori v1423 v1424
  let c0_i32_816 : BitVec 32 := 0#32
  let v1422 : BitVec 1 := Scalar.cmpi .ne v1421 c0_i32_816
  let v1426 : BitVec 1 := Scalar.andi v1425 v1422
  let v1427 : BitVec 32 := Scalar.addi v1421 v1420
  let v1428 : BitVec 32 := Scalar.select v1426 v1427 v1421
  let c128_i32_819 : BitVec 32 := 128#32
  let v1429 : BitVec 32 := Scalar.muli v1428 c128_i32_819
  let v2041 : Index := Scalar.indexCast v1429
  let c0_1177 : Index := 0#32
  ![v2041.toNat, 0]
def k0_off418 (d0 : Dev nD) (c1_i32_786 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1381 : BitVec 32 := Scalar.subi v5 c1_i32_786
  let c4_i32_787 : BitVec 32 := 4#32
  let c0_i32_788 : BitVec 32 := 0#32
  let v1382 : BitVec 1 := Scalar.cmpi .eq c4_i32_787 c0_i32_788
  let c1_i32_789 : BitVec 32 := 1#32
  let v1383 : BitVec 32 := Scalar.select v1382 c1_i32_789 c4_i32_787
  let v1384 : BitVec 32 := Scalar.remsi v1381 v1383
  let c0_i32_791 : BitVec 32 := 0#32
  let v1386 : BitVec 1 := Scalar.cmpi .slt v1384 c0_i32_791
  let c0_i32_792 : BitVec 32 := 0#32
  let v1387 : BitVec 1 := Scalar.cmpi .slt v1383 c0_i32_792
  let v1388 : BitVec 1 := Scalar.xori v1386 v1387
  let c0_i32_790 : BitVec 32 := 0#32
  let v1385 : BitVec 1 := Scalar.cmpi .ne v1384 c0_i32_790
  let v1389 : BitVec 1 := Scalar.andi v1388 v1385
  let v1390 : BitVec 32 := Scalar.addi v1384 v1383
  let v1391 : BitVec 32 := Scalar.select v1389 v1390 v1384
  let c128_i32_801 : BitVec 32 := 128#32
  let v1404 : BitVec 32 := Scalar.muli v1391 c128_i32_801
  let c0_i32_1183 : BitVec 32 := 0#32
  ![v1404.toNat, 0]
def k0_off419 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_793 : BitVec 32 := 1#32
  let v1392 : BitVec 32 := Scalar.subi v5 c1_i32_793
  let c1_i32_794 : BitVec 32 := 1#32
  let v1393 : BitVec 32 := Scalar.subi v1392 c1_i32_794
  let c4_i32_795 : BitVec 32 := 4#32
  let c0_i32_796 : BitVec 32 := 0#32
  let v1394 : BitVec 1 := Scalar.cmpi .eq c4_i32_795 c0_i32_796
  let c1_i32_797 : BitVec 32 := 1#32
  let v1395 : BitVec 32 := Scalar.select v1394 c1_i32_797 c4_i32_795
  let v1396 : BitVec 32 := Scalar.remsi v1393 v1395
  let c0_i32_799 : BitVec 32 := 0#32
  let v1398 : BitVec 1 := Scalar.cmpi .slt v1396 c0_i32_799
  let c0_i32_800 : BitVec 32 := 0#32
  let v1399 : BitVec 1 := Scalar.cmpi .slt v1395 c0_i32_800
  let v1400 : BitVec 1 := Scalar.xori v1398 v1399
  let c0_i32_798 : BitVec 32 := 0#32
  let v1397 : BitVec 1 := Scalar.cmpi .ne v1396 c0_i32_798
  let v1401 : BitVec 1 := Scalar.andi v1400 v1397
  let v1402 : BitVec 32 := Scalar.addi v1396 v1395
  let v1403 : BitVec 32 := Scalar.select v1401 v1402 v1396
  let c128_i32_1196 : BitVec 32 := 128#32
  let v2067 : BitVec 32 := Scalar.muli v1403 c128_i32_1196
  let v2068 : Index := Scalar.indexCast v2067
  let c0_1197 : Index := 0#32
  ![v2068.toNat, 0]
def k0_dev6 (d0 : Dev nD) : Nat :=
  let c0_i32_1222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1221 : BitVec 32 := 16#32
  let v2102 : BitVec 32 := Scalar.muli v2 c16_i32_1221
  let v2103 : BitVec 32 := Scalar.addi c0_i32_1222 v2102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1223 : BitVec 32 := 4#32
  let v2104 : BitVec 32 := Scalar.muli v19 c4_i32_1223
  let v2105 : BitVec 32 := Scalar.addi v2103 v2104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1224 : BitVec 32 := 1#32
  let v2106 : BitVec 32 := Scalar.muli v8 c1_i32_1224
  let v2107 : BitVec 32 := Scalar.addi v2105 v2106
  v2107.toNat
@[reducible] def k0_t4_loop : Scf.Loop 32 :=
  let c0_i32_1236 : BitVec 32 := 0#32
  let c128_i32_1237 : BitVec 32 := 128#32
  let v2127 : BitVec 32 := Scalar.addi c0_i32_1236 c128_i32_1237
  let c1_i32_1238 : BitVec 32 := 1#32
  ⟨c0_i32_1236, v2127, c1_i32_1238⟩
def k0_off420 (d0 : Dev nD) (k0_t4 : Fin k0_t4_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3071 : BitVec 32 := Scalar.addi v2126 arg16
  let v3072 : Index := Scalar.indexCast v3071
  ![v3072.toNat]
def k0_off421 (d0 : Dev nD) (k0_t4 : Fin k0_t4_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3071 : BitVec 32 := Scalar.addi v2126 arg16
  let c32_i32_1844 : BitVec 32 := 32#32
  let c0_i32_1845 : BitVec 32 := 0#32
  let v3074 : BitVec 1 := Scalar.cmpi .eq c32_i32_1844 c0_i32_1845
  let c1_i32_1846 : BitVec 32 := 1#32
  let v3075 : BitVec 32 := Scalar.select v3074 c1_i32_1846 c32_i32_1844
  let v3076 : BitVec 32 := Scalar.remsi v3071 v3075
  let c0_i32_1848 : BitVec 32 := 0#32
  let v3078 : BitVec 1 := Scalar.cmpi .slt v3076 c0_i32_1848
  let c0_i32_1849 : BitVec 32 := 0#32
  let v3079 : BitVec 1 := Scalar.cmpi .slt v3075 c0_i32_1849
  let v3080 : BitVec 1 := Scalar.xori v3078 v3079
  let c0_i32_1847 : BitVec 32 := 0#32
  let v3077 : BitVec 1 := Scalar.cmpi .ne v3076 c0_i32_1847
  let v3081 : BitVec 1 := Scalar.andi v3080 v3077
  let v3082 : BitVec 32 := Scalar.addi v3076 v3075
  let v3083 : BitVec 32 := Scalar.select v3081 v3082 v3076
  ![v3083.toNat]
def k0_off422 (d0 : Dev nD) (k0_t4 : Fin k0_t4_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3071 : BitVec 32 := Scalar.addi v2126 arg16
  let c0_i32_1850 : BitVec 32 := 0#32
  ![v3071.toNat, 0]
def k0_off423 (v3073 : BitVec 32) : Fin 2 → Nat :=
  let c0_i32_1851 : BitVec 32 := 0#32
  ![v3073.toNat, 0]

def k0_chk103 (v3073 : BitVec 32) : Prop :=
  (∀ a, (k0_off423 v3073) a + S1x1024.size a ≤ S8192x1024.size a)
theorem k0_off423_inb : ∀ (v3073 : BitVec 32) (k0_hw103 : k0_chk103 v3073), ∀ a, (k0_off423 v3073) a + S1x1024.size a ≤ S8192x1024.size a := fun v3073 k0_hw103 => k0_hw103

def k0_cond4 (k0_t4 : Fin k0_t4_loop.trips) : BitVec 1 :=
  let c0_i32_1236 : BitVec 32 := 0#32
  let c1_i32_1238 : BitVec 32 := 1#32
  let arg16 : BitVec 32 := Scf.iv c0_i32_1236 c1_i32_1238 k0_t4
  let c32_i32_1852 : BitVec 32 := 32#32
  let v3088 : BitVec 1 := Scalar.cmpi .sge arg16 c32_i32_1852
  let v3089 : BitVec 32 := Scalar.extui v3088
  let c0_i32_1853 : BitVec 32 := 0#32
  let v3090 : BitVec 1 := Scalar.cmpi .ne v3089 c0_i32_1853
  v3090

def k0_off424 (d0 : Dev nD) (k0_t4 : Fin k0_t4_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3091 : BitVec 32 := Scalar.addi v2126 arg16
  let c32_i32_1854 : BitVec 32 := 32#32
  let v3092 : BitVec 32 := Scalar.subi v3091 c32_i32_1854
  let v3093 : Index := Scalar.indexCast v3092
  ![v3093.toNat]
def k0_off425 (d0 : Dev nD) (k0_t4 : Fin k0_t4_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3091 : BitVec 32 := Scalar.addi v2126 arg16
  let c32_i32_1854 : BitVec 32 := 32#32
  let v3092 : BitVec 32 := Scalar.subi v3091 c32_i32_1854
  let c32_i32_1855 : BitVec 32 := 32#32
  let c0_i32_1856 : BitVec 32 := 0#32
  let v3095 : BitVec 1 := Scalar.cmpi .eq c32_i32_1855 c0_i32_1856
  let c1_i32_1857 : BitVec 32 := 1#32
  let v3096 : BitVec 32 := Scalar.select v3095 c1_i32_1857 c32_i32_1855
  let v3097 : BitVec 32 := Scalar.remsi v3092 v3096
  let c0_i32_1859 : BitVec 32 := 0#32
  let v3099 : BitVec 1 := Scalar.cmpi .slt v3097 c0_i32_1859
  let c0_i32_1860 : BitVec 32 := 0#32
  let v3100 : BitVec 1 := Scalar.cmpi .slt v3096 c0_i32_1860
  let v3101 : BitVec 1 := Scalar.xori v3099 v3100
  let c0_i32_1858 : BitVec 32 := 0#32
  let v3098 : BitVec 1 := Scalar.cmpi .ne v3097 c0_i32_1858
  let v3102 : BitVec 1 := Scalar.andi v3101 v3098
  let v3103 : BitVec 32 := Scalar.addi v3097 v3096
  let v3104 : BitVec 32 := Scalar.select v3102 v3103 v3097
  ![v3104.toNat]
def k0_off426 (d0 : Dev nD) (k0_t4 : Fin k0_t4_loop.trips) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c0_i32_1236 : BitVec 32 := 0#32
  let c1_i32_1238 : BitVec 32 := 1#32
  let arg16 : BitVec 32 := Scf.iv c0_i32_1236 c1_i32_1238 k0_t4
  let v3091 : BitVec 32 := Scalar.addi v2126 arg16
  let c32_i32_1854 : BitVec 32 := 32#32
  let v3092 : BitVec 32 := Scalar.subi v3091 c32_i32_1854
  let c0_i32_1861 : BitVec 32 := 0#32
  ![v3092.toNat, 0]
def k0_off427 (v3094 : BitVec 32) : Fin 2 → Nat :=
  let c0_i32_1862 : BitVec 32 := 0#32
  ![v3094.toNat, 0]

def k0_chk104 (k0_t4 : Fin k0_t4_loop.trips) (v3094 : BitVec 32) : Prop :=
  (∀ (k0_h4 : k0_cond4 k0_t4 = 1#1), ∀ a, (k0_off427 v3094) a + S1x1024.size a ≤ S8192x1024.size a)
theorem k0_off427_inb : ∀ (k0_t4 : Fin k0_t4_loop.trips) (v3094 : BitVec 32) (k0_hw104 : k0_chk104 k0_t4 v3094), ∀ (k0_h4 : k0_cond4 k0_t4 = 1#1), ∀ a, (k0_off427 v3094) a + S1x1024.size a ≤ S8192x1024.size a := fun k0_t4 v3094 k0_hw104 k0_h4 => k0_hw104 k0_h4

def k0_off428 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1240 : BitVec 32 := 128#32
  let v2128 : BitVec 32 := Scalar.addi v2126 c128_i32_1240
  let c32_i32_1241 : BitVec 32 := 32#32
  let v2129 : BitVec 32 := Scalar.subi v2128 c32_i32_1241
  let c0_i32_1242 : BitVec 32 := 0#32
  let v2130 : BitVec 32 := Scalar.addi v2129 c0_i32_1242
  let v2131 : Index := Scalar.indexCast v2130
  ![v2131.toNat]
def k0_off429 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1240 : BitVec 32 := 128#32
  let v2128 : BitVec 32 := Scalar.addi v2126 c128_i32_1240
  let c32_i32_1241 : BitVec 32 := 32#32
  let v2129 : BitVec 32 := Scalar.subi v2128 c32_i32_1241
  let c0_i32_1242 : BitVec 32 := 0#32
  let v2130 : BitVec 32 := Scalar.addi v2129 c0_i32_1242
  let c32_i32_1243 : BitVec 32 := 32#32
  let c0_i32_1244 : BitVec 32 := 0#32
  let v2133 : BitVec 1 := Scalar.cmpi .eq c32_i32_1243 c0_i32_1244
  let c1_i32_1245 : BitVec 32 := 1#32
  let v2134 : BitVec 32 := Scalar.select v2133 c1_i32_1245 c32_i32_1243
  let v2135 : BitVec 32 := Scalar.remsi v2130 v2134
  let c0_i32_1247 : BitVec 32 := 0#32
  let v2137 : BitVec 1 := Scalar.cmpi .slt v2135 c0_i32_1247
  let c0_i32_1248 : BitVec 32 := 0#32
  let v2138 : BitVec 1 := Scalar.cmpi .slt v2134 c0_i32_1248
  let v2139 : BitVec 1 := Scalar.xori v2137 v2138
  let c0_i32_1246 : BitVec 32 := 0#32
  let v2136 : BitVec 1 := Scalar.cmpi .ne v2135 c0_i32_1246
  let v2140 : BitVec 1 := Scalar.andi v2139 v2136
  let v2141 : BitVec 32 := Scalar.addi v2135 v2134
  let v2142 : BitVec 32 := Scalar.select v2140 v2141 v2135
  ![v2142.toNat]
def k0_off430 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1240 : BitVec 32 := 128#32
  let v2128 : BitVec 32 := Scalar.addi v2126 c128_i32_1240
  let c32_i32_1241 : BitVec 32 := 32#32
  let v2129 : BitVec 32 := Scalar.subi v2128 c32_i32_1241
  let c0_i32_1242 : BitVec 32 := 0#32
  let v2130 : BitVec 32 := Scalar.addi v2129 c0_i32_1242
  let c0_i32_1249 : BitVec 32 := 0#32
  ![v2130.toNat, 0]
def k0_off431 (v2132 : BitVec 32) : Fin 2 → Nat :=
  let c0_i32_1250 : BitVec 32 := 0#32
  ![v2132.toNat, 0]

def k0_chk105 (v2132 : BitVec 32) : Prop :=
  (∀ a, (k0_off431 v2132) a + S1x1024.size a ≤ S8192x1024.size a)
theorem k0_off431_inb : ∀ (v2132 : BitVec 32) (k0_hw105 : k0_chk105 v2132), ∀ a, (k0_off431 v2132) a + S1x1024.size a ≤ S8192x1024.size a := fun v2132 k0_hw105 => k0_hw105

def k0_off432 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1251 : BitVec 32 := 128#32
  let v2147 : BitVec 32 := Scalar.addi v2126 c128_i32_1251
  let c32_i32_1252 : BitVec 32 := 32#32
  let v2148 : BitVec 32 := Scalar.subi v2147 c32_i32_1252
  let c1_i32_1253 : BitVec 32 := 1#32
  let v2149 : BitVec 32 := Scalar.addi v2148 c1_i32_1253
  let v2150 : Index := Scalar.indexCast v2149
  ![v2150.toNat]
def k0_off433 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1251 : BitVec 32 := 128#32
  let v2147 : BitVec 32 := Scalar.addi v2126 c128_i32_1251
  let c32_i32_1252 : BitVec 32 := 32#32
  let v2148 : BitVec 32 := Scalar.subi v2147 c32_i32_1252
  let c1_i32_1253 : BitVec 32 := 1#32
  let v2149 : BitVec 32 := Scalar.addi v2148 c1_i32_1253
  let c32_i32_1254 : BitVec 32 := 32#32
  let c0_i32_1255 : BitVec 32 := 0#32
  let v2152 : BitVec 1 := Scalar.cmpi .eq c32_i32_1254 c0_i32_1255
  let c1_i32_1256 : BitVec 32 := 1#32
  let v2153 : BitVec 32 := Scalar.select v2152 c1_i32_1256 c32_i32_1254
  let v2154 : BitVec 32 := Scalar.remsi v2149 v2153
  let c0_i32_1258 : BitVec 32 := 0#32
  let v2156 : BitVec 1 := Scalar.cmpi .slt v2154 c0_i32_1258
  let c0_i32_1259 : BitVec 32 := 0#32
  let v2157 : BitVec 1 := Scalar.cmpi .slt v2153 c0_i32_1259
  let v2158 : BitVec 1 := Scalar.xori v2156 v2157
  let c0_i32_1257 : BitVec 32 := 0#32
  let v2155 : BitVec 1 := Scalar.cmpi .ne v2154 c0_i32_1257
  let v2159 : BitVec 1 := Scalar.andi v2158 v2155
  let v2160 : BitVec 32 := Scalar.addi v2154 v2153
  let v2161 : BitVec 32 := Scalar.select v2159 v2160 v2154
  ![v2161.toNat]
def k0_off434 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1251 : BitVec 32 := 128#32
  let v2147 : BitVec 32 := Scalar.addi v2126 c128_i32_1251
  let c32_i32_1252 : BitVec 32 := 32#32
  let v2148 : BitVec 32 := Scalar.subi v2147 c32_i32_1252
  let c1_i32_1253 : BitVec 32 := 1#32
  let v2149 : BitVec 32 := Scalar.addi v2148 c1_i32_1253
  let c0_i32_1260 : BitVec 32 := 0#32
  ![v2149.toNat, 0]
def k0_off435 (v2151 : BitVec 32) : Fin 2 → Nat :=
  let c0_i32_1261 : BitVec 32 := 0#32
  ![v2151.toNat, 0]

def k0_chk106 (v2151 : BitVec 32) : Prop :=
  (∀ a, (k0_off435 v2151) a + S1x1024.size a ≤ S8192x1024.size a)
theorem k0_off435_inb : ∀ (v2151 : BitVec 32) (k0_hw106 : k0_chk106 v2151), ∀ a, (k0_off435 v2151) a + S1x1024.size a ≤ S8192x1024.size a := fun v2151 k0_hw106 => k0_hw106

def k0_off436 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1262 : BitVec 32 := 128#32
  let v2166 : BitVec 32 := Scalar.addi v2126 c128_i32_1262
  let c32_i32_1263 : BitVec 32 := 32#32
  let v2167 : BitVec 32 := Scalar.subi v2166 c32_i32_1263
  let c2_i32_1264 : BitVec 32 := 2#32
  let v2168 : BitVec 32 := Scalar.addi v2167 c2_i32_1264
  let v2169 : Index := Scalar.indexCast v2168
  ![v2169.toNat]
def k0_off437 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1262 : BitVec 32 := 128#32
  let v2166 : BitVec 32 := Scalar.addi v2126 c128_i32_1262
  let c32_i32_1263 : BitVec 32 := 32#32
  let v2167 : BitVec 32 := Scalar.subi v2166 c32_i32_1263
  let c2_i32_1264 : BitVec 32 := 2#32
  let v2168 : BitVec 32 := Scalar.addi v2167 c2_i32_1264
  let c32_i32_1265 : BitVec 32 := 32#32
  let c0_i32_1266 : BitVec 32 := 0#32
  let v2171 : BitVec 1 := Scalar.cmpi .eq c32_i32_1265 c0_i32_1266
  let c1_i32_1267 : BitVec 32 := 1#32
  let v2172 : BitVec 32 := Scalar.select v2171 c1_i32_1267 c32_i32_1265
  let v2173 : BitVec 32 := Scalar.remsi v2168 v2172
  let c0_i32_1269 : BitVec 32 := 0#32
  let v2175 : BitVec 1 := Scalar.cmpi .slt v2173 c0_i32_1269
  let c0_i32_1270 : BitVec 32 := 0#32
  let v2176 : BitVec 1 := Scalar.cmpi .slt v2172 c0_i32_1270
  let v2177 : BitVec 1 := Scalar.xori v2175 v2176
  let c0_i32_1268 : BitVec 32 := 0#32
  let v2174 : BitVec 1 := Scalar.cmpi .ne v2173 c0_i32_1268
  let v2178 : BitVec 1 := Scalar.andi v2177 v2174
  let v2179 : BitVec 32 := Scalar.addi v2173 v2172
  let v2180 : BitVec 32 := Scalar.select v2178 v2179 v2173
  ![v2180.toNat]
def k0_off438 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1262 : BitVec 32 := 128#32
  let v2166 : BitVec 32 := Scalar.addi v2126 c128_i32_1262
  let c32_i32_1263 : BitVec 32 := 32#32
  let v2167 : BitVec 32 := Scalar.subi v2166 c32_i32_1263
  let c2_i32_1264 : BitVec 32 := 2#32
  let v2168 : BitVec 32 := Scalar.addi v2167 c2_i32_1264
  let c0_i32_1271 : BitVec 32 := 0#32
  ![v2168.toNat, 0]
def k0_off439 (v2170 : BitVec 32) : Fin 2 → Nat :=
  let c0_i32_1272 : BitVec 32 := 0#32
  ![v2170.toNat, 0]

def k0_chk107 (v2170 : BitVec 32) : Prop :=
  (∀ a, (k0_off439 v2170) a + S1x1024.size a ≤ S8192x1024.size a)
theorem k0_off439_inb : ∀ (v2170 : BitVec 32) (k0_hw107 : k0_chk107 v2170), ∀ a, (k0_off439 v2170) a + S1x1024.size a ≤ S8192x1024.size a := fun v2170 k0_hw107 => k0_hw107

def k0_off440 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1273 : BitVec 32 := 128#32
  let v2185 : BitVec 32 := Scalar.addi v2126 c128_i32_1273
  let c32_i32_1274 : BitVec 32 := 32#32
  let v2186 : BitVec 32 := Scalar.subi v2185 c32_i32_1274
  let c3_i32_1275 : BitVec 32 := 3#32
  let v2187 : BitVec 32 := Scalar.addi v2186 c3_i32_1275
  let v2188 : Index := Scalar.indexCast v2187
  ![v2188.toNat]
def k0_off441 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1273 : BitVec 32 := 128#32
  let v2185 : BitVec 32 := Scalar.addi v2126 c128_i32_1273
  let c32_i32_1274 : BitVec 32 := 32#32
  let v2186 : BitVec 32 := Scalar.subi v2185 c32_i32_1274
  let c3_i32_1275 : BitVec 32 := 3#32
  let v2187 : BitVec 32 := Scalar.addi v2186 c3_i32_1275
  let c32_i32_1276 : BitVec 32 := 32#32
  let c0_i32_1277 : BitVec 32 := 0#32
  let v2190 : BitVec 1 := Scalar.cmpi .eq c32_i32_1276 c0_i32_1277
  let c1_i32_1278 : BitVec 32 := 1#32
  let v2191 : BitVec 32 := Scalar.select v2190 c1_i32_1278 c32_i32_1276
  let v2192 : BitVec 32 := Scalar.remsi v2187 v2191
  let c0_i32_1280 : BitVec 32 := 0#32
  let v2194 : BitVec 1 := Scalar.cmpi .slt v2192 c0_i32_1280
  let c0_i32_1281 : BitVec 32 := 0#32
  let v2195 : BitVec 1 := Scalar.cmpi .slt v2191 c0_i32_1281
  let v2196 : BitVec 1 := Scalar.xori v2194 v2195
  let c0_i32_1279 : BitVec 32 := 0#32
  let v2193 : BitVec 1 := Scalar.cmpi .ne v2192 c0_i32_1279
  let v2197 : BitVec 1 := Scalar.andi v2196 v2193
  let v2198 : BitVec 32 := Scalar.addi v2192 v2191
  let v2199 : BitVec 32 := Scalar.select v2197 v2198 v2192
  ![v2199.toNat]
def k0_off442 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1273 : BitVec 32 := 128#32
  let v2185 : BitVec 32 := Scalar.addi v2126 c128_i32_1273
  let c32_i32_1274 : BitVec 32 := 32#32
  let v2186 : BitVec 32 := Scalar.subi v2185 c32_i32_1274
  let c3_i32_1275 : BitVec 32 := 3#32
  let v2187 : BitVec 32 := Scalar.addi v2186 c3_i32_1275
  let c0_i32_1282 : BitVec 32 := 0#32
  ![v2187.toNat, 0]
def k0_off443 (v2189 : BitVec 32) : Fin 2 → Nat :=
  let c0_i32_1283 : BitVec 32 := 0#32
  ![v2189.toNat, 0]

def k0_chk108 (v2189 : BitVec 32) : Prop :=
  (∀ a, (k0_off443 v2189) a + S1x1024.size a ≤ S8192x1024.size a)
theorem k0_off443_inb : ∀ (v2189 : BitVec 32) (k0_hw108 : k0_chk108 v2189), ∀ a, (k0_off443 v2189) a + S1x1024.size a ≤ S8192x1024.size a := fun v2189 k0_hw108 => k0_hw108

def k0_off444 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1284 : BitVec 32 := 128#32
  let v2204 : BitVec 32 := Scalar.addi v2126 c128_i32_1284
  let c32_i32_1285 : BitVec 32 := 32#32
  let v2205 : BitVec 32 := Scalar.subi v2204 c32_i32_1285
  let c4_i32_1286 : BitVec 32 := 4#32
  let v2206 : BitVec 32 := Scalar.addi v2205 c4_i32_1286
  let v2207 : Index := Scalar.indexCast v2206
  ![v2207.toNat]
def k0_off445 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1284 : BitVec 32 := 128#32
  let v2204 : BitVec 32 := Scalar.addi v2126 c128_i32_1284
  let c32_i32_1285 : BitVec 32 := 32#32
  let v2205 : BitVec 32 := Scalar.subi v2204 c32_i32_1285
  let c4_i32_1286 : BitVec 32 := 4#32
  let v2206 : BitVec 32 := Scalar.addi v2205 c4_i32_1286
  let c32_i32_1287 : BitVec 32 := 32#32
  let c0_i32_1288 : BitVec 32 := 0#32
  let v2209 : BitVec 1 := Scalar.cmpi .eq c32_i32_1287 c0_i32_1288
  let c1_i32_1289 : BitVec 32 := 1#32
  let v2210 : BitVec 32 := Scalar.select v2209 c1_i32_1289 c32_i32_1287
  let v2211 : BitVec 32 := Scalar.remsi v2206 v2210
  let c0_i32_1291 : BitVec 32 := 0#32
  let v2213 : BitVec 1 := Scalar.cmpi .slt v2211 c0_i32_1291
  let c0_i32_1292 : BitVec 32 := 0#32
  let v2214 : BitVec 1 := Scalar.cmpi .slt v2210 c0_i32_1292
  let v2215 : BitVec 1 := Scalar.xori v2213 v2214
  let c0_i32_1290 : BitVec 32 := 0#32
  let v2212 : BitVec 1 := Scalar.cmpi .ne v2211 c0_i32_1290
  let v2216 : BitVec 1 := Scalar.andi v2215 v2212
  let v2217 : BitVec 32 := Scalar.addi v2211 v2210
  let v2218 : BitVec 32 := Scalar.select v2216 v2217 v2211
  ![v2218.toNat]
def k0_off446 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1284 : BitVec 32 := 128#32
  let v2204 : BitVec 32 := Scalar.addi v2126 c128_i32_1284
  let c32_i32_1285 : BitVec 32 := 32#32
  let v2205 : BitVec 32 := Scalar.subi v2204 c32_i32_1285
  let c4_i32_1286 : BitVec 32 := 4#32
  let v2206 : BitVec 32 := Scalar.addi v2205 c4_i32_1286
  let c0_i32_1293 : BitVec 32 := 0#32
  ![v2206.toNat, 0]
def k0_off447 (v2208 : BitVec 32) : Fin 2 → Nat :=
  let c0_i32_1294 : BitVec 32 := 0#32
  ![v2208.toNat, 0]

def k0_chk109 (v2208 : BitVec 32) : Prop :=
  (∀ a, (k0_off447 v2208) a + S1x1024.size a ≤ S8192x1024.size a)
theorem k0_off447_inb : ∀ (v2208 : BitVec 32) (k0_hw109 : k0_chk109 v2208), ∀ a, (k0_off447 v2208) a + S1x1024.size a ≤ S8192x1024.size a := fun v2208 k0_hw109 => k0_hw109

def k0_off448 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1295 : BitVec 32 := 128#32
  let v2223 : BitVec 32 := Scalar.addi v2126 c128_i32_1295
  let c32_i32_1296 : BitVec 32 := 32#32
  let v2224 : BitVec 32 := Scalar.subi v2223 c32_i32_1296
  let c5_i32_1297 : BitVec 32 := 5#32
  let v2225 : BitVec 32 := Scalar.addi v2224 c5_i32_1297
  let v2226 : Index := Scalar.indexCast v2225
  ![v2226.toNat]
def k0_off449 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1295 : BitVec 32 := 128#32
  let v2223 : BitVec 32 := Scalar.addi v2126 c128_i32_1295
  let c32_i32_1296 : BitVec 32 := 32#32
  let v2224 : BitVec 32 := Scalar.subi v2223 c32_i32_1296
  let c5_i32_1297 : BitVec 32 := 5#32
  let v2225 : BitVec 32 := Scalar.addi v2224 c5_i32_1297
  let c32_i32_1298 : BitVec 32 := 32#32
  let c0_i32_1299 : BitVec 32 := 0#32
  let v2228 : BitVec 1 := Scalar.cmpi .eq c32_i32_1298 c0_i32_1299
  let c1_i32_1300 : BitVec 32 := 1#32
  let v2229 : BitVec 32 := Scalar.select v2228 c1_i32_1300 c32_i32_1298
  let v2230 : BitVec 32 := Scalar.remsi v2225 v2229
  let c0_i32_1302 : BitVec 32 := 0#32
  let v2232 : BitVec 1 := Scalar.cmpi .slt v2230 c0_i32_1302
  let c0_i32_1303 : BitVec 32 := 0#32
  let v2233 : BitVec 1 := Scalar.cmpi .slt v2229 c0_i32_1303
  let v2234 : BitVec 1 := Scalar.xori v2232 v2233
  let c0_i32_1301 : BitVec 32 := 0#32
  let v2231 : BitVec 1 := Scalar.cmpi .ne v2230 c0_i32_1301
  let v2235 : BitVec 1 := Scalar.andi v2234 v2231
  let v2236 : BitVec 32 := Scalar.addi v2230 v2229
  let v2237 : BitVec 32 := Scalar.select v2235 v2236 v2230
  ![v2237.toNat]
def k0_off450 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1295 : BitVec 32 := 128#32
  let v2223 : BitVec 32 := Scalar.addi v2126 c128_i32_1295
  let c32_i32_1296 : BitVec 32 := 32#32
  let v2224 : BitVec 32 := Scalar.subi v2223 c32_i32_1296
  let c5_i32_1297 : BitVec 32 := 5#32
  let v2225 : BitVec 32 := Scalar.addi v2224 c5_i32_1297
  let c0_i32_1304 : BitVec 32 := 0#32
  ![v2225.toNat, 0]
def k0_off451 (v2227 : BitVec 32) : Fin 2 → Nat :=
  let c0_i32_1305 : BitVec 32 := 0#32
  ![v2227.toNat, 0]

def k0_chk110 (v2227 : BitVec 32) : Prop :=
  (∀ a, (k0_off451 v2227) a + S1x1024.size a ≤ S8192x1024.size a)
theorem k0_off451_inb : ∀ (v2227 : BitVec 32) (k0_hw110 : k0_chk110 v2227), ∀ a, (k0_off451 v2227) a + S1x1024.size a ≤ S8192x1024.size a := fun v2227 k0_hw110 => k0_hw110

def k0_off452 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1306 : BitVec 32 := 128#32
  let v2242 : BitVec 32 := Scalar.addi v2126 c128_i32_1306
  let c32_i32_1307 : BitVec 32 := 32#32
  let v2243 : BitVec 32 := Scalar.subi v2242 c32_i32_1307
  let c6_i32_1308 : BitVec 32 := 6#32
  let v2244 : BitVec 32 := Scalar.addi v2243 c6_i32_1308
  let v2245 : Index := Scalar.indexCast v2244
  ![v2245.toNat]
def k0_off453 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1306 : BitVec 32 := 128#32
  let v2242 : BitVec 32 := Scalar.addi v2126 c128_i32_1306
  let c32_i32_1307 : BitVec 32 := 32#32
  let v2243 : BitVec 32 := Scalar.subi v2242 c32_i32_1307
  let c6_i32_1308 : BitVec 32 := 6#32
  let v2244 : BitVec 32 := Scalar.addi v2243 c6_i32_1308
  let c32_i32_1309 : BitVec 32 := 32#32
  let c0_i32_1310 : BitVec 32 := 0#32
  let v2247 : BitVec 1 := Scalar.cmpi .eq c32_i32_1309 c0_i32_1310
  let c1_i32_1311 : BitVec 32 := 1#32
  let v2248 : BitVec 32 := Scalar.select v2247 c1_i32_1311 c32_i32_1309
  let v2249 : BitVec 32 := Scalar.remsi v2244 v2248
  let c0_i32_1313 : BitVec 32 := 0#32
  let v2251 : BitVec 1 := Scalar.cmpi .slt v2249 c0_i32_1313
  let c0_i32_1314 : BitVec 32 := 0#32
  let v2252 : BitVec 1 := Scalar.cmpi .slt v2248 c0_i32_1314
  let v2253 : BitVec 1 := Scalar.xori v2251 v2252
  let c0_i32_1312 : BitVec 32 := 0#32
  let v2250 : BitVec 1 := Scalar.cmpi .ne v2249 c0_i32_1312
  let v2254 : BitVec 1 := Scalar.andi v2253 v2250
  let v2255 : BitVec 32 := Scalar.addi v2249 v2248
  let v2256 : BitVec 32 := Scalar.select v2254 v2255 v2249
  ![v2256.toNat]
def k0_off454 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1306 : BitVec 32 := 128#32
  let v2242 : BitVec 32 := Scalar.addi v2126 c128_i32_1306
  let c32_i32_1307 : BitVec 32 := 32#32
  let v2243 : BitVec 32 := Scalar.subi v2242 c32_i32_1307
  let c6_i32_1308 : BitVec 32 := 6#32
  let v2244 : BitVec 32 := Scalar.addi v2243 c6_i32_1308
  let c0_i32_1315 : BitVec 32 := 0#32
  ![v2244.toNat, 0]
def k0_off455 (v2246 : BitVec 32) : Fin 2 → Nat :=
  let c0_i32_1316 : BitVec 32 := 0#32
  ![v2246.toNat, 0]

def k0_chk111 (v2246 : BitVec 32) : Prop :=
  (∀ a, (k0_off455 v2246) a + S1x1024.size a ≤ S8192x1024.size a)
theorem k0_off455_inb : ∀ (v2246 : BitVec 32) (k0_hw111 : k0_chk111 v2246), ∀ a, (k0_off455 v2246) a + S1x1024.size a ≤ S8192x1024.size a := fun v2246 k0_hw111 => k0_hw111

def k0_off456 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1317 : BitVec 32 := 128#32
  let v2261 : BitVec 32 := Scalar.addi v2126 c128_i32_1317
  let c32_i32_1318 : BitVec 32 := 32#32
  let v2262 : BitVec 32 := Scalar.subi v2261 c32_i32_1318
  let c7_i32_1319 : BitVec 32 := 7#32
  let v2263 : BitVec 32 := Scalar.addi v2262 c7_i32_1319
  let v2264 : Index := Scalar.indexCast v2263
  ![v2264.toNat]
def k0_off457 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1317 : BitVec 32 := 128#32
  let v2261 : BitVec 32 := Scalar.addi v2126 c128_i32_1317
  let c32_i32_1318 : BitVec 32 := 32#32
  let v2262 : BitVec 32 := Scalar.subi v2261 c32_i32_1318
  let c7_i32_1319 : BitVec 32 := 7#32
  let v2263 : BitVec 32 := Scalar.addi v2262 c7_i32_1319
  let c32_i32_1320 : BitVec 32 := 32#32
  let c0_i32_1321 : BitVec 32 := 0#32
  let v2266 : BitVec 1 := Scalar.cmpi .eq c32_i32_1320 c0_i32_1321
  let c1_i32_1322 : BitVec 32 := 1#32
  let v2267 : BitVec 32 := Scalar.select v2266 c1_i32_1322 c32_i32_1320
  let v2268 : BitVec 32 := Scalar.remsi v2263 v2267
  let c0_i32_1324 : BitVec 32 := 0#32
  let v2270 : BitVec 1 := Scalar.cmpi .slt v2268 c0_i32_1324
  let c0_i32_1325 : BitVec 32 := 0#32
  let v2271 : BitVec 1 := Scalar.cmpi .slt v2267 c0_i32_1325
  let v2272 : BitVec 1 := Scalar.xori v2270 v2271
  let c0_i32_1323 : BitVec 32 := 0#32
  let v2269 : BitVec 1 := Scalar.cmpi .ne v2268 c0_i32_1323
  let v2273 : BitVec 1 := Scalar.andi v2272 v2269
  let v2274 : BitVec 32 := Scalar.addi v2268 v2267
  let v2275 : BitVec 32 := Scalar.select v2273 v2274 v2268
  ![v2275.toNat]
def k0_off458 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1317 : BitVec 32 := 128#32
  let v2261 : BitVec 32 := Scalar.addi v2126 c128_i32_1317
  let c32_i32_1318 : BitVec 32 := 32#32
  let v2262 : BitVec 32 := Scalar.subi v2261 c32_i32_1318
  let c7_i32_1319 : BitVec 32 := 7#32
  let v2263 : BitVec 32 := Scalar.addi v2262 c7_i32_1319
  let c0_i32_1326 : BitVec 32 := 0#32
  ![v2263.toNat, 0]
def k0_off459 (v2265 : BitVec 32) : Fin 2 → Nat :=
  let c0_i32_1327 : BitVec 32 := 0#32
  ![v2265.toNat, 0]

def k0_chk112 (v2265 : BitVec 32) : Prop :=
  (∀ a, (k0_off459 v2265) a + S1x1024.size a ≤ S8192x1024.size a)
theorem k0_off459_inb : ∀ (v2265 : BitVec 32) (k0_hw112 : k0_chk112 v2265), ∀ a, (k0_off459 v2265) a + S1x1024.size a ≤ S8192x1024.size a := fun v2265 k0_hw112 => k0_hw112

def k0_off460 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1328 : BitVec 32 := 128#32
  let v2280 : BitVec 32 := Scalar.addi v2126 c128_i32_1328
  let c32_i32_1329 : BitVec 32 := 32#32
  let v2281 : BitVec 32 := Scalar.subi v2280 c32_i32_1329
  let c8_i32_1330 : BitVec 32 := 8#32
  let v2282 : BitVec 32 := Scalar.addi v2281 c8_i32_1330
  let v2283 : Index := Scalar.indexCast v2282
  ![v2283.toNat]
def k0_off461 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1328 : BitVec 32 := 128#32
  let v2280 : BitVec 32 := Scalar.addi v2126 c128_i32_1328
  let c32_i32_1329 : BitVec 32 := 32#32
  let v2281 : BitVec 32 := Scalar.subi v2280 c32_i32_1329
  let c8_i32_1330 : BitVec 32 := 8#32
  let v2282 : BitVec 32 := Scalar.addi v2281 c8_i32_1330
  let c32_i32_1331 : BitVec 32 := 32#32
  let c0_i32_1332 : BitVec 32 := 0#32
  let v2285 : BitVec 1 := Scalar.cmpi .eq c32_i32_1331 c0_i32_1332
  let c1_i32_1333 : BitVec 32 := 1#32
  let v2286 : BitVec 32 := Scalar.select v2285 c1_i32_1333 c32_i32_1331
  let v2287 : BitVec 32 := Scalar.remsi v2282 v2286
  let c0_i32_1335 : BitVec 32 := 0#32
  let v2289 : BitVec 1 := Scalar.cmpi .slt v2287 c0_i32_1335
  let c0_i32_1336 : BitVec 32 := 0#32
  let v2290 : BitVec 1 := Scalar.cmpi .slt v2286 c0_i32_1336
  let v2291 : BitVec 1 := Scalar.xori v2289 v2290
  let c0_i32_1334 : BitVec 32 := 0#32
  let v2288 : BitVec 1 := Scalar.cmpi .ne v2287 c0_i32_1334
  let v2292 : BitVec 1 := Scalar.andi v2291 v2288
  let v2293 : BitVec 32 := Scalar.addi v2287 v2286
  let v2294 : BitVec 32 := Scalar.select v2292 v2293 v2287
  ![v2294.toNat]
def k0_off462 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1328 : BitVec 32 := 128#32
  let v2280 : BitVec 32 := Scalar.addi v2126 c128_i32_1328
  let c32_i32_1329 : BitVec 32 := 32#32
  let v2281 : BitVec 32 := Scalar.subi v2280 c32_i32_1329
  let c8_i32_1330 : BitVec 32 := 8#32
  let v2282 : BitVec 32 := Scalar.addi v2281 c8_i32_1330
  let c0_i32_1337 : BitVec 32 := 0#32
  ![v2282.toNat, 0]
def k0_off463 (v2284 : BitVec 32) : Fin 2 → Nat :=
  let c0_i32_1338 : BitVec 32 := 0#32
  ![v2284.toNat, 0]

def k0_chk113 (v2284 : BitVec 32) : Prop :=
  (∀ a, (k0_off463 v2284) a + S1x1024.size a ≤ S8192x1024.size a)
theorem k0_off463_inb : ∀ (v2284 : BitVec 32) (k0_hw113 : k0_chk113 v2284), ∀ a, (k0_off463 v2284) a + S1x1024.size a ≤ S8192x1024.size a := fun v2284 k0_hw113 => k0_hw113

def k0_off464 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1339 : BitVec 32 := 128#32
  let v2299 : BitVec 32 := Scalar.addi v2126 c128_i32_1339
  let c32_i32_1340 : BitVec 32 := 32#32
  let v2300 : BitVec 32 := Scalar.subi v2299 c32_i32_1340
  let c9_i32_1341 : BitVec 32 := 9#32
  let v2301 : BitVec 32 := Scalar.addi v2300 c9_i32_1341
  let v2302 : Index := Scalar.indexCast v2301
  ![v2302.toNat]
def k0_off465 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1339 : BitVec 32 := 128#32
  let v2299 : BitVec 32 := Scalar.addi v2126 c128_i32_1339
  let c32_i32_1340 : BitVec 32 := 32#32
  let v2300 : BitVec 32 := Scalar.subi v2299 c32_i32_1340
  let c9_i32_1341 : BitVec 32 := 9#32
  let v2301 : BitVec 32 := Scalar.addi v2300 c9_i32_1341
  let c32_i32_1342 : BitVec 32 := 32#32
  let c0_i32_1343 : BitVec 32 := 0#32
  let v2304 : BitVec 1 := Scalar.cmpi .eq c32_i32_1342 c0_i32_1343
  let c1_i32_1344 : BitVec 32 := 1#32
  let v2305 : BitVec 32 := Scalar.select v2304 c1_i32_1344 c32_i32_1342
  let v2306 : BitVec 32 := Scalar.remsi v2301 v2305
  let c0_i32_1346 : BitVec 32 := 0#32
  let v2308 : BitVec 1 := Scalar.cmpi .slt v2306 c0_i32_1346
  let c0_i32_1347 : BitVec 32 := 0#32
  let v2309 : BitVec 1 := Scalar.cmpi .slt v2305 c0_i32_1347
  let v2310 : BitVec 1 := Scalar.xori v2308 v2309
  let c0_i32_1345 : BitVec 32 := 0#32
  let v2307 : BitVec 1 := Scalar.cmpi .ne v2306 c0_i32_1345
  let v2311 : BitVec 1 := Scalar.andi v2310 v2307
  let v2312 : BitVec 32 := Scalar.addi v2306 v2305
  let v2313 : BitVec 32 := Scalar.select v2311 v2312 v2306
  ![v2313.toNat]
def k0_off466 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1339 : BitVec 32 := 128#32
  let v2299 : BitVec 32 := Scalar.addi v2126 c128_i32_1339
  let c32_i32_1340 : BitVec 32 := 32#32
  let v2300 : BitVec 32 := Scalar.subi v2299 c32_i32_1340
  let c9_i32_1341 : BitVec 32 := 9#32
  let v2301 : BitVec 32 := Scalar.addi v2300 c9_i32_1341
  let c0_i32_1348 : BitVec 32 := 0#32
  ![v2301.toNat, 0]
def k0_off467 (v2303 : BitVec 32) : Fin 2 → Nat :=
  let c0_i32_1349 : BitVec 32 := 0#32
  ![v2303.toNat, 0]

def k0_chk114 (v2303 : BitVec 32) : Prop :=
  (∀ a, (k0_off467 v2303) a + S1x1024.size a ≤ S8192x1024.size a)
theorem k0_off467_inb : ∀ (v2303 : BitVec 32) (k0_hw114 : k0_chk114 v2303), ∀ a, (k0_off467 v2303) a + S1x1024.size a ≤ S8192x1024.size a := fun v2303 k0_hw114 => k0_hw114

def k0_off468 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1350 : BitVec 32 := 128#32
  let v2318 : BitVec 32 := Scalar.addi v2126 c128_i32_1350
  let c32_i32_1351 : BitVec 32 := 32#32
  let v2319 : BitVec 32 := Scalar.subi v2318 c32_i32_1351
  let c10_i32_1352 : BitVec 32 := 10#32
  let v2320 : BitVec 32 := Scalar.addi v2319 c10_i32_1352
  let v2321 : Index := Scalar.indexCast v2320
  ![v2321.toNat]
def k0_off469 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1350 : BitVec 32 := 128#32
  let v2318 : BitVec 32 := Scalar.addi v2126 c128_i32_1350
  let c32_i32_1351 : BitVec 32 := 32#32
  let v2319 : BitVec 32 := Scalar.subi v2318 c32_i32_1351
  let c10_i32_1352 : BitVec 32 := 10#32
  let v2320 : BitVec 32 := Scalar.addi v2319 c10_i32_1352
  let c32_i32_1353 : BitVec 32 := 32#32
  let c0_i32_1354 : BitVec 32 := 0#32
  let v2323 : BitVec 1 := Scalar.cmpi .eq c32_i32_1353 c0_i32_1354
  let c1_i32_1355 : BitVec 32 := 1#32
  let v2324 : BitVec 32 := Scalar.select v2323 c1_i32_1355 c32_i32_1353
  let v2325 : BitVec 32 := Scalar.remsi v2320 v2324
  let c0_i32_1357 : BitVec 32 := 0#32
  let v2327 : BitVec 1 := Scalar.cmpi .slt v2325 c0_i32_1357
  let c0_i32_1358 : BitVec 32 := 0#32
  let v2328 : BitVec 1 := Scalar.cmpi .slt v2324 c0_i32_1358
  let v2329 : BitVec 1 := Scalar.xori v2327 v2328
  let c0_i32_1356 : BitVec 32 := 0#32
  let v2326 : BitVec 1 := Scalar.cmpi .ne v2325 c0_i32_1356
  let v2330 : BitVec 1 := Scalar.andi v2329 v2326
  let v2331 : BitVec 32 := Scalar.addi v2325 v2324
  let v2332 : BitVec 32 := Scalar.select v2330 v2331 v2325
  ![v2332.toNat]
def k0_off470 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1350 : BitVec 32 := 128#32
  let v2318 : BitVec 32 := Scalar.addi v2126 c128_i32_1350
  let c32_i32_1351 : BitVec 32 := 32#32
  let v2319 : BitVec 32 := Scalar.subi v2318 c32_i32_1351
  let c10_i32_1352 : BitVec 32 := 10#32
  let v2320 : BitVec 32 := Scalar.addi v2319 c10_i32_1352
  let c0_i32_1359 : BitVec 32 := 0#32
  ![v2320.toNat, 0]
def k0_off471 (v2322 : BitVec 32) : Fin 2 → Nat :=
  let c0_i32_1360 : BitVec 32 := 0#32
  ![v2322.toNat, 0]

def k0_chk115 (v2322 : BitVec 32) : Prop :=
  (∀ a, (k0_off471 v2322) a + S1x1024.size a ≤ S8192x1024.size a)
theorem k0_off471_inb : ∀ (v2322 : BitVec 32) (k0_hw115 : k0_chk115 v2322), ∀ a, (k0_off471 v2322) a + S1x1024.size a ≤ S8192x1024.size a := fun v2322 k0_hw115 => k0_hw115

def k0_off472 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1361 : BitVec 32 := 128#32
  let v2337 : BitVec 32 := Scalar.addi v2126 c128_i32_1361
  let c32_i32_1362 : BitVec 32 := 32#32
  let v2338 : BitVec 32 := Scalar.subi v2337 c32_i32_1362
  let c11_i32_1363 : BitVec 32 := 11#32
  let v2339 : BitVec 32 := Scalar.addi v2338 c11_i32_1363
  let v2340 : Index := Scalar.indexCast v2339
  ![v2340.toNat]
def k0_off473 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1361 : BitVec 32 := 128#32
  let v2337 : BitVec 32 := Scalar.addi v2126 c128_i32_1361
  let c32_i32_1362 : BitVec 32 := 32#32
  let v2338 : BitVec 32 := Scalar.subi v2337 c32_i32_1362
  let c11_i32_1363 : BitVec 32 := 11#32
  let v2339 : BitVec 32 := Scalar.addi v2338 c11_i32_1363
  let c32_i32_1364 : BitVec 32 := 32#32
  let c0_i32_1365 : BitVec 32 := 0#32
  let v2342 : BitVec 1 := Scalar.cmpi .eq c32_i32_1364 c0_i32_1365
  let c1_i32_1366 : BitVec 32 := 1#32
  let v2343 : BitVec 32 := Scalar.select v2342 c1_i32_1366 c32_i32_1364
  let v2344 : BitVec 32 := Scalar.remsi v2339 v2343
  let c0_i32_1368 : BitVec 32 := 0#32
  let v2346 : BitVec 1 := Scalar.cmpi .slt v2344 c0_i32_1368
  let c0_i32_1369 : BitVec 32 := 0#32
  let v2347 : BitVec 1 := Scalar.cmpi .slt v2343 c0_i32_1369
  let v2348 : BitVec 1 := Scalar.xori v2346 v2347
  let c0_i32_1367 : BitVec 32 := 0#32
  let v2345 : BitVec 1 := Scalar.cmpi .ne v2344 c0_i32_1367
  let v2349 : BitVec 1 := Scalar.andi v2348 v2345
  let v2350 : BitVec 32 := Scalar.addi v2344 v2343
  let v2351 : BitVec 32 := Scalar.select v2349 v2350 v2344
  ![v2351.toNat]
def k0_off474 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1361 : BitVec 32 := 128#32
  let v2337 : BitVec 32 := Scalar.addi v2126 c128_i32_1361
  let c32_i32_1362 : BitVec 32 := 32#32
  let v2338 : BitVec 32 := Scalar.subi v2337 c32_i32_1362
  let c11_i32_1363 : BitVec 32 := 11#32
  let v2339 : BitVec 32 := Scalar.addi v2338 c11_i32_1363
  let c0_i32_1370 : BitVec 32 := 0#32
  ![v2339.toNat, 0]
def k0_off475 (v2341 : BitVec 32) : Fin 2 → Nat :=
  let c0_i32_1371 : BitVec 32 := 0#32
  ![v2341.toNat, 0]

def k0_chk116 (v2341 : BitVec 32) : Prop :=
  (∀ a, (k0_off475 v2341) a + S1x1024.size a ≤ S8192x1024.size a)
theorem k0_off475_inb : ∀ (v2341 : BitVec 32) (k0_hw116 : k0_chk116 v2341), ∀ a, (k0_off475 v2341) a + S1x1024.size a ≤ S8192x1024.size a := fun v2341 k0_hw116 => k0_hw116

def k0_off476 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1372 : BitVec 32 := 128#32
  let v2356 : BitVec 32 := Scalar.addi v2126 c128_i32_1372
  let c32_i32_1373 : BitVec 32 := 32#32
  let v2357 : BitVec 32 := Scalar.subi v2356 c32_i32_1373
  let c12_i32_1374 : BitVec 32 := 12#32
  let v2358 : BitVec 32 := Scalar.addi v2357 c12_i32_1374
  let v2359 : Index := Scalar.indexCast v2358
  ![v2359.toNat]
def k0_off477 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1372 : BitVec 32 := 128#32
  let v2356 : BitVec 32 := Scalar.addi v2126 c128_i32_1372
  let c32_i32_1373 : BitVec 32 := 32#32
  let v2357 : BitVec 32 := Scalar.subi v2356 c32_i32_1373
  let c12_i32_1374 : BitVec 32 := 12#32
  let v2358 : BitVec 32 := Scalar.addi v2357 c12_i32_1374
  let c32_i32_1375 : BitVec 32 := 32#32
  let c0_i32_1376 : BitVec 32 := 0#32
  let v2361 : BitVec 1 := Scalar.cmpi .eq c32_i32_1375 c0_i32_1376
  let c1_i32_1377 : BitVec 32 := 1#32
  let v2362 : BitVec 32 := Scalar.select v2361 c1_i32_1377 c32_i32_1375
  let v2363 : BitVec 32 := Scalar.remsi v2358 v2362
  let c0_i32_1379 : BitVec 32 := 0#32
  let v2365 : BitVec 1 := Scalar.cmpi .slt v2363 c0_i32_1379
  let c0_i32_1380 : BitVec 32 := 0#32
  let v2366 : BitVec 1 := Scalar.cmpi .slt v2362 c0_i32_1380
  let v2367 : BitVec 1 := Scalar.xori v2365 v2366
  let c0_i32_1378 : BitVec 32 := 0#32
  let v2364 : BitVec 1 := Scalar.cmpi .ne v2363 c0_i32_1378
  let v2368 : BitVec 1 := Scalar.andi v2367 v2364
  let v2369 : BitVec 32 := Scalar.addi v2363 v2362
  let v2370 : BitVec 32 := Scalar.select v2368 v2369 v2363
  ![v2370.toNat]
def k0_off478 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1372 : BitVec 32 := 128#32
  let v2356 : BitVec 32 := Scalar.addi v2126 c128_i32_1372
  let c32_i32_1373 : BitVec 32 := 32#32
  let v2357 : BitVec 32 := Scalar.subi v2356 c32_i32_1373
  let c12_i32_1374 : BitVec 32 := 12#32
  let v2358 : BitVec 32 := Scalar.addi v2357 c12_i32_1374
  let c0_i32_1381 : BitVec 32 := 0#32
  ![v2358.toNat, 0]
def k0_off479 (v2360 : BitVec 32) : Fin 2 → Nat :=
  let c0_i32_1382 : BitVec 32 := 0#32
  ![v2360.toNat, 0]

def k0_chk117 (v2360 : BitVec 32) : Prop :=
  (∀ a, (k0_off479 v2360) a + S1x1024.size a ≤ S8192x1024.size a)
theorem k0_off479_inb : ∀ (v2360 : BitVec 32) (k0_hw117 : k0_chk117 v2360), ∀ a, (k0_off479 v2360) a + S1x1024.size a ≤ S8192x1024.size a := fun v2360 k0_hw117 => k0_hw117

def k0_off480 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1383 : BitVec 32 := 128#32
  let v2375 : BitVec 32 := Scalar.addi v2126 c128_i32_1383
  let c32_i32_1384 : BitVec 32 := 32#32
  let v2376 : BitVec 32 := Scalar.subi v2375 c32_i32_1384
  let c13_i32_1385 : BitVec 32 := 13#32
  let v2377 : BitVec 32 := Scalar.addi v2376 c13_i32_1385
  let v2378 : Index := Scalar.indexCast v2377
  ![v2378.toNat]
def k0_off481 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1383 : BitVec 32 := 128#32
  let v2375 : BitVec 32 := Scalar.addi v2126 c128_i32_1383
  let c32_i32_1384 : BitVec 32 := 32#32
  let v2376 : BitVec 32 := Scalar.subi v2375 c32_i32_1384
  let c13_i32_1385 : BitVec 32 := 13#32
  let v2377 : BitVec 32 := Scalar.addi v2376 c13_i32_1385
  let c32_i32_1386 : BitVec 32 := 32#32
  let c0_i32_1387 : BitVec 32 := 0#32
  let v2380 : BitVec 1 := Scalar.cmpi .eq c32_i32_1386 c0_i32_1387
  let c1_i32_1388 : BitVec 32 := 1#32
  let v2381 : BitVec 32 := Scalar.select v2380 c1_i32_1388 c32_i32_1386
  let v2382 : BitVec 32 := Scalar.remsi v2377 v2381
  let c0_i32_1390 : BitVec 32 := 0#32
  let v2384 : BitVec 1 := Scalar.cmpi .slt v2382 c0_i32_1390
  let c0_i32_1391 : BitVec 32 := 0#32
  let v2385 : BitVec 1 := Scalar.cmpi .slt v2381 c0_i32_1391
  let v2386 : BitVec 1 := Scalar.xori v2384 v2385
  let c0_i32_1389 : BitVec 32 := 0#32
  let v2383 : BitVec 1 := Scalar.cmpi .ne v2382 c0_i32_1389
  let v2387 : BitVec 1 := Scalar.andi v2386 v2383
  let v2388 : BitVec 32 := Scalar.addi v2382 v2381
  let v2389 : BitVec 32 := Scalar.select v2387 v2388 v2382
  ![v2389.toNat]
def k0_off482 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1383 : BitVec 32 := 128#32
  let v2375 : BitVec 32 := Scalar.addi v2126 c128_i32_1383
  let c32_i32_1384 : BitVec 32 := 32#32
  let v2376 : BitVec 32 := Scalar.subi v2375 c32_i32_1384
  let c13_i32_1385 : BitVec 32 := 13#32
  let v2377 : BitVec 32 := Scalar.addi v2376 c13_i32_1385
  let c0_i32_1392 : BitVec 32 := 0#32
  ![v2377.toNat, 0]
def k0_off483 (v2379 : BitVec 32) : Fin 2 → Nat :=
  let c0_i32_1393 : BitVec 32 := 0#32
  ![v2379.toNat, 0]

def k0_chk118 (v2379 : BitVec 32) : Prop :=
  (∀ a, (k0_off483 v2379) a + S1x1024.size a ≤ S8192x1024.size a)
theorem k0_off483_inb : ∀ (v2379 : BitVec 32) (k0_hw118 : k0_chk118 v2379), ∀ a, (k0_off483 v2379) a + S1x1024.size a ≤ S8192x1024.size a := fun v2379 k0_hw118 => k0_hw118

def k0_off484 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1394 : BitVec 32 := 128#32
  let v2394 : BitVec 32 := Scalar.addi v2126 c128_i32_1394
  let c32_i32_1395 : BitVec 32 := 32#32
  let v2395 : BitVec 32 := Scalar.subi v2394 c32_i32_1395
  let c14_i32_1396 : BitVec 32 := 14#32
  let v2396 : BitVec 32 := Scalar.addi v2395 c14_i32_1396
  let v2397 : Index := Scalar.indexCast v2396
  ![v2397.toNat]
def k0_off485 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1394 : BitVec 32 := 128#32
  let v2394 : BitVec 32 := Scalar.addi v2126 c128_i32_1394
  let c32_i32_1395 : BitVec 32 := 32#32
  let v2395 : BitVec 32 := Scalar.subi v2394 c32_i32_1395
  let c14_i32_1396 : BitVec 32 := 14#32
  let v2396 : BitVec 32 := Scalar.addi v2395 c14_i32_1396
  let c32_i32_1397 : BitVec 32 := 32#32
  let c0_i32_1398 : BitVec 32 := 0#32
  let v2399 : BitVec 1 := Scalar.cmpi .eq c32_i32_1397 c0_i32_1398
  let c1_i32_1399 : BitVec 32 := 1#32
  let v2400 : BitVec 32 := Scalar.select v2399 c1_i32_1399 c32_i32_1397
  let v2401 : BitVec 32 := Scalar.remsi v2396 v2400
  let c0_i32_1401 : BitVec 32 := 0#32
  let v2403 : BitVec 1 := Scalar.cmpi .slt v2401 c0_i32_1401
  let c0_i32_1402 : BitVec 32 := 0#32
  let v2404 : BitVec 1 := Scalar.cmpi .slt v2400 c0_i32_1402
  let v2405 : BitVec 1 := Scalar.xori v2403 v2404
  let c0_i32_1400 : BitVec 32 := 0#32
  let v2402 : BitVec 1 := Scalar.cmpi .ne v2401 c0_i32_1400
  let v2406 : BitVec 1 := Scalar.andi v2405 v2402
  let v2407 : BitVec 32 := Scalar.addi v2401 v2400
  let v2408 : BitVec 32 := Scalar.select v2406 v2407 v2401
  ![v2408.toNat]
def k0_off486 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1394 : BitVec 32 := 128#32
  let v2394 : BitVec 32 := Scalar.addi v2126 c128_i32_1394
  let c32_i32_1395 : BitVec 32 := 32#32
  let v2395 : BitVec 32 := Scalar.subi v2394 c32_i32_1395
  let c14_i32_1396 : BitVec 32 := 14#32
  let v2396 : BitVec 32 := Scalar.addi v2395 c14_i32_1396
  let c0_i32_1403 : BitVec 32 := 0#32
  ![v2396.toNat, 0]
def k0_off487 (v2398 : BitVec 32) : Fin 2 → Nat :=
  let c0_i32_1404 : BitVec 32 := 0#32
  ![v2398.toNat, 0]

def k0_chk119 (v2398 : BitVec 32) : Prop :=
  (∀ a, (k0_off487 v2398) a + S1x1024.size a ≤ S8192x1024.size a)
theorem k0_off487_inb : ∀ (v2398 : BitVec 32) (k0_hw119 : k0_chk119 v2398), ∀ a, (k0_off487 v2398) a + S1x1024.size a ≤ S8192x1024.size a := fun v2398 k0_hw119 => k0_hw119

def k0_off488 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1405 : BitVec 32 := 128#32
  let v2413 : BitVec 32 := Scalar.addi v2126 c128_i32_1405
  let c32_i32_1406 : BitVec 32 := 32#32
  let v2414 : BitVec 32 := Scalar.subi v2413 c32_i32_1406
  let c15_i32_1407 : BitVec 32 := 15#32
  let v2415 : BitVec 32 := Scalar.addi v2414 c15_i32_1407
  let v2416 : Index := Scalar.indexCast v2415
  ![v2416.toNat]
def k0_off489 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1405 : BitVec 32 := 128#32
  let v2413 : BitVec 32 := Scalar.addi v2126 c128_i32_1405
  let c32_i32_1406 : BitVec 32 := 32#32
  let v2414 : BitVec 32 := Scalar.subi v2413 c32_i32_1406
  let c15_i32_1407 : BitVec 32 := 15#32
  let v2415 : BitVec 32 := Scalar.addi v2414 c15_i32_1407
  let c32_i32_1408 : BitVec 32 := 32#32
  let c0_i32_1409 : BitVec 32 := 0#32
  let v2418 : BitVec 1 := Scalar.cmpi .eq c32_i32_1408 c0_i32_1409
  let c1_i32_1410 : BitVec 32 := 1#32
  let v2419 : BitVec 32 := Scalar.select v2418 c1_i32_1410 c32_i32_1408
  let v2420 : BitVec 32 := Scalar.remsi v2415 v2419
  let c0_i32_1412 : BitVec 32 := 0#32
  let v2422 : BitVec 1 := Scalar.cmpi .slt v2420 c0_i32_1412
  let c0_i32_1413 : BitVec 32 := 0#32
  let v2423 : BitVec 1 := Scalar.cmpi .slt v2419 c0_i32_1413
  let v2424 : BitVec 1 := Scalar.xori v2422 v2423
  let c0_i32_1411 : BitVec 32 := 0#32
  let v2421 : BitVec 1 := Scalar.cmpi .ne v2420 c0_i32_1411
  let v2425 : BitVec 1 := Scalar.andi v2424 v2421
  let v2426 : BitVec 32 := Scalar.addi v2420 v2419
  let v2427 : BitVec 32 := Scalar.select v2425 v2426 v2420
  ![v2427.toNat]
def k0_off490 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1405 : BitVec 32 := 128#32
  let v2413 : BitVec 32 := Scalar.addi v2126 c128_i32_1405
  let c32_i32_1406 : BitVec 32 := 32#32
  let v2414 : BitVec 32 := Scalar.subi v2413 c32_i32_1406
  let c15_i32_1407 : BitVec 32 := 15#32
  let v2415 : BitVec 32 := Scalar.addi v2414 c15_i32_1407
  let c0_i32_1414 : BitVec 32 := 0#32
  ![v2415.toNat, 0]
def k0_off491 (v2417 : BitVec 32) : Fin 2 → Nat :=
  let c0_i32_1415 : BitVec 32 := 0#32
  ![v2417.toNat, 0]

def k0_chk120 (v2417 : BitVec 32) : Prop :=
  (∀ a, (k0_off491 v2417) a + S1x1024.size a ≤ S8192x1024.size a)
theorem k0_off491_inb : ∀ (v2417 : BitVec 32) (k0_hw120 : k0_chk120 v2417), ∀ a, (k0_off491 v2417) a + S1x1024.size a ≤ S8192x1024.size a := fun v2417 k0_hw120 => k0_hw120

def k0_off492 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1416 : BitVec 32 := 128#32
  let v2432 : BitVec 32 := Scalar.addi v2126 c128_i32_1416
  let c32_i32_1417 : BitVec 32 := 32#32
  let v2433 : BitVec 32 := Scalar.subi v2432 c32_i32_1417
  let c16_i32_1418 : BitVec 32 := 16#32
  let v2434 : BitVec 32 := Scalar.addi v2433 c16_i32_1418
  let v2435 : Index := Scalar.indexCast v2434
  ![v2435.toNat]
def k0_off493 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1416 : BitVec 32 := 128#32
  let v2432 : BitVec 32 := Scalar.addi v2126 c128_i32_1416
  let c32_i32_1417 : BitVec 32 := 32#32
  let v2433 : BitVec 32 := Scalar.subi v2432 c32_i32_1417
  let c16_i32_1418 : BitVec 32 := 16#32
  let v2434 : BitVec 32 := Scalar.addi v2433 c16_i32_1418
  let c32_i32_1419 : BitVec 32 := 32#32
  let c0_i32_1420 : BitVec 32 := 0#32
  let v2437 : BitVec 1 := Scalar.cmpi .eq c32_i32_1419 c0_i32_1420
  let c1_i32_1421 : BitVec 32 := 1#32
  let v2438 : BitVec 32 := Scalar.select v2437 c1_i32_1421 c32_i32_1419
  let v2439 : BitVec 32 := Scalar.remsi v2434 v2438
  let c0_i32_1423 : BitVec 32 := 0#32
  let v2441 : BitVec 1 := Scalar.cmpi .slt v2439 c0_i32_1423
  let c0_i32_1424 : BitVec 32 := 0#32
  let v2442 : BitVec 1 := Scalar.cmpi .slt v2438 c0_i32_1424
  let v2443 : BitVec 1 := Scalar.xori v2441 v2442
  let c0_i32_1422 : BitVec 32 := 0#32
  let v2440 : BitVec 1 := Scalar.cmpi .ne v2439 c0_i32_1422
  let v2444 : BitVec 1 := Scalar.andi v2443 v2440
  let v2445 : BitVec 32 := Scalar.addi v2439 v2438
  let v2446 : BitVec 32 := Scalar.select v2444 v2445 v2439
  ![v2446.toNat]
def k0_off494 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1416 : BitVec 32 := 128#32
  let v2432 : BitVec 32 := Scalar.addi v2126 c128_i32_1416
  let c32_i32_1417 : BitVec 32 := 32#32
  let v2433 : BitVec 32 := Scalar.subi v2432 c32_i32_1417
  let c16_i32_1418 : BitVec 32 := 16#32
  let v2434 : BitVec 32 := Scalar.addi v2433 c16_i32_1418
  let c0_i32_1425 : BitVec 32 := 0#32
  ![v2434.toNat, 0]
def k0_off495 (v2436 : BitVec 32) : Fin 2 → Nat :=
  let c0_i32_1426 : BitVec 32 := 0#32
  ![v2436.toNat, 0]

def k0_chk121 (v2436 : BitVec 32) : Prop :=
  (∀ a, (k0_off495 v2436) a + S1x1024.size a ≤ S8192x1024.size a)
theorem k0_off495_inb : ∀ (v2436 : BitVec 32) (k0_hw121 : k0_chk121 v2436), ∀ a, (k0_off495 v2436) a + S1x1024.size a ≤ S8192x1024.size a := fun v2436 k0_hw121 => k0_hw121

def k0_off496 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1427 : BitVec 32 := 128#32
  let v2451 : BitVec 32 := Scalar.addi v2126 c128_i32_1427
  let c32_i32_1428 : BitVec 32 := 32#32
  let v2452 : BitVec 32 := Scalar.subi v2451 c32_i32_1428
  let c17_i32_1429 : BitVec 32 := 17#32
  let v2453 : BitVec 32 := Scalar.addi v2452 c17_i32_1429
  let v2454 : Index := Scalar.indexCast v2453
  ![v2454.toNat]
def k0_off497 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1427 : BitVec 32 := 128#32
  let v2451 : BitVec 32 := Scalar.addi v2126 c128_i32_1427
  let c32_i32_1428 : BitVec 32 := 32#32
  let v2452 : BitVec 32 := Scalar.subi v2451 c32_i32_1428
  let c17_i32_1429 : BitVec 32 := 17#32
  let v2453 : BitVec 32 := Scalar.addi v2452 c17_i32_1429
  let c32_i32_1430 : BitVec 32 := 32#32
  let c0_i32_1431 : BitVec 32 := 0#32
  let v2456 : BitVec 1 := Scalar.cmpi .eq c32_i32_1430 c0_i32_1431
  let c1_i32_1432 : BitVec 32 := 1#32
  let v2457 : BitVec 32 := Scalar.select v2456 c1_i32_1432 c32_i32_1430
  let v2458 : BitVec 32 := Scalar.remsi v2453 v2457
  let c0_i32_1434 : BitVec 32 := 0#32
  let v2460 : BitVec 1 := Scalar.cmpi .slt v2458 c0_i32_1434
  let c0_i32_1435 : BitVec 32 := 0#32
  let v2461 : BitVec 1 := Scalar.cmpi .slt v2457 c0_i32_1435
  let v2462 : BitVec 1 := Scalar.xori v2460 v2461
  let c0_i32_1433 : BitVec 32 := 0#32
  let v2459 : BitVec 1 := Scalar.cmpi .ne v2458 c0_i32_1433
  let v2463 : BitVec 1 := Scalar.andi v2462 v2459
  let v2464 : BitVec 32 := Scalar.addi v2458 v2457
  let v2465 : BitVec 32 := Scalar.select v2463 v2464 v2458
  ![v2465.toNat]
def k0_off498 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1427 : BitVec 32 := 128#32
  let v2451 : BitVec 32 := Scalar.addi v2126 c128_i32_1427
  let c32_i32_1428 : BitVec 32 := 32#32
  let v2452 : BitVec 32 := Scalar.subi v2451 c32_i32_1428
  let c17_i32_1429 : BitVec 32 := 17#32
  let v2453 : BitVec 32 := Scalar.addi v2452 c17_i32_1429
  let c0_i32_1436 : BitVec 32 := 0#32
  ![v2453.toNat, 0]
def k0_off499 (v2455 : BitVec 32) : Fin 2 → Nat :=
  let c0_i32_1437 : BitVec 32 := 0#32
  ![v2455.toNat, 0]

def k0_chk122 (v2455 : BitVec 32) : Prop :=
  (∀ a, (k0_off499 v2455) a + S1x1024.size a ≤ S8192x1024.size a)
theorem k0_off499_inb : ∀ (v2455 : BitVec 32) (k0_hw122 : k0_chk122 v2455), ∀ a, (k0_off499 v2455) a + S1x1024.size a ≤ S8192x1024.size a := fun v2455 k0_hw122 => k0_hw122

def k0_off500 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1438 : BitVec 32 := 128#32
  let v2470 : BitVec 32 := Scalar.addi v2126 c128_i32_1438
  let c32_i32_1439 : BitVec 32 := 32#32
  let v2471 : BitVec 32 := Scalar.subi v2470 c32_i32_1439
  let c18_i32_1440 : BitVec 32 := 18#32
  let v2472 : BitVec 32 := Scalar.addi v2471 c18_i32_1440
  let v2473 : Index := Scalar.indexCast v2472
  ![v2473.toNat]
def k0_off501 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1438 : BitVec 32 := 128#32
  let v2470 : BitVec 32 := Scalar.addi v2126 c128_i32_1438
  let c32_i32_1439 : BitVec 32 := 32#32
  let v2471 : BitVec 32 := Scalar.subi v2470 c32_i32_1439
  let c18_i32_1440 : BitVec 32 := 18#32
  let v2472 : BitVec 32 := Scalar.addi v2471 c18_i32_1440
  let c32_i32_1441 : BitVec 32 := 32#32
  let c0_i32_1442 : BitVec 32 := 0#32
  let v2475 : BitVec 1 := Scalar.cmpi .eq c32_i32_1441 c0_i32_1442
  let c1_i32_1443 : BitVec 32 := 1#32
  let v2476 : BitVec 32 := Scalar.select v2475 c1_i32_1443 c32_i32_1441
  let v2477 : BitVec 32 := Scalar.remsi v2472 v2476
  let c0_i32_1445 : BitVec 32 := 0#32
  let v2479 : BitVec 1 := Scalar.cmpi .slt v2477 c0_i32_1445
  let c0_i32_1446 : BitVec 32 := 0#32
  let v2480 : BitVec 1 := Scalar.cmpi .slt v2476 c0_i32_1446
  let v2481 : BitVec 1 := Scalar.xori v2479 v2480
  let c0_i32_1444 : BitVec 32 := 0#32
  let v2478 : BitVec 1 := Scalar.cmpi .ne v2477 c0_i32_1444
  let v2482 : BitVec 1 := Scalar.andi v2481 v2478
  let v2483 : BitVec 32 := Scalar.addi v2477 v2476
  let v2484 : BitVec 32 := Scalar.select v2482 v2483 v2477
  ![v2484.toNat]
def k0_off502 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1438 : BitVec 32 := 128#32
  let v2470 : BitVec 32 := Scalar.addi v2126 c128_i32_1438
  let c32_i32_1439 : BitVec 32 := 32#32
  let v2471 : BitVec 32 := Scalar.subi v2470 c32_i32_1439
  let c18_i32_1440 : BitVec 32 := 18#32
  let v2472 : BitVec 32 := Scalar.addi v2471 c18_i32_1440
  let c0_i32_1447 : BitVec 32 := 0#32
  ![v2472.toNat, 0]
def k0_off503 (v2474 : BitVec 32) : Fin 2 → Nat :=
  let c0_i32_1448 : BitVec 32 := 0#32
  ![v2474.toNat, 0]

def k0_chk123 (v2474 : BitVec 32) : Prop :=
  (∀ a, (k0_off503 v2474) a + S1x1024.size a ≤ S8192x1024.size a)
theorem k0_off503_inb : ∀ (v2474 : BitVec 32) (k0_hw123 : k0_chk123 v2474), ∀ a, (k0_off503 v2474) a + S1x1024.size a ≤ S8192x1024.size a := fun v2474 k0_hw123 => k0_hw123

def k0_off504 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1449 : BitVec 32 := 128#32
  let v2489 : BitVec 32 := Scalar.addi v2126 c128_i32_1449
  let c32_i32_1450 : BitVec 32 := 32#32
  let v2490 : BitVec 32 := Scalar.subi v2489 c32_i32_1450
  let c19_i32_1451 : BitVec 32 := 19#32
  let v2491 : BitVec 32 := Scalar.addi v2490 c19_i32_1451
  let v2492 : Index := Scalar.indexCast v2491
  ![v2492.toNat]
def k0_off505 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1449 : BitVec 32 := 128#32
  let v2489 : BitVec 32 := Scalar.addi v2126 c128_i32_1449
  let c32_i32_1450 : BitVec 32 := 32#32
  let v2490 : BitVec 32 := Scalar.subi v2489 c32_i32_1450
  let c19_i32_1451 : BitVec 32 := 19#32
  let v2491 : BitVec 32 := Scalar.addi v2490 c19_i32_1451
  let c32_i32_1452 : BitVec 32 := 32#32
  let c0_i32_1453 : BitVec 32 := 0#32
  let v2494 : BitVec 1 := Scalar.cmpi .eq c32_i32_1452 c0_i32_1453
  let c1_i32_1454 : BitVec 32 := 1#32
  let v2495 : BitVec 32 := Scalar.select v2494 c1_i32_1454 c32_i32_1452
  let v2496 : BitVec 32 := Scalar.remsi v2491 v2495
  let c0_i32_1456 : BitVec 32 := 0#32
  let v2498 : BitVec 1 := Scalar.cmpi .slt v2496 c0_i32_1456
  let c0_i32_1457 : BitVec 32 := 0#32
  let v2499 : BitVec 1 := Scalar.cmpi .slt v2495 c0_i32_1457
  let v2500 : BitVec 1 := Scalar.xori v2498 v2499
  let c0_i32_1455 : BitVec 32 := 0#32
  let v2497 : BitVec 1 := Scalar.cmpi .ne v2496 c0_i32_1455
  let v2501 : BitVec 1 := Scalar.andi v2500 v2497
  let v2502 : BitVec 32 := Scalar.addi v2496 v2495
  let v2503 : BitVec 32 := Scalar.select v2501 v2502 v2496
  ![v2503.toNat]
def k0_off506 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1449 : BitVec 32 := 128#32
  let v2489 : BitVec 32 := Scalar.addi v2126 c128_i32_1449
  let c32_i32_1450 : BitVec 32 := 32#32
  let v2490 : BitVec 32 := Scalar.subi v2489 c32_i32_1450
  let c19_i32_1451 : BitVec 32 := 19#32
  let v2491 : BitVec 32 := Scalar.addi v2490 c19_i32_1451
  let c0_i32_1458 : BitVec 32 := 0#32
  ![v2491.toNat, 0]
def k0_off507 (v2493 : BitVec 32) : Fin 2 → Nat :=
  let c0_i32_1459 : BitVec 32 := 0#32
  ![v2493.toNat, 0]

def k0_chk124 (v2493 : BitVec 32) : Prop :=
  (∀ a, (k0_off507 v2493) a + S1x1024.size a ≤ S8192x1024.size a)
theorem k0_off507_inb : ∀ (v2493 : BitVec 32) (k0_hw124 : k0_chk124 v2493), ∀ a, (k0_off507 v2493) a + S1x1024.size a ≤ S8192x1024.size a := fun v2493 k0_hw124 => k0_hw124

def k0_off508 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1460 : BitVec 32 := 128#32
  let v2508 : BitVec 32 := Scalar.addi v2126 c128_i32_1460
  let c32_i32_1461 : BitVec 32 := 32#32
  let v2509 : BitVec 32 := Scalar.subi v2508 c32_i32_1461
  let c20_i32_1462 : BitVec 32 := 20#32
  let v2510 : BitVec 32 := Scalar.addi v2509 c20_i32_1462
  let v2511 : Index := Scalar.indexCast v2510
  ![v2511.toNat]
def k0_off509 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1460 : BitVec 32 := 128#32
  let v2508 : BitVec 32 := Scalar.addi v2126 c128_i32_1460
  let c32_i32_1461 : BitVec 32 := 32#32
  let v2509 : BitVec 32 := Scalar.subi v2508 c32_i32_1461
  let c20_i32_1462 : BitVec 32 := 20#32
  let v2510 : BitVec 32 := Scalar.addi v2509 c20_i32_1462
  let c32_i32_1463 : BitVec 32 := 32#32
  let c0_i32_1464 : BitVec 32 := 0#32
  let v2513 : BitVec 1 := Scalar.cmpi .eq c32_i32_1463 c0_i32_1464
  let c1_i32_1465 : BitVec 32 := 1#32
  let v2514 : BitVec 32 := Scalar.select v2513 c1_i32_1465 c32_i32_1463
  let v2515 : BitVec 32 := Scalar.remsi v2510 v2514
  let c0_i32_1467 : BitVec 32 := 0#32
  let v2517 : BitVec 1 := Scalar.cmpi .slt v2515 c0_i32_1467
  let c0_i32_1468 : BitVec 32 := 0#32
  let v2518 : BitVec 1 := Scalar.cmpi .slt v2514 c0_i32_1468
  let v2519 : BitVec 1 := Scalar.xori v2517 v2518
  let c0_i32_1466 : BitVec 32 := 0#32
  let v2516 : BitVec 1 := Scalar.cmpi .ne v2515 c0_i32_1466
  let v2520 : BitVec 1 := Scalar.andi v2519 v2516
  let v2521 : BitVec 32 := Scalar.addi v2515 v2514
  let v2522 : BitVec 32 := Scalar.select v2520 v2521 v2515
  ![v2522.toNat]
def k0_off510 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1460 : BitVec 32 := 128#32
  let v2508 : BitVec 32 := Scalar.addi v2126 c128_i32_1460
  let c32_i32_1461 : BitVec 32 := 32#32
  let v2509 : BitVec 32 := Scalar.subi v2508 c32_i32_1461
  let c20_i32_1462 : BitVec 32 := 20#32
  let v2510 : BitVec 32 := Scalar.addi v2509 c20_i32_1462
  let c0_i32_1469 : BitVec 32 := 0#32
  ![v2510.toNat, 0]
def k0_off511 (v2512 : BitVec 32) : Fin 2 → Nat :=
  let c0_i32_1470 : BitVec 32 := 0#32
  ![v2512.toNat, 0]

def k0_chk125 (v2512 : BitVec 32) : Prop :=
  (∀ a, (k0_off511 v2512) a + S1x1024.size a ≤ S8192x1024.size a)
theorem k0_off511_inb : ∀ (v2512 : BitVec 32) (k0_hw125 : k0_chk125 v2512), ∀ a, (k0_off511 v2512) a + S1x1024.size a ≤ S8192x1024.size a := fun v2512 k0_hw125 => k0_hw125

def k0_off512 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1471 : BitVec 32 := 128#32
  let v2527 : BitVec 32 := Scalar.addi v2126 c128_i32_1471
  let c32_i32_1472 : BitVec 32 := 32#32
  let v2528 : BitVec 32 := Scalar.subi v2527 c32_i32_1472
  let c21_i32_1473 : BitVec 32 := 21#32
  let v2529 : BitVec 32 := Scalar.addi v2528 c21_i32_1473
  let v2530 : Index := Scalar.indexCast v2529
  ![v2530.toNat]
def k0_off513 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1471 : BitVec 32 := 128#32
  let v2527 : BitVec 32 := Scalar.addi v2126 c128_i32_1471
  let c32_i32_1472 : BitVec 32 := 32#32
  let v2528 : BitVec 32 := Scalar.subi v2527 c32_i32_1472
  let c21_i32_1473 : BitVec 32 := 21#32
  let v2529 : BitVec 32 := Scalar.addi v2528 c21_i32_1473
  let c32_i32_1474 : BitVec 32 := 32#32
  let c0_i32_1475 : BitVec 32 := 0#32
  let v2532 : BitVec 1 := Scalar.cmpi .eq c32_i32_1474 c0_i32_1475
  let c1_i32_1476 : BitVec 32 := 1#32
  let v2533 : BitVec 32 := Scalar.select v2532 c1_i32_1476 c32_i32_1474
  let v2534 : BitVec 32 := Scalar.remsi v2529 v2533
  let c0_i32_1478 : BitVec 32 := 0#32
  let v2536 : BitVec 1 := Scalar.cmpi .slt v2534 c0_i32_1478
  let c0_i32_1479 : BitVec 32 := 0#32
  let v2537 : BitVec 1 := Scalar.cmpi .slt v2533 c0_i32_1479
  let v2538 : BitVec 1 := Scalar.xori v2536 v2537
  let c0_i32_1477 : BitVec 32 := 0#32
  let v2535 : BitVec 1 := Scalar.cmpi .ne v2534 c0_i32_1477
  let v2539 : BitVec 1 := Scalar.andi v2538 v2535
  let v2540 : BitVec 32 := Scalar.addi v2534 v2533
  let v2541 : BitVec 32 := Scalar.select v2539 v2540 v2534
  ![v2541.toNat]
def k0_off514 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1471 : BitVec 32 := 128#32
  let v2527 : BitVec 32 := Scalar.addi v2126 c128_i32_1471
  let c32_i32_1472 : BitVec 32 := 32#32
  let v2528 : BitVec 32 := Scalar.subi v2527 c32_i32_1472
  let c21_i32_1473 : BitVec 32 := 21#32
  let v2529 : BitVec 32 := Scalar.addi v2528 c21_i32_1473
  let c0_i32_1480 : BitVec 32 := 0#32
  ![v2529.toNat, 0]
def k0_off515 (v2531 : BitVec 32) : Fin 2 → Nat :=
  let c0_i32_1481 : BitVec 32 := 0#32
  ![v2531.toNat, 0]

def k0_chk126 (v2531 : BitVec 32) : Prop :=
  (∀ a, (k0_off515 v2531) a + S1x1024.size a ≤ S8192x1024.size a)
theorem k0_off515_inb : ∀ (v2531 : BitVec 32) (k0_hw126 : k0_chk126 v2531), ∀ a, (k0_off515 v2531) a + S1x1024.size a ≤ S8192x1024.size a := fun v2531 k0_hw126 => k0_hw126

def k0_off516 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1482 : BitVec 32 := 128#32
  let v2546 : BitVec 32 := Scalar.addi v2126 c128_i32_1482
  let c32_i32_1483 : BitVec 32 := 32#32
  let v2547 : BitVec 32 := Scalar.subi v2546 c32_i32_1483
  let c22_i32_1484 : BitVec 32 := 22#32
  let v2548 : BitVec 32 := Scalar.addi v2547 c22_i32_1484
  let v2549 : Index := Scalar.indexCast v2548
  ![v2549.toNat]
def k0_off517 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1482 : BitVec 32 := 128#32
  let v2546 : BitVec 32 := Scalar.addi v2126 c128_i32_1482
  let c32_i32_1483 : BitVec 32 := 32#32
  let v2547 : BitVec 32 := Scalar.subi v2546 c32_i32_1483
  let c22_i32_1484 : BitVec 32 := 22#32
  let v2548 : BitVec 32 := Scalar.addi v2547 c22_i32_1484
  let c32_i32_1485 : BitVec 32 := 32#32
  let c0_i32_1486 : BitVec 32 := 0#32
  let v2551 : BitVec 1 := Scalar.cmpi .eq c32_i32_1485 c0_i32_1486
  let c1_i32_1487 : BitVec 32 := 1#32
  let v2552 : BitVec 32 := Scalar.select v2551 c1_i32_1487 c32_i32_1485
  let v2553 : BitVec 32 := Scalar.remsi v2548 v2552
  let c0_i32_1489 : BitVec 32 := 0#32
  let v2555 : BitVec 1 := Scalar.cmpi .slt v2553 c0_i32_1489
  let c0_i32_1490 : BitVec 32 := 0#32
  let v2556 : BitVec 1 := Scalar.cmpi .slt v2552 c0_i32_1490
  let v2557 : BitVec 1 := Scalar.xori v2555 v2556
  let c0_i32_1488 : BitVec 32 := 0#32
  let v2554 : BitVec 1 := Scalar.cmpi .ne v2553 c0_i32_1488
  let v2558 : BitVec 1 := Scalar.andi v2557 v2554
  let v2559 : BitVec 32 := Scalar.addi v2553 v2552
  let v2560 : BitVec 32 := Scalar.select v2558 v2559 v2553
  ![v2560.toNat]
def k0_off518 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1482 : BitVec 32 := 128#32
  let v2546 : BitVec 32 := Scalar.addi v2126 c128_i32_1482
  let c32_i32_1483 : BitVec 32 := 32#32
  let v2547 : BitVec 32 := Scalar.subi v2546 c32_i32_1483
  let c22_i32_1484 : BitVec 32 := 22#32
  let v2548 : BitVec 32 := Scalar.addi v2547 c22_i32_1484
  let c0_i32_1491 : BitVec 32 := 0#32
  ![v2548.toNat, 0]
def k0_off519 (v2550 : BitVec 32) : Fin 2 → Nat :=
  let c0_i32_1492 : BitVec 32 := 0#32
  ![v2550.toNat, 0]

def k0_chk127 (v2550 : BitVec 32) : Prop :=
  (∀ a, (k0_off519 v2550) a + S1x1024.size a ≤ S8192x1024.size a)
theorem k0_off519_inb : ∀ (v2550 : BitVec 32) (k0_hw127 : k0_chk127 v2550), ∀ a, (k0_off519 v2550) a + S1x1024.size a ≤ S8192x1024.size a := fun v2550 k0_hw127 => k0_hw127

def k0_off520 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1493 : BitVec 32 := 128#32
  let v2565 : BitVec 32 := Scalar.addi v2126 c128_i32_1493
  let c32_i32_1494 : BitVec 32 := 32#32
  let v2566 : BitVec 32 := Scalar.subi v2565 c32_i32_1494
  let c23_i32_1495 : BitVec 32 := 23#32
  let v2567 : BitVec 32 := Scalar.addi v2566 c23_i32_1495
  let v2568 : Index := Scalar.indexCast v2567
  ![v2568.toNat]
def k0_off521 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1493 : BitVec 32 := 128#32
  let v2565 : BitVec 32 := Scalar.addi v2126 c128_i32_1493
  let c32_i32_1494 : BitVec 32 := 32#32
  let v2566 : BitVec 32 := Scalar.subi v2565 c32_i32_1494
  let c23_i32_1495 : BitVec 32 := 23#32
  let v2567 : BitVec 32 := Scalar.addi v2566 c23_i32_1495
  let c32_i32_1496 : BitVec 32 := 32#32
  let c0_i32_1497 : BitVec 32 := 0#32
  let v2570 : BitVec 1 := Scalar.cmpi .eq c32_i32_1496 c0_i32_1497
  let c1_i32_1498 : BitVec 32 := 1#32
  let v2571 : BitVec 32 := Scalar.select v2570 c1_i32_1498 c32_i32_1496
  let v2572 : BitVec 32 := Scalar.remsi v2567 v2571
  let c0_i32_1500 : BitVec 32 := 0#32
  let v2574 : BitVec 1 := Scalar.cmpi .slt v2572 c0_i32_1500
  let c0_i32_1501 : BitVec 32 := 0#32
  let v2575 : BitVec 1 := Scalar.cmpi .slt v2571 c0_i32_1501
  let v2576 : BitVec 1 := Scalar.xori v2574 v2575
  let c0_i32_1499 : BitVec 32 := 0#32
  let v2573 : BitVec 1 := Scalar.cmpi .ne v2572 c0_i32_1499
  let v2577 : BitVec 1 := Scalar.andi v2576 v2573
  let v2578 : BitVec 32 := Scalar.addi v2572 v2571
  let v2579 : BitVec 32 := Scalar.select v2577 v2578 v2572
  ![v2579.toNat]
def k0_off522 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1493 : BitVec 32 := 128#32
  let v2565 : BitVec 32 := Scalar.addi v2126 c128_i32_1493
  let c32_i32_1494 : BitVec 32 := 32#32
  let v2566 : BitVec 32 := Scalar.subi v2565 c32_i32_1494
  let c23_i32_1495 : BitVec 32 := 23#32
  let v2567 : BitVec 32 := Scalar.addi v2566 c23_i32_1495
  let c0_i32_1502 : BitVec 32 := 0#32
  ![v2567.toNat, 0]
def k0_off523 (v2569 : BitVec 32) : Fin 2 → Nat :=
  let c0_i32_1503 : BitVec 32 := 0#32
  ![v2569.toNat, 0]

def k0_chk128 (v2569 : BitVec 32) : Prop :=
  (∀ a, (k0_off523 v2569) a + S1x1024.size a ≤ S8192x1024.size a)
theorem k0_off523_inb : ∀ (v2569 : BitVec 32) (k0_hw128 : k0_chk128 v2569), ∀ a, (k0_off523 v2569) a + S1x1024.size a ≤ S8192x1024.size a := fun v2569 k0_hw128 => k0_hw128

def k0_off524 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1504 : BitVec 32 := 128#32
  let v2584 : BitVec 32 := Scalar.addi v2126 c128_i32_1504
  let c32_i32_1505 : BitVec 32 := 32#32
  let v2585 : BitVec 32 := Scalar.subi v2584 c32_i32_1505
  let c24_i32_1506 : BitVec 32 := 24#32
  let v2586 : BitVec 32 := Scalar.addi v2585 c24_i32_1506
  let v2587 : Index := Scalar.indexCast v2586
  ![v2587.toNat]
def k0_off525 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1504 : BitVec 32 := 128#32
  let v2584 : BitVec 32 := Scalar.addi v2126 c128_i32_1504
  let c32_i32_1505 : BitVec 32 := 32#32
  let v2585 : BitVec 32 := Scalar.subi v2584 c32_i32_1505
  let c24_i32_1506 : BitVec 32 := 24#32
  let v2586 : BitVec 32 := Scalar.addi v2585 c24_i32_1506
  let c32_i32_1507 : BitVec 32 := 32#32
  let c0_i32_1508 : BitVec 32 := 0#32
  let v2589 : BitVec 1 := Scalar.cmpi .eq c32_i32_1507 c0_i32_1508
  let c1_i32_1509 : BitVec 32 := 1#32
  let v2590 : BitVec 32 := Scalar.select v2589 c1_i32_1509 c32_i32_1507
  let v2591 : BitVec 32 := Scalar.remsi v2586 v2590
  let c0_i32_1511 : BitVec 32 := 0#32
  let v2593 : BitVec 1 := Scalar.cmpi .slt v2591 c0_i32_1511
  let c0_i32_1512 : BitVec 32 := 0#32
  let v2594 : BitVec 1 := Scalar.cmpi .slt v2590 c0_i32_1512
  let v2595 : BitVec 1 := Scalar.xori v2593 v2594
  let c0_i32_1510 : BitVec 32 := 0#32
  let v2592 : BitVec 1 := Scalar.cmpi .ne v2591 c0_i32_1510
  let v2596 : BitVec 1 := Scalar.andi v2595 v2592
  let v2597 : BitVec 32 := Scalar.addi v2591 v2590
  let v2598 : BitVec 32 := Scalar.select v2596 v2597 v2591
  ![v2598.toNat]
def k0_off526 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1504 : BitVec 32 := 128#32
  let v2584 : BitVec 32 := Scalar.addi v2126 c128_i32_1504
  let c32_i32_1505 : BitVec 32 := 32#32
  let v2585 : BitVec 32 := Scalar.subi v2584 c32_i32_1505
  let c24_i32_1506 : BitVec 32 := 24#32
  let v2586 : BitVec 32 := Scalar.addi v2585 c24_i32_1506
  let c0_i32_1513 : BitVec 32 := 0#32
  ![v2586.toNat, 0]
def k0_off527 (v2588 : BitVec 32) : Fin 2 → Nat :=
  let c0_i32_1514 : BitVec 32 := 0#32
  ![v2588.toNat, 0]

def k0_chk129 (v2588 : BitVec 32) : Prop :=
  (∀ a, (k0_off527 v2588) a + S1x1024.size a ≤ S8192x1024.size a)
theorem k0_off527_inb : ∀ (v2588 : BitVec 32) (k0_hw129 : k0_chk129 v2588), ∀ a, (k0_off527 v2588) a + S1x1024.size a ≤ S8192x1024.size a := fun v2588 k0_hw129 => k0_hw129

def k0_off528 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1515 : BitVec 32 := 128#32
  let v2603 : BitVec 32 := Scalar.addi v2126 c128_i32_1515
  let c32_i32_1516 : BitVec 32 := 32#32
  let v2604 : BitVec 32 := Scalar.subi v2603 c32_i32_1516
  let c25_i32_1517 : BitVec 32 := 25#32
  let v2605 : BitVec 32 := Scalar.addi v2604 c25_i32_1517
  let v2606 : Index := Scalar.indexCast v2605
  ![v2606.toNat]
def k0_off529 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1515 : BitVec 32 := 128#32
  let v2603 : BitVec 32 := Scalar.addi v2126 c128_i32_1515
  let c32_i32_1516 : BitVec 32 := 32#32
  let v2604 : BitVec 32 := Scalar.subi v2603 c32_i32_1516
  let c25_i32_1517 : BitVec 32 := 25#32
  let v2605 : BitVec 32 := Scalar.addi v2604 c25_i32_1517
  let c32_i32_1518 : BitVec 32 := 32#32
  let c0_i32_1519 : BitVec 32 := 0#32
  let v2608 : BitVec 1 := Scalar.cmpi .eq c32_i32_1518 c0_i32_1519
  let c1_i32_1520 : BitVec 32 := 1#32
  let v2609 : BitVec 32 := Scalar.select v2608 c1_i32_1520 c32_i32_1518
  let v2610 : BitVec 32 := Scalar.remsi v2605 v2609
  let c0_i32_1522 : BitVec 32 := 0#32
  let v2612 : BitVec 1 := Scalar.cmpi .slt v2610 c0_i32_1522
  let c0_i32_1523 : BitVec 32 := 0#32
  let v2613 : BitVec 1 := Scalar.cmpi .slt v2609 c0_i32_1523
  let v2614 : BitVec 1 := Scalar.xori v2612 v2613
  let c0_i32_1521 : BitVec 32 := 0#32
  let v2611 : BitVec 1 := Scalar.cmpi .ne v2610 c0_i32_1521
  let v2615 : BitVec 1 := Scalar.andi v2614 v2611
  let v2616 : BitVec 32 := Scalar.addi v2610 v2609
  let v2617 : BitVec 32 := Scalar.select v2615 v2616 v2610
  ![v2617.toNat]
def k0_off530 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1515 : BitVec 32 := 128#32
  let v2603 : BitVec 32 := Scalar.addi v2126 c128_i32_1515
  let c32_i32_1516 : BitVec 32 := 32#32
  let v2604 : BitVec 32 := Scalar.subi v2603 c32_i32_1516
  let c25_i32_1517 : BitVec 32 := 25#32
  let v2605 : BitVec 32 := Scalar.addi v2604 c25_i32_1517
  let c0_i32_1524 : BitVec 32 := 0#32
  ![v2605.toNat, 0]
def k0_off531 (v2607 : BitVec 32) : Fin 2 → Nat :=
  let c0_i32_1525 : BitVec 32 := 0#32
  ![v2607.toNat, 0]

def k0_chk130 (v2607 : BitVec 32) : Prop :=
  (∀ a, (k0_off531 v2607) a + S1x1024.size a ≤ S8192x1024.size a)
theorem k0_off531_inb : ∀ (v2607 : BitVec 32) (k0_hw130 : k0_chk130 v2607), ∀ a, (k0_off531 v2607) a + S1x1024.size a ≤ S8192x1024.size a := fun v2607 k0_hw130 => k0_hw130

def k0_off532 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1526 : BitVec 32 := 128#32
  let v2622 : BitVec 32 := Scalar.addi v2126 c128_i32_1526
  let c32_i32_1527 : BitVec 32 := 32#32
  let v2623 : BitVec 32 := Scalar.subi v2622 c32_i32_1527
  let c26_i32_1528 : BitVec 32 := 26#32
  let v2624 : BitVec 32 := Scalar.addi v2623 c26_i32_1528
  let v2625 : Index := Scalar.indexCast v2624
  ![v2625.toNat]
def k0_off533 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1526 : BitVec 32 := 128#32
  let v2622 : BitVec 32 := Scalar.addi v2126 c128_i32_1526
  let c32_i32_1527 : BitVec 32 := 32#32
  let v2623 : BitVec 32 := Scalar.subi v2622 c32_i32_1527
  let c26_i32_1528 : BitVec 32 := 26#32
  let v2624 : BitVec 32 := Scalar.addi v2623 c26_i32_1528
  let c32_i32_1529 : BitVec 32 := 32#32
  let c0_i32_1530 : BitVec 32 := 0#32
  let v2627 : BitVec 1 := Scalar.cmpi .eq c32_i32_1529 c0_i32_1530
  let c1_i32_1531 : BitVec 32 := 1#32
  let v2628 : BitVec 32 := Scalar.select v2627 c1_i32_1531 c32_i32_1529
  let v2629 : BitVec 32 := Scalar.remsi v2624 v2628
  let c0_i32_1533 : BitVec 32 := 0#32
  let v2631 : BitVec 1 := Scalar.cmpi .slt v2629 c0_i32_1533
  let c0_i32_1534 : BitVec 32 := 0#32
  let v2632 : BitVec 1 := Scalar.cmpi .slt v2628 c0_i32_1534
  let v2633 : BitVec 1 := Scalar.xori v2631 v2632
  let c0_i32_1532 : BitVec 32 := 0#32
  let v2630 : BitVec 1 := Scalar.cmpi .ne v2629 c0_i32_1532
  let v2634 : BitVec 1 := Scalar.andi v2633 v2630
  let v2635 : BitVec 32 := Scalar.addi v2629 v2628
  let v2636 : BitVec 32 := Scalar.select v2634 v2635 v2629
  ![v2636.toNat]
def k0_off534 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1526 : BitVec 32 := 128#32
  let v2622 : BitVec 32 := Scalar.addi v2126 c128_i32_1526
  let c32_i32_1527 : BitVec 32 := 32#32
  let v2623 : BitVec 32 := Scalar.subi v2622 c32_i32_1527
  let c26_i32_1528 : BitVec 32 := 26#32
  let v2624 : BitVec 32 := Scalar.addi v2623 c26_i32_1528
  let c0_i32_1535 : BitVec 32 := 0#32
  ![v2624.toNat, 0]
def k0_off535 (v2626 : BitVec 32) : Fin 2 → Nat :=
  let c0_i32_1536 : BitVec 32 := 0#32
  ![v2626.toNat, 0]

def k0_chk131 (v2626 : BitVec 32) : Prop :=
  (∀ a, (k0_off535 v2626) a + S1x1024.size a ≤ S8192x1024.size a)
theorem k0_off535_inb : ∀ (v2626 : BitVec 32) (k0_hw131 : k0_chk131 v2626), ∀ a, (k0_off535 v2626) a + S1x1024.size a ≤ S8192x1024.size a := fun v2626 k0_hw131 => k0_hw131

def k0_off536 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1537 : BitVec 32 := 128#32
  let v2641 : BitVec 32 := Scalar.addi v2126 c128_i32_1537
  let c32_i32_1538 : BitVec 32 := 32#32
  let v2642 : BitVec 32 := Scalar.subi v2641 c32_i32_1538
  let c27_i32_1539 : BitVec 32 := 27#32
  let v2643 : BitVec 32 := Scalar.addi v2642 c27_i32_1539
  let v2644 : Index := Scalar.indexCast v2643
  ![v2644.toNat]
def k0_off537 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1537 : BitVec 32 := 128#32
  let v2641 : BitVec 32 := Scalar.addi v2126 c128_i32_1537
  let c32_i32_1538 : BitVec 32 := 32#32
  let v2642 : BitVec 32 := Scalar.subi v2641 c32_i32_1538
  let c27_i32_1539 : BitVec 32 := 27#32
  let v2643 : BitVec 32 := Scalar.addi v2642 c27_i32_1539
  let c32_i32_1540 : BitVec 32 := 32#32
  let c0_i32_1541 : BitVec 32 := 0#32
  let v2646 : BitVec 1 := Scalar.cmpi .eq c32_i32_1540 c0_i32_1541
  let c1_i32_1542 : BitVec 32 := 1#32
  let v2647 : BitVec 32 := Scalar.select v2646 c1_i32_1542 c32_i32_1540
  let v2648 : BitVec 32 := Scalar.remsi v2643 v2647
  let c0_i32_1544 : BitVec 32 := 0#32
  let v2650 : BitVec 1 := Scalar.cmpi .slt v2648 c0_i32_1544
  let c0_i32_1545 : BitVec 32 := 0#32
  let v2651 : BitVec 1 := Scalar.cmpi .slt v2647 c0_i32_1545
  let v2652 : BitVec 1 := Scalar.xori v2650 v2651
  let c0_i32_1543 : BitVec 32 := 0#32
  let v2649 : BitVec 1 := Scalar.cmpi .ne v2648 c0_i32_1543
  let v2653 : BitVec 1 := Scalar.andi v2652 v2649
  let v2654 : BitVec 32 := Scalar.addi v2648 v2647
  let v2655 : BitVec 32 := Scalar.select v2653 v2654 v2648
  ![v2655.toNat]
def k0_off538 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1537 : BitVec 32 := 128#32
  let v2641 : BitVec 32 := Scalar.addi v2126 c128_i32_1537
  let c32_i32_1538 : BitVec 32 := 32#32
  let v2642 : BitVec 32 := Scalar.subi v2641 c32_i32_1538
  let c27_i32_1539 : BitVec 32 := 27#32
  let v2643 : BitVec 32 := Scalar.addi v2642 c27_i32_1539
  let c0_i32_1546 : BitVec 32 := 0#32
  ![v2643.toNat, 0]
def k0_off539 (v2645 : BitVec 32) : Fin 2 → Nat :=
  let c0_i32_1547 : BitVec 32 := 0#32
  ![v2645.toNat, 0]

def k0_chk132 (v2645 : BitVec 32) : Prop :=
  (∀ a, (k0_off539 v2645) a + S1x1024.size a ≤ S8192x1024.size a)
theorem k0_off539_inb : ∀ (v2645 : BitVec 32) (k0_hw132 : k0_chk132 v2645), ∀ a, (k0_off539 v2645) a + S1x1024.size a ≤ S8192x1024.size a := fun v2645 k0_hw132 => k0_hw132

def k0_off540 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1548 : BitVec 32 := 128#32
  let v2660 : BitVec 32 := Scalar.addi v2126 c128_i32_1548
  let c32_i32_1549 : BitVec 32 := 32#32
  let v2661 : BitVec 32 := Scalar.subi v2660 c32_i32_1549
  let c28_i32_1550 : BitVec 32 := 28#32
  let v2662 : BitVec 32 := Scalar.addi v2661 c28_i32_1550
  let v2663 : Index := Scalar.indexCast v2662
  ![v2663.toNat]
def k0_off541 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1548 : BitVec 32 := 128#32
  let v2660 : BitVec 32 := Scalar.addi v2126 c128_i32_1548
  let c32_i32_1549 : BitVec 32 := 32#32
  let v2661 : BitVec 32 := Scalar.subi v2660 c32_i32_1549
  let c28_i32_1550 : BitVec 32 := 28#32
  let v2662 : BitVec 32 := Scalar.addi v2661 c28_i32_1550
  let c32_i32_1551 : BitVec 32 := 32#32
  let c0_i32_1552 : BitVec 32 := 0#32
  let v2665 : BitVec 1 := Scalar.cmpi .eq c32_i32_1551 c0_i32_1552
  let c1_i32_1553 : BitVec 32 := 1#32
  let v2666 : BitVec 32 := Scalar.select v2665 c1_i32_1553 c32_i32_1551
  let v2667 : BitVec 32 := Scalar.remsi v2662 v2666
  let c0_i32_1555 : BitVec 32 := 0#32
  let v2669 : BitVec 1 := Scalar.cmpi .slt v2667 c0_i32_1555
  let c0_i32_1556 : BitVec 32 := 0#32
  let v2670 : BitVec 1 := Scalar.cmpi .slt v2666 c0_i32_1556
  let v2671 : BitVec 1 := Scalar.xori v2669 v2670
  let c0_i32_1554 : BitVec 32 := 0#32
  let v2668 : BitVec 1 := Scalar.cmpi .ne v2667 c0_i32_1554
  let v2672 : BitVec 1 := Scalar.andi v2671 v2668
  let v2673 : BitVec 32 := Scalar.addi v2667 v2666
  let v2674 : BitVec 32 := Scalar.select v2672 v2673 v2667
  ![v2674.toNat]
def k0_off542 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1548 : BitVec 32 := 128#32
  let v2660 : BitVec 32 := Scalar.addi v2126 c128_i32_1548
  let c32_i32_1549 : BitVec 32 := 32#32
  let v2661 : BitVec 32 := Scalar.subi v2660 c32_i32_1549
  let c28_i32_1550 : BitVec 32 := 28#32
  let v2662 : BitVec 32 := Scalar.addi v2661 c28_i32_1550
  let c0_i32_1557 : BitVec 32 := 0#32
  ![v2662.toNat, 0]
def k0_off543 (v2664 : BitVec 32) : Fin 2 → Nat :=
  let c0_i32_1558 : BitVec 32 := 0#32
  ![v2664.toNat, 0]

def k0_chk133 (v2664 : BitVec 32) : Prop :=
  (∀ a, (k0_off543 v2664) a + S1x1024.size a ≤ S8192x1024.size a)
theorem k0_off543_inb : ∀ (v2664 : BitVec 32) (k0_hw133 : k0_chk133 v2664), ∀ a, (k0_off543 v2664) a + S1x1024.size a ≤ S8192x1024.size a := fun v2664 k0_hw133 => k0_hw133

def k0_off544 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1559 : BitVec 32 := 128#32
  let v2679 : BitVec 32 := Scalar.addi v2126 c128_i32_1559
  let c32_i32_1560 : BitVec 32 := 32#32
  let v2680 : BitVec 32 := Scalar.subi v2679 c32_i32_1560
  let c29_i32_1561 : BitVec 32 := 29#32
  let v2681 : BitVec 32 := Scalar.addi v2680 c29_i32_1561
  let v2682 : Index := Scalar.indexCast v2681
  ![v2682.toNat]
def k0_off545 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1559 : BitVec 32 := 128#32
  let v2679 : BitVec 32 := Scalar.addi v2126 c128_i32_1559
  let c32_i32_1560 : BitVec 32 := 32#32
  let v2680 : BitVec 32 := Scalar.subi v2679 c32_i32_1560
  let c29_i32_1561 : BitVec 32 := 29#32
  let v2681 : BitVec 32 := Scalar.addi v2680 c29_i32_1561
  let c32_i32_1562 : BitVec 32 := 32#32
  let c0_i32_1563 : BitVec 32 := 0#32
  let v2684 : BitVec 1 := Scalar.cmpi .eq c32_i32_1562 c0_i32_1563
  let c1_i32_1564 : BitVec 32 := 1#32
  let v2685 : BitVec 32 := Scalar.select v2684 c1_i32_1564 c32_i32_1562
  let v2686 : BitVec 32 := Scalar.remsi v2681 v2685
  let c0_i32_1566 : BitVec 32 := 0#32
  let v2688 : BitVec 1 := Scalar.cmpi .slt v2686 c0_i32_1566
  let c0_i32_1567 : BitVec 32 := 0#32
  let v2689 : BitVec 1 := Scalar.cmpi .slt v2685 c0_i32_1567
  let v2690 : BitVec 1 := Scalar.xori v2688 v2689
  let c0_i32_1565 : BitVec 32 := 0#32
  let v2687 : BitVec 1 := Scalar.cmpi .ne v2686 c0_i32_1565
  let v2691 : BitVec 1 := Scalar.andi v2690 v2687
  let v2692 : BitVec 32 := Scalar.addi v2686 v2685
  let v2693 : BitVec 32 := Scalar.select v2691 v2692 v2686
  ![v2693.toNat]
def k0_off546 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1559 : BitVec 32 := 128#32
  let v2679 : BitVec 32 := Scalar.addi v2126 c128_i32_1559
  let c32_i32_1560 : BitVec 32 := 32#32
  let v2680 : BitVec 32 := Scalar.subi v2679 c32_i32_1560
  let c29_i32_1561 : BitVec 32 := 29#32
  let v2681 : BitVec 32 := Scalar.addi v2680 c29_i32_1561
  let c0_i32_1568 : BitVec 32 := 0#32
  ![v2681.toNat, 0]
def k0_off547 (v2683 : BitVec 32) : Fin 2 → Nat :=
  let c0_i32_1569 : BitVec 32 := 0#32
  ![v2683.toNat, 0]

def k0_chk134 (v2683 : BitVec 32) : Prop :=
  (∀ a, (k0_off547 v2683) a + S1x1024.size a ≤ S8192x1024.size a)
theorem k0_off547_inb : ∀ (v2683 : BitVec 32) (k0_hw134 : k0_chk134 v2683), ∀ a, (k0_off547 v2683) a + S1x1024.size a ≤ S8192x1024.size a := fun v2683 k0_hw134 => k0_hw134

def k0_off548 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1570 : BitVec 32 := 128#32
  let v2698 : BitVec 32 := Scalar.addi v2126 c128_i32_1570
  let c32_i32_1571 : BitVec 32 := 32#32
  let v2699 : BitVec 32 := Scalar.subi v2698 c32_i32_1571
  let c30_i32_1572 : BitVec 32 := 30#32
  let v2700 : BitVec 32 := Scalar.addi v2699 c30_i32_1572
  let v2701 : Index := Scalar.indexCast v2700
  ![v2701.toNat]
def k0_off549 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1570 : BitVec 32 := 128#32
  let v2698 : BitVec 32 := Scalar.addi v2126 c128_i32_1570
  let c32_i32_1571 : BitVec 32 := 32#32
  let v2699 : BitVec 32 := Scalar.subi v2698 c32_i32_1571
  let c30_i32_1572 : BitVec 32 := 30#32
  let v2700 : BitVec 32 := Scalar.addi v2699 c30_i32_1572
  let c32_i32_1573 : BitVec 32 := 32#32
  let c0_i32_1574 : BitVec 32 := 0#32
  let v2703 : BitVec 1 := Scalar.cmpi .eq c32_i32_1573 c0_i32_1574
  let c1_i32_1575 : BitVec 32 := 1#32
  let v2704 : BitVec 32 := Scalar.select v2703 c1_i32_1575 c32_i32_1573
  let v2705 : BitVec 32 := Scalar.remsi v2700 v2704
  let c0_i32_1577 : BitVec 32 := 0#32
  let v2707 : BitVec 1 := Scalar.cmpi .slt v2705 c0_i32_1577
  let c0_i32_1578 : BitVec 32 := 0#32
  let v2708 : BitVec 1 := Scalar.cmpi .slt v2704 c0_i32_1578
  let v2709 : BitVec 1 := Scalar.xori v2707 v2708
  let c0_i32_1576 : BitVec 32 := 0#32
  let v2706 : BitVec 1 := Scalar.cmpi .ne v2705 c0_i32_1576
  let v2710 : BitVec 1 := Scalar.andi v2709 v2706
  let v2711 : BitVec 32 := Scalar.addi v2705 v2704
  let v2712 : BitVec 32 := Scalar.select v2710 v2711 v2705
  ![v2712.toNat]
def k0_off550 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1570 : BitVec 32 := 128#32
  let v2698 : BitVec 32 := Scalar.addi v2126 c128_i32_1570
  let c32_i32_1571 : BitVec 32 := 32#32
  let v2699 : BitVec 32 := Scalar.subi v2698 c32_i32_1571
  let c30_i32_1572 : BitVec 32 := 30#32
  let v2700 : BitVec 32 := Scalar.addi v2699 c30_i32_1572
  let c0_i32_1579 : BitVec 32 := 0#32
  ![v2700.toNat, 0]
def k0_off551 (v2702 : BitVec 32) : Fin 2 → Nat :=
  let c0_i32_1580 : BitVec 32 := 0#32
  ![v2702.toNat, 0]

def k0_chk135 (v2702 : BitVec 32) : Prop :=
  (∀ a, (k0_off551 v2702) a + S1x1024.size a ≤ S8192x1024.size a)
theorem k0_off551_inb : ∀ (v2702 : BitVec 32) (k0_hw135 : k0_chk135 v2702), ∀ a, (k0_off551 v2702) a + S1x1024.size a ≤ S8192x1024.size a := fun v2702 k0_hw135 => k0_hw135

def k0_off552 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1581 : BitVec 32 := 128#32
  let v2717 : BitVec 32 := Scalar.addi v2126 c128_i32_1581
  let c32_i32_1582 : BitVec 32 := 32#32
  let v2718 : BitVec 32 := Scalar.subi v2717 c32_i32_1582
  let c31_i32_1583 : BitVec 32 := 31#32
  let v2719 : BitVec 32 := Scalar.addi v2718 c31_i32_1583
  let v2720 : Index := Scalar.indexCast v2719
  ![v2720.toNat]
def k0_off553 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1581 : BitVec 32 := 128#32
  let v2717 : BitVec 32 := Scalar.addi v2126 c128_i32_1581
  let c32_i32_1582 : BitVec 32 := 32#32
  let v2718 : BitVec 32 := Scalar.subi v2717 c32_i32_1582
  let c31_i32_1583 : BitVec 32 := 31#32
  let v2719 : BitVec 32 := Scalar.addi v2718 c31_i32_1583
  let c32_i32_1584 : BitVec 32 := 32#32
  let c0_i32_1585 : BitVec 32 := 0#32
  let v2722 : BitVec 1 := Scalar.cmpi .eq c32_i32_1584 c0_i32_1585
  let c1_i32_1586 : BitVec 32 := 1#32
  let v2723 : BitVec 32 := Scalar.select v2722 c1_i32_1586 c32_i32_1584
  let v2724 : BitVec 32 := Scalar.remsi v2719 v2723
  let c0_i32_1588 : BitVec 32 := 0#32
  let v2726 : BitVec 1 := Scalar.cmpi .slt v2724 c0_i32_1588
  let c0_i32_1589 : BitVec 32 := 0#32
  let v2727 : BitVec 1 := Scalar.cmpi .slt v2723 c0_i32_1589
  let v2728 : BitVec 1 := Scalar.xori v2726 v2727
  let c0_i32_1587 : BitVec 32 := 0#32
  let v2725 : BitVec 1 := Scalar.cmpi .ne v2724 c0_i32_1587
  let v2729 : BitVec 1 := Scalar.andi v2728 v2725
  let v2730 : BitVec 32 := Scalar.addi v2724 v2723
  let v2731 : BitVec 32 := Scalar.select v2729 v2730 v2724
  ![v2731.toNat]
def k0_off554 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let c128_i32_1581 : BitVec 32 := 128#32
  let v2717 : BitVec 32 := Scalar.addi v2126 c128_i32_1581
  let c32_i32_1582 : BitVec 32 := 32#32
  let v2718 : BitVec 32 := Scalar.subi v2717 c32_i32_1582
  let c31_i32_1583 : BitVec 32 := 31#32
  let v2719 : BitVec 32 := Scalar.addi v2718 c31_i32_1583
  let c0_i32_1590 : BitVec 32 := 0#32
  ![v2719.toNat, 0]
def k0_off555 (v2721 : BitVec 32) : Fin 2 → Nat :=
  let c0_i32_1591 : BitVec 32 := 0#32
  ![v2721.toNat, 0]

def k0_chk136 (v2721 : BitVec 32) : Prop :=
  (∀ a, (k0_off555 v2721) a + S1x1024.size a ≤ S8192x1024.size a)
theorem k0_off555_inb : ∀ (v2721 : BitVec 32) (k0_hw136 : k0_chk136 v2721), ∀ a, (k0_off555 v2721) a + S1x1024.size a ≤ S8192x1024.size a := fun v2721 k0_hw136 => k0_hw136

def k0_off556 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let v2736 : Index := Scalar.indexCast v2126
  let c0_1592 : Index := 0#32
  ![v2736.toNat, 0]
def k0_off557 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1228 : BitVec 32 := 3#32
  let v2115 : BitVec 32 := Scalar.subi v5 c3_i32_1228
  let c4_i32_1229 : BitVec 32 := 4#32
  let c0_i32_1230 : BitVec 32 := 0#32
  let v2116 : BitVec 1 := Scalar.cmpi .eq c4_i32_1229 c0_i32_1230
  let c1_i32_1231 : BitVec 32 := 1#32
  let v2117 : BitVec 32 := Scalar.select v2116 c1_i32_1231 c4_i32_1229
  let v2118 : BitVec 32 := Scalar.remsi v2115 v2117
  let c0_i32_1233 : BitVec 32 := 0#32
  let v2120 : BitVec 1 := Scalar.cmpi .slt v2118 c0_i32_1233
  let c0_i32_1234 : BitVec 32 := 0#32
  let v2121 : BitVec 1 := Scalar.cmpi .slt v2117 c0_i32_1234
  let v2122 : BitVec 1 := Scalar.xori v2120 v2121
  let c0_i32_1232 : BitVec 32 := 0#32
  let v2119 : BitVec 1 := Scalar.cmpi .ne v2118 c0_i32_1232
  let v2123 : BitVec 1 := Scalar.andi v2122 v2119
  let v2124 : BitVec 32 := Scalar.addi v2118 v2117
  let v2125 : BitVec 32 := Scalar.select v2123 v2124 v2118
  let c128_i32_1235 : BitVec 32 := 128#32
  let v2126 : BitVec 32 := Scalar.muli v2125 c128_i32_1235
  let v2738 : Index := Scalar.indexCast v2126
  let c0_1593 : Index := 0#32
  ![v2738.toNat, 0]
def k0_off558 (d0 : Dev nD) (c2_i32_1202 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v2078 : BitVec 32 := Scalar.subi v5 c2_i32_1202
  let c4_i32_1203 : BitVec 32 := 4#32
  let c0_i32_1204 : BitVec 32 := 0#32
  let v2079 : BitVec 1 := Scalar.cmpi .eq c4_i32_1203 c0_i32_1204
  let c1_i32_1205 : BitVec 32 := 1#32
  let v2080 : BitVec 32 := Scalar.select v2079 c1_i32_1205 c4_i32_1203
  let v2081 : BitVec 32 := Scalar.remsi v2078 v2080
  let c0_i32_1207 : BitVec 32 := 0#32
  let v2083 : BitVec 1 := Scalar.cmpi .slt v2081 c0_i32_1207
  let c0_i32_1208 : BitVec 32 := 0#32
  let v2084 : BitVec 1 := Scalar.cmpi .slt v2080 c0_i32_1208
  let v2085 : BitVec 1 := Scalar.xori v2083 v2084
  let c0_i32_1206 : BitVec 32 := 0#32
  let v2082 : BitVec 1 := Scalar.cmpi .ne v2081 c0_i32_1206
  let v2086 : BitVec 1 := Scalar.andi v2085 v2082
  let v2087 : BitVec 32 := Scalar.addi v2081 v2080
  let v2088 : BitVec 32 := Scalar.select v2086 v2087 v2081
  let c128_i32_1217 : BitVec 32 := 128#32
  let v2101 : BitVec 32 := Scalar.muli v2088 c128_i32_1217
  let c0_i32_1599 : BitVec 32 := 0#32
  ![v2101.toNat, 0]
def k0_off559 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1209 : BitVec 32 := 2#32
  let v2089 : BitVec 32 := Scalar.subi v5 c2_i32_1209
  let c1_i32_1210 : BitVec 32 := 1#32
  let v2090 : BitVec 32 := Scalar.subi v2089 c1_i32_1210
  let c4_i32_1211 : BitVec 32 := 4#32
  let c0_i32_1212 : BitVec 32 := 0#32
  let v2091 : BitVec 1 := Scalar.cmpi .eq c4_i32_1211 c0_i32_1212
  let c1_i32_1213 : BitVec 32 := 1#32
  let v2092 : BitVec 32 := Scalar.select v2091 c1_i32_1213 c4_i32_1211
  let v2093 : BitVec 32 := Scalar.remsi v2090 v2092
  let c0_i32_1215 : BitVec 32 := 0#32
  let v2095 : BitVec 1 := Scalar.cmpi .slt v2093 c0_i32_1215
  let c0_i32_1216 : BitVec 32 := 0#32
  let v2096 : BitVec 1 := Scalar.cmpi .slt v2092 c0_i32_1216
  let v2097 : BitVec 1 := Scalar.xori v2095 v2096
  let c0_i32_1214 : BitVec 32 := 0#32
  let v2094 : BitVec 1 := Scalar.cmpi .ne v2093 c0_i32_1214
  let v2098 : BitVec 1 := Scalar.andi v2097 v2094
  let v2099 : BitVec 32 := Scalar.addi v2093 v2092
  let v2100 : BitVec 32 := Scalar.select v2098 v2099 v2093
  let c128_i32_1612 : BitVec 32 := 128#32
  let v2764 : BitVec 32 := Scalar.muli v2100 c128_i32_1612
  let v2765 : Index := Scalar.indexCast v2764
  let c0_1613 : Index := 0#32
  ![v2765.toNat, 0]
def k0_off560 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1618 : BitVec 32 := 1#32
  let v2775 : BitVec 32 := Scalar.addi v5 c1_i32_1618
  let c4_i32_1619 : BitVec 32 := 4#32
  let c0_i32_1620 : BitVec 32 := 0#32
  let v2776 : BitVec 1 := Scalar.cmpi .eq c4_i32_1619 c0_i32_1620
  let c1_i32_1621 : BitVec 32 := 1#32
  let v2777 : BitVec 32 := Scalar.select v2776 c1_i32_1621 c4_i32_1619
  let v2778 : BitVec 32 := Scalar.remsi v2775 v2777
  let c0_i32_1623 : BitVec 32 := 0#32
  let v2780 : BitVec 1 := Scalar.cmpi .slt v2778 c0_i32_1623
  let c0_i32_1624 : BitVec 32 := 0#32
  let v2781 : BitVec 1 := Scalar.cmpi .slt v2777 c0_i32_1624
  let v2782 : BitVec 1 := Scalar.xori v2780 v2781
  let c0_i32_1622 : BitVec 32 := 0#32
  let v2779 : BitVec 1 := Scalar.cmpi .ne v2778 c0_i32_1622
  let v2783 : BitVec 1 := Scalar.andi v2782 v2779
  let v2784 : BitVec 32 := Scalar.addi v2778 v2777
  let v2785 : BitVec 32 := Scalar.select v2783 v2784 v2778
  let c128_i32_1625 : BitVec 32 := 128#32
  let v2786 : BitVec 32 := Scalar.muli v2785 c128_i32_1625
  let v2787 : Index := Scalar.indexCast v2786
  let c0_1626 : Index := 0#32
  ![v2787.toNat, 0]
def k0_off561 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1618 : BitVec 32 := 1#32
  let v2775 : BitVec 32 := Scalar.addi v5 c1_i32_1618
  let c4_i32_1619 : BitVec 32 := 4#32
  let c0_i32_1620 : BitVec 32 := 0#32
  let v2776 : BitVec 1 := Scalar.cmpi .eq c4_i32_1619 c0_i32_1620
  let c1_i32_1621 : BitVec 32 := 1#32
  let v2777 : BitVec 32 := Scalar.select v2776 c1_i32_1621 c4_i32_1619
  let v2778 : BitVec 32 := Scalar.remsi v2775 v2777
  let c0_i32_1623 : BitVec 32 := 0#32
  let v2780 : BitVec 1 := Scalar.cmpi .slt v2778 c0_i32_1623
  let c0_i32_1624 : BitVec 32 := 0#32
  let v2781 : BitVec 1 := Scalar.cmpi .slt v2777 c0_i32_1624
  let v2782 : BitVec 1 := Scalar.xori v2780 v2781
  let c0_i32_1622 : BitVec 32 := 0#32
  let v2779 : BitVec 1 := Scalar.cmpi .ne v2778 c0_i32_1622
  let v2783 : BitVec 1 := Scalar.andi v2782 v2779
  let v2784 : BitVec 32 := Scalar.addi v2778 v2777
  let v2785 : BitVec 32 := Scalar.select v2783 v2784 v2778
  let c128_i32_1630 : BitVec 32 := 128#32
  let v2795 : BitVec 32 := Scalar.muli v2785 c128_i32_1630
  let c0_i32_1638 : BitVec 32 := 0#32
  ![v2795.toNat, 0]
def k0_dev7 (d0 : Dev nD) : Nat :=
  let c0_i32_1635 : BitVec 32 := 0#32
  let c1_i32_1631 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2796 : BitVec 32 := Scalar.subi c1_i32_1631 v2
  let c16_i32_1634 : BitVec 32 := 16#32
  let v2797 : BitVec 32 := Scalar.muli v2796 c16_i32_1634
  let v2798 : BitVec 32 := Scalar.addi c0_i32_1635 v2797
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1636 : BitVec 32 := 4#32
  let v2799 : BitVec 32 := Scalar.muli v5 c4_i32_1636
  let v2800 : BitVec 32 := Scalar.addi v2798 v2799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1637 : BitVec 32 := 1#32
  let v2801 : BitVec 32 := Scalar.muli v8 c1_i32_1637
  let v2802 : BitVec 32 := Scalar.addi v2800 v2801
  v2802.toNat
def k0_off562 (d0 : Dev nD) (c0_i32_1640 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1618 : BitVec 32 := 1#32
  let v2775 : BitVec 32 := Scalar.addi v5 c1_i32_1618
  let c4_i32_1619 : BitVec 32 := 4#32
  let c0_i32_1620 : BitVec 32 := 0#32
  let v2776 : BitVec 1 := Scalar.cmpi .eq c4_i32_1619 c0_i32_1620
  let c1_i32_1621 : BitVec 32 := 1#32
  let v2777 : BitVec 32 := Scalar.select v2776 c1_i32_1621 c4_i32_1619
  let v2778 : BitVec 32 := Scalar.remsi v2775 v2777
  let c0_i32_1623 : BitVec 32 := 0#32
  let v2780 : BitVec 1 := Scalar.cmpi .slt v2778 c0_i32_1623
  let c0_i32_1624 : BitVec 32 := 0#32
  let v2781 : BitVec 1 := Scalar.cmpi .slt v2777 c0_i32_1624
  let v2782 : BitVec 1 := Scalar.xori v2780 v2781
  let c0_i32_1622 : BitVec 32 := 0#32
  let v2779 : BitVec 1 := Scalar.cmpi .ne v2778 c0_i32_1622
  let v2783 : BitVec 1 := Scalar.andi v2782 v2779
  let v2784 : BitVec 32 := Scalar.addi v2778 v2777
  let v2785 : BitVec 32 := Scalar.select v2783 v2784 v2778
  let v2809 : BitVec 32 := Scalar.subi v2785 c0_i32_1640
  let c4_i32_1641 : BitVec 32 := 4#32
  let c0_i32_1642 : BitVec 32 := 0#32
  let v2810 : BitVec 1 := Scalar.cmpi .eq c4_i32_1641 c0_i32_1642
  let c1_i32_1643 : BitVec 32 := 1#32
  let v2811 : BitVec 32 := Scalar.select v2810 c1_i32_1643 c4_i32_1641
  let v2812 : BitVec 32 := Scalar.remsi v2809 v2811
  let c0_i32_1645 : BitVec 32 := 0#32
  let v2814 : BitVec 1 := Scalar.cmpi .slt v2812 c0_i32_1645
  let c0_i32_1646 : BitVec 32 := 0#32
  let v2815 : BitVec 1 := Scalar.cmpi .slt v2811 c0_i32_1646
  let v2816 : BitVec 1 := Scalar.xori v2814 v2815
  let c0_i32_1644 : BitVec 32 := 0#32
  let v2813 : BitVec 1 := Scalar.cmpi .ne v2812 c0_i32_1644
  let v2817 : BitVec 1 := Scalar.andi v2816 v2813
  let v2818 : BitVec 32 := Scalar.addi v2812 v2811
  let v2819 : BitVec 32 := Scalar.select v2817 v2818 v2812
  let c128_i32_1655 : BitVec 32 := 128#32
  let v2832 : BitVec 32 := Scalar.muli v2819 c128_i32_1655
  let c0_i32_1662 : BitVec 32 := 0#32
  ![v2832.toNat, 0]
def k0_dev8 (d0 : Dev nD) : Nat :=
  let c0_i32_1659 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1658 : BitVec 32 := 16#32
  let v2833 : BitVec 32 := Scalar.muli v2 c16_i32_1658
  let v2834 : BitVec 32 := Scalar.addi c0_i32_1659 v2833
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1660 : BitVec 32 := 4#32
  let v2835 : BitVec 32 := Scalar.muli v19 c4_i32_1660
  let v2836 : BitVec 32 := Scalar.addi v2834 v2835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1661 : BitVec 32 := 1#32
  let v2837 : BitVec 32 := Scalar.muli v8 c1_i32_1661
  let v2838 : BitVec 32 := Scalar.addi v2836 v2837
  v2838.toNat
def k0_dev9 (d0 : Dev nD) : Nat :=
  let c0_i32_1683 : BitVec 32 := 0#32
  let c1_i32_1679 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2861 : BitVec 32 := Scalar.subi c1_i32_1679 v2
  let c16_i32_1682 : BitVec 32 := 16#32
  let v2862 : BitVec 32 := Scalar.muli v2861 c16_i32_1682
  let v2863 : BitVec 32 := Scalar.addi c0_i32_1683 v2862
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1684 : BitVec 32 := 4#32
  let v2864 : BitVec 32 := Scalar.muli v5 c4_i32_1684
  let v2865 : BitVec 32 := Scalar.addi v2863 v2864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v2866 : BitVec 32 := Scalar.muli v8 c1_i32_1685
  let v2867 : BitVec 32 := Scalar.addi v2865 v2866
  v2867.toNat
def k0_dev10 (d0 : Dev nD) : Nat :=
  let c0_i32_1707 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1706 : BitVec 32 := 16#32
  let v2898 : BitVec 32 := Scalar.muli v2 c16_i32_1706
  let v2899 : BitVec 32 := Scalar.addi c0_i32_1707 v2898
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1708 : BitVec 32 := 4#32
  let v2900 : BitVec 32 := Scalar.muli v19 c4_i32_1708
  let v2901 : BitVec 32 := Scalar.addi v2899 v2900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1709 : BitVec 32 := 1#32
  let v2902 : BitVec 32 := Scalar.muli v8 c1_i32_1709
  let v2903 : BitVec 32 := Scalar.addi v2901 v2902
  v2903.toNat
def k0_dev11 (d0 : Dev nD) : Nat :=
  let c0_i32_1731 : BitVec 32 := 0#32
  let c1_i32_1727 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2926 : BitVec 32 := Scalar.subi c1_i32_1727 v2
  let c16_i32_1730 : BitVec 32 := 16#32
  let v2927 : BitVec 32 := Scalar.muli v2926 c16_i32_1730
  let v2928 : BitVec 32 := Scalar.addi c0_i32_1731 v2927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1732 : BitVec 32 := 4#32
  let v2929 : BitVec 32 := Scalar.muli v5 c4_i32_1732
  let v2930 : BitVec 32 := Scalar.addi v2928 v2929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1733 : BitVec 32 := 1#32
  let v2931 : BitVec 32 := Scalar.muli v8 c1_i32_1733
  let v2932 : BitVec 32 := Scalar.addi v2930 v2931
  v2932.toNat
def k0_dev12 (d0 : Dev nD) : Nat :=
  let c0_i32_1755 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1754 : BitVec 32 := 16#32
  let v2963 : BitVec 32 := Scalar.muli v2 c16_i32_1754
  let v2964 : BitVec 32 := Scalar.addi c0_i32_1755 v2963
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1756 : BitVec 32 := 4#32
  let v2965 : BitVec 32 := Scalar.muli v19 c4_i32_1756
  let v2966 : BitVec 32 := Scalar.addi v2964 v2965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1757 : BitVec 32 := 1#32
  let v2967 : BitVec 32 := Scalar.muli v8 c1_i32_1757
  let v2968 : BitVec 32 := Scalar.addi v2966 v2967
  v2968.toNat
def k0_dev13 (d0 : Dev nD) : Nat :=
  let c0_i32_1779 : BitVec 32 := 0#32
  let c1_i32_1775 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v2991 : BitVec 32 := Scalar.subi c1_i32_1775 v2
  let c16_i32_1778 : BitVec 32 := 16#32
  let v2992 : BitVec 32 := Scalar.muli v2991 c16_i32_1778
  let v2993 : BitVec 32 := Scalar.addi c0_i32_1779 v2992
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1780 : BitVec 32 := 4#32
  let v2994 : BitVec 32 := Scalar.muli v5 c4_i32_1780
  let v2995 : BitVec 32 := Scalar.addi v2993 v2994
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2996 : BitVec 32 := Scalar.muli v8 c1_i32_1781
  let v2997 : BitVec 32 := Scalar.addi v2995 v2996
  v2997.toNat
def k0_off563 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v3060 : BitVec 32 := Scalar.muli v2 c512_i32
  let v3065 : Index := Scalar.indexCast v3060
  let c0_1840 : Index := 0#32
  ![v3065.toNat, 0]
def k0_off564 (d0 : Dev nD) : Fin 2 → Nat :=
  let c1_i32_1836 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3061 : BitVec 32 := Scalar.subi c1_i32_1836 v2
  let c512_i32_1837 : BitVec 32 := 512#32
  let v3062 : BitVec 32 := Scalar.muli v3061 c512_i32_1837
  let v3069 : Index := Scalar.indexCast v3062
  let c0_1843 : Index := 0#32
  ![v3069.toNat, 0]
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024 : Shape := ⟨1, ![1024]⟩
abbrev S32768x1024 : Shape := ⟨2, ![32768, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S32768x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
The embedding kernel's protocol: devices, element sets, contents and the schedule of payments.

Device `16x + 4y + z` holds a quarter of the table's rows (by `y`) and looks up half of the ids (by `x`).
Each looks its ids up in four chunks of 128 rows, zeroing the rows it does not hold; the four devices of
a ring along `y` add the chunks (reduce-scatter), pass the sums round (all-gather), and the two devices
of a pair along `x` exchange their halves.
-/
module

public import proofs.«01_k».proof.Proof.Gen.KernelIdeal.Skeleton
public import proofs.«01_k».proof.Proof.Gen.KernelIdeal.Regions
public import Idealize.ShloMosaic.Lib.Rounds
public import Idealize.ShloMosaic.Lib.Batch
public import Idealize.ShloMosaic.Lib.Tactic

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

/-! ## The resource algebra: the pipeline's rounds, the protocol's, and the batches' counters -/

/-- The protocol's rounds: three duties at a barrier, one elsewhere. -/
abbrev UB : Type := Rounds.URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans embR
abbrev EC : UEmb Counters (MT nD τ sig Unit (Elt F) ℕ UU ℕ) := countersEmb (U := UU)

/-! ## Devices -/

/-- The device's position on its ring. -/
def yy (c : Dev nD) : ℕ := c.val / 4 % 4

/-- The device of `c`'s ring at position `y % 4`. -/
def at_ (c : Dev nD) (y : ℕ) : Dev nD := ⟨c.val / 16 * 16 + y % 4 * 4 + c.val % 4, by
  have := c.isLt; show _ < 32; have h : c.val < 32 := this; omega⟩

abbrev rgt (c : Dev nD) : Dev nD := at_ c (yy c + 1)
abbrev lft (c : Dev nD) : Dev nD := at_ c (yy c + 3)
/-- The device of the other half of the ids at the same ring position. -/
def xp (c : Dev nD) : Dev nD := ⟨(c.val + 16) % 32, Nat.mod_lt _ (by decide)⟩

theorem lft_rgt (c : Dev nD) : lft (rgt c) = c := by revert c; decide +kernel
theorem rgt_lft (c : Dev nD) : rgt (lft c) = c := by revert c; decide +kernel
theorem xp_xp (c : Dev nD) : xp (xp c) = c := by revert c; decide +kernel
theorem yy_rgt (c : Dev nD) : yy (rgt c) = (yy c + 1) % 4 := by revert c; decide +kernel
theorem yy_lft (c : Dev nD) : yy (lft c) = (yy c + 3) % 4 := by revert c; decide +kernel
theorem yy_xp (c : Dev nD) : yy (xp c) = yy c := by revert c; decide +kernel
theorem yy_lt (c : Dev nD) : yy c < 4 := Nat.mod_lt _ (by decide)
theorem at_rgt (c : Dev nD) (y : ℕ) : at_ (rgt c) y = at_ c y := by
  have h : ∀ c : Dev nD, ∀ y : Fin 4, at_ (rgt c) y.val = at_ c y.val := by decide +kernel
  have := h c ⟨y % 4, Nat.mod_lt _ (by decide)⟩
  simpa [at_] using this
theorem at_yy (c : Dev nD) (y : ℕ) (h : y % 4 = yy c) : at_ c y = c := by
  have h' : ∀ c : Dev nD, at_ c (yy c) = c := by decide +kernel
  have e : at_ c y = at_ c (yy c) := by
    apply Fin.ext; simp only [at_]; rw [h, Nat.mod_eq_of_lt (yy_lt c)]
  rw [e, h']

/-- The chunk that step `k` of the ring's second half hands on: the device's own sum first. -/
def ch (c : Dev nD) (k : ℕ) : Fin 4 := ⟨(yy c + 9 - k) % 4, Nat.mod_lt _ (by decide)⟩
/-- The chunk gathered at step `j`, sent at step `j` of the ring's first half. -/
def gc (c : Dev nD) (j : ℕ) : Fin 4 := ⟨(yy c + 8 - j) % 4, Nat.mod_lt _ (by decide)⟩

theorem ch_rgt (c : Dev nD) (p : ℕ) (hp : p < 8) : ch (rgt c) (p + 1) = ch c p := by
  apply Fin.ext; simp only [ch, yy_rgt]; have := yy_lt c; omega
theorem ch_xp (c : Dev nD) (k : ℕ) : ch (xp c) k = ch c k := by simp only [ch, yy_xp]
theorem gc_rgt (c : Dev nD) (p : ℕ) (hp : p < 8) : gc (rgt c) (p + 1) = gc c p := by
  apply Fin.ext; simp only [gc, yy_rgt]; have := yy_lt c; omega
theorem ch_succ (c : Dev nD) (p : ℕ) (hp : p < 8) : ch c (p + 1) = gc c p := by
  apply Fin.ext; simp only [gc, ch]; congr 1; omega

/-! ## Buffers and element sets -/

abbrev bI : Ref sig .tc := cc0_stg0_0
abbrev bS : Ref sig .tc := cc0_stg1_0
abbrev bO : Ref sig .tc := cc0_stg2_0
abbrev bE : Ref sig .tc := main_arg1
abbrev bF : Ref sig .tc := cc0_scratch0
abbrev bA : Ref sig .tc := cc0_scratch1
abbrev bG : Ref sig .tc := cc0_scratch2
abbrev bX : Ref sig .tc := cc0_scratch3
abbrev bR : Ref sig .tc := cc0_scratch4

/-- The elements of buffer `b` on device `c` in `S`, at share `q`, holding `f`. -/
abbrev pt (c : Dev nD) (b : Ref sig .tc) (S : Finset b.ty.Idx) (q : PosShare TreeShare) (f : b.ty.Contents (Elt F)) : sProp 𝕄 :=
  ((c : Thread nD τ).loc b) ↦[S]{q} f

/-- Rows `128 k …` of a buffer of 512 rows. -/
def cS (k : Fin 4) : Finset S512x1024.Idx := Finset.univ.filter fun i => (i 0).val / 128 = k.val
/-- Row `r` of a buffer of 512 rows. -/
def rS (r : ℕ) : Finset S512x1024.Idx := Finset.univ.filter fun i => (i 0).val = r
/-- Row `r` of the table's block. -/
def eS (r : ℕ) : Finset S8192x1024.Idx := Finset.univ.filter fun i => (i 0).val = r
/-- Slot `p` of the receive buffer. -/
def pS (p : ℕ) : Finset S3x128x1024.Idx := Finset.univ.filter fun i => (i 0).val = p

/-- A write through a view agrees on the view's elements with contents that read as what was written. -/
theorem write_eq_on {κ : Kind} {sp : Space} {s : Shape} {e : EltTy} (v : View sig κ sp s e) {Val : EltTy → Type}
    (f g : v.ty.Contents Val) (w : s.Idx → Val e) (h : ∀ x, w x = v.read Val g x) :
    ∀ i ∈ v.set, v.write Val f w Finset.univ i = g i := by
  intro i hi
  obtain ⟨x, -, rfl⟩ := Finset.mem_map.mp hi
  rw [View.write_emb_of_mem _ _ (Finset.mem_univ x), h x, View.read_apply, cast_cast, cast_eq]

/-- One index of a buffer of 512 rows. -/
abbrev ix (r : Fin 512) (l : Fin 1024) : S512x1024.Idx := Shape.pair r l

theorem mem_chunk (k : Fin 4) (off : Fin 2 → ℕ) (inb) (h : off = ![128 * k.val, 0]) :
    (Rect.unit (s := S512x1024) off S128x1024.size inb).set = cS k := by
  subst h
  ext i
  rw [Rect.mem_set_unit, cS, Finset.mem_filter]
  have h1 : (i 1).val < 1024 := (i 1).isLt
  constructor
  · intro h; refine ⟨Finset.mem_univ _, ?_⟩
    have := h 0; simp only [Matrix.cons_val_zero] at this
    have h3 : (S128x1024.size 0) = 128 := rfl
    omega
  · rintro ⟨-, h⟩ a
    fin_cases a
    · show 128 * k.val ≤ (i 0).val ∧ (i 0).val < 128 * k.val + 128; omega
    · show 0 ≤ (i 1).val ∧ (i 1).val < 0 + 1024; omega

theorem mem_row (r : ℕ) (off : Fin 2 → ℕ) (inb) (h : off = ![r, 0]) :
    (Rect.unit (s := S512x1024) off S1x1024.size inb).set = rS r := by
  subst h
  ext i
  rw [Rect.mem_set_unit, rS, Finset.mem_filter]
  have h1 : (i 1).val < 1024 := (i 1).isLt
  constructor
  · intro h; refine ⟨Finset.mem_univ _, ?_⟩
    have := h 0; simp only [Matrix.cons_val_zero] at this
    have h3 : (S1x1024.size 0) = 1 := rfl
    omega
  · rintro ⟨-, h⟩ a
    fin_cases a
    · show r ≤ (i 0).val ∧ (i 0).val < r + 1; omega
    · show 0 ≤ (i 1).val ∧ (i 1).val < 0 + 1024; omega

theorem mem_erow (r : ℕ) (off : Fin 2 → ℕ) (inb) (h : off = ![r, 0]) :
    (Rect.unit (s := S8192x1024) off S1x1024.size inb).set = eS r := by
  subst h
  ext i
  rw [Rect.mem_set_unit, eS, Finset.mem_filter]
  have h1 : (i 1).val < 1024 := (i 1).isLt
  constructor
  · intro h; refine ⟨Finset.mem_univ _, ?_⟩
    have := h 0; simp only [Matrix.cons_val_zero] at this
    have h3 : (S1x1024.size 0) = 1 := rfl
    omega
  · rintro ⟨-, h⟩ a
    fin_cases a
    · show r ≤ (i 0).val ∧ (i 0).val < r + 1; omega
    · show 0 ≤ (i 1).val ∧ (i 1).val < 0 + 1024; omega

theorem mem_slot (p : ℕ) (inb) :
    (Rect.unit (s := S3x128x1024) ![p, 0, 0] S1x128x1024.size inb).set = pS p := by
  ext i
  rw [Rect.mem_set_unit, pS, Finset.mem_filter]
  have h1 : (i 1).val < 128 := (i 1).isLt
  have h2 : (i 2).val < 1024 := (i 2).isLt
  constructor
  · intro h; refine ⟨Finset.mem_univ _, ?_⟩
    have := h 0; simp only [Matrix.cons_val_zero] at this
    have h3 : (S1x128x1024.size 0) = 1 := rfl
    omega
  · rintro ⟨-, h⟩ a
    fin_cases a
    · show p ≤ (i 0).val ∧ (i 0).val < p + 1; omega
    · show 0 ≤ (i 1).val ∧ (i 1).val < 0 + 128; omega
    · show 0 ≤ (i 2).val ∧ (i 2).val < 0 + 1024; omega

/-! ## Contents: functions of the ids, their scales and the table's blocks on every device -/

variable (ids : Dev nD → S512.Idx → BitVec 32) (sc : Dev nD → S512x1.Idx → F .f32)
  (E : Dev nD → S8192x1024.Idx → F .f32)

/-- The index of a vector's element. -/
abbrev i1 (r : Fin 512) : S512.Idx := fun a => ⟨r.val, by
  obtain rfl : a = 0 := Subsingleton.elim (α := Fin 1) _ _; exact r.isLt⟩

/-- What the row buffer holds of a gathered row: the table's row the id names. -/
def gath (c : Dev nD) : S512x1024.Idx → F .f32 := fun i =>
  E c (Shape.pair (d := ![8192, 1024]) ⟨(ids c (i1 (i 0))).toNat % 8192, Nat.mod_lt _ (by decide)⟩ (i 1))

/-- A gathered row scaled and narrowed. -/
def part (c : Dev nD) : S512x1024.Idx → F .bf16 := fun i =>
  FloatOps.truncf .bf16 bitsLt_bf16_f32
    (FloatOps.mulf (gath ids E c i) (sc c (Shape.pair (d := ![512, 1]) (i 0) ⟨0, by decide⟩)))

/-- The sum of the parts of the device and of the `p` devices before it on its ring. -/
def psum (p : ℕ) : Dev nD → S512x1024.Idx → F .bf16 := match p with
  | 0 => part ids sc E
  | p + 1 => fun c i => FloatOps.addf (part ids sc E c i) (psum p (lft c) i)

/-- The whole sum of a row, added up at the device its chunk is sent round to last. -/
def tot (c : Dev nD) : S512x1024.Idx → F .bf16 := fun i => psum ids sc E 3 (at_ c ((i 0).val / 128 + 3)) i

/-- What the receive buffer's slot `p` holds: the ring neighbour's sums of the chunk it sent. -/
def recvd (p : ℕ) (c : Dev nD) : S3x128x1024.Idx → F .bf16 := fun i =>
  psum ids sc E p (lft c) (ix ⟨128 * (gc c (p + 1)).val + (i 1).val, by
    have h : (i 1).val < 128 := (i 1).isLt
    have := (gc c (p + 1)).isLt; omega⟩ (i 2))

theorem tot_rgt (c : Dev nD) : tot ids sc E (rgt c) = tot ids sc E c := by
  funext i; simp only [tot, at_rgt]

/-! ## The cells -/

/-- The protocol's semaphores: the barrier; the first half's send and receive; the second half's; the pair's. -/
def smOf (i : Fin 21) : SemLoc sig := if h : i.val = 0 then .reg barrier0 else .dma ⟨34 + i.val, by
  have := i.isLt; show _ < 55; omega⟩

abbrev cell (c : Dev nD) (i : Fin 21) : GSem nD τ sig := ((c : Thread nD τ), smOf i)

/-- The units of a chunk's copy. -/
abbrev NC : ℕ := ((Memref.whole bA).slice (Rect.unit (s := S512x1024) ![0, 0] S128x1024.size (by decide)) (fun _ => rfl)).view.dmaCredit
theorem NC_pos : 0 < NC := View.dmaCredit_pos _ (by decide)

abbrev iRS (p : Fin 3) : Fin 21 := ⟨1 + p.val, by have := p.isLt; omega⟩
abbrev iRR (p : Fin 3) : Fin 21 := ⟨4 + p.val, by have := p.isLt; omega⟩
abbrev iAS (p : Fin 3) : Fin 21 := ⟨7 + p.val, by have := p.isLt; omega⟩
abbrev iAR (p : Fin 3) : Fin 21 := ⟨10 + p.val, by have := p.isLt; omega⟩
abbrev iXS (k : Fin 4) : Fin 21 := ⟨13 + k.val, by have := k.isLt; omega⟩
abbrev iXR (k : Fin 4) : Fin 21 := ⟨17 + k.val, by have := k.isLt; omega⟩

theorem cell_inj {c c' : Dev nD} {i i' : Fin 21} (h : cell c i = cell c' i') : c = c' ∧ i = i' := by
  have h1 := congrArg Prod.fst h
  have h2 : smOf i = smOf i' := congrArg Prod.snd h
  have key : ∀ i i' : Fin 21, smOf i = smOf i' → i = i' := by decide +kernel
  exact ⟨congrArg Prod.fst h1, key _ _ h2⟩

/-! ## The schedule of payments -/

/-- Paid to a barrier: by the device ahead, the slots and the chunks this device is to fill there; by the
    device of the other half, the chunks to fill there; by the device behind, nothing. -/
def barPay (c : Dev nD) (d : Fin 3) : sProp 𝕄 :=
  if d = 0 then
    iprop((bigSep Finset.univ fun p : Fin 3 => iprop((∃ f, pt (F := F) (rgt c) bR (pS p.val) fullShare f) ∗ reached ER (cell (rgt c) (iRR p)) 0))
      ∗ (bigSep Finset.univ fun p : Fin 3 => iprop((∃ f, pt (F := F) (rgt c) bG (cS (ch c p.val)) fullShare f) ∗ reached ER (cell (rgt c) (iAR p)) 0)))
  else if d = 1 then
    bigSep Finset.univ fun k : Fin 4 => iprop((∃ f, pt (F := F) (xp c) bX (cS (ch c k.val)) fullShare f) ∗ reached ER (cell (xp c) (iXR k)) 0)
  else iprop(emp)

/-- Paid by a copy: its source back, or its destination filled. -/
def pay (c : Dev nD) (n : ℕ) : sProp 𝕄 :=
  if n < 4 then pt c bA (cS (gc c (n - 1))) fullShare (psum ids sc E (n - 1) c)
  else if n < 7 then pt c bR (pS (n - 4)) fullShare (recvd ids sc E (n - 4) c)
  else if n < 10 then pt c bG (cS (ch c (n - 7))) fullShare.right (tot ids sc E c)
  else if n < 13 then pt c bG (cS (gc c (n - 10))) fullShare (tot ids sc E c)
  else if n < 17 then pt c bG (cS (ch c (n - 13))) fullShare.left (tot ids sc E c)
  else pt c bX (cS (ch c (n - 17))) fullShare (tot ids sc E (xp c))

def rd : Rounds.Schedule (GSem nD τ sig) (Fin 3) 𝕄 where
  duties g r := if r = 0 ∧ g.1.2 = .tc then
      (match g.2 with | .reg _ => Finset.univ | .dma n => if 35 ≤ n.val then {0} else ∅) else ∅
  unitless _ := False
  amount g _ _ := match g.2 with | .reg _ => 1 | .dma _ => NC
  payload g _ d := match g.2 with | .reg _ => barPay g.1.1 d | .dma n => pay ids sc E g.1.1 (n.val - 34)
  amount_pos g _ _ _ := by
    cases g.2 with
    | reg _ => exact Nat.one_pos
    | dma _ => exact NC_pos

instance rd_storable (g : GSem nD τ sig) (r : ℕ) (d : Fin 3) :
    BI.Storable (upEmb : UEmb _ 𝕄) ((rd ids sc E).payload g r d) := by
  show BI.Storable upEmb (match g.2 with | .reg _ => barPay g.1.1 d | .dma n => pay ids sc E g.1.1 (n.val - 34))
  unfold barPay pay
  (repeat' split) <;> infer_instance

theorem duties_bar (c : Dev nD) : (rd ids sc E).duties (cell c 0) 0 = Finset.univ := rfl
theorem duties_dma (c : Dev nD) (i : Fin 21) (hi : i ≠ 0) : (rd ids sc E).duties (cell c i) 0 = {0} := by
  revert hi; revert i; intro i; fin_cases i <;> first | (intro h; exact absurd rfl h) | (intro _; rfl)
theorem duties_later (g : GSem nD τ sig) : ∀ r, 1 ≤ r → (rd ids sc E).duties g r = ∅ :=
  fun r hr => by dsimp only [rd]; rw [if_neg (fun h => by omega)]

theorem amount_bar (c : Dev nD) (d : Fin 3) : (rd ids sc E).amount (cell c 0) 0 d = 1 := rfl
theorem amount_dma (c : Dev nD) (i : Fin 21) (hi : i ≠ 0) (d : Fin 3) : (rd ids sc E).amount (cell c i) 0 d = NC := by
  have h0 : i.val ≠ 0 := fun h => hi (Fin.ext h)
  simp only [rd, cell, smOf, dif_neg h0]

theorem expect_bar (c : Dev nD) : (rd ids sc E).expect (cell c 0) 0 = 3 := by
  unfold Schedule.expect Schedule.amountOf
  rw [duties_bar]; simp only [amount_bar]; rfl
theorem expect_dma (c : Dev nD) (i : Fin 21) (hi : i ≠ 0) : (rd ids sc E).expect (cell c i) 0 = NC := by
  unfold Schedule.expect Schedule.amountOf; rw [duties_dma ids sc E c i hi, Finset.sum_singleton, amount_dma ids sc E c i hi]

theorem payload_bar (c : Dev nD) (d : Fin 3) : (rd ids sc E).payload (cell c 0) 0 d = barPay c d := rfl
theorem payload_dma (c : Dev nD) (i : Fin 21) (hi : i ≠ 0) (d : Fin 3) :
    (rd ids sc E).payload (cell c i) 0 d = pay ids sc E c i.val := by
  have h0 : i.val ≠ 0 := fun h => hi (Fin.ext h)
  simp only [rd, cell, smOf, dif_neg h0, Nat.add_sub_cancel_left]

theorem rest_bar (c : Dev nD) :
    bigSep ((rd ids sc E).duties (cell c 0) 0 \ ∅) (fun u => (rd ids sc E).payload (cell c 0) 0 u)
      = bigSep Finset.univ (fun d : Fin 3 => barPay (F := F) c d) := by
  rw [Finset.sdiff_empty, duties_bar]; rfl
theorem rest_dma (c : Dev nD) (i : Fin 21) (hi : i ≠ 0) :
    bigSep ((rd ids sc E).duties (cell c i) 0 \ ∅) (fun u => (rd ids sc E).payload (cell c i) 0 u) = pay ids sc E c i.val := by
  rw [Finset.sdiff_empty, duties_dma ids sc E c i hi, bigSep_singleton, payload_dma ids sc E c i hi]

theorem pay_RS (c : Dev nD) (p : Fin 3) : pay ids sc E c (iRS p).val = pt c bA (cS (gc c p.val)) fullShare (psum ids sc E p.val c) := by
  fin_cases p <;> rfl
theorem pay_RR (c : Dev nD) (p : Fin 3) : pay ids sc E c (iRR p).val = pt c bR (pS p.val) fullShare (recvd ids sc E p.val c) := by
  fin_cases p <;> rfl
theorem pay_AS (c : Dev nD) (p : Fin 3) : pay ids sc E c (iAS p).val = pt c bG (cS (ch c p.val)) fullShare.right (tot ids sc E c) := by
  fin_cases p <;> rfl
theorem pay_AR (c : Dev nD) (p : Fin 3) : pay ids sc E c (iAR p).val = pt c bG (cS (gc c p.val)) fullShare (tot ids sc E c) := by
  fin_cases p <;> rfl
theorem pay_XS (c : Dev nD) (k : Fin 4) : pay ids sc E c (iXS k).val = pt c bG (cS (ch c k.val)) fullShare.left (tot ids sc E c) := by
  fin_cases k <;> rfl
theorem pay_XR (c : Dev nD) (k : Fin 4) : pay ids sc E c (iXR k).val = pt c bX (cS (ch c k.val)) fullShare (tot ids sc E (xp c)) := by
  fin_cases k <;> rfl

/-! ## What a device owes, in the order it pays; the levels -/

/-- A device's payments: the barriers behind, ahead and across; then the copies' receipts. -/
def dues (c : Dev nD) : List (GSem nD τ sig × ℕ) :=
  [(cell (lft c) 0, 1), (cell (rgt c) 0, 1), (cell (xp c) 0, 1),
   (cell (rgt c) (iRR 0), NC), (cell (rgt c) (iRR 1), NC), (cell (rgt c) (iRR 2), NC),
   (cell (xp c) (iXR 0), NC), (cell (rgt c) (iAR 0), NC), (cell (xp c) (iXR 1), NC), (cell (rgt c) (iAR 1), NC),
   (cell (xp c) (iXR 2), NC), (cell (rgt c) (iAR 2), NC), (cell (xp c) (iXR 3), NC)]

/-- The tallies of a list of payments. -/
def owed : List (GSem nD τ sig × ℕ) → CellTallies nD τ sig Unit
  | [] => 0
  | p :: l => owed l + tallyAt p.1 () p.2

/-- What is owed after `k` payments. -/
def left (c : Dev nD) (k : ℕ) : CellTallies nD τ sig Unit := owed ((dues c).drop k)

theorem owed_mem (l : List (GSem nD τ sig × ℕ)) (g : GSem nD τ sig) (u : Unit) (h : 0 < owed l g u) : ∃ p ∈ l, p.1 = g := by
  induction l with
  | nil => exact absurd h (Nat.lt_irrefl 0)
  | cons p l ih =>
    by_cases e : p.1 = g
    · exact ⟨p, List.mem_cons_self, e⟩
    · have h' : 0 < owed l g u := by
        have e2 : tallyAt p.1 () p.2 g u = 0 := by
          rw [tallyAt_apply, if_neg (fun h => e h.1.symm)]
        have e3 : owed (p :: l) g u = owed l g u + tallyAt p.1 () p.2 g u := rfl
        omega
      obtain ⟨q, hq, e⟩ := ih h'
      exact ⟨q, List.mem_cons_of_mem _ hq, e⟩

def L (g : GSem nD τ sig) : Finset Unit := if g.1.2 = .tc then {()} else ∅

/-- The row copies' cells and the send cells lowest, then the barrier, then the receive cells in the order they fill. -/
def lv (g : GSem nD τ sig) (_ : Unit) : ℕ := match g.2 with
  | .reg _ => 1
  | .dma n => if n.val < 38 then 0 else if n.val < 41 then n.val - 36 else if n.val < 44 then 0
      else if n.val < 47 then n.val - 39 else if n.val < 51 then 0 else n.val - 43

theorem L_tc (c : Dev nD) (sm : SemLoc sig) : L ((c : Thread nD τ), sm) = {()} := if_pos rfl
theorem L_of_ne (g : GSem nD τ sig) (h : g.1.2 ≠ .tc) : L g = ∅ := if_neg h

/-- A wait at a level below every payment still owed. -/
theorem mayWait (c : Dev nD) (sm : SemLoc sig) (k : ℕ)
    (h : ∀ p ∈ (dues c).drop k, lv ((c : Thread nD τ), sm) () < lv p.1 ()) :
    (levAts L lv : sProp 𝕄) ⊢ MayWait (c : Thread nD τ) sm () (left c k) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := owed_mem _ g u hg
      have : ∀ p ∈ dues c, p.1.1.2 = .tc := by
        intro p hp; simp only [dues, List.mem_cons, List.not_mem_nil, or_false] at hp
        rcases hp with rfl | rfl | rfl | rfl | rfl | rfl | rfl | rfl | rfl | rfl | rfl | rfl | rfl <;> rfl
      unfold L; rw [if_pos (this p (List.mem_of_mem_drop hp))]; exact Finset.mem_singleton_self _)
    (fun p hp => by rw [Finset.mem_singleton.mp hp])
    (fun g u hg => by
      obtain ⟨p, hp, rfl⟩ := owed_mem _ g u hg
      exact h p hp)

end Cert.KernelIdeal.Pf

end
-- ==== Proof.Gather.lean ====
/-
Steps of a device's program, and the rows it gathers.
-/
module

public import proofs.«01_k».proof.Proof.Common

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

abbrev 𝒱₀ : Variants := Variants.none

/-- Running a program of device `c`'s core. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev aI : Memref sig .tc .smem S512 .i32 := Memref.whole bI
abbrev aS : Memref sig .tc .vmem S512x1 .f32 := Memref.whole bS
abbrev aE : Memref sig .tc .hbm S8192x1024 .f32 := Memref.whole bE
abbrev aO : Memref sig .tc .vmem S1024x1024 .f32 := Memref.whole bO
abbrev aF : Memref sig .tc .vmem S512x1024 .f32 := Memref.whole bF
abbrev aA : Memref sig .tc .vmem S512x1024 .bf16 := Memref.whole bA
abbrev aG : Memref sig .tc .vmem S512x1024 .bf16 := Memref.whole bG
abbrev aX : Memref sig .tc .vmem S512x1024 .bf16 := Memref.whole bX
abbrev aR : Memref sig .tc .vmem S3x128x1024 .bf16 := Memref.whole bR

section Steps

variable (c : Dev nD)

theorem seq {α β : Type} {p : Prog (TpuEff nD τ sig (Elt F) Λ₀ .tc) α} {k : α → Prog (TpuEff nD τ sig (Elt F) Λ₀ .tc) β}
    {P : sProp 𝕄} {Mid : α → sProp 𝕄} {Q : β → sProp 𝕄} (h1 : P ⊢ wpc c p Mid) (h2 : ∀ a, Mid a ⊢ wpc c (k a) Q) :
    P ⊢ wpc c (p >>= k) Q := by
  unfold wpc at *; rw [wp_bind]; exact h1.trans (wp_mono _ _ _ h2)

theorem step {α β : Type} {p : Prog (TpuEff nD τ sig (Elt F) Λ₀ .tc) α} {k : α → Prog (TpuEff nD τ sig (Elt F) Λ₀ .tc) β}
    {P : sProp 𝕄} {Mid : α → sProp 𝕄} {Q : β → sProp 𝕄} (h1 : P ⊢ wpc c p Mid) :
    P ⊢ iprop((∀ a, Mid a -∗ wpc c (k a) Q) -∗ wpc c (p >>= k) Q) := by
  unfold wpc at *; rw [wp_bind]; exact h1.trans (wp_wand _ _ _)

theorem ret {α : Type} {a : α} {P : sProp 𝕄} {Q : α → sProp 𝕄} (h : P ⊢ Q a) :
    P ⊢ wpc c (pure a) Q := h.trans (fupd_intro)

theorem assume {β : Type} {P : Prop} {d : Decidable P} {k : PLift P → Prog (TpuEff nD τ sig (Elt F) Λ₀ .tc) β}
    {X : sProp 𝕄} {Q : β → sProp 𝕄} (h : P) (h2 : X ⊢ wpc c (k ⟨h⟩) Q) :
    X ⊢ wpc c (Prog.lift (TpuEff.assume P d) >>= k) Q :=
  h2.trans (wp_assume 𝒱₀ (c : Thread nD τ) none Set.univ h)

/-- A load of an id. -/
theorem idLoad (r : Rect S512) (h1 : r.shape.numel = 1) (hp) (R : sProp 𝕄) :
    iprop(pt c bI Finset.univ fullShare (ids c) ∗ R)
      ⊢ wpc c (smemLoad aI r h1 hp) (fun v => iprop(⌜v = (aI.access r).read (Elt F) (ids c) (Shape.Idx.first (h1.symm ▸ Nat.one_pos))⌝
          ∗ pt c bI Finset.univ fullShare (ids c) ∗ R)) := by
  unfold wpc smemLoad
  iintro ⟨H, HR⟩
  iapply (wp_smemLoadElt 𝒱₀ (c : Thread nD τ) none Set.univ (m := aI) (r := r) (S := Finset.univ) (q := fullShare) (f := ids c) (Finset.subset_univ _)) $$ H
  iintro H
  rw [wp_ret]; imodintro
  isplitr
  · ipureintro; rfl
  isplitl [H]; · iexact H
  iexact HR

end Steps

/-- The bound every id of a device meets. -/
def Small : Prop := ∀ c i, (ids c i).toNat < 8192

theorem bounded (hb : Small ids) (c : Dev nD) (r : Rect S512) (x) :
    ((aI.access r).read (Elt F) (ids c) x : BitVec 32).toNat < 8192 := hb c _

/-! ## The row copies' batches -/

/-- The units of a row's copy. -/
abbrev NR : ℕ := (aF.slice (Rect.unit (s := S512x1024) ![0, 0] S1x1024.size (by decide)) (fun _ => rfl)).view.dmaCredit
theorem NR_pos : 0 < NR := View.dmaCredit_pos _ (by decide)

/-- The semaphore of the row copies whose row is `s` modulo 32. -/
abbrev gs (s : Fin 32) : DmaSem sig := ⟨3 + s.val, by have := s.isLt; show _ < 55; omega⟩

theorem gs_eq (o : Fin 1 → ℕ) (inb) (k : Fin 32) (h : o = ![k.val]) :
    ((cc0_scratch5.slice (Rect.unit (s := S32) o S1.size inb)).squeeze S_ squeezes_S1_S_).sem = gs k := by
  subst h; revert k; decide +kernel

/-- The row of the table that id `r` names. -/
def idAt (c : Dev nD) (r : ℕ) : ℕ := if h : r < 512 then (ids c (i1 ⟨r, h⟩)).toNat else 0

/-- What row `r`'s copy, holding read token `i`, delivers: the row filled and the token's row back. -/
def deliv (c : Dev nD) (r i : ℕ) : sProp 𝕄 :=
  iprop(pt c bF (rS r) fullShare (gath ids E c) ∗ pt c bE (eS (idAt ids c r)) (Transfers.shareTokN fullShare i) (E c))

instance deliv_storable (c : Dev nD) (r i : ℕ) : BI.Storable (upEmb : UEmb _ 𝕄) (deliv ids E c r i) := by
  unfold deliv; infer_instance

/-- Semaphore `s`'s four copies of the chunk from row `B`: `j` issued, `u` units waited for. -/
abbrev Bat (c : Dev nD) (B : ℕ) (s : Fin 32) (j u : ℕ) : sProp 𝕄 :=
  Batch EC (c : Thread nD τ) (.dma (gs s)) () NR (fun k : Fin 4 => deliv ids E c (B + s.val + 32 * k.val) (s.val + 32 * k.val)) j u

section Gather

variable (c : Dev nD)

theorem row_write (r row : ℕ) (hr : idAt ids c r = row) (hrow : row < 8192) (hr5 : r < 512)
    (o4 : Fin 2 → ℕ) (i4) (o3 : Fin 2 → ℕ) (i3) (h4 : o4 = ![row, 0]) (h3 : o3 = ![r, 0]) (f : bF.ty.Contents (Elt F)) :
    ∀ i ∈ rS r, (aF.slice (Rect.unit (s := S512x1024) o3 S1x1024.size i3) (fun _ => rfl)).view.write (Elt F) f
      ((aE.slice (Rect.unit (s := S8192x1024) o4 S1x1024.size i4) (fun _ => rfl)).view.read (Elt F) (E c)) Finset.univ i = gath ids E c i := by
  subst h4 h3
  have hs : (aF.slice (Rect.unit (s := S512x1024) ![r, 0] S1x1024.size i3) (fun _ => rfl)).view.set = rS r :=
    (View.set_slice_whole _ _).trans (mem_row r _ _ rfl)
  rw [← hs]
  refine write_eq_on (Val := Elt F) (aF.slice (Rect.unit (s := S512x1024) ![r, 0] S1x1024.size i3) (fun _ => rfl)).view f (gath ids E c) _ ?_
  intro x
  have hx : (x 0).val = 0 := Nat.lt_one_iff.mp (x 0).isLt
  show E c _ = E c _
  congr 1
  funext a
  apply Fin.ext
  fin_cases a
  · show row + 1 * (x 0).val = (ids c (i1 ⟨r + 1 * (x 0).val, _⟩)).toNat % 8192
    have e : (⟨r + 1 * (x 0).val, by omega⟩ : Fin 512) = ⟨r, hr5⟩ := by apply Fin.ext; show r + 1 * (x 0).val = r; omega
    have : (ids c (i1 ⟨r, hr5⟩)).toNat = row := by rw [← hr, idAt, dif_pos hr5]
    rw [e, this, Nat.mod_eq_of_lt hrow]; omega
  · rfl

theorem issue (B : ℕ) (s : Fin 32) (j u row : ℕ) (hj : j < 4) (hu : u ≤ j * NR) (hB : B + s.val + 32 * j < 512)
    (hr : idAt ids c (B + s.val + 32 * j) = row) (hrow : row < 8192)
    (o4 : Fin 2 → ℕ) (i4) (o3 : Fin 2 → ℕ) (i3) (o2 : Fin 1 → ℕ) (i2)
    (h4 : o4 = ![row, 0]) (h3 : o3 = ![B + s.val + 32 * j, 0]) (h2 : o2 = ![s.val]) (hw1 hw2 hw3) (f : bF.ty.Contents (Elt F)) :
    iprop(pt c bE (eS row) (Transfers.shareTokN fullShare (s.val + 32 * j)) (E c) ∗ pt c bF (rS (B + s.val + 32 * j)) fullShare f ∗ Bat ids E c B s j u)
      ⊢ wpc c (Prog.lift (.enqueueDma (aE.slice (Rect.unit (s := S8192x1024) o4 S1x1024.size i4) (fun _ => rfl))
          (.here (aF.slice (Rect.unit (s := S512x1024) o3 S1x1024.size i3) (fun _ => rfl)))
          (.dma ((cc0_scratch5.slice (Rect.unit (s := S32) o2 S1.size i2)).squeeze S_ squeezes_S1_S_).sem) hw1 hw2 hw3))
        (fun _ => Bat ids E c B s (j + 1) u) := by
  have hset : (aE.slice (Rect.unit (s := S8192x1024) o4 S1x1024.size i4) (fun _ => rfl)).view.set = eS row :=
    (View.set_slice_whole _ _).trans (mem_erow row _ _ h4)
  have hsd : (aF.slice (Rect.unit (s := S512x1024) o3 S1x1024.size i3) (fun _ => rfl)).view.set = rS (B + s.val + 32 * j) :=
    (View.set_slice_whole _ _).trans (mem_row _ _ _ h3)
  revert hw1 hw2 hw3
  rw [gs_eq o2 i2 s h2]
  intro hw1 hw2 hw3
  unfold wpc
  iintro ⟨HE, HF, HB⟩
  iapply (Transfers.wp_dmaBatch EC 𝒱₀ (c : Thread nD τ) none (src := aE.slice (Rect.unit (s := S8192x1024) o4 S1x1024.size i4) (fun _ => rfl))
    (dst := aF.slice (Rect.unit (s := S512x1024) o3 S1x1024.size i3) (fun _ => rfl)) (fs := E c) (fd := f) (Sd := rS (B + s.val + 32 * j))
    (q := Transfers.shareTokN fullShare (s.val + 32 * j)) () NR rfl (Finset.subset_of_eq hsd) hj hu
    (D := fun k : Fin 4 => deliv ids E c (B + s.val + 32 * k.val) (s.val + 32 * k.val)) (by
      rw [hset]
      unfold deliv
      rw [hr]
      exact sep_mono (Entails.of_eq (pointsTo_congr (row_write ids E c _ row hr hrow hB o4 i4 o3 i3 h4 h3 f))) .rfl)) $$ [HE HF HB]
  · rw [hset]
    isplitl [HE]; · iexact HE
    isplitl [HF]; · iexact HF
    iexact HB
  iintro HB
  rw [wp_ret]; imodintro; iexact HB

/-- What every step of a chunk's row copies keeps: the ids, the levels, what is owed. -/
abbrev Keep (n : ℕ) : sProp 𝕄 :=
  iprop(levAts L lv ∗ pt c bI Finset.univ fullShare (ids c) ∗ ∃ W, owes (c : Thread nD τ) (left c n) W)

/-- The level of the protocol's cell `i`, the same on every device. -/
def lvI (i : Fin 21) : ℕ := lv (cell 0 i) ()

theorem lv_above (k : ℕ) (c : Dev nD) (i : Fin 21) (h : k < lvI i) : k < lv (cell c i) () := h

theorem level_gs (s : Fin 32) (n : ℕ) (hn : 3 ≤ n) : ∀ p ∈ (dues c).drop n, lv ((c : Thread nD τ), .dma (gs s)) () < lv p.1 () := by
  intro p hp
  have h3 : p ∈ (dues c).drop 3 := by
    obtain ⟨d, rfl⟩ := Nat.exists_eq_add_of_le hn
    rw [← List.drop_drop] at hp; exact List.mem_of_mem_drop hp
  have e : lv ((c : Thread nD τ), .dma (gs s)) () = 0 := if_pos (by show 3 + s.val < 38; have := s.isLt; omega)
  rw [e]
  simp only [dues, List.drop, List.mem_cons, List.not_mem_nil, or_false] at h3
  rcases h3 with rfl | rfl | rfl | rfl | rfl | rfl | rfl | rfl | rfl | rfl <;> exact lv_above _ _ _ (by decide)

theorem waitRow (n : ℕ) (hn : 3 ≤ n) (B : ℕ) (s : Fin 32) (j u : ℕ) (hu : u + NR ≤ NR * j) (R : sProp 𝕄)
    (o2 : Fin 1 → ℕ) (i2) (o3 : Fin 2 → ℕ) (i3) (h2 : o2 = ![s.val]) {srcw : Memref sig .tc .hbm S1x1024 .f32} {hw1 hw2} :
    iprop(Keep ids c n ∗ Bat ids E c B s j u ∗ R)
      ⊢ wpc c (Prog.lift (.waitDma2 ((cc0_scratch5.slice (Rect.unit (s := S32) o2 S1.size i2)).squeeze S_ squeezes_S1_S_).sem srcw
          (aF.slice (Rect.unit (s := S512x1024) o3 S1x1024.size i3) (fun _ => rfl)) hw1 hw2))
        (fun _ => iprop(Keep ids c n ∗ Bat ids E c B s j (u + NR) ∗ R)) := by
  rw [gs_eq o2 i2 s h2]
  unfold wpc
  iintro ⟨⟨#Hlev, HI, ⟨%W, HO⟩⟩, HB, HR⟩
  iapply (Transfers.wp_waitBatchMulO EC 𝒱₀ (c : Thread nD τ) none () (N := NR) 1 (by rw [Nat.one_mul]; rfl) (u := u)
    (by rw [Nat.one_mul]; exact hu) (O := left c n) (W := W) (j := j)
    (D := fun k : Fin 4 => deliv ids E c (B + s.val + 32 * k.val) (s.val + 32 * k.val))) $$ [HB HO]
  · isplitl [HB]; · iexact HB
    isplitl [HO]; · iexact HO
    iapply (mayWait c (.dma (gs s)) n (level_gs c s n hn)); iexact Hlev
  rw [Nat.one_mul]
  iintro ⟨HB, HO⟩
  rw [wp_ret]; imodintro
  isplitl [HI HO]
  · isplitr; · iexact Hlev
    isplitl [HI]; · iexact HI
    iexists _; iexact HO
  isplitl [HB]; · iexact HB
  iexact HR

end Gather

end Cert.KernelIdeal.Pf

end
-- ==== Proof.GatherLoop.lean ====
/-
The loop that starts a chunk's row copies.
-/
module

public import proofs.«01_k».proof.Proof.Gather

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)

/-- One member of a family taken out, to be put back changed. -/
theorem upd {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  rw [bigSep_erase (Finset.mem_univ i), bigSep_erase (Finset.mem_univ i) (Φ := Ψ),
    bigSep_congr (s := Finset.univ.erase i) (fun j hj => h j (Finset.ne_of_mem_erase hj))]
  exact sep_mono .rfl (wand_intro sep_comm.1)

/-- One trip of the loop that starts a chunk's row copies: the id's row is started and, from the 32nd trip on, the
    copy of 32 rows before is waited for. -/
def tripProg (o1 : Fin 1 → ℕ) (n1 : ∀ a, o1 a + S1.size a ≤ S512.size a) (C1 : BitVec 32 → Prop) (d1 : ∀ v, Decidable (C1 v))
    (o2 : Fin 1 → ℕ) (n2 : ∀ a, o2 a + S1.size a ≤ S32.size a) (o3 : Fin 2 → ℕ) (n3 : ∀ a, o3 a + S1x1024.size a ≤ S512x1024.size a)
    (o4 : BitVec 32 → Fin 2 → ℕ) (n4 : ∀ v, C1 v → ∀ a, o4 v a + S1x1024.size a ≤ S8192x1024.size a) (cond : BitVec 1)
    (o5 : Fin 1 → ℕ) (n5 : cond = 1#1 → ∀ a, o5 a + S1.size a ≤ S512.size a) (C2 : BitVec 32 → Prop) (d2 : ∀ v, Decidable (C2 v))
    (o6 : Fin 1 → ℕ) (n6 : cond = 1#1 → ∀ a, o6 a + S1.size a ≤ S32.size a) (o7 : Fin 2 → ℕ)
    (n7 : cond = 1#1 → ∀ a, o7 a + S1x1024.size a ≤ S512x1024.size a)
    (o8 : BitVec 32 → Fin 2 → ℕ) (n8 : ∀ v, C2 v → cond = 1#1 → ∀ a, o8 v a + S1x1024.size a ≤ S8192x1024.size a) :
    Prog (TpuEff nD τ sig (Elt F) Λ₀ .tc) Unit := do
  let v : Elt F .i32 ← smemLoad aI (Rect.unit (s := S512) o1 S1.size n1) numel1_S1 rfl
  have hw1 : C1 v := (← Prog.lift (TpuEff.assume (C1 v) (d1 v))).down
  let s0 : DmaSems sig S1 := cc0_scratch5.slice (Rect.unit (s := S32) o2 S1.size n2)
  let s1 : DmaSems sig S_ := s0.squeeze S_ squeezes_S1_S_
  let dst : Memref sig .tc .vmem S1x1024 .f32 := aF.slice (Rect.unit (s := S512x1024) o3 S1x1024.size n3) (fun _ => rfl)
  let src : Memref sig .tc .hbm S1x1024 .f32 := aE.slice (Rect.unit (s := S8192x1024) (o4 v) S1x1024.size (n4 v hw1)) (fun _ => rfl)
  Prog.lift (.enqueueDma src (.here dst) (.dma s1.sem) (View.wordExact_bits rfl) (View.wordExact_bits rfl) ⟨Or.inl rfl, trivial⟩)
  if h : cond = 1#1 then do
    let w : Elt F .i32 ← smemLoad aI (Rect.unit (s := S512) o5 S1.size (n5 h)) numel1_S1 rfl
    have hw2 : C2 w := (← Prog.lift (TpuEff.assume (C2 w) (d2 w))).down
    let t0 : DmaSems sig S1 := cc0_scratch5.slice (Rect.unit (s := S32) o6 S1.size (n6 h))
    let t1 : DmaSems sig S_ := t0.squeeze S_ squeezes_S1_S_
    let dst' : Memref sig .tc .vmem S1x1024 .f32 := aF.slice (Rect.unit (s := S512x1024) o7 S1x1024.size (n7 h)) (fun _ => rfl)
    let src' : Memref sig .tc .hbm S1x1024 .f32 := aE.slice (Rect.unit (s := S8192x1024) (o8 w) S1x1024.size (n8 w hw2 h)) (fun _ => rfl)
    Prog.lift (.waitDma2 t1.sem src' dst' (View.wordExact_bits rfl) (View.wordExact_bits rfl))
    pure ⟨⟩
  else do
    pure ⟨⟩
  pure ⟨⟩

/-- Row `i` of a chunk with `t` rows started: the row and a read token of the table, or what its copy does not hold. -/
def X (c : Dev nD) (B t : ℕ) (i : Fin 128) : sProp 𝕄 :=
  if t ≤ i.val then iprop((∃ f, pt (F := F) c bF (rS (B + i.val)) fullShare f) ∗ pt c bE Finset.univ (Transfers.shareTokN fullShare i.val) (E c))
  else pt c bE (Finset.univ \ eS (idAt ids c (B + i.val))) (Transfers.shareTokN fullShare i.val) (E c)

/-- The copies started on semaphore `s` by the first `t` trips. -/
abbrev jj (t : ℕ) (s : Fin 32) : ℕ := (t + 31 - s.val) / 32

/-- After `t` trips. -/
def Loop (c : Dev nD) (n B t : ℕ) (R : sProp 𝕄) : sProp 𝕄 :=
  iprop(Keep ids c n ∗ (bigSep Finset.univ fun s : Fin 32 => Bat ids E c B s (jj t s) ((jj t s - 1) * NR))
    ∗ bigSep Finset.univ (X ids E c B t) ∗ R)

theorem read_id (c : Dev nD) (r : ℕ) (hr : r < 512) (o1 : Fin 1 → ℕ) (n1) (h1 : o1 = ![r]) (x) :
    ((aI.access (Rect.unit (s := S512) o1 S1.size n1)).read (Elt F) (ids c) x : BitVec 32).toNat = idAt ids c r := by
  subst h1
  rw [idAt, dif_pos hr]
  show (ids c _).toNat = _
  congr 2
  funext a
  obtain rfl : a = 0 := Subsingleton.elim (α := Fin 1) _ _
  apply Fin.ext
  have hx : (x 0).val = 0 := Nat.lt_one_iff.mp (x 0).isLt
  show r + 1 * (x 0).val = r
  omega

theorem loop_open (c : Dev nD) (n B t : ℕ) (ht : t < 128) (R : sProp 𝕄) (hs : t % 32 < 32) :
    Loop ids E c n B t R ⊢ iprop(Keep ids c n ∗ Bat ids E c B ⟨t % 32, hs⟩ (t / 32) ((t / 32 - 1) * NR)
      ∗ (∃ f, pt (F := F) c bF (rS (B + t)) fullShare f) ∗ pt c bE (eS (idAt ids c (B + t))) (Transfers.shareTokN fullShare t) (E c)
      ∗ (Keep ids c n ∗ Bat ids E c B ⟨t % 32, hs⟩ (t / 32 + 1) ((t / 32) * NR) -∗ Loop ids E c n B (t + 1) R)) := by
  have e1 : jj t ⟨t % 32, hs⟩ = t / 32 := by unfold jj; dsimp only; omega
  have e2 : jj (t + 1) ⟨t % 32, hs⟩ = t / 32 + 1 := by unfold jj; dsimp only; omega
  unfold Loop
  iintro ⟨HK, HB, HX, HR⟩
  ihave HX' := (upd (⟨t, ht⟩ : Fin 128) (Φ := X ids E c B t) (Ψ := X ids E c B (t + 1)) (fun j hj => by
    have : j.val ≠ t := fun h => hj (Fin.ext h)
    unfold X; by_cases h : t ≤ j.val
    · rw [if_pos h, if_pos (by omega)]
    · rw [if_neg h, if_neg (by omega)])) $$ HX
  ihave HB' := (upd (⟨t % 32, hs⟩ : Fin 32) (Φ := fun s => Bat ids E c B s (jj t s) ((jj t s - 1) * NR))
    (Ψ := fun s => Bat ids E c B s (jj (t + 1) s) ((jj (t + 1) s - 1) * NR)) (fun s hs => by
    have : s.val ≠ t % 32 := fun h => hs (Fin.ext h)
    have h2 := s.isLt
    have : jj t s = jj (t + 1) s := by unfold jj; omega
    rw [this])) $$ HB
  rw [e1, e2]
  icases HX' with ⟨HX, HXR⟩
  icases HB' with ⟨HB, HBR⟩
  have eX : X ids E c B t ⟨t, ht⟩ = iprop((∃ f, pt (F := F) c bF (rS (B + t)) fullShare f) ∗ pt c bE Finset.univ (Transfers.shareTokN fullShare t) (E c)) := if_pos (le_refl t)
  have eX' : X ids E c B (t + 1) ⟨t, ht⟩ = pt c bE (Finset.univ \ eS (idAt ids c (B + t))) (Transfers.shareTokN fullShare t) (E c) :=
    if_neg (by show ¬ t + 1 ≤ t; omega)
  ihave HX := (Entails.of_eq eX) $$ HX
  icases HX with ⟨HF, HE⟩
  ihave HE' := (pointsTo_split_subset (Finset.subset_univ (eS (idAt ids c (B + t))))).1 $$ HE
  icases HE' with ⟨HE, HEr⟩
  isplitl [HK]; · iexact HK
  isplitl [HB]; · iexact HB
  isplitl [HF]; · iexact HF
  isplitl [HE]; · iexact HE
  iintro ⟨HK, HB⟩
  isplitl [HK]; · iexact HK
  isplitl [HB HBR]; · iapply HBR; iexact HB
  isplitl [HEr HXR]; · iapply HXR; iapply (Entails.of_eq eX'.symm); iexact HEr
  iexact HR

set_option maxHeartbeats 1000000 in
theorem trip (hb : Small ids) (c : Dev nD) (n : ℕ) (hn : 3 ≤ n) (B t : ℕ) (ht : t < 128) (hB : B + 128 ≤ 512) (R : sProp 𝕄)
    (o1 n1 C1 d1 o2 n2 o3 n3 o4 n4 cond o5 n5 C2 d2 o6 n6 o7 n7 o8 n8)
    (h1 : o1 = ![B + t]) (h2 : o2 = ![t % 32]) (h3 : o3 = ![B + t, 0]) (h4 : ∀ v : BitVec 32, o4 v = ![v.toNat, 0])
    (hC1 : ∀ v : BitVec 32, v.toNat < 8192 → C1 v) (hc : cond = 1#1 ↔ 32 ≤ t) (hC2 : ∀ v : BitVec 32, v.toNat < 8192 → C2 v)
    (h6 : cond = 1#1 → o6 = ![t % 32]) :
    Loop ids E c n B t R
      ⊢ wpc c (tripProg o1 n1 C1 d1 o2 n2 o3 n3 o4 n4 cond o5 n5 C2 d2 o6 n6 o7 n7 o8 n8)
          (fun _ => Loop ids E c n B (t + 1) R) := by
  have hs : t % 32 < 32 := Nat.mod_lt _ (by decide)
  have hj : t / 32 < 4 := by omega
  have et : t % 32 + 32 * (t / 32) = t := Nat.mod_add_div t 32
  have et' : B + t % 32 + 32 * (t / 32) = B + t := by omega
  have hlt : ∀ (r : Rect S512) x, ((aI.access r).read (Elt F) (ids c) x : BitVec 32).toNat < 8192 := bounded ids hb c
  have hrow : idAt ids c (B + t) < 8192 := by rw [idAt, dif_pos (by omega)]; exact hb c _
  refine (loop_open ids E c n B t ht R hs).trans ?_
  unfold tripProg
  iintro ⟨⟨#Hlev, HI, HO⟩, HB, ⟨%f, HF⟩, HE, Hback⟩
  iapply (step c (idLoad ids c (Rect.unit (s := S512) o1 S1.size n1) numel1_S1 rfl iprop(emp))) $$ [HI]
  · isplitl [HI]; · iexact HI
    iempintro
  iintro %v ⟨%hv, HI, -⟩
  have hv1 : v.toNat = idAt ids c (B + t) := by rw [hv]; exact read_id ids c (B + t) (by omega) o1 n1 h1 _
  have hv2 : v.toNat < 8192 := by rw [hv1]; exact hrow
  iapply (assume c (hC1 v hv2) .rfl)
  iapply (step c (issue ids E c B ⟨t % 32, hs⟩ (t / 32) ((t / 32 - 1) * NR) (idAt ids c (B + t)) hj
    (Nat.mul_le_mul_right _ (Nat.sub_le _ _)) (by show B + t % 32 + 32 * (t / 32) < 512; omega) (by show idAt ids c (B + t % 32 + 32 * (t / 32)) = _; rw [et']) hrow (o4 v) (n4 v (hC1 v hv2)) o3 n3 o2 n2 (by rw [h4, hv1]) (by rw [h3]; show _ = ![B + t % 32 + 32 * (t / 32), 0]; rw [et']) h2 _ _ _ f)) $$ [HB HF HE]
  · dsimp only
    rw [et, et']
    isplitl [HE]; · iexact HE
    isplitl [HF]; · iexact HF
    iexact HB
  iintro %_ HB
  by_cases h : cond = 1#1
  · rw [dif_pos h]
    have h32 := hc.mp h
    iapply (step c (idLoad ids c (Rect.unit (s := S512) o5 S1.size (n5 h)) numel1_S1 rfl iprop(emp))) $$ [HI]
    · isplitl [HI]; · iexact HI
      iempintro
    iintro %w ⟨%hw, HI, -⟩
    iapply (assume c (hC2 w (by rw [hw]; exact hlt _ _)) .rfl)
    iapply (step c (waitRow ids E c n hn B ⟨t % 32, hs⟩ (t / 32 + 1) ((t / 32 - 1) * NR) (by
      have : (t / 32 - 1) * NR + NR = (t / 32) * NR := by
        obtain ⟨q, hq⟩ := Nat.exists_eq_add_of_le' (show 1 ≤ t / 32 by omega)
        rw [hq, Nat.add_sub_cancel, Nat.succ_mul]
      rw [this, Nat.mul_comm]; exact Nat.mul_le_mul_left _ (Nat.le_succ _)) iprop(emp) o6 (n6 h) o7 (n7 h) (h6 h))) $$ [HI HO HB]
    · isplitl [HI HO]
      · isplitr; · iexact Hlev
        isplitl [HI]; · iexact HI
        iexact HO
      isplitl [HB]; · iexact HB
      iempintro
    iintro %_ ⟨HK, HB, -⟩
    have : (t / 32 - 1) * NR + NR = (t / 32) * NR := by
      obtain ⟨q, hq⟩ := Nat.exists_eq_add_of_le' (show 1 ≤ t / 32 by omega)
      rw [hq, Nat.add_sub_cancel, Nat.succ_mul]
    rw [this]
    iapply (ret c .rfl)
    iapply Hback
    isplitl [HK]; · iexact HK
    iexact HB
  · rw [dif_neg h]
    have h0 : t / 32 = 0 := by
      have := mt hc.mpr h; omega
    rw [h0]
    iapply (ret c .rfl)
    iapply Hback
    isplitl [HI HO]
    · isplitr; · iexact Hlev
      isplitl [HI]; · iexact HI
      iexact HO
    iexact HB

end Cert.KernelIdeal.Pf

end
-- ==== Proof.GatherEnd.lean ====
/-
A chunk's row copies planned, waited for and collected.
-/
module

public import proofs.«01_k».proof.Proof.GatherLoop
public import Idealize.ShloMosaic.Lib.Pipeline.Launch

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

/-- A family of pairs, side by side. -/
theorem pairs_split {I : Type} (s : Finset I) (Φ Ψ : I → sProp 𝕄) : bigSep s (fun i => iprop(Φ i ∗ Ψ i)) ⊢ iprop(bigSep s Φ ∗ bigSep s Ψ) :=
  Entails.of_eq (bigSep_sep _ _ _)

theorem pairs_join {I : Type} (s : Finset I) (Φ Ψ : I → sProp 𝕄) : iprop(bigSep s Φ ∗ bigSep s Ψ) ⊢ bigSep s (fun i => iprop(Φ i ∗ Ψ i)) :=
  Entails.of_eq (bigSep_sep _ _ _).symm

/-- The row copies' semaphores, all at zero. -/
abbrev Sems0 (c : Dev nD) : sProp 𝕄 := bigSep Finset.univ fun s : Fin 32 => semVal ((c : Thread nD τ), .dma (gs s)) 0

/-- What the row copies of chunk `k` leave aside: the table's remaining share and the other chunks' rows. -/
abbrev Aside (c : Dev nD) (k : Fin 4) : sProp 𝕄 :=
  iprop(pt c bE Finset.univ (Transfers.shareDrop fullShare 128) (E c) ∗ ∃ f, pt (F := F) c bF (Finset.univ \ cS k) fullShare f)

theorem rows_disjoint (k : Fin 4) : ∀ t ∈ (Finset.univ : Finset (Fin 128)), ∀ t' ∈ (Finset.univ : Finset (Fin 128)), t ≠ t' →
    Disjoint (rS (128 * k.val + t.val)) (rS (128 * k.val + t'.val)) := by
  intro t _ t' _ h
  rw [Finset.disjoint_left]
  intro i h1 h2
  rw [rS, Finset.mem_filter] at h1 h2
  exact h (Fin.ext (by omega))

theorem rows_chunk (k : Fin 4) : (Finset.univ : Finset (Fin 128)).biUnion (fun t => rS (128 * k.val + t.val)) = cS k := by
  ext i
  simp only [Finset.mem_biUnion, Finset.mem_univ, true_and, rS, cS, Finset.mem_filter]
  constructor
  · rintro ⟨t, h⟩; have := t.isLt; omega
  · intro h
    exact ⟨⟨(i 0).val - 128 * k.val, by omega⟩, by dsimp only; omega⟩

theorem rows_split (c : Dev nD) (k : Fin 4) (f : bF.ty.Contents (Elt F)) :
    (pt c bF (cS k) fullShare f : sProp 𝕄) = bigSep Finset.univ fun t : Fin 128 => pt c bF (rS (128 * k.val + t.val)) fullShare f := by
  rw [← rows_chunk k]
  exact pointsTo_biUnion Finset.univ _ (rows_disjoint k)

/-- The start of a chunk's row copies: every semaphore's four copies planned, every row and read token dealt. -/
theorem start (c : Dev nD) (n : ℕ) (k : Fin 4) (R : sProp 𝕄) :
    iprop(Keep ids c n ∗ Sems0 c ∗ (∃ f, pt c bF Finset.univ fullShare f) ∗ pt c bE Finset.univ fullShare (E c) ∗ R)
      ⊢ |={Set.univ}=> Loop ids E c n (128 * k.val) 0 iprop(Aside E c k ∗ R) := by
  have hS : (Sems0 c : sProp 𝕄) ⊢ iprop(|={Set.univ}=> bigSep Finset.univ fun s : Fin 32 => Bat ids E c (128 * k.val) s 0 0) :=
    (bigSep_mono (s := Finset.univ) (Ψ := fun s : Fin 32 => iprop(|={Set.univ}=> Bat ids E c (128 * k.val) s 0 0)) fun s _ =>
      Transfers.batch_alloc' EC (c : Thread nD τ) () NR _).trans (bigSep_fupd _ _)
  iintro ⟨HK, HS, ⟨%f, HF⟩, HE, HR⟩
  imod hS $$ HS with HB
  imodintro
  ihave HF' := (pointsTo_split_subset (Finset.subset_univ (cS k))).1 $$ HF
  icases HF' with ⟨HF, HFr⟩
  ihave HF' := (Entails.of_eq (rows_split c k f)) $$ HF
  ihave HE' := (Transfers.pointsTo_toks_split fullShare 128) $$ HE
  icases HE' with ⟨HEd, HE⟩
  unfold Loop
  isplitl [HK]; · iexact HK
  isplitl [HB]
  · have e : ∀ s : Fin 32, jj 0 s = 0 := fun s => by unfold jj; omega
    simp only [e, Nat.zero_sub, Nat.zero_mul]
    iexact HB
  isplitl [HF' HE]
  · have e : (fun i : Fin 128 => X ids E c (128 * k.val) 0 i) = fun i : Fin 128 => iprop((∃ f, pt (F := F) c bF (rS (128 * k.val + i.val)) fullShare f)
        ∗ pt c bE Finset.univ (Transfers.shareTokN fullShare i.val) (E c)) := funext fun i => if_pos (Nat.zero_le _)
    iapply (Entails.of_eq (congrArg (bigSep Finset.univ) e.symm))
    iapply (pairs_join _ _ _)
    isplitl [HF']
    · have hF : (bigSep Finset.univ fun t : Fin 128 => pt c bF (rS (128 * k.val + t.val)) fullShare f)
          ⊢ bigSep Finset.univ fun t : Fin 128 => iprop(∃ f, pt (F := F) c bF (rS (128 * k.val + t.val)) fullShare f) :=
        bigSep_mono fun i _ => exists_intro (Φ := fun f => pt c bF (rS (128 * k.val + i.val)) fullShare f) f
      iapply hF; iexact HF'
    iexact HE
  isplitl [HFr HEd]
  · isplitl [HEd]; · iexact HEd
    iexists f; iexact HFr
  iexact HR

/-- With `k` of the last 32 copies waited for. -/
def Drain (c : Dev nD) (n B k : ℕ) (R : sProp 𝕄) : sProp 𝕄 :=
  iprop(Keep ids c n ∗ (bigSep Finset.univ fun s : Fin 32 => Bat ids E c B s 4 (if s.val < k then NR * 4 else NR * 3))
    ∗ bigSep Finset.univ (X ids E c B 128) ∗ R)

theorem drain_start (c : Dev nD) (n B : ℕ) (R : sProp 𝕄) : Loop ids E c n B 128 R = Drain ids E c n B 0 R := by
  have e : ∀ s : Fin 32, jj 128 s = 4 := fun s => by have := s.isLt; unfold jj; omega
  unfold Loop Drain
  simp only [e, Nat.not_lt_zero, if_false, Nat.add_sub_cancel, Nat.mul_comm NR]

theorem drain_wait (c : Dev nD) (n : ℕ) (hn : 3 ≤ n) (B k : ℕ) (hk : k < 32) (R : sProp 𝕄)
    (o2 : Fin 1 → ℕ) (i2) (o3 : Fin 2 → ℕ) (i3) (h2 : o2 = ![k]) {srcw : Memref sig .tc .hbm S1x1024 .f32} {hw1 hw2} :
    Drain ids E c n B k R
      ⊢ wpc c (Prog.lift (.waitDma2 ((cc0_scratch5.slice (Rect.unit (s := S32) o2 S1.size i2)).squeeze S_ squeezes_S1_S_).sem srcw
          (aF.slice (Rect.unit (s := S512x1024) o3 S1x1024.size i3) (fun _ => rfl)) hw1 hw2))
        (fun _ => Drain ids E c n B (k + 1) R) := by
  unfold Drain
  iintro ⟨HK, HB, HX, HR⟩
  ihave HB' := (upd (⟨k, hk⟩ : Fin 32) (Φ := fun s => Bat ids E c B s 4 (if s.val < k then NR * 4 else NR * 3))
    (Ψ := fun s => Bat ids E c B s 4 (if s.val < k + 1 then NR * 4 else NR * 3)) (fun s hs => by
      have : s.val ≠ k := fun h => hs (Fin.ext h)
      by_cases h : s.val < k
      · rw [if_pos h, if_pos (by omega)]
      · rw [if_neg h, if_neg (by omega)])) $$ HB
  icases HB' with ⟨HB, HBR⟩
  rw [if_neg (Nat.lt_irrefl k), if_pos (Nat.lt_succ_self k)]
  have h := waitRow ids E c n hn B ⟨k, hk⟩ 4 (NR * 3) (le_of_eq (Nat.mul_succ NR 3).symm)
    iprop((Bat ids E c B ⟨k, hk⟩ 4 (NR * 4) -∗ bigSep Finset.univ fun s : Fin 32 => Bat ids E c B s 4 (if s.val < k + 1 then NR * 4 else NR * 3))
      ∗ bigSep Finset.univ (X ids E c B 128) ∗ R) o2 i2 o3 i3 h2 (srcw := srcw) (hw1 := hw1) (hw2 := hw2)
  iapply (h.trans (wp_mono _ _ _ fun _ => (by
    iintro ⟨HK, HB, HBR, HX, HR⟩
    isplitl [HK]; · iexact HK
    isplitl [HB HBR]; · iapply HBR; iexact HB
    isplitl [HX]; · iexact HX
    iexact HR)))
  isplitl [HK]; · iexact HK
  isplitl [HB]; · iexact HB
  isplitl [HBR]; · iexact HBR
  isplitl [HX]; · iexact HX
  iexact HR

theorem drain_load (c : Dev nD) (hb : Small ids) (n B k : ℕ) (R : sProp 𝕄) (r : Rect S512) (h1 : r.shape.numel = 1) (hp)
    {β : Type} {kk : Elt F .i32 → Prog (TpuEff nD τ sig (Elt F) Λ₀ .tc) β} {Q : β → sProp 𝕄}
    (h : ∀ v : BitVec 32, v.toNat < 8192 → Drain ids E c n B k R ⊢ wpc c (kk v) Q) :
    Drain ids E c n B k R ⊢ wpc c (smemLoad aI r h1 hp >>= kk) Q := by
  have hD : Drain ids E c n B k R ⊢ iprop(pt c bI Finset.univ fullShare (ids c) ∗ (pt c bI Finset.univ fullShare (ids c) -∗ Drain ids E c n B k R)) := by
    unfold Drain
    iintro ⟨⟨Hl, HI, HO⟩, HR⟩
    isplitl [HI]; · iexact HI
    iintro HI
    isplitl [Hl HI HO]
    · isplitl [Hl]; · iexact Hl
      isplitl [HI]; · iexact HI
      iexact HO
    iexact HR
  refine hD.trans (seq c (idLoad ids c r h1 hp _) fun v => ?_)
  iintro ⟨%hv, HI, HR⟩
  iapply (h v (by rw [hv]; exact bounded ids hb c r _))
  iapply HR; iexact HI

/-- A wait and what follows it. -/
theorem drain_wait' (c : Dev nD) (n : ℕ) (hn : 3 ≤ n) (B k : ℕ) (hk : k < 32) (R : sProp 𝕄)
    (o2 : Fin 1 → ℕ) (i2) (o3 : Fin 2 → ℕ) (i3) (h2 : o2 = ![k]) {srcw : Memref sig .tc .hbm S1x1024 .f32} {hw1 hw2}
    {β : Type} {kk : PUnit → Prog (TpuEff nD τ sig (Elt F) Λ₀ .tc) β} {Q : β → sProp 𝕄} (h : Drain ids E c n B (k + 1) R ⊢ wpc c (kk ⟨⟩) Q) :
    Drain ids E c n B k R
      ⊢ wpc c (Prog.lift (.waitDma2 ((cc0_scratch5.slice (Rect.unit (s := S32) o2 S1.size i2)).squeeze S_ squeezes_S1_S_).sem srcw
          (aF.slice (Rect.unit (s := S512x1024) o3 S1x1024.size i3) (fun _ => rfl)) hw1 hw2) >>= kk) Q :=
  seq c (drain_wait ids E c n hn B k hk R o2 i2 o3 i3 h2) fun _ => h

theorem pairs_disjoint : ∀ s ∈ (Finset.univ : Finset (Fin 32)), ∀ s' ∈ (Finset.univ : Finset (Fin 32)), s ≠ s' →
    Disjoint ((Finset.univ : Finset (Fin 128)).filter fun i => i.val % 32 = s.val) ((Finset.univ : Finset (Fin 128)).filter fun i => i.val % 32 = s'.val) := by
  decide +kernel

/-- The copies, semaphore by semaphore, are the copies row by row. -/
theorem by_rows (Φ : ℕ → sProp 𝕄) :
    (bigSep Finset.univ fun s : Fin 32 => bigSep Finset.univ fun k : Fin 4 => Φ (s.val + 32 * k.val)) = bigSep Finset.univ fun i : Fin 128 => Φ i.val := by
  have e : (Finset.univ : Finset (Fin 128)) = (Finset.univ : Finset (Fin 32)).biUnion fun s => (Finset.univ : Finset (Fin 4)).image fun k => ⟨s.val + 32 * k.val, by omega⟩ := by
    decide +kernel
  rw [e, bigSep_biUnion_eq _ _ _ (by decide +kernel)]
  refine bigSep_congr fun s _ => ?_
  have hi : Function.Injective (fun k : Fin 4 => (⟨s.val + 32 * k.val, by omega⟩ : Fin 128)) := fun a b h => by
    have h' := congrArg Fin.val h
    exact Fin.ext (by dsimp only at h'; omega)
  have em : (Finset.univ : Finset (Fin 4)).image (fun k => (⟨s.val + 32 * k.val, by omega⟩ : Fin 128)) = (Finset.univ : Finset (Fin 4)).map ⟨_, hi⟩ :=
    (Finset.map_eq_image ⟨_, hi⟩ _).symm
  rw [em, BI.bigSep_map]
  rfl

/-- The end of a chunk's row copies: the chunk filled, the table whole, the semaphores at zero. -/
theorem collect (c : Dev nD) (n : ℕ) (k : Fin 4) (R : sProp 𝕄) :
    Drain ids E c n (128 * k.val) 32 iprop(Aside E c k ∗ R)
      ⊢ |={Set.univ}=> iprop(Keep ids c n ∗ Sems0 c ∗ pt c bF (cS k) fullShare (gath ids E c) ∗ (∃ f, pt (F := F) c bF (Finset.univ \ cS k) fullShare f)
          ∗ pt c bE Finset.univ fullShare (E c) ∗ R) := by
  unfold Drain
  iintro ⟨HK, HB, HX, ⟨HEd, HFr⟩, HR⟩
  have e : (fun s : Fin 32 => Bat ids E c (128 * k.val) s 4 (if s.val < 32 then NR * 4 else NR * 3)) = fun s : Fin 32 => Bat ids E c (128 * k.val) s 4 (NR * 4) :=
    funext fun s => by rw [if_pos s.isLt]
  rw [e]
  have hS : (bigSep Finset.univ fun s : Fin 32 => Bat ids E c (128 * k.val) s 4 (NR * 4))
      ⊢ iprop(|={Set.univ}=> bigSep Finset.univ fun s : Fin 32 => iprop((bigSep Finset.univ fun k' : Fin 4 =>
          deliv ids E c (128 * k.val + s.val + 32 * k'.val) (s.val + 32 * k'.val)) ∗ semVal ((c : Thread nD τ), .dma (gs s)) 0)) :=
    (bigSep_mono (s := Finset.univ) fun s _ => Transfers.batch_collect' EC (c : Thread nD τ) NR_pos).trans (bigSep_fupd _ _)
  imod hS $$ HB with HB
  imodintro
  ihave HB' := (pairs_split _ _ _) $$ HB
  icases HB' with ⟨HD, HS⟩
  ihave HD' := (Entails.of_eq ((bigSep_congr fun s _ => bigSep_congr fun k' _ => by rw [Nat.add_assoc]).trans
    (by_rows (F := F) (fun i => deliv ids E c (128 * k.val + i) i)))) $$ HD
  have hD : (bigSep Finset.univ fun i : Fin 128 => deliv ids E c (128 * k.val + i.val) i.val)
      ⊢ iprop((bigSep Finset.univ fun i : Fin 128 => pt c bF (rS (128 * k.val + i.val)) fullShare (gath ids E c))
        ∗ bigSep Finset.univ fun i : Fin 128 => pt c bE (eS (idAt ids c (128 * k.val + i.val))) (Transfers.shareTokN fullShare i.val) (E c)) :=
    pairs_split _ _ _
  ihave HD := hD $$ HD'
  icases HD with ⟨HF, HE⟩
  isplitl [HK]; · iexact HK
  isplitl [HS]; · iexact HS
  isplitl [HF]
  · iapply (Entails.of_eq (rows_split c k (gath ids E c)).symm); iexact HF
  isplitl [HFr]; · iexact HFr
  isplitl [HEd HE HX]
  · iapply (Transfers.pointsTo_toks_join fullShare 128)
    isplitl [HEd]; · iexact HEd
    have eX : (fun i : Fin 128 => X ids E c (128 * k.val) 128 i) = fun i : Fin 128 => pt c bE (Finset.univ \ eS (idAt ids c (128 * k.val + i.val))) (Transfers.shareTokN fullShare i.val) (E c) :=
      funext fun i => if_neg (by have := i.isLt; omega)
    ihave HX' := (Entails.of_eq (congrArg (bigSep Finset.univ) eX)) $$ HX
    ihave H := (pairs_join Finset.univ _ _) $$ [HE HX']
    · isplitl [HE]; · iexact HE
      iexact HX'
    have hJ : (bigSep Finset.univ fun i : Fin 128 => iprop(pt c bE (eS (idAt ids c (128 * k.val + i.val))) (Transfers.shareTokN fullShare i.val) (E c)
          ∗ pt c bE (Finset.univ \ eS (idAt ids c (128 * k.val + i.val))) (Transfers.shareTokN fullShare i.val) (E c)))
        ⊢ bigSep Finset.univ fun i : Fin 128 => pt c bE Finset.univ (Transfers.shareTokN fullShare i.val) (E c) :=
      bigSep_mono fun i _ => (pointsTo_split_subset (Finset.subset_univ _)).2
    iapply hJ
    iexact H
  iexact HR

/-- A row an id names lies in the table's block. -/
theorem row_ok (v : BitVec 32) (h : v.toNat < 8192) : ∀ a, (![v.toNat, 0] : Fin 2 → ℕ) a + S1x1024.size a ≤ S8192x1024.size a := by
  intro a; fin_cases a
  · show v.toNat + 1 ≤ 8192; omega
  · show 0 + 1024 ≤ 1024; omega

theorem pure_l {X : sProp 𝕄} {P : Prop} (h : P) : X ⊢ iprop(⌜P⌝ ∗ X) := by
  iintro H
  isplitr; · ipureintro; exact h
  iexact H

end Cert.KernelIdeal.Pf

end
-- ==== Proof.Comm.lean ====
/-
Loads, stores, signals, copies and their waits.
-/
module

public import proofs.«01_k».proof.Proof.GatherEnd
public import Idealize.ShloMosaic.Lib.Pipeline.Value

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

/-! ## Loads and stores -/

/-- Rows `128 k …` of contents of 512 rows. -/
def take {α : Type} (k : Fin 4) (f : S512x1024.Idx → α) : S128x1024.Idx → α := fun x =>
  f (ix ⟨128 * k.val + (x 0).val, by have : (x 0).val < 128 := (x 0).isLt; have := k.isLt; omega⟩ (x 1))

/-- The scales of those rows. -/
def takeS {α : Type} (k : Fin 4) (f : S512x1.Idx → α) : S128x1.Idx → α := fun x =>
  f (Shape.pair (d := ![512, 1]) ⟨128 * k.val + (x 0).val, by have : (x 0).val < 128 := (x 0).isLt; have := k.isLt; show _ < 512; omega⟩ (x 1))

theorem take_eq {α : Type} (k : Fin 4) (off : Fin 2 → ℕ) (inb) (h : off = ![128 * k.val, 0]) (f : S512x1024.Idx → α) :
    (fun x => f ((Rect.unit (s := S512x1024) off S128x1024.size inb).emb x)) = take k f := by
  subst h
  funext x
  refine congrArg f (funext fun a => Fin.ext ?_)
  fin_cases a
  · show 128 * k.val + 1 * (x 0).val = 128 * k.val + (x 0).val; omega
  · show 0 + 1 * (x 1).val = (x 1).val; omega

theorem takeS_eq {α : Type} (k : Fin 4) (off : Fin 2 → ℕ) (inb) (h : off = ![128 * k.val, 0]) (f : S512x1.Idx → α) :
    (fun x => f ((Rect.unit (s := S512x1) off S128x1.size inb).emb x)) = takeS k f := by
  subst h
  funext x
  refine congrArg f (funext fun a => Fin.ext ?_)
  fin_cases a
  · show 128 * k.val + 1 * (x 0).val = 128 * k.val + (x 0).val; omega
  · show 0 + 1 * (x 1).val = (x 1).val; omega

section Access

variable (c : Dev nD)

theorem ld {cs : CoreSpace} {s : Shape} {e : EltTy} (m : Memref sig .tc cs s e) (r : Rect s) (hl : m.view.LoadsAt r.toLoadRect)
    (S : Finset m.view.ty.Idx) (hS : (m.access r).set ⊆ S) (q : PosShare TreeShare) (f : m.view.ty.Contents (Elt F)) :
    (((c : Thread nD τ).loc m.view.ref) ↦[S]{q} f : sProp 𝕄)
      ⊢ wpc c (Prog.lift (.load m r.toLoadRect hl)) (fun v => iprop(⌜v = (m.access r).read (Elt F) f⌝ ∗ (((c : Thread nD τ).loc m.view.ref) ↦[S]{q} f))) := by
  unfold wpc
  iintro H
  iapply (wp_load_rect 𝒱₀ (c : Thread nD τ) none Set.univ (m := m) (r := r) (S := S) (q := q) (f := f) hS) $$ H
  iintro H
  rw [wp_ret]; imodintro
  isplitr; · ipureintro; rfl
  iexact H

theorem st {cs : CoreSpace} {s : Shape} {e : EltTy} (m : Memref sig .tc cs s e) (r : Rect s) (w : r.shape.Idx → Elt F e) (hx) (hm)
    (S : Finset m.view.ty.Idx) (hS : (m.access r).set = S) (g : m.view.ty.Contents (Elt F))
    (hw : ∀ x, w x = (m.access r).read (Elt F) g x) :
    (iprop(∃ f, ((c : Thread nD τ).loc m.view.ref) ↦[S]{fullShare} f) : sProp 𝕄)
      ⊢ wpc c (Prog.lift (.store m r w Finset.univ hx hm)) (fun _ => (((c : Thread nD τ).loc m.view.ref) ↦[S]{fullShare} g)) := by
  subst hS
  unfold wpc
  iintro ⟨%f, H⟩
  iapply (wp_store 𝒱₀ (c : Thread nD τ) none Set.univ (m := m) (r := r) (S := (m.access r).set) (f := f) (w := w) (Mk := Finset.univ) (subset_refl _)) $$ H
  iintro H
  rw [wp_ret]; imodintro
  iapply (Entails.of_eq (pointsTo_congr (write_eq_on (Val := Elt F) (m.access r) f g w hw))) $$ H

end Access

/-! ## The cells' invariants, a copy's tokens -/

/-- Every cell's invariant, under its name. -/
abbrev Inv (κ : GSem nD τ sig → ℕ) : sProp 𝕄 :=
  bigSep Finset.univ fun p : Dev nD × Fin 21 => cellInv ER (rd ids sc E) (κ (cell p.1 p.2)) (cell p.1 p.2)

theorem inv_at (κ : GSem nD τ sig → ℕ) (c : Dev nD) (i : Fin 21) :
    Inv ids sc E κ ⊢ cellInv ER (rd ids sc E) (κ (cell c i)) (cell c i) :=
  bigSep_elim (Φ := fun p : Dev nD × Fin 21 => cellInv ER (rd ids sc E) (κ (cell p.1 p.2)) (cell p.1 p.2)) (Finset.mem_univ (c, i))

/-- What a copy from `c` to `c'` needs: its two duties, its send cell's round. -/
abbrev Tk (c : Dev nD) (iS : Fin 21) (c' : Dev nD) (iR : Fin 21) : sProp 𝕄 :=
  iprop(dutyTok ER (cell c iS) 0 0 ∗ dutyTok ER (cell c' iR) 0 0 ∗ atPos ER (cell c iS) 0 ∅ 0 ∗ reached ER (cell c iS) 0)

/-- Elements of another device to be filled there, its receive cell open. -/
abbrev Dst (c' : Dev nD) (b : Ref sig .tc) (S : Finset b.ty.Idx) (iR : Fin 21) : sProp 𝕄 :=
  iprop((∃ f, pt (F := F) c' b S fullShare f) ∗ reached ER (cell c' iR) 0)

/-- A chunk's units expected at a cell of the device. -/
abbrev Rcv (c : Dev nD) (i : Fin 21) : sProp 𝕄 := iprop(atPos ER (cell c i) 0 ∅ 0 ∗ cred (tallyAt (cell c i) () NC))
/-- A cell done with. -/
abbrev Fin' (c : Dev nD) (i : Fin 21) : sProp 𝕄 := atPos ER (cell c i) 1 ∅ 0

theorem left_pay (c : Dev nD) (n : ℕ) (p : GSem nD τ sig × ℕ) (h : (dues c)[n]? = some p) :
    left c n = left c (n + 1) + tallyAt p.1 () p.2 := by
  obtain ⟨hn, rfl⟩ := List.getElem?_eq_some_iff.mp h
  unfold left
  rw [List.drop_eq_getElem_cons hn]
  rfl

theorem smOf_bar : smOf 0 = .reg barrier0 := rfl

section Comm

variable (κ : GSem nD τ sig → ℕ) (c : Dev nD)

theorem signal (n : ℕ) (c' : Dev nD) (d : Fin 3) (hdue : (dues c)[n]? = some (cell c' 0, 1)) :
    iprop(Inv ids sc E κ ∗ Keep ids c n ∗ dutyTok ER (cell c' 0) 0 d ∗ barPay c' d ∗ reached ER (cell c' 0) 0)
      ⊢ wpc c (semSignalWord c' barrier0 1#32) (fun _ => Keep ids c (n + 1)) := by
  have hp : (barPay (F := F) c' d : sProp 𝕄) ⊢ (rd ids sc E).payload ((c' : Thread nD τ), .reg barrier0) 0 d := Entails.of_eq (payload_bar ids sc E c' d).symm
  unfold wpc semSignalWord
  iintro ⟨#HI, ⟨#Hlev, Hids, ⟨%W, HO⟩⟩, Ht, Hp, #Hr⟩
  iapply (Rounds.wp_signal 𝒱₀ ER (rd ids sc E) (c : Thread nD τ) none (dst := (c' : Thread nD τ)) (sem := barrier0) (r := 0) (d := d) (k' := 1)
      (κ := κ (cell c' 0)) (by rw [show ((c' : Thread nD τ), SemLoc.reg barrier0) = cell c' 0 from rfl, duties_bar]; exact Finset.mem_univ _) rfl () (left c (n + 1))
      (left_pay c n _ hdue)) $$ [HO Ht Hp]
  · isplitr; · iapply (inv_at ids sc E κ c' 0); iexact HI
    isplitl [HO]; · iexact HO
    isplitl [Ht]; · iexact Ht
    isplitl [Hp]; · iapply hp; iexact Hp
    iexact Hr
  iintro HO
  rw [wp_ret]; imodintro
  isplitr; · iexact Hlev
  isplitl [Hids]; · iexact Hids
  iexists W; iexact HO

theorem barWait (n : ℕ) (hl : ∀ p ∈ (dues c).drop n, lv (cell c 0) () < lv p.1 ()) :
    iprop(Inv ids sc E κ ∗ Keep ids c n ∗ atPos ER (cell c 0) 0 ∅ 0 ∗ cred (tallyAt (cell c 0) () 3))
      ⊢ wpc c (semWaitWord barrier0 3#32) (fun _ => iprop(Keep ids c n ∗ Fin' c 0 ∗ bigSep Finset.univ (fun d : Fin 3 => barPay (F := F) c d))) := by
  have hp : (bigSep ((rd ids sc E).duties ((c : Thread nD τ), .reg barrier0) 0 \ ∅) (fun u => (rd ids sc E).payload ((c : Thread nD τ), .reg barrier0) 0 u) : sProp 𝕄)
      ⊢ bigSep Finset.univ (fun d : Fin 3 => barPay (F := F) c d) := Entails.of_eq (rest_bar ids sc E c)
  unfold wpc semWaitWord
  iintro ⟨#HI, ⟨#Hlev, Hids, ⟨%W, HO⟩⟩, Hat, Hc⟩
  iapply (Rounds.wp_wait_rest_token 𝒱₀ ER (rd ids sc E) (c : Thread nD τ) none (sm := .reg barrier0) (k' := 3) (κ := κ (cell c 0))
      (wpE_semWait_eq 𝒱₀ (c : Thread nD τ) none Set.univ) (Set.mem_univ _) () (O := left c n) (W := W) (R := 0) (m := 0) (T := ∅)
      ((Nat.zero_add 3).trans (expect_bar ids sc E c).symm)) $$ [Hc HO Hat]
  · isplitr; · iapply (inv_at ids sc E κ c 0); iexact HI
    isplitl [Hc]; · iexact Hc
    isplitl [HO]; · iexact HO
    isplitr; · iapply (mayWait c (.reg barrier0) n hl); iexact Hlev
    iexact Hat
  iintro ⟨HO, Hat, -, Hp⟩
  ihave Hp := hp $$ Hp
  rw [wp_ret]; imodintro
  isplitl [Hids HO]
  · isplitr; · iexact Hlev
    isplitl [Hids]; · iexact Hids
    iexists _; iexact HO
  isplitl [Hat]; · iexact Hat
  iexact Hp

/-- A wait for a copy: its cell's payment comes with the units. -/
theorem waitC (n : ℕ) (i : Fin 21) (hi : i ≠ 0) (s : DmaSem sig) (hs : smOf i = .dma s) (hl : ∀ p ∈ (dues c).drop n, lv (cell c i) () < lv p.1 ())
    {src dst : Memref sig .tc .vmem S128x1024 .bf16} (hN : dst.view.dmaCredit = NC) {h1 h2} :
    iprop(Inv ids sc E κ ∗ Keep ids c n ∗ Rcv c i)
      ⊢ wpc c (Prog.lift (.waitDma2 s src dst h1 h2)) (fun _ => iprop(Keep ids c n ∗ Fin' c i ∗ pay ids sc E c i.val)) := by
  have e := (Nat.zero_add NC).trans (expect_dma ids sc E c i hi).symm
  have e2 := rest_dma ids sc E c i hi
  have e3 := mayWait (F := F) c (smOf i) n hl
  have e4 := inv_at ids sc E κ c i
  unfold Rcv Fin'
  have ec : cell c i = ((c : Thread nD τ), .dma s) := congrArg (Prod.mk _) hs
  rw [hs] at e3
  rw [ec] at e e2 e4 ⊢
  rw [← hN] at e ⊢
  unfold wpc
  iintro ⟨#HI, ⟨#Hlev, Hids, ⟨%W, HO⟩⟩, Hat, Hc⟩
  iapply (Rounds.wp_wait_rest_token 𝒱₀ ER (rd ids sc E) (c : Thread nD τ) none (sm := .dma s) (κ := κ ((c : Thread nD τ), .dma s))
      (wpE_waitDma2_eq 𝒱₀ (c : Thread nD τ) none Set.univ) (Set.mem_univ _) () (O := left c n) (W := W) (R := 0) (m := 0) (T := ∅) e) $$ [Hc HO Hat]
  · isplitr; · iapply e4; iexact HI
    isplitl [Hc]; · iexact Hc
    isplitl [HO]; · iexact HO
    isplitr; · iapply e3; iexact Hlev
    iexact Hat
  iintro ⟨HO, Hat, -, Hp⟩
  ihave Hp := (Entails.of_eq e2) $$ Hp
  rw [wp_ret]; imodintro
  isplitl [Hids HO]
  · isplitr; · iexact Hlev
    isplitl [Hids]; · iexact Hids
    iexists _; iexact HO
  isplitl [Hat]; · iexact Hat
  iexact Hp

/-- A copy to another device: the send cell is paid its source, the receive cell its destination filled. -/
theorem send (n : ℕ) (c' : Dev nD) (iS iR : Fin 21) (hiS : iS ≠ 0) (hiR : iR ≠ 0) (sS sR : DmaSem sig) (hS : smOf iS = .dma sS) (hR : smOf iR = .dma sR)
    (src dst : Memref sig .tc .vmem S128x1024 .bf16) (q : PosShare TreeShare) (fs : src.view.ty.Contents (Elt F)) (Ps Pd : sProp 𝕄)
    (hdue : (dues c)[n]? = some (cell c' iR, NC)) (hN : dst.view.dmaCredit = NC)
    (h1 : Ps ⊢ (((c : Thread nD τ).loc src.view.ref) ↦[src.view.set]{q} fs))
    (h1' : (((c : Thread nD τ).loc src.view.ref) ↦[src.view.set]{q} fs) ⊢ pay ids sc E c iS.val)
    (h2 : Pd ⊢ iprop(∃ fd, ((c' : Thread nD τ).loc dst.view.ref) ↦[dst.view.set]{fullShare} fd))
    (h2' : ∀ fd, (((c' : Thread nD τ).loc dst.view.ref) ↦[dst.view.set]{fullShare} (dst.view.write (Elt F) fd (src.view.read (Elt F) fs) Finset.univ)) ⊢ pay ids sc E c' iR.val)
    {hsc hx hy hz} :
    iprop(Inv ids sc E κ ∗ Keep ids c n ∗ Tk c iS c' iR ∗ Ps ∗ Pd ∗ reached ER (cell c' iR) 0)
      ⊢ wpc c (Prog.lift (.enqueueDma src (.remote (Dev.tc c') dst (.dma sS) hsc) (.dma sR) hx hy hz))
        (fun _ => iprop(Keep ids c (n + 1) ∗ Rcv c iS)) := by
  have d1 : (0 : Fin 3) ∈ (rd ids sc E).duties (cell c iS) 0 := by rw [duties_dma ids sc E c iS hiS]; exact Finset.mem_singleton_self _
  have d2 : (0 : Fin 3) ∈ (rd ids sc E).duties (cell c' iR) 0 := by rw [duties_dma ids sc E c' iR hiR]; exact Finset.mem_singleton_self _
  have a1 := amount_dma ids sc E c iS hiS 0
  have a2 := amount_dma ids sc E c' iR hiR 0
  have p1 := h1'.trans (Entails.of_eq (payload_dma ids sc E c iS hiS 0).symm)
  have p2 := fun fd => (h2' fd).trans (Entails.of_eq (payload_dma ids sc E c' iR hiR 0).symm)
  have l := left_pay c n _ hdue
  have i1 := inv_at ids sc E κ c iS
  have i2 := inv_at ids sc E κ c' iR
  unfold Tk Rcv
  have eS : cell c iS = ((c : Thread nD τ), .dma sS) := congrArg (Prod.mk _) hS
  have eR : cell c' iR = ((c' : Thread nD τ), .dma sR) := congrArg (Prod.mk _) hR
  rw [eS] at d1 a1 p1 i1 ⊢
  rw [eR] at d2 a2 p2 l i2 ⊢
  unfold wpc
  iintro ⟨#HI, ⟨#Hlev, Hids, ⟨%W, HO⟩⟩, ⟨Ht1, Ht2, Hat, #Hr1⟩, Hs, Hd, #Hr2⟩
  ihave Hs := h1 $$ Hs
  ihave Hd' := h2 $$ Hd
  icases Hd' with ⟨%fd, Hd⟩
  iapply (Rounds.wp_send_pointsTo 𝒱₀ ER (rd ids sc E) (c : Thread nD τ) none (c' := (c' : Thread nD τ)) (src := src) (dst := dst)
      (sS := .dma sS) (sem := .dma sR) (q := q) (fs := fs) (κ₁ := κ ((c : Thread nD τ), .dma sS)) (κ₂ := κ ((c' : Thread nD τ), .dma sR))
      (r₁ := 0) (r₂ := 0) (d₁ := 0) (d₂ := 0) (fd := fd) d1 d2 () () NC hN a1 a2 (left c (n + 1)) l (W := W) p1 (p2 fd)) $$ [Hs Hd HO Ht1 Ht2]
  · isplitr; · iapply i1; iexact HI
    isplitr; · iapply i2; iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hids HO]
  · isplitr; · iexact Hlev
    isplitl [Hids]; · iexact Hids
    iexists W; iexact HO
  isplitl [Hat]; · iexact Hat
  iexact Hc

end Comm

end Cert.KernelIdeal.Pf

end
-- ==== Proof.Chunk.lean ====
/-
Chunks and slots loaded, stored and sent.
-/
module

public import proofs.«01_k».proof.Proof.Comm

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

/-! ## The cells by the semaphore arrays, and their levels -/

theorem semRS (p : Fin 3) (o : Fin 1 → ℕ) (inb) (h : o = ![p.val]) :
    smOf (iRS p) = .dma ((cc0_scratch6.slice (Rect.unit (s := S3) o S1.size inb)).squeeze S_ squeezes_S1_S_).sem := by
  subst h; revert p; decide +kernel
theorem semRR (p : Fin 3) (o : Fin 1 → ℕ) (inb) (h : o = ![p.val]) :
    smOf (iRR p) = .dma ((cc0_scratch7.slice (Rect.unit (s := S3) o S1.size inb)).squeeze S_ squeezes_S1_S_).sem := by
  subst h; revert p; decide +kernel
theorem semAS (p : Fin 3) (o : Fin 1 → ℕ) (inb) (h : o = ![p.val]) :
    smOf (iAS p) = .dma ((cc0_scratch8.slice (Rect.unit (s := S3) o S1.size inb)).squeeze S_ squeezes_S1_S_).sem := by
  subst h; revert p; decide +kernel
theorem semAR (p : Fin 3) (o : Fin 1 → ℕ) (inb) (h : o = ![p.val]) :
    smOf (iAR p) = .dma ((cc0_scratch9.slice (Rect.unit (s := S3) o S1.size inb)).squeeze S_ squeezes_S1_S_).sem := by
  subst h; revert p; decide +kernel
theorem semXS (p : Fin 4) (o : Fin 1 → ℕ) (inb) (h : o = ![p.val]) :
    smOf (iXS p) = .dma ((cc0_scratch10.slice (Rect.unit (s := S4) o S1.size inb)).squeeze S_ squeezes_S1_S_).sem := by
  subst h; revert p; decide +kernel
theorem semXR (p : Fin 4) (o : Fin 1 → ℕ) (inb) (h : o = ![p.val]) :
    smOf (iXR p) = .dma ((cc0_scratch11.slice (Rect.unit (s := S4) o S1.size inb)).squeeze S_ squeezes_S1_S_).sem := by
  subst h; revert p; decide +kernel

theorem iRS_ne (p : Fin 3) : iRS p ≠ 0 := by revert p; decide
theorem iRR_ne (p : Fin 3) : iRR p ≠ 0 := by revert p; decide
theorem iAS_ne (p : Fin 3) : iAS p ≠ 0 := by revert p; decide
theorem iAR_ne (p : Fin 3) : iAR p ≠ 0 := by revert p; decide
theorem iXS_ne (k : Fin 4) : iXS k ≠ 0 := by revert k; decide
theorem iXR_ne (k : Fin 4) : iXR k ≠ 0 := by revert k; decide

/-- The levels of a device's payments. -/
def duesLv : List ℕ := [1, 1, 1, 2, 3, 4, 8, 5, 9, 6, 10, 7, 11]

theorem dues_lv (c : Dev nD) : (dues c).map (fun p => lv p.1 ()) = duesLv := rfl

theorem lower (c : Dev nD) (i : Fin 21) (n : ℕ) (h : ∀ x ∈ duesLv.drop n, lvI i < x) :
    ∀ p ∈ (dues c).drop n, lv (cell c i) () < lv p.1 () := by
  intro p hp
  have hm : lv p.1 () ∈ duesLv.drop n := by
    rw [← dues_lv c, ← List.map_drop]; exact List.mem_map_of_mem (f := fun p : GSem nD τ sig × ℕ => lv p.1 ()) hp
  exact h _ hm

/-! ## Chunks and slots loaded and stored -/

section Access

variable (c : Dev nD) (k : Fin 4) (off : Fin 2 → ℕ) (inb) (h : off = ![128 * k.val, 0])
include h

theorem ldF (f : S512x1024.Idx → F .f32) (hl) :
    (pt c bF (cS k) fullShare f : sProp 𝕄) ⊢ wpc c (Prog.lift (.load aF (Rect.unit (s := S512x1024) off S128x1024.size inb).toLoadRect hl))
      (fun v => iprop(⌜v = take k f⌝ ∗ pt c bF (cS k) fullShare f)) := by
  rw [← take_eq k off inb h f]
  exact ld c aF (Rect.unit (s := S512x1024) off S128x1024.size inb) hl _ (Finset.subset_of_eq ((View.set_slice_whole _ _).trans (mem_chunk k off inb h))) fullShare f

theorem ldA (f : S512x1024.Idx → F .bf16) (hl) :
    (pt c bA (cS k) fullShare f : sProp 𝕄) ⊢ wpc c (Prog.lift (.load aA (Rect.unit (s := S512x1024) off S128x1024.size inb).toLoadRect hl))
      (fun v => iprop(⌜v = take k f⌝ ∗ pt c bA (cS k) fullShare f)) := by
  rw [← take_eq k off inb h f]
  exact ld c aA (Rect.unit (s := S512x1024) off S128x1024.size inb) hl _ (Finset.subset_of_eq ((View.set_slice_whole _ _).trans (mem_chunk k off inb h))) fullShare f

theorem ldG (f : S512x1024.Idx → F .bf16) (hl) :
    (pt c bG (cS k) fullShare f : sProp 𝕄) ⊢ wpc c (Prog.lift (.load aG (Rect.unit (s := S512x1024) off S128x1024.size inb).toLoadRect hl))
      (fun v => iprop(⌜v = take k f⌝ ∗ pt c bG (cS k) fullShare f)) := by
  rw [← take_eq k off inb h f]
  exact ld c aG (Rect.unit (s := S512x1024) off S128x1024.size inb) hl _ (Finset.subset_of_eq ((View.set_slice_whole _ _).trans (mem_chunk k off inb h))) fullShare f

theorem stA (g : S512x1024.Idx → F .bf16) (w : S128x1024.Idx → F .bf16) (hw : w = take k g) (hx) (hm) :
    (iprop(∃ f, pt (F := F) c bA (cS k) fullShare f) : sProp 𝕄) ⊢ wpc c (Prog.lift (.store aA (Rect.unit (s := S512x1024) off S128x1024.size inb) w Finset.univ hx hm))
      (fun _ => pt c bA (cS k) fullShare g) :=
  st c aA (Rect.unit (s := S512x1024) off S128x1024.size inb) w hx hm _ ((View.set_slice_whole _ _).trans (mem_chunk k off inb h)) g
    (fun x => by rw [hw, ← take_eq k off inb h g]; rfl)

theorem stG (g : S512x1024.Idx → F .bf16) (w : S128x1024.Idx → F .bf16) (hw : w = take k g) (hx) (hm) :
    (iprop(∃ f, pt (F := F) c bG (cS k) fullShare f) : sProp 𝕄) ⊢ wpc c (Prog.lift (.store aG (Rect.unit (s := S512x1024) off S128x1024.size inb) w Finset.univ hx hm))
      (fun _ => pt c bG (cS k) fullShare g) :=
  st c aG (Rect.unit (s := S512x1024) off S128x1024.size inb) w hx hm _ ((View.set_slice_whole _ _).trans (mem_chunk k off inb h)) g
    (fun x => by rw [hw, ← take_eq k off inb h g]; rfl)

end Access

theorem ldS (c : Dev nD) (k : Fin 4) (off : Fin 2 → ℕ) (inb) (h : off = ![128 * k.val, 0]) (f : S512x1.Idx → F .f32) (hl) :
    (pt c bS Finset.univ fullShare f : sProp 𝕄) ⊢ wpc c (Prog.lift (.load aS (Rect.unit (s := S512x1) off S128x1.size inb).toLoadRect hl))
      (fun v => iprop(⌜v = takeS k f⌝ ∗ pt c bS Finset.univ fullShare f)) := by
  rw [← takeS_eq k off inb h f]
  exact ld c aS (Rect.unit (s := S512x1) off S128x1.size inb) hl _ (Finset.subset_univ _) fullShare f

/-- Contents of a slot of the receive buffer, with its unit axis. -/
def slotOf {α : Type} (p : Fin 3) (f : S3x128x1024.Idx → α) : S1x128x1024.Idx → α := fun x =>
  f (fun a => match a with | 0 => p | 1 => x 1 | 2 => x 2)

theorem slot_eq {α : Type} (p : Fin 3) (off : Fin 3 → ℕ) (inb) (h : off = ![p.val, 0, 0]) (f : S3x128x1024.Idx → α) :
    (fun x => f ((Rect.unit (s := S3x128x1024) off S1x128x1024.size inb).emb x)) = slotOf p f := by
  subst h
  funext x
  refine congrArg f (funext fun a => Fin.ext ?_)
  have hx : (x 0).val = 0 := Nat.lt_one_iff.mp (x 0).isLt
  fin_cases a
  · show p.val + 1 * (x 0).val = p.val; omega
  · show 0 + 1 * (x 1).val = (x 1).val; omega
  · show 0 + 1 * (x 2).val = (x 2).val; omega

theorem mem_slot' (p : Fin 3) (off : Fin 3 → ℕ) (inb) (h : off = ![p.val, 0, 0]) :
    (Rect.unit (s := S3x128x1024) off S1x128x1024.size inb).set = pS p.val := by subst h; exact mem_slot p.val inb

theorem ldR (c : Dev nD) (p : Fin 3) (off : Fin 3 → ℕ) (inb) (h : off = ![p.val, 0, 0]) (f : S3x128x1024.Idx → F .bf16) (hl) :
    (pt c bR (pS p.val) fullShare f : sProp 𝕄) ⊢ wpc c (Prog.lift (.load aR (Rect.unit (s := S3x128x1024) off S1x128x1024.size inb).toLoadRect hl))
      (fun v => iprop(⌜v = slotOf p f⌝ ∗ pt c bR (pS p.val) fullShare f)) := by
  rw [← slot_eq p off inb h f]
  exact ld c aR (Rect.unit (s := S3x128x1024) off S1x128x1024.size inb) hl _ (Finset.subset_of_eq ((View.set_slice_whole _ _).trans (mem_slot' p off inb h))) fullShare f

/-! ## What is computed of a chunk -/

theorem tile_val (c : Dev nD) (k : Fin 4) : k0_pay2 (take k (gath ids E c)) (takeS k (sc c)) = take k (part ids sc E c) := by
  unfold k0_pay2
  simp only [shapeCast_self]
  funext x
  show FloatOps.truncf .bf16 bitsLt_bf16_f32 (FloatOps.mulf _ (broadcastTo S128x1024 (takeS k (sc c)) broadcasts_S128x1_S128x1024 x)) = _
  rw [broadcastTo_apply (takeS k (sc c)) broadcasts_S128x1_S128x1024 x (Shape.pair (d := ![128, 1]) (x 0) ⟨0, by decide⟩) (by
    intro a; fin_cases a
    · rfl
    · rfl)]
  rfl

theorem add_val (c : Dev nD) (p : Fin 3) : k0_pay4 (take (gc c (p.val + 1)) (part ids sc E c)) (slotOf p (recvd ids sc E p.val c))
    = take (gc c (p.val + 1)) (psum ids sc E (p.val + 1) c) := by
  unfold k0_pay4
  funext x
  show FloatOps.addf _ (shapeCast S128x1024 (slotOf p (recvd ids sc E p.val c)) shapeCasts_S1x128x1024_S128x1024 x) = _
  rw [shapeCast_dropUnit_apply (n := 2) ![128, 1024] (slotOf p (recvd ids sc E p.val c)) shapeCasts_S1x128x1024_S128x1024 x]
  rfl

/-- The chunk a device finishes holds whole sums. -/
theorem take_tot (c : Dev nD) : take (ch c 0) (psum ids sc E 3 c) = take (ch c 0) (tot ids sc E c) := by
  funext x
  unfold take tot
  rw [at_yy c _ (by
    show ((128 * (ch c 0).val + (x 0).val) / 128 + 3) % 4 = yy c
    have hx : (x 0).val < 128 := (x 0).isLt
    have := yy_lt c
    have e : (ch c 0).val = (yy c + 1) % 4 := by show (yy c + 9 - 0) % 4 = _; omega
    rw [e]; omega)]

/-! ## Copies between devices -/

/-- What a copy between two buffers of 512 rows leaves where it wrote. -/
theorem copied {b b' : Memref sig .tc .vmem S128x1024 .bf16} (g : b'.view.ty.Contents (Elt F)) (f : b.view.ty.Contents (Elt F))
    (h : ∀ x, b.view.read (Elt F) f x = b'.view.read (Elt F) g x) (fd : b'.view.ty.Contents (Elt F)) (c' : Dev nD) :
    (((c' : Thread nD τ).loc b'.view.ref) ↦[b'.view.set]{fullShare} (b'.view.write (Elt F) fd (b.view.read (Elt F) f) Finset.univ) : sProp 𝕄)
      ⊢ (((c' : Thread nD τ).loc b'.view.ref) ↦[b'.view.set]{fullShare} g) :=
  Entails.of_eq (pointsTo_congr (write_eq_on (Val := Elt F) b'.view fd g _ h))

section Send

variable (κ : GSem nD τ sig → ℕ) (c : Dev nD) (n : ℕ) (c' : Dev nD)

/-- A step's sums of a chunk sent ahead on the ring. -/
theorem sendRS (p : Fin 3) (hc : c' = rgt c) (hdue : (dues c)[n]? = some (cell (rgt c) (iRR p), NC))
    (off : Fin 2 → ℕ) (inb) (h : off = ![128 * (gc c p.val).val, 0]) (o3 : Fin 3 → ℕ) (inb3) (h3 : o3 = ![p.val, 0, 0])
    (oS) (inbS) (hS : oS = ![p.val]) (oR) (inbR) (hR : oR = ![p.val]) {hsc hx hy hz} :
    iprop(Inv ids sc E κ ∗ Keep ids c n ∗ Tk c (iRS p) (rgt c) (iRR p) ∗ pt c bA (cS (gc c p.val)) fullShare (psum ids sc E p.val c)
        ∗ Dst (rgt c) bR (pS p.val) (iRR p))
      ⊢ wpc c (Prog.lift (.enqueueDma (aA.slice (Rect.unit (s := S512x1024) off S128x1024.size inb) (fun _ => rfl))
          (.remote (Dev.tc c') ((aR.slice (Rect.unit (s := S3x128x1024) o3 S1x128x1024.size inb3) (fun _ => rfl)).squeeze S128x1024 squeezes_S1x128x1024_S128x1024)
            (.dma ((cc0_scratch6.slice (Rect.unit (s := S3) oS S1.size inbS)).squeeze S_ squeezes_S1_S_).sem) hsc)
          (.dma ((cc0_scratch7.slice (Rect.unit (s := S3) oR S1.size inbR)).squeeze S_ squeezes_S1_S_).sem) hx hy hz))
        (fun _ => iprop(Keep ids c (n + 1) ∗ Rcv c (iRS p))) := by
  subst hc
  have hs : (aA.slice (Rect.unit (s := S512x1024) off S128x1024.size inb) (fun _ => rfl)).view.set = cS (gc c p.val) :=
    (View.set_slice_whole _ _).trans (mem_chunk _ off inb h)
  have hd : ((aR.slice (Rect.unit (s := S3x128x1024) o3 S1x128x1024.size inb3) (fun _ => rfl)).squeeze S128x1024 squeezes_S1x128x1024_S128x1024).view.set = pS p.val :=
    ((View.set_reshape _ _).trans (View.set_slice_whole _ _)).trans (mem_slot' p o3 inb3 h3)
  have hv : ∀ x, (aA.slice (Rect.unit (s := S512x1024) off S128x1024.size inb) (fun _ => rfl)).view.read (Elt F) (psum ids sc E p.val c) x
      = ((aR.slice (Rect.unit (s := S3x128x1024) o3 S1x128x1024.size inb3) (fun _ => rfl)).squeeze S128x1024 squeezes_S1x128x1024_S128x1024).view.read (Elt F)
          (recvd ids sc E p.val (rgt c)) x := fun x => by
    refine (congrFun (take_eq _ off inb h (psum ids sc E p.val c)) x).trans ?_
    refine Eq.trans ?_ (shapeCast_dropUnit_apply (n := 2) ![128, 1024] (slotOf p (recvd ids sc E p.val (rgt c))) shapeCasts_S1x128x1024_S128x1024 x).symm
      |>.trans (congrFun (congrArg (fun f => shapeCast S128x1024 f shapeCasts_S1x128x1024_S128x1024) (slot_eq p o3 inb3 h3 (recvd ids sc E p.val (rgt c)))) x).symm
    unfold take slotOf recvd
    rw [lft_rgt]
    refine congrArg (psum ids sc E p.val c) (congrArg (fun r => ix r (x 1)) (Fin.ext ?_))
    show 128 * (gc c p.val).val + (x 0).val = 128 * (gc (rgt c) (p.val + 1)).val + (x 0).val
    rw [gc_rgt c p.val (by have := p.isLt; omega)]
  have e2 := pay_RR ids sc E (rgt c) p
  have e1 := pay_RS ids sc E c p
  rw [← hd] at e2 ⊢
  rw [← hs] at e1 ⊢
  have h1 : (((c : Thread nD τ).loc bA) ↦[(aA.slice (Rect.unit (s := S512x1024) off S128x1024.size inb) (fun _ => rfl)).view.set]{fullShare} (psum ids sc E p.val c) : sProp 𝕄) ⊢ pay ids sc E c (iRS p).val :=
    Entails.of_eq e1.symm
  have h2 := fun fd => (copied (b := (aA.slice (Rect.unit (s := S512x1024) off S128x1024.size inb) (fun _ => rfl)))
    (b' := ((aR.slice (Rect.unit (s := S3x128x1024) o3 S1x128x1024.size inb3) (fun _ => rfl)).squeeze S128x1024 squeezes_S1x128x1024_S128x1024)) (recvd ids sc E p.val (rgt c)) (psum ids sc E p.val c) hv fd (rgt c)).trans (Entails.of_eq e2.symm)
  exact send ids sc E κ c n (rgt c) (iRS p) (iRR p) (iRS_ne p) (iRR_ne p) _ _ (semRS p oS inbS hS) (semRR p oR inbR hR)
    (aA.slice (Rect.unit (s := S512x1024) off S128x1024.size inb) (fun _ => rfl)) ((aR.slice (Rect.unit (s := S3x128x1024) o3 S1x128x1024.size inb3) (fun _ => rfl)).squeeze S128x1024 squeezes_S1x128x1024_S128x1024)
    fullShare (psum ids sc E p.val c) _ _ hdue rfl .rfl h1 .rfl h2 (hsc := hsc) (hx := hx) (hy := hy) (hz := hz)

/-- A finished chunk sent ahead on the ring. -/
theorem sendAG (p : Fin 3) (hc : c' = rgt c) (hdue : (dues c)[n]? = some (cell (rgt c) (iAR p), NC))
    (off : Fin 2 → ℕ) (inb) (h : off = ![128 * (ch c p.val).val, 0])
    (oS) (inbS) (hS : oS = ![p.val]) (oR) (inbR) (hR : oR = ![p.val]) {hsc hx hy hz} :
    iprop(Inv ids sc E κ ∗ Keep ids c n ∗ Tk c (iAS p) (rgt c) (iAR p) ∗ pt c bG (cS (ch c p.val)) fullShare.right (tot ids sc E c)
        ∗ Dst (rgt c) bG (cS (ch c p.val)) (iAR p))
      ⊢ wpc c (Prog.lift (.enqueueDma (aG.slice (Rect.unit (s := S512x1024) off S128x1024.size inb) (fun _ => rfl))
          (.remote (Dev.tc c') (aG.slice (Rect.unit (s := S512x1024) off S128x1024.size inb) (fun _ => rfl))
            (.dma ((cc0_scratch8.slice (Rect.unit (s := S3) oS S1.size inbS)).squeeze S_ squeezes_S1_S_).sem) hsc)
          (.dma ((cc0_scratch9.slice (Rect.unit (s := S3) oR S1.size inbR)).squeeze S_ squeezes_S1_S_).sem) hx hy hz))
        (fun _ => iprop(Keep ids c (n + 1) ∗ Rcv c (iAS p))) := by
  subst hc
  have hs : (aG.slice (Rect.unit (s := S512x1024) off S128x1024.size inb) (fun _ => rfl)).view.set = cS (ch c p.val) :=
    (View.set_slice_whole _ _).trans (mem_chunk _ off inb h)
  have e2 := pay_AR ids sc E (rgt c) p
  rw [tot_rgt, ← ch_succ (rgt c) p.val (by have := p.isLt; omega), ch_rgt c p.val (by have := p.isLt; omega)] at e2
  have e1 := pay_AS ids sc E c p
  rw [← hs] at e1 e2 ⊢
  have h1 : (((c : Thread nD τ).loc bG) ↦[(aG.slice (Rect.unit (s := S512x1024) off S128x1024.size inb) (fun _ => rfl)).view.set]{fullShare.right} (tot ids sc E c) : sProp 𝕄) ⊢ pay ids sc E c (iAS p).val :=
    Entails.of_eq e1.symm
  have h2 := fun fd => (copied (b := (aG.slice (Rect.unit (s := S512x1024) off S128x1024.size inb) (fun _ => rfl)))
    (b' := (aG.slice (Rect.unit (s := S512x1024) off S128x1024.size inb) (fun _ => rfl))) (tot ids sc E c) (tot ids sc E c) (fun _ => rfl) fd (rgt c)).trans (Entails.of_eq e2.symm)
  exact send ids sc E κ c n (rgt c) (iAS p) (iAR p) (iAS_ne p) (iAR_ne p) _ _ (semAS p oS inbS hS) (semAR p oR inbR hR)
    (aG.slice (Rect.unit (s := S512x1024) off S128x1024.size inb) (fun _ => rfl)) (aG.slice (Rect.unit (s := S512x1024) off S128x1024.size inb) (fun _ => rfl))
    fullShare.right (tot ids sc E c) _ _ hdue rfl .rfl h1 .rfl h2 (hsc := hsc) (hx := hx) (hy := hy) (hz := hz)

/-- A finished chunk sent to the device of the other half. -/
theorem sendX (k : Fin 4) (hc : c' = xp c) (hdue : (dues c)[n]? = some (cell (xp c) (iXR k), NC))
    (off : Fin 2 → ℕ) (inb) (h : off = ![128 * (ch c k.val).val, 0])
    (oS) (inbS) (hS : oS = ![k.val]) (oR) (inbR) (hR : oR = ![k.val]) {hsc hx hy hz} :
    iprop(Inv ids sc E κ ∗ Keep ids c n ∗ Tk c (iXS k) (xp c) (iXR k) ∗ pt c bG (cS (ch c k.val)) fullShare.left (tot ids sc E c)
        ∗ Dst (xp c) bX (cS (ch c k.val)) (iXR k))
      ⊢ wpc c (Prog.lift (.enqueueDma (aG.slice (Rect.unit (s := S512x1024) off S128x1024.size inb) (fun _ => rfl))
          (.remote (Dev.tc c') (aX.slice (Rect.unit (s := S512x1024) off S128x1024.size inb) (fun _ => rfl))
            (.dma ((cc0_scratch10.slice (Rect.unit (s := S4) oS S1.size inbS)).squeeze S_ squeezes_S1_S_).sem) hsc)
          (.dma ((cc0_scratch11.slice (Rect.unit (s := S4) oR S1.size inbR)).squeeze S_ squeezes_S1_S_).sem) hx hy hz))
        (fun _ => iprop(Keep ids c (n + 1) ∗ Rcv c (iXS k))) := by
  subst hc
  have hs : (aG.slice (Rect.unit (s := S512x1024) off S128x1024.size inb) (fun _ => rfl)).view.set = cS (ch c k.val) :=
    (View.set_slice_whole _ _).trans (mem_chunk _ off inb h)
  have hd : (aX.slice (Rect.unit (s := S512x1024) off S128x1024.size inb) (fun _ => rfl)).view.set = cS (ch c k.val) :=
    (View.set_slice_whole _ _).trans (mem_chunk _ off inb h)
  have e2 := pay_XR ids sc E (xp c) k
  rw [xp_xp, ch_xp] at e2
  have e1 := pay_XS ids sc E c k
  have e3 : (iprop(∃ f, pt (F := F) (xp c) bX (cS (ch c k.val)) fullShare f) : sProp 𝕄) = iprop(∃ f, pt (F := F) (xp c) bX ((aX.slice (Rect.unit (s := S512x1024) off S128x1024.size inb) (fun _ => rfl)).view.set) fullShare f) := by rw [hd]
  unfold Dst
  rw [e3]
  rw [← hd] at e2
  rw [← hs] at e1 ⊢
  have h1 : (((c : Thread nD τ).loc bG) ↦[(aG.slice (Rect.unit (s := S512x1024) off S128x1024.size inb) (fun _ => rfl)).view.set]{fullShare.left} (tot ids sc E c) : sProp 𝕄) ⊢ pay ids sc E c (iXS k).val :=
    Entails.of_eq e1.symm
  have h2 := fun fd => (copied (b := (aG.slice (Rect.unit (s := S512x1024) off S128x1024.size inb) (fun _ => rfl)))
    (b' := (aX.slice (Rect.unit (s := S512x1024) off S128x1024.size inb) (fun _ => rfl))) (tot ids sc E c) (tot ids sc E c) (fun _ => rfl) fd (xp c)).trans (Entails.of_eq e2.symm)
  exact send ids sc E κ c n (xp c) (iXS k) (iXR k) (iXS_ne k) (iXR_ne k) _ _ (semXS k oS inbS hS) (semXR k oR inbR hR)
    (aG.slice (Rect.unit (s := S512x1024) off S128x1024.size inb) (fun _ => rfl)) (aX.slice (Rect.unit (s := S512x1024) off S128x1024.size inb) (fun _ => rfl))
    fullShare.left (tot ids sc E c) _ _ hdue rfl .rfl h1 .rfl h2 (hsc := hsc) (hx := hx) (hy := hy) (hz := hz)

end Send

end Cert.KernelIdeal.Pf

end
-- ==== Proof.Steps.lean ====
/-
The waits between devices with what each brings, and the states between the body's parts.
-/
module

public import proofs.«01_k».proof.Proof.Chunk

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

/-- A send on the ring of partial sums is over: the chunk is back. -/
theorem waitRS (κ : GSem nD τ sig → ℕ) (c : Dev nD) (n : ℕ) (p : Fin 3) (hl : ∀ x ∈ duesLv.drop n, lvI (iRS p) < x)
    (o : Fin 1 → ℕ) (inbS) (h : o = ![p.val]) (off : Fin 2 → ℕ) (inb) {src : Memref sig .tc .vmem S128x1024 .bf16} {h1 h2} :
    iprop(Inv ids sc E κ ∗ Keep ids c n ∗ Rcv c (iRS p))
      ⊢ wpc c (Prog.lift (.waitDma2 ((cc0_scratch6.slice (Rect.unit (s := S3) o S1.size inbS)).squeeze S_ squeezes_S1_S_).sem src
          (aA.slice (Rect.unit (s := S512x1024) off S128x1024.size inb) (fun _ => rfl)) h1 h2))
        (fun _ => iprop(Keep ids c n ∗ Fin' c (iRS p) ∗ pt c bA (cS (gc c p.val)) fullShare (psum ids sc E p.val c))) := by
  rw [← pay_RS ids sc E c p]
  exact waitC ids sc E κ c n (iRS p) (iRS_ne p) _ (semRS p o inbS h) (lower c _ _ hl) (src := src) (dst := (aA.slice (Rect.unit (s := S512x1024) off S128x1024.size inb) (fun _ => rfl))) rfl (h1 := h1) (h2 := h2)

/-- The partial sums sent to the device have come. -/
theorem waitRR (κ : GSem nD τ sig → ℕ) (c : Dev nD) (n : ℕ) (p : Fin 3) (hl : ∀ x ∈ duesLv.drop n, lvI (iRR p) < x)
    (o : Fin 1 → ℕ) (inbS) (h : o = ![p.val]) (o3 : Fin 3 → ℕ) (inb3) {src : Memref sig .tc .vmem S128x1024 .bf16} {h1 h2} :
    iprop(Inv ids sc E κ ∗ Keep ids c n ∗ Rcv c (iRR p))
      ⊢ wpc c (Prog.lift (.waitDma2 ((cc0_scratch7.slice (Rect.unit (s := S3) o S1.size inbS)).squeeze S_ squeezes_S1_S_).sem src
          ((aR.slice (Rect.unit (s := S3x128x1024) o3 S1x128x1024.size inb3) (fun _ => rfl)).squeeze S128x1024 squeezes_S1x128x1024_S128x1024) h1 h2))
        (fun _ => iprop(Keep ids c n ∗ Fin' c (iRR p) ∗ pt c bR (pS p.val) fullShare (recvd ids sc E p.val c))) := by
  rw [← pay_RR ids sc E c p]
  exact waitC ids sc E κ c n (iRR p) (iRR_ne p) _ (semRR p o inbS h) (lower c _ _ hl) (src := src) (dst := ((aR.slice (Rect.unit (s := S3x128x1024) o3 S1x128x1024.size inb3) (fun _ => rfl)).squeeze S128x1024 squeezes_S1x128x1024_S128x1024)) rfl (h1 := h1) (h2 := h2)

/-- A send of a finished chunk on the ring is over. -/
theorem waitAS (κ : GSem nD τ sig → ℕ) (c : Dev nD) (n : ℕ) (p : Fin 3) (hl : ∀ x ∈ duesLv.drop n, lvI (iAS p) < x)
    (o : Fin 1 → ℕ) (inbS) (h : o = ![p.val]) (off : Fin 2 → ℕ) (inb) {src : Memref sig .tc .vmem S128x1024 .bf16} {h1 h2} :
    iprop(Inv ids sc E κ ∗ Keep ids c n ∗ Rcv c (iAS p))
      ⊢ wpc c (Prog.lift (.waitDma2 ((cc0_scratch8.slice (Rect.unit (s := S3) o S1.size inbS)).squeeze S_ squeezes_S1_S_).sem src
          (aG.slice (Rect.unit (s := S512x1024) off S128x1024.size inb) (fun _ => rfl)) h1 h2))
        (fun _ => iprop(Keep ids c n ∗ Fin' c (iAS p) ∗ pt c bG (cS (ch c p.val)) fullShare.right (tot ids sc E c))) := by
  rw [← pay_AS ids sc E c p]
  exact waitC ids sc E κ c n (iAS p) (iAS_ne p) _ (semAS p o inbS h) (lower c _ _ hl) (src := src) (dst := (aG.slice (Rect.unit (s := S512x1024) off S128x1024.size inb) (fun _ => rfl))) rfl (h1 := h1) (h2 := h2)

/-- A finished chunk has come on the ring. -/
theorem waitAR (κ : GSem nD τ sig → ℕ) (c : Dev nD) (n : ℕ) (p : Fin 3) (hl : ∀ x ∈ duesLv.drop n, lvI (iAR p) < x)
    (o : Fin 1 → ℕ) (inbS) (h : o = ![p.val]) (off : Fin 2 → ℕ) (inb) {src : Memref sig .tc .vmem S128x1024 .bf16} {h1 h2} :
    iprop(Inv ids sc E κ ∗ Keep ids c n ∗ Rcv c (iAR p))
      ⊢ wpc c (Prog.lift (.waitDma2 ((cc0_scratch9.slice (Rect.unit (s := S3) o S1.size inbS)).squeeze S_ squeezes_S1_S_).sem src
          (aG.slice (Rect.unit (s := S512x1024) off S128x1024.size inb) (fun _ => rfl)) h1 h2))
        (fun _ => iprop(Keep ids c n ∗ Fin' c (iAR p) ∗ pt c bG (cS (gc c p.val)) fullShare (tot ids sc E c))) := by
  rw [← pay_AR ids sc E c p]
  exact waitC ids sc E κ c n (iAR p) (iAR_ne p) _ (semAR p o inbS h) (lower c _ _ hl) (src := src) (dst := (aG.slice (Rect.unit (s := S512x1024) off S128x1024.size inb) (fun _ => rfl))) rfl (h1 := h1) (h2 := h2)

/-- A send to the device of the other half is over. -/
theorem waitXS (κ : GSem nD τ sig → ℕ) (c : Dev nD) (n : ℕ) (p : Fin 4) (hl : ∀ x ∈ duesLv.drop n, lvI (iXS p) < x)
    (o : Fin 1 → ℕ) (inbS) (h : o = ![p.val]) (off : Fin 2 → ℕ) (inb) {src : Memref sig .tc .vmem S128x1024 .bf16} {h1 h2} :
    iprop(Inv ids sc E κ ∗ Keep ids c n ∗ Rcv c (iXS p))
      ⊢ wpc c (Prog.lift (.waitDma2 ((cc0_scratch10.slice (Rect.unit (s := S4) o S1.size inbS)).squeeze S_ squeezes_S1_S_).sem src
          (aG.slice (Rect.unit (s := S512x1024) off S128x1024.size inb) (fun _ => rfl)) h1 h2))
        (fun _ => iprop(Keep ids c n ∗ Fin' c (iXS p) ∗ pt c bG (cS (ch c p.val)) fullShare.left (tot ids sc E c))) := by
  rw [← pay_XS ids sc E c p]
  exact waitC ids sc E κ c n (iXS p) (iXS_ne p) _ (semXS p o inbS h) (lower c _ _ hl) (src := src) (dst := (aG.slice (Rect.unit (s := S512x1024) off S128x1024.size inb) (fun _ => rfl))) rfl (h1 := h1) (h2 := h2)

/-- A finished chunk has come from the device of the other half. -/
theorem waitXR (κ : GSem nD τ sig → ℕ) (c : Dev nD) (n : ℕ) (p : Fin 4) (hl : ∀ x ∈ duesLv.drop n, lvI (iXR p) < x)
    (o : Fin 1 → ℕ) (inbS) (h : o = ![p.val]) (off : Fin 2 → ℕ) (inb) {src : Memref sig .tc .vmem S128x1024 .bf16} {h1 h2} :
    iprop(Inv ids sc E κ ∗ Keep ids c n ∗ Rcv c (iXR p))
      ⊢ wpc c (Prog.lift (.waitDma2 ((cc0_scratch11.slice (Rect.unit (s := S4) o S1.size inbS)).squeeze S_ squeezes_S1_S_).sem src
          (aX.slice (Rect.unit (s := S512x1024) off S128x1024.size inb) (fun _ => rfl)) h1 h2))
        (fun _ => iprop(Keep ids c n ∗ Fin' c (iXR p) ∗ pt c bX (cS (ch c p.val)) fullShare (tot ids sc E (xp c)))) := by
  rw [← pay_XR ids sc E c p]
  exact waitC ids sc E κ c n (iXR p) (iXR_ne p) _ (semXR p o inbS h) (lower c _ _ hl) (src := src) (dst := (aX.slice (Rect.unit (s := S512x1024) off S128x1024.size inb) (fun _ => rfl))) rfl (h1 := h1) (h2 := h2)

/-! ## States between the parts -/

/-- What a device keeps between the gathers. -/
abbrev Gat (c : Dev nD) (n : ℕ) : sProp 𝕄 :=
  iprop(Keep ids c n ∗ Sems0 c ∗ (∃ f, pt (F := F) c bF Finset.univ fullShare f) ∗ pt c bE Finset.univ fullShare (E c))

/-- The accumulator's chunk of gather `q`, not yet written. -/
abbrev Acc (c : Dev nD) (q : ℕ) : sProp 𝕄 := iprop(∃ f, pt (F := F) c bA (cS (gc c q)) fullShare f)

/-- A step of the ring of partial sums, over. -/
abbrev Done (c : Dev nD) (p : Fin 3) : sProp 𝕄 :=
  iprop(Fin' c (iRS p) ∗ Fin' c (iRR p) ∗ pt c bA (cS (gc c p.val)) fullShare (psum ids sc E p.val c)
    ∗ pt c bR (pS p.val) fullShare (recvd ids sc E p.val c))

/-- The gathered rows' chunk put back with the other chunks. -/
theorem rejoin (c : Dev nD) (k : Fin 4) (f : S512x1024.Idx → F .f32) :
    iprop(pt c bF (cS k) fullShare f ∗ (∃ g, pt (F := F) c bF (Finset.univ \ cS k) fullShare g))
      ⊢ (iprop(∃ g, pt (F := F) c bF Finset.univ fullShare g) : sProp 𝕄) := by
  iintro ⟨H1, ⟨%g, H2⟩⟩
  iexists _
  iapply (pointsTo_join_subset (Finset.subset_univ (cS k)))
  isplitl [H1]; · iexact H1
  iexact H2

/-- The chunk gathered last is the one the device finishes. -/
theorem gc_last (c : Dev nD) : gc c 3 = ch c 0 := Fin.ext (by
  show (yy c + 8 - 3) % 4 = (yy c + 9 - 0) % 4
  omega)

/-- A finished chunk's two shares. -/
theorem halves (c : Dev nD) (k : Fin 4) (f : S512x1024.Idx → F .bf16) :
    (pt c bG (cS k) fullShare f : sProp 𝕄) ⊣⊢ iprop(pt c bG (cS k) fullShare.left f ∗ pt c bG (cS k) fullShare.right f) :=
  pointsTo_share (PosShare.mem_left_op_right fullShare)

end Cert.KernelIdeal.Pf

end
-- ==== Proof.RowLoops.lean ====
/-
The four loops that start a chunk's row copies.
-/
module

public import proofs.«01_k».proof.Proof.GatherEnd

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)
variable (c : Dev nD) (hb : Small ids) (n : ℕ) (hn : 3 ≤ n)
include hb hn

theorem loop1 (R : sProp 𝕄) (v2 v5 v8 v19 v30 : BitVec 32) (v31 : Sems sig S_) (v32 v34 : BitVec 32) :
    Loop ids E c n (128 * (gc c 0).val) 0 R ⊢ wpc c (Scf.Loop.for k0_t1_loop k0_t1_ok ⟨⟩ (k0_t1_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v30 v31 v32 v34))
      (fun _ => Loop ids E c n (128 * (gc c 0).val) 128 R) := by
  have e : k0_t1_loop.trips = 128 := by decide +kernel
  have ht : ∀ t : Fin k0_t1_loop.trips, Loop ids E c n (128 * (gc c 0).val) t.val R
      ⊢ wpc c (k0_t1_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v30 v31 v32 v34 t ⟨⟩)
          (fun _ => Loop ids E c n (128 * (gc c 0).val) (t.val + 1) R) := fun t =>
    trip ids E hb c n hn _ t.val (e ▸ t.isLt) (by have := (gc c 0).isLt; omega) R
      (k0_off1 c t) (k0_off1_inb c t) k0_chk1 k0_chk1.dec (k0_off2 c t) (k0_off2_inb c t) (k0_off3 c t) (k0_off3_inb c t) k0_off4 k0_off4_inb
      (k0_cond1 t) (k0_off5 c t) (k0_off5_inb c t) (k0_chk2 t) (k0_chk2.dec t) (k0_off6 c t) (k0_off6_inb c t) (k0_off7 c t) (k0_off7_inb c t) k0_off8 (k0_off8_inb t)
      ((show ∀ c t, k0_off1 c t = ![128 * (gc c 0).val + t.val] by decide +kernel) c t)
      ((show ∀ c t, k0_off2 c t = ![t.val % 32] by decide +kernel) c t)
      ((show ∀ c t, k0_off3 c t = ![128 * (gc c 0).val + t.val, 0] by decide +kernel) c t)
      (fun v => rfl) (fun v hv => row_ok v hv)
      ((show ∀ t, k0_cond1 t = 1#1 ↔ 32 ≤ t.val by decide +kernel) t) (fun v hv _ => row_ok v hv)
      ((show ∀ c t, k0_cond1 t = 1#1 → k0_off6 c t = ![t.val % 32] by decide +kernel) c t)
  refine BIBase.Entails.trans ?_ (Scf.wp_for _ _ _ _ _ _ k0_t1_ok _ _ (fun t _ => Loop ids E c n (128 * (gc c 0).val) t R) (fun t _ => ht t))
  rw [show Scf.trips _ _ _ = 128 from e]
  iintro HL
  isplitl [HL]; · iexact HL
  iintro %_ HL; iexact HL

theorem loop2 (R : sProp 𝕄) (v2 v5 v8 v19 : BitVec 32) :
    Loop ids E c n (128 * (gc c 1).val) 0 R ⊢ wpc c (Scf.Loop.for k0_t2_loop k0_t2_ok ⟨⟩ (k0_t2_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19))
      (fun _ => Loop ids E c n (128 * (gc c 1).val) 128 R) := by
  have e : k0_t2_loop.trips = 128 := by decide +kernel
  have ht : ∀ t : Fin k0_t2_loop.trips, Loop ids E c n (128 * (gc c 1).val) t.val R
      ⊢ wpc c (k0_t2_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 t ⟨⟩)
          (fun _ => Loop ids E c n (128 * (gc c 1).val) (t.val + 1) R) := fun t =>
    trip ids E hb c n hn _ t.val (e ▸ t.isLt) (by have := (gc c 1).isLt; omega) R
      (k0_off140 c t) (k0_off140_inb c t) k0_chk35 k0_chk35.dec (k0_off141 c t) (k0_off141_inb c t) (k0_off142 c t) (k0_off142_inb c t) k0_off143 k0_off143_inb
      (k0_cond2 t) (k0_off144 c t) (k0_off144_inb c t) (k0_chk36 t) (k0_chk36.dec t) (k0_off145 c t) (k0_off145_inb c t) (k0_off146 c t) (k0_off146_inb c t) k0_off147 (k0_off147_inb t)
      ((show ∀ c t, k0_off140 c t = ![128 * (gc c 1).val + t.val] by decide +kernel) c t)
      ((show ∀ c t, k0_off141 c t = ![t.val % 32] by decide +kernel) c t)
      ((show ∀ c t, k0_off142 c t = ![128 * (gc c 1).val + t.val, 0] by decide +kernel) c t)
      (fun v => rfl) (fun v hv => row_ok v hv)
      ((show ∀ t, k0_cond2 t = 1#1 ↔ 32 ≤ t.val by decide +kernel) t) (fun v hv _ => row_ok v hv)
      ((show ∀ c t, k0_cond2 t = 1#1 → k0_off145 c t = ![t.val % 32] by decide +kernel) c t)
  refine BIBase.Entails.trans ?_ (Scf.wp_for _ _ _ _ _ _ k0_t2_ok _ _ (fun t _ => Loop ids E c n (128 * (gc c 1).val) t R) (fun t _ => ht t))
  rw [show Scf.trips _ _ _ = 128 from e]
  iintro HL
  isplitl [HL]; · iexact HL
  iintro %_ HL; iexact HL

theorem loop3 (R : sProp 𝕄) (v5 : BitVec 32) :
    Loop ids E c n (128 * (gc c 2).val) 0 R ⊢ wpc c (Scf.Loop.for k0_t3_loop k0_t3_ok ⟨⟩ (k0_t3_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5))
      (fun _ => Loop ids E c n (128 * (gc c 2).val) 128 R) := by
  have e : k0_t3_loop.trips = 128 := by decide +kernel
  have ht : ∀ t : Fin k0_t3_loop.trips, Loop ids E c n (128 * (gc c 2).val) t.val R
      ⊢ wpc c (k0_t3_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5 t ⟨⟩)
          (fun _ => Loop ids E c n (128 * (gc c 2).val) (t.val + 1) R) := fun t =>
    trip ids E hb c n hn _ t.val (e ▸ t.isLt) (by have := (gc c 2).isLt; omega) R
      (k0_off280 c t) (k0_off280_inb c t) k0_chk69 k0_chk69.dec (k0_off281 c t) (k0_off281_inb c t) (k0_off282 c t) (k0_off282_inb c t) k0_off283 k0_off283_inb
      (k0_cond3 t) (k0_off284 c t) (k0_off284_inb c t) (k0_chk70 t) (k0_chk70.dec t) (k0_off285 c t) (k0_off285_inb c t) (k0_off286 c t) (k0_off286_inb c t) k0_off287 (k0_off287_inb t)
      ((show ∀ c t, k0_off280 c t = ![128 * (gc c 2).val + t.val] by decide +kernel) c t)
      ((show ∀ c t, k0_off281 c t = ![t.val % 32] by decide +kernel) c t)
      ((show ∀ c t, k0_off282 c t = ![128 * (gc c 2).val + t.val, 0] by decide +kernel) c t)
      (fun v => rfl) (fun v hv => row_ok v hv)
      ((show ∀ t, k0_cond3 t = 1#1 ↔ 32 ≤ t.val by decide +kernel) t) (fun v hv _ => row_ok v hv)
      ((show ∀ c t, k0_cond3 t = 1#1 → k0_off285 c t = ![t.val % 32] by decide +kernel) c t)
  refine BIBase.Entails.trans ?_ (Scf.wp_for _ _ _ _ _ _ k0_t3_ok _ _ (fun t _ => Loop ids E c n (128 * (gc c 2).val) t R) (fun t _ => ht t))
  rw [show Scf.trips _ _ _ = 128 from e]
  iintro HL
  isplitl [HL]; · iexact HL
  iintro %_ HL; iexact HL

theorem loop4 (R : sProp 𝕄) (v2117 v2118 : BitVec 32) :
    Loop ids E c n (128 * (gc c 3).val) 0 R ⊢ wpc c (Scf.Loop.for k0_t4_loop k0_t4_ok ⟨⟩ (k0_t4_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2117 v2118))
      (fun _ => Loop ids E c n (128 * (gc c 3).val) 128 R) := by
  have e : k0_t4_loop.trips = 128 := by decide +kernel
  have ht : ∀ t : Fin k0_t4_loop.trips, Loop ids E c n (128 * (gc c 3).val) t.val R
      ⊢ wpc c (k0_t4_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2117 v2118 t ⟨⟩)
          (fun _ => Loop ids E c n (128 * (gc c 3).val) (t.val + 1) R) := fun t =>
    trip ids E hb c n hn _ t.val (e ▸ t.isLt) (by have := (gc c 3).isLt; omega) R
      (k0_off420 c t) (k0_off420_inb c t) k0_chk103 k0_chk103.dec (k0_off421 c t) (k0_off421_inb c t) (k0_off422 c t) (k0_off422_inb c t) k0_off423 k0_off423_inb
      (k0_cond4 t) (k0_off424 c t) (k0_off424_inb c t) (k0_chk104 t) (k0_chk104.dec t) (k0_off425 c t) (k0_off425_inb c t) (k0_off426 c t) (k0_off426_inb c t) k0_off427 (k0_off427_inb t)
      ((show ∀ c t, k0_off420 c t = ![128 * (gc c 3).val + t.val] by decide +kernel) c t)
      ((show ∀ c t, k0_off421 c t = ![t.val % 32] by decide +kernel) c t)
      ((show ∀ c t, k0_off422 c t = ![128 * (gc c 3).val + t.val, 0] by decide +kernel) c t)
      (fun v => rfl) (fun v hv => row_ok v hv)
      ((show ∀ t, k0_cond4 t = 1#1 ↔ 32 ≤ t.val by decide +kernel) t) (fun v hv _ => row_ok v hv)
      ((show ∀ c t, k0_cond4 t = 1#1 → k0_off425 c t = ![t.val % 32] by decide +kernel) c t)
  refine BIBase.Entails.trans ?_ (Scf.wp_for _ _ _ _ _ _ k0_t4_ok _ _ (fun t _ => Loop ids E c n (128 * (gc c 3).val) t R) (fun t _ => ht t))
  rw [show Scf.trips _ _ _ = 128 from e]
  iintro HL
  isplitl [HL]; · iexact HL
  iintro %_ HL; iexact HL

end Cert.KernelIdeal.Pf

end
-- ==== Proof.RingSum.lean ====
/-
The parts of the body that end a gather and take the ring of partial sums one step on.
-/
module

public import proofs.«01_k».proof.Proof.Steps
public import proofs.«01_k».proof.Proof.RowLoops

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)
variable (κ : GSem nD τ sig → ℕ) (c : Dev nD) (hb : Small ids)
include hb

theorem p20 (R : sProp 𝕄) (v5 : BitVec 32) (v62 : BitVec 32) (v657 : Elt F .i32) (k0_hw34 : k0_chk34 v657) :
    Drain ids E c 3 (128 * (gc c 0).val) 31 iprop(Aside E c (gc c 0) ∗ pt c bS Finset.univ fullShare (sc c) ∗ Acc c 0 ∗ R)
      ⊢ wpc c (k0_part20 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5 v62 v657 k0_hw34)
        (fun r => iprop(Gat ids E c 3 ∗ pt c bS Finset.univ fullShare (sc c) ∗ pt c bA (cS (gc c 0)) fullShare (psum ids sc E 0 c) ∗ R)) := by
  rw [k0_part20_eq_skeleton]; unfold k0_part20_skel
  refine drain_wait' ids E c 3 (by decide) _ 31 (by decide) _ _ _ _ _ ((show ∀ c, k0_off134 c = ![31] by decide +kernel) c) ?_
  refine wp_of_fupd _ _ _ (collect ids E c 3 (gc c 0) _) ?_
  iintro ⟨HK, HS, HF, HFr, HE, Hsc, HR⟩
  iapply (step c (ldF c (gc c 0) _ _ ((show ∀ c, k0_off137 c = ![128 * (gc c 0).val, 0] by decide +kernel) c) (gath ids E c) _)) $$ HF
  iintro %v ⟨%hv, HF⟩
  iapply (step c (ldS c (gc c 0) _ _ ((show ∀ c, k0_off138 c = ![128 * (gc c 0).val, 0] by decide +kernel) c) (sc c) _)) $$ Hsc
  iintro %w ⟨%hw, Hsc⟩
  icases HR with ⟨HA, HR⟩
  icases HA with ⟨%fa, HA⟩
  iapply (step c (ldA c (gc c 0) _ _ ((show ∀ c, k0_off137 c = ![128 * (gc c 0).val, 0] by decide +kernel) c) fa _)) $$ HA
  iintro %_ ⟨-, HA⟩
  iapply (step c (stA c (gc c 0) _ _ ((show ∀ c, k0_off137 c = ![128 * (gc c 0).val, 0] by decide +kernel) c) (psum ids sc E 0 c) _ (by rw [hv, hw]; exact tile_val ids sc E c _) _ _)) $$ [HA]
  · iexists _; iexact HA
  iintro %_ HA
  ihave HF := (rejoin c _ _) $$ [HF HFr]
  · isplitl [HF]; · iexact HF
    iexact HFr
  iapply (ret c .rfl)
  isplitl [HK HS HF HE]
  · isplitl [HK]; · iexact HK
    isplitl [HS]; · iexact HS
    isplitl [HF]; · iexact HF
    iexact HE
  isplitl [Hsc]; · iexact Hsc
  isplitl [HA]; · iexact HA
  iexact HR

theorem p21 (R : sProp 𝕄) (v2 : BitVec 32) (v5 : BitVec 32) (v8 : BitVec 32) (v19 : BitVec 32) :
    iprop(Gat ids E c 3 ∗ Inv ids sc E κ ∗ Tk c (iRS 0) (rgt c) (iRR 0) ∗ pt c bA (cS (gc c 0)) fullShare (psum ids sc E 0 c) ∗ Dst (rgt c) bR (pS 0) (iRR 0) ∗ R)
      ⊢ wpc c (k0_part21 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19)
        (fun r => Drain ids E c 4 (128 * (gc c 1).val) 0 iprop(Aside E c (gc c 1) ∗ Rcv c (iRS 0) ∗ R)) := by
  rw [k0_part21_eq_skeleton]; unfold k0_part21_skel
  refine seq c (Mid := fun _ => iprop(Keep ids c 4 ∗ Sems0 c ∗ (∃ f, pt (F := F) c bF Finset.univ fullShare f) ∗ pt c bE Finset.univ fullShare (E c) ∗ Rcv c (iRS 0) ∗ R)) ?_ fun _ => wp_of_fupd _ _ _ (start ids E c 4 (gc c 1) iprop(Rcv c (iRS 0) ∗ R)) ?_
  · iintro ⟨⟨HK, HS, HF, HE⟩, #HInv, HT, HA, HD, HR⟩
    iapply (wp_wand_r _ _ _)
    isplitl [HK HT HA HD]
    · iapply (sendRS ids sc E κ c 3 _ 0 (Fin.ext ((show ∀ c, k0_dev4 c = (rgt c).val by decide +kernel) c)) rfl _ _ ((show ∀ c, k0_off139 c = ![128 * (gc c 0).val, 0] by decide +kernel) c) _ _ rfl _ _ rfl _ _ rfl)
      isplitr; · iexact HInv
      isplitl [HK]; · iexact HK
      isplitl [HT]; · iexact HT
      isplitl [HA]; · iexact HA
      iexact HD
    iintro %_ ⟨HK, HRc⟩
    isplitl [HK]; · iexact HK
    isplitl [HS]; · iexact HS
    isplitl [HF]; · iexact HF
    isplitl [HE]; · iexact HE
    isplitl [HRc]; · iexact HRc
    iexact HR
  refine seq c (loop2 ids E c hb 4 (by decide) _ v2 v5 v8 v19) fun _ => ?_
  rw [drain_start]
  refine drain_load ids E c hb 4 _ 0 _ _ _ _ fun v hv => assume c (row_ok v hv) ?_
  exact ret c .rfl

theorem p41 (R : sProp 𝕄) (v5 : BitVec 32) :
    iprop(Gat ids E c 4 ∗ Inv ids sc E κ ∗ Tk c (iRS 1) (rgt c) (iRR 1) ∗ pt c bA (cS (gc c 1)) fullShare (psum ids sc E 1 c) ∗ Dst (rgt c) bR (pS 1) (iRR 1) ∗ R)
      ⊢ wpc c (k0_part41 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5)
        (fun r => Drain ids E c 5 (128 * (gc c 2).val) 0 iprop(Aside E c (gc c 2) ∗ Rcv c (iRS 1) ∗ R)) := by
  rw [k0_part41_eq_skeleton]; unfold k0_part41_skel
  refine seq c (Mid := fun _ => iprop(Keep ids c 5 ∗ Sems0 c ∗ (∃ f, pt (F := F) c bF Finset.univ fullShare f) ∗ pt c bE Finset.univ fullShare (E c) ∗ Rcv c (iRS 1) ∗ R)) ?_ fun _ => wp_of_fupd _ _ _ (start ids E c 5 (gc c 2) iprop(Rcv c (iRS 1) ∗ R)) ?_
  · iintro ⟨⟨HK, HS, HF, HE⟩, #HInv, HT, HA, HD, HR⟩
    iapply (wp_wand_r _ _ _)
    isplitl [HK HT HA HD]
    · iapply (sendRS ids sc E κ c 4 _ 1 (Fin.ext ((show ∀ c, k0_dev5 c = (rgt c).val by decide +kernel) c)) rfl _ _ ((show ∀ c, k0_off278 c 1#32 = ![128 * (gc c 1).val, 0] by decide +kernel) c) _ _ rfl _ _ rfl _ _ rfl)
      isplitr; · iexact HInv
      isplitl [HK]; · iexact HK
      isplitl [HT]; · iexact HT
      isplitl [HA]; · iexact HA
      iexact HD
    iintro %_ ⟨HK, HRc⟩
    isplitl [HK]; · iexact HK
    isplitl [HS]; · iexact HS
    isplitl [HF]; · iexact HF
    isplitl [HE]; · iexact HE
    isplitl [HRc]; · iexact HRc
    iexact HR
  refine seq c (loop3 ids E c hb 5 (by decide) _ v5) fun _ => ?_
  rw [drain_start]
  refine drain_load ids E c hb 5 _ 0 _ _ _ _ fun v hv => assume c (row_ok v hv) ?_
  exact ret c .rfl

theorem p60 (R : sProp 𝕄) (v2 : BitVec 32) (v5 : BitVec 32) (v8 : BitVec 32) (v19 : BitVec 32) (v2080 : BitVec 32) (v2081 : BitVec 32) (v2082 : BitVec 1) (v2083 : BitVec 1) :
    iprop(Keep ids c 5 ∗ Inv ids sc E κ ∗ Tk c (iRS 2) (rgt c) (iRR 2) ∗ pt c bA (cS (gc c 2)) fullShare (psum ids sc E 2 c) ∗ Dst (rgt c) bR (pS 2) (iRR 2) ∗ R)
      ⊢ wpc c (k0_part60 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v2080 v2081 v2082 v2083)
        (fun r => iprop(Keep ids c 6 ∗ Rcv c (iRS 2) ∗ R)) := by
  rw [k0_part60_eq_skeleton]; unfold k0_part60_skel
  iintro ⟨HK, #HInv, HT, HA, HD, HR⟩
  iapply (step c (sendRS ids sc E κ c 5 _ 2 (Fin.ext ((show ∀ c, k0_dev6 c = (rgt c).val by decide +kernel) c)) rfl _ _ ((show ∀ c, k0_off418 c 2#32 = ![128 * (gc c 2).val, 0] by decide +kernel) c) _ _ rfl _ _ rfl _ _ rfl)) $$ [HK HT HA HD]
  · isplitr; · iexact HInv
    isplitl [HK]; · iexact HK
    isplitl [HT]; · iexact HT
    isplitl [HA]; · iexact HA
    iexact HD
  iintro %_ ⟨HK, HRc⟩
  iapply (ret c .rfl)
  isplitl [HK]; · iexact HK
  isplitl [HRc]; · iexact HRc
  iexact HR

theorem p61 (R : sProp 𝕄) (v2117 : BitVec 32) (v2118 : BitVec 32) :
    iprop(Keep ids c 6 ∗ Sems0 c ∗ (∃ f, pt (F := F) c bF Finset.univ fullShare f) ∗ pt c bE Finset.univ fullShare (E c) ∗ R)
      ⊢ wpc c (k0_part61 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2117 v2118)
        (fun r => Drain ids E c 6 (128 * (gc c 3).val) 1 iprop(Aside E c (gc c 3) ∗ R)) := by
  rw [k0_part61_eq_skeleton]; unfold k0_part61_skel
  refine wp_of_fupd _ _ _ (start ids E c 6 (gc c 3) R) ?_
  refine seq c (loop4 ids E c hb 6 (by decide) _ v2117 v2118) fun _ => ?_
  rw [drain_start]
  refine drain_load ids E c hb 6 _ 0 _ _ _ _ fun v hv => assume c (row_ok v hv) ?_
  refine drain_wait' ids E c 6 (by decide) _ 0 (by decide) _ _ _ _ _ ((show ∀ c, k0_off429 c = ![0] by decide +kernel) c) ?_
  refine drain_load ids E c hb 6 _ 1 _ _ _ _ fun v hv => assume c (row_ok v hv) ?_
  exact ret c .rfl

theorem p38 (R : sProp 𝕄) (v732 : BitVec 32) (v1306 : BitVec 32) (v1308 : Elt F .i32) (k0_hw67 : k0_chk67 v1308) (c32_i32_740 : BitVec 32) :
    Drain ids E c 4 (128 * (gc c 1).val) 30 iprop(Aside E c (gc c 1) ∗ Rcv c (iRS 0) ∗ pt c bS Finset.univ fullShare (sc c) ∗ R)
      ⊢ wpc c (k0_part38 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1306 v1308 k0_hw67 c32_i32_740)
        (fun r => iprop(⌜r.1 = take (gc c 1) (gath ids E c) ∧ r.2 = takeS (gc c 1) (sc c)⌝ ∗ Gat ids E c 4 ∗ pt c bS Finset.univ fullShare (sc c) ∗ Rcv c (iRS 0) ∗ R)) := by
  rw [k0_part38_eq_skeleton]; unfold k0_part38_skel
  refine drain_wait' ids E c 4 (by decide) _ 30 (by decide) _ _ _ _ _ ((show ∀ c, k0_off269 c = ![30] by decide +kernel) c) ?_
  refine drain_load ids E c hb 4 _ 31 _ _ _ _ fun v hv => assume c (row_ok v hv) ?_
  refine drain_wait' ids E c 4 (by decide) _ 31 (by decide) _ _ _ _ _ ((show ∀ c, k0_off273 c = ![31] by decide +kernel) c) ?_
  refine wp_of_fupd _ _ _ (collect ids E c 4 (gc c 1) _) ?_
  iintro ⟨HK, HS, HF, HFr, HE, HRS, Hsc, HR⟩
  iapply (step c (ldF c (gc c 1) _ _ ((show ∀ c, k0_off276 c = ![128 * (gc c 1).val, 0] by decide +kernel) c) (gath ids E c) _)) $$ HF
  iintro %v ⟨%hv, HF⟩
  iapply (step c (ldS c (gc c 1) _ _ ((show ∀ c, k0_off277 c = ![128 * (gc c 1).val, 0] by decide +kernel) c) (sc c) _)) $$ Hsc
  iintro %w ⟨%hw, Hsc⟩
  ihave HF := (rejoin c _ _) $$ [HF HFr]
  · isplitl [HF]; · iexact HF
    iexact HFr
  iapply (ret c .rfl)
  isplitr; · ipureintro; exact ⟨hv, hw⟩
  isplitl [HK HS HF HE]
  · isplitl [HK]; · iexact HK
    isplitl [HS]; · iexact HS
    isplitl [HF]; · iexact HF
    iexact HE
  isplitl [Hsc]; · iexact Hsc
  isplitl [HRS]; · iexact HRS
  iexact HR

theorem p39 (R : sProp 𝕄) (v2 : BitVec 32) (v8 : BitVec 32) (v19 : BitVec 32) (v706 : BitVec 32) (v732 : BitVec 32) (v1343 : Vec F S128x1024 .f32) (v1345 : Vec F S128x1 .f32) (hv : v1343 = take (gc c 1) (gath ids E c) ∧ v1345 = takeS (gc c 1) (sc c)) :
    iprop(Keep ids c 4 ∗ Inv ids sc E κ ∗ Acc c 1 ∗ Rcv c (iRS 0) ∗ Rcv c (iRR 0) ∗ R)
      ⊢ wpc c (k0_part39 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v8 v19 v706 v732 v1343 v1345)
        (fun r => iprop(⌜r = take (gc c 1) (psum ids sc E 1 c)⌝ ∗ Keep ids c 4 ∗ pt c bA (cS (gc c 1)) fullShare (part ids sc E c) ∗ Done ids sc E c 0 ∗ R)) := by
  rw [k0_part39_eq_skeleton]; unfold k0_part39_skel
  iintro ⟨HK, #HInv, HA, HRS, HRR, HR⟩
  icases HA with ⟨%fa, HA⟩
  iapply (step c (ldA c (gc c 1) _ _ ((show ∀ c, k0_off276 c = ![128 * (gc c 1).val, 0] by decide +kernel) c) fa _)) $$ HA
  iintro %_ ⟨-, HA⟩
  iapply (step c (stA c (gc c 1) _ _ ((show ∀ c, k0_off276 c = ![128 * (gc c 1).val, 0] by decide +kernel) c) (part ids sc E c) _ (by rw [hv.1, hv.2]; exact tile_val ids sc E c _) _ _)) $$ [HA]
  · iexists _; iexact HA
  iintro %_ HA
  iapply (step c (waitRS ids sc E κ c 4 0 (by decide) _ _ rfl _ _)) $$ [HK HRS]
  · isplitr; · iexact HInv
    isplitl [HK]; · iexact HK
    iexact HRS
  iintro %_ ⟨HK, HfS, HAp⟩
  iapply (step c (waitRR ids sc E κ c 4 0 (by decide) _ _ rfl _ _)) $$ [HK HRR]
  · isplitr; · iexact HInv
    isplitl [HK]; · iexact HK
    iexact HRR
  iintro %_ ⟨HK, HfR, HRp⟩
  iapply (step c (ldA c (gc c 1) _ _ ((show ∀ c, k0_off279 c = ![128 * (gc c 1).val, 0] by decide +kernel) c) (part ids sc E c) _)) $$ HA
  iintro %va ⟨%hva, HA⟩
  iapply (step c (ldR c 0 _ _ rfl (recvd ids sc E (0 : Fin 3).val c) _)) $$ HRp
  iintro %vr ⟨%hvr, HRp⟩
  iapply (ret c .rfl)
  isplitr; · ipureintro; rw [hva, hvr]; exact add_val ids sc E c 0
  isplitl [HK]; · iexact HK
  isplitl [HA]; · iexact HA
  isplitl [HfS HfR HAp HRp]
  · isplitl [HfS]; · iexact HfS
    isplitl [HfR]; · iexact HfR
    isplitl [HAp]; · iexact HAp
    iexact HRp
  iexact HR

theorem p40 (R : sProp 𝕄) (v2 : BitVec 32) (v5 : BitVec 32) (v8 : BitVec 32) (v19 : BitVec 32) (v1375 : FVec F S128x1024 .bf16) (hv : v1375 = take (gc c 1) (psum ids sc E 1 c)) :
    iprop(pt c bA (cS (gc c 1)) fullShare (part ids sc E c) ∗ R)
      ⊢ wpc c (k0_part40 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v1375)
        (fun r => iprop(pt c bA (cS (gc c 1)) fullShare (psum ids sc E 1 c) ∗ R)) := by
  rw [k0_part40_eq_skeleton]; unfold k0_part40_skel
  iintro ⟨HA, HR⟩
  iapply (step c (ldA c (gc c 1) _ _ ((show ∀ c, k0_off279 c = ![128 * (gc c 1).val, 0] by decide +kernel) c) (part ids sc E c) _)) $$ HA
  iintro %_ ⟨-, HA⟩
  iapply (step c (stA c (gc c 1) _ _ ((show ∀ c, k0_off279 c = ![128 * (gc c 1).val, 0] by decide +kernel) c) (psum ids sc E 1 c) _ (by rw [hv]; exact shapeCast_self _ _) _ _)) $$ [HA]
  · iexists _; iexact HA
  iintro %_ HA
  iapply (ret c .rfl)
  isplitl [HA]; · iexact HA
  iexact HR

theorem p58 (R : sProp 𝕄) (v1429 : BitVec 32) (v2005 : Elt F .i32) (k0_hw101 : k0_chk101 v2005) :
    Drain ids E c 5 (128 * (gc c 2).val) 30 iprop(Aside E c (gc c 2) ∗ Rcv c (iRS 1) ∗ pt c bS Finset.univ fullShare (sc c) ∗ Acc c 2 ∗ R)
      ⊢ wpc c (k0_part58 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v2005 k0_hw101)
        (fun r => iprop(Gat ids E c 5 ∗ pt c bS Finset.univ fullShare (sc c) ∗ pt c bA (cS (gc c 2)) fullShare (part ids sc E c) ∗ Rcv c (iRS 1) ∗ R)) := by
  rw [k0_part58_eq_skeleton]; unfold k0_part58_skel
  refine drain_wait' ids E c 5 (by decide) _ 30 (by decide) _ _ _ _ _ ((show ∀ c, k0_off409 c = ![30] by decide +kernel) c) ?_
  refine drain_load ids E c hb 5 _ 31 _ _ _ _ fun v hv => assume c (row_ok v hv) ?_
  refine drain_wait' ids E c 5 (by decide) _ 31 (by decide) _ _ _ _ _ ((show ∀ c, k0_off413 c = ![31] by decide +kernel) c) ?_
  refine wp_of_fupd _ _ _ (collect ids E c 5 (gc c 2) _) ?_
  iintro ⟨HK, HS, HF, HFr, HE, HRS, Hsc, HR⟩
  iapply (step c (ldF c (gc c 2) _ _ ((show ∀ c, k0_off416 c = ![128 * (gc c 2).val, 0] by decide +kernel) c) (gath ids E c) _)) $$ HF
  iintro %v ⟨%hv, HF⟩
  iapply (step c (ldS c (gc c 2) _ _ ((show ∀ c, k0_off417 c = ![128 * (gc c 2).val, 0] by decide +kernel) c) (sc c) _)) $$ Hsc
  iintro %w ⟨%hw, Hsc⟩
  icases HR with ⟨HA, HR⟩
  icases HA with ⟨%fa, HA⟩
  iapply (step c (ldA c (gc c 2) _ _ ((show ∀ c, k0_off416 c = ![128 * (gc c 2).val, 0] by decide +kernel) c) fa _)) $$ HA
  iintro %_ ⟨-, HA⟩
  iapply (step c (stA c (gc c 2) _ _ ((show ∀ c, k0_off416 c = ![128 * (gc c 2).val, 0] by decide +kernel) c) (part ids sc E c) _ (by rw [hv, hw]; exact tile_val ids sc E c _) _ _)) $$ [HA]
  · iexists _; iexact HA
  iintro %_ HA
  ihave HF := (rejoin c _ _) $$ [HF HFr]
  · isplitl [HF]; · iexact HF
    iexact HFr
  iapply (ret c .rfl)
  isplitl [HK HS HF HE]
  · isplitl [HK]; · iexact HK
    isplitl [HS]; · iexact HS
    isplitl [HF]; · iexact HF
    iexact HE
  isplitl [Hsc]; · iexact Hsc
  isplitl [HA]; · iexact HA
  isplitl [HRS]; · iexact HRS
  iexact HR

theorem p59 (R : sProp 𝕄) (v2 : BitVec 32) (v5 : BitVec 32) (v8 : BitVec 32) (v19 : BitVec 32) (v1403 : BitVec 32) :
    iprop(Keep ids c 5 ∗ Inv ids sc E κ ∗ pt c bA (cS (gc c 2)) fullShare (part ids sc E c) ∗ Rcv c (iRS 1) ∗ Rcv c (iRR 1) ∗ R)
      ⊢ wpc c (k0_part59 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v1403)
        (fun r => iprop(Keep ids c 5 ∗ pt c bA (cS (gc c 2)) fullShare (psum ids sc E 2 c) ∗ Done ids sc E c 1 ∗ R)) := by
  rw [k0_part59_eq_skeleton]; unfold k0_part59_skel
  iintro ⟨HK, #HInv, HA, HRS, HRR, HR⟩
  iapply (step c (waitRS ids sc E κ c 5 1 (by decide) _ _ rfl _ _)) $$ [HK HRS]
  · isplitr; · iexact HInv
    isplitl [HK]; · iexact HK
    iexact HRS
  iintro %_ ⟨HK, HfS, HAp⟩
  iapply (step c (waitRR ids sc E κ c 5 1 (by decide) _ _ rfl _ _)) $$ [HK HRR]
  · isplitr; · iexact HInv
    isplitl [HK]; · iexact HK
    iexact HRR
  iintro %_ ⟨HK, HfR, HRp⟩
  iapply (step c (ldA c (gc c 2) _ _ ((show ∀ c, k0_off419 c = ![128 * (gc c 2).val, 0] by decide +kernel) c) (part ids sc E c) _)) $$ HA
  iintro %va ⟨%hva, HA⟩
  iapply (step c (ldR c 1 _ _ rfl (recvd ids sc E (1 : Fin 3).val c) _)) $$ HRp
  iintro %vr ⟨%hvr, HRp⟩
  iapply (step c (ldA c (gc c 2) _ _ ((show ∀ c, k0_off419 c = ![128 * (gc c 2).val, 0] by decide +kernel) c) (part ids sc E c) _)) $$ HA
  iintro %_ ⟨-, HA⟩
  iapply (step c (stA c (gc c 2) _ _ ((show ∀ c, k0_off419 c = ![128 * (gc c 2).val, 0] by decide +kernel) c) (psum ids sc E 2 c) _ (by rw [hva, hvr]; exact (shapeCast_self _ _).trans (add_val ids sc E c 1)) _ _)) $$ [HA]
  · iexists _; iexact HA
  iintro %_ HA
  iapply (ret c .rfl)
  isplitl [HK]; · iexact HK
  isplitl [HA]; · iexact HA
  isplitl [HfS HfR HAp HRp]
  · isplitl [HfS]; · iexact HfS
    isplitl [HfR]; · iexact HfR
    isplitl [HAp]; · iexact HAp
    iexact HRp
  iexact HR

theorem p78 (R : sProp 𝕄) (v2 : BitVec 32) (v19 : BitVec 32) (v2126 : BitVec 32) (v2719 : BitVec 32) (v2721 : Elt F .i32) (k0_hw136 : k0_chk136 v2721) (c32_i32_1584 : BitVec 32) :
    Drain ids E c 6 (128 * (gc c 3).val) 31 iprop(Aside E c (gc c 3) ∗ pt c bS Finset.univ fullShare (sc c) ∗ Acc c 3 ∗ Inv ids sc E κ ∗ Rcv c (iRS 2) ∗ R)
      ⊢ wpc c (k0_part78 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v19 v2126 v2719 v2721 k0_hw136 c32_i32_1584)
        (fun r => iprop(Gat ids E c 6 ∗ pt c bS Finset.univ fullShare (sc c) ∗ pt c bA (cS (gc c 3)) fullShare (part ids sc E c) ∗ (Fin' c (iRS 2) ∗ pt c bA (cS (gc c 2)) fullShare (psum ids sc E 2 c)) ∗ R)) := by
  rw [k0_part78_eq_skeleton]; unfold k0_part78_skel
  refine drain_wait' ids E c 6 (by decide) _ 31 (by decide) _ _ _ _ _ ((show ∀ c, k0_off553 c = ![31] by decide +kernel) c) ?_
  refine wp_of_fupd _ _ _ (collect ids E c 6 (gc c 3) _) ?_
  iintro ⟨HK, HS, HF, HFr, HE, Hsc, HR⟩
  iapply (step c (ldF c (gc c 3) _ _ ((show ∀ c, k0_off556 c = ![128 * (gc c 3).val, 0] by decide +kernel) c) (gath ids E c) _)) $$ HF
  iintro %v ⟨%hv, HF⟩
  iapply (step c (ldS c (gc c 3) _ _ ((show ∀ c, k0_off557 c = ![128 * (gc c 3).val, 0] by decide +kernel) c) (sc c) _)) $$ Hsc
  iintro %w ⟨%hw, Hsc⟩
  icases HR with ⟨HA, #HInv, HRS, HR⟩
  icases HA with ⟨%fa, HA⟩
  iapply (step c (ldA c (gc c 3) _ _ ((show ∀ c, k0_off556 c = ![128 * (gc c 3).val, 0] by decide +kernel) c) fa _)) $$ HA
  iintro %_ ⟨-, HA⟩
  iapply (step c (stA c (gc c 3) _ _ ((show ∀ c, k0_off556 c = ![128 * (gc c 3).val, 0] by decide +kernel) c) (part ids sc E c) _ (by rw [hv, hw]; exact tile_val ids sc E c _) _ _)) $$ [HA]
  · iexists _; iexact HA
  iintro %_ HA
  iapply (step c (waitRS ids sc E κ c 6 2 (by decide) _ _ rfl _ _)) $$ [HK HRS]
  · isplitr; · iexact HInv
    isplitl [HK]; · iexact HK
    iexact HRS
  iintro %_ ⟨HK, HfS, HAp⟩
  ihave HF := (rejoin c _ _) $$ [HF HFr]
  · isplitl [HF]; · iexact HF
    iexact HFr
  iapply (ret c .rfl)
  isplitl [HK HS HF HE]
  · isplitl [HK]; · iexact HK
    isplitl [HS]; · iexact HS
    isplitl [HF]; · iexact HF
    iexact HE
  isplitl [Hsc]; · iexact Hsc
  isplitl [HA]; · iexact HA
  isplitl [HfS HAp]
  · isplitl [HfS]; · iexact HfS
    iexact HAp
  iexact HR

theorem p79 (R : sProp 𝕄) (v5 : BitVec 32) (v8 : BitVec 32) (v2100 : BitVec 32) (v2754 : BitVec 32) (v2755 : BitVec 32) :
    iprop(Keep ids c 6 ∗ Inv ids sc E κ ∗ pt c bA (cS (gc c 3)) fullShare (part ids sc E c) ∗ (∃ f, pt (F := F) c bG (cS (ch c 0)) fullShare f) ∗ Rcv c (iRR 2) ∗ R)
      ⊢ wpc c (k0_part79 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5 v8 v2100 v2754 v2755)
        (fun r => iprop(⌜r.2.1 = take (ch c 0) (tot ids sc E c)⌝ ∗ Keep ids c 6 ∗ pt c bA (cS (gc c 3)) fullShare (psum ids sc E 3 c) ∗ (∃ f, pt (F := F) c bG (cS (ch c 0)) fullShare f) ∗ (Fin' c (iRR 2) ∗ pt c bR (pS 2) fullShare (recvd ids sc E 2 c)) ∗ R)) := by
  rw [k0_part79_eq_skeleton]; unfold k0_part79_skel
  iintro ⟨HK, #HInv, HA, ⟨%fg, HG⟩, HRR, HR⟩
  iapply (step c (waitRR ids sc E κ c 6 2 (by decide) _ _ rfl _ _)) $$ [HK HRR]
  · isplitr; · iexact HInv
    isplitl [HK]; · iexact HK
    iexact HRR
  iintro %_ ⟨HK, HfR, HRp⟩
  iapply (step c (ldA c (gc c 3) _ _ ((show ∀ c, k0_off559 c = ![128 * (gc c 3).val, 0] by decide +kernel) c) (part ids sc E c) _)) $$ HA
  iintro %va ⟨%hva, HA⟩
  iapply (step c (ldR c 2 _ _ rfl (recvd ids sc E (2 : Fin 3).val c) _)) $$ HRp
  iintro %vr ⟨%hvr, HRp⟩
  iapply (step c (ldA c (gc c 3) _ _ ((show ∀ c, k0_off559 c = ![128 * (gc c 3).val, 0] by decide +kernel) c) (part ids sc E c) _)) $$ HA
  iintro %_ ⟨-, HA⟩
  iapply (step c (stA c (gc c 3) _ _ ((show ∀ c, k0_off559 c = ![128 * (gc c 3).val, 0] by decide +kernel) c) (psum ids sc E 3 c) _ (by rw [hva, hvr]; exact (shapeCast_self _ _).trans (add_val ids sc E c 2)) _ _)) $$ [HA]
  · iexists _; iexact HA
  iintro %_ HA
  iapply (step c (ldA c (gc c 3) _ _ ((show ∀ c, k0_off560 c = ![128 * (gc c 3).val, 0] by decide +kernel) c) (psum ids sc E 3 c) _)) $$ HA
  iintro %vt ⟨%hvt, HA⟩
  iapply (step c (ldG c (ch c 0) _ _ ((show ∀ c, k0_off560 c = ![128 * (ch c 0).val, 0] by decide +kernel) c) fg _)) $$ HG
  iintro %_ ⟨-, HG⟩
  iapply (ret c .rfl)
  isplitr; · ipureintro; exact hvt.trans ((congrArg (fun k => take k _) (gc_last c)).trans (take_tot ids sc E c))
  isplitl [HK]; · iexact HK
  isplitl [HA]; · iexact HA
  isplitl [HG]; · iexists _; iexact HG
  isplitl [HfR HRp]
  · isplitl [HfR]; · iexact HfR
    iexact HRp
  iexact HR

end Cert.KernelIdeal.Pf

end
-- ==== Proof.Drain0.lean ====
/-
The waits for the row copies of gather step 0, part by part.
-/
module

public import proofs.«01_k».proof.Proof.GatherEnd

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)

variable (c : Dev nD) (hb : Small ids) (n : ℕ) (hn : 3 ≤ n) (B : ℕ)
include hb hn

theorem p3 (R : sProp 𝕄) (v62 : BitVec 32) :
    Drain ids E c n B 0 R ⊢ wpc c (k0_part3 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62) (fun _ => Drain ids E c n B 1 R) := by
  rw [k0_part3_eq_skeleton]; unfold k0_part3_skel
  refine drain_load ids E c hb n B _ _ _ _ _ fun v hv => assume c (row_ok v hv) ?_
  refine drain_wait' ids E c n hn B _ (by decide) _ _ _ _ _ ((show ∀ c, k0_off10 c = ![0] by decide +kernel) c) ?_
  refine drain_load ids E c hb n B _ _ _ _ _ fun v hv => assume c (row_ok v hv) ?_
  exact ret c .rfl

theorem p4 (R : sProp 𝕄) (v62 : BitVec 32) (v87 : Elt F .i32) (k0_hw4 : k0_chk4 v87) :
    Drain ids E c n B 1 R ⊢ wpc c (k0_part4 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v87 k0_hw4) (fun _ => Drain ids E c n B 3 R) := by
  rw [k0_part4_eq_skeleton]; unfold k0_part4_skel
  refine drain_wait' ids E c n hn B _ (by decide) _ _ _ _ _ ((show ∀ c, k0_off14 c = ![1] by decide +kernel) c) ?_
  refine drain_load ids E c hb n B _ _ _ _ _ fun v hv => assume c (row_ok v hv) ?_
  refine drain_wait' ids E c n hn B _ (by decide) _ _ _ _ _ ((show ∀ c, k0_off18 c = ![2] by decide +kernel) c) ?_
  refine drain_load ids E c hb n B _ _ _ _ _ fun v hv => assume c (row_ok v hv) ?_
  exact ret c .rfl

theorem p5 (R : sProp 𝕄) (v62 : BitVec 32) (v125 : Elt F .i32) (k0_hw6 : k0_chk6 v125) (v128 : BitVec 32) (v133 : BitVec 1) (v134 : BitVec 32) :
    Drain ids E c n B 3 R ⊢ wpc c (k0_part5 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v125 k0_hw6 v128 v133 v134) (fun _ => Drain ids E c n B 5 R) := by
  rw [k0_part5_eq_skeleton]; unfold k0_part5_skel
  refine drain_wait' ids E c n hn B _ (by decide) _ _ _ _ _ ((show ∀ c, k0_off22 c = ![3] by decide +kernel) c) ?_
  refine drain_load ids E c hb n B _ _ _ _ _ fun v hv => assume c (row_ok v hv) ?_
  refine drain_wait' ids E c n hn B _ (by decide) _ _ _ _ _ ((show ∀ c, k0_off26 c = ![4] by decide +kernel) c) ?_
  refine drain_load ids E c hb n B _ _ _ _ _ fun v hv => assume c (row_ok v hv) ?_
  exact ret c .rfl

theorem p6 (R : sProp 𝕄) (v62 : BitVec 32) (v163 : Elt F .i32) (k0_hw8 : k0_chk8 v163) (v165 : BitVec 32) (v166 : BitVec 32) (v167 : BitVec 1) (v168 : BitVec 1) (c0_i32_103 : BitVec 32) :
    Drain ids E c n B 5 R ⊢ wpc c (k0_part6 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v163 k0_hw8 v165 v166 v167 v168 c0_i32_103) (fun _ => Drain ids E c n B 7 R) := by
  rw [k0_part6_eq_skeleton]; unfold k0_part6_skel
  refine drain_wait' ids E c n hn B _ (by decide) _ _ _ _ _ ((show ∀ c, k0_off30 c = ![5] by decide +kernel) c) ?_
  refine drain_load ids E c hb n B _ _ _ _ _ fun v hv => assume c (row_ok v hv) ?_
  refine drain_wait' ids E c n hn B _ (by decide) _ _ _ _ _ ((show ∀ c, k0_off34 c = ![6] by decide +kernel) c) ?_
  refine drain_load ids E c hb n B _ _ _ _ _ fun v hv => assume c (row_ok v hv) ?_
  exact ret c .rfl

theorem p7 (R : sProp 𝕄) (v62 : BitVec 32) (v201 : Elt F .i32) (k0_hw10 : k0_chk10 v201) (v203 : BitVec 32) (v204 : BitVec 32) (c0_i32_121 : BitVec 32) :
    Drain ids E c n B 7 R ⊢ wpc c (k0_part7 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v201 k0_hw10 v203 v204 c0_i32_121) (fun _ => Drain ids E c n B 9 R) := by
  rw [k0_part7_eq_skeleton]; unfold k0_part7_skel
  refine drain_wait' ids E c n hn B _ (by decide) _ _ _ _ _ ((show ∀ c, k0_off38 c = ![7] by decide +kernel) c) ?_
  refine drain_load ids E c hb n B _ _ _ _ _ fun v hv => assume c (row_ok v hv) ?_
  refine drain_wait' ids E c n hn B _ (by decide) _ _ _ _ _ ((show ∀ c, k0_off42 c = ![8] by decide +kernel) c) ?_
  refine drain_load ids E c hb n B _ _ _ _ _ fun v hv => assume c (row_ok v hv) ?_
  exact ret c .rfl

theorem p8 (R : sProp 𝕄) (v62 : BitVec 32) (v237 : BitVec 32) (v239 : Elt F .i32) (k0_hw12 : k0_chk12 v239) (c32_i32_138 : BitVec 32) (v240 : BitVec 1) :
    Drain ids E c n B 9 R ⊢ wpc c (k0_part8 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v237 v239 k0_hw12 c32_i32_138 v240) (fun r => iprop(⌜BitVec.toNat r.2 < 8192⌝ ∗ Drain ids E c n B 11 R)) := by
  rw [k0_part8_eq_skeleton]; unfold k0_part8_skel
  refine drain_wait' ids E c n hn B _ (by decide) _ _ _ _ _ ((show ∀ c, k0_off46 c = ![9] by decide +kernel) c) ?_
  refine drain_load ids E c hb n B _ _ _ _ _ fun v hv => assume c (row_ok v hv) ?_
  refine drain_wait' ids E c n hn B _ (by decide) _ _ _ _ _ ((show ∀ c, k0_off50 c = ![10] by decide +kernel) c) ?_
  refine drain_load ids E c hb n B _ _ _ _ _ fun v hv => ?_
  exact ret c (pure_l hv)

theorem p9 (R : sProp 𝕄) (v62 : BitVec 32) (v275 : BitVec 32) (v277 : Elt F .i32) (hv0 : BitVec.toNat v277 < 8192) :
    Drain ids E c n B 11 R ⊢ wpc c (k0_part9 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v275 v277) (fun _ => Drain ids E c n B 13 R) := by
  rw [k0_part9_eq_skeleton]; unfold k0_part9_skel
  refine assume c (row_ok _ hv0) ?_
  refine drain_wait' ids E c n hn B _ (by decide) _ _ _ _ _ ((show ∀ c, k0_off54 c = ![11] by decide +kernel) c) ?_
  refine drain_load ids E c hb n B _ _ _ _ _ fun v hv => assume c (row_ok v hv) ?_
  refine drain_wait' ids E c n hn B _ (by decide) _ _ _ _ _ ((show ∀ c, k0_off58 c = ![12] by decide +kernel) c) ?_
  exact ret c .rfl

theorem p10 (R : sProp 𝕄) (v62 : BitVec 32) (v312 : BitVec 32) :
    Drain ids E c n B 13 R ⊢ wpc c (k0_part10 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v312) (fun _ => Drain ids E c n B 15 R) := by
  rw [k0_part10_eq_skeleton]; unfold k0_part10_skel
  refine drain_load ids E c hb n B _ _ _ _ _ fun v hv => assume c (row_ok v hv) ?_
  refine drain_wait' ids E c n hn B _ (by decide) _ _ _ _ _ ((show ∀ c, k0_off62 c = ![13] by decide +kernel) c) ?_
  refine drain_load ids E c hb n B _ _ _ _ _ fun v hv => assume c (row_ok v hv) ?_
  refine drain_wait' ids E c n hn B _ (by decide) _ _ _ _ _ ((show ∀ c, k0_off66 c = ![14] by decide +kernel) c) ?_
  exact ret c .rfl

theorem p11 (R : sProp 𝕄) (v62 : BitVec 32) :
    Drain ids E c n B 15 R ⊢ wpc c (k0_part11 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62) (fun _ => Drain ids E c n B 16 R) := by
  rw [k0_part11_eq_skeleton]; unfold k0_part11_skel
  refine drain_load ids E c hb n B _ _ _ _ _ fun v hv => assume c (row_ok v hv) ?_
  refine drain_wait' ids E c n hn B _ (by decide) _ _ _ _ _ ((show ∀ c, k0_off70 c = ![15] by decide +kernel) c) ?_
  refine drain_load ids E c hb n B _ _ _ _ _ fun v hv => assume c (row_ok v hv) ?_
  exact ret c .rfl

theorem p12 (R : sProp 𝕄) (v62 : BitVec 32) (v372 : Elt F .i32) (k0_hw19 : k0_chk19 v372) :
    Drain ids E c n B 16 R ⊢ wpc c (k0_part12 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v372 k0_hw19) (fun _ => Drain ids E c n B 18 R) := by
  rw [k0_part12_eq_skeleton]; unfold k0_part12_skel
  refine drain_wait' ids E c n hn B _ (by decide) _ _ _ _ _ ((show ∀ c, k0_off74 c = ![16] by decide +kernel) c) ?_
  refine drain_load ids E c hb n B _ _ _ _ _ fun v hv => assume c (row_ok v hv) ?_
  refine drain_wait' ids E c n hn B _ (by decide) _ _ _ _ _ ((show ∀ c, k0_off78 c = ![17] by decide +kernel) c) ?_
  refine drain_load ids E c hb n B _ _ _ _ _ fun v hv => assume c (row_ok v hv) ?_
  exact ret c .rfl

theorem p13 (R : sProp 𝕄) (v62 : BitVec 32) (v410 : Elt F .i32) (k0_hw21 : k0_chk21 v410) (v413 : BitVec 32) (v418 : BitVec 1) (v419 : BitVec 32) :
    Drain ids E c n B 18 R ⊢ wpc c (k0_part13 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v410 k0_hw21 v413 v418 v419) (fun _ => Drain ids E c n B 20 R) := by
  rw [k0_part13_eq_skeleton]; unfold k0_part13_skel
  refine drain_wait' ids E c n hn B _ (by decide) _ _ _ _ _ ((show ∀ c, k0_off82 c = ![18] by decide +kernel) c) ?_
  refine drain_load ids E c hb n B _ _ _ _ _ fun v hv => assume c (row_ok v hv) ?_
  refine drain_wait' ids E c n hn B _ (by decide) _ _ _ _ _ ((show ∀ c, k0_off86 c = ![19] by decide +kernel) c) ?_
  refine drain_load ids E c hb n B _ _ _ _ _ fun v hv => assume c (row_ok v hv) ?_
  exact ret c .rfl

theorem p14 (R : sProp 𝕄) (v62 : BitVec 32) (v448 : Elt F .i32) (k0_hw23 : k0_chk23 v448) (v450 : BitVec 32) (v451 : BitVec 32) (v452 : BitVec 1) (v453 : BitVec 1) (c0_i32_254 : BitVec 32) :
    Drain ids E c n B 20 R ⊢ wpc c (k0_part14 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v448 k0_hw23 v450 v451 v452 v453 c0_i32_254) (fun _ => Drain ids E c n B 22 R) := by
  rw [k0_part14_eq_skeleton]; unfold k0_part14_skel
  refine drain_wait' ids E c n hn B _ (by decide) _ _ _ _ _ ((show ∀ c, k0_off90 c = ![20] by decide +kernel) c) ?_
  refine drain_load ids E c hb n B _ _ _ _ _ fun v hv => assume c (row_ok v hv) ?_
  refine drain_wait' ids E c n hn B _ (by decide) _ _ _ _ _ ((show ∀ c, k0_off94 c = ![21] by decide +kernel) c) ?_
  refine drain_load ids E c hb n B _ _ _ _ _ fun v hv => assume c (row_ok v hv) ?_
  exact ret c .rfl

theorem p15 (R : sProp 𝕄) (v62 : BitVec 32) (v486 : Elt F .i32) (k0_hw25 : k0_chk25 v486) (v488 : BitVec 32) (v489 : BitVec 32) (c0_i32_272 : BitVec 32) :
    Drain ids E c n B 22 R ⊢ wpc c (k0_part15 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v486 k0_hw25 v488 v489 c0_i32_272) (fun _ => Drain ids E c n B 24 R) := by
  rw [k0_part15_eq_skeleton]; unfold k0_part15_skel
  refine drain_wait' ids E c n hn B _ (by decide) _ _ _ _ _ ((show ∀ c, k0_off98 c = ![22] by decide +kernel) c) ?_
  refine drain_load ids E c hb n B _ _ _ _ _ fun v hv => assume c (row_ok v hv) ?_
  refine drain_wait' ids E c n hn B _ (by decide) _ _ _ _ _ ((show ∀ c, k0_off102 c = ![23] by decide +kernel) c) ?_
  refine drain_load ids E c hb n B _ _ _ _ _ fun v hv => assume c (row_ok v hv) ?_
  exact ret c .rfl

theorem p16 (R : sProp 𝕄) (v62 : BitVec 32) (v522 : BitVec 32) (v524 : Elt F .i32) (k0_hw27 : k0_chk27 v524) (c32_i32_289 : BitVec 32) (v525 : BitVec 1) :
    Drain ids E c n B 24 R ⊢ wpc c (k0_part16 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v522 v524 k0_hw27 c32_i32_289 v525) (fun r => iprop(⌜BitVec.toNat r.2 < 8192⌝ ∗ Drain ids E c n B 26 R)) := by
  rw [k0_part16_eq_skeleton]; unfold k0_part16_skel
  refine drain_wait' ids E c n hn B _ (by decide) _ _ _ _ _ ((show ∀ c, k0_off106 c = ![24] by decide +kernel) c) ?_
  refine drain_load ids E c hb n B _ _ _ _ _ fun v hv => assume c (row_ok v hv) ?_
  refine drain_wait' ids E c n hn B _ (by decide) _ _ _ _ _ ((show ∀ c, k0_off110 c = ![25] by decide +kernel) c) ?_
  refine drain_load ids E c hb n B _ _ _ _ _ fun v hv => ?_
  exact ret c (pure_l hv)

theorem p17 (R : sProp 𝕄) (v62 : BitVec 32) (v560 : BitVec 32) (v562 : Elt F .i32) (hv0 : BitVec.toNat v562 < 8192) :
    Drain ids E c n B 26 R ⊢ wpc c (k0_part17 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v560 v562) (fun _ => Drain ids E c n B 28 R) := by
  rw [k0_part17_eq_skeleton]; unfold k0_part17_skel
  refine assume c (row_ok _ hv0) ?_
  refine drain_wait' ids E c n hn B _ (by decide) _ _ _ _ _ ((show ∀ c, k0_off114 c = ![26] by decide +kernel) c) ?_
  refine drain_load ids E c hb n B _ _ _ _ _ fun v hv => assume c (row_ok v hv) ?_
  refine drain_wait' ids E c n hn B _ (by decide) _ _ _ _ _ ((show ∀ c, k0_off118 c = ![27] by decide +kernel) c) ?_
  exact ret c .rfl

theorem p18 (R : sProp 𝕄) (v62 : BitVec 32) (v597 : BitVec 32) :
    Drain ids E c n B 28 R ⊢ wpc c (k0_part18 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62 v597) (fun _ => Drain ids E c n B 30 R) := by
  rw [k0_part18_eq_skeleton]; unfold k0_part18_skel
  refine drain_load ids E c hb n B _ _ _ _ _ fun v hv => assume c (row_ok v hv) ?_
  refine drain_wait' ids E c n hn B _ (by decide) _ _ _ _ _ ((show ∀ c, k0_off122 c = ![28] by decide +kernel) c) ?_
  refine drain_load ids E c hb n B _ _ _ _ _ fun v hv => assume c (row_ok v hv) ?_
  refine drain_wait' ids E c n hn B _ (by decide) _ _ _ _ _ ((show ∀ c, k0_off126 c = ![29] by decide +kernel) c) ?_
  exact ret c .rfl

theorem p19 (R : sProp 𝕄) (v62 : BitVec 32) :
    Drain ids E c n B 30 R ⊢ wpc c (k0_part19 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v62) (fun _ => Drain ids E c n B 31 R) := by
  rw [k0_part19_eq_skeleton]; unfold k0_part19_skel
  refine drain_load ids E c hb n B _ _ _ _ _ fun v hv => assume c (row_ok v hv) ?_
  refine drain_wait' ids E c n hn B _ (by decide) _ _ _ _ _ ((show ∀ c, k0_off130 c = ![30] by decide +kernel) c) ?_
  refine drain_load ids E c hb n B _ _ _ _ _ fun v hv => assume c (row_ok v hv) ?_
  exact ret c .rfl

end Cert.KernelIdeal.Pf

end
-- ==== Proof.Drain1.lean ====
/-
The waits for the row copies of gather step 1, part by part.
-/
module

public import proofs.«01_k».proof.Proof.GatherEnd

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)

variable (c : Dev nD) (hb : Small ids) (n : ℕ) (hn : 3 ≤ n) (B : ℕ)
include hb hn

theorem p22 (R : sProp 𝕄) (v732 : BitVec 32) (v736 : BitVec 32) (v738 : Elt F .i32) (k0_hw37 : k0_chk37 v738) (c32_i32_410 : BitVec 32) :
    Drain ids E c n B 0 R ⊢ wpc c (k0_part22 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v736 v738 k0_hw37 c32_i32_410) (fun _ => Drain ids E c n B 2 R) := by
  rw [k0_part22_eq_skeleton]; unfold k0_part22_skel
  refine drain_wait' ids E c n hn B _ (by decide) _ _ _ _ _ ((show ∀ c, k0_off149 c = ![0] by decide +kernel) c) ?_
  refine drain_load ids E c hb n B _ _ _ _ _ fun v hv => assume c (row_ok v hv) ?_
  refine drain_wait' ids E c n hn B _ (by decide) _ _ _ _ _ ((show ∀ c, k0_off153 c = ![1] by decide +kernel) c) ?_
  exact ret c .rfl

theorem p23 (R : sProp 𝕄) (v732 : BitVec 32) (v774 : BitVec 32) :
    Drain ids E c n B 2 R ⊢ wpc c (k0_part23 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v774) (fun _ => Drain ids E c n B 4 R) := by
  rw [k0_part23_eq_skeleton]; unfold k0_part23_skel
  refine drain_load ids E c hb n B _ _ _ _ _ fun v hv => assume c (row_ok v hv) ?_
  refine drain_wait' ids E c n hn B _ (by decide) _ _ _ _ _ ((show ∀ c, k0_off157 c = ![2] by decide +kernel) c) ?_
  refine drain_load ids E c hb n B _ _ _ _ _ fun v hv => assume c (row_ok v hv) ?_
  refine drain_wait' ids E c n hn B _ (by decide) _ _ _ _ _ ((show ∀ c, k0_off161 c = ![3] by decide +kernel) c) ?_
  exact ret c .rfl

theorem p24 (R : sProp 𝕄) (v732 : BitVec 32) (v810 : BitVec 32) :
    Drain ids E c n B 4 R ⊢ wpc c (k0_part24 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v810) (fun _ => Drain ids E c n B 5 R) := by
  rw [k0_part24_eq_skeleton]; unfold k0_part24_skel
  refine drain_load ids E c hb n B _ _ _ _ _ fun v hv => assume c (row_ok v hv) ?_
  refine drain_wait' ids E c n hn B _ (by decide) _ _ _ _ _ ((show ∀ c, k0_off165 c = ![4] by decide +kernel) c) ?_
  refine drain_load ids E c hb n B _ _ _ _ _ fun v hv => assume c (row_ok v hv) ?_
  exact ret c .rfl

theorem p25 (R : sProp 𝕄) (v732 : BitVec 32) (v833 : Elt F .i32) (k0_hw42 : k0_chk42 v833) :
    Drain ids E c n B 5 R ⊢ wpc c (k0_part25 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v833 k0_hw42) (fun _ => Drain ids E c n B 7 R) := by
  rw [k0_part25_eq_skeleton]; unfold k0_part25_skel
  refine drain_wait' ids E c n hn B _ (by decide) _ _ _ _ _ ((show ∀ c, k0_off169 c = ![5] by decide +kernel) c) ?_
  refine drain_load ids E c hb n B _ _ _ _ _ fun v hv => assume c (row_ok v hv) ?_
  refine drain_wait' ids E c n hn B _ (by decide) _ _ _ _ _ ((show ∀ c, k0_off173 c = ![6] by decide +kernel) c) ?_
  refine drain_load ids E c hb n B _ _ _ _ _ fun v hv => assume c (row_ok v hv) ?_
  exact ret c .rfl

theorem p26 (R : sProp 𝕄) (v732 : BitVec 32) (v871 : Elt F .i32) (k0_hw44 : k0_chk44 v871) :
    Drain ids E c n B 7 R ⊢ wpc c (k0_part26 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v871 k0_hw44) (fun _ => Drain ids E c n B 9 R) := by
  rw [k0_part26_eq_skeleton]; unfold k0_part26_skel
  refine drain_wait' ids E c n hn B _ (by decide) _ _ _ _ _ ((show ∀ c, k0_off177 c = ![7] by decide +kernel) c) ?_
  refine drain_load ids E c hb n B _ _ _ _ _ fun v hv => assume c (row_ok v hv) ?_
  refine drain_wait' ids E c n hn B _ (by decide) _ _ _ _ _ ((show ∀ c, k0_off181 c = ![8] by decide +kernel) c) ?_
  refine drain_load ids E c hb n B _ _ _ _ _ fun v hv => assume c (row_ok v hv) ?_
  exact ret c .rfl

theorem p27 (R : sProp 𝕄) (v732 : BitVec 32) (v909 : Elt F .i32) (k0_hw46 : k0_chk46 v909) (v911 : BitVec 32) (v912 : BitVec 32) (v913 : BitVec 1) (v916 : BitVec 1) :
    Drain ids E c n B 9 R ⊢ wpc c (k0_part27 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v909 k0_hw46 v911 v912 v913 v916) (fun _ => Drain ids E c n B 11 R) := by
  rw [k0_part27_eq_skeleton]; unfold k0_part27_skel
  refine drain_wait' ids E c n hn B _ (by decide) _ _ _ _ _ ((show ∀ c, k0_off185 c = ![9] by decide +kernel) c) ?_
  refine drain_load ids E c hb n B _ _ _ _ _ fun v hv => assume c (row_ok v hv) ?_
  refine drain_wait' ids E c n hn B _ (by decide) _ _ _ _ _ ((show ∀ c, k0_off189 c = ![10] by decide +kernel) c) ?_
  refine drain_load ids E c hb n B _ _ _ _ _ fun v hv => assume c (row_ok v hv) ?_
  exact ret c .rfl

theorem p28 (R : sProp 𝕄) (v732 : BitVec 32) (v947 : Elt F .i32) (k0_hw48 : k0_chk48 v947) (v949 : BitVec 32) (v950 : BitVec 32) (v951 : BitVec 1) (c0_i32_535 : BitVec 32) :
    Drain ids E c n B 11 R ⊢ wpc c (k0_part28 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v947 k0_hw48 v949 v950 v951 c0_i32_535) (fun _ => Drain ids E c n B 13 R) := by
  rw [k0_part28_eq_skeleton]; unfold k0_part28_skel
  refine drain_wait' ids E c n hn B _ (by decide) _ _ _ _ _ ((show ∀ c, k0_off193 c = ![11] by decide +kernel) c) ?_
  refine drain_load ids E c hb n B _ _ _ _ _ fun v hv => assume c (row_ok v hv) ?_
  refine drain_wait' ids E c n hn B _ (by decide) _ _ _ _ _ ((show ∀ c, k0_off197 c = ![12] by decide +kernel) c) ?_
  refine drain_load ids E c hb n B _ _ _ _ _ fun v hv => assume c (row_ok v hv) ?_
  exact ret c .rfl

theorem p29 (R : sProp 𝕄) (v732 : BitVec 32) (v983 : BitVec 32) (v985 : Elt F .i32) (k0_hw50 : k0_chk50 v985) (v987 : BitVec 32) :
    Drain ids E c n B 13 R ⊢ wpc c (k0_part29 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v983 v985 k0_hw50 v987) (fun _ => Drain ids E c n B 15 R) := by
  rw [k0_part29_eq_skeleton]; unfold k0_part29_skel
  refine drain_wait' ids E c n hn B _ (by decide) _ _ _ _ _ ((show ∀ c, k0_off201 c = ![13] by decide +kernel) c) ?_
  refine drain_load ids E c hb n B _ _ _ _ _ fun v hv => assume c (row_ok v hv) ?_
  refine drain_wait' ids E c n hn B _ (by decide) _ _ _ _ _ ((show ∀ c, k0_off205 c = ![14] by decide +kernel) c) ?_
  refine drain_load ids E c hb n B _ _ _ _ _ fun v hv => assume c (row_ok v hv) ?_
  exact ret c .rfl

theorem p30 (R : sProp 𝕄) (v732 : BitVec 32) (v1021 : BitVec 32) (v1023 : Elt F .i32) (k0_hw52 : k0_chk52 v1023) (c32_i32_575 : BitVec 32) :
    Drain ids E c n B 15 R ⊢ wpc c (k0_part30 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1021 v1023 k0_hw52 c32_i32_575) (fun _ => Drain ids E c n B 17 R) := by
  rw [k0_part30_eq_skeleton]; unfold k0_part30_skel
  refine drain_wait' ids E c n hn B _ (by decide) _ _ _ _ _ ((show ∀ c, k0_off209 c = ![15] by decide +kernel) c) ?_
  refine drain_load ids E c hb n B _ _ _ _ _ fun v hv => assume c (row_ok v hv) ?_
  refine drain_wait' ids E c n hn B _ (by decide) _ _ _ _ _ ((show ∀ c, k0_off213 c = ![16] by decide +kernel) c) ?_
  exact ret c .rfl

theorem p31 (R : sProp 𝕄) (v732 : BitVec 32) (v1059 : BitVec 32) :
    Drain ids E c n B 17 R ⊢ wpc c (k0_part31 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1059) (fun _ => Drain ids E c n B 19 R) := by
  rw [k0_part31_eq_skeleton]; unfold k0_part31_skel
  refine drain_load ids E c hb n B _ _ _ _ _ fun v hv => assume c (row_ok v hv) ?_
  refine drain_wait' ids E c n hn B _ (by decide) _ _ _ _ _ ((show ∀ c, k0_off217 c = ![17] by decide +kernel) c) ?_
  refine drain_load ids E c hb n B _ _ _ _ _ fun v hv => assume c (row_ok v hv) ?_
  refine drain_wait' ids E c n hn B _ (by decide) _ _ _ _ _ ((show ∀ c, k0_off221 c = ![18] by decide +kernel) c) ?_
  exact ret c .rfl

theorem p32 (R : sProp 𝕄) (v732 : BitVec 32) (v1095 : BitVec 32) :
    Drain ids E c n B 19 R ⊢ wpc c (k0_part32 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1095) (fun _ => Drain ids E c n B 20 R) := by
  rw [k0_part32_eq_skeleton]; unfold k0_part32_skel
  refine drain_load ids E c hb n B _ _ _ _ _ fun v hv => assume c (row_ok v hv) ?_
  refine drain_wait' ids E c n hn B _ (by decide) _ _ _ _ _ ((show ∀ c, k0_off225 c = ![19] by decide +kernel) c) ?_
  refine drain_load ids E c hb n B _ _ _ _ _ fun v hv => assume c (row_ok v hv) ?_
  exact ret c .rfl

theorem p33 (R : sProp 𝕄) (v732 : BitVec 32) (v1118 : Elt F .i32) (k0_hw57 : k0_chk57 v1118) :
    Drain ids E c n B 20 R ⊢ wpc c (k0_part33 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1118 k0_hw57) (fun _ => Drain ids E c n B 22 R) := by
  rw [k0_part33_eq_skeleton]; unfold k0_part33_skel
  refine drain_wait' ids E c n hn B _ (by decide) _ _ _ _ _ ((show ∀ c, k0_off229 c = ![20] by decide +kernel) c) ?_
  refine drain_load ids E c hb n B _ _ _ _ _ fun v hv => assume c (row_ok v hv) ?_
  refine drain_wait' ids E c n hn B _ (by decide) _ _ _ _ _ ((show ∀ c, k0_off233 c = ![21] by decide +kernel) c) ?_
  refine drain_load ids E c hb n B _ _ _ _ _ fun v hv => assume c (row_ok v hv) ?_
  exact ret c .rfl

theorem p34 (R : sProp 𝕄) (v732 : BitVec 32) (v1156 : Elt F .i32) (k0_hw59 : k0_chk59 v1156) :
    Drain ids E c n B 22 R ⊢ wpc c (k0_part34 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1156 k0_hw59) (fun _ => Drain ids E c n B 24 R) := by
  rw [k0_part34_eq_skeleton]; unfold k0_part34_skel
  refine drain_wait' ids E c n hn B _ (by decide) _ _ _ _ _ ((show ∀ c, k0_off237 c = ![22] by decide +kernel) c) ?_
  refine drain_load ids E c hb n B _ _ _ _ _ fun v hv => assume c (row_ok v hv) ?_
  refine drain_wait' ids E c n hn B _ (by decide) _ _ _ _ _ ((show ∀ c, k0_off241 c = ![23] by decide +kernel) c) ?_
  refine drain_load ids E c hb n B _ _ _ _ _ fun v hv => assume c (row_ok v hv) ?_
  exact ret c .rfl

theorem p35 (R : sProp 𝕄) (v732 : BitVec 32) (v1194 : Elt F .i32) (k0_hw61 : k0_chk61 v1194) (v1196 : BitVec 32) (v1197 : BitVec 32) (v1198 : BitVec 1) (v1201 : BitVec 1) :
    Drain ids E c n B 24 R ⊢ wpc c (k0_part35 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1194 k0_hw61 v1196 v1197 v1198 v1201) (fun _ => Drain ids E c n B 26 R) := by
  rw [k0_part35_eq_skeleton]; unfold k0_part35_skel
  refine drain_wait' ids E c n hn B _ (by decide) _ _ _ _ _ ((show ∀ c, k0_off245 c = ![24] by decide +kernel) c) ?_
  refine drain_load ids E c hb n B _ _ _ _ _ fun v hv => assume c (row_ok v hv) ?_
  refine drain_wait' ids E c n hn B _ (by decide) _ _ _ _ _ ((show ∀ c, k0_off249 c = ![25] by decide +kernel) c) ?_
  refine drain_load ids E c hb n B _ _ _ _ _ fun v hv => assume c (row_ok v hv) ?_
  exact ret c .rfl

theorem p36 (R : sProp 𝕄) (v732 : BitVec 32) (v1232 : Elt F .i32) (k0_hw63 : k0_chk63 v1232) (v1234 : BitVec 32) (v1235 : BitVec 32) (v1236 : BitVec 1) (c0_i32_700 : BitVec 32) :
    Drain ids E c n B 26 R ⊢ wpc c (k0_part36 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1232 k0_hw63 v1234 v1235 v1236 c0_i32_700) (fun _ => Drain ids E c n B 28 R) := by
  rw [k0_part36_eq_skeleton]; unfold k0_part36_skel
  refine drain_wait' ids E c n hn B _ (by decide) _ _ _ _ _ ((show ∀ c, k0_off253 c = ![26] by decide +kernel) c) ?_
  refine drain_load ids E c hb n B _ _ _ _ _ fun v hv => assume c (row_ok v hv) ?_
  refine drain_wait' ids E c n hn B _ (by decide) _ _ _ _ _ ((show ∀ c, k0_off257 c = ![27] by decide +kernel) c) ?_
  refine drain_load ids E c hb n B _ _ _ _ _ fun v hv => assume c (row_ok v hv) ?_
  exact ret c .rfl

theorem p37 (R : sProp 𝕄) (v732 : BitVec 32) (v1268 : BitVec 32) (v1270 : Elt F .i32) (k0_hw65 : k0_chk65 v1270) (v1272 : BitVec 32) :
    Drain ids E c n B 28 R ⊢ wpc c (k0_part37 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v732 v1268 v1270 k0_hw65 v1272) (fun _ => Drain ids E c n B 30 R) := by
  rw [k0_part37_eq_skeleton]; unfold k0_part37_skel
  refine drain_wait' ids E c n hn B _ (by decide) _ _ _ _ _ ((show ∀ c, k0_off261 c = ![28] by decide +kernel) c) ?_
  refine drain_load ids E c hb n B _ _ _ _ _ fun v hv => assume c (row_ok v hv) ?_
  refine drain_wait' ids E c n hn B _ (by decide) _ _ _ _ _ ((show ∀ c, k0_off265 c = ![29] by decide +kernel) c) ?_
  refine drain_load ids E c hb n B _ _ _ _ _ fun v hv => assume c (row_ok v hv) ?_
  exact ret c .rfl

end Cert.KernelIdeal.Pf

end
-- ==== Proof.Drain2.lean ====
/-
The waits for the row copies of gather step 2, part by part.
-/
module

public import proofs.«01_k».proof.Proof.GatherEnd

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)

variable (c : Dev nD) (hb : Small ids) (n : ℕ) (hn : 3 ≤ n) (B : ℕ)
include hb hn

theorem p42 (R : sProp 𝕄) (v1429 : BitVec 32) (v1435 : Elt F .i32) (k0_hw71 : k0_chk71 v1435) :
    Drain ids E c n B 0 R ⊢ wpc c (k0_part42 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1435 k0_hw71) (fun _ => Drain ids E c n B 2 R) := by
  rw [k0_part42_eq_skeleton]; unfold k0_part42_skel
  refine drain_wait' ids E c n hn B _ (by decide) _ _ _ _ _ ((show ∀ c, k0_off289 c = ![0] by decide +kernel) c) ?_
  refine drain_load ids E c hb n B _ _ _ _ _ fun v hv => assume c (row_ok v hv) ?_
  refine drain_wait' ids E c n hn B _ (by decide) _ _ _ _ _ ((show ∀ c, k0_off293 c = ![1] by decide +kernel) c) ?_
  refine drain_load ids E c hb n B _ _ _ _ _ fun v hv => assume c (row_ok v hv) ?_
  exact ret c .rfl

theorem p43 (R : sProp 𝕄) (v1429 : BitVec 32) (v1473 : Elt F .i32) (k0_hw73 : k0_chk73 v1473) (v1475 : BitVec 32) (v1476 : BitVec 32) (v1477 : BitVec 1) (v1480 : BitVec 1) :
    Drain ids E c n B 2 R ⊢ wpc c (k0_part43 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1473 k0_hw73 v1475 v1476 v1477 v1480) (fun _ => Drain ids E c n B 4 R) := by
  rw [k0_part43_eq_skeleton]; unfold k0_part43_skel
  refine drain_wait' ids E c n hn B _ (by decide) _ _ _ _ _ ((show ∀ c, k0_off297 c = ![2] by decide +kernel) c) ?_
  refine drain_load ids E c hb n B _ _ _ _ _ fun v hv => assume c (row_ok v hv) ?_
  refine drain_wait' ids E c n hn B _ (by decide) _ _ _ _ _ ((show ∀ c, k0_off301 c = ![3] by decide +kernel) c) ?_
  refine drain_load ids E c hb n B _ _ _ _ _ fun v hv => assume c (row_ok v hv) ?_
  exact ret c .rfl

theorem p44 (R : sProp 𝕄) (v1429 : BitVec 32) (v1511 : Elt F .i32) (k0_hw75 : k0_chk75 v1511) (v1513 : BitVec 32) (v1514 : BitVec 32) (v1515 : BitVec 1) (c0_i32_875 : BitVec 32) :
    Drain ids E c n B 4 R ⊢ wpc c (k0_part44 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1511 k0_hw75 v1513 v1514 v1515 c0_i32_875) (fun _ => Drain ids E c n B 6 R) := by
  rw [k0_part44_eq_skeleton]; unfold k0_part44_skel
  refine drain_wait' ids E c n hn B _ (by decide) _ _ _ _ _ ((show ∀ c, k0_off305 c = ![4] by decide +kernel) c) ?_
  refine drain_load ids E c hb n B _ _ _ _ _ fun v hv => assume c (row_ok v hv) ?_
  refine drain_wait' ids E c n hn B _ (by decide) _ _ _ _ _ ((show ∀ c, k0_off309 c = ![5] by decide +kernel) c) ?_
  refine drain_load ids E c hb n B _ _ _ _ _ fun v hv => assume c (row_ok v hv) ?_
  exact ret c .rfl

theorem p45 (R : sProp 𝕄) (v1429 : BitVec 32) (v1547 : BitVec 32) (v1549 : Elt F .i32) (k0_hw77 : k0_chk77 v1549) (v1551 : BitVec 32) :
    Drain ids E c n B 6 R ⊢ wpc c (k0_part45 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1547 v1549 k0_hw77 v1551) (fun _ => Drain ids E c n B 8 R) := by
  rw [k0_part45_eq_skeleton]; unfold k0_part45_skel
  refine drain_wait' ids E c n hn B _ (by decide) _ _ _ _ _ ((show ∀ c, k0_off313 c = ![6] by decide +kernel) c) ?_
  refine drain_load ids E c hb n B _ _ _ _ _ fun v hv => assume c (row_ok v hv) ?_
  refine drain_wait' ids E c n hn B _ (by decide) _ _ _ _ _ ((show ∀ c, k0_off317 c = ![7] by decide +kernel) c) ?_
  refine drain_load ids E c hb n B _ _ _ _ _ fun v hv => assume c (row_ok v hv) ?_
  exact ret c .rfl

theorem p46 (R : sProp 𝕄) (v1429 : BitVec 32) (v1585 : BitVec 32) (v1587 : Elt F .i32) (k0_hw79 : k0_chk79 v1587) (c32_i32_915 : BitVec 32) :
    Drain ids E c n B 8 R ⊢ wpc c (k0_part46 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1585 v1587 k0_hw79 c32_i32_915) (fun _ => Drain ids E c n B 10 R) := by
  rw [k0_part46_eq_skeleton]; unfold k0_part46_skel
  refine drain_wait' ids E c n hn B _ (by decide) _ _ _ _ _ ((show ∀ c, k0_off321 c = ![8] by decide +kernel) c) ?_
  refine drain_load ids E c hb n B _ _ _ _ _ fun v hv => assume c (row_ok v hv) ?_
  refine drain_wait' ids E c n hn B _ (by decide) _ _ _ _ _ ((show ∀ c, k0_off325 c = ![9] by decide +kernel) c) ?_
  exact ret c .rfl

theorem p47 (R : sProp 𝕄) (v1429 : BitVec 32) (v1623 : BitVec 32) :
    Drain ids E c n B 10 R ⊢ wpc c (k0_part47 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1623) (fun _ => Drain ids E c n B 12 R) := by
  rw [k0_part47_eq_skeleton]; unfold k0_part47_skel
  refine drain_load ids E c hb n B _ _ _ _ _ fun v hv => assume c (row_ok v hv) ?_
  refine drain_wait' ids E c n hn B _ (by decide) _ _ _ _ _ ((show ∀ c, k0_off329 c = ![10] by decide +kernel) c) ?_
  refine drain_load ids E c hb n B _ _ _ _ _ fun v hv => assume c (row_ok v hv) ?_
  refine drain_wait' ids E c n hn B _ (by decide) _ _ _ _ _ ((show ∀ c, k0_off333 c = ![11] by decide +kernel) c) ?_
  exact ret c .rfl

theorem p48 (R : sProp 𝕄) (v1429 : BitVec 32) (v1659 : BitVec 32) :
    Drain ids E c n B 12 R ⊢ wpc c (k0_part48 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1659) (fun _ => Drain ids E c n B 13 R) := by
  rw [k0_part48_eq_skeleton]; unfold k0_part48_skel
  refine drain_load ids E c hb n B _ _ _ _ _ fun v hv => assume c (row_ok v hv) ?_
  refine drain_wait' ids E c n hn B _ (by decide) _ _ _ _ _ ((show ∀ c, k0_off337 c = ![12] by decide +kernel) c) ?_
  refine drain_load ids E c hb n B _ _ _ _ _ fun v hv => assume c (row_ok v hv) ?_
  exact ret c .rfl

theorem p49 (R : sProp 𝕄) (v1429 : BitVec 32) (v1682 : Elt F .i32) (k0_hw84 : k0_chk84 v1682) :
    Drain ids E c n B 13 R ⊢ wpc c (k0_part49 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1682 k0_hw84) (fun _ => Drain ids E c n B 15 R) := by
  rw [k0_part49_eq_skeleton]; unfold k0_part49_skel
  refine drain_wait' ids E c n hn B _ (by decide) _ _ _ _ _ ((show ∀ c, k0_off341 c = ![13] by decide +kernel) c) ?_
  refine drain_load ids E c hb n B _ _ _ _ _ fun v hv => assume c (row_ok v hv) ?_
  refine drain_wait' ids E c n hn B _ (by decide) _ _ _ _ _ ((show ∀ c, k0_off345 c = ![14] by decide +kernel) c) ?_
  refine drain_load ids E c hb n B _ _ _ _ _ fun v hv => assume c (row_ok v hv) ?_
  exact ret c .rfl

theorem p50 (R : sProp 𝕄) (v1429 : BitVec 32) (v1720 : Elt F .i32) (k0_hw86 : k0_chk86 v1720) :
    Drain ids E c n B 15 R ⊢ wpc c (k0_part50 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1720 k0_hw86) (fun _ => Drain ids E c n B 17 R) := by
  rw [k0_part50_eq_skeleton]; unfold k0_part50_skel
  refine drain_wait' ids E c n hn B _ (by decide) _ _ _ _ _ ((show ∀ c, k0_off349 c = ![15] by decide +kernel) c) ?_
  refine drain_load ids E c hb n B _ _ _ _ _ fun v hv => assume c (row_ok v hv) ?_
  refine drain_wait' ids E c n hn B _ (by decide) _ _ _ _ _ ((show ∀ c, k0_off353 c = ![16] by decide +kernel) c) ?_
  refine drain_load ids E c hb n B _ _ _ _ _ fun v hv => assume c (row_ok v hv) ?_
  exact ret c .rfl

theorem p51 (R : sProp 𝕄) (v1429 : BitVec 32) (v1758 : Elt F .i32) (k0_hw88 : k0_chk88 v1758) (v1760 : BitVec 32) (v1761 : BitVec 32) (v1762 : BitVec 1) (v1765 : BitVec 1) :
    Drain ids E c n B 17 R ⊢ wpc c (k0_part51 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1758 k0_hw88 v1760 v1761 v1762 v1765) (fun _ => Drain ids E c n B 19 R) := by
  rw [k0_part51_eq_skeleton]; unfold k0_part51_skel
  refine drain_wait' ids E c n hn B _ (by decide) _ _ _ _ _ ((show ∀ c, k0_off357 c = ![17] by decide +kernel) c) ?_
  refine drain_load ids E c hb n B _ _ _ _ _ fun v hv => assume c (row_ok v hv) ?_
  refine drain_wait' ids E c n hn B _ (by decide) _ _ _ _ _ ((show ∀ c, k0_off361 c = ![18] by decide +kernel) c) ?_
  refine drain_load ids E c hb n B _ _ _ _ _ fun v hv => assume c (row_ok v hv) ?_
  exact ret c .rfl

theorem p52 (R : sProp 𝕄) (v1429 : BitVec 32) (v1796 : Elt F .i32) (k0_hw90 : k0_chk90 v1796) (v1798 : BitVec 32) (v1799 : BitVec 32) (v1800 : BitVec 1) (c0_i32_1040 : BitVec 32) :
    Drain ids E c n B 19 R ⊢ wpc c (k0_part52 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1796 k0_hw90 v1798 v1799 v1800 c0_i32_1040) (fun _ => Drain ids E c n B 21 R) := by
  rw [k0_part52_eq_skeleton]; unfold k0_part52_skel
  refine drain_wait' ids E c n hn B _ (by decide) _ _ _ _ _ ((show ∀ c, k0_off365 c = ![19] by decide +kernel) c) ?_
  refine drain_load ids E c hb n B _ _ _ _ _ fun v hv => assume c (row_ok v hv) ?_
  refine drain_wait' ids E c n hn B _ (by decide) _ _ _ _ _ ((show ∀ c, k0_off369 c = ![20] by decide +kernel) c) ?_
  refine drain_load ids E c hb n B _ _ _ _ _ fun v hv => assume c (row_ok v hv) ?_
  exact ret c .rfl

theorem p53 (R : sProp 𝕄) (v1429 : BitVec 32) (v1832 : BitVec 32) (v1834 : Elt F .i32) (k0_hw92 : k0_chk92 v1834) (v1836 : BitVec 32) :
    Drain ids E c n B 21 R ⊢ wpc c (k0_part53 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1832 v1834 k0_hw92 v1836) (fun _ => Drain ids E c n B 23 R) := by
  rw [k0_part53_eq_skeleton]; unfold k0_part53_skel
  refine drain_wait' ids E c n hn B _ (by decide) _ _ _ _ _ ((show ∀ c, k0_off373 c = ![21] by decide +kernel) c) ?_
  refine drain_load ids E c hb n B _ _ _ _ _ fun v hv => assume c (row_ok v hv) ?_
  refine drain_wait' ids E c n hn B _ (by decide) _ _ _ _ _ ((show ∀ c, k0_off377 c = ![22] by decide +kernel) c) ?_
  refine drain_load ids E c hb n B _ _ _ _ _ fun v hv => assume c (row_ok v hv) ?_
  exact ret c .rfl

theorem p54 (R : sProp 𝕄) (v1429 : BitVec 32) (v1870 : BitVec 32) (v1872 : Elt F .i32) (k0_hw94 : k0_chk94 v1872) (c32_i32_1080 : BitVec 32) :
    Drain ids E c n B 23 R ⊢ wpc c (k0_part54 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1870 v1872 k0_hw94 c32_i32_1080) (fun _ => Drain ids E c n B 25 R) := by
  rw [k0_part54_eq_skeleton]; unfold k0_part54_skel
  refine drain_wait' ids E c n hn B _ (by decide) _ _ _ _ _ ((show ∀ c, k0_off381 c = ![23] by decide +kernel) c) ?_
  refine drain_load ids E c hb n B _ _ _ _ _ fun v hv => assume c (row_ok v hv) ?_
  refine drain_wait' ids E c n hn B _ (by decide) _ _ _ _ _ ((show ∀ c, k0_off385 c = ![24] by decide +kernel) c) ?_
  exact ret c .rfl

theorem p55 (R : sProp 𝕄) (v1429 : BitVec 32) (v1908 : BitVec 32) :
    Drain ids E c n B 25 R ⊢ wpc c (k0_part55 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1908) (fun _ => Drain ids E c n B 27 R) := by
  rw [k0_part55_eq_skeleton]; unfold k0_part55_skel
  refine drain_load ids E c hb n B _ _ _ _ _ fun v hv => assume c (row_ok v hv) ?_
  refine drain_wait' ids E c n hn B _ (by decide) _ _ _ _ _ ((show ∀ c, k0_off389 c = ![25] by decide +kernel) c) ?_
  refine drain_load ids E c hb n B _ _ _ _ _ fun v hv => assume c (row_ok v hv) ?_
  refine drain_wait' ids E c n hn B _ (by decide) _ _ _ _ _ ((show ∀ c, k0_off393 c = ![26] by decide +kernel) c) ?_
  exact ret c .rfl

theorem p56 (R : sProp 𝕄) (v1429 : BitVec 32) (v1944 : BitVec 32) :
    Drain ids E c n B 27 R ⊢ wpc c (k0_part56 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1944) (fun _ => Drain ids E c n B 28 R) := by
  rw [k0_part56_eq_skeleton]; unfold k0_part56_skel
  refine drain_load ids E c hb n B _ _ _ _ _ fun v hv => assume c (row_ok v hv) ?_
  refine drain_wait' ids E c n hn B _ (by decide) _ _ _ _ _ ((show ∀ c, k0_off397 c = ![27] by decide +kernel) c) ?_
  refine drain_load ids E c hb n B _ _ _ _ _ fun v hv => assume c (row_ok v hv) ?_
  exact ret c .rfl

theorem p57 (R : sProp 𝕄) (v1429 : BitVec 32) (v1967 : Elt F .i32) (k0_hw99 : k0_chk99 v1967) :
    Drain ids E c n B 28 R ⊢ wpc c (k0_part57 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v1429 v1967 k0_hw99) (fun _ => Drain ids E c n B 30 R) := by
  rw [k0_part57_eq_skeleton]; unfold k0_part57_skel
  refine drain_wait' ids E c n hn B _ (by decide) _ _ _ _ _ ((show ∀ c, k0_off401 c = ![28] by decide +kernel) c) ?_
  refine drain_load ids E c hb n B _ _ _ _ _ fun v hv => assume c (row_ok v hv) ?_
  refine drain_wait' ids E c n hn B _ (by decide) _ _ _ _ _ ((show ∀ c, k0_off405 c = ![29] by decide +kernel) c) ?_
  refine drain_load ids E c hb n B _ _ _ _ _ fun v hv => assume c (row_ok v hv) ?_
  exact ret c .rfl

end Cert.KernelIdeal.Pf

end
-- ==== Proof.Drain3.lean ====
/-
The waits for the row copies of gather step 3, part by part.
-/
module

public import proofs.«01_k».proof.Proof.GatherEnd

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (E : Dev nD → S8192x1024.Idx → F .f32)

variable (c : Dev nD) (hb : Small ids) (n : ℕ) (hn : 3 ≤ n) (B : ℕ)
include hb hn

theorem p62 (R : sProp 𝕄) (v2126 : BitVec 32) (v2149 : BitVec 32) (v2151 : Elt F .i32) (k0_hw106 : k0_chk106 v2151) (c32_i32_1254 : BitVec 32) :
    Drain ids E c n B 1 R ⊢ wpc c (k0_part62 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2149 v2151 k0_hw106 c32_i32_1254) (fun _ => Drain ids E c n B 3 R) := by
  rw [k0_part62_eq_skeleton]; unfold k0_part62_skel
  refine drain_wait' ids E c n hn B _ (by decide) _ _ _ _ _ ((show ∀ c, k0_off433 c = ![1] by decide +kernel) c) ?_
  refine drain_load ids E c hb n B _ _ _ _ _ fun v hv => assume c (row_ok v hv) ?_
  refine drain_wait' ids E c n hn B _ (by decide) _ _ _ _ _ ((show ∀ c, k0_off437 c = ![2] by decide +kernel) c) ?_
  exact ret c .rfl

theorem p63 (R : sProp 𝕄) (v2126 : BitVec 32) (v2187 : BitVec 32) :
    Drain ids E c n B 3 R ⊢ wpc c (k0_part63 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2187) (fun _ => Drain ids E c n B 5 R) := by
  rw [k0_part63_eq_skeleton]; unfold k0_part63_skel
  refine drain_load ids E c hb n B _ _ _ _ _ fun v hv => assume c (row_ok v hv) ?_
  refine drain_wait' ids E c n hn B _ (by decide) _ _ _ _ _ ((show ∀ c, k0_off441 c = ![3] by decide +kernel) c) ?_
  refine drain_load ids E c hb n B _ _ _ _ _ fun v hv => assume c (row_ok v hv) ?_
  refine drain_wait' ids E c n hn B _ (by decide) _ _ _ _ _ ((show ∀ c, k0_off445 c = ![4] by decide +kernel) c) ?_
  exact ret c .rfl

theorem p64 (R : sProp 𝕄) (v2126 : BitVec 32) (v2223 : BitVec 32) :
    Drain ids E c n B 5 R ⊢ wpc c (k0_part64 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2223) (fun _ => Drain ids E c n B 6 R) := by
  rw [k0_part64_eq_skeleton]; unfold k0_part64_skel
  refine drain_load ids E c hb n B _ _ _ _ _ fun v hv => assume c (row_ok v hv) ?_
  refine drain_wait' ids E c n hn B _ (by decide) _ _ _ _ _ ((show ∀ c, k0_off449 c = ![5] by decide +kernel) c) ?_
  refine drain_load ids E c hb n B _ _ _ _ _ fun v hv => assume c (row_ok v hv) ?_
  exact ret c .rfl

theorem p65 (R : sProp 𝕄) (v2126 : BitVec 32) (v2246 : Elt F .i32) (k0_hw111 : k0_chk111 v2246) :
    Drain ids E c n B 6 R ⊢ wpc c (k0_part65 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2246 k0_hw111) (fun _ => Drain ids E c n B 8 R) := by
  rw [k0_part65_eq_skeleton]; unfold k0_part65_skel
  refine drain_wait' ids E c n hn B _ (by decide) _ _ _ _ _ ((show ∀ c, k0_off453 c = ![6] by decide +kernel) c) ?_
  refine drain_load ids E c hb n B _ _ _ _ _ fun v hv => assume c (row_ok v hv) ?_
  refine drain_wait' ids E c n hn B _ (by decide) _ _ _ _ _ ((show ∀ c, k0_off457 c = ![7] by decide +kernel) c) ?_
  refine drain_load ids E c hb n B _ _ _ _ _ fun v hv => assume c (row_ok v hv) ?_
  exact ret c .rfl

theorem p66 (R : sProp 𝕄) (v2126 : BitVec 32) (v2284 : Elt F .i32) (k0_hw113 : k0_chk113 v2284) :
    Drain ids E c n B 8 R ⊢ wpc c (k0_part66 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2284 k0_hw113) (fun _ => Drain ids E c n B 10 R) := by
  rw [k0_part66_eq_skeleton]; unfold k0_part66_skel
  refine drain_wait' ids E c n hn B _ (by decide) _ _ _ _ _ ((show ∀ c, k0_off461 c = ![8] by decide +kernel) c) ?_
  refine drain_load ids E c hb n B _ _ _ _ _ fun v hv => assume c (row_ok v hv) ?_
  refine drain_wait' ids E c n hn B _ (by decide) _ _ _ _ _ ((show ∀ c, k0_off465 c = ![9] by decide +kernel) c) ?_
  refine drain_load ids E c hb n B _ _ _ _ _ fun v hv => assume c (row_ok v hv) ?_
  exact ret c .rfl

theorem p67 (R : sProp 𝕄) (v2126 : BitVec 32) (v2322 : Elt F .i32) (k0_hw115 : k0_chk115 v2322) (v2324 : BitVec 32) (v2325 : BitVec 32) (v2326 : BitVec 1) (v2329 : BitVec 1) :
    Drain ids E c n B 10 R ⊢ wpc c (k0_part67 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2322 k0_hw115 v2324 v2325 v2326 v2329) (fun _ => Drain ids E c n B 12 R) := by
  rw [k0_part67_eq_skeleton]; unfold k0_part67_skel
  refine drain_wait' ids E c n hn B _ (by decide) _ _ _ _ _ ((show ∀ c, k0_off469 c = ![10] by decide +kernel) c) ?_
  refine drain_load ids E c hb n B _ _ _ _ _ fun v hv => assume c (row_ok v hv) ?_
  refine drain_wait' ids E c n hn B _ (by decide) _ _ _ _ _ ((show ∀ c, k0_off473 c = ![11] by decide +kernel) c) ?_
  refine drain_load ids E c hb n B _ _ _ _ _ fun v hv => assume c (row_ok v hv) ?_
  exact ret c .rfl

theorem p68 (R : sProp 𝕄) (v2126 : BitVec 32) (v2360 : Elt F .i32) (k0_hw117 : k0_chk117 v2360) (v2362 : BitVec 32) (v2363 : BitVec 32) (v2364 : BitVec 1) (c0_i32_1379 : BitVec 32) :
    Drain ids E c n B 12 R ⊢ wpc c (k0_part68 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2360 k0_hw117 v2362 v2363 v2364 c0_i32_1379) (fun _ => Drain ids E c n B 14 R) := by
  rw [k0_part68_eq_skeleton]; unfold k0_part68_skel
  refine drain_wait' ids E c n hn B _ (by decide) _ _ _ _ _ ((show ∀ c, k0_off477 c = ![12] by decide +kernel) c) ?_
  refine drain_load ids E c hb n B _ _ _ _ _ fun v hv => assume c (row_ok v hv) ?_
  refine drain_wait' ids E c n hn B _ (by decide) _ _ _ _ _ ((show ∀ c, k0_off481 c = ![13] by decide +kernel) c) ?_
  refine drain_load ids E c hb n B _ _ _ _ _ fun v hv => assume c (row_ok v hv) ?_
  exact ret c .rfl

theorem p69 (R : sProp 𝕄) (v2126 : BitVec 32) (v2396 : BitVec 32) (v2398 : Elt F .i32) (k0_hw119 : k0_chk119 v2398) (v2400 : BitVec 32) :
    Drain ids E c n B 14 R ⊢ wpc c (k0_part69 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2396 v2398 k0_hw119 v2400) (fun _ => Drain ids E c n B 16 R) := by
  rw [k0_part69_eq_skeleton]; unfold k0_part69_skel
  refine drain_wait' ids E c n hn B _ (by decide) _ _ _ _ _ ((show ∀ c, k0_off485 c = ![14] by decide +kernel) c) ?_
  refine drain_load ids E c hb n B _ _ _ _ _ fun v hv => assume c (row_ok v hv) ?_
  refine drain_wait' ids E c n hn B _ (by decide) _ _ _ _ _ ((show ∀ c, k0_off489 c = ![15] by decide +kernel) c) ?_
  refine drain_load ids E c hb n B _ _ _ _ _ fun v hv => assume c (row_ok v hv) ?_
  exact ret c .rfl

theorem p70 (R : sProp 𝕄) (v2126 : BitVec 32) (v2434 : BitVec 32) (v2436 : Elt F .i32) (k0_hw121 : k0_chk121 v2436) (c32_i32_1419 : BitVec 32) :
    Drain ids E c n B 16 R ⊢ wpc c (k0_part70 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2434 v2436 k0_hw121 c32_i32_1419) (fun _ => Drain ids E c n B 18 R) := by
  rw [k0_part70_eq_skeleton]; unfold k0_part70_skel
  refine drain_wait' ids E c n hn B _ (by decide) _ _ _ _ _ ((show ∀ c, k0_off493 c = ![16] by decide +kernel) c) ?_
  refine drain_load ids E c hb n B _ _ _ _ _ fun v hv => assume c (row_ok v hv) ?_
  refine drain_wait' ids E c n hn B _ (by decide) _ _ _ _ _ ((show ∀ c, k0_off497 c = ![17] by decide +kernel) c) ?_
  exact ret c .rfl

theorem p71 (R : sProp 𝕄) (v2126 : BitVec 32) (v2472 : BitVec 32) :
    Drain ids E c n B 18 R ⊢ wpc c (k0_part71 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2472) (fun _ => Drain ids E c n B 20 R) := by
  rw [k0_part71_eq_skeleton]; unfold k0_part71_skel
  refine drain_load ids E c hb n B _ _ _ _ _ fun v hv => assume c (row_ok v hv) ?_
  refine drain_wait' ids E c n hn B _ (by decide) _ _ _ _ _ ((show ∀ c, k0_off501 c = ![18] by decide +kernel) c) ?_
  refine drain_load ids E c hb n B _ _ _ _ _ fun v hv => assume c (row_ok v hv) ?_
  refine drain_wait' ids E c n hn B _ (by decide) _ _ _ _ _ ((show ∀ c, k0_off505 c = ![19] by decide +kernel) c) ?_
  exact ret c .rfl

theorem p72 (R : sProp 𝕄) (v2126 : BitVec 32) (v2508 : BitVec 32) :
    Drain ids E c n B 20 R ⊢ wpc c (k0_part72 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2508) (fun _ => Drain ids E c n B 21 R) := by
  rw [k0_part72_eq_skeleton]; unfold k0_part72_skel
  refine drain_load ids E c hb n B _ _ _ _ _ fun v hv => assume c (row_ok v hv) ?_
  refine drain_wait' ids E c n hn B _ (by decide) _ _ _ _ _ ((show ∀ c, k0_off509 c = ![20] by decide +kernel) c) ?_
  refine drain_load ids E c hb n B _ _ _ _ _ fun v hv => assume c (row_ok v hv) ?_
  exact ret c .rfl

theorem p73 (R : sProp 𝕄) (v2126 : BitVec 32) (v2531 : Elt F .i32) (k0_hw126 : k0_chk126 v2531) :
    Drain ids E c n B 21 R ⊢ wpc c (k0_part73 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2531 k0_hw126) (fun _ => Drain ids E c n B 23 R) := by
  rw [k0_part73_eq_skeleton]; unfold k0_part73_skel
  refine drain_wait' ids E c n hn B _ (by decide) _ _ _ _ _ ((show ∀ c, k0_off513 c = ![21] by decide +kernel) c) ?_
  refine drain_load ids E c hb n B _ _ _ _ _ fun v hv => assume c (row_ok v hv) ?_
  refine drain_wait' ids E c n hn B _ (by decide) _ _ _ _ _ ((show ∀ c, k0_off517 c = ![22] by decide +kernel) c) ?_
  refine drain_load ids E c hb n B _ _ _ _ _ fun v hv => assume c (row_ok v hv) ?_
  exact ret c .rfl

theorem p74 (R : sProp 𝕄) (v2126 : BitVec 32) (v2569 : Elt F .i32) (k0_hw128 : k0_chk128 v2569) :
    Drain ids E c n B 23 R ⊢ wpc c (k0_part74 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2569 k0_hw128) (fun _ => Drain ids E c n B 25 R) := by
  rw [k0_part74_eq_skeleton]; unfold k0_part74_skel
  refine drain_wait' ids E c n hn B _ (by decide) _ _ _ _ _ ((show ∀ c, k0_off521 c = ![23] by decide +kernel) c) ?_
  refine drain_load ids E c hb n B _ _ _ _ _ fun v hv => assume c (row_ok v hv) ?_
  refine drain_wait' ids E c n hn B _ (by decide) _ _ _ _ _ ((show ∀ c, k0_off525 c = ![24] by decide +kernel) c) ?_
  refine drain_load ids E c hb n B _ _ _ _ _ fun v hv => assume c (row_ok v hv) ?_
  exact ret c .rfl

theorem p75 (R : sProp 𝕄) (v2126 : BitVec 32) (v2607 : Elt F .i32) (k0_hw130 : k0_chk130 v2607) (v2609 : BitVec 32) (v2610 : BitVec 32) (v2611 : BitVec 1) (v2614 : BitVec 1) :
    Drain ids E c n B 25 R ⊢ wpc c (k0_part75 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2607 k0_hw130 v2609 v2610 v2611 v2614) (fun _ => Drain ids E c n B 27 R) := by
  rw [k0_part75_eq_skeleton]; unfold k0_part75_skel
  refine drain_wait' ids E c n hn B _ (by decide) _ _ _ _ _ ((show ∀ c, k0_off529 c = ![25] by decide +kernel) c) ?_
  refine drain_load ids E c hb n B _ _ _ _ _ fun v hv => assume c (row_ok v hv) ?_
  refine drain_wait' ids E c n hn B _ (by decide) _ _ _ _ _ ((show ∀ c, k0_off533 c = ![26] by decide +kernel) c) ?_
  refine drain_load ids E c hb n B _ _ _ _ _ fun v hv => assume c (row_ok v hv) ?_
  exact ret c .rfl

theorem p76 (R : sProp 𝕄) (v2126 : BitVec 32) (v2645 : Elt F .i32) (k0_hw132 : k0_chk132 v2645) (v2647 : BitVec 32) (v2648 : BitVec 32) (v2649 : BitVec 1) (c0_i32_1544 : BitVec 32) :
    Drain ids E c n B 27 R ⊢ wpc c (k0_part76 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2645 k0_hw132 v2647 v2648 v2649 c0_i32_1544) (fun _ => Drain ids E c n B 29 R) := by
  rw [k0_part76_eq_skeleton]; unfold k0_part76_skel
  refine drain_wait' ids E c n hn B _ (by decide) _ _ _ _ _ ((show ∀ c, k0_off537 c = ![27] by decide +kernel) c) ?_
  refine drain_load ids E c hb n B _ _ _ _ _ fun v hv => assume c (row_ok v hv) ?_
  refine drain_wait' ids E c n hn B _ (by decide) _ _ _ _ _ ((show ∀ c, k0_off541 c = ![28] by decide +kernel) c) ?_
  refine drain_load ids E c hb n B _ _ _ _ _ fun v hv => assume c (row_ok v hv) ?_
  exact ret c .rfl

theorem p77 (R : sProp 𝕄) (v2126 : BitVec 32) (v2681 : BitVec 32) (v2683 : Elt F .i32) (k0_hw134 : k0_chk134 v2683) (v2685 : BitVec 32) :
    Drain ids E c n B 29 R ⊢ wpc c (k0_part77 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2126 v2681 v2683 k0_hw134 v2685) (fun _ => Drain ids E c n B 31 R) := by
  rw [k0_part77_eq_skeleton]; unfold k0_part77_skel
  refine drain_wait' ids E c n hn B _ (by decide) _ _ _ _ _ ((show ∀ c, k0_off545 c = ![29] by decide +kernel) c) ?_
  refine drain_load ids E c hb n B _ _ _ _ _ fun v hv => assume c (row_ok v hv) ?_
  refine drain_wait' ids E c n hn B _ (by decide) _ _ _ _ _ ((show ∀ c, k0_off549 c = ![30] by decide +kernel) c) ?_
  refine drain_load ids E c hb n B _ _ _ _ _ fun v hv => assume c (row_ok v hv) ?_
  exact ret c .rfl

end Cert.KernelIdeal.Pf

end
-- ==== Proof.Whole.lean ====
/-
Whole buffers as their chunks; what the barrier hands over; the output block's halves.
-/
module

public import proofs.«01_k».proof.Proof.Steps

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

theorem sep3 (Φ : Fin 3 → sProp 𝕄) : bigSep Finset.univ Φ = iprop(Φ 0 ∗ Φ 1 ∗ Φ 2) := by
  rw [show (Finset.univ : Finset (Fin 3)) = {0, 1, 2} by decide, BI.bigSep_insert (by decide), BI.bigSep_insert (by decide), BI.bigSep_singleton]
  rfl
theorem sep4 (Φ : Fin 4 → sProp 𝕄) : bigSep Finset.univ Φ = iprop(Φ 0 ∗ Φ 1 ∗ Φ 2 ∗ Φ 3) := by
  rw [show (Finset.univ : Finset (Fin 4)) = {0, 1, 2, 3} by decide, BI.bigSep_insert (by decide), BI.bigSep_insert (by decide),
    BI.bigSep_insert (by decide), BI.bigSep_singleton]
  rfl

/-! ## Buffers of four chunks, or three slots -/

/-- The chunks in an order are all the rows, each once. -/
theorem chunks_disjoint (o : Fin 4 → Fin 4) (ho : Function.Injective o) : ∀ j ∈ (Finset.univ : Finset (Fin 4)), ∀ j' ∈ (Finset.univ : Finset (Fin 4)),
    j ≠ j' → Disjoint (cS (o j)) (cS (o j')) := by
  intro j _ j' _ h
  rw [Finset.disjoint_left]
  intro i h1 h2
  rw [cS, Finset.mem_filter] at h1 h2
  exact h (ho (Fin.ext (h1.2.symm.trans h2.2)))

theorem chunks_cover (o : Fin 4 → Fin 4) (ho : Function.Injective o) : (Finset.univ : Finset (Fin 4)).biUnion (fun j => cS (o j)) = Finset.univ := by
  ext i
  simp only [Finset.mem_biUnion, Finset.mem_univ, true_and, iff_true, cS, Finset.mem_filter]
  have hi : (i 0).val < 512 := (i 0).isLt
  obtain ⟨j, hj⟩ := Finite.surjective_of_injective ho ⟨(i 0).val / 128, by omega⟩
  exact ⟨j, (congrArg Fin.val hj).symm⟩

theorem slots_disjoint : ∀ p ∈ (Finset.univ : Finset (Fin 3)), ∀ p' ∈ (Finset.univ : Finset (Fin 3)), p ≠ p' → Disjoint (pS p.val) (pS p'.val) := by
  intro p _ p' _ h
  rw [Finset.disjoint_left]
  intro i h1 h2
  rw [pS, Finset.mem_filter] at h1 h2
  exact h (Fin.ext (h1.2.symm.trans h2.2))

theorem slots_cover : (Finset.univ : Finset (Fin 3)).biUnion (fun p => pS p.val) = Finset.univ := by
  ext i
  simp only [Finset.mem_biUnion, Finset.mem_univ, true_and, iff_true, pS, Finset.mem_filter]
  exact ⟨i 0, rfl⟩

theorem gc_inj (c : Dev nD) : Function.Injective fun j : Fin 4 => gc c j.val :=
  (show ∀ c, Function.Injective fun j : Fin 4 => gc c j.val by decide +kernel) c
theorem ch_inj (c : Dev nD) : Function.Injective fun j : Fin 4 => ch c j.val :=
  (show ∀ c, Function.Injective fun j : Fin 4 => ch c j.val by decide +kernel) c

variable {m : ℕ} {ℓ : Loc nD τ sig} (K : Fin m → Finset (Idx ℓ))
  (hK : ∀ j ∈ (Finset.univ : Finset (Fin m)), ∀ j' ∈ (Finset.univ : Finset (Fin m)), j ≠ j' → Disjoint (K j) (K j'))
  (hu : (Finset.univ : Finset (Fin m)).biUnion K = Finset.univ)
include hK hu

/-- A whole buffer, cut along a partition; -/
theorem cut (f : Buf (Elt F) ℓ) : (ℓ ↦[Finset.univ]{fullShare} f : sProp 𝕄) = bigSep Finset.univ fun j => ℓ ↦[K j]{fullShare} f := by
  rw [← hu]
  exact pointsTo_biUnion Finset.univ _ hK

theorem cut_any : (iprop(∃ f, ℓ ↦[Finset.univ]{fullShare} f) : sProp 𝕄) ⊢ bigSep Finset.univ fun j => iprop(∃ f, ℓ ↦[K j]{fullShare} f) := by
  iintro ⟨%f, H⟩
  ihave H := (Entails.of_eq (cut K hK hu f)) $$ H
  have h : (bigSep Finset.univ fun j => (ℓ ↦[K j]{fullShare} f : sProp 𝕄)) ⊢ bigSep Finset.univ fun j => iprop(∃ f, ℓ ↦[K j]{fullShare} f) :=
    bigSep_mono fun j _ => exists_intro (Φ := fun f => iprop(ℓ ↦[K j]{fullShare} f)) f
  iapply h $$ H

/-- and put together again. -/
theorem paste [NeZero m] (fs : Fin m → Buf (Elt F) ℓ) :
    (bigSep Finset.univ fun j => (ℓ ↦[K j]{fullShare} fs j : sProp 𝕄)) ⊢ iprop(∃ g, ℓ ↦[Finset.univ]{fullShare} g) := by
  have h : (bigSep Finset.univ fun j => (ℓ ↦[K j]{fullShare} fs j : sProp 𝕄))
      ⊢ iprop(∃ g, ⌜∀ t ∈ (Finset.univ : Finset (Fin m)), ∀ i ∈ K t, g i = fs t i⌝ ∗ ℓ ↦[(Finset.univ : Finset (Fin m)).biUnion K]{fullShare} g) :=
    pointsTo_biUnion_join Finset.univ K fs (fs 0) hK
  rw [hu] at h
  refine h.trans ?_
  iintro ⟨%g, -, H⟩
  iexists g; iexact H

omit hK hu

theorem splitA (c : Dev nD) : (iprop(∃ f, pt (F := F) c bA Finset.univ fullShare f) : sProp 𝕄) ⊢ iprop(Acc c 0 ∗ Acc c 1 ∗ Acc c 2 ∗ Acc c 3) := by
  have h := cut_any (F := F) (ℓ := (c : Thread nD τ).loc bA) (fun j : Fin 4 => cS (gc c j.val)) (chunks_disjoint _ (gc_inj c)) (chunks_cover _ (gc_inj c))
  rw [sep4] at h
  exact h

theorem splitG (c : Dev nD) : (iprop(∃ f, pt (F := F) c bG Finset.univ fullShare f) : sProp 𝕄)
    ⊢ bigSep Finset.univ fun k : Fin 4 => iprop(∃ f, pt (F := F) c bG (cS (ch c k.val)) fullShare f) :=
  cut_any (ℓ := (c : Thread nD τ).loc bG) (fun j : Fin 4 => cS (ch c j.val)) (chunks_disjoint _ (ch_inj c)) (chunks_cover _ (ch_inj c))

theorem splitX (c : Dev nD) : (iprop(∃ f, pt (F := F) c bX Finset.univ fullShare f) : sProp 𝕄)
    ⊢ bigSep Finset.univ fun k : Fin 4 => iprop(∃ f, pt (F := F) c bX (cS (ch c k.val)) fullShare f) :=
  cut_any (ℓ := (c : Thread nD τ).loc bX) (fun j : Fin 4 => cS (ch c j.val)) (chunks_disjoint _ (ch_inj c)) (chunks_cover _ (ch_inj c))

theorem splitR (c : Dev nD) : (iprop(∃ f, pt (F := F) c bR Finset.univ fullShare f) : sProp 𝕄)
    ⊢ bigSep Finset.univ fun p : Fin 3 => iprop(∃ f, pt (F := F) c bR (pS p.val) fullShare f) :=
  cut_any (ℓ := (c : Thread nD τ).loc bR) (fun p : Fin 3 => pS p.val) slots_disjoint slots_cover

theorem joinA (c : Dev nD) (f : Fin 4 → S512x1024.Idx → F .bf16) :
    (bigSep Finset.univ fun j : Fin 4 => pt c bA (cS (gc c j.val)) fullShare (f j) : sProp 𝕄) ⊢ iprop(∃ g, pt (F := F) c bA Finset.univ fullShare g) :=
  paste (ℓ := (c : Thread nD τ).loc bA) (fun j : Fin 4 => cS (gc c j.val)) (chunks_disjoint _ (gc_inj c)) (chunks_cover _ (gc_inj c)) f

theorem joinR (c : Dev nD) (f : Fin 3 → S3x128x1024.Idx → F .bf16) :
    (bigSep Finset.univ fun p : Fin 3 => pt c bR (pS p.val) fullShare (f p) : sProp 𝕄) ⊢ iprop(∃ g, pt (F := F) c bR Finset.univ fullShare g) :=
  paste (ℓ := (c : Thread nD τ).loc bR) (fun p : Fin 3 => pS p.val) slots_disjoint slots_cover f

theorem joinG (c : Dev nD) (f : S512x1024.Idx → F .bf16) :
    (bigSep Finset.univ fun k : Fin 4 => pt c bG (cS (ch c k.val)) fullShare f : sProp 𝕄) ⊢ pt c bG Finset.univ fullShare f :=
  Entails.of_eq (cut (ℓ := (c : Thread nD τ).loc bG) (fun j : Fin 4 => cS (ch c j.val)) (chunks_disjoint _ (ch_inj c)) (chunks_cover _ (ch_inj c)) f).symm

theorem joinX (c : Dev nD) (f : S512x1024.Idx → F .bf16) :
    (bigSep Finset.univ fun k : Fin 4 => pt c bX (cS (ch c k.val)) fullShare f : sProp 𝕄) ⊢ pt c bX Finset.univ fullShare f :=
  Entails.of_eq (cut (ℓ := (c : Thread nD τ).loc bX) (fun j : Fin 4 => cS (ch c j.val)) (chunks_disjoint _ (ch_inj c)) (chunks_cover _ (ch_inj c)) f).symm

/-! ## What the barrier hands over -/

theorem give_lft (c : Dev nD) : (barPay (lft c) 0 : sProp 𝕄)
    = iprop((bigSep Finset.univ fun p : Fin 3 => Dst (F := F) c bR (pS p.val) (iRR p))
      ∗ (bigSep Finset.univ fun p : Fin 3 => Dst (F := F) c bG (cS (ch c (p.val + 1))) (iAR p))) := by
  unfold barPay
  rw [if_pos rfl, rgt_lft]
  have h : ∀ p : Fin 3, ch (lft c) p.val = ch c (p.val + 1) := fun p => by
    have := ch_rgt (lft c) p.val (by have := p.isLt; omega)
    rw [rgt_lft] at this; exact this.symm
  simp only [h]
  try rfl
theorem give_xp (c : Dev nD) : (barPay (xp c) 1 : sProp 𝕄)
    = bigSep Finset.univ fun k : Fin 4 => Dst (F := F) c bX (cS (ch c k.val)) (iXR k) := by
  unfold barPay
  rw [if_neg (by decide), if_pos rfl, xp_xp]
  simp only [ch_xp]
  try rfl
theorem give_rgt (c : Dev nD) : (barPay (rgt c) 2 : sProp 𝕄) = iprop(emp) := by
  unfold barPay
  rw [if_neg (by decide), if_neg (by decide)]

theorem receive (c : Dev nD) : (bigSep Finset.univ fun d : Fin 3 => barPay (F := F) c d)
    ⊢ iprop((Dst (rgt c) bR (pS 0) (iRR 0) ∗ Dst (rgt c) bR (pS 1) (iRR 1) ∗ Dst (rgt c) bR (pS 2) (iRR 2))
      ∗ (Dst (rgt c) bG (cS (ch c 0)) (iAR 0) ∗ Dst (rgt c) bG (cS (ch c 1)) (iAR 1) ∗ Dst (rgt c) bG (cS (ch c 2)) (iAR 2))
      ∗ (Dst (xp c) bX (cS (ch c 0)) (iXR 0) ∗ Dst (xp c) bX (cS (ch c 1)) (iXR 1) ∗ Dst (xp c) bX (cS (ch c 2)) (iXR 2)
        ∗ Dst (F := F) (xp c) bX (cS (ch c 3)) (iXR 3))) := by
  rw [sep3]
  unfold barPay
  rw [if_pos rfl, if_neg (by decide), if_pos rfl, if_neg (by decide), if_neg (by decide), sep3, sep3, sep4]
  iintro ⟨⟨H1, H2⟩, H3, -⟩
  isplitl [H1]; · iexact H1
  isplitl [H2]; · iexact H2
  iexact H3

/-! ## The output block's two halves -/

/-- Rows `512 h …` of the output block. -/
def oS (h : ℕ) : Finset S1024x1024.Idx := Finset.univ.filter fun i => (i 0).val / 512 = h

/-- The half a device's ring fills. -/
def xx (c : Dev nD) : ℕ := c.val / 16

theorem mem_half (h : ℕ) (off : Fin 2 → ℕ) (inb) (e : off = ![512 * h, 0]) :
    (Rect.unit (s := S1024x1024) off S512x1024.size inb).set = oS h := by
  subst e
  ext i
  rw [Rect.mem_set_unit, oS, Finset.mem_filter]
  have h1 : (i 1).val < 1024 := (i 1).isLt
  constructor
  · intro H
    have := H 0
    have h2 : 512 * h ≤ (i 0).val ∧ (i 0).val < 512 * h + 512 := this
    exact ⟨Finset.mem_univ _, by omega⟩
  · rintro ⟨-, H⟩ a
    fin_cases a
    · show 512 * h ≤ (i 0).val ∧ (i 0).val < 512 * h + 512; omega
    · show 0 ≤ (i 1).val ∧ (i 1).val < 0 + 1024; omega

/-- What every device's output block holds: the rows' totals, half by half. -/
def outv (c : Dev nD) : S1024x1024.Idx → F .f32 := fun i =>
  FloatOps.extf .f32 bitsLt_bf16_f32 (tot ids sc E (if (i 0).val / 512 = xx c then c else xp c)
    (ix ⟨(i 0).val % 512, Nat.mod_lt _ (by decide)⟩ (i 1)))

theorem halves_split (c : Dev nD) (f : S1024x1024.Idx → F .f32) :
    (pt c bO Finset.univ fullShare f : sProp 𝕄) ⊣⊢ iprop(pt c bO (oS (xx c)) fullShare f ∗ pt c bO (oS (1 - xx c)) fullShare f) := by
  have hd : Disjoint (oS (xx c)) (oS (1 - xx c)) := by
    rw [Finset.disjoint_left]
    intro i h1 h2
    rw [oS, Finset.mem_filter] at h1 h2
    omega
  have hu : (Finset.univ : Finset S1024x1024.Idx) = oS (xx c) ∪ oS (1 - xx c) := by
    ext i
    have hi : (i 0).val < 1024 := (i 0).isLt
    have hc : xx c < 2 := by have : c.val < 32 := c.isLt; unfold xx; omega
    simp only [oS, Finset.mem_union, Finset.mem_filter, Finset.mem_univ, true_and, true_iff]
    omega
  rw [pt, hu]
  exact pointsTo_union hd

/-- A half's store leaves the totals of a device of that half. -/
theorem stO (c c' : Dev nD) (h : ℕ) (off : Fin 2 → ℕ) (inb) (e : off = ![512 * h, 0]) (hc : ∀ i : S1024x1024.Idx, (i 0).val / 512 = h →
      (if (i 0).val / 512 = xx c then c else xp c) = c') (w : S512x1024.Idx → F .bf16) (hw : w = tot ids sc E c') (hx hm) :
    (iprop(∃ f, pt (F := F) c bO (oS h) fullShare f) : sProp 𝕄)
      ⊢ wpc c (Prog.lift (.store aO (Rect.unit (s := S1024x1024) off S512x1024.size inb) (k0_pay1 w) Finset.univ hx hm))
          (fun _ => pt c bO (oS h) fullShare (outv ids sc E c)) :=
  st c aO (Rect.unit (s := S1024x1024) off S512x1024.size inb) _ hx hm _ ((View.set_slice_whole _ _).trans (mem_half h off inb e)) _ (fun x => by
    subst hw e
    have hx0 : (x 0).val < 512 := (x 0).isLt
    show FloatOps.extf .f32 bitsLt_bf16_f32 (tot ids sc E c' x) = FloatOps.extf .f32 bitsLt_bf16_f32 (tot ids sc E _ (ix ⟨(512 * h + 1 * (x 0).val) % 512, _⟩ _))
    rw [hc _ (show (512 * h + 1 * (x 0).val) / 512 = h by omega)]
    refine congrArg (fun i => FloatOps.extf .f32 bitsLt_bf16_f32 (tot ids sc E c' i)) (funext fun a => Fin.ext ?_)
    fin_cases a
    · show (x 0).val = (512 * h + 1 * (x 0).val) % 512; omega
    · show (x 1).val = 0 + 1 * (x 1).val; omega)

end Cert.KernelIdeal.Pf

end
-- ==== Proof.Body1.lean ====
/-
The first parts of the body in order: the hand-shake, three gathers and three steps of the ring of partial sums.
-/
module

public import proofs.«01_k».proof.Proof.RingSum
public import proofs.«01_k».proof.Proof.Drain0
public import proofs.«01_k».proof.Proof.Drain1
public import proofs.«01_k».proof.Proof.Drain2
public import proofs.«01_k».proof.Proof.Drain3
public import proofs.«01_k».proof.Proof.Whole

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)
variable (κ : GSem nD τ sig → ℕ) (c : Dev nD) (hb : Small ids)

theorem dev {α : Type} {k : Dev nD → Prog (TpuEff nD τ sig (Elt F) Λ₀ .tc) α} {R : sProp 𝕄} {Q : α → sProp 𝕄} (h : R ⊢ wpc c (k c) Q) :
    R ⊢ wpc c (Prog.lift .deviceId >>= k) Q :=
  h.trans (Entails.of_eq (wp_deviceId (defs := _) (𝒱 := 𝒱₀) (c := (c : Thread nD τ)) (bd := none) (E := Set.univ)).symm)

theorem p1 (R : sProp 𝕄) : R ⊢ wpc c (k0_part1 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11) (fun r => iprop(⌜c = r.1 ∧ r.2.2.2.2.2.2.1 = SemArray.scalar (sig.barrier 0 rfl)⌝ ∗ R)) := by
  rw [k0_part1_eq_skeleton]; unfold k0_part1_skel
  refine dev c ?_
  exact ret c (pure_l ⟨rfl, rfl⟩)

/-- A signal's part of the hand-shake. -/
abbrev Bar (c' : Dev nD) (d : Fin 3) : sProp 𝕄 := iprop(dutyTok ER (cell c' 0) 0 d ∗ barPay c' d ∗ reached ER (cell c' 0) 0)

include hb in
/-- The first gather's copies, all started. -/
theorem gather0 (R : sProp 𝕄) (v2 v5 v8 v19 v30 : BitVec 32) (v31 : Sems sig S_) (v32 v34 : BitVec 32) :
    iprop(Gat ids E c 3 ∗ R) ⊢ wpc c (Scf.Loop.for k0_t1_loop k0_t1_ok ⟨⟩ (k0_t1_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v30 v31 v32 v34)) (fun _ => Drain ids E c 3 (128 * (gc c 0).val) 0 iprop(Aside E c (gc c 0) ∗ R)) := by
  have h := wp_of_fupd _ _ _ (start ids E c 3 (gc c 0) R) ((loop1 ids E c hb 3 (by decide) iprop(Aside E c (gc c 0) ∗ R) v2 v5 v8 v19 v30 v31 v32 v34))
  rw [drain_start] at h
  refine BIBase.Entails.trans ?_ h
  iintro ⟨⟨HK, HS, HF, HE⟩, HR⟩
  isplitl [HK]; · iexact HK
  isplitl [HS]; · iexact HS
  isplitl [HF]; · iexact HF
  isplitl [HE]; · iexact HE
  iexact HR

include hb in
theorem p2 (R : sProp 𝕄) (v2 : BitVec 32) (v5 : BitVec 32) (v8 : BitVec 32) (v19 : BitVec 32) (v30 : BitVec 32) (v32 : BitVec 32) (v34 : BitVec 32) :
    iprop(Gat ids E c 0 ∗ Inv ids sc E κ ∗ Bar (lft c) 0 ∗ Bar (rgt c) 2 ∗ Bar (xp c) 1 ∗ (atPos ER (cell c 0) 0 ∅ 0 ∗ cred (tallyAt (cell c 0) () 3)) ∗ R)
      ⊢ wpc c (k0_part2 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v30 (SemArray.scalar (sig.barrier 0 rfl)) v32 v34)
        (fun r => iprop(Drain ids E c 3 (128 * (gc c 0).val) 0 iprop(Aside E c (gc c 0) ∗ R) ∗ Fin' c 0 ∗ bigSep Finset.univ fun d : Fin 3 => barPay (F := F) c d)) := by
  rw [k0_part2_eq_skeleton]; unfold k0_part2_skel
  rw [show (⟨k0_dev1 c, k0_dev1_lt c⟩ : Dev nD) = lft c from Fin.ext ((show ∀ c, k0_dev1 c = (lft c).val by decide +kernel) c),
    show (⟨k0_dev2 c, k0_dev2_lt c⟩ : Dev nD) = rgt c from Fin.ext ((show ∀ c, k0_dev2 c = (rgt c).val by decide +kernel) c),
    show (⟨k0_dev3 c, k0_dev3_lt c⟩ : Dev nD) = xp c from Fin.ext ((show ∀ c, k0_dev3 c = (xp c).val by decide +kernel) c),
    show (SemArray.scalar (sig.barrier 0 rfl) : Sems sig S_).sem = barrier0 from rfl]
  iintro ⟨⟨HK, HS, HF, HE⟩, #HInv, HL, HR', HX, ⟨HP, HC⟩, HR⟩
  iapply (step c (signal ids sc E κ c 0 (lft c) 0 rfl)) $$ [HK HL]
  · isplitr; · iexact HInv
    isplitl [HK]; · iexact HK
    iexact HL
  iintro %_ HK
  iapply (step c (signal ids sc E κ c 1 (rgt c) 2 rfl)) $$ [HK HR']
  · isplitr; · iexact HInv
    isplitl [HK]; · iexact HK
    iexact HR'
  iintro %_ HK
  iapply (step c (signal ids sc E κ c 2 (xp c) 1 rfl)) $$ [HK HX]
  · isplitr; · iexact HInv
    isplitl [HK]; · iexact HK
    iexact HX
  iintro %_ HK
  iapply (step c (barWait ids sc E κ c 3 (lower c 0 3 (by decide)))) $$ [HK HP HC]
  · isplitr; · iexact HInv
    isplitl [HK]; · iexact HK
    isplitl [HP]; · iexact HP
    iexact HC
  iintro %_ ⟨HK, HF0, HB⟩
  iapply (step c (gather0 ids E c hb R v2 v5 v8 v19 v30 _ v32 v34)) $$ [HK HS HF HE HR]
  · isplitl [HK HS HF HE]
    · isplitl [HK]; · iexact HK
      isplitl [HS]; · iexact HS
      isplitl [HF]; · iexact HF
      iexact HE
    iexact HR
  iintro %_ HD
  iapply (ret c .rfl)
  isplitl [HD]; · iexact HD
  isplitl [HF0]; · iexact HF0
  iexact HB

include hb in
/-- The hand-shake and three steps of the ring of partial sums. -/
theorem p88 : iprop(Gat ids E c 0 ∗ Inv ids sc E κ ∗ (Bar (lft c) 0 ∗ Bar (rgt c) 2 ∗ Bar (xp c) 1 ∗ (atPos ER (cell c 0) 0 ∅ 0 ∗ cred (tallyAt (cell c 0) () 3)))
      ∗ pt c bS Finset.univ fullShare (sc c) ∗ Acc c 0 ∗ Acc c 1 ∗ Acc c 2
      ∗ (Tk c (iRS 0) (rgt c) (iRR 0) ∗ Tk c (iRS 1) (rgt c) (iRR 1) ∗ Tk c (iRS 2) (rgt c) (iRR 2)) ∗ Rcv c (iRR 0) ∗ Rcv c (iRR 1))
    ⊢ wpc c (k0_part88 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11) (fun r => iprop(⌜c = r.1⌝ ∗ Gat ids E c 6 ∗ pt c bS Finset.univ fullShare (sc c) ∗ Fin' c 0 ∗ Done ids sc E c 0 ∗ Done ids sc E c 1 ∗ Rcv c (iRS 2)
      ∗ (Dst (rgt c) bG (cS (ch c 0)) (iAR 0) ∗ Dst (rgt c) bG (cS (ch c 1)) (iAR 1) ∗ Dst (rgt c) bG (cS (ch c 2)) (iAR 2))
      ∗ (Dst (xp c) bX (cS (ch c 0)) (iXR 0) ∗ Dst (xp c) bX (cS (ch c 1)) (iXR 1) ∗ Dst (xp c) bX (cS (ch c 2)) (iXR 2)
        ∗ Dst (F := F) (xp c) bX (cS (ch c 3)) (iXR 3)))) := by
  rw [k0_part88_eq_skeleton]; unfold k0_part88_skel
  iintro ⟨HG, #HInv, ⟨HB0, HB1, HB2, HB3⟩, HSC, HA0, HA1, HA2, ⟨HT0, HT1, HT2⟩, HR0, HR1⟩
  iapply (step c (p1 c iprop(emp))) $$ []
  · iempintro
  iintro %r ⟨%he, -⟩
  obtain ⟨_, _, _, _, _, _, _, _, _⟩ := r
  dsimp only at he
  obtain ⟨rfl, rfl⟩ := he
  iapply (step c (p2 ids sc E κ c hb iprop(pt c bS Finset.univ fullShare (sc c) ∗ Acc c 0 ∗ emp) _ _ _ _ _ _ _)) $$ [HG HB0 HB1 HB2 HB3 HSC HA0]
  · isplitl [HG]; · iexact HG
    isplitr; · iexact HInv
    isplitl [HB0]; · iexact HB0
    isplitl [HB1]; · iexact HB1
    isplitl [HB2]; · iexact HB2
    isplitl [HB3]; · iexact HB3
    isplitl [HSC]; · iexact HSC
    isplitl [HA0]; · iexact HA0
    iempintro
  iintro %_ ⟨HD, HF0, HB⟩
  ihave HB := (receive c) $$ HB
  icases HB with ⟨⟨HD0, HD1, HD2⟩, HDG, HDX⟩
  iapply (step c (p3 ids E c hb 3 (by decide) (128 * (gc c 0).val) _ _)) $$ HD
  iintro %r HD
  obtain ⟨_, _⟩ := r
  iapply (step c (p4 ids E c hb 3 (by decide) (128 * (gc c 0).val) _ _ _ _)) $$ HD
  iintro %r HD
  obtain ⟨_, _, _, _, _⟩ := r
  iapply (step c (p5 ids E c hb 3 (by decide) (128 * (gc c 0).val) _ _ _ _ _ _ _)) $$ HD
  iintro %r HD
  obtain ⟨_, _, _, _, _, _, _⟩ := r
  iapply (step c (p6 ids E c hb 3 (by decide) (128 * (gc c 0).val) _ _ _ _ _ _ _ _ _)) $$ HD
  iintro %r HD
  obtain ⟨_, _, _, _, _⟩ := r
  iapply (step c (p7 ids E c hb 3 (by decide) (128 * (gc c 0).val) _ _ _ _ _ _ _)) $$ HD
  iintro %r HD
  obtain ⟨_, _, _, _, _⟩ := r
  iapply (step c (p8 ids E c hb 3 (by decide) (128 * (gc c 0).val) _ _ _ _ _ _ _)) $$ HD
  iintro %r ⟨%hv, HD⟩
  obtain ⟨_, _⟩ := r
  iapply (step c (p9 ids E c hb 3 (by decide) (128 * (gc c 0).val) _ _ _ _ hv)) $$ HD
  iintro %_ HD
  iapply (step c (p10 ids E c hb 3 (by decide) (128 * (gc c 0).val) _ _ _)) $$ HD
  iintro %_ HD
  iapply (step c (p11 ids E c hb 3 (by decide) (128 * (gc c 0).val) _ _)) $$ HD
  iintro %r HD
  obtain ⟨_, _⟩ := r
  iapply (step c (p12 ids E c hb 3 (by decide) (128 * (gc c 0).val) _ _ _ _)) $$ HD
  iintro %r HD
  obtain ⟨_, _, _, _, _⟩ := r
  iapply (step c (p13 ids E c hb 3 (by decide) (128 * (gc c 0).val) _ _ _ _ _ _ _)) $$ HD
  iintro %r HD
  obtain ⟨_, _, _, _, _, _, _⟩ := r
  iapply (step c (p14 ids E c hb 3 (by decide) (128 * (gc c 0).val) _ _ _ _ _ _ _ _ _)) $$ HD
  iintro %r HD
  obtain ⟨_, _, _, _, _⟩ := r
  iapply (step c (p15 ids E c hb 3 (by decide) (128 * (gc c 0).val) _ _ _ _ _ _ _)) $$ HD
  iintro %r HD
  obtain ⟨_, _, _, _, _⟩ := r
  iapply (step c (p16 ids E c hb 3 (by decide) (128 * (gc c 0).val) _ _ _ _ _ _ _)) $$ HD
  iintro %r ⟨%hv, HD⟩
  obtain ⟨_, _⟩ := r
  iapply (step c (p17 ids E c hb 3 (by decide) (128 * (gc c 0).val) _ _ _ _ hv)) $$ HD
  iintro %_ HD
  iapply (step c (p18 ids E c hb 3 (by decide) (128 * (gc c 0).val) _ _ _)) $$ HD
  iintro %_ HD
  iapply (step c (p19 ids E c hb 3 (by decide) (128 * (gc c 0).val) _ _)) $$ HD
  iintro %r HD
  obtain ⟨_, _⟩ := r
  iapply (step c (p20 ids sc E c hb iprop(emp) _ _ _ _)) $$ [HD]
  · iexact HD
  iintro %_ ⟨HG, HSC, HA0, -⟩
  iapply (step c (p21 ids sc E κ c hb iprop(pt c bS Finset.univ fullShare (sc c) ∗ emp) _ _ _ _)) $$ [HG HT0 HA0 HD0 HSC]
  · isplitl [HG]; · iexact HG
    isplitr; · iexact HInv
    isplitl [HT0]; · iexact HT0
    isplitl [HA0]; · iexact HA0
    isplitl [HD0]; · iexact HD0
    isplitl [HSC]; · iexact HSC
    iempintro
  iintro %r HD
  obtain ⟨_, _, _, _, _⟩ := r
  iapply (step c (p22 ids E c hb 4 (by decide) (128 * (gc c 1).val) _ _ _ _ _ _)) $$ HD
  iintro %_ HD
  iapply (step c (p23 ids E c hb 4 (by decide) (128 * (gc c 1).val) _ _ _)) $$ HD
  iintro %_ HD
  iapply (step c (p24 ids E c hb 4 (by decide) (128 * (gc c 1).val) _ _ _)) $$ HD
  iintro %r HD
  obtain ⟨_, _⟩ := r
  iapply (step c (p25 ids E c hb 4 (by decide) (128 * (gc c 1).val) _ _ _ _)) $$ HD
  iintro %r HD
  obtain ⟨_, _⟩ := r
  iapply (step c (p26 ids E c hb 4 (by decide) (128 * (gc c 1).val) _ _ _ _)) $$ HD
  iintro %r HD
  obtain ⟨_, _, _, _, _, _⟩ := r
  iapply (step c (p27 ids E c hb 4 (by decide) (128 * (gc c 1).val) _ _ _ _ _ _ _ _)) $$ HD
  iintro %r HD
  obtain ⟨_, _, _, _, _, _⟩ := r
  iapply (step c (p28 ids E c hb 4 (by decide) (128 * (gc c 1).val) _ _ _ _ _ _ _ _)) $$ HD
  iintro %r HD
  obtain ⟨_, _, _, _⟩ := r
  iapply (step c (p29 ids E c hb 4 (by decide) (128 * (gc c 1).val) _ _ _ _ _ _)) $$ HD
  iintro %r HD
  obtain ⟨_, _, _, _⟩ := r
  iapply (step c (p30 ids E c hb 4 (by decide) (128 * (gc c 1).val) _ _ _ _ _ _)) $$ HD
  iintro %_ HD
  iapply (step c (p31 ids E c hb 4 (by decide) (128 * (gc c 1).val) _ _ _)) $$ HD
  iintro %_ HD
  iapply (step c (p32 ids E c hb 4 (by decide) (128 * (gc c 1).val) _ _ _)) $$ HD
  iintro %r HD
  obtain ⟨_, _⟩ := r
  iapply (step c (p33 ids E c hb 4 (by decide) (128 * (gc c 1).val) _ _ _ _)) $$ HD
  iintro %r HD
  obtain ⟨_, _⟩ := r
  iapply (step c (p34 ids E c hb 4 (by decide) (128 * (gc c 1).val) _ _ _ _)) $$ HD
  iintro %r HD
  obtain ⟨_, _, _, _, _, _⟩ := r
  iapply (step c (p35 ids E c hb 4 (by decide) (128 * (gc c 1).val) _ _ _ _ _ _ _ _)) $$ HD
  iintro %r HD
  obtain ⟨_, _, _, _, _, _⟩ := r
  iapply (step c (p36 ids E c hb 4 (by decide) (128 * (gc c 1).val) _ _ _ _ _ _ _ _)) $$ HD
  iintro %r HD
  obtain ⟨_, _, _, _⟩ := r
  iapply (step c (p37 ids E c hb 4 (by decide) (128 * (gc c 1).val) _ _ _ _ _ _)) $$ HD
  iintro %r HD
  obtain ⟨_, _, _, _⟩ := r
  iapply (step c (p38 ids sc E c hb iprop(emp) _ _ _ _ _)) $$ [HD]
  · iexact HD
  iintro %r ⟨%hv, HG, HSC, HS0, -⟩
  obtain ⟨_, _⟩ := r
  icases HG with ⟨HK, HGs⟩
  iapply (step c (p39 ids sc E κ c hb iprop(emp) _ _ _ _ _ _ _ hv)) $$ [HK HA1 HS0 HR0]
  · isplitl [HK]; · iexact HK
    isplitr; · iexact HInv
    isplitl [HA1]; · iexact HA1
    isplitl [HS0]; · iexact HS0
    isplitl [HR0]; · iexact HR0
    iempintro
  iintro %_ ⟨%hv, HK, HA1, HDn0, -⟩
  iapply (step c (p40 ids sc E c hb iprop(emp) _ _ _ _ _ hv)) $$ [HA1]
  · isplitl [HA1]; · iexact HA1
    iempintro
  iintro %_ ⟨HA1, -⟩
  iapply (step c (p41 ids sc E κ c hb iprop(pt c bS Finset.univ fullShare (sc c) ∗ Acc c 2 ∗ emp) _)) $$ [HK HGs HT1 HA1 HD1 HSC HA2]
  · isplitl [HK HGs]
    · isplitl [HK]; · iexact HK
      iexact HGs
    isplitr; · iexact HInv
    isplitl [HT1]; · iexact HT1
    isplitl [HA1]; · iexact HA1
    isplitl [HD1]; · iexact HD1
    isplitl [HSC]; · iexact HSC
    isplitl [HA2]; · iexact HA2
    iempintro
  iintro %r HD
  obtain ⟨_, _, _⟩ := r
  iapply (step c (p42 ids E c hb 5 (by decide) (128 * (gc c 2).val) _ _ _ _)) $$ HD
  iintro %r HD
  obtain ⟨_, _, _, _, _, _⟩ := r
  iapply (step c (p43 ids E c hb 5 (by decide) (128 * (gc c 2).val) _ _ _ _ _ _ _ _)) $$ HD
  iintro %r HD
  obtain ⟨_, _, _, _, _, _⟩ := r
  iapply (step c (p44 ids E c hb 5 (by decide) (128 * (gc c 2).val) _ _ _ _ _ _ _ _)) $$ HD
  iintro %r HD
  obtain ⟨_, _, _, _⟩ := r
  iapply (step c (p45 ids E c hb 5 (by decide) (128 * (gc c 2).val) _ _ _ _ _ _)) $$ HD
  iintro %r HD
  obtain ⟨_, _, _, _⟩ := r
  iapply (step c (p46 ids E c hb 5 (by decide) (128 * (gc c 2).val) _ _ _ _ _ _)) $$ HD
  iintro %_ HD
  iapply (step c (p47 ids E c hb 5 (by decide) (128 * (gc c 2).val) _ _ _)) $$ HD
  iintro %_ HD
  iapply (step c (p48 ids E c hb 5 (by decide) (128 * (gc c 2).val) _ _ _)) $$ HD
  iintro %r HD
  obtain ⟨_, _⟩ := r
  iapply (step c (p49 ids E c hb 5 (by decide) (128 * (gc c 2).val) _ _ _ _)) $$ HD
  iintro %r HD
  obtain ⟨_, _⟩ := r
  iapply (step c (p50 ids E c hb 5 (by decide) (128 * (gc c 2).val) _ _ _ _)) $$ HD
  iintro %r HD
  obtain ⟨_, _, _, _, _, _⟩ := r
  iapply (step c (p51 ids E c hb 5 (by decide) (128 * (gc c 2).val) _ _ _ _ _ _ _ _)) $$ HD
  iintro %r HD
  obtain ⟨_, _, _, _, _, _⟩ := r
  iapply (step c (p52 ids E c hb 5 (by decide) (128 * (gc c 2).val) _ _ _ _ _ _ _ _)) $$ HD
  iintro %r HD
  obtain ⟨_, _, _, _⟩ := r
  iapply (step c (p53 ids E c hb 5 (by decide) (128 * (gc c 2).val) _ _ _ _ _ _)) $$ HD
  iintro %r HD
  obtain ⟨_, _, _, _⟩ := r
  iapply (step c (p54 ids E c hb 5 (by decide) (128 * (gc c 2).val) _ _ _ _ _ _)) $$ HD
  iintro %_ HD
  iapply (step c (p55 ids E c hb 5 (by decide) (128 * (gc c 2).val) _ _ _)) $$ HD
  iintro %_ HD
  iapply (step c (p56 ids E c hb 5 (by decide) (128 * (gc c 2).val) _ _ _)) $$ HD
  iintro %r HD
  obtain ⟨_, _⟩ := r
  iapply (step c (p57 ids E c hb 5 (by decide) (128 * (gc c 2).val) _ _ _ _)) $$ HD
  iintro %r HD
  obtain ⟨_, _⟩ := r
  iapply (step c (p58 ids sc E c hb iprop(emp) _ _ _)) $$ [HD]
  · iexact HD
  iintro %_ ⟨HG, HSC, HA2, HS1, -⟩
  icases HG with ⟨HK, HGs⟩
  iapply (step c (p59 ids sc E κ c hb iprop(emp) _ _ _ _ _)) $$ [HK HA2 HS1 HR1]
  · isplitl [HK]; · iexact HK
    isplitr; · iexact HInv
    isplitl [HA2]; · iexact HA2
    isplitl [HS1]; · iexact HS1
    isplitl [HR1]; · iexact HR1
    iempintro
  iintro %r ⟨HK, HA2, HDn1, -⟩
  obtain ⟨_, _, _, _⟩ := r
  iapply (step c (p60 ids sc E κ c hb iprop(emp) _ _ _ _ _ _ _ _)) $$ [HK HT2 HA2 HD2]
  · isplitl [HK]; · iexact HK
    isplitr; · iexact HInv
    isplitl [HT2]; · iexact HT2
    isplitl [HA2]; · iexact HA2
    isplitl [HD2]; · iexact HD2
    iempintro
  iintro %r ⟨HK, HS2, -⟩
  obtain ⟨_, _, _⟩ := r
  iapply (ret c .rfl)
  isplitr; · ipureintro; rfl
  isplitl [HK HGs]
  · isplitl [HK]; · iexact HK
    iexact HGs
  isplitl [HSC]; · iexact HSC
  isplitl [HF0]; · iexact HF0
  isplitl [HDn0]; · iexact HDn0
  isplitl [HDn1]; · iexact HDn1
  isplitl [HS2]; · iexact HS2
  isplitl [HDG]; · iexact HDG
  iexact HDX

end Cert.KernelIdeal.Pf

end
-- ==== Proof.RingGather.lean ====
/-
The parts of the body that send the finished chunks round the ring and to the other half.
-/
module

public import proofs.«01_k».proof.Proof.Steps

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)
variable (κ : GSem nD τ sig → ℕ) (c : Dev nD)

/-- What sending chunk `k` to the device of the other half takes besides the chunk. -/
abbrev TX (k : Fin 4) : sProp 𝕄 := iprop(Tk c (iXS k) (xp c) (iXR k) ∗ Dst (xp c) bX (cS (ch c k.val)) (iXR k))
/-- What step `p` of the ring of finished chunks takes besides the chunk. -/
abbrev TG (p : Fin 3) : sProp 𝕄 := iprop(Tk c (iAS p) (rgt c) (iAR p) ∗ Dst (rgt c) bG (cS (ch c p.val)) (iAR p) ∗ Rcv c (iAR p))
/-- A finished chunk, held at a share. -/
abbrev Own (k : ℕ) (q : PosShare TreeShare) : sProp 𝕄 := pt c bG (cS (ch c k)) q (tot ids sc E c)

/-- A chunk held whole is sent to the device of the other half; the right share stays. -/
theorem xSend (n : ℕ) (c' : Dev nD) (k : Fin 4) (hc : c' = xp c) (hdue : (dues c)[n]? = some (cell (xp c) (iXR k), NC))
    (off : Fin 2 → ℕ) (inb) (h : off = ![128 * (ch c k.val).val, 0])
    (oS) (inbS) (hS : oS = ![k.val]) (oR) (inbR) (hR : oR = ![k.val]) {hsc hx hy hz} (R : sProp 𝕄) :
    iprop(Keep ids c n ∗ Inv ids sc E κ ∗ TX c k ∗ Own ids sc E c k.val fullShare ∗ R)
      ⊢ wpc c (Prog.lift (.enqueueDma (aG.slice (Rect.unit (s := S512x1024) off S128x1024.size inb) (fun _ => rfl))
          (.remote (Dev.tc c') (aX.slice (Rect.unit (s := S512x1024) off S128x1024.size inb) (fun _ => rfl))
            (.dma ((cc0_scratch10.slice (Rect.unit (s := S4) oS S1.size inbS)).squeeze S_ squeezes_S1_S_).sem) hsc)
          (.dma ((cc0_scratch11.slice (Rect.unit (s := S4) oR S1.size inbR)).squeeze S_ squeezes_S1_S_).sem) hx hy hz))
        (fun _ => iprop(Keep ids c (n + 1) ∗ Rcv c (iXS k) ∗ Own ids sc E c k.val fullShare.right ∗ R)) := by
  iintro ⟨HK, #HInv, ⟨HT, HD⟩, HG, HR⟩
  ihave HG' := (halves c _ _).1 $$ HG
  icases HG' with ⟨HG, HGr⟩
  iapply (wp_wand_r _ _ _)
  isplitl [HK HT HG HD]
  · iapply (sendX ids sc E κ c n c' k hc hdue off inb h oS inbS hS oR inbR hR)
    isplitr; · iexact HInv
    isplitl [HK]; · iexact HK
    isplitl [HT]; · iexact HT
    isplitl [HG]; · iexact HG
    iexact HD
  iintro %_ ⟨HK, HRc⟩
  isplitl [HK]; · iexact HK
  isplitl [HRc]; · iexact HRc
  isplitl [HGr]; · iexact HGr
  iexact HR

/-- One step of the ring of finished chunks: the chunk is sent ahead, the next one is awaited. -/
theorem gStep (n : ℕ) (c' : Dev nD) (p : Fin 3) (hc : c' = rgt c) (hdue : (dues c)[n]? = some (cell (rgt c) (iAR p), NC))
    (hlS : ∀ x ∈ duesLv.drop (n + 1), lvI (iAS p) < x) (hlR : ∀ x ∈ duesLv.drop (n + 1), lvI (iAR p) < x)
    (off : Fin 2 → ℕ) (inb) (h : off = ![128 * (ch c p.val).val, 0])
    (oS) (inbS) (hS : oS = ![p.val]) (oR) (inbR) (hR : oR = ![p.val]) {hsc hx hy hz h1 h2 h3 h4} (R : sProp 𝕄)
    {β : Type} {kk : PUnit → Prog (TpuEff nD τ sig (Elt F) Λ₀ .tc) β} {Q : β → sProp 𝕄}
    (hk : iprop(Keep ids c (n + 1) ∗ (Fin' c (iAS p) ∗ Fin' c (iAR p) ∗ Own ids sc E c p.val fullShare.right) ∗ Own ids sc E c (p.val + 1) fullShare ∗ R)
      ⊢ wpc c (kk ⟨⟩) Q) :
    iprop(Keep ids c n ∗ Inv ids sc E κ ∗ TG c p ∗ Own ids sc E c p.val fullShare.right ∗ R)
      ⊢ wpc c (Prog.lift (.enqueueDma (aG.slice (Rect.unit (s := S512x1024) off S128x1024.size inb) (fun _ => rfl))
          (.remote (Dev.tc c') (aG.slice (Rect.unit (s := S512x1024) off S128x1024.size inb) (fun _ => rfl))
            (.dma ((cc0_scratch8.slice (Rect.unit (s := S3) oS S1.size inbS)).squeeze S_ squeezes_S1_S_).sem) hsc)
          (.dma ((cc0_scratch9.slice (Rect.unit (s := S3) oR S1.size inbR)).squeeze S_ squeezes_S1_S_).sem) hx hy hz)
        >>= fun _ => Prog.lift (.waitDma2 ((cc0_scratch8.slice (Rect.unit (s := S3) oS S1.size inbS)).squeeze S_ squeezes_S1_S_).sem
          (aG.slice (Rect.unit (s := S512x1024) off S128x1024.size inb) (fun _ => rfl)) (aG.slice (Rect.unit (s := S512x1024) off S128x1024.size inb) (fun _ => rfl)) h1 h2)
        >>= fun _ => Prog.lift (.waitDma2 ((cc0_scratch9.slice (Rect.unit (s := S3) oR S1.size inbR)).squeeze S_ squeezes_S1_S_).sem
          (aG.slice (Rect.unit (s := S512x1024) off S128x1024.size inb) (fun _ => rfl)) (aG.slice (Rect.unit (s := S512x1024) off S128x1024.size inb) (fun _ => rfl)) h3 h4)
        >>= kk) Q := by
  iintro ⟨HK, #HInv, ⟨HT, HD, HRR⟩, HG, HR⟩
  iapply (step c (sendAG ids sc E κ c n c' p hc hdue off inb h oS inbS hS oR inbR hR)) $$ [HK HT HG HD]
  · isplitr; · iexact HInv
    isplitl [HK]; · iexact HK
    isplitl [HT]; · iexact HT
    isplitl [HG]; · iexact HG
    iexact HD
  iintro %_ ⟨HK, HRS⟩
  iapply (step c (waitAS ids sc E κ c (n + 1) p hlS oS inbS hS off inb)) $$ [HK HRS]
  · isplitr; · iexact HInv
    isplitl [HK]; · iexact HK
    iexact HRS
  iintro %_ ⟨HK, HfS, HG⟩
  iapply (step c (waitAR ids sc E κ c (n + 1) p hlR oR inbR hR off inb)) $$ [HK HRR]
  · isplitr; · iexact HInv
    isplitl [HK]; · iexact HK
    iexact HRR
  iintro %_ ⟨HK, HfR, HN⟩
  have hN : (pt c bG (cS (gc c p.val)) fullShare (tot ids sc E c) : sProp 𝕄) ⊢ Own ids sc E c (p.val + 1) fullShare :=
    Entails.of_eq (by unfold Own; rw [ch_succ c p.val (by have := p.isLt; omega)])
  ihave HN := hN $$ HN
  iapply hk
  isplitl [HK]; · iexact HK
  isplitl [HfS HfR HG]
  · isplitl [HfS]; · iexact HfS
    isplitl [HfR]; · iexact HfR
    iexact HG
  isplitl [HN]; · iexact HN
  iexact HR

theorem p80 (R : sProp 𝕄) (v2 : BitVec 32) (v5 : BitVec 32) (v8 : BitVec 32) (v2785 : BitVec 32) (v2788 : Vec F S128x1024 .bf16) (v2791 : Vec F S128x1024 .bf16) (hv : v2788 = take (ch c 0) (tot ids sc E c)) :
    iprop(Keep ids c 6 ∗ Inv ids sc E κ ∗ TX c 0 ∗ (∃ f, pt (F := F) c bG (cS (ch c 0)) fullShare f) ∗ R)
      ⊢ wpc c (k0_part80 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v2785 v2788 v2791)
        (fun r => iprop(Keep ids c 7 ∗ Rcv c (iXS 0) ∗ Own ids sc E c 0 fullShare.right ∗ R)) := by
  rw [k0_part80_eq_skeleton]; unfold k0_part80_skel
  iintro ⟨HK, #HInv, HT, HG, HR⟩
  iapply (step c (stG c (ch c 0) _ _ ((show ∀ c, k0_off560 c = ![128 * (ch c 0).val, 0] by decide +kernel) c) (tot ids sc E c) _ (by rw [hv]; exact shapeCast_self _ _) _ _)) $$ HG
  iintro %_ HG
  iapply (step c (xSend ids sc E κ c 6 _ 0 (Fin.ext ((show ∀ c, k0_dev7 c = (xp c).val by decide +kernel) c)) rfl _ _ ((show ∀ c, k0_off561 c = ![128 * (ch c 0).val, 0] by decide +kernel) c) _ _ rfl _ _ rfl R)) $$ [HK HT HG HR]
  · isplitl [HK]; · iexact HK
    isplitr; · iexact HInv
    isplitl [HT]; · iexact HT
    isplitl [HG]; · iexact HG
    iexact HR
  iintro %_ H
  iapply (ret c .rfl)
  iexact H

theorem p82 (R : sProp 𝕄) (v2 : BitVec 32) (v5 : BitVec 32) (v8 : BitVec 32) (v2785 : BitVec 32) (v2830 : BitVec 32) :
    iprop(Keep ids c 8 ∗ Inv ids sc E κ ∗ TX c 1 ∗ Own ids sc E c 1 fullShare ∗ R)
      ⊢ wpc c (k0_part82 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v2785 v2830)
        (fun r => iprop(Keep ids c 9 ∗ Rcv c (iXS 1) ∗ Own ids sc E c 1 fullShare.right ∗ R)) := by
  rw [k0_part82_eq_skeleton]; unfold k0_part82_skel
  exact seq c (xSend ids sc E κ c 8 _ 1 (Fin.ext ((show ∀ c, k0_dev9 c = (xp c).val by decide +kernel) c)) rfl _ _ ((show ∀ c, k0_off558 c 0#32 = ![128 * (ch c 1).val, 0] by decide +kernel) c) _ _ rfl _ _ rfl R) fun _ => ret c .rfl

theorem p84 (R : sProp 𝕄) (v2 : BitVec 32) (v5 : BitVec 32) (v8 : BitVec 32) (v2785 : BitVec 32) (v2895 : BitVec 32) (c128_i32_1726 : BitVec 32) :
    iprop(Keep ids c 10 ∗ Inv ids sc E κ ∗ TX c 2 ∗ Own ids sc E c 2 fullShare ∗ R)
      ⊢ wpc c (k0_part84 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v2785 v2895 c128_i32_1726)
        (fun r => iprop(Keep ids c 11 ∗ Rcv c (iXS 2) ∗ Own ids sc E c 2 fullShare.right ∗ R)) := by
  rw [k0_part84_eq_skeleton]; unfold k0_part84_skel
  exact seq c (xSend ids sc E κ c 10 _ 2 (Fin.ext ((show ∀ c, k0_dev11 c = (xp c).val by decide +kernel) c)) rfl _ _ ((show ∀ c, k0_off558 c 1#32 = ![128 * (ch c 2).val, 0] by decide +kernel) c) _ _ rfl _ _ rfl R) fun _ => ret c .rfl

theorem p81 (R : sProp 𝕄) (v2 : BitVec 32) (v8 : BitVec 32) (v19 : BitVec 32) (v2819 : BitVec 32) (v2822 : BitVec 32) (v2823 : BitVec 32) (v2824 : BitVec 1) (v2825 : BitVec 1) :
    iprop(Keep ids c 7 ∗ Inv ids sc E κ ∗ TG c 0 ∗ Own ids sc E c 0 fullShare.right ∗ R)
      ⊢ wpc c (k0_part81 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v8 v19 v2819 v2822 v2823 v2824 v2825)
        (fun r => iprop(Keep ids c 8 ∗ (Fin' c (iAS 0) ∗ Fin' c (iAR 0) ∗ Own ids sc E c 0 fullShare.right) ∗ Own ids sc E c 1 fullShare ∗ R)) := by
  rw [k0_part81_eq_skeleton]; unfold k0_part81_skel
  exact gStep ids sc E κ c 7 _ 0 (Fin.ext ((show ∀ c, k0_dev8 c = (rgt c).val by decide +kernel) c)) rfl (by decide) (by decide) _ _ ((show ∀ c, k0_off562 c 0#32 = ![128 * (ch c 0).val, 0] by decide +kernel) c) _ _ rfl _ _ rfl R (ret c .rfl)

theorem p83 (R : sProp 𝕄) (v2 : BitVec 32) (v8 : BitVec 32) (v19 : BitVec 32) (v2884 : BitVec 32) (v2887 : BitVec 32) (v2888 : BitVec 32) (v2889 : BitVec 1) (v2892 : BitVec 1) :
    iprop(Keep ids c 9 ∗ Inv ids sc E κ ∗ TG c 1 ∗ Own ids sc E c 1 fullShare.right ∗ R)
      ⊢ wpc c (k0_part83 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v8 v19 v2884 v2887 v2888 v2889 v2892)
        (fun r => iprop(Keep ids c 10 ∗ (Fin' c (iAS 1) ∗ Fin' c (iAR 1) ∗ Own ids sc E c 1 fullShare.right) ∗ Own ids sc E c 2 fullShare ∗ R)) := by
  rw [k0_part83_eq_skeleton]; unfold k0_part83_skel
  exact gStep ids sc E κ c 9 _ 1 (Fin.ext ((show ∀ c, k0_dev10 c = (rgt c).val by decide +kernel) c)) rfl (by decide) (by decide) _ _ ((show ∀ c, k0_off562 c 1#32 = ![128 * (ch c 1).val, 0] by decide +kernel) c) _ _ rfl _ _ rfl R (ret c .rfl)

theorem p85 (R : sProp 𝕄) (v2 : BitVec 32) (v8 : BitVec 32) (v19 : BitVec 32) (v2949 : BitVec 32) (v2960 : BitVec 32) :
    iprop(Keep ids c 11 ∗ Inv ids sc E κ ∗ TG c 2 ∗ Own ids sc E c 2 fullShare.right ∗ R)
      ⊢ wpc c (k0_part85 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v8 v19 v2949 v2960)
        (fun r => iprop(Keep ids c 12 ∗ (Fin' c (iAS 2) ∗ Fin' c (iAR 2) ∗ Own ids sc E c 2 fullShare.right) ∗ Own ids sc E c 3 fullShare ∗ R)) := by
  rw [k0_part85_eq_skeleton]; unfold k0_part85_skel
  exact gStep ids sc E κ c 11 _ 2 (Fin.ext ((show ∀ c, k0_dev12 c = (rgt c).val by decide +kernel) c)) rfl (by decide) (by decide) _ _ ((show ∀ c, k0_off562 c 2#32 = ![128 * (ch c 2).val, 0] by decide +kernel) c) _ _ rfl _ _ rfl R (ret c .rfl)

theorem p86 (R : sProp 𝕄) (v5 : BitVec 32) (v8 : BitVec 32) (v2796 : BitVec 32) (v2991 : BitVec 32) :
    iprop(Keep ids c 12 ∗ Inv ids sc E κ ∗ TX c 3 ∗ Own ids sc E c 3 fullShare ∗ Rcv c (iXS 0) ∗ Rcv c (iXR 0) ∗ Rcv c (iXS 1) ∗ R)
      ⊢ wpc c (k0_part86 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5 v8 v2796 v2991)
        (fun r => iprop(Keep ids c 13 ∗ Rcv c (iXS 3) ∗ Own ids sc E c 3 fullShare.right ∗ (Fin' c (iXS 0) ∗ Own ids sc E c 0 fullShare.left) ∗ (Fin' c (iXR 0) ∗ pt c bX (cS (ch c 0)) fullShare (tot ids sc E (xp c))) ∗ (Fin' c (iXS 1) ∗ Own ids sc E c 1 fullShare.left) ∗ R)) := by
  rw [k0_part86_eq_skeleton]; unfold k0_part86_skel
  iintro ⟨HK, #HInv, HT, HG, H0, H1, H2, HR⟩
  iapply (step c (xSend ids sc E κ c 12 _ 3 (Fin.ext ((show ∀ c, k0_dev13 c = (xp c).val by decide +kernel) c)) rfl _ _ ((show ∀ c, k0_off558 c 2#32 = ![128 * (ch c 3).val, 0] by decide +kernel) c) _ _ rfl _ _ rfl R)) $$ [HK HT HG HR]
  · isplitl [HK]; · iexact HK
    isplitr; · iexact HInv
    isplitl [HT]; · iexact HT
    isplitl [HG]; · iexact HG
    iexact HR
  iintro %_ ⟨HK, HS3, HG, HR⟩
  iapply (step c (waitXS ids sc E κ c 13 0 (by decide) _ _ rfl _ _)) $$ [HK H0]
  · isplitr; · iexact HInv
    isplitl [HK]; · iexact HK
    iexact H0
  iintro %_ ⟨HK, HA0, HB0⟩
  iapply (step c (waitXR ids sc E κ c 13 0 (by decide) _ _ rfl _ _)) $$ [HK H1]
  · isplitr; · iexact HInv
    isplitl [HK]; · iexact HK
    iexact H1
  iintro %_ ⟨HK, HA1, HB1⟩
  iapply (step c (waitXS ids sc E κ c 13 1 (by decide) _ _ rfl _ _)) $$ [HK H2]
  · isplitr; · iexact HInv
    isplitl [HK]; · iexact HK
    iexact H2
  iintro %_ ⟨HK, HA2, HB2⟩
  iapply (ret c .rfl)
  isplitl [HK]; · iexact HK
  isplitl [HS3]; · iexact HS3
  isplitl [HG]; · iexact HG
  isplitl [HA0 HB0]
  · isplitl [HA0]; · iexact HA0
    iexact HB0
  isplitl [HA1 HB1]
  · isplitl [HA1]; · iexact HA1
    iexact HB1
  isplitl [HA2 HB2]
  · isplitl [HA2]; · iexact HA2
    iexact HB2
  iexact HR

theorem p87 (R : sProp 𝕄) (v5 : BitVec 32) (v8 : BitVec 32) (v2861 : BitVec 32) (v2926 : BitVec 32) :
    iprop(Keep ids c 13 ∗ Inv ids sc E κ ∗ Rcv c (iXR 1) ∗ Rcv c (iXS 2) ∗ Rcv c (iXR 2) ∗ Rcv c (iXS 3) ∗ R)
      ⊢ wpc c (k0_part87 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v5 v8 v2861 v2926)
        (fun r => iprop(Keep ids c 13 ∗ (Fin' c (iXR 1) ∗ pt c bX (cS (ch c 1)) fullShare (tot ids sc E (xp c))) ∗ (Fin' c (iXS 2) ∗ Own ids sc E c 2 fullShare.left) ∗ (Fin' c (iXR 2) ∗ pt c bX (cS (ch c 2)) fullShare (tot ids sc E (xp c))) ∗ (Fin' c (iXS 3) ∗ Own ids sc E c 3 fullShare.left) ∗ R)) := by
  rw [k0_part87_eq_skeleton]; unfold k0_part87_skel
  iintro ⟨HK, #HInv, H0, H1, H2, H3, HR⟩
  iapply (step c (waitXR ids sc E κ c 13 1 (by decide) _ _ rfl _ _)) $$ [HK H0]
  · isplitr; · iexact HInv
    isplitl [HK]; · iexact HK
    iexact H0
  iintro %_ ⟨HK, HA0, HB0⟩
  iapply (step c (waitXS ids sc E κ c 13 2 (by decide) _ _ rfl _ _)) $$ [HK H1]
  · isplitr; · iexact HInv
    isplitl [HK]; · iexact HK
    iexact H1
  iintro %_ ⟨HK, HA1, HB1⟩
  iapply (step c (waitXR ids sc E κ c 13 2 (by decide) _ _ rfl _ _)) $$ [HK H2]
  · isplitr; · iexact HInv
    isplitl [HK]; · iexact HK
    iexact H2
  iintro %_ ⟨HK, HA2, HB2⟩
  iapply (step c (waitXS ids sc E κ c 13 3 (by decide) _ _ rfl _ _)) $$ [HK H3]
  · isplitr; · iexact HInv
    isplitl [HK]; · iexact HK
    iexact H3
  iintro %_ ⟨HK, HA3, HB3⟩
  iapply (ret c .rfl)
  isplitl [HK]; · iexact HK
  isplitl [HA0 HB0]
  · isplitl [HA0]; · iexact HA0
    iexact HB0
  isplitl [HA1 HB1]
  · isplitl [HA1]; · iexact HA1
    iexact HB1
  isplitl [HA2 HB2]
  · isplitl [HA2]; · iexact HA2
    iexact HB2
  isplitl [HA3 HB3]
  · isplitl [HA3]; · iexact HA3
    iexact HB3
  iexact HR

end Cert.KernelIdeal.Pf

end
-- ==== Proof.Body2.lean ====
/-
The rest of the body, and the body as a whole.
-/
module

public import proofs.«01_k».proof.Proof.Body1
public import proofs.«01_k».proof.Proof.RingGather

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch)

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)
variable (κ : GSem nD τ sig → ℕ) (c : Dev nD) (hb : Small ids)

/-- A load of a whole buffer of 512 rows. -/
theorem whole_read (f : S512x1024.Idx → F .bf16) (inb) : (aG.access (Rect.unit (s := S512x1024) ![0, 0] S512x1024.size inb)).read (Elt F) f = f := by
  funext x
  refine congrArg f (funext fun a => Fin.ext ?_)
  fin_cases a
  · show 0 + 1 * (x 0).val = (x 0).val; omega
  · show 0 + 1 * (x 1).val = (x 1).val; omega

theorem halves_join (k : Fin 4) (f : S512x1024.Idx → F .bf16) :
    iprop(pt c bG (cS k) fullShare.left f ∗ pt c bG (cS k) fullShare.right f) ⊢ (pt c bG (cS k) fullShare f : sProp 𝕄) := (halves c k f).2

theorem half_own (i : S1024x1024.Idx) (h : (i 0).val / 512 = xx c) : (if (i 0).val / 512 = xx c then c else xp c) = c := if_pos h
theorem half_other (i : S1024x1024.Idx) (h : (i 0).val / 512 = 1 - xx c) : (if (i 0).val / 512 = xx c then c else xp c) = xp c :=
  if_neg (by omega)

include hb in
/-- The last gather, the ring of finished chunks, and the device's own half of the output. -/
theorem p89 (v2 : BitVec 32) (v5 : BitVec 32) (v8 : BitVec 32) (v19 : BitVec 32) (v2100 : BitVec 32) (v2117 : BitVec 32) (v2118 : BitVec 32) : iprop(Gat ids E c 6 ∗ Inv ids sc E κ ∗ pt c bS Finset.univ fullShare (sc c) ∗ Acc c 3 ∗ Rcv c (iRS 2) ∗ Rcv c (iRR 2)
      ∗ (∃ f, pt (F := F) c bG (cS (ch c 0)) fullShare f) ∗ (TG c 0 ∗ TG c 1 ∗ TG c 2) ∗ (TX c 0 ∗ TX c 1 ∗ TX c 2 ∗ TX c 3)
      ∗ (Rcv c (iXR 0) ∗ Rcv c (iXR 1) ∗ Rcv c (iXR 2) ∗ Rcv c (iXR 3)) ∗ (∃ f, pt (F := F) c bO (oS (xx c)) fullShare f))
    ⊢ wpc c (k0_part89 aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11 c v2 v5 v8 v19 v2100 v2117 v2118) (fun _ => iprop(Gat ids E c 13 ∗ pt c bS Finset.univ fullShare (sc c)
      ∗ (Fin' c (iRS 2) ∗ pt c bA (cS (gc c 2)) fullShare (psum ids sc E 2 c)) ∗ pt c bA (cS (gc c 3)) fullShare (psum ids sc E 3 c) ∗ (Fin' c (iRR 2) ∗ pt c bR (pS 2) fullShare (recvd ids sc E (2 : Fin 3).val c))
      ∗ ((Fin' c (iAS 0) ∗ Fin' c (iAR 0)) ∗ (Fin' c (iAS 1) ∗ Fin' c (iAR 1)) ∗ (Fin' c (iAS 2) ∗ Fin' c (iAR 2)))
      ∗ (Fin' c (iXS 0) ∗ Fin' c (iXS 1) ∗ Fin' c (iXS 2) ∗ Fin' c (iXS 3))
      ∗ ((Fin' c (iXR 0) ∗ pt c bX (cS (ch c 0)) fullShare (tot ids sc E (xp c))) ∗ (Fin' c (iXR 1) ∗ pt c bX (cS (ch c 1)) fullShare (tot ids sc E (xp c))) ∗ (Fin' c (iXR 2) ∗ pt c bX (cS (ch c 2)) fullShare (tot ids sc E (xp c))) ∗ (Fin' c (iXR 3) ∗ pt c bX (cS (ch c 3)) fullShare (tot ids sc E (xp c))))
      ∗ pt c bG Finset.univ fullShare (tot ids sc E c) ∗ pt c bO (oS (xx c)) fullShare (outv ids sc E c))) := by
  rw [k0_part89_eq_skeleton]; unfold k0_part89_skel
  iintro ⟨⟨HK, HS, HF, HE⟩, #HInv, HSC, HA3, HRS, HRR, HG0, ⟨HTG0, HTG1, HTG2⟩, ⟨HTX0, HTX1, HTX2, HTX3⟩, ⟨HX0, HX1, HX2, HX3⟩, HO⟩
  iapply (step c (p61 ids E c hb iprop(pt c bS Finset.univ fullShare (sc c) ∗ Acc c 3 ∗ Inv ids sc E κ ∗ Rcv c (iRS 2) ∗ emp) _ _)) $$ [HK HS HF HE HSC HA3 HRS]
  · isplitl [HK]; · iexact HK
    isplitl [HS]; · iexact HS
    isplitl [HF]; · iexact HF
    isplitl [HE]; · iexact HE
    isplitl [HSC]; · iexact HSC
    isplitl [HA3]; · iexact HA3
    isplitr; · iexact HInv
    isplitl [HRS]; · iexact HRS
    iempintro
  iintro %r HD
  obtain ⟨_, _, _, _, _⟩ := r
  iapply (step c (p62 ids E c hb 6 (by decide) (128 * (gc c 3).val) _ _ _ _ _ _)) $$ HD
  iintro %_ HD
  iapply (step c (p63 ids E c hb 6 (by decide) (128 * (gc c 3).val) _ _ _)) $$ HD
  iintro %_ HD
  iapply (step c (p64 ids E c hb 6 (by decide) (128 * (gc c 3).val) _ _ _)) $$ HD
  iintro %r HD
  obtain ⟨_, _⟩ := r
  iapply (step c (p65 ids E c hb 6 (by decide) (128 * (gc c 3).val) _ _ _ _)) $$ HD
  iintro %r HD
  obtain ⟨_, _⟩ := r
  iapply (step c (p66 ids E c hb 6 (by decide) (128 * (gc c 3).val) _ _ _ _)) $$ HD
  iintro %r HD
  obtain ⟨_, _, _, _, _, _⟩ := r
  iapply (step c (p67 ids E c hb 6 (by decide) (128 * (gc c 3).val) _ _ _ _ _ _ _ _)) $$ HD
  iintro %r HD
  obtain ⟨_, _, _, _, _, _⟩ := r
  iapply (step c (p68 ids E c hb 6 (by decide) (128 * (gc c 3).val) _ _ _ _ _ _ _ _)) $$ HD
  iintro %r HD
  obtain ⟨_, _, _, _⟩ := r
  iapply (step c (p69 ids E c hb 6 (by decide) (128 * (gc c 3).val) _ _ _ _ _ _)) $$ HD
  iintro %r HD
  obtain ⟨_, _, _, _⟩ := r
  iapply (step c (p70 ids E c hb 6 (by decide) (128 * (gc c 3).val) _ _ _ _ _ _)) $$ HD
  iintro %_ HD
  iapply (step c (p71 ids E c hb 6 (by decide) (128 * (gc c 3).val) _ _ _)) $$ HD
  iintro %_ HD
  iapply (step c (p72 ids E c hb 6 (by decide) (128 * (gc c 3).val) _ _ _)) $$ HD
  iintro %r HD
  obtain ⟨_, _⟩ := r
  iapply (step c (p73 ids E c hb 6 (by decide) (128 * (gc c 3).val) _ _ _ _)) $$ HD
  iintro %r HD
  obtain ⟨_, _⟩ := r
  iapply (step c (p74 ids E c hb 6 (by decide) (128 * (gc c 3).val) _ _ _ _)) $$ HD
  iintro %r HD
  obtain ⟨_, _, _, _, _, _⟩ := r
  iapply (step c (p75 ids E c hb 6 (by decide) (128 * (gc c 3).val) _ _ _ _ _ _ _ _)) $$ HD
  iintro %r HD
  obtain ⟨_, _, _, _, _, _⟩ := r
  iapply (step c (p76 ids E c hb 6 (by decide) (128 * (gc c 3).val) _ _ _ _ _ _ _ _)) $$ HD
  iintro %r HD
  obtain ⟨_, _, _, _⟩ := r
  iapply (step c (p77 ids E c hb 6 (by decide) (128 * (gc c 3).val) _ _ _ _ _ _)) $$ HD
  iintro %r HD
  obtain ⟨_, _, _, _⟩ := r
  iapply (step c (p78 ids sc E κ c hb iprop(emp) _ _ _ _ _ _ _)) $$ [HD]
  · iexact HD
  iintro %r ⟨⟨HK, HGs⟩, HSC, HA3, HRS, -⟩
  obtain ⟨_, _⟩ := r
  iapply (step c (p79 ids sc E κ c hb iprop(emp) _ _ _ _ _)) $$ [HK HA3 HG0 HRR]
  · isplitl [HK]; · iexact HK
    isplitr; · iexact HInv
    isplitl [HA3]; · iexact HA3
    isplitl [HG0]; · iexact HG0
    isplitl [HRR]; · iexact HRR
    iempintro
  iintro %r ⟨%hv, HK, HA3, HG0, HRR, -⟩
  obtain ⟨_, _, _⟩ := r
  iapply (step c (p80 ids sc E κ c iprop(emp) _ _ _ _ _ _ hv)) $$ [HK HTX0 HG0]
  · isplitl [HK]; · iexact HK
    isplitr; · iexact HInv
    isplitl [HTX0]; · iexact HTX0
    isplitl [HG0]; · iexact HG0
    iempintro
  iintro %r ⟨HK, HS0, HW0, -⟩
  obtain ⟨_, _, _, _, _, _⟩ := r
  iapply (step c (p81 ids sc E κ c iprop(emp) _ _ _ _ _ _ _ _)) $$ [HK HTG0 HW0]
  · isplitl [HK]; · iexact HK
    isplitr; · iexact HInv
    isplitl [HTG0]; · iexact HTG0
    isplitl [HW0]; · iexact HW0
    iempintro
  iintro %_ ⟨HK, ⟨HFS0, HFR0, HW0⟩, HW1, -⟩
  iapply (step c (p82 ids sc E κ c iprop(emp) _ _ _ _ _)) $$ [HK HTX1 HW1]
  · isplitl [HK]; · iexact HK
    isplitr; · iexact HInv
    isplitl [HTX1]; · iexact HTX1
    isplitl [HW1]; · iexact HW1
    iempintro
  iintro %r ⟨HK, HS1, HW1, -⟩
  obtain ⟨_, _, _, _, _, _⟩ := r
  iapply (step c (p83 ids sc E κ c iprop(emp) _ _ _ _ _ _ _ _)) $$ [HK HTG1 HW1]
  · isplitl [HK]; · iexact HK
    isplitr; · iexact HInv
    isplitl [HTG1]; · iexact HTG1
    isplitl [HW1]; · iexact HW1
    iempintro
  iintro %r ⟨HK, ⟨HFS1, HFR1, HW1⟩, HW2, -⟩
  obtain ⟨_, _⟩ := r
  iapply (step c (p84 ids sc E κ c iprop(emp) _ _ _ _ _ _)) $$ [HK HTX2 HW2]
  · isplitl [HK]; · iexact HK
    isplitr; · iexact HInv
    isplitl [HTX2]; · iexact HTX2
    isplitl [HW2]; · iexact HW2
    iempintro
  iintro %r ⟨HK, HS2, HW2, -⟩
  obtain ⟨_, _, _⟩ := r
  iapply (step c (p85 ids sc E κ c iprop(emp) _ _ _ _ _)) $$ [HK HTG2 HW2]
  · isplitl [HK]; · iexact HK
    isplitr; · iexact HInv
    isplitl [HTG2]; · iexact HTG2
    isplitl [HW2]; · iexact HW2
    iempintro
  iintro %_ ⟨HK, ⟨HFS2, HFR2, HW2⟩, HW3, -⟩
  iapply (step c (p86 ids sc E κ c iprop(emp) _ _ _ _)) $$ [HK HTX3 HW3 HS0 HX0 HS1]
  · isplitl [HK]; · iexact HK
    isplitr; · iexact HInv
    isplitl [HTX3]; · iexact HTX3
    isplitl [HW3]; · iexact HW3
    isplitl [HS0]; · iexact HS0
    isplitl [HX0]; · iexact HX0
    isplitl [HS1]; · iexact HS1
    iempintro
  iintro %_ ⟨HK, HS3, HW3, ⟨HZ0, HV0⟩, HX0, ⟨HZ1, HV1⟩, -⟩
  iapply (step c (p87 ids sc E κ c iprop(emp) _ _ _ _)) $$ [HK HX1 HS2 HX2 HS3]
  · isplitl [HK]; · iexact HK
    isplitr; · iexact HInv
    isplitl [HX1]; · iexact HX1
    isplitl [HS2]; · iexact HS2
    isplitl [HX2]; · iexact HX2
    isplitl [HS3]; · iexact HS3
    iempintro
  iintro %_ ⟨HK, HX1, ⟨HZ2, HV2⟩, HX2, ⟨HZ3, HV3⟩, -⟩
  iapply (step c (waitXR ids sc E κ c 13 3 (by decide) _ _ rfl _ _)) $$ [HK HX3]
  · isplitr; · iexact HInv
    isplitl [HK]; · iexact HK
    iexact HX3
  iintro %_ ⟨HK, HX3⟩
  ihave HW0 := (halves_join c (ch c 0) (tot ids sc E c)) $$ [HV0 HW0]
  · isplitl [HV0]; · iexact HV0
    iexact HW0
  ihave HW1 := (halves_join c (ch c 1) (tot ids sc E c)) $$ [HV1 HW1]
  · isplitl [HV1]; · iexact HV1
    iexact HW1
  ihave HW2 := (halves_join c (ch c 2) (tot ids sc E c)) $$ [HV2 HW2]
  · isplitl [HV2]; · iexact HV2
    iexact HW2
  ihave HW3 := (halves_join c (ch c 3) (tot ids sc E c)) $$ [HV3 HW3]
  · isplitl [HV3]; · iexact HV3
    iexact HW3
  ihave HG := (Entails.of_eq (sep4 (fun k : Fin 4 => pt c bG (cS (ch c k.val)) fullShare (tot ids sc E c))).symm) $$ [HW0 HW1 HW2 HW3]
  · isplitl [HW0]; · iexact HW0
    isplitl [HW1]; · iexact HW1
    isplitl [HW2]; · iexact HW2
    iexact HW3
  ihave HG := (joinG c (tot ids sc E c)) $$ HG
  iapply (step c (ld c aG (Rect.unit (s := S512x1024) ![0, 0] S512x1024.size inb_S512x1024_S512x1024_0_0) (View.loadsAt_vmem h_S512x1024) Finset.univ (Finset.subset_univ _) fullShare (tot ids sc E c))) $$ HG
  iintro %w ⟨%hw, HG⟩
  icases HO with ⟨%fo, HO⟩
  iapply (step c (ld c aO (Rect.unit (s := S1024x1024) (k0_off563 c) S512x1024.size (k0_off563_inb c)) (View.loadsAt_vmem h_S512x1024) (oS (xx c))
    (((View.set_slice_whole _ _).trans (mem_half (xx c) _ (k0_off563_inb c) ((show ∀ c, k0_off563 c = ![512 * xx c, 0] by decide +kernel) c))).le) fullShare fo)) $$ HO
  iintro %_ ⟨-, HO⟩
  iapply (step c (stO ids sc E c c (xx c) _ (k0_off563_inb c) ((show ∀ c, k0_off563 c = ![512 * xx c, 0] by decide +kernel) c) (half_own c) w (hw.trans (whole_read _ _)) _ _)) $$ [HO]
  · iexists fo; iexact HO
  iintro %_ HO
  iapply (ret c .rfl)
  isplitl [HK HGs]
  · isplitl [HK]; · iexact HK
    iexact HGs
  isplitl [HSC]; · iexact HSC
  isplitl [HRS]; · iexact HRS
  isplitl [HA3]; · iexact HA3
  isplitl [HRR]; · iexact HRR
  isplitl [HFS0 HFR0 HFS1 HFR1 HFS2 HFR2]
  · isplitl [HFS0 HFR0]
    · isplitl [HFS0]; · iexact HFS0
      iexact HFR0
    isplitl [HFS1 HFR1]
    · isplitl [HFS1]; · iexact HFS1
      iexact HFR1
    isplitl [HFS2]; · iexact HFS2
    iexact HFR2
  isplitl [HZ0 HZ1 HZ2 HZ3]
  · isplitl [HZ0]; · iexact HZ0
    isplitl [HZ1]; · iexact HZ1
    isplitl [HZ2]; · iexact HZ2
    iexact HZ3
  isplitl [HX0 HX1 HX2 HX3]
  · isplitl [HX0]; · iexact HX0
    isplitl [HX1]; · iexact HX1
    isplitl [HX2]; · iexact HX2
    iexact HX3
  isplitl [HG]; · iexact HG
  iexact HO

/-- The scratch buffers, whatever they hold. -/
abbrev Bufs : sProp 𝕄 := iprop((∃ f, pt (F := F) c bA Finset.univ fullShare f) ∗ (∃ f, pt (F := F) c bG Finset.univ fullShare f)
    ∗ (∃ f, pt (F := F) c bX Finset.univ fullShare f) ∗ (∃ f, pt (F := F) c bR Finset.univ fullShare f))

/-- Every cell of a device, over. -/
abbrev Fins : sProp 𝕄 := bigSep Finset.univ fun i : Fin 21 => Fin' c i

/-- What a device's tokens and credits are. -/
abbrev Toks : sProp 𝕄 := iprop((Tk (F := F) c (iRS 0) (rgt c) (iRR 0) ∗ Tk (F := F) c (iRS 1) (rgt c) (iRR 1) ∗ Tk (F := F) c (iRS 2) (rgt c) (iRR 2)) ∗ (Tk c (iAS 0) (rgt c) (iAR 0) ∗ Tk c (iAS 1) (rgt c) (iAR 1) ∗ Tk c (iAS 2) (rgt c) (iAR 2)) ∗ (Tk c (iXS 0) (xp c) (iXR 0) ∗ Tk c (iXS 1) (xp c) (iXR 1) ∗ Tk c (iXS 2) (xp c) (iXR 2) ∗ Tk c (iXS 3) (xp c) (iXR 3))
    ∗ (Rcv c (iRR 0) ∗ Rcv c (iRR 1) ∗ Rcv c (iRR 2)) ∗ (Rcv c (iAR 0) ∗ Rcv c (iAR 1) ∗ Rcv c (iAR 2)) ∗ (Rcv c (iXR 0) ∗ Rcv c (iXR 1) ∗ Rcv c (iXR 2) ∗ Rcv c (iXR 3))
    ∗ (bigSep Finset.univ fun p : Fin 3 => reached ER (cell c (iRR p)) 0) ∗ (bigSep Finset.univ fun p : Fin 3 => reached ER (cell c (iAR p)) 0)
    ∗ (bigSep Finset.univ fun k : Fin 4 => reached ER (cell c (iXR k)) 0)
    ∗ ((dutyTok ER (cell (lft c) 0) 0 0 ∗ reached ER (cell (lft c) 0) 0) ∗ (dutyTok ER (cell (rgt c) 0) 0 2 ∗ reached ER (cell (rgt c) 0) 0)
      ∗ (dutyTok ER (cell (xp c) 0) 0 1 ∗ reached ER (cell (xp c) 0) 0) ∗ atPos ER (cell c 0) 0 ∅ 0 ∗ cred (tallyAt (cell c 0) () 3)))

/-- The body, from its buffers and its share of the schedule to the finished output block. -/
abbrev bodyPre : sProp 𝕄 := iprop(Gat ids E c 0 ∗ Inv ids sc E κ ∗ pt c bS Finset.univ fullShare (sc c) ∗ (∃ f, pt (F := F) c bO Finset.univ fullShare f) ∗ Bufs c ∗ Toks c)
abbrev bodyPost : sProp 𝕄 := iprop(Gat ids E c 13 ∗ pt c bS Finset.univ fullShare (sc c) ∗ pt c bO Finset.univ fullShare (outv ids sc E c) ∗ Bufs (F := F) c ∗ Fins c)

theorem zip {I : Type} [Fintype I] [DecidableEq I] (Φ Ψ : I → sProp 𝕄) :
    iprop(bigSep Finset.univ Φ ∗ bigSep Finset.univ Ψ) ⊢ bigSep Finset.univ fun i => iprop(Φ i ∗ Ψ i) :=
  Entails.of_eq (bigSep_sep' Finset.univ Φ Ψ).symm

theorem fins_eq : Fins (F := F) c = iprop(Fin' (F := F) c 0 ∗ Fin' (F := F) c 1 ∗ Fin' (F := F) c 2 ∗ Fin' (F := F) c 3 ∗ Fin' (F := F) c 4 ∗ Fin' (F := F) c 5 ∗ Fin' (F := F) c 6 ∗ Fin' (F := F) c 7 ∗ Fin' (F := F) c 8 ∗ Fin' (F := F) c 9 ∗ Fin' (F := F) c 10 ∗ Fin' (F := F) c 11 ∗ Fin' (F := F) c 12 ∗ Fin' (F := F) c 13 ∗ Fin' (F := F) c 14 ∗ Fin' (F := F) c 15 ∗ Fin' (F := F) c 16 ∗ Fin' (F := F) c 17 ∗ Fin' (F := F) c 18 ∗ Fin' (F := F) c 19 ∗ Fin' (F := F) c 20) := by
  unfold Fins
  rw [show (Finset.univ : Finset (Fin 21)) = {0, 1, 2, 3, 4, 5, 6, 7, 8, 9, 10, 11, 12, 13, 14, 15, 16, 17, 18, 19, 20} by decide]
  iterate 20 rw [BI.bigSep_insert (by decide)]
  rw [BI.bigSep_singleton]
  rfl

theorem tail_chunks : iprop((∃ f, pt (F := F) c bG (cS (ch c (1 : Fin 4).val)) fullShare f) ∗ (∃ f, pt (F := F) c bG (cS (ch c (2 : Fin 4).val)) fullShare f)
      ∗ (∃ f, pt (F := F) c bG (cS (ch c (3 : Fin 4).val)) fullShare f))
    ⊢ (bigSep Finset.univ fun p : Fin 3 => iprop(∃ f, pt (F := F) c bG (cS (ch c (p.val + 1))) fullShare f) : sProp 𝕄) := by
  rw [sep3]
  exact .rfl

theorem some_half (h : ℕ) (f : S1024x1024.Idx → F .f32) : (pt c bO (oS h) fullShare f : sProp 𝕄) ⊢ iprop(∃ f, pt (F := F) c bO (oS h) fullShare f) := by
  iintro H; iexists f; iexact H

include hb in
theorem body_wp : bodyPre ids sc E κ c ⊢ wpc c (cc0_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11) (fun _ => bodyPost ids sc E c) := by
  rw [cc0_body_eq_skeleton]; unfold cc0_body_skel
  iintro ⟨HG, #HInv, HSC, HO, ⟨HbA, HbG, HbX, HbR⟩, ⟨TS0, TS1, TS2⟩, HTG, HTX, ⟨RR0, RR1, RR2⟩, HRG, HRX, HrR, HrG, HrX, ⟨HL1, HL2⟩, ⟨HR1, HR2⟩, ⟨HX1, HX2⟩, HP⟩
  ihave HA := (splitA c) $$ HbA
  icases HA with ⟨HA0, HA1, HA2, HA3⟩
  ihave HbG := (splitG c) $$ HbG
  ihave HbG := (Entails.of_eq (sep4 _)) $$ HbG
  icases HbG with ⟨HG0, HG1⟩
  ihave HbX := (splitX c) $$ HbX
  ihave HbR := (splitR c) $$ HbR
  ihave HDR := (zip (fun p : Fin 3 => iprop(∃ f, pt (F := F) c bR (pS p.val) fullShare f)) (fun p : Fin 3 => reached ER (cell c (iRR p)) 0)) $$ [HbR HrR]
  · isplitl [HbR]; · iexact HbR
    iexact HrR
  ihave HDG := (zip (fun p : Fin 3 => iprop(∃ f, pt (F := F) c bG (cS (ch c (p.val + 1))) fullShare f)) (fun p : Fin 3 => reached ER (cell c (iAR p)) 0)) $$ [HG1 HrG]
  · isplitl [HG1]; · iapply (tail_chunks (F := F) c) $$ HG1
    iexact HrG
  ihave HDX := (zip (fun k : Fin 4 => iprop(∃ f, pt (F := F) c bX (cS (ch c k.val)) fullShare f)) (fun k : Fin 4 => reached ER (cell c (iXR k)) 0)) $$ [HbX HrX]
  · isplitl [HbX]; · iexact HbX
    iexact HrX
  ihave HBL := (Entails.of_eq (give_lft (F := F) c).symm) $$ [HDR HDG]
  · isplitl [HDR]; · iexact HDR
    iexact HDG
  ihave HBX := (Entails.of_eq (give_xp (F := F) c).symm) $$ HDX
  ihave HBR := (Entails.of_eq (give_rgt (F := F) c).symm) $$ []
  · iempintro
  iapply (step c (p88 ids sc E κ c hb)) $$ [HG HL1 HBL HL2 HR1 HBR HR2 HX1 HBX HX2 HP HSC HA0 HA1 HA2 TS0 TS1 TS2 RR0 RR1]
  · isplitl [HG]; · iexact HG
    isplitr; · iexact HInv
    isplitl [HL1 HBL HL2 HR1 HBR HR2 HX1 HBX HX2 HP]
    · isplitl [HL1 HBL HL2]
      · isplitl [HL1]; · iexact HL1
        isplitl [HBL]; · iexact HBL
        iexact HL2
      isplitl [HR1 HBR HR2]
      · isplitl [HR1]; · iexact HR1
        isplitl [HBR]; · iexact HBR
        iexact HR2
      isplitl [HX1 HBX HX2]
      · isplitl [HX1]; · iexact HX1
        isplitl [HBX]; · iexact HBX
        iexact HX2
      iexact HP
    isplitl [HSC]; · iexact HSC
    isplitl [HA0]; · iexact HA0
    isplitl [HA1]; · iexact HA1
    isplitl [HA2]; · iexact HA2
    isplitl [TS0 TS1 TS2]
    · isplitl [TS0]; · iexact TS0
      isplitl [TS1]; · iexact TS1
      iexact TS2
    isplitl [RR0]; · iexact RR0
    iexact RR1
  iintro %r ⟨%he, HG, HSC, HF0, HDn0, HDn1, HS2, ⟨HDG0, HDG1, HDG2⟩, ⟨HDX0, HDX1, HDX2, HDX3⟩⟩
  obtain ⟨_, _, _, _, _, _, _, _⟩ := r
  dsimp only at he
  subst he
  icases HTG with ⟨HTG0, HTG1, HTG2⟩
  icases HTX with ⟨HTX0, HTX1, HTX2, HTX3⟩
  icases HRG with ⟨HRG0, HRG1, HRG2⟩
  icases HO with ⟨%fo, HO⟩
  ihave HO := (halves_split c fo).1 $$ HO
  icases HO with ⟨HO, HO'⟩
  ihave HO := (some_half c (xx c) fo) $$ HO
  iapply (step c (p89 ids sc E κ c hb _ _ _ _ _ _ _)) $$ [HG HSC HA3 HS2 RR2 HG0 HTG0 HDG0 HRG0 HTG1 HDG1 HRG1 HTG2 HDG2 HRG2 HTX0 HDX0 HTX1 HDX1 HTX2 HDX2 HTX3 HDX3 HRX HO]
  · isplitl [HG]; · iexact HG
    isplitr; · iexact HInv
    isplitl [HSC]; · iexact HSC
    isplitl [HA3]; · iexact HA3
    isplitl [HS2]; · iexact HS2
    isplitl [RR2]; · iexact RR2
    isplitl [HG0]; · iexact HG0
    isplitl [HTG0 HDG0 HRG0 HTG1 HDG1 HRG1 HTG2 HDG2 HRG2]
    · isplitl [HTG0 HDG0 HRG0]
      · isplitl [HTG0]; · iexact HTG0
        isplitl [HDG0]; · iexact HDG0
        iexact HRG0
      isplitl [HTG1 HDG1 HRG1]
      · isplitl [HTG1]; · iexact HTG1
        isplitl [HDG1]; · iexact HDG1
        iexact HRG1
      isplitl [HTG2]; · iexact HTG2
      isplitl [HDG2]; · iexact HDG2
      iexact HRG2
    isplitl [HTX0 HDX0 HTX1 HDX1 HTX2 HDX2 HTX3 HDX3]
    · isplitl [HTX0 HDX0]
      · isplitl [HTX0]; · iexact HTX0
        iexact HDX0
      isplitl [HTX1 HDX1]
      · isplitl [HTX1]; · iexact HTX1
        iexact HDX1
      isplitl [HTX2 HDX2]
      · isplitl [HTX2]; · iexact HTX2
        iexact HDX2
      isplitl [HTX3]; · iexact HTX3
      iexact HDX3
    isplitl [HRX]; · iexact HRX
    iexact HO
  iintro %_ ⟨HG, HSC, ⟨HFS2, HA2⟩, HA3, ⟨HFR2, HR2⟩, ⟨⟨GS0, GR0⟩, ⟨GS1, GR1⟩, ⟨GS2, GR2⟩⟩, ⟨XS0, XS1, XS2, XS3⟩, ⟨⟨XR0, HX0⟩, ⟨XR1, HX1⟩, ⟨XR2, HX2⟩, ⟨XR3, HX3⟩⟩, HbG, HO⟩
  icases HDn0 with ⟨FS0, FR0, HA0, HR0⟩
  icases HDn1 with ⟨FS1, FR1, HA1, HR1⟩
  ihave HbX := (Entails.of_eq (sep4 (fun k : Fin 4 => pt c bX (cS (ch c k.val)) fullShare (tot ids sc E (xp c)))).symm) $$ [HX0 HX1 HX2 HX3]
  · isplitl [HX0]; · iexact HX0
    isplitl [HX1]; · iexact HX1
    isplitl [HX2]; · iexact HX2
    iexact HX3
  ihave HbX := (joinX c (tot ids sc E (xp c))) $$ HbX
  ihave HbA := (Entails.of_eq (sep4 (fun j : Fin 4 => pt c bA (cS (gc c j.val)) fullShare (psum ids sc E j.val c))).symm) $$ [HA0 HA1 HA2 HA3]
  · isplitl [HA0]; · iexact HA0
    isplitl [HA1]; · iexact HA1
    isplitl [HA2]; · iexact HA2
    iexact HA3
  ihave HbA := (joinA c fun j : Fin 4 => psum ids sc E j.val c) $$ HbA
  ihave HbR := (Entails.of_eq (sep3 (fun p : Fin 3 => pt c bR (pS p.val) fullShare (recvd ids sc E p.val c))).symm) $$ [HR0 HR1 HR2]
  · isplitl [HR0]; · iexact HR0
    isplitl [HR1]; · iexact HR1
    iexact HR2
  ihave HbR := (joinR c fun p : Fin 3 => recvd ids sc E p.val c) $$ HbR
  iapply (step c (ld c aX (Rect.unit (s := S512x1024) ![0, 0] S512x1024.size inb_S512x1024_S512x1024_0_0) (View.loadsAt_vmem h_S512x1024) Finset.univ (Finset.subset_univ _) fullShare (tot ids sc E (xp c)))) $$ HbX
  iintro %w ⟨%hw, HbX⟩
  iapply (step c (ld c aO (Rect.unit (s := S1024x1024) (k0_off564 c) S512x1024.size (k0_off564_inb c)) (View.loadsAt_vmem h_S512x1024) (oS (1 - xx c))
    (((View.set_slice_whole _ _).trans (mem_half (1 - xx c) _ (k0_off564_inb c) ((show ∀ c, k0_off564 c = ![512 * (1 - xx c), 0] by decide +kernel) c))).le) fullShare fo)) $$ HO'
  iintro %_ ⟨-, HO'⟩
  ihave HO' := (some_half c (1 - xx c) fo) $$ HO'
  iapply (step c (stO ids sc E c (xp c) (1 - xx c) _ (k0_off564_inb c) ((show ∀ c, k0_off564 c = ![512 * (1 - xx c), 0] by decide +kernel) c) (half_other c) w (hw.trans (whole_read _ _)) _ _)) $$ HO'
  iintro %_ HO'
  ihave HO := (halves_split c (outv ids sc E c)).2 $$ [HO HO']
  · isplitl [HO]; · iexact HO
    iexact HO'
  iapply (ret c .rfl)
  isplitl [HG]; · iexact HG
  isplitl [HSC]; · iexact HSC
  isplitl [HO]; · iexact HO
  isplitl [HbA HbG HbX HbR]
  · isplitl [HbA]; · iexact HbA
    isplitl [HbG]; · iexists _; iexact HbG
    isplitl [HbX]; · iexists _; iexact HbX
    iexact HbR
  iapply (Entails.of_eq (fins_eq c).symm)
  isplitl [HF0]; · iexact HF0
  isplitl [FS0]; · iexact FS0
  isplitl [FS1]; · iexact FS1
  isplitl [HFS2]; · iexact HFS2
  isplitl [FR0]; · iexact FR0
  isplitl [FR1]; · iexact FR1
  isplitl [HFR2]; · iexact HFR2
  isplitl [GS0]; · iexact GS0
  isplitl [GS1]; · iexact GS1
  isplitl [GS2]; · iexact GS2
  isplitl [GR0]; · iexact GR0
  isplitl [GR1]; · iexact GR1
  isplitl [GR2]; · iexact GR2
  isplitl [XS0]; · iexact XS0
  isplitl [XS1]; · iexact XS1
  isplitl [XS2]; · iexact XS2
  isplitl [XS3]; · iexact XS3
  isplitl [XR0]; · iexact XR0
  isplitl [XR1]; · iexact XR1
  isplitl [XR2]; · iexact XR2
  iexact XR3

end Cert.KernelIdeal.Pf

end
-- ==== Proof.Point.lean ====
/-
The launched region's proof data: what its windows hold, what the kernel starts from and leaves, and its one point.
-/
module

public import proofs.«01_k».proof.Proof.Body2
public import proofs.«01_k».proof.Proof.Gen.KernelIdeal.Points
public import proofs.«01_k».proof.Proof.Gen.KernelIdeal.Launch
public import Idealize.ShloMosaic.Lib.Pipeline.RegionTalk

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! `V c` is what device `c`'s buffers hold when the kernel starts. -/

variable (V : Dev nD → Valuation τ sig (Elt F))

/-! ## What the host leaves for the kernel -/

/-- The device's ids, brought into the range of its rows. -/
abbrev idsOf (c : Dev nD) : S512.Idx → BitVec 32 := V c main_v22
/-- One where the device holds the id's row, zero elsewhere. -/
abbrev scOf (c : Dev nD) : S512x1.Idx → F .f32 := V c main_v24
/-- The device's rows of the table. -/
abbrev EOf (c : Dev nD) : S8192x1024.Idx → F .f32 := V c main_arg1
/-- What the kernel writes. -/
abbrev outOf (c : Dev nD) : S1024x1024.Idx → F .f32 := outv (idsOf V) (scOf V) (EOf V) c

/-! ## The region's invariant before and after its point -/

/-- The device's own buffers, its table rows and its counters. -/
abbrev Mine (c : Dev nD) : sProp 𝕄 :=
  iprop(Sems0 c ∗ (∃ f, pt (F := F) c bF Finset.univ fullShare f) ∗ pt c bE Finset.univ fullShare (EOf V c) ∗ Bufs c ∗ ∃ r, prngReg c r)
abbrev Ready (c : Dev nD) : sProp 𝕄 :=
  iprop((∃ κ, Inv (idsOf V) (scOf V) (EOf V) κ) ∗ levAts L lv ∗ Toks c ∗ Mine V c)
abbrev Over (c : Dev nD) : sProp 𝕄 :=
  iprop((bigSep Finset.univ fun i : Fin 21 => semVal (cell c i) 0) ∗ Mine V c)

def dat (c : Dev nD) : Dat τ (Elt F) Unit ℕ UU ℕ cfg0 c where
  A w := match w with
    | ⟨0, _⟩ => V c main_v22
    | ⟨1, _⟩ => V c main_v24
    | ⟨2, _⟩ => V c main_v25
  after w _ := match w with
    | ⟨0, _⟩ => idsOf V c
    | ⟨1, _⟩ => scOf V c
    | ⟨2, _⟩ => outOf V c
  Φ t := if t.val = 0 then Ready V c else Over V c
  q _ := fullShare
  owed t := if t.val = 0 then left c 0 else 0

def pdats : (p : Fin 1) → (c : Dev nD) → Dat τ (Elt F) Unit ℕ UU ℕ (Pipeline.pin (pcfgs (F := F)) adm p) c
  | 0 => dat V

theorem owed_first (c : Dev nD) : (dat (F := F) V c).owed t0_0.castSucc = left c 0 := by
  show (if (t0_0.castSucc : Fin (cfg0.N + 1)).val = 0 then left c 0 else 0) = left c 0; exact if_pos rfl
theorem owed_last (c : Dev nD) : (dat (F := F) V c).owed t0_0.succ = 0 := by
  show (if (t0_0.succ : Fin (cfg0.N + 1)).val = 0 then left c 0 else 0) = 0; exact if_neg (Nat.succ_ne_zero _)
theorem inv_first (c : Dev nD) : (dat (F := F) V c).Φ t0_0.castSucc = Ready V c := by
  show (if (t0_0.castSucc : Fin (cfg0.N + 1)).val = 0 then Ready V c else Over V c) = _; exact if_pos rfl
theorem inv_last (c : Dev nD) : (dat (F := F) V c).Φ t0_0.succ = Over V c := by
  show (if (t0_0.succ : Fin (cfg0.N + 1)).val = 0 then Ready V c else Over V c) = _; exact if_neg (Nat.succ_ne_zero _)

theorem owes_in (c : Dev nD) : ((dat V c).owesAt () t0_0.castSucc : sProp 𝕄) ⊢ iprop(∃ W, owes (c : Thread nD τ) (left c 0) W) := by
  unfold Dat.owesAt Pipeline.owesWithin; rw [owed_first]
  iintro ⟨%W, -, HO⟩; iexists W; iexact HO
theorem owes_out (c : Dev nD) : (iprop(∃ W, owes (c : Thread nD τ) (left c 13) W) : sProp 𝕄) ⊢ (dat V c).owesAt () t0_0.succ := by
  unfold Dat.owesAt Pipeline.owesWithin Dat.bound; rw [owed_last]
  iintro ⟨%W, HO⟩; iexists W; isplitr; · ipureintro; exact fun _ _ => Or.inl trivial
  iexact HO

/-! ## The point -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A window's block is its whole array. -/
theorem rect0 (y) : (win0_0.rect t0_0).emb y = y := funext fun a => Fin.ext (win0_0.rect_emb_val_of_index_zero t0_0 a (by revert a; decide) y)
theorem rect1 (y) : (win0_1.rect t0_0).emb y = y := funext fun a => Fin.ext (win0_1.rect_emb_val_of_index_zero t0_0 a (by revert a; decide) y)
theorem rect2 (y) : (win0_2.rect t0_0).emb y = y := funext fun a => Fin.ext (win0_2.rect_emb_val_of_index_zero t0_0 a (by revert a; decide) y)

theorem before0 (c : Dev nD) (d) : (dat V c).before 0 t0_0 d = idsOf V c := by
  unfold Dat.before; rw [if_pos (by decide)]
  exact funext fun y => congrArg (idsOf V c) (rect0 y)
theorem before1 (c : Dev nD) (d) : (dat V c).before 1 t0_0 d = scOf V c := by
  unfold Dat.before; rw [if_pos (by decide)]
  exact funext fun y => congrArg (scOf V c) (rect1 y)

/-- The region leaves the kernel's result in the output array. -/
theorem final_out (c : Dev nD) : (dat V c).arrAt 2 cfg0.N = outOf V c :=
  (dat V c).arrAt_eq_of_cover 2 (outOf V c)
    (fun t _ => by obtain rfl := fin_N0 t; exact funext fun y => (congrArg (outOf V c) (rect2 y)).symm)
    fun i => ⟨t0_0, by decide, by
      show i ∈ ((View.whole main_v25).slice (win0_2.rect t0_0)).set
      rw [View.set_slice_whole, Rect.mem_set_unit]
      intro a
      have h0 : (i 0 : Nat) < 1024 := (i 0).isLt
      have h1 : (i 1 : Nat) < 1024 := (i 1).isLt
      fin_cases a
      · exact ⟨Nat.zero_le _, h0⟩
      · exact ⟨Nat.zero_le _, h1⟩⟩

/-- Every cell of the device, over, gives its counter back at zero. -/
theorem close_all (ids sc E) (κ : GSem nD τ sig → ℕ) (c : Dev nD) :
    iprop(Inv ids sc E κ ∗ Fins (F := F) c) ⊢ (|={Set.univ}=> bigSep Finset.univ fun i : Fin 21 => semVal (cell c i) 0 : sProp 𝕄) := by
  refine (bigSep_with_persistent (R := Inv ids sc E κ) (Φ := fun i : Fin 21 => Fin' (F := F) c i)
    (Ψ := fun i : Fin 21 => iprop(|={Set.univ}=> semVal (cell c i) 0)) fun i _ => ?_).trans (bigSep_fupd _ _)
  iintro ⟨#H, Hf⟩
  ihave HI := (inv_at ids sc E κ c i) $$ H
  iapply (Rounds.cell_close ER (rd ids sc E) (Set.mem_univ (κ (cell c i))) id (duties_later ids sc E (cell c i)))
  isplitl [HI]; · iexact HI
  iexact Hf

/-- What the kernel needs, of what the region hands it. -/
theorem body_in (κ : GSem nD τ sig → ℕ) (c : Dev nD) :
    iprop(Inv (idsOf V) (scOf V) (EOf V) κ ∗ levAts L lv ∗ Toks c ∗ (Sems0 c ∗ (∃ f, pt (F := F) c bF Finset.univ fullShare f) ∗ pt c bE Finset.univ fullShare (EOf V c) ∗ Bufs c)
      ∗ (∃ W, owes (c : Thread nD τ) (left c 0) W) ∗ pt c bI Finset.univ fullShare (idsOf V c) ∗ pt c bS Finset.univ fullShare (scOf V c) ∗ ∃ f, pt (F := F) c bO Finset.univ fullShare f)
    ⊢ bodyPre (idsOf V) (scOf V) (EOf V) κ c := by
  iintro ⟨HI, HL, HT, ⟨HS, HF, HE, HB⟩, HO, Hi, Hs, Ho⟩
  isplitl [HL Hi HO HS HF HE]
  · isplitl [HL Hi HO]
    · isplitl [HL]; · iexact HL
      isplitl [Hi]; · iexact Hi
      iexact HO
    isplitl [HS]; · iexact HS
    isplitl [HF]; · iexact HF
    iexact HE
  isplitl [HI]; · iexact HI
  isplitl [Hs]; · iexact Hs
  isplitl [Ho]; · iexact Ho
  isplitl [HB]; · iexact HB
  iexact HT

/-- The kernel's run, its counters back at zero. -/
theorem point_wp (hb : Small (idsOf V)) (c : Dev nD) :
    iprop(Ready V c ∗ (∃ W, owes (c : Thread nD τ) (left c 0) W) ∗ pt c bI Finset.univ fullShare (idsOf V c) ∗ pt c bS Finset.univ fullShare (scOf V c) ∗ ∃ f, pt (F := F) c bO Finset.univ fullShare f)
    ⊢ wpc c (cc0_body aI (Memref.isWhole_whole _) aS (Memref.isWhole_whole _) aE (Memref.isWhole_whole _) aO (Memref.isWhole_whole _) aF (Memref.isWhole_whole _) aA (Memref.isWhole_whole _) aG (Memref.isWhole_whole _) aX (Memref.isWhole_whole _) aR (Memref.isWhole_whole _) cc0_scratch5 cc0_scratch6 cc0_scratch7 cc0_scratch8 cc0_scratch9 cc0_scratch10 cc0_scratch11)
      (fun _ => iprop(Over V c ∗ (∃ W, owes (c : Thread nD τ) (left c 13) W) ∗ pt c bI Finset.univ fullShare (idsOf V c) ∗ pt c bS Finset.univ fullShare (scOf V c) ∗ pt c bO Finset.univ fullShare (outOf V c))) := by
  iintro ⟨⟨⟨%κ, #HI⟩, HL, HT, HS, HF, HE, HB, Hp⟩, HO, H0, H1, H2⟩
  ihave HP := (body_in V κ c) $$ [HL HT HS HF HE HB HO H0 H1 H2]
  · isplitr; · iexact HI
    isplitl [HL]; · iexact HL
    isplitl [HT]; · iexact HT
    isplitl [HS HF HE HB]
    · isplitl [HS]; · iexact HS
      isplitl [HF]; · iexact HF
      isplitl [HE]; · iexact HE
      iexact HB
    isplitl [HO]; · iexact HO
    isplitl [H0]; · iexact H0
    isplitl [H1]; · iexact H1
    iexact H2
  iapply (wp_fupd _ _ _ _)
  iapply ((body_wp (idsOf V) (scOf V) (EOf V) κ c hb).trans (wp_wand _ _ _)) $$ HP
  iintro %_ ⟨⟨⟨-, Hi, HO⟩, HS, HF, HE⟩, Hs, Ho, HB, HN⟩
  imod (close_all (idsOf V) (scOf V) (EOf V) κ c) $$ [HN] with HZ
  · isplitr; · iexact HI
    iexact HN
  imodintro
  isplitl [HZ HS HF HE HB Hp]
  · isplitl [HZ]; · iexact HZ
    isplitl [HS]; · iexact HS
    isplitl [HF]; · iexact HF
    isplitl [HE]; · iexact HE
    isplitl [HB]; · iexact HB
    iexact Hp
  isplitl [HO]; · iexact HO
  isplitl [Hi]; · iexact Hi
  isplitl [Hs]; · iexact Hs
  iexact Ho

theorem body_obligation (hb : Small (idsOf V)) (c : Dev nD) : BodyObligation (dat V c) (defs₀ (F := F)) 𝒱₀ () Set.univ := fun t => by
  obtain rfl := fin_N0 t
  rw [bigSep_W0, bigSep_W0]
  simp only [owns_whole_eq]
  rw [inv_first, inv_last]
  refine BIBase.Entails.trans ?_ ((point_wp V hb c).trans (wp_mono _ _ _ fun _ => ?_))
  · iintro ⟨HR, HO, ⟨%d0, %f0, %hf0, H0⟩, ⟨%d1, %f1, %hf1, H1⟩, ⟨%d2, %f2, -, H2⟩⟩
    rw [before0] at hf0
    rw [before1] at hf1
    subst hf0
    subst hf1
    isplitl [HR]; · iexact HR
    isplitl [HO]; · iapply (owes_in V c); iexact HO
    isplitl [H0]; · iexact H0
    isplitl [H1]; · iexact H1
    iexists _; iexact H2
  · iintro ⟨HR, HO, Hi, Hs, Ho⟩
    isplitl [HR]; · iexact HR
    isplitl [HO]; · iapply (owes_out V c); iexact HO
    isplitl [Hi]
    · iexists _; isplitr; swap; (· iexact Hi); ipureintro; rfl
    isplitl [Hs]
    · iexists _; isplitr; swap; (· iexact Hs); ipureintro; rfl
    iexists _; isplitr; swap; (· iexact Ho); ipureintro; rfl

end Cert.KernelIdeal.Pf

end
-- ==== Proof.Deal.lean ====
/-
What the launch deals each device: the cells' invariants, the tokens of what it pays, the credits of what it waits for.
-/
module

public import proofs.«01_k».proof.Proof.Point

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ids : Dev nD → S512.Idx → BitVec 32) (sc : Dev nD → S512x1.Idx → F .f32)
  (E : Dev nD → S8192x1024.Idx → F .f32)

/-! ## The payments -/

def ringE : Dev nD ≃ Dev nD := ⟨rgt, lft, lft_rgt, rgt_lft⟩
def pairE : Dev nD ≃ Dev nD := ⟨xp, xp, xp_xp, xp_xp⟩

/-- The device's payments: to which device, at which of its cells, as which duty. The first thirteen, those to other
    devices, are in the order of `dues`; the last ten are its own sends. -/
def who : Fin 23 → Dev nD ≃ Dev nD :=
  ![ringE.symm, ringE, pairE, ringE, ringE, ringE, pairE, ringE, pairE, ringE, pairE, ringE, pairE,
    Equiv.refl _, Equiv.refl _, Equiv.refl _, Equiv.refl _, Equiv.refl _, Equiv.refl _, Equiv.refl _, Equiv.refl _, Equiv.refl _, Equiv.refl _]
def whr : Fin 23 → Fin 21 := ![0, 0, 0, 4, 5, 6, 17, 10, 18, 11, 19, 12, 20, 1, 2, 3, 7, 8, 9, 13, 14, 15, 16]
def dut : Fin 23 → Fin 3 := ![0, 2, 1, 0, 0, 0, 0, 0, 0, 0, 0, 0, 0, 0, 0, 0, 0, 0, 0, 0, 0, 0, 0]

theorem pay_inj : Function.Injective fun k : Fin 23 => (whr k, dut k) := by decide

/-- The units a payment to another device comes to. -/
def units (k : Fin 13) : ℕ := if k.val < 3 then 1 else NC

theorem dues_eq (c : Dev nD) : dues c = List.ofFn fun k : Fin 13 => (cell (who (k.castLE (by decide)) c) (whr (k.castLE (by decide))), units k) := rfl

/-! ## The credits -/

theorem owed_sum (l : List (GSem nD τ sig × ℕ)) (g : GSem nD τ sig) : owed l g () = (l.map fun p => if p.1 = g then p.2 else 0).sum := by
  induction l with
  | nil => rfl
  | cons p l ih =>
    rw [List.map_cons, List.sum_cons, ← ih, add_comm]
    show owed l g () + tallyAt p.1 () p.2 g () = _
    rw [tallyAt_apply]
    congr 1
    by_cases h : p.1 = g
    · rw [if_pos h, if_pos ⟨h.symm, rfl⟩]
    · rw [if_neg h, if_neg fun e => h e.1.symm]

theorem left_sum (d : Dev nD) (g : GSem nD τ sig) :
    left d 0 g () = ∑ k : Fin 13, if cell (who (k.castLE (by decide)) d) (whr (k.castLE (by decide))) = g then units k else 0 := by
  rw [left, List.drop_zero, owed_sum, dues_eq, List.map_ofFn, List.sum_ofFn]
  rfl

/-- The units all the devices owe a cell. -/
def expd (i : Fin 21) : ℕ := ∑ k : Fin 13, if whr (k.castLE (by decide)) = i then units k else 0

theorem all_owe (c : Dev nD) (i : Fin 21) : ∑ d : Dev nD, left d 0 (cell c i) () = expd i := by
  simp only [left_sum]
  rw [Finset.sum_comm]
  refine Finset.sum_congr rfl fun k _ => ?_
  rw [Fintype.sum_equiv (who (k.castLE (by decide))) _ (fun d => if cell d (whr (k.castLE (by decide))) = cell c i then units k else 0) fun _ => rfl]
  rw [Fintype.sum_eq_single c fun d hd => if_neg fun h => hd (cell_inj h).1]
  refine if_congr ⟨fun h => (cell_inj h).2, fun h => by rw [h]⟩ rfl rfl

theorem launch_at (c : Dev nD) (i : Fin 21) :
    tallyOn (cell c i) (launchCredit (Pipeline.owing fun d => left d 0) 0 (cell c i)) = (tallyAt (cell c i) () (expd i) : CellTallies nD τ sig Unit) := by
  unfold tallyAt; refine congrArg _ (Finsupp.ext fun u => ?_); cases u
  rw [Pipeline.launchCredit_owing, Finsupp.single_eq_same, all_owe]

theorem smOf_inj : Function.Injective smOf := by decide +kernel

/-- The credits at a device's cells. -/
abbrev Crd (c : Dev nD) : sProp 𝕄 := bigSep Finset.univ fun i : Fin 21 => cred (tallyAt (cell c i) () (expd i))

theorem creds (c : Dev nD) : (Pipeline.launchCred (fun d => left d 0) c : sProp 𝕄) ⊢ Crd c := by
  unfold Pipeline.launchCred
  refine (bigSep_subset (Finset.subset_univ (Finset.univ.map ⟨smOf, smOf_inj⟩))).trans ?_
  rw [BI.bigSep_map]
  exact bigSep_mono fun i _ => Entails.of_eq (congrArg cred (launch_at c i))

/-! ## The cells -/

theorem sep_succ (Φ : Fin 21 → sProp 𝕄) : bigSep Finset.univ Φ = iprop(Φ 0 ∗ bigSep Finset.univ fun i : Fin 20 => Φ i.succ) := by
  rw [Fin.univ_succ, Finset.cons_eq_insert, BI.bigSep_insert (by simp), BI.bigSep_map]
  rfl

def barEmb : Dev nD ↪ GSem nD τ sig := ⟨fun c => cell c 0, fun _ _ h => (cell_inj h).1⟩
def dmaEmb : Dev nD × Fin 20 ↪ GSem nD τ sig :=
  ⟨fun p => cell p.1 p.2.succ, fun _ _ h => Prod.ext (cell_inj h).1 (Fin.succ_injective _ (cell_inj h).2)⟩
abbrev barCells : Finset (GSem nD τ sig) := Finset.univ.map barEmb
abbrev dmaCells : Finset (GSem nD τ sig) := Finset.univ.map dmaEmb
def payEmb : Dev nD × Fin 23 ↪ GSem nD τ sig × ℕ × Fin 3 :=
  ⟨fun p => (cell p.1 (whr p.2), 0, dut p.2), fun a b h => by
    have h1 := cell_inj (congrArg Prod.fst h)
    exact Prod.ext h1.1 (pay_inj (Prod.ext h1.2 (congrArg (fun t : GSem nD τ sig × ℕ × Fin 3 => t.2.2) h)))⟩
abbrev payToks : Finset (GSem nD τ sig × ℕ × Fin 3) := Finset.univ.map payEmb

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact Fin.succ_ne_zero p.2 (cell_inj h).2

theorem bar_eq (Φ : GSem nD τ sig → sProp 𝕄) : bigSep barCells Φ = bigSep Finset.univ fun c : Dev nD => Φ (cell c 0) := BI.bigSep_map _
theorem dma_eq (Φ : GSem nD τ sig → sProp 𝕄) :
    bigSep dmaCells Φ = bigSep Finset.univ fun c : Dev nD => bigSep Finset.univ fun i : Fin 20 => Φ (cell c i.succ) :=
  (BI.bigSep_map _).trans (bigSep_univ_prod _)
theorem all_eq (Φ : GSem nD τ sig → sProp 𝕄) :
    bigSep (barCells ∪ dmaCells) Φ = bigSep Finset.univ fun p : Dev nD × Fin 21 => Φ (cell p.1 p.2) := by
  rw [BI.bigSep_union disjoint_cells, bar_eq, dma_eq, bigSep_univ_prod]
  simp only [sep_succ]
  exact (bigSep_sep' _ _ _).symm

/-- The tokens of the device's payments. -/
abbrev Pays (c : Dev nD) : sProp 𝕄 := bigSep Finset.univ fun k : Fin 23 => dutyTok ER (cell (who k c) (whr k)) 0 (dut k)

/-- Each token, from the device it is a payment to, to the one that pays. -/
theorem pays_eq : (bigSep payToks fun x => dutyTok ER x.1 x.2.1 x.2.2 : sProp 𝕄) = bigSep Finset.univ fun c : Dev nD => Pays c := by
  rw [BI.bigSep_map, bigSep_univ_prod, bigSep_univ_comm, bigSep_univ_comm (fun (c : Dev nD) (k : Fin 23) => (dutyTok ER (cell (who k c) (whr k)) 0 (dut k) : sProp 𝕄))]
  exact bigSep_congr fun k _ => bigSep_univ_equiv (who k) fun c : Dev nD => (dutyTok ER (cell c (whr k)) 0 (dut k) : sProp 𝕄)

/-! ## A device's share -/

/-- The barriers' rounds, open to all. -/
abbrev Bars : sProp 𝕄 := bigSep Finset.univ fun d : Dev nD => reached ER (cell d 0) 0

/-- What a device alone holds from the launch. -/
abbrev Lin (c : Dev nD) : sProp 𝕄 :=
  iprop(atPos ER (cell c 0) 0 ∅ 0 ∗ (bigSep Finset.univ fun i : Fin 20 => openTok ER (cell c i.succ)) ∗ Pays c ∗ Crd c)

abbrev Kept (c : Dev nD) : sProp 𝕄 := iprop((∃ κ, Inv ids sc E κ) ∗ Bars ∗ Lin c)

theorem sep20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide]
  iterate 19 rw [BI.bigSep_insert (by decide)]
  rw [BI.bigSep_singleton]
  rfl

theorem sep21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) := by
  rw [show (Finset.univ : Finset (Fin 21)) = {0, 1, 2, 3, 4, 5, 6, 7, 8, 9, 10, 11, 12, 13, 14, 15, 16, 17, 18, 19, 20} by decide]
  iterate 20 rw [BI.bigSep_insert (by decide)]
  rw [BI.bigSep_singleton]
  rfl

theorem sep23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) := by
  rw [show (Finset.univ : Finset (Fin 23)) = {0, 1, 2, 3, 4, 5, 6, 7, 8, 9, 10, 11, 12, 13, 14, 15, 16, 17, 18, 19, 20, 21, 22} by decide]
  iterate 22 rw [BI.bigSep_insert (by decide)]
  rw [BI.bigSep_singleton]
  rfl

/-- The copies' cells opened. -/
theorem open_all (κ : GSem nD τ sig → ℕ) (c : Dev nD) :
    iprop(Inv ids sc E κ ∗ bigSep Finset.univ fun i : Fin 20 => iprop(openTok ER (cell c i.succ) ∗ semVal (cell c i.succ) 0))
      ⊢ (|={Set.univ}=> bigSep Finset.univ fun i : Fin 20 => iprop(atPos ER (cell c i.succ) 0 ∅ 0 ∗ reached ER (cell c i.succ) 0) : sProp 𝕄) := by
  refine (bigSep_with_persistent (R := Inv ids sc E κ) (Φ := fun i : Fin 20 => iprop(openTok ER (cell c i.succ) ∗ semVal (cell c i.succ) 0))
    (Ψ := fun i : Fin 20 => iprop(|={Set.univ}=> (atPos ER (cell c i.succ) 0 ∅ 0 ∗ reached ER (cell c i.succ) 0))) fun i _ => ?_).trans (bigSep_fupd _ _)
  iintro ⟨#H, Ho, Hv⟩
  ihave HI := (inv_at ids sc E κ c i.succ) $$ H
  iapply (Rounds.cell_open ER (rd ids sc E) (Set.mem_univ (κ (cell c i.succ))))
  isplitl [HI]; · iexact HI
  isplitl [Ho]; · iexact Ho
  iexact Hv

theorem expd_bar : expd 0 = 3 := rfl
/-- A receiving cell expects one chunk. -/
theorem expd_recv (i : Fin 21) (h : i ∈ ({4, 5, 6, 10, 11, 12, 17, 18, 19, 20} : Finset (Fin 21))) : expd i = NC := by
  simp only [Finset.mem_insert, Finset.mem_singleton] at h
  unfold expd units
  generalize NC = N
  rcases h with rfl | rfl | rfl | rfl | rfl | rfl | rfl | rfl | rfl | rfl <;> (rw [Fin.sum_univ_castSucc]; simp [Fin.sum_univ_succ, whr])

theorem crd_recv (c : Dev nD) (i : Fin 21) (h : i ∈ ({4, 5, 6, 10, 11, 12, 17, 18, 19, 20} : Finset (Fin 21))) :
    (cred (tallyAt (cell c i) () (expd i)) : sProp 𝕄) ⊢ cred (tallyAt (cell c i) () NC) :=
  Entails.of_eq (by rw [expd_recv i h])

/-- The device's tokens, credits and rounds, as the kernel's steps take them. -/
theorem toks_intro (c : Dev nD) :
    iprop(Bars ∗ atPos ER (cell c 0) 0 ∅ 0 ∗ Pays c ∗ Crd c ∗ bigSep Finset.univ fun i : Fin 20 => iprop(atPos ER (cell c i.succ) 0 ∅ 0 ∗ reached ER (cell c i.succ) 0))
      ⊢ (Toks c : sProp 𝕄) := by
  have hb (d : Dev nD) : (Bars : sProp 𝕄) ⊢ reached ER (cell d 0) 0 := bigSep_elim (Φ := fun d : Dev nD => (reached ER (cell d 0) 0 : sProp 𝕄)) (Finset.mem_univ d)
  have hp : (Pays c : sProp 𝕄) ⊢ iprop(dutyTok ER (cell (lft c) 0) 0 0 ∗ dutyTok ER (cell (rgt c) 0) 0 2 ∗ dutyTok ER (cell (xp c) 0) 0 1 ∗ dutyTok ER (cell (rgt c) 4) 0 0 ∗ dutyTok ER (cell (rgt c) 5) 0 0 ∗ dutyTok ER (cell (rgt c) 6) 0 0 ∗ dutyTok ER (cell (xp c) 17) 0 0 ∗ dutyTok ER (cell (rgt c) 10) 0 0 ∗ dutyTok ER (cell (xp c) 18) 0 0 ∗ dutyTok ER (cell (rgt c) 11) 0 0 ∗ dutyTok ER (cell (xp c) 19) 0 0 ∗ dutyTok ER (cell (rgt c) 12) 0 0 ∗ dutyTok ER (cell (xp c) 20) 0 0 ∗ dutyTok ER (cell (c) 1) 0 0 ∗ dutyTok ER (cell (c) 2) 0 0 ∗ dutyTok ER (cell (c) 3) 0 0 ∗ dutyTok ER (cell (c) 7) 0 0 ∗ dutyTok ER (cell (c) 8) 0 0 ∗ dutyTok ER (cell (c) 9) 0 0 ∗ dutyTok ER (cell (c) 13) 0 0 ∗ dutyTok ER (cell (c) 14) 0 0 ∗ dutyTok ER (cell (c) 15) 0 0 ∗ dutyTok ER (cell (c) 16) 0 0) := by
    unfold Pays; rw [sep23]; exact .rfl
  have hc : (Crd c : sProp 𝕄) ⊢ iprop(cred (tallyAt (cell c 0) () (expd 0)) ∗ cred (tallyAt (cell c 1) () (expd 1)) ∗ cred (tallyAt (cell c 2) () (expd 2)) ∗ cred (tallyAt (cell c 3) () (expd 3)) ∗ cred (tallyAt (cell c 4) () (expd 4)) ∗ cred (tallyAt (cell c 5) () (expd 5)) ∗ cred (tallyAt (cell c 6) () (expd 6)) ∗ cred (tallyAt (cell c 7) () (expd 7)) ∗ cred (tallyAt (cell c 8) () (expd 8)) ∗ cred (tallyAt (cell c 9) () (expd 9)) ∗ cred (tallyAt (cell c 10) () (expd 10)) ∗ cred (tallyAt (cell c 11) () (expd 11)) ∗ cred (tallyAt (cell c 12) () (expd 12)) ∗ cred (tallyAt (cell c 13) () (expd 13)) ∗ cred (tallyAt (cell c 14) () (expd 14)) ∗ cred (tallyAt (cell c 15) () (expd 15)) ∗ cred (tallyAt (cell c 16) () (expd 16)) ∗ cred (tallyAt (cell c 17) () (expd 17)) ∗ cred (tallyAt (cell c 18) () (expd 18)) ∗ cred (tallyAt (cell c 19) () (expd 19)) ∗ cred (tallyAt (cell c 20) () (expd 20))) := by
    unfold Crd; rw [sep21]
  have ho : (bigSep Finset.univ fun i : Fin 20 => iprop(atPos ER (cell c i.succ) 0 ∅ 0 ∗ reached ER (cell c i.succ) 0) : sProp 𝕄) ⊢ iprop((atPos ER (cell c 1) 0 ∅ 0 ∗ reached ER (cell c 1) 0) ∗ (atPos ER (cell c 2) 0 ∅ 0 ∗ reached ER (cell c 2) 0) ∗ (atPos ER (cell c 3) 0 ∅ 0 ∗ reached ER (cell c 3) 0) ∗ (atPos ER (cell c 4) 0 ∅ 0 ∗ reached ER (cell c 4) 0) ∗ (atPos ER (cell c 5) 0 ∅ 0 ∗ reached ER (cell c 5) 0) ∗ (atPos ER (cell c 6) 0 ∅ 0 ∗ reached ER (cell c 6) 0) ∗ (atPos ER (cell c 7) 0 ∅ 0 ∗ reached ER (cell c 7) 0) ∗ (atPos ER (cell c 8) 0 ∅ 0 ∗ reached ER (cell c 8) 0) ∗ (atPos ER (cell c 9) 0 ∅ 0 ∗ reached ER (cell c 9) 0) ∗ (atPos ER (cell c 10) 0 ∅ 0 ∗ reached ER (cell c 10) 0) ∗ (atPos ER (cell c 11) 0 ∅ 0 ∗ reached ER (cell c 11) 0) ∗ (atPos ER (cell c 12) 0 ∅ 0 ∗ reached ER (cell c 12) 0) ∗ (atPos ER (cell c 13) 0 ∅ 0 ∗ reached ER (cell c 13) 0) ∗ (atPos ER (cell c 14) 0 ∅ 0 ∗ reached ER (cell c 14) 0) ∗ (atPos ER (cell c 15) 0 ∅ 0 ∗ reached ER (cell c 15) 0) ∗ (atPos ER (cell c 16) 0 ∅ 0 ∗ reached ER (cell c 16) 0) ∗ (atPos ER (cell c 17) 0 ∅ 0 ∗ reached ER (cell c 17) 0) ∗ (atPos ER (cell c 18) 0 ∅ 0 ∗ reached ER (cell c 18) 0) ∗ (atPos ER (cell c 19) 0 ∅ 0 ∗ reached ER (cell c 19) 0) ∗ (atPos ER (cell c 20) 0 ∅ 0 ∗ reached ER (cell c 20) 0)) := by
    rw [sep20]; exact .rfl
  iintro ⟨#HB, Ha0, HP, HC, HO⟩
  ihave HP := hp $$ HP
  icases HP with ⟨P0, P1, P2, P3, P4, P5, P6, P7, P8, P9, P10, P11, P12, P13, P14, P15, P16, P17, P18, P19, P20, P21, P22⟩
  ihave HC := hc $$ HC
  icases HC with ⟨C0, -, -, -, C4, C5, C6, -, -, -, C10, C11, C12, -, -, -, -, C17, C18, C19, C20⟩
  ihave HO := ho $$ HO
  icases HO with ⟨⟨A1, #R1⟩, ⟨A2, #R2⟩, ⟨A3, #R3⟩, ⟨A4, #R4⟩, ⟨A5, #R5⟩, ⟨A6, #R6⟩, ⟨A7, #R7⟩, ⟨A8, #R8⟩, ⟨A9, #R9⟩, ⟨A10, #R10⟩, ⟨A11, #R11⟩, ⟨A12, #R12⟩, ⟨A13, #R13⟩, ⟨A14, #R14⟩, ⟨A15, #R15⟩, ⟨A16, #R16⟩, ⟨A17, #R17⟩, ⟨A18, #R18⟩, ⟨A19, #R19⟩, ⟨A20, #R20⟩⟩
  isplitl [P13 P3 A1 P14 P4 A2 P15 P5 A3]
  · isplitl [P13 P3 A1]
    · isplitl [P13]; · iexact P13
      isplitl [P3]; · iexact P3
      isplitl [A1]; · iexact A1
      iexact R1
    isplitl [P14 P4 A2]
    · isplitl [P14]; · iexact P14
      isplitl [P4]; · iexact P4
      isplitl [A2]; · iexact A2
      iexact R2
    isplitl [P15]; · iexact P15
    isplitl [P5]; · iexact P5
    isplitl [A3]; · iexact A3
    iexact R3
  isplitl [P16 P7 A7 P17 P9 A8 P18 P11 A9]
  · isplitl [P16 P7 A7]
    · isplitl [P16]; · iexact P16
      isplitl [P7]; · iexact P7
      isplitl [A7]; · iexact A7
      iexact R7
    isplitl [P17 P9 A8]
    · isplitl [P17]; · iexact P17
      isplitl [P9]; · iexact P9
      isplitl [A8]; · iexact A8
      iexact R8
    isplitl [P18]; · iexact P18
    isplitl [P11]; · iexact P11
    isplitl [A9]; · iexact A9
    iexact R9
  isplitl [P19 P6 A13 P20 P8 A14 P21 P10 A15 P22 P12 A16]
  · isplitl [P19 P6 A13]
    · isplitl [P19]; · iexact P19
      isplitl [P6]; · iexact P6
      isplitl [A13]; · iexact A13
      iexact R13
    isplitl [P20 P8 A14]
    · isplitl [P20]; · iexact P20
      isplitl [P8]; · iexact P8
      isplitl [A14]; · iexact A14
      iexact R14
    isplitl [P21 P10 A15]
    · isplitl [P21]; · iexact P21
      isplitl [P10]; · iexact P10
      isplitl [A15]; · iexact A15
      iexact R15
    isplitl [P22]; · iexact P22
    isplitl [P12]; · iexact P12
    isplitl [A16]; · iexact A16
    iexact R16
  isplitl [A4 C4 A5 C5 A6 C6]
  · isplitl [A4 C4]
    · isplitl [A4]; · iexact A4
      iapply (crd_recv c 4 (by decide)); iexact C4
    isplitl [A5 C5]
    · isplitl [A5]; · iexact A5
      iapply (crd_recv c 5 (by decide)); iexact C5
    isplitl [A6]; · iexact A6
    iapply (crd_recv c 6 (by decide)); iexact C6
  isplitl [A10 C10 A11 C11 A12 C12]
  · isplitl [A10 C10]
    · isplitl [A10]; · iexact A10
      iapply (crd_recv c 10 (by decide)); iexact C10
    isplitl [A11 C11]
    · isplitl [A11]; · iexact A11
      iapply (crd_recv c 11 (by decide)); iexact C11
    isplitl [A12]; · iexact A12
    iapply (crd_recv c 12 (by decide)); iexact C12
  isplitl [A17 C17 A18 C18 A19 C19 A20 C20]
  · isplitl [A17 C17]
    · isplitl [A17]; · iexact A17
      iapply (crd_recv c 17 (by decide)); iexact C17
    isplitl [A18 C18]
    · isplitl [A18]; · iexact A18
      iapply (crd_recv c 18 (by decide)); iexact C18
    isplitl [A19 C19]
    · isplitl [A19]; · iexact A19
      iapply (crd_recv c 19 (by decide)); iexact C19
    isplitl [A20]; · iexact A20
    iapply (crd_recv c 20 (by decide)); iexact C20
  isplitr
  · rw [sep3]; isplitr; · iexact R4
    isplitr; · iexact R5
    iexact R6
  isplitr
  · rw [sep3]; isplitr; · iexact R10
    isplitr; · iexact R11
    iexact R12
  isplitr
  · rw [sep4]; isplitr; · iexact R17
    isplitr; · iexact R18
    isplitr; · iexact R19
    iexact R20
  isplitl [P0]
  · isplitl [P0]; · iexact P0
    iapply (hb (lft c)); iexact HB
  isplitl [P1]
  · isplitl [P1]; · iexact P1
    iapply (hb (rgt c)); iexact HB
  isplitl [P2]
  · isplitl [P2]; · iexact P2
    iapply (hb (xp c)); iexact HB
  isplitl [Ha0]; · iexact Ha0
  iexact C0

end Cert.KernelIdeal.Pf

end
-- ==== Proof.Region.lean ====
/-
The launched region as a segment of the program, and the program's run.
-/
module

public import proofs.«01_k».proof.Proof.Deal
public import proofs.«01_k».proof.Proof.Gen.KernelIdeal.Regions

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F))

/-! ## The region -/

/-- The kernel's own counters: the row copies', then the protocol's. -/
abbrev osem : Fin 32 ⊕ Fin 20 → SemLoc sig := Sum.elim (fun s => .dma (gs s)) (fun i => smOf i.succ)

theorem osem_facts : Pipeline.OwnSemFacts spec0 osem := by decide +kernel

theorem own_eq (c : Dev nD) : (Pipeline.ownSems0 osem c : sProp 𝕄) = iprop(Sems0 c ∗ bigSep Finset.univ fun i : Fin 20 => semVal (cell c i.succ) 0) := by
  unfold Pipeline.ownSems0
  rw [bigSep_univ_sum]
  rfl

/-- The table's rows, which the kernel addresses itself. -/
abbrev tab : Finset (DevRef τ sig) := {Proc.devRef .tc main_arg1}
/-- The buffers beside the windows' arrays. -/
abbrev rest : Finset (DevRef τ sig) := Pipeline.ucRefs τ sig \ Pipeline.arrRefs (τ := τ) spec0

/-- The buffers when the kernel is done. -/
abbrev Vend (c : Dev nD) : Valuation τ sig (Elt F) := Function.update (V c) main_v25 (outOf V c)

theorem tab_eq (c : Dev nD) (W : Valuation τ sig (Elt F)) :
    (StableHlo.held (c : Thread nD τ) tab W : sProp 𝕄) = pt c bE Finset.univ fullShare (W main_arg1) := by
  unfold StableHlo.held; rw [BI.bigSep_singleton]

theorem tab_rest : tab ⊆ rest := by
  intro b hb
  rw [Finset.mem_singleton.mp hb]
  refine Finset.mem_sdiff.mpr ⟨Finset.mem_filter.mpr ⟨StableHlo.devRef_mem_tcRefs main_arg1, by decide⟩, by decide⟩

theorem arr_uc : Pipeline.arrRefs (τ := τ) spec0 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, by revert w; decide⟩

theorem out_arr : Proc.devRef .tc main_v25 ∈ Pipeline.arrRefs (τ := τ) spec0 := by decide

theorem Vend_of (c : Dev nD) (b : DevRef τ sig) (h : b ≠ Proc.devRef .tc main_v25) : Vend V c b = V c b := Function.update_of_ne h _ _

/-! The invariant opened and closed around the region. -/

abbrev Xk (c : Dev nD) : sProp 𝕄 := iprop((∃ κ, Inv (idsOf V) (scOf V) (EOf V) κ) ∗ levAts L lv ∗ Toks c ∗ Sems0 c)
abbrev Yk (c : Dev nD) : sProp 𝕄 := semVal (cell c 0) 0

theorem opened (c : Dev nD) :
    iprop(Kept (idsOf V) (scOf V) (EOf V) c ∗ Pipeline.ownSems0 osem c ∗ levAts L lv) ⊢ (|={Set.univ}=> Xk V c : sProp 𝕄) := by
  rw [own_eq]
  iintro ⟨⟨⟨%κ, #HI⟩, #HB, Ha, Ho, HP, HC⟩, ⟨HS, Hv⟩, #HL⟩
  imod (open_all (idsOf V) (scOf V) (EOf V) κ c) $$ [Ho Hv] with HO
  · isplitr; · iexact HI
    iapply (Entails.of_eq (bigSep_sep' Finset.univ (fun i : Fin 20 => (openTok ER (cell c i.succ) : sProp 𝕄)) (fun i : Fin 20 => semVal (cell c i.succ) 0)).symm)
    isplitl [Ho]; · iexact Ho
    iexact Hv
  imodintro
  isplitr; · iexists κ; iexact HI
  isplitr; · iexact HL
  isplitr [HS]
  · iapply (toks_intro c)
    isplitr; · iexact HB
    isplitl [Ha]; · iexact Ha
    isplitl [HP]; · iexact HP
    isplitl [HC]; · iexact HC
    iexact HO
  iexact HS

theorem entered (c : Dev nD) :
    iprop(Pipeline.scopedRest spec0 c ∗ (∃ r, prngReg c r) ∗ StableHlo.held (c : Thread nD τ) tab (V c) ∗ Xk V c) ⊢ (Ready V c : sProp 𝕄) := by
  rw [scopedRest0_eq, tab_eq]
  iintro ⟨⟨HF, HA, HG, HX, HR⟩, Hp, HE, HI, HL, HT, HS⟩
  isplitl [HI]; · iexact HI
  isplitl [HL]; · iexact HL
  isplitl [HT]; · iexact HT
  isplitl [HS]; · iexact HS
  isplitl [HF]; · iexact HF
  isplitl [HE]; · iexact HE
  isplitr [Hp]
  · isplitl [HA]; · iexact HA
    isplitl [HG]; · iexact HG
    isplitl [HX]; · iexact HX
    iexact HR
  iexact Hp

theorem left_end (c : Dev nD) :
    (Over V c : sProp 𝕄) ⊢ iprop(Pipeline.scopedRest spec0 c ∗ (∃ r, prngReg c r) ∗ StableHlo.held (c : Thread nD τ) tab (Vend V c) ∗ Pipeline.ownSems0 osem c ∗ Yk c) := by
  rw [scopedRest0_eq, tab_eq, own_eq, show Vend V c main_arg1 = V c main_arg1 from Vend_of V c _ (by decide)]
  iintro ⟨HZ, HS, HF, HE, ⟨HA, HG, HX, HR⟩, Hp⟩
  ihave HZ := (Entails.of_eq (sep_succ fun i : Fin 21 => (semVal (cell c i) 0 : sProp 𝕄))) $$ HZ
  icases HZ with ⟨H0, HZ⟩
  isplitl [HF HA HG HX HR]
  · isplitl [HF]; · iexact HF
    isplitl [HA]; · iexact HA
    isplitl [HG]; · iexact HG
    isplitl [HX]; · iexact HX
    iexact HR
  isplitl [Hp]; · iexact Hp
  isplitl [HE]; · iexact HE
  isplitl [HS HZ]
  · isplitl [HS]; · iexact HS
    iexact HZ
  iexact H0

/-- What is owed is owed above the windows' level. -/
theorem owed_high (c : Dev nD) (t : Fin (cfg0.N + 1)) (g : GSem nD τ sig) (i : Unit) (h : 0 < (dat (F := F) V c).owed t g i) :
    i ∈ L g ∧ 0 < lv g i := by
  have e : (dat (F := F) V c).owed t = if t.val = 0 then left c 0 else 0 := rfl
  rw [e] at h
  split at h
  · obtain ⟨p, hp, rfl⟩ := owed_mem _ g i h
    rw [List.drop_zero] at hp
    have : ∀ c, ∀ p ∈ dues c, p.1.1.2 = .tc ∧ 0 < lv p.1 () := by
      intro c p hp; simp only [dues, List.mem_cons, List.not_mem_nil, or_false] at hp
      rcases hp with rfl | rfl | rfl | rfl | rfl | rfl | rfl | rfl | rfl | rfl | rfl | rfl | rfl <;> exact ⟨rfl, Nat.succ_pos _⟩
    exact ⟨by unfold L; rw [if_pos (this c p hp).1]; exact Finset.mem_singleton_self _, (this c p hp).2⟩
  · exact absurd h (Nat.lt_irrefl 0)

theorem windows_low (c : Dev nD) (w : Fin cfg0.W) (s : Fin (cfg0.win w).nbuf) :
    lv ((c : Thread nD τ), .dma ((cfg0.win w).sem s)) () ≤ 0 := by
  show lv (((0 : Dev nD) : Thread nD τ), .dma ((cfg0.win w).sem s)) () ≤ 0
  revert s; revert w; decide

theorem first_eq (c : Dev nD) (w : Fin cfg0.W) : (dat V c).arrAt w 0 = V c (Proc.devRef .tc (Pipeline.arrRef spec0 w)) := by
  fin_cases w <;> rfl

theorem last_eq (c : Dev nD) (w : Fin cfg0.W) : (dat V c).arrAt w cfg0.N = Vend V c (Proc.devRef .tc (Pipeline.arrRef spec0 w)) := by
  fin_cases w
  · exact ((dat V c).arrAt_in 0 rfl _).trans (Vend_of V c (Proc.devRef .tc main_v22) (by decide)).symm
  · exact ((dat V c).arrAt_in 1 rfl _).trans (Vend_of V c (Proc.devRef .tc main_v24) (by decide)).symm
  · exact (final_out V c).trans (Function.update_self (Proc.devRef .tc main_v25) (outOf V c) (V c)).symm

set_option backward.isDefEq.respectTransparency.types false in
def reg (hb : Small (idsOf V)) : Pipeline.RegionSeg (pcfgs (F := F)) adm (pdats V) () defs₀ 𝒱₀ L lv 0 :=
  Pipeline.RegionSeg.ofTalk (pcfgs (F := F)) adm (pdats V) () defs₀ 𝒱₀ L lv 0 osem osem_facts
    tab rest tab_rest launch0.toP rfl (fun c => (body_obligation V hb c).loose)
    (fun _ => 0) (fun c => left c 0) (fun c => (owed_first V c).trans (zero_add _).symm) (owed_last V) (fun _ => rfl)
    (fun c w => by fin_cases w <;> rfl)
    V (Vend V) (fun c b hb' => Vend_of V c b fun e => (Finset.mem_sdiff.mp (Finset.mem_sdiff.mp hb').1).2 (e ▸ out_arr))
    (Kept (idsOf V) (scOf V) (EOf V)) Yk (Xk V) Yk (opened V)
    (fun c => (entered V c).trans (Entails.of_eq (inv_first V c).symm)) (fun c => (Entails.of_eq (inv_last V c)).trans (left_end V c))
    (fun c => by iintro H; imodintro; iexact H)
    (fun _ => 0)
    ⟨fun c w s => by rw [L_tc]; exact Finset.mem_singleton_self _, windows_low, owed_high V⟩
    (fun _ => iprop(emp))
    (first_eq V) (last_eq V)

end Cert.KernelIdeal.Pf

end
-- ==== Proof.Run.lean ====
/-
The program's run, from any memory: the arguments unchanged, the result what the kernel writes, every counter at zero.
-/
module

public import proofs.«01_k».proof.Proof.Region
public import Idealize.ShloMosaic.Lib.Quiescent

@[expose] public section

set_option maxRecDepth 16384

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! Two families over the devices, as one family of pairs, and back. -/

theorem paired {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm
theorem unpaired {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)

variable (m : (ℓ : Loc nD τ sig) → Buf (Elt F) ℓ) (ρ : Dev nD → PrngReg)

/-! ## The launch -/

theorem unscoped_eq (c : Dev nD) : (unscopedSems0 c : sProp 𝕄) = semVal (cell c 0) 0 := by
  unfold unscopedSems0
  rw [show (Finset.univ.filter fun sm : SemLoc sig => ¬ sm.isScoped .tc) = {smOf 0} by decide +kernel, BI.bigSep_singleton]

theorem unscoped_bar : ∀ sm : SemLoc sig, sm.isScoped .tc = false → sm = smOf 0 := by decide +kernel

/-- The launch element: the windows' rounds, the protocol's, no counter of a batch. -/
def u₀ : UU :=
  (initOf (Pipeline.cells cfgs cellOf_inj) (Pipeline.launchToks cfgs cellOf_inj), (launchOf barCells dmaCells payToks, (1 : Counters)))

/-- The protocol's rounds, set down whole at device 0. -/
def G (c : Dev nD) : sProp 𝕄 := if c = 0 then BI.own (ER (launchOf barCells dmaCells payToks)) else iprop(emp)

theorem G_eq : bigSep Finset.univ (G (F := F)) = BI.own (ER (launchOf barCells dmaCells payToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

abbrev keptOf (c : Dev nD) : sProp 𝕄 := Kept (idsOf (V3 m)) (scOf (V3 m)) (EOf (V3 m)) c

/-- What rides beside the buffers up to the kernel, and after it. -/
def E : Fin 2 → Dev nD → sProp 𝕄 := ![fun c => iprop(keptOf m c ∗ (∃ r, prngReg c r) ∗ ∃ W, owes (c : Thread nD τ) (left c 0) W),
  fun c => iprop(semVal (cell c 0) 0 ∗ ∃ W, owes (c : Thread nD τ) (0 : CellTallies nD τ sig Unit) W)]

theorem launched :
    iprop((bigSep Finset.univ fun c : Dev nD => iprop(unscopedSems0 c ∗ owes (c : Thread nD τ) (left c 0) ∅ ∗ Pipeline.launchCred (fun d => left d 0) c
        ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (left c 0) ∅ ∗ Pipeline.launchCred (fun d => left d 0) c ∗ prngReg c (ρ c) ∗ G c)
      ⊢ (iprop((Crd c ∗ (∃ r, prngReg c r) ∗ ∃ W, owes (c : Thread nD τ) (left c 0) W) ∗ (semVal (cell c 0) 0 ∗ G c)) : sProp 𝕄) := by
    rw [unscoped_eq]
    iintro ⟨Hs, HO, HC, Hp, HG⟩
    ihave HC := (creds (F := F) c) $$ HC
    isplitl [HC Hp HO]
    · isplitl [HC]; · iexact HC
      isplitl [Hp]; · iexists (ρ c); iexact Hp
      iexists ∅; iexact HO
    isplitl [Hs]; · iexact Hs
    iexact HG
  have hshare (κ : GSem nD τ sig → ℕ) (c : Dev nD) :
      iprop((Inv (idsOf (V3 m)) (scOf (V3 m)) (EOf (V3 m)) κ ∗ Bars)
        ∗ ((atPos ER (cell c 0) 0 ∅ 0 ∗ (bigSep Finset.univ fun i : Fin 20 => openTok ER (cell c i.succ)) ∗ Pays c)
          ∗ (Crd c ∗ (∃ r, prngReg c r) ∗ ∃ W, owes (c : Thread nD τ) (left c 0) W)))
        ⊢ (E m 0 c : sProp 𝕄) := by
    show _ ⊢ iprop(keptOf m c ∗ (∃ r, prngReg c r) ∗ ∃ W, owes (c : Thread nD τ) (left c 0) W)
    iintro ⟨⟨#HI, #HB⟩, ⟨Ha, Ho, HP⟩, HC, Hp, HO⟩
    isplitr [Hp HO]
    · isplitr; · iexists κ; iexact HI
      isplitr; · iexact HB
      isplitl [Ha]; · iexact Ha
      isplitl [Ho]; · iexact Ho
      isplitl [HP]; · iexact HP
      iexact HC
    isplitl [Hp]; · iexact Hp
    iexact HO
  iintro ⟨H, -⟩
  ihave H' := (show (bigSep Finset.univ fun c : Dev nD => iprop(unscopedSems0 c ∗ owes (c : Thread nD τ) (left c 0) ∅ ∗ Pipeline.launchCred (fun d => left d 0) c ∗ prngReg c (ρ c) ∗ G c))
      ⊢ (bigSep Finset.univ fun c : Dev nD => iprop((Crd c ∗ (∃ r, prngReg c r) ∗ ∃ W, owes (c : Thread nD τ) (left c 0) W) ∗ (semVal (cell c 0) 0 ∗ G c)) : sProp 𝕄)
    from bigSep_mono fun c _ => hcore c) $$ H
  ihave H2 := unpaired $$ H'; icases H2 with ⟨HB, H3⟩
  ihave H4 := unpaired $$ H3; icases H4 with ⟨Hv, HG⟩
  ihave Hu := (Entails.of_eq (G_eq (F := F))) $$ HG
  imod (Rounds.fund_launch ER (rd (idsOf (V3 m)) (scOf (V3 m)) (EOf (V3 m))) disjoint_cells (fun g _ h => h) payToks) $$ [Hv Hu] with ⟨%κ, -, Hinv, Hr, Hat, Hopen, Htok⟩
  · isplitl [Hv]
    · iapply (Entails.of_eq (bar_eq (F := F) fun g => semVal g 0).symm) $$ Hv
    · iexact Hu
  imodintro
  iapply (bigSep_with_persistent (R := iprop(Inv (idsOf (V3 m)) (scOf (V3 m)) (EOf (V3 m)) κ ∗ Bars))
    (Φ := fun c => iprop((atPos ER (cell c 0) 0 ∅ 0 ∗ (bigSep Finset.univ fun i : Fin 20 => openTok ER (cell c i.succ)) ∗ Pays c)
          ∗ (Crd c ∗ (∃ r, prngReg c r) ∗ ∃ W, owes (c : Thread nD τ) (left c 0) W))) fun c _ => hshare κ c)
  isplitl [Hinv Hr]
  · isplitl [Hinv]
    · iapply (Entails.of_eq (all_eq (F := F) fun g => cellInv ER (rd (idsOf (V3 m)) (scOf (V3 m)) (EOf (V3 m))) (κ g) g)) $$ Hinv
    · iapply (Entails.of_eq (bar_eq (F := F) fun g => reached ER g 0)) $$ Hr
  iapply paired
  isplitr [HB]
  · iapply paired
    isplitl [Hat]; · iapply (Entails.of_eq (bar_eq (F := F) fun g => atPos ER g 0 ∅ 0)) $$ Hat
    iapply paired
    isplitl [Hopen]; · iapply (Entails.of_eq (dma_eq (F := F) fun g => openTok ER g)) $$ Hopen
    iapply (Entails.of_eq (pays_eq (F := F))) $$ Htok
  · iexact HB

/-! ## The region entered and left -/

theorem region_pre (hb : Small (idsOf (V3 m))) (c : Dev nD) :
    iprop(StableHlo.held (c : Thread nD τ) (Pipeline.ucRefs τ sig) (V3 m c) ∗ E m 0 c) ⊢ (reg (V3 m) hb).pre c := by
  show iprop(StableHlo.held (c : Thread nD τ) (Pipeline.ucRefs τ sig) (V3 m c) ∗ (keptOf m c ∗ (∃ r, prngReg c r) ∗ ∃ W, owes (c : Thread nD τ) (left c 0) W))
    ⊢ iprop(StableHlo.held (c : Thread nD τ) (Pipeline.arrRefs (τ := τ) spec0) (V3 m c) ∗ (∃ r, prngReg c r)
      ∗ (StableHlo.held (c : Thread nD τ) rest (V3 m c) ∗ emp) ∗ keptOf m c ∗ ∃ W, owes (c : Thread nD τ) (0 + left c 0) W)
  rw [StableHlo.held_sub_split (c : Thread nD τ) arr_uc (V3 m c), zero_add]
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem region_post (hb : Small (idsOf (V3 m))) (c : Dev nD) :
    (reg (V3 m) hb).post c ⊢ iprop((StableHlo.held (c : Thread nD τ) (Pipeline.ucRefs τ sig) (Vend (V3 m) c) ∗ semVal (cell c 0) 0)
      ∗ ∃ W, owes (c : Thread nD τ) (0 : CellTallies nD τ sig Unit) W) := by
  show iprop(StableHlo.held (c : Thread nD τ) (Pipeline.arrRefs (τ := τ) spec0) (Vend (V3 m) c) ∗ (∃ r, prngReg c r)
      ∗ (StableHlo.held (c : Thread nD τ) rest (Vend (V3 m) c) ∗ emp) ∗ semVal (cell c 0) 0 ∗ ∃ W, owes (c : Thread nD τ) (0 : CellTallies nD τ sig Unit) W) ⊢ _
  rw [StableHlo.held_sub_split (c : Thread nD τ) arr_uc (Vend (V3 m) c)]
  iintro ⟨Ha, -, ⟨Hr, -⟩, Hb, HO⟩
  isplitr [HO]
  · isplitr [Hb]
    · isplitl [Ha]; · iexact Ha
      iexact Hr
    iexact Hb
  iexact HO

/-! ## The run -/

theorem arg_end (c : Dev nD) (r : Ref sig .tc) (h : r ≠ main_v25) (h3 : r ∉ hostOps0_2_W) (h2 : r ∉ hostOps0_1_W) (h1 : r ∉ hostOps0_W) :
    Vend (V3 m) c r = m ((c : Thread nD τ).loc r) :=
  (Vend_of (V3 m) c _ (StableHlo.devRef_ne_of_ne h)).trans <| (V3_of m c r h3).trans <| (V2_of m c r h2).trans <| V1_of m c r h1

set_option backward.isDefEq.respectTransparency.types false in
theorem run (hb : Small (idsOf (V3 m))) :
    θ_run defs (onTc (τ := τ) (main (F := F))) ⟨m, fun _ => 0, ρ⟩ (fun r => (∀ c : Dev nD,
        (r.2.mem ((c : Thread nD τ).loc main_arg0) = m ((c : Thread nD τ).loc main_arg0)
          ∧ r.2.mem ((c : Thread nD τ).loc main_arg1) = m ((c : Thread nD τ).loc main_arg1))
        ∧ r.2.mem ((c : Thread nD τ).loc main_v25) = outOf (V3 m) c)
      ∧ r.2.sem = fun _ => 0) := by
  refine Pipeline.θ_run_regions_kit_dev_sems (pcfgs (F := F)) adm (pdats (V3 m)) () cellOf_inj EP defs₀ 𝒱₀ L lv m ρ main
    (segs m 𝒱₀ L lv (E m) () (pdats (V3 m)) (reg (V3 m) hb))
    (fun c Q => by
      rewrite [main_chain c, Pipeline.Seg.run_eq_chain,
        show (segs m 𝒱₀ L lv (E m) () (pdats (V3 m)) (reg (V3 m) hb) c).map Pipeline.Seg.prog = [
          StableHlo.seq (hostOps0 c), StableHlo.seq hostOps0_1, StableHlo.seq hostOps0_2,
          Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (fun c => left c 0) L_of_ne G u₀
    (by
      unfold u₀
      iintro Hu
      ihave H := (ownU_pair _ _) $$ Hu
      icases H with ⟨HP, HX⟩
      imodintro
      isplitl [HP]; · iexact HP
      rw [G_eq]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (Vend (V3 m) c) ∗ semVal (cell c 0) 0))
    (hch := fun c => ⟨.rfl, .rfl, .rfl, region_pre m hb c, region_post m hb c⟩)
    (hinit := ?_)
    (QY := fun c s => (∀ b ∈ Pipeline.ucRefs τ sig, s.mem ((c : Thread nD τ).1, b) = Vend (V3 m) c b) ∧ s.sem (cell c 0) = 0)
    (hfin := fun c s' => ?_) (hQ := fun s h hs => ?_)
  · have hsplit : (bigSep Finset.univ fun c : Dev nD => iprop(unscopedBufs c (fun b => m ((c.tc : Thread nD τ).loc b)) ∗ unscopedSems0 c
          ∗ owes (c.tc : Thread nD τ) (left c 0) ∅ ∗ Pipeline.launchCred (fun d => left d 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (left c 0) ∅ ∗ Pipeline.launchCred (fun d => left d 0) c ∗ prngReg c (ρ c) ∗ G c))
            : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (launched m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    ihave Hr := (pointsTo_read_all (Pipeline.ucRefs τ sig) (fun b => ((c : Thread nD τ).1, b)) (Vend (V3 m) c) s') $$ [Hh HSI]
    · isplitl [Hh] <;> iassumption
    icases Hr with ⟨%h, HSI⟩
    icombine HSI Hb gives %hb0
    imodintro
    isplitr
    · ipureintro; exact ⟨h, by simpa using hb0⟩
    iexact HSI
  · have hmem (c : Dev nD) (r : Ref sig .tc) (hr : Proc.devRef .tc r ∈ Pipeline.ucRefs τ sig) : s.mem ((c : Thread nD τ).loc r) = Vend (V3 m) c r := (h c).1 _ hr
    refine ⟨fun c => ⟨⟨?_, ?_⟩, ?_⟩, sem_eq_zero hs fun c sm hsm => ?_⟩
    · exact (hmem c main_arg0 (Finset.mem_filter.mpr ⟨StableHlo.devRef_mem_tcRefs main_arg0, by decide⟩)).trans (arg_end m c main_arg0 (by decide) (by decide) (by decide) (by decide))
    · exact (hmem c main_arg1 (Finset.mem_filter.mpr ⟨StableHlo.devRef_mem_tcRefs main_arg1, by decide⟩)).trans (arg_end m c main_arg1 (by decide) (by decide) (by decide) (by decide))
    · exact (hmem c main_v25 (Finset.mem_filter.mpr ⟨StableHlo.devRef_mem_tcRefs main_v25, by decide⟩)).trans (Function.update_self (Proc.devRef .tc main_v25) (outOf (V3 m) c) (V3 m c))
    · rw [unscoped_bar sm hsm]; exact (h c).2

end Cert.KernelIdeal.Pf

end
-- ==== Proof.Host.lean ====
/-
What the host leaves for the kernel: the ids as row numbers of the device's own table rows, and the scale that zeroes a row the
device does not hold.
-/
module

public import proofs.«01_k».proof.Proof.Common
public import proofs.«01_k».proof.Proof.Gather
public import Idealize.ShloMosaic.Lib.StableHlo.RunRead

@[expose] public section

set_option maxRecDepth 16384

noncomputable section

namespace Cert.KernelIdeal.Pf

open Cert.KernelIdeal Cert.KernelIdeal.Gen
open Idealize.ShloMosaic Idealize.ShloMosaic.TcCoe Idealize.ShloMosaic.StableHlo

variable {F : FTy → Type} [FloatOps F]

/-! ## One stretch of operations at a time, from any contents `W` -/

variable (W : Valuation τ sig (Elt F)) (c : Dev nD)

/-- The device's ring position and half, and the first id of its half, as the host computes them. -/
def hostY : IVec S_ 32 := Host.remui (Host.divui (constantI S_ 32 (Dev.word c)) (constantI S_ 32 4#32)) (constantI S_ 32 4#32)
def hostX : IVec S_ 32 :=
  muli (Host.remui (Host.divui (constantI S_ 32 (Dev.word c)) (constantI S_ 32 16#32)) (constantI S_ 32 2#32)) (constantI S_ 32 512#32)
def hostStart : IVec S_ 32 := select (cmpi .slt (hostX c) (constantI S_ 32 0#32)) (addi (hostX c) (constantI S_ 32 1024#32)) (hostX c)

/-- The device's ids less the number of its first row. -/
def rel (ids : IVec S1024 32) (c : Dev nD) : IVec S512 32 :=
  subi (Host.dynamicSlice S512 ids (fun _ => (hostStart c (Shape.Idx.first h_S_)).toInt) sliceFits_S1024_S512)
    (broadcastInDim S512 ![] bcast_S_S512 (muli (hostY c) (constantI S_ 32 8192#32)))

/-- Whether the device holds the row. -/
def mine (ids : IVec S1024 32) (c : Dev nD) : IVec S512 1 :=
  andi (cmpi .sge (rel ids c) (broadcastInDim S512 ![] bcast_S_S512 (constantI S_ 32 0#32)))
    (cmpi .slt (rel ids c) (broadcastInDim S512 ![] bcast_S_S512 (constantI S_ 32 8192#32)))

theorem first_start : upto (hostOps0 c) W 19 (main_v12 : DevRef τ sig) = hostStart c := by
  after_reads_simp; rfl
theorem first_rel : after (hostOps0 c) W (main_v16 : DevRef τ sig) = rel (W (main_arg0 : DevRef τ sig)) c := by
  after_reads_simp
  refine congrArg₂ subi (congrArg (fun f => Host.dynamicSlice S512 (W (main_arg0 : DevRef τ sig)) f sliceFits_S1024_S512) (funext fun k => ?_)) rfl
  obtain rfl : k = 0 := Subsingleton.elim _ _
  exact congrArg (fun v : IVec S_ 32 => (v (Shape.Idx.first h_S_)).toInt) (first_start W c)
theorem first_mine : after (hostOps0 c) W (main_v21 : DevRef τ sig) = mine (W (main_arg0 : DevRef τ sig)) c := by
  after_reads_simp
  refine congrArg₂ andi (congrArg₂ (cmpi .sge) (Eq.trans (Eq.symm ?_) (first_rel W c)) rfl) (congrArg₂ (cmpi .slt) (Eq.trans (Eq.symm ?_) (first_rel W c)) rfl)
    <;> after_reads_simp
theorem first_lo : after (hostOps0 c) W (main_c_9 : DevRef τ sig) = constantI S_ 32 0#32 := by
  after_reads_simp
theorem first_hi : after (hostOps0 c) W (main_c_10 : DevRef τ sig) = constantI S_ 32 8191#32 := by
  after_reads_simp

theorem second_ids : after hostOps0_1 W (main_v22 : DevRef τ sig)
    = minsi (broadcastInDim S512 ![] bcast_S_S512 (W (main_c_10 : DevRef τ sig) : IVec S_ 32))
        (maxsi (broadcastInDim S512 ![] bcast_S_S512 (W (main_c_9 : DevRef τ sig) : IVec S_ 32)) (W (main_v16 : DevRef τ sig))) := by
  after_results_simp; rfl

theorem third_scale : after hostOps0_2 W (main_v24 : DevRef τ sig)
    = broadcastInDim S512x1 ![0] bcast_S512_S512x1_0 (uitofp .f32 (W (main_v21 : DevRef τ sig) : IVec S512 1) : FVec F S512 .f32) := by
  after_reads_simp

/-! ## At the kernel's start -/

variable (m : (ℓ : Loc nD τ sig) → Buf (Elt F) ℓ)

theorem start_table : V3 m c main_arg1 = m ((c : Thread nD τ).loc main_arg1) :=
  (V3_of m c main_arg1 (by decide)).trans ((V2_of m c main_arg1 (by decide)).trans ((V1_of m c main_arg1 (by decide)).trans rfl))

theorem start_ids : V3 m c main_v22 = minsi (broadcastInDim S512 ![] bcast_S_S512 (constantI S_ 32 8191#32))
    (maxsi (broadcastInDim S512 ![] bcast_S_S512 (constantI S_ 32 0#32)) (rel (m ((c : Thread nD τ).loc main_arg0)) c)) := by
  refine (V3_of m c main_v22 (by decide)).trans ((second_ids (V1 m c)).trans ?_)
  rw [show V1 m c (main_c_10 : DevRef τ sig) = _ from first_hi (V0 m c) c, show V1 m c (main_c_9 : DevRef τ sig) = _ from first_lo (V0 m c) c,
    show V1 m c (main_v16 : DevRef τ sig) = _ from first_rel (V0 m c) c]

theorem start_scale : V3 m c main_v24 = broadcastInDim S512x1 ![0] bcast_S512_S512x1_0
    (uitofp .f32 (mine (m ((c : Thread nD τ).loc main_arg0)) c) : FVec F S512 .f32) := by
  refine (third_scale (V2 m c)).trans ?_
  rw [show V2 m c (main_v21 : DevRef τ sig) = mine (m ((c : Thread nD τ).loc main_arg0)) c from
    (V2_of m c main_v21 (by decide)).trans (first_mine (V0 m c) c)]

/-! ## Element by element -/

/-- A word brought between zero and 8191. -/
def clip (v : BitVec 32) : BitVec 32 := IntOp.minsi 8191#32 (IntOp.maxsi 0#32 v)

theorem clip_low (v : BitVec 32) : (clip v).toNat < 8192 := by
  have e : (8191#32).toInt = 8191 := by decide
  have z : (0#32).toInt = 0 := by decide
  have key : ∀ w : BitVec 32, w.toInt ≤ 8191 → 0 ≤ w.toInt → w.toNat < 8192 := fun w h h0 => by
    rw [BitVec.toInt_eq_toNat_cond] at h h0; split at h <;> omega
  have hm : 0 ≤ (IntOp.maxsi 0#32 v).toInt := by
    unfold IntOp.maxsi; split
    · exact le_of_eq z.symm
    · rename_i h; simpa [BitVec.slt, z] using h
  unfold clip; generalize IntOp.maxsi 0#32 v = w at hm ⊢
  unfold IntOp.minsi; split
  · decide
  · rename_i h; exact key _ (by simpa [BitVec.slt, e] using h) hm

theorem clip_same (v : BitVec 32) (h : v.toNat < 8192) : clip v = v := by
  have hv : v.toInt = (v.toNat : ℤ) := by rw [BitVec.toInt_eq_toNat_cond]; split <;> omega
  have e : (8191#32).toInt = 8191 := by decide
  have z : (0#32).toInt = 0 := by decide
  unfold clip IntOp.minsi IntOp.maxsi
  have h0 : (v.slt 0#32) = false := by simp [BitVec.slt, hv, z]
  have h1 : ((8191#32).slt v) = false := by simp [BitVec.slt, hv, e]; omega
  simp [h0, h1]

theorem start_ids_at (i : S512.Idx) : (V3 m c main_v22 : S512.Idx → BitVec 32) i = clip (rel (m ((c : Thread nD τ).loc main_arg0)) c i) := by
  rw [start_ids]; rfl

theorem start_small : Small (fun c => (V3 m c main_v22 : S512.Idx → BitVec 32)) := fun c i => by
  show ((V3 m c main_v22 : S512.Idx → BitVec 32) i).toNat < 8192
  rw [start_ids_at]; exact clip_low _

end Cert.KernelIdeal.Pf
-- ==== Proof.Same.lean ====
/-
The two printings of the kernel are one program.
-/
module

public import proofs.«01_k».proof.Proof.Gen.KernelIdeal
public import proofs.«01_k».proof.Proof.Gen.Kernel

@[expose] public section

set_option maxHeartbeats 0
set_option maxRecDepth 65536

namespace Cert

open Idealize.ShloMosaic Idealize.SL.Sem

variable {F : FTy → Type} [FloatOps F]

/-- The kernel's function, unfolded on both sides. -/
theorem body_same : (letI := Cert.Kernel.Gen.facts; Cert.Kernel.cc0_body (F := F)) = (letI := Cert.KernelIdeal.Gen.facts; Cert.KernelIdeal.cc0_body (F := F)) := (rfl)

theorem defs0_same : (letI := Cert.Kernel.Gen.facts; Cert.Kernel.defs₀ (F := F)) = (letI := Cert.KernelIdeal.Gen.facts; Cert.KernelIdeal.defs₀ (F := F)) := by
  refine congrArg (Defs.onTc (nD := Cert.KernelIdeal.nD) (τ := Cert.KernelIdeal.τ) (sig := Cert.KernelIdeal.sig) (Λ := Cert.KernelIdeal.Λ₀))
    (funext fun ℓ => funext fun a => ?_)
  match ℓ, a with
  | ⟨0, _⟩, (t, s) =>
    exact congrFun (congrFun (congrFun (congrFun (congrFun (congrFun (congrFun (congrFun (congrFun (congrFun (congrFun (congrFun (congrFun (congrFun (congrFun
      (congrFun (congrFun (congrFun (congrFun (congrFun (congrFun (congrFun (congrFun (congrFun (congrFun body_same _) _) _) _) _) _) _) _) _) _) _) _) _) _) _) _) _) _) _) _) _) _) _) _) _
  | ⟨_ + 1, h⟩, _ => exact absurd h (Nat.not_lt.2 (Nat.le_add_left _ _))

theorem defs_same : (letI := Cert.Kernel.Gen.facts; Cert.Kernel.defs (F := F)) = (letI := Cert.KernelIdeal.Gen.facts; Cert.KernelIdeal.defs (F := F)) :=
  congrArg (Pipeline.defs (Cert.KernelIdeal.pcfgs (F := F))) defs0_same

theorem main_same : (letI := Cert.Kernel.Gen.facts; Cert.Kernel.main (F := F)) = (letI := Cert.KernelIdeal.Gen.facts; Cert.KernelIdeal.main (F := F)) := (rfl)

end Cert
-- ==== Proof.Ref.lean ====
/-
The reference: its run, and its result element by element.
-/
module

public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.ReferenceIdeal.Pf

open Cert.ReferenceIdeal Cert.ReferenceIdeal.Gen
open Idealize.ShloMosaic Idealize.ShloMosaic.TcCoe Idealize.ShloMosaic.StableHlo
open Idealize.SL.Sem

variable {F : FTy → Type} [FloatOps F]

/-- The ids, a negative one counted from the table's end, as start indices. -/
def starts (ids : IVec S1024 32) : IVec S1024x1 32 :=
  broadcastInDim S1024x1 ![0] bcast_S1024_S1024x1_0
    (select (cmpi .slt ids (broadcastInDim S1024 ![] bcast_S_S1024 (constantI S_ 32 0#32)))
      (addi ids (broadcastInDim S1024 ![] bcast_S_S1024 (constantI S_ 32 32768#32))) ids)

/-- The rows the ids name. -/
def rows (ids : IVec S1024 32) (E : FVec F S32768x1024 .f32) : FVec F S1024x1024 .f32 :=
  Host.gather gather_S32768x1024_S1024x1_S1024x1024_1_0_n_n_0_1_11024 E (starts ids)

theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v6) = rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine θ_run_mono (run_hlo _ _ (by hlo_seq) (by decide) (by decide) (by simp)
    (by intro _ h; (repeat (cases h with | head => rfl | tail _ h => ?_)); exact nomatch h) m ρ) fun r h => ⟨fun c => ⟨?_, ?_, ?_⟩,
      sem_eq_zero_of_no_sems (by decide) r.2⟩
  · refine (h c main_v6).trans ?_; after_reads_simp; rfl
  · refine (h c main_arg0).trans ?_; after_reads_simp
  · refine (h c main_arg1).trans ?_; after_reads_simp

end Cert.ReferenceIdeal.Pf
-- ==== Proof.Value.lean ====
/-
The kernel's result over the ideal reals is the reference's: of the four devices of a ring only the one that holds a row gives
it, the others give zero, and the sum round the ring is the row.
-/
module

public import proofs.«01_k».proof.Proof.Host
public import proofs.«01_k».proof.Proof.Point
public import Idealize.ShloMosaic.Lib.Layout
public import proofs.«01_k».proof.Proof.Ref
public import Idealize.ShloMosaic.Lib.Routing.Ops
public import Idealize.ShloMosaic.Lib.WordCmp
public import Idealize.ShloMosaic.PureOps.Ideal

@[expose] public section

set_option maxRecDepth 16384

noncomputable section

namespace Cert.KernelIdeal.Pf

open Cert.KernelIdeal Cert.KernelIdeal.Gen
open Idealize.ShloMosaic Idealize.ShloMosaic.TcCoe

/-! ## The ids as the host hands them on -/

theorem start_word (c : Dev nD) : (hostStart c (Shape.Idx.first h_S_)).toInt = ((512 * xx c : ℕ) : ℤ) := by
  revert c; decide +kernel

theorem base_word (c : Dev nD) : (muli (hostY c) (constantI S_ 32 8192#32)) (Shape.Idx.first h_S_) = BitVec.ofNat 32 (8192 * yy c) := by
  revert c; decide +kernel

theorem half_fits (c : Dev nD) : S1024.Slices (fun _ => 512 * xx c) S512 := by
  revert c; decide +kernel

theorem xx_lt (c : Dev nD) : xx c < 2 := by revert c; decide +kernel

/-- The id that row `r` of the device's half looks up. -/
def word (ids : IVec S1024 32) (x : ℕ) (hx : x < 2) (r : Fin 512) : BitVec 32 :=
  ids (ValueIdx.ix1 (⟨512 * x + r.val, by have := r.isLt; omega⟩ : Fin 1024))

theorem rel_at (ids : IVec S1024 32) (c : Dev nD) (r : Fin 512) :
    rel ids c (i1 r) = word ids (xx c) (xx_lt c) r - BitVec.ofNat 32 (8192 * yy c) := by
  unfold rel
  rw [WordCmp.dynamicSlice_eq_extract S512 ids _ _ (fun _ => 512 * xx c) (half_fits c) (fun _ => start_word c)]
  refine congrArg₂ (· - ·) ?_ ?_
  · unfold extractStridedSlice word
    refine congrArg ids (funext fun a => Fin.ext ?_)
    obtain rfl : a = 0 := Subsingleton.elim _ _
    rfl
  · refine Eq.trans (congrArg (muli (hostY c) (constantI S_ 32 8192#32)) (funext fun a => a.elim0)) (base_word c)

/-! ## One word -/

theorem word_mine (v : BitVec 32) (y : ℕ) (hv : v.toNat < 32768) (hy : y < 4) :
    IntOp.andi (IntOp.cmpi .sge (v - BitVec.ofNat 32 (8192 * y)) 0#32) (IntOp.cmpi .slt (v - BitVec.ofNat 32 (8192 * y)) 8192#32)
      = if v.toNat / 8192 = y then 1#1 else 0#1 := by
  have hz : (0#32).toInt = 0 := by decide
  have he : (8192#32).toInt = 8192 := by decide
  have hn : (v - BitVec.ofNat 32 (8192 * y)).toNat = (4294967296 - 8192 * y + v.toNat) % 4294967296 := by
    rw [BitVec.toNat_sub, BitVec.toNat_ofNat]; congr 2; omega
  have ht : (v - BitVec.ofNat 32 (8192 * y)).toInt = (v.toNat : ℤ) - 8192 * y := by
    rw [BitVec.toInt_eq_toNat_cond, hn]; split <;> omega
  unfold IntOp.andi IntOp.cmpi
  simp only [BitVec.sle, BitVec.slt, ht, hz, he]
  by_cases h : v.toNat / 8192 = y
  · rw [if_pos h, decide_eq_true (by omega), decide_eq_true (by omega)]; rfl
  · rw [if_neg h]
    by_cases h0 : (0 : ℤ) ≤ (v.toNat : ℤ) - 8192 * y
    · rw [decide_eq_true h0, decide_eq_false (by omega)]; rfl
    · rw [decide_eq_false h0]
      cases decide ((v.toNat : ℤ) - 8192 * y < 8192) <;> rfl

theorem word_row (v : BitVec 32) (y : ℕ) (h : v.toNat / 8192 = y) :
    (clip (v - BitVec.ofNat 32 (8192 * y))).toNat = v.toNat - 8192 * y := by
  have hn : (v - BitVec.ofNat 32 (8192 * y)).toNat = v.toNat - 8192 * y := by
    rw [BitVec.toNat_sub, BitVec.toNat_ofNat]; omega
  rw [clip_same _ (by omega), hn]

/-! ## One device's part of a row -/

section
variable (ids : IVec S1024 32) (A : (⟨2, ![32768, 1024]⟩ : Shape).Idx → EReal)
variable (hids : ∀ i, (ids i).toNat < 32768)
variable (ids' : Dev nD → S512.Idx → BitVec 32) (sc : Dev nD → S512x1.Idx → Ideal .f32) (E : Dev nD → S8192x1024.Idx → Ideal .f32)

/-- Row `n` of the whole table. -/
def whole (n : ℕ) (l : Fin 1024) : EReal := A (Shape.pair (d := ![32768, 1024]) ⟨n % 32768, Nat.mod_lt _ (by decide)⟩ l)

/-- What the host and the layout of the table leave on each device. -/
structure Left : Prop where
  id : ∀ d r, ids' d (i1 r) = clip (rel ids d (i1 r))
  scale : ∀ d r, sc d (Shape.pair (d := ![512, 1]) r ⟨0, by decide⟩) = FloatOps.uitofp .f32 (mine ids d (i1 r))
  table : ∀ d (n : Fin 8192) (l : Fin 1024), E d (Shape.pair (d := ![8192, 1024]) n l) = whole A (8192 * yy d + n.val) l

variable {ids A ids' sc E}

include hids in
theorem part_ideal (L : Left ids A ids' sc E) (d : Dev nD) (r : Fin 512) (l : Fin 1024) :
    part ids' sc E d (ix r l) = if (word ids (xx d) (xx_lt d) r).toNat / 8192 = yy d then whole A (word ids (xx d) (xx_lt d) r).toNat l else 0 := by
  have hw : (word ids (xx d) (xx_lt d) r).toNat < 32768 := hids _
  have hm : mine ids d (i1 r) = if (word ids (xx d) (xx_lt d) r).toNat / 8192 = yy d then 1#1 else 0#1 := by
    rw [← word_mine _ _ hw (yy_lt d), ← rel_at]; rfl
  have hs := L.scale d r
  rw [hm] at hs
  have hg : gath ids' E d (ix r l) = whole A (8192 * yy d + (clip (rel ids d (i1 r))).toNat % 8192) l := by
    rw [← L.id]; exact L.table d _ l
  show FloatOps.mulf (gath ids' E d (ix r l)) (sc d (Shape.pair (d := ![512, 1]) r ⟨0, by decide⟩)) = _
  rw [hs, hg, rel_at]
  by_cases h : (word ids (xx d) (xx_lt d) r).toNat / 8192 = yy d
  · rw [if_pos h, if_pos h, word_row _ _ h]
    have e : 8192 * yy d + ((word ids (xx d) (xx_lt d) r).toNat - 8192 * yy d) % 8192 = (word ids (xx d) (xx_lt d) r).toNat := by omega
    rw [e]
    show (_ : EReal) * (((1#1 : BitVec 1).toNat : ℝ) : EReal) = _
    simp
  · rw [if_neg h, if_neg h]
    show (_ : EReal) * (((0#1 : BitVec 1).toNat : ℝ) : EReal) = _
    simp

theorem xx_at (c : Dev nD) (y : ℕ) : xx (at_ c y) = xx c := by
  have := c.isLt; unfold xx at_; show (c.val / 16 * 16 + y % 4 * 4 + c.val % 4) / 16 = c.val / 16; omega

theorem word_at {x x' : ℕ} (h : x = x') (hx : x < 2) (hx' : x' < 2) (r : Fin 512) : word ids x hx r = word ids x' hx' r := by
  subst h; rfl

include hids in
theorem sum_ideal (L : Left ids A ids' sc E) (d : Dev nD) (r : Fin 512) (l : Fin 1024) :
    psum ids' sc E 3 d (ix r l) = whole A (word ids (xx d) (xx_lt d) r).toNat l := by
  have hp : ∀ e : Dev nD, xx e = xx d → part ids' sc E e (ix r l)
      = if (word ids (xx d) (xx_lt d) r).toNat / 8192 = yy e then whole A (word ids (xx d) (xx_lt d) r).toNat l else 0 := fun e he => by
    rw [part_ideal hids L, word_at he (xx_lt e) (xx_lt d)]
  have hw : (word ids (xx d) (xx_lt d) r).toNat < 32768 := hids _
  show (part ids' sc E d (ix r l) + (part ids' sc E (lft d) (ix r l) + (part ids' sc E (lft (lft d)) (ix r l)
    + part ids' sc E (lft (lft (lft d))) (ix r l))) : EReal) = _
  rw [hp d rfl, hp (lft d) (xx_at _ _), hp (lft (lft d)) ((xx_at _ _).trans (xx_at _ _)),
    hp (lft (lft (lft d))) ((xx_at _ _).trans ((xx_at _ _).trans (xx_at _ _)))]
  simp only [yy_lft]
  have hy := yy_lt d
  generalize (word ids (xx d) (xx_lt d) r).toNat = n at hw ⊢
  have hq : n / 8192 < 4 := by omega
  generalize whole A n l = a
  generalize n / 8192 = q at hq ⊢
  generalize yy d = y at hy ⊢
  interval_cases y <;> interval_cases q <;> simp

theorem xx_xp (c : Dev nD) : xx (xp c) = 1 - xx c := by revert c; decide +kernel

include hids in
theorem out_ideal (L : Left ids A ids' sc E) (c : Dev nD) (i : Fin 1024) (l : Fin 1024) :
    outv ids' sc E c (ValueIdx.ix2 i l) = whole A (ids (ValueIdx.ix1 i)).toNat l := by
  have hi := i.isLt
  have hx := xx_lt c
  have hh : xx (if i.val / 512 = xx c then c else xp c) = i.val / 512 := by
    split
    · rename_i h; exact h.symm
    · rename_i h; rw [xx_xp]; omega
  show psum ids' sc E 3 (at_ (if i.val / 512 = xx c then c else xp c) (i.val % 512 / 128 + 3)) (ix ⟨i.val % 512, Nat.mod_lt _ (by decide)⟩ l) = _
  rw [sum_ideal hids L, word_at ((xx_at _ _).trans hh) (xx_lt _) (by omega)]
  unfold word
  congr 4
  apply Fin.ext
  show 512 * (i.val / 512) + i.val % 512 = i.val
  omega

end

end Cert.KernelIdeal.Pf

namespace Cert.ReferenceIdeal.Pf

open Cert.ReferenceIdeal Cert.ReferenceIdeal.Gen
open Idealize.ShloMosaic Idealize.ShloMosaic.TcCoe Idealize.ShloMosaic.ValueIdx

theorem rows_ideal (ids : IVec S1024 32) (A : FVec Ideal S32768x1024 .f32) (hids : ∀ i, (ids i).toNat < 32768) (i l : Fin 1024) :
    rows ids A (ix2 i l) = Cert.KernelIdeal.Pf.whole A (ids (ValueIdx.ix1 i)).toNat l := by
  have h := hids (ValueIdx.ix1 i)
  have hn : (ids (ValueIdx.ix1 i)).slt 0#32 = false := by
    have hz : (0#32).toInt = 0 := by decide
    simp only [BitVec.slt, hz, decide_eq_false_iff_not, not_lt]
    rw [BitVec.toInt_eq_toNat_cond]; split <;> omega
  have hb : starts ids (ix2 i (0 : Fin 1)) = BitVec.ofNat 32 (ids (ValueIdx.ix1 i)).toNat := by
    rw [BitVec.ofNat_toNat, BitVec.setWidth_eq]
    have e : starts ids (ix2 i (0 : Fin 1)) = Scalar.select (BitVec.ofBool ((ids (ValueIdx.ix1 i)).slt 0#32))
        (ids (ValueIdx.ix1 i) + 32768#32) (ids (ValueIdx.ix1 i)) := by
      have hj : (fun a => if h1 : S1024.size a = 1 then (⟨0, by omega⟩ : Fin (S1024.size a)) else ⟨((ix2 i (0 : Fin 1) : S1024x1.Idx) ((![0] : Fin 1 → Fin 2) a)).val, by
          revert h1; obtain rfl : a = 0 := Subsingleton.elim _ _; intro _; exact i.isLt⟩)
          = ValueIdx.ix1 i := by
        funext a; obtain rfl : a = 0 := Subsingleton.elim _ _; rfl
      unfold starts broadcastInDim
      rw [hj]; rfl
    rw [e, hn]; rfl
  refine (Routing.gather_row gather_S32768x1024_S1024x1_S1024x1024_1_0_n_n_0_1_11024 rfl rfl rfl rfl rfl A (starts ids) i l
    ⟨(ids (ValueIdx.ix1 i)).toNat, h⟩ hb (by decide)).trans ?_
  unfold Cert.KernelIdeal.Pf.whole
  refine congrArg A (funext fun a => ?_)
  match a with
  | ⟨0, _⟩ => exact Fin.ext (Nat.mod_eq_of_lt h).symm
  | ⟨1, _⟩ => rfl

end Cert.ReferenceIdeal.Pf

/-! ## At the kernel's start -/

namespace Cert.KernelIdeal.Pf

open Cert.KernelIdeal Cert.KernelIdeal.Gen
open Idealize.ShloMosaic Idealize.ShloMosaic.TcCoe

/-- A word the precondition lets through names a row. -/
theorem word_low (v : BitVec 32) (h : IntOp.andi (IntOp.cmpi .sge v 0#32) (IntOp.cmpi .slt v 32768#32) = 1#1) : v.toNat < 32768 := by
  have hz : (0#32).toInt = 0 := by decide
  have he : (32768#32).toInt = 32768 := by decide
  unfold IntOp.andi IntOp.cmpi at h
  simp only [BitVec.sle, BitVec.slt, hz, he] at h
  have h0 : 0 ≤ v.toInt := by
    by_contra h0; rw [decide_eq_false h0] at h
    cases hb : decide (v.toInt < 32768) <;> rw [hb] at h <;> exact absurd h (by decide)
  have h1 : v.toInt < 32768 := by
    by_contra h1; rw [decide_eq_false h1] at h
    cases hb : decide (0 ≤ v.toInt) <;> rw [hb] at h <;> exact absurd h (by decide)
  rw [BitVec.toInt_eq_toNat_cond] at h0 h1; split at h0 <;> omega

theorem block_row (c : Dev nD) : ((Layout.meshBlock [2, 4, 4] (![[1], []] : Fin 2 → List ℕ) c) 0).val = yy c := by
  revert c; decide +kernel
theorem block_lane (c : Dev nD) : ((Layout.meshBlock [2, 4, 4] (![[1], []] : Fin 2 → List ℕ) c) 1).val = 0 := by
  revert c; decide +kernel

variable (m : (ℓ : Loc nD τ sig) → Buf (Elt Ideal) ℓ) (ids : IVec S1024 32) (A : (⟨2, ![32768, 1024]⟩ : Shape).Idx → EReal)

theorem left_start (hi : ∀ c : Dev nD, m ((c : Thread nD τ).loc main_arg0) = ids)
    (hA : ∀ c : Dev nD, m ((c : Thread nD τ).loc main_arg1)
      = Layout.blockN ⟨2, ![8192, 1024]⟩ ⟨2, ![32768, 1024]⟩ (Layout.meshBlock [2, 4, 4] ![[1], []] c) A) :
    Left ids A (idsOf (V3 m)) (scOf (V3 m)) (EOf (V3 m)) where
  id d r := by rw [← hi d]; exact start_ids_at d m (i1 r)
  scale d r := by
    refine (congrFun (start_scale d m) _).trans ?_
    rw [hi d]
    refine congrArg (fun i => FloatOps.uitofp .f32 (mine ids d i)) (funext fun a => ?_)
    obtain rfl : a = 0 := Subsingleton.elim _ _
    rfl
  table d n l := by
    refine (congrFun ((start_table d m).trans (hA d)) _).trans ?_
    rw [Layout.blockN_apply]
    refine congrArg A (funext fun a => Fin.ext ?_)
    have hy := yy_lt d
    have hn := n.isLt
    rw [Layout.TilesN.idx_val]
    match a with
    | ⟨0, _⟩ =>
      refine (congrArg (fun k => k * 8192 + n.val) (block_row d)).trans ?_
      show yy d * 8192 + n.val = (8192 * yy d + n.val) % 32768
      omega
    | ⟨1, _⟩ =>
      refine (congrArg (fun k => k * 1024 + l.val) (block_lane d)).trans ?_
      show 0 * 1024 + l.val = l.val
      omega

/-- The kernel's result on each device is the reference's. -/
theorem value (hi : ∀ c : Dev nD, m ((c : Thread nD τ).loc main_arg0) = ids)
    (hA : ∀ c : Dev nD, m ((c : Thread nD τ).loc main_arg1)
      = Layout.blockN ⟨2, ![8192, 1024]⟩ ⟨2, ![32768, 1024]⟩ (Layout.meshBlock [2, 4, 4] ![[1], []] c) A)
    (hids : ∀ i, (ids i).toNat < 32768) (c : Dev nD) : outOf (V3 m) c = Cert.ReferenceIdeal.Pf.rows (F := Ideal) ids A :=
  funext fun j => by
    rw [ValueIdx.eq_ix2 j]
    exact (out_ideal hids (left_start m ids A hi hA) c _ _).trans (Cert.ReferenceIdeal.Pf.rows_ideal ids A hids _ _).symm

end Cert.KernelIdeal.Pf
-- ==== Proof.Frames.lean ====
/-
The claims, from the runs of the two programs and the kernel's second printing.
-/
module

public import proofs.«01_k».proof.Defs
public import proofs.«01_k».proof.Proof.Run
public import proofs.«01_k».proof.Proof.Host
public import proofs.«01_k».proof.Proof.Same
public import proofs.«01_k».proof.Proof.Ref
public import proofs.«01_k».proof.Proof.Value

@[expose] public section

noncomputable section

namespace Cert.Proof

open Idealize.ShloMosaic Idealize.SL.Sem

/-- The kernel's run, its result written out by the values the host leaves. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        (r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_v25) = Cert.KernelIdeal.Pf.outOf (Cert.KernelIdeal.Gen.V3 m) c)
      ∧ r.2.sem = fun _ => 0) :=
  Cert.KernelIdeal.Pf.run m ρ (Cert.KernelIdeal.Pf.start_small m)

theorem frame_ideal : Cert.quiescent_KernelIdeal := fun m ρ _ =>
  θ_run_mono (kernel_run m ρ) fun _ h => ⟨fun c => (h.1 c).1, h.2⟩

theorem frame_kernel : Cert.quiescent_Kernel := fun m ρ _ => by
  have h := θ_run_mono (kernel_run (F := Bits) m ρ) (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) fun _ h => ⟨fun c => (h.1 c).1, h.2⟩
  have e := congrArg₂ (fun D p => θ_run (nD := Cert.KernelIdeal.nD) (τ := Cert.KernelIdeal.τ) (sig := Cert.KernelIdeal.sig) D (onTc (τ := Cert.KernelIdeal.τ) p)
    ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) (Cert.defs_same (F := Bits)) (Cert.main_same (F := Bits))
  exact e.mpr h

theorem frame_reference : Cert.quiescent_ReferenceIdeal := fun m ρ _ =>
  θ_run_mono (Cert.ReferenceIdeal.Pf.run m ρ) fun _ h => ⟨fun c => (h.1 c).2, h.2⟩

instance : Cert.Pre_ids_name_rows_KernelIdeal.Facts := ⟨by decide⟩
instance : Cert.Pre_ids_name_rows_ReferenceIdeal.Facts := ⟨by decide⟩

/-- Over the ideal reals every device's result is the reference's, wherever the ids name rows. -/
theorem algebraic : Cert.algebraic_KernelIdeal_ReferenceIdeal_pre_ids_name_rows_KernelIdeal := fun m g m' g' hpre hsame =>
  ⟨_, θ_run_mono (kernel_run m g) fun _ h c => ⟨(h.1 c).2.trans (Cert.KernelIdeal.Pf.value m _ _ (fun c => (hsame c).1) (fun c => (hsame c).2)
      (fun i => by rw [← (hsame 0).1]; exact Cert.KernelIdeal.Pf.word_low _ (congrFun (hpre 0) i)) c), (h.1 c).1⟩,
    θ_run_mono (Cert.ReferenceIdeal.Pf.run m' g') fun _ h => h.1 0⟩

end Cert.Proof
-- ==== Proof.lean ====
/-
The certificate: the kernel, at both readings, and the reference run to the end, every counter back at zero, and over the ideal
reals the kernel's result on each device is the reference's.
-/
module

public import proofs.«01_k».proof.Defs
public import proofs.«01_k».proof.Proof.Frames

@[expose] public section

theorem Cert.Proof.claim : Cert.Claim :=
  ⟨Cert.Kernel.Gen.facts, Cert.KernelIdeal.Gen.facts, Cert.ReferenceIdeal.Gen.facts, inferInstance, inferInstance,
    Cert.Proof.frame_kernel, Cert.Proof.frame_ideal, fun m g _ => Cert.Proof.frame_ideal m g trivial,
    Cert.Proof.frame_reference, fun m g _ => Cert.Proof.frame_reference m g trivial, trivial, Cert.Proof.algebraic⟩
